-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8)
      ∧ r.2.mem ((c.tc : Thread Cert.Kernel20.nD Cert.Kernel20.τ).loc Cert.Kernel20.main_arg9) = m ((c.tc : Thread Cert.Kernel20.nD Cert.Kernel20.τ).loc Cert.Kernel20.main_arg9)
      ∧ r.2.mem ((c.tc : Thread Cert.Kernel20.nD Cert.Kernel20.τ).loc Cert.Kernel20.main_arg10) = m ((c.tc : Thread Cert.Kernel20.nD Cert.Kernel20.τ).loc Cert.Kernel20.main_arg10)
      ∧ r.2.mem ((c.tc : Thread Cert.Kernel20.nD Cert.Kernel20.τ).loc Cert.Kernel20.main_arg11) = m ((c.tc : Thread Cert.Kernel20.nD Cert.Kernel20.τ).loc Cert.Kernel20.main_arg11)
      ∧ r.2.mem ((c.tc : Thread Cert.Kernel20.nD Cert.Kernel20.τ).loc Cert.Kernel20.main_arg12) = m ((c.tc : Thread Cert.Kernel20.nD Cert.Kernel20.τ).loc Cert.Kernel20.main_arg12)
      ∧ r.2.mem ((c.tc : Thread Cert.Kernel20.nD Cert.Kernel20.τ).loc Cert.Kernel20.main_arg13) = m ((c.tc : Thread Cert.Kernel20.nD Cert.Kernel20.τ).loc Cert.Kernel20.main_arg13)
      ∧ r.2.mem ((c.tc : Thread Cert.Kernel20.nD Cert.Kernel20.τ).loc Cert.Kernel20.main_arg14) = m ((c.tc : Thread Cert.Kernel20.nD Cert.Kernel20.τ).loc Cert.Kernel20.main_arg14)
      ∧ r.2.mem ((c.tc : Thread Cert.Kernel20.nD Cert.Kernel20.τ).loc Cert.Kernel20.main_arg15) = m ((c.tc : Thread Cert.Kernel20.nD Cert.Kernel20.τ).loc Cert.Kernel20.main_arg15)
      ∧ r.2.mem ((c.tc : Thread Cert.Kernel20.nD Cert.Kernel20.τ).loc Cert.Kernel20.main_arg16) = m ((c.tc : Thread Cert.Kernel20.nD Cert.Kernel20.τ).loc Cert.Kernel20.main_arg16)
      ∧ r.2.mem ((c.tc : Thread Cert.Kernel20.nD Cert.Kernel20.τ).loc Cert.Kernel20.main_arg17) = m ((c.tc : Thread Cert.Kernel20.nD Cert.Kernel20.τ).loc Cert.Kernel20.main_arg17)
      ∧ r.2.mem ((c.tc : Thread Cert.Kernel20.nD Cert.Kernel20.τ).loc Cert.Kernel20.main_arg18) = m ((c.tc : Thread Cert.Kernel20.nD Cert.Kernel20.τ).loc Cert.Kernel20.main_arg18)
      ∧ r.2.mem ((c.tc : Thread Cert.Kernel20.nD Cert.Kernel20.τ).loc Cert.Kernel20.main_arg19) = m ((c.tc : Thread Cert.Kernel20.nD Cert.Kernel20.τ).loc Cert.Kernel20.main_arg19)
      ∧ r.2.mem ((c.tc : Thread Cert.Kernel20.nD Cert.Kernel20.τ).loc Cert.Kernel20.main_arg20) = m ((c.tc : Thread Cert.Kernel20.nD Cert.Kernel20.τ).loc Cert.Kernel20.main_arg20))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
      ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
      ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10)
      ∧ r.2.mem ((c.tc : Thread Cert.Kernel20Ideal.nD Cert.Kernel20Ideal.τ).loc Cert.Kernel20Ideal.main_arg11) = m ((c.tc : Thread Cert.Kernel20Ideal.nD Cert.Kernel20Ideal.τ).loc Cert.Kernel20Ideal.main_arg11)
      ∧ r.2.mem ((c.tc : Thread Cert.Kernel20Ideal.nD Cert.Kernel20Ideal.τ).loc Cert.Kernel20Ideal.main_arg12) = m ((c.tc : Thread Cert.Kernel20Ideal.nD Cert.Kernel20Ideal.τ).loc Cert.Kernel20Ideal.main_arg12)
      ∧ r.2.mem ((c.tc : Thread Cert.Kernel20Ideal.nD Cert.Kernel20Ideal.τ).loc Cert.Kernel20Ideal.main_arg13) = m ((c.tc : Thread Cert.Kernel20Ideal.nD Cert.Kernel20Ideal.τ).loc Cert.Kernel20Ideal.main_arg13)
      ∧ r.2.mem ((c.tc : Thread Cert.Kernel20Ideal.nD Cert.Kernel20Ideal.τ).loc Cert.Kernel20Ideal.main_arg14) = m ((c.tc : Thread Cert.Kernel20Ideal.nD Cert.Kernel20Ideal.τ).loc Cert.Kernel20Ideal.main_arg14)
      ∧ r.2.mem ((c.tc : Thread Cert.Kernel20Ideal.nD Cert.Kernel20Ideal.τ).loc Cert.Kernel20Ideal.main_arg15) = m ((c.tc : Thread Cert.Kernel20Ideal.nD Cert.Kernel20Ideal.τ).loc Cert.Kernel20Ideal.main_arg15)
      ∧ r.2.mem ((c.tc : Thread Cert.Kernel20Ideal.nD Cert.Kernel20Ideal.τ).loc Cert.Kernel20Ideal.main_arg16) = m ((c.tc : Thread Cert.Kernel20Ideal.nD Cert.Kernel20Ideal.τ).loc Cert.Kernel20Ideal.main_arg16)
      ∧ r.2.mem ((c.tc : Thread Cert.Kernel20Ideal.nD Cert.Kernel20Ideal.τ).loc Cert.Kernel20Ideal.main_arg17) = m ((c.tc : Thread Cert.Kernel20Ideal.nD Cert.Kernel20Ideal.τ).loc Cert.Kernel20Ideal.main_arg17)
      ∧ r.2.mem ((c.tc : Thread Cert.Kernel20Ideal.nD Cert.Kernel20Ideal.τ).loc Cert.Kernel20Ideal.main_arg18) = m ((c.tc : Thread Cert.Kernel20Ideal.nD Cert.Kernel20Ideal.τ).loc Cert.Kernel20Ideal.main_arg18)
      ∧ r.2.mem ((c.tc : Thread Cert.Kernel20Ideal.nD Cert.Kernel20Ideal.τ).loc Cert.Kernel20Ideal.main_arg19) = m ((c.tc : Thread Cert.Kernel20Ideal.nD Cert.Kernel20Ideal.τ).loc Cert.Kernel20Ideal.main_arg19)
      ∧ r.2.mem ((c.tc : Thread Cert.Kernel20Ideal.nD Cert.Kernel20Ideal.τ).loc Cert.Kernel20Ideal.main_arg20) = m ((c.tc : Thread Cert.Kernel20Ideal.nD Cert.Kernel20Ideal.τ).loc Cert.Kernel20Ideal.main_arg20))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8)
      ∧ r.2.mem ((c.tc : Thread Cert.Reference20Ideal.nD Cert.Reference20Ideal.τ).loc Cert.Reference20Ideal.main_arg9) = m ((c.tc : Thread Cert.Reference20Ideal.nD Cert.Reference20Ideal.τ).loc Cert.Reference20Ideal.main_arg9)
      ∧ r.2.mem ((c.tc : Thread Cert.Reference20Ideal.nD Cert.Reference20Ideal.τ).loc Cert.Reference20Ideal.main_arg10) = m ((c.tc : Thread Cert.Reference20Ideal.nD Cert.Reference20Ideal.τ).loc Cert.Reference20Ideal.main_arg10)
      ∧ r.2.mem ((c.tc : Thread Cert.Reference20Ideal.nD Cert.Reference20Ideal.τ).loc Cert.Reference20Ideal.main_arg11) = m ((c.tc : Thread Cert.Reference20Ideal.nD Cert.Reference20Ideal.τ).loc Cert.Reference20Ideal.main_arg11)
      ∧ r.2.mem ((c.tc : Thread Cert.Reference20Ideal.nD Cert.Reference20Ideal.τ).loc Cert.Reference20Ideal.main_arg12) = m ((c.tc : Thread Cert.Reference20Ideal.nD Cert.Reference20Ideal.τ).loc Cert.Reference20Ideal.main_arg12)
      ∧ r.2.mem ((c.tc : Thread Cert.Reference20Ideal.nD Cert.Reference20Ideal.τ).loc Cert.Reference20Ideal.main_arg13) = m ((c.tc : Thread Cert.Reference20Ideal.nD Cert.Reference20Ideal.τ).loc Cert.Reference20Ideal.main_arg13)
      ∧ r.2.mem ((c.tc : Thread Cert.Reference20Ideal.nD Cert.Reference20Ideal.τ).loc Cert.Reference20Ideal.main_arg14) = m ((c.tc : Thread Cert.Reference20Ideal.nD Cert.Reference20Ideal.τ).loc Cert.Reference20Ideal.main_arg14)
      ∧ r.2.mem ((c.tc : Thread Cert.Reference20Ideal.nD Cert.Reference20Ideal.τ).loc Cert.Reference20Ideal.main_arg15) = m ((c.tc : Thread Cert.Reference20Ideal.nD Cert.Reference20Ideal.τ).loc Cert.Reference20Ideal.main_arg15)
      ∧ r.2.mem ((c.tc : Thread Cert.Reference20Ideal.nD Cert.Reference20Ideal.τ).loc Cert.Reference20Ideal.main_arg16) = m ((c.tc : Thread Cert.Reference20Ideal.nD Cert.Reference20Ideal.τ).loc Cert.Reference20Ideal.main_arg16)
      ∧ r.2.mem ((c.tc : Thread Cert.Reference20Ideal.nD Cert.Reference20Ideal.τ).loc Cert.Reference20Ideal.main_arg17) = m ((c.tc : Thread Cert.Reference20Ideal.nD Cert.Reference20Ideal.τ).loc Cert.Reference20Ideal.main_arg17)
      ∧ r.2.mem ((c.tc : Thread Cert.Reference20Ideal.nD Cert.Reference20Ideal.τ).loc Cert.Reference20Ideal.main_arg18) = m ((c.tc : Thread Cert.Reference20Ideal.nD Cert.Reference20Ideal.τ).loc Cert.Reference20Ideal.main_arg18)
      ∧ r.2.mem ((c.tc : Thread Cert.Reference20Ideal.nD Cert.Reference20Ideal.τ).loc Cert.Reference20Ideal.main_arg19) = m ((c.tc : Thread Cert.Reference20Ideal.nD Cert.Reference20Ideal.τ).loc Cert.Reference20Ideal.main_arg19)
      ∧ r.2.mem ((c.tc : Thread Cert.Reference20Ideal.nD Cert.Reference20Ideal.τ).loc Cert.Reference20Ideal.main_arg20) = m ((c.tc : Thread Cert.Reference20Ideal.nD Cert.Reference20Ideal.τ).loc Cert.Reference20Ideal.main_arg20))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9)
      ∧ r.2.mem ((c.tc : Thread Cert.Kernel21.nD Cert.Kernel21.τ).loc Cert.Kernel21.main_arg10) = m ((c.tc : Thread Cert.Kernel21.nD Cert.Kernel21.τ).loc Cert.Kernel21.main_arg10)
      ∧ r.2.mem ((c.tc : Thread Cert.Kernel21.nD Cert.Kernel21.τ).loc Cert.Kernel21.main_arg11) = m ((c.tc : Thread Cert.Kernel21.nD Cert.Kernel21.τ).loc Cert.Kernel21.main_arg11)
      ∧ r.2.mem ((c.tc : Thread Cert.Kernel21.nD Cert.Kernel21.τ).loc Cert.Kernel21.main_arg12) = m ((c.tc : Thread Cert.Kernel21.nD Cert.Kernel21.τ).loc Cert.Kernel21.main_arg12)
      ∧ r.2.mem ((c.tc : Thread Cert.Kernel21.nD Cert.Kernel21.τ).loc Cert.Kernel21.main_arg13) = m ((c.tc : Thread Cert.Kernel21.nD Cert.Kernel21.τ).loc Cert.Kernel21.main_arg13)
      ∧ r.2.mem ((c.tc : Thread Cert.Kernel21.nD Cert.Kernel21.τ).loc Cert.Kernel21.main_arg14) = m ((c.tc : Thread Cert.Kernel21.nD Cert.Kernel21.τ).loc Cert.Kernel21.main_arg14)
      ∧ r.2.mem ((c.tc : Thread Cert.Kernel21.nD Cert.Kernel21.τ).loc Cert.Kernel21.main_arg15) = m ((c.tc : Thread Cert.Kernel21.nD Cert.Kernel21.τ).loc Cert.Kernel21.main_arg15))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
      ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
      ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
      ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
      ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
      ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
      ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9)
      ∧ r.2.mem ((c.tc : Thread Cert.Reference21Ideal.nD Cert.Reference21Ideal.τ).loc Cert.Reference21Ideal.main_arg10) = m ((c.tc : Thread Cert.Reference21Ideal.nD Cert.Reference21Ideal.τ).loc Cert.Reference21Ideal.main_arg10)
      ∧ r.2.mem ((c.tc : Thread Cert.Reference21Ideal.nD Cert.Reference21Ideal.τ).loc Cert.Reference21Ideal.main_arg11) = m ((c.tc : Thread Cert.Reference21Ideal.nD Cert.Reference21Ideal.τ).loc Cert.Reference21Ideal.main_arg11)
      ∧ r.2.mem ((c.tc : Thread Cert.Reference21Ideal.nD Cert.Reference21Ideal.τ).loc Cert.Reference21Ideal.main_arg12) = m ((c.tc : Thread Cert.Reference21Ideal.nD Cert.Reference21Ideal.τ).loc Cert.Reference21Ideal.main_arg12)
      ∧ r.2.mem ((c.tc : Thread Cert.Reference21Ideal.nD Cert.Reference21Ideal.τ).loc Cert.Reference21Ideal.main_arg13) = m ((c.tc : Thread Cert.Reference21Ideal.nD Cert.Reference21Ideal.τ).loc Cert.Reference21Ideal.main_arg13)
      ∧ r.2.mem ((c.tc : Thread Cert.Reference21Ideal.nD Cert.Reference21Ideal.τ).loc Cert.Reference21Ideal.main_arg14) = m ((c.tc : Thread Cert.Reference21Ideal.nD Cert.Reference21Ideal.τ).loc Cert.Reference21Ideal.main_arg14)
      ∧ r.2.mem ((c.tc : Thread Cert.Reference21Ideal.nD Cert.Reference21Ideal.τ).loc Cert.Reference21Ideal.main_arg15) = m ((c.tc : Thread Cert.Reference21Ideal.nD Cert.Reference21Ideal.τ).loc Cert.Reference21Ideal.main_arg15))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9)
      ∧ r.2.mem ((c.tc : Thread Cert.Kernel23.nD Cert.Kernel23.τ).loc Cert.Kernel23.main_arg10) = m ((c.tc : Thread Cert.Kernel23.nD Cert.Kernel23.τ).loc Cert.Kernel23.main_arg10)
      ∧ r.2.mem ((c.tc : Thread Cert.Kernel23.nD Cert.Kernel23.τ).loc Cert.Kernel23.main_arg11) = m ((c.tc : Thread Cert.Kernel23.nD Cert.Kernel23.τ).loc Cert.Kernel23.main_arg11)
      ∧ r.2.mem ((c.tc : Thread Cert.Kernel23.nD Cert.Kernel23.τ).loc Cert.Kernel23.main_arg12) = m ((c.tc : Thread Cert.Kernel23.nD Cert.Kernel23.τ).loc Cert.Kernel23.main_arg12)
      ∧ r.2.mem ((c.tc : Thread Cert.Kernel23.nD Cert.Kernel23.τ).loc Cert.Kernel23.main_arg13) = m ((c.tc : Thread Cert.Kernel23.nD Cert.Kernel23.τ).loc Cert.Kernel23.main_arg13)
      ∧ r.2.mem ((c.tc : Thread Cert.Kernel23.nD Cert.Kernel23.τ).loc Cert.Kernel23.main_arg14) = m ((c.tc : Thread Cert.Kernel23.nD Cert.Kernel23.τ).loc Cert.Kernel23.main_arg14)
      ∧ r.2.mem ((c.tc : Thread Cert.Kernel23.nD Cert.Kernel23.τ).loc Cert.Kernel23.main_arg15) = m ((c.tc : Thread Cert.Kernel23.nD Cert.Kernel23.τ).loc Cert.Kernel23.main_arg15)
      ∧ r.2.mem ((c.tc : Thread Cert.Kernel23.nD Cert.Kernel23.τ).loc Cert.Kernel23.main_arg16) = m ((c.tc : Thread Cert.Kernel23.nD Cert.Kernel23.τ).loc Cert.Kernel23.main_arg16)
      ∧ r.2.mem ((c.tc : Thread Cert.Kernel23.nD Cert.Kernel23.τ).loc Cert.Kernel23.main_arg17) = m ((c.tc : Thread Cert.Kernel23.nD Cert.Kernel23.τ).loc Cert.Kernel23.main_arg17)
      ∧ r.2.mem ((c.tc : Thread Cert.Kernel23.nD Cert.Kernel23.τ).loc Cert.Kernel23.main_arg18) = m ((c.tc : Thread Cert.Kernel23.nD Cert.Kernel23.τ).loc Cert.Kernel23.main_arg18)
      ∧ r.2.mem ((c.tc : Thread Cert.Kernel23.nD Cert.Kernel23.τ).loc Cert.Kernel23.main_arg19) = m ((c.tc : Thread Cert.Kernel23.nD Cert.Kernel23.τ).loc Cert.Kernel23.main_arg19)
      ∧ r.2.mem ((c.tc : Thread Cert.Kernel23.nD Cert.Kernel23.τ).loc Cert.Kernel23.main_arg20) = m ((c.tc : Thread Cert.Kernel23.nD Cert.Kernel23.τ).loc Cert.Kernel23.main_arg20)
      ∧ r.2.mem ((c.tc : Thread Cert.Kernel23.nD Cert.Kernel23.τ).loc Cert.Kernel23.main_arg21) = m ((c.tc : Thread Cert.Kernel23.nD Cert.Kernel23.τ).loc Cert.Kernel23.main_arg21)
      ∧ r.2.mem ((c.tc : Thread Cert.Kernel23.nD Cert.Kernel23.τ).loc Cert.Kernel23.main_arg22) = m ((c.tc : Thread Cert.Kernel23.nD Cert.Kernel23.τ).loc Cert.Kernel23.main_arg22)
      ∧ r.2.mem ((c.tc : Thread Cert.Kernel23.nD Cert.Kernel23.τ).loc Cert.Kernel23.main_arg23) = m ((c.tc : Thread Cert.Kernel23.nD Cert.Kernel23.τ).loc Cert.Kernel23.main_arg23)
      ∧ r.2.mem ((c.tc : Thread Cert.Kernel23.nD Cert.Kernel23.τ).loc Cert.Kernel23.main_arg24) = m ((c.tc : Thread Cert.Kernel23.nD Cert.Kernel23.τ).loc Cert.Kernel23.main_arg24)
      ∧ r.2.mem ((c.tc : Thread Cert.Kernel23.nD Cert.Kernel23.τ).loc Cert.Kernel23.main_arg25) = m ((c.tc : Thread Cert.Kernel23.nD Cert.Kernel23.τ).loc Cert.Kernel23.main_arg25)
      ∧ r.2.mem ((c.tc : Thread Cert.Kernel23.nD Cert.Kernel23.τ).loc Cert.Kernel23.main_arg26) = m ((c.tc : Thread Cert.Kernel23.nD Cert.Kernel23.τ).loc Cert.Kernel23.main_arg26)
      ∧ r.2.mem ((c.tc : Thread Cert.Kernel23.nD Cert.Kernel23.τ).loc Cert.Kernel23.main_arg27) = m ((c.tc : Thread Cert.Kernel23.nD Cert.Kernel23.τ).loc Cert.Kernel23.main_arg27)
      ∧ r.2.mem ((c.tc : Thread Cert.Kernel23.nD Cert.Kernel23.τ).loc Cert.Kernel23.main_arg28) = m ((c.tc : Thread Cert.Kernel23.nD Cert.Kernel23.τ).loc Cert.Kernel23.main_arg28)
      ∧ r.2.mem ((c.tc : Thread Cert.Kernel23.nD Cert.Kernel23.τ).loc Cert.Kernel23.main_arg29) = m ((c.tc : Thread Cert.Kernel23.nD Cert.Kernel23.τ).loc Cert.Kernel23.main_arg29)
      ∧ r.2.mem ((c.tc : Thread Cert.Kernel23.nD Cert.Kernel23.τ).loc Cert.Kernel23.main_arg30) = m ((c.tc : Thread Cert.Kernel23.nD Cert.Kernel23.τ).loc Cert.Kernel23.main_arg30)
      ∧ r.2.mem ((c.tc : Thread Cert.Kernel23.nD Cert.Kernel23.τ).loc Cert.Kernel23.main_arg31) = m ((c.tc : Thread Cert.Kernel23.nD Cert.Kernel23.τ).loc Cert.Kernel23.main_arg31)
      ∧ r.2.mem ((c.tc : Thread Cert.Kernel23.nD Cert.Kernel23.τ).loc Cert.Kernel23.main_arg32) = m ((c.tc : Thread Cert.Kernel23.nD Cert.Kernel23.τ).loc Cert.Kernel23.main_arg32)
      ∧ r.2.mem ((c.tc : Thread Cert.Kernel23.nD Cert.Kernel23.τ).loc Cert.Kernel23.main_arg33) = m ((c.tc : Thread Cert.Kernel23.nD Cert.Kernel23.τ).loc Cert.Kernel23.main_arg33)
      ∧ r.2.mem ((c.tc : Thread Cert.Kernel23.nD Cert.Kernel23.τ).loc Cert.Kernel23.main_arg34) = m ((c.tc : Thread Cert.Kernel23.nD Cert.Kernel23.τ).loc Cert.Kernel23.main_arg34)
      ∧ r.2.mem ((c.tc : Thread Cert.Kernel23.nD Cert.Kernel23.τ).loc Cert.Kernel23.main_arg35) = m ((c.tc : Thread Cert.Kernel23.nD Cert.Kernel23.τ).loc Cert.Kernel23.main_arg35))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
      ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
      ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
      ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12)
      ∧ r.2.mem ((c.tc : Thread Cert.Kernel23Ideal.nD Cert.Kernel23Ideal.τ).loc Cert.Kernel23Ideal.main_arg13) = m ((c.tc : Thread Cert.Kernel23Ideal.nD Cert.Kernel23Ideal.τ).loc Cert.Kernel23Ideal.main_arg13)
      ∧ r.2.mem ((c.tc : Thread Cert.Kernel23Ideal.nD Cert.Kernel23Ideal.τ).loc Cert.Kernel23Ideal.main_arg14) = m ((c.tc : Thread Cert.Kernel23Ideal.nD Cert.Kernel23Ideal.τ).loc Cert.Kernel23Ideal.main_arg14)
      ∧ r.2.mem ((c.tc : Thread Cert.Kernel23Ideal.nD Cert.Kernel23Ideal.τ).loc Cert.Kernel23Ideal.main_arg15) = m ((c.tc : Thread Cert.Kernel23Ideal.nD Cert.Kernel23Ideal.τ).loc Cert.Kernel23Ideal.main_arg15)
      ∧ r.2.mem ((c.tc : Thread Cert.Kernel23Ideal.nD Cert.Kernel23Ideal.τ).loc Cert.Kernel23Ideal.main_arg16) = m ((c.tc : Thread Cert.Kernel23Ideal.nD Cert.Kernel23Ideal.τ).loc Cert.Kernel23Ideal.main_arg16)
      ∧ r.2.mem ((c.tc : Thread Cert.Kernel23Ideal.nD Cert.Kernel23Ideal.τ).loc Cert.Kernel23Ideal.main_arg17) = m ((c.tc : Thread Cert.Kernel23Ideal.nD Cert.Kernel23Ideal.τ).loc Cert.Kernel23Ideal.main_arg17)
      ∧ r.2.mem ((c.tc : Thread Cert.Kernel23Ideal.nD Cert.Kernel23Ideal.τ).loc Cert.Kernel23Ideal.main_arg18) = m ((c.tc : Thread Cert.Kernel23Ideal.nD Cert.Kernel23Ideal.τ).loc Cert.Kernel23Ideal.main_arg18)
      ∧ r.2.mem ((c.tc : Thread Cert.Kernel23Ideal.nD Cert.Kernel23Ideal.τ).loc Cert.Kernel23Ideal.main_arg19) = m ((c.tc : Thread Cert.Kernel23Ideal.nD Cert.Kernel23Ideal.τ).loc Cert.Kernel23Ideal.main_arg19)
      ∧ r.2.mem ((c.tc : Thread Cert.Kernel23Ideal.nD Cert.Kernel23Ideal.τ).loc Cert.Kernel23Ideal.main_arg20) = m ((c.tc : Thread Cert.Kernel23Ideal.nD Cert.Kernel23Ideal.τ).loc Cert.Kernel23Ideal.main_arg20)
      ∧ r.2.mem ((c.tc : Thread Cert.Kernel23Ideal.nD Cert.Kernel23Ideal.τ).loc Cert.Kernel23Ideal.main_arg21) = m ((c.tc : Thread Cert.Kernel23Ideal.nD Cert.Kernel23Ideal.τ).loc Cert.Kernel23Ideal.main_arg21)
      ∧ r.2.mem ((c.tc : Thread Cert.Kernel23Ideal.nD Cert.Kernel23Ideal.τ).loc Cert.Kernel23Ideal.main_arg22) = m ((c.tc : Thread Cert.Kernel23Ideal.nD Cert.Kernel23Ideal.τ).loc Cert.Kernel23Ideal.main_arg22)
      ∧ r.2.mem ((c.tc : Thread Cert.Kernel23Ideal.nD Cert.Kernel23Ideal.τ).loc Cert.Kernel23Ideal.main_arg23) = m ((c.tc : Thread Cert.Kernel23Ideal.nD Cert.Kernel23Ideal.τ).loc Cert.Kernel23Ideal.main_arg23)
      ∧ r.2.mem ((c.tc : Thread Cert.Kernel23Ideal.nD Cert.Kernel23Ideal.τ).loc Cert.Kernel23Ideal.main_arg24) = m ((c.tc : Thread Cert.Kernel23Ideal.nD Cert.Kernel23Ideal.τ).loc Cert.Kernel23Ideal.main_arg24)
      ∧ r.2.mem ((c.tc : Thread Cert.Kernel23Ideal.nD Cert.Kernel23Ideal.τ).loc Cert.Kernel23Ideal.main_arg25) = m ((c.tc : Thread Cert.Kernel23Ideal.nD Cert.Kernel23Ideal.τ).loc Cert.Kernel23Ideal.main_arg25)
      ∧ r.2.mem ((c.tc : Thread Cert.Kernel23Ideal.nD Cert.Kernel23Ideal.τ).loc Cert.Kernel23Ideal.main_arg26) = m ((c.tc : Thread Cert.Kernel23Ideal.nD Cert.Kernel23Ideal.τ).loc Cert.Kernel23Ideal.main_arg26)
      ∧ r.2.mem ((c.tc : Thread Cert.Kernel23Ideal.nD Cert.Kernel23Ideal.τ).loc Cert.Kernel23Ideal.main_arg27) = m ((c.tc : Thread Cert.Kernel23Ideal.nD Cert.Kernel23Ideal.τ).loc Cert.Kernel23Ideal.main_arg27)
      ∧ r.2.mem ((c.tc : Thread Cert.Kernel23Ideal.nD Cert.Kernel23Ideal.τ).loc Cert.Kernel23Ideal.main_arg28) = m ((c.tc : Thread Cert.Kernel23Ideal.nD Cert.Kernel23Ideal.τ).loc Cert.Kernel23Ideal.main_arg28)
      ∧ r.2.mem ((c.tc : Thread Cert.Kernel23Ideal.nD Cert.Kernel23Ideal.τ).loc Cert.Kernel23Ideal.main_arg29) = m ((c.tc : Thread Cert.Kernel23Ideal.nD Cert.Kernel23Ideal.τ).loc Cert.Kernel23Ideal.main_arg29)
      ∧ r.2.mem ((c.tc : Thread Cert.Kernel23Ideal.nD Cert.Kernel23Ideal.τ).loc Cert.Kernel23Ideal.main_arg30) = m ((c.tc : Thread Cert.Kernel23Ideal.nD Cert.Kernel23Ideal.τ).loc Cert.Kernel23Ideal.main_arg30)
      ∧ r.2.mem ((c.tc : Thread Cert.Kernel23Ideal.nD Cert.Kernel23Ideal.τ).loc Cert.Kernel23Ideal.main_arg31) = m ((c.tc : Thread Cert.Kernel23Ideal.nD Cert.Kernel23Ideal.τ).loc Cert.Kernel23Ideal.main_arg31)
      ∧ r.2.mem ((c.tc : Thread Cert.Kernel23Ideal.nD Cert.Kernel23Ideal.τ).loc Cert.Kernel23Ideal.main_arg32) = m ((c.tc : Thread Cert.Kernel23Ideal.nD Cert.Kernel23Ideal.τ).loc Cert.Kernel23Ideal.main_arg32)
      ∧ r.2.mem ((c.tc : Thread Cert.Kernel23Ideal.nD Cert.Kernel23Ideal.τ).loc Cert.Kernel23Ideal.main_arg33) = m ((c.tc : Thread Cert.Kernel23Ideal.nD Cert.Kernel23Ideal.τ).loc Cert.Kernel23Ideal.main_arg33)
      ∧ r.2.mem ((c.tc : Thread Cert.Kernel23Ideal.nD Cert.Kernel23Ideal.τ).loc Cert.Kernel23Ideal.main_arg34) = m ((c.tc : Thread Cert.Kernel23Ideal.nD Cert.Kernel23Ideal.τ).loc Cert.Kernel23Ideal.main_arg34)
      ∧ r.2.mem ((c.tc : Thread Cert.Kernel23Ideal.nD Cert.Kernel23Ideal.τ).loc Cert.Kernel23Ideal.main_arg35) = m ((c.tc : Thread Cert.Kernel23Ideal.nD Cert.Kernel23Ideal.τ).loc Cert.Kernel23Ideal.main_arg35))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9)
      ∧ r.2.mem ((c.tc : Thread Cert.Reference23Ideal.nD Cert.Reference23Ideal.τ).loc Cert.Reference23Ideal.main_arg10) = m ((c.tc : Thread Cert.Reference23Ideal.nD Cert.Reference23Ideal.τ).loc Cert.Reference23Ideal.main_arg10)
      ∧ r.2.mem ((c.tc : Thread Cert.Reference23Ideal.nD Cert.Reference23Ideal.τ).loc Cert.Reference23Ideal.main_arg11) = m ((c.tc : Thread Cert.Reference23Ideal.nD Cert.Reference23Ideal.τ).loc Cert.Reference23Ideal.main_arg11)
      ∧ r.2.mem ((c.tc : Thread Cert.Reference23Ideal.nD Cert.Reference23Ideal.τ).loc Cert.Reference23Ideal.main_arg12) = m ((c.tc : Thread Cert.Reference23Ideal.nD Cert.Reference23Ideal.τ).loc Cert.Reference23Ideal.main_arg12)
      ∧ r.2.mem ((c.tc : Thread Cert.Reference23Ideal.nD Cert.Reference23Ideal.τ).loc Cert.Reference23Ideal.main_arg13) = m ((c.tc : Thread Cert.Reference23Ideal.nD Cert.Reference23Ideal.τ).loc Cert.Reference23Ideal.main_arg13)
      ∧ r.2.mem ((c.tc : Thread Cert.Reference23Ideal.nD Cert.Reference23Ideal.τ).loc Cert.Reference23Ideal.main_arg14) = m ((c.tc : Thread Cert.Reference23Ideal.nD Cert.Reference23Ideal.τ).loc Cert.Reference23Ideal.main_arg14)
      ∧ r.2.mem ((c.tc : Thread Cert.Reference23Ideal.nD Cert.Reference23Ideal.τ).loc Cert.Reference23Ideal.main_arg15) = m ((c.tc : Thread Cert.Reference23Ideal.nD Cert.Reference23Ideal.τ).loc Cert.Reference23Ideal.main_arg15)
      ∧ r.2.mem ((c.tc : Thread Cert.Reference23Ideal.nD Cert.Reference23Ideal.τ).loc Cert.Reference23Ideal.main_arg16) = m ((c.tc : Thread Cert.Reference23Ideal.nD Cert.Reference23Ideal.τ).loc Cert.Reference23Ideal.main_arg16)
      ∧ r.2.mem ((c.tc : Thread Cert.Reference23Ideal.nD Cert.Reference23Ideal.τ).loc Cert.Reference23Ideal.main_arg17) = m ((c.tc : Thread Cert.Reference23Ideal.nD Cert.Reference23Ideal.τ).loc Cert.Reference23Ideal.main_arg17)
      ∧ r.2.mem ((c.tc : Thread Cert.Reference23Ideal.nD Cert.Reference23Ideal.τ).loc Cert.Reference23Ideal.main_arg18) = m ((c.tc : Thread Cert.Reference23Ideal.nD Cert.Reference23Ideal.τ).loc Cert.Reference23Ideal.main_arg18)
      ∧ r.2.mem ((c.tc : Thread Cert.Reference23Ideal.nD Cert.Reference23Ideal.τ).loc Cert.Reference23Ideal.main_arg19) = m ((c.tc : Thread Cert.Reference23Ideal.nD Cert.Reference23Ideal.τ).loc Cert.Reference23Ideal.main_arg19)
      ∧ r.2.mem ((c.tc : Thread Cert.Reference23Ideal.nD Cert.Reference23Ideal.τ).loc Cert.Reference23Ideal.main_arg20) = m ((c.tc : Thread Cert.Reference23Ideal.nD Cert.Reference23Ideal.τ).loc Cert.Reference23Ideal.main_arg20)
      ∧ r.2.mem ((c.tc : Thread Cert.Reference23Ideal.nD Cert.Reference23Ideal.τ).loc Cert.Reference23Ideal.main_arg21) = m ((c.tc : Thread Cert.Reference23Ideal.nD Cert.Reference23Ideal.τ).loc Cert.Reference23Ideal.main_arg21)
      ∧ r.2.mem ((c.tc : Thread Cert.Reference23Ideal.nD Cert.Reference23Ideal.τ).loc Cert.Reference23Ideal.main_arg22) = m ((c.tc : Thread Cert.Reference23Ideal.nD Cert.Reference23Ideal.τ).loc Cert.Reference23Ideal.main_arg22)
      ∧ r.2.mem ((c.tc : Thread Cert.Reference23Ideal.nD Cert.Reference23Ideal.τ).loc Cert.Reference23Ideal.main_arg23) = m ((c.tc : Thread Cert.Reference23Ideal.nD Cert.Reference23Ideal.τ).loc Cert.Reference23Ideal.main_arg23)
      ∧ r.2.mem ((c.tc : Thread Cert.Reference23Ideal.nD Cert.Reference23Ideal.τ).loc Cert.Reference23Ideal.main_arg24) = m ((c.tc : Thread Cert.Reference23Ideal.nD Cert.Reference23Ideal.τ).loc Cert.Reference23Ideal.main_arg24)
      ∧ r.2.mem ((c.tc : Thread Cert.Reference23Ideal.nD Cert.Reference23Ideal.τ).loc Cert.Reference23Ideal.main_arg25) = m ((c.tc : Thread Cert.Reference23Ideal.nD Cert.Reference23Ideal.τ).loc Cert.Reference23Ideal.main_arg25)
      ∧ r.2.mem ((c.tc : Thread Cert.Reference23Ideal.nD Cert.Reference23Ideal.τ).loc Cert.Reference23Ideal.main_arg26) = m ((c.tc : Thread Cert.Reference23Ideal.nD Cert.Reference23Ideal.τ).loc Cert.Reference23Ideal.main_arg26)
      ∧ r.2.mem ((c.tc : Thread Cert.Reference23Ideal.nD Cert.Reference23Ideal.τ).loc Cert.Reference23Ideal.main_arg27) = m ((c.tc : Thread Cert.Reference23Ideal.nD Cert.Reference23Ideal.τ).loc Cert.Reference23Ideal.main_arg27)
      ∧ r.2.mem ((c.tc : Thread Cert.Reference23Ideal.nD Cert.Reference23Ideal.τ).loc Cert.Reference23Ideal.main_arg28) = m ((c.tc : Thread Cert.Reference23Ideal.nD Cert.Reference23Ideal.τ).loc Cert.Reference23Ideal.main_arg28)
      ∧ r.2.mem ((c.tc : Thread Cert.Reference23Ideal.nD Cert.Reference23Ideal.τ).loc Cert.Reference23Ideal.main_arg29) = m ((c.tc : Thread Cert.Reference23Ideal.nD Cert.Reference23Ideal.τ).loc Cert.Reference23Ideal.main_arg29)
      ∧ r.2.mem ((c.tc : Thread Cert.Reference23Ideal.nD Cert.Reference23Ideal.τ).loc Cert.Reference23Ideal.main_arg30) = m ((c.tc : Thread Cert.Reference23Ideal.nD Cert.Reference23Ideal.τ).loc Cert.Reference23Ideal.main_arg30)
      ∧ r.2.mem ((c.tc : Thread Cert.Reference23Ideal.nD Cert.Reference23Ideal.τ).loc Cert.Reference23Ideal.main_arg31) = m ((c.tc : Thread Cert.Reference23Ideal.nD Cert.Reference23Ideal.τ).loc Cert.Reference23Ideal.main_arg31)
      ∧ r.2.mem ((c.tc : Thread Cert.Reference23Ideal.nD Cert.Reference23Ideal.τ).loc Cert.Reference23Ideal.main_arg32) = m ((c.tc : Thread Cert.Reference23Ideal.nD Cert.Reference23Ideal.τ).loc Cert.Reference23Ideal.main_arg32)
      ∧ r.2.mem ((c.tc : Thread Cert.Reference23Ideal.nD Cert.Reference23Ideal.τ).loc Cert.Reference23Ideal.main_arg33) = m ((c.tc : Thread Cert.Reference23Ideal.nD Cert.Reference23Ideal.τ).loc Cert.Reference23Ideal.main_arg33)
      ∧ r.2.mem ((c.tc : Thread Cert.Reference23Ideal.nD Cert.Reference23Ideal.τ).loc Cert.Reference23Ideal.main_arg34) = m ((c.tc : Thread Cert.Reference23Ideal.nD Cert.Reference23Ideal.τ).loc Cert.Reference23Ideal.main_arg34)
      ∧ r.2.mem ((c.tc : Thread Cert.Reference23Ideal.nD Cert.Reference23Ideal.τ).loc Cert.Reference23Ideal.main_arg35) = m ((c.tc : Thread Cert.Reference23Ideal.nD Cert.Reference23Ideal.τ).loc Cert.Reference23Ideal.main_arg35))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5)
      ∧ r.2.mem ((c.tc : Thread Cert.Kernel32.nD Cert.Kernel32.τ).loc Cert.Kernel32.main_arg6) = m ((c.tc : Thread Cert.Kernel32.nD Cert.Kernel32.τ).loc Cert.Kernel32.main_arg6))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v54) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v25) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v50) = v0 c
          ∧ r.2.mem ((c.tc : Thread Cert.Reference14Ideal.nD Cert.Reference14Ideal.τ).loc Cert.Reference14Ideal.main_v52) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  IdealRules.named_const.Statement Cert.Kernel15Ideal.κ "c1" .f32 0x3FC48605#32 ((8388608 / 5463681 : ℝ) : EReal)
  ∧ IdealRules.named_const.Statement Cert.Kernel15Ideal.κ "c2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_v36) = v1 c
          ∧ r.2.mem ((c.tc : Thread Cert.Reference15Ideal.nD Cert.Reference15Ideal.τ).loc Cert.Reference15Ideal.main_v17) = v2 c
          ∧ r.2.mem ((c.tc : Thread Cert.Reference15Ideal.nD Cert.Reference15Ideal.τ).loc Cert.Reference15Ideal.main_v23) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  IdealRules.named_const.Statement Cert.Kernel16Ideal.κ "c1" .f32 0x3FC48605#32 ((8388608 / 5463681 : ℝ) : EReal)
  ∧ IdealRules.named_const.Statement Cert.Kernel16Ideal.κ "c2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_v36) = v1 c
          ∧ r.2.mem ((c.tc : Thread Cert.Reference16Ideal.nD Cert.Reference16Ideal.τ).loc Cert.Reference16Ideal.main_v17) = v2 c
          ∧ r.2.mem ((c.tc : Thread Cert.Reference16Ideal.nD Cert.Reference16Ideal.τ).loc Cert.Reference16Ideal.main_v23) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  IdealRules.named_const.Statement Cert.Kernel17Ideal.κ "c1" .f32 0x3FC48605#32 ((8388608 / 5463681 : ℝ) : EReal)
  ∧ IdealRules.named_const.Statement Cert.Kernel17Ideal.κ "c2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  IdealRules.named_const.Statement Cert.Kernel18Ideal.κ "c1" .f32 0x3FC48605#32 ((8388608 / 5463681 : ℝ) : EReal)
  ∧ IdealRules.named_const.Statement Cert.Kernel18Ideal.κ "c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "c1" .f32 0x3FC48605#32 ((8388608 / 5463681 : ℝ) : EReal)
  ∧ IdealRules.named_const.Statement Cert.Kernel19Ideal.κ "c2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_v32) = v1 c
          ∧ r.2.mem ((c.tc : Thread Cert.Reference19Ideal.nD Cert.Reference19Ideal.τ).loc Cert.Reference19Ideal.main_v13) = v2 c
          ∧ r.2.mem ((c.tc : Thread Cert.Reference19Ideal.nD Cert.Reference19Ideal.τ).loc Cert.Reference19Ideal.main_v19) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  IdealRules.named_const.Statement Cert.Kernel20Ideal.κ "c1" .f32 0x3FC48605#32 ((8388608 / 5463681 : ℝ) : EReal)
  ∧ IdealRules.named_const.Statement Cert.Kernel20Ideal.κ "c2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)
      ∧ m' ((c.tc : Thread Cert.Reference20Ideal.nD Cert.Reference20Ideal.τ).loc Cert.Reference20Ideal.main_arg9) = m ((c.tc : Thread Cert.Kernel20Ideal.nD Cert.Kernel20Ideal.τ).loc Cert.Kernel20Ideal.main_arg9)
      ∧ m' ((c.tc : Thread Cert.Reference20Ideal.nD Cert.Reference20Ideal.τ).loc Cert.Reference20Ideal.main_arg10) = m ((c.tc : Thread Cert.Kernel20Ideal.nD Cert.Kernel20Ideal.τ).loc Cert.Kernel20Ideal.main_arg10)
      ∧ m' ((c.tc : Thread Cert.Reference20Ideal.nD Cert.Reference20Ideal.τ).loc Cert.Reference20Ideal.main_arg11) = m ((c.tc : Thread Cert.Kernel20Ideal.nD Cert.Kernel20Ideal.τ).loc Cert.Kernel20Ideal.main_arg11)
      ∧ m' ((c.tc : Thread Cert.Reference20Ideal.nD Cert.Reference20Ideal.τ).loc Cert.Reference20Ideal.main_arg12) = m ((c.tc : Thread Cert.Kernel20Ideal.nD Cert.Kernel20Ideal.τ).loc Cert.Kernel20Ideal.main_arg12)
      ∧ m' ((c.tc : Thread Cert.Reference20Ideal.nD Cert.Reference20Ideal.τ).loc Cert.Reference20Ideal.main_arg13) = m ((c.tc : Thread Cert.Kernel20Ideal.nD Cert.Kernel20Ideal.τ).loc Cert.Kernel20Ideal.main_arg13)
      ∧ m' ((c.tc : Thread Cert.Reference20Ideal.nD Cert.Reference20Ideal.τ).loc Cert.Reference20Ideal.main_arg14) = m ((c.tc : Thread Cert.Kernel20Ideal.nD Cert.Kernel20Ideal.τ).loc Cert.Kernel20Ideal.main_arg14)
      ∧ m' ((c.tc : Thread Cert.Reference20Ideal.nD Cert.Reference20Ideal.τ).loc Cert.Reference20Ideal.main_arg15) = m ((c.tc : Thread Cert.Kernel20Ideal.nD Cert.Kernel20Ideal.τ).loc Cert.Kernel20Ideal.main_arg15)
      ∧ m' ((c.tc : Thread Cert.Reference20Ideal.nD Cert.Reference20Ideal.τ).loc Cert.Reference20Ideal.main_arg16) = m ((c.tc : Thread Cert.Kernel20Ideal.nD Cert.Kernel20Ideal.τ).loc Cert.Kernel20Ideal.main_arg16)
      ∧ m' ((c.tc : Thread Cert.Reference20Ideal.nD Cert.Reference20Ideal.τ).loc Cert.Reference20Ideal.main_arg17) = m ((c.tc : Thread Cert.Kernel20Ideal.nD Cert.Kernel20Ideal.τ).loc Cert.Kernel20Ideal.main_arg17)
      ∧ m' ((c.tc : Thread Cert.Reference20Ideal.nD Cert.Reference20Ideal.τ).loc Cert.Reference20Ideal.main_arg18) = m ((c.tc : Thread Cert.Kernel20Ideal.nD Cert.Kernel20Ideal.τ).loc Cert.Kernel20Ideal.main_arg18)
      ∧ m' ((c.tc : Thread Cert.Reference20Ideal.nD Cert.Reference20Ideal.τ).loc Cert.Reference20Ideal.main_arg19) = m ((c.tc : Thread Cert.Kernel20Ideal.nD Cert.Kernel20Ideal.τ).loc Cert.Kernel20Ideal.main_arg19)
      ∧ m' ((c.tc : Thread Cert.Reference20Ideal.nD Cert.Reference20Ideal.τ).loc Cert.Reference20Ideal.main_arg20) = m ((c.tc : Thread Cert.Kernel20Ideal.nD Cert.Kernel20Ideal.τ).loc Cert.Kernel20Ideal.main_arg20)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v3_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v3_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
          ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
          ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10)
          ∧ r.2.mem ((c.tc : Thread Cert.Kernel20Ideal.nD Cert.Kernel20Ideal.τ).loc Cert.Kernel20Ideal.main_arg11) = m ((c.tc : Thread Cert.Kernel20Ideal.nD Cert.Kernel20Ideal.τ).loc Cert.Kernel20Ideal.main_arg11)
          ∧ r.2.mem ((c.tc : Thread Cert.Kernel20Ideal.nD Cert.Kernel20Ideal.τ).loc Cert.Kernel20Ideal.main_arg12) = m ((c.tc : Thread Cert.Kernel20Ideal.nD Cert.Kernel20Ideal.τ).loc Cert.Kernel20Ideal.main_arg12)
          ∧ r.2.mem ((c.tc : Thread Cert.Kernel20Ideal.nD Cert.Kernel20Ideal.τ).loc Cert.Kernel20Ideal.main_arg13) = m ((c.tc : Thread Cert.Kernel20Ideal.nD Cert.Kernel20Ideal.τ).loc Cert.Kernel20Ideal.main_arg13)
          ∧ r.2.mem ((c.tc : Thread Cert.Kernel20Ideal.nD Cert.Kernel20Ideal.τ).loc Cert.Kernel20Ideal.main_arg14) = m ((c.tc : Thread Cert.Kernel20Ideal.nD Cert.Kernel20Ideal.τ).loc Cert.Kernel20Ideal.main_arg14)
          ∧ r.2.mem ((c.tc : Thread Cert.Kernel20Ideal.nD Cert.Kernel20Ideal.τ).loc Cert.Kernel20Ideal.main_arg15) = m ((c.tc : Thread Cert.Kernel20Ideal.nD Cert.Kernel20Ideal.τ).loc Cert.Kernel20Ideal.main_arg15)
          ∧ r.2.mem ((c.tc : Thread Cert.Kernel20Ideal.nD Cert.Kernel20Ideal.τ).loc Cert.Kernel20Ideal.main_arg16) = m ((c.tc : Thread Cert.Kernel20Ideal.nD Cert.Kernel20Ideal.τ).loc Cert.Kernel20Ideal.main_arg16)
          ∧ r.2.mem ((c.tc : Thread Cert.Kernel20Ideal.nD Cert.Kernel20Ideal.τ).loc Cert.Kernel20Ideal.main_arg17) = m ((c.tc : Thread Cert.Kernel20Ideal.nD Cert.Kernel20Ideal.τ).loc Cert.Kernel20Ideal.main_arg17)
          ∧ r.2.mem ((c.tc : Thread Cert.Kernel20Ideal.nD Cert.Kernel20Ideal.τ).loc Cert.Kernel20Ideal.main_arg18) = m ((c.tc : Thread Cert.Kernel20Ideal.nD Cert.Kernel20Ideal.τ).loc Cert.Kernel20Ideal.main_arg18)
          ∧ r.2.mem ((c.tc : Thread Cert.Kernel20Ideal.nD Cert.Kernel20Ideal.τ).loc Cert.Kernel20Ideal.main_arg19) = m ((c.tc : Thread Cert.Kernel20Ideal.nD Cert.Kernel20Ideal.τ).loc Cert.Kernel20Ideal.main_arg19)
          ∧ r.2.mem ((c.tc : Thread Cert.Kernel20Ideal.nD Cert.Kernel20Ideal.τ).loc Cert.Kernel20Ideal.main_arg20) = m ((c.tc : Thread Cert.Kernel20Ideal.nD Cert.Kernel20Ideal.τ).loc Cert.Kernel20Ideal.main_arg20))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v139) = v0 c
          ∧ r.2.mem ((c.tc : Thread Cert.Reference20Ideal.nD Cert.Reference20Ideal.τ).loc Cert.Reference20Ideal.main_v140) = v1 c
          ∧ r.2.mem ((c.tc : Thread Cert.Reference20Ideal.nD Cert.Reference20Ideal.τ).loc Cert.Reference20Ideal.main_v141) = v2 c
          ∧ r.2.mem ((c.tc : Thread Cert.Reference20Ideal.nD Cert.Reference20Ideal.τ).loc Cert.Reference20Ideal.main_v142) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8)
          ∧ r.2.mem ((c.tc : Thread Cert.Reference20Ideal.nD Cert.Reference20Ideal.τ).loc Cert.Reference20Ideal.main_arg9) = m' ((c.tc : Thread Cert.Reference20Ideal.nD Cert.Reference20Ideal.τ).loc Cert.Reference20Ideal.main_arg9)
          ∧ r.2.mem ((c.tc : Thread Cert.Reference20Ideal.nD Cert.Reference20Ideal.τ).loc Cert.Reference20Ideal.main_arg10) = m' ((c.tc : Thread Cert.Reference20Ideal.nD Cert.Reference20Ideal.τ).loc Cert.Reference20Ideal.main_arg10)
          ∧ r.2.mem ((c.tc : Thread Cert.Reference20Ideal.nD Cert.Reference20Ideal.τ).loc Cert.Reference20Ideal.main_arg11) = m' ((c.tc : Thread Cert.Reference20Ideal.nD Cert.Reference20Ideal.τ).loc Cert.Reference20Ideal.main_arg11)
          ∧ r.2.mem ((c.tc : Thread Cert.Reference20Ideal.nD Cert.Reference20Ideal.τ).loc Cert.Reference20Ideal.main_arg12) = m' ((c.tc : Thread Cert.Reference20Ideal.nD Cert.Reference20Ideal.τ).loc Cert.Reference20Ideal.main_arg12)
          ∧ r.2.mem ((c.tc : Thread Cert.Reference20Ideal.nD Cert.Reference20Ideal.τ).loc Cert.Reference20Ideal.main_arg13) = m' ((c.tc : Thread Cert.Reference20Ideal.nD Cert.Reference20Ideal.τ).loc Cert.Reference20Ideal.main_arg13)
          ∧ r.2.mem ((c.tc : Thread Cert.Reference20Ideal.nD Cert.Reference20Ideal.τ).loc Cert.Reference20Ideal.main_arg14) = m' ((c.tc : Thread Cert.Reference20Ideal.nD Cert.Reference20Ideal.τ).loc Cert.Reference20Ideal.main_arg14)
          ∧ r.2.mem ((c.tc : Thread Cert.Reference20Ideal.nD Cert.Reference20Ideal.τ).loc Cert.Reference20Ideal.main_arg15) = m' ((c.tc : Thread Cert.Reference20Ideal.nD Cert.Reference20Ideal.τ).loc Cert.Reference20Ideal.main_arg15)
          ∧ r.2.mem ((c.tc : Thread Cert.Reference20Ideal.nD Cert.Reference20Ideal.τ).loc Cert.Reference20Ideal.main_arg16) = m' ((c.tc : Thread Cert.Reference20Ideal.nD Cert.Reference20Ideal.τ).loc Cert.Reference20Ideal.main_arg16)
          ∧ r.2.mem ((c.tc : Thread Cert.Reference20Ideal.nD Cert.Reference20Ideal.τ).loc Cert.Reference20Ideal.main_arg17) = m' ((c.tc : Thread Cert.Reference20Ideal.nD Cert.Reference20Ideal.τ).loc Cert.Reference20Ideal.main_arg17)
          ∧ r.2.mem ((c.tc : Thread Cert.Reference20Ideal.nD Cert.Reference20Ideal.τ).loc Cert.Reference20Ideal.main_arg18) = m' ((c.tc : Thread Cert.Reference20Ideal.nD Cert.Reference20Ideal.τ).loc Cert.Reference20Ideal.main_arg18)
          ∧ r.2.mem ((c.tc : Thread Cert.Reference20Ideal.nD Cert.Reference20Ideal.τ).loc Cert.Reference20Ideal.main_arg19) = m' ((c.tc : Thread Cert.Reference20Ideal.nD Cert.Reference20Ideal.τ).loc Cert.Reference20Ideal.main_arg19)
          ∧ r.2.mem ((c.tc : Thread Cert.Reference20Ideal.nD Cert.Reference20Ideal.τ).loc Cert.Reference20Ideal.main_arg20) = m' ((c.tc : Thread Cert.Reference20Ideal.nD Cert.Reference20Ideal.τ).loc Cert.Reference20Ideal.main_arg20))

def preserves_Kernel21_Kernel21Ideal : Prop :=
  IdealRules.named_const.Statement Cert.Kernel21Ideal.κ "c1" .f32 0x3FC48605#32 ((8388608 / 5463681 : ℝ) : EReal)
  ∧ IdealRules.named_const.Statement Cert.Kernel21Ideal.κ "c2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)
      ∧ m' ((c.tc : Thread Cert.Reference21Ideal.nD Cert.Reference21Ideal.τ).loc Cert.Reference21Ideal.main_arg10) = m ((c.tc : Thread Cert.Kernel21Ideal.nD Cert.Kernel21Ideal.τ).loc Cert.Kernel21Ideal.main_arg10)
      ∧ m' ((c.tc : Thread Cert.Reference21Ideal.nD Cert.Reference21Ideal.τ).loc Cert.Reference21Ideal.main_arg11) = m ((c.tc : Thread Cert.Kernel21Ideal.nD Cert.Kernel21Ideal.τ).loc Cert.Kernel21Ideal.main_arg11)
      ∧ m' ((c.tc : Thread Cert.Reference21Ideal.nD Cert.Reference21Ideal.τ).loc Cert.Reference21Ideal.main_arg12) = m ((c.tc : Thread Cert.Kernel21Ideal.nD Cert.Kernel21Ideal.τ).loc Cert.Kernel21Ideal.main_arg12)
      ∧ m' ((c.tc : Thread Cert.Reference21Ideal.nD Cert.Reference21Ideal.τ).loc Cert.Reference21Ideal.main_arg13) = m ((c.tc : Thread Cert.Kernel21Ideal.nD Cert.Kernel21Ideal.τ).loc Cert.Kernel21Ideal.main_arg13)
      ∧ m' ((c.tc : Thread Cert.Reference21Ideal.nD Cert.Reference21Ideal.τ).loc Cert.Reference21Ideal.main_arg14) = m ((c.tc : Thread Cert.Kernel21Ideal.nD Cert.Kernel21Ideal.τ).loc Cert.Kernel21Ideal.main_arg14)
      ∧ m' ((c.tc : Thread Cert.Reference21Ideal.nD Cert.Reference21Ideal.τ).loc Cert.Reference21Ideal.main_arg15) = m ((c.tc : Thread Cert.Kernel21Ideal.nD Cert.Kernel21Ideal.τ).loc Cert.Kernel21Ideal.main_arg15)) →
    ∃ (v0 : (c : Dev Cert.Kernel21Ideal.nD) → Buf (Elt Ideal) ((c.tc : Thread Cert.Kernel21Ideal.nD Cert.Kernel21Ideal.τ).loc Cert.Kernel21Ideal.main_v39_0)) (v1 : (c : Dev Cert.Kernel21Ideal.nD) → Buf (Elt Ideal) ((c.tc : Thread Cert.Kernel21Ideal.nD Cert.Kernel21Ideal.τ).loc Cert.Kernel21Ideal.main_v39_1)) (v2 : (c : Dev Cert.Kernel21Ideal.nD) → Buf (Elt Ideal) ((c.tc : Thread Cert.Kernel21Ideal.nD Cert.Kernel21Ideal.τ).loc Cert.Kernel21Ideal.main_v39_2)) (v3 : (c : Dev Cert.Kernel21Ideal.nD) → Buf (Elt Ideal) ((c.tc : Thread Cert.Kernel21Ideal.nD Cert.Kernel21Ideal.τ).loc Cert.Kernel21Ideal.main_v39_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v39_0) = v0 c
          ∧ r.2.mem ((c.tc : Thread Cert.Kernel21Ideal.nD Cert.Kernel21Ideal.τ).loc Cert.Kernel21Ideal.main_v39_1) = v1 c
          ∧ r.2.mem ((c.tc : Thread Cert.Kernel21Ideal.nD Cert.Kernel21Ideal.τ).loc Cert.Kernel21Ideal.main_v39_2) = v2 c
          ∧ r.2.mem ((c.tc : Thread Cert.Kernel21Ideal.nD Cert.Kernel21Ideal.τ).loc Cert.Kernel21Ideal.main_v39_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
          ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
          ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
          ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
          ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
          ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
          ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v109) = v0 c
          ∧ r.2.mem ((c.tc : Thread Cert.Reference21Ideal.nD Cert.Reference21Ideal.τ).loc Cert.Reference21Ideal.main_v119) = v1 c
          ∧ r.2.mem ((c.tc : Thread Cert.Reference21Ideal.nD Cert.Reference21Ideal.τ).loc Cert.Reference21Ideal.main_v129) = v2 c
          ∧ r.2.mem ((c.tc : Thread Cert.Reference21Ideal.nD Cert.Reference21Ideal.τ).loc Cert.Reference21Ideal.main_v139) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9)
          ∧ r.2.mem ((c.tc : Thread Cert.Reference21Ideal.nD Cert.Reference21Ideal.τ).loc Cert.Reference21Ideal.main_arg10) = m' ((c.tc : Thread Cert.Reference21Ideal.nD Cert.Reference21Ideal.τ).loc Cert.Reference21Ideal.main_arg10)
          ∧ r.2.mem ((c.tc : Thread Cert.Reference21Ideal.nD Cert.Reference21Ideal.τ).loc Cert.Reference21Ideal.main_arg11) = m' ((c.tc : Thread Cert.Reference21Ideal.nD Cert.Reference21Ideal.τ).loc Cert.Reference21Ideal.main_arg11)
          ∧ r.2.mem ((c.tc : Thread Cert.Reference21Ideal.nD Cert.Reference21Ideal.τ).loc Cert.Reference21Ideal.main_arg12) = m' ((c.tc : Thread Cert.Reference21Ideal.nD Cert.Reference21Ideal.τ).loc Cert.Reference21Ideal.main_arg12)
          ∧ r.2.mem ((c.tc : Thread Cert.Reference21Ideal.nD Cert.Reference21Ideal.τ).loc Cert.Reference21Ideal.main_arg13) = m' ((c.tc : Thread Cert.Reference21Ideal.nD Cert.Reference21Ideal.τ).loc Cert.Reference21Ideal.main_arg13)
          ∧ r.2.mem ((c.tc : Thread Cert.Reference21Ideal.nD Cert.Reference21Ideal.τ).loc Cert.Reference21Ideal.main_arg14) = m' ((c.tc : Thread Cert.Reference21Ideal.nD Cert.Reference21Ideal.τ).loc Cert.Reference21Ideal.main_arg14)
          ∧ r.2.mem ((c.tc : Thread Cert.Reference21Ideal.nD Cert.Reference21Ideal.τ).loc Cert.Reference21Ideal.main_arg15) = m' ((c.tc : Thread Cert.Reference21Ideal.nD Cert.Reference21Ideal.τ).loc Cert.Reference21Ideal.main_arg15))

def preserves_Kernel22_Kernel22Ideal : Prop :=
  IdealRules.named_const.Statement Cert.Kernel22Ideal.κ "c1" .f32 0x3FC48605#32 ((8388608 / 5463681 : ℝ) : EReal)
  ∧ IdealRules.named_const.Statement Cert.Kernel22Ideal.κ "c2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)) →
    ∃ (v0 : (c : Dev Cert.Kernel22Ideal.nD) → Buf (Elt Ideal) ((c.tc : Thread Cert.Kernel22Ideal.nD Cert.Kernel22Ideal.τ).loc Cert.Kernel22Ideal.main_v17_0)) (v1 : (c : Dev Cert.Kernel22Ideal.nD) → Buf (Elt Ideal) ((c.tc : Thread Cert.Kernel22Ideal.nD Cert.Kernel22Ideal.τ).loc Cert.Kernel22Ideal.main_v17_1)) (v2 : (c : Dev Cert.Kernel22Ideal.nD) → Buf (Elt Ideal) ((c.tc : Thread Cert.Kernel22Ideal.nD Cert.Kernel22Ideal.τ).loc Cert.Kernel22Ideal.main_v17_2)) (v3 : (c : Dev Cert.Kernel22Ideal.nD) → Buf (Elt Ideal) ((c.tc : Thread Cert.Kernel22Ideal.nD Cert.Kernel22Ideal.τ).loc Cert.Kernel22Ideal.main_v17_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v17_0) = v0 c
          ∧ r.2.mem ((c.tc : Thread Cert.Kernel22Ideal.nD Cert.Kernel22Ideal.τ).loc Cert.Kernel22Ideal.main_v17_1) = v1 c
          ∧ r.2.mem ((c.tc : Thread Cert.Kernel22Ideal.nD Cert.Kernel22Ideal.τ).loc Cert.Kernel22Ideal.main_v17_2) = v2 c
          ∧ r.2.mem ((c.tc : Thread Cert.Kernel22Ideal.nD Cert.Kernel22Ideal.τ).loc Cert.Kernel22Ideal.main_v17_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v83) = v0 c
          ∧ r.2.mem ((c.tc : Thread Cert.Reference22Ideal.nD Cert.Reference22Ideal.τ).loc Cert.Reference22Ideal.main_v92) = v1 c
          ∧ r.2.mem ((c.tc : Thread Cert.Reference22Ideal.nD Cert.Reference22Ideal.τ).loc Cert.Reference22Ideal.main_v101) = v2 c
          ∧ r.2.mem ((c.tc : Thread Cert.Reference22Ideal.nD Cert.Reference22Ideal.τ).loc Cert.Reference22Ideal.main_v110) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11))

def preserves_Kernel23_Kernel23Ideal : Prop :=
  IdealRules.named_const.Statement Cert.Kernel23Ideal.κ "c1" .f32 0x3FC48605#32 ((8388608 / 5463681 : ℝ) : EReal)
  ∧ IdealRules.named_const.Statement Cert.Kernel23Ideal.κ "c2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)
      ∧ m' ((c.tc : Thread Cert.Reference23Ideal.nD Cert.Reference23Ideal.τ).loc Cert.Reference23Ideal.main_arg10) = m ((c.tc : Thread Cert.Kernel23Ideal.nD Cert.Kernel23Ideal.τ).loc Cert.Kernel23Ideal.main_arg10)
      ∧ m' ((c.tc : Thread Cert.Reference23Ideal.nD Cert.Reference23Ideal.τ).loc Cert.Reference23Ideal.main_arg11) = m ((c.tc : Thread Cert.Kernel23Ideal.nD Cert.Kernel23Ideal.τ).loc Cert.Kernel23Ideal.main_arg11)
      ∧ m' ((c.tc : Thread Cert.Reference23Ideal.nD Cert.Reference23Ideal.τ).loc Cert.Reference23Ideal.main_arg12) = m ((c.tc : Thread Cert.Kernel23Ideal.nD Cert.Kernel23Ideal.τ).loc Cert.Kernel23Ideal.main_arg12)
      ∧ m' ((c.tc : Thread Cert.Reference23Ideal.nD Cert.Reference23Ideal.τ).loc Cert.Reference23Ideal.main_arg13) = m ((c.tc : Thread Cert.Kernel23Ideal.nD Cert.Kernel23Ideal.τ).loc Cert.Kernel23Ideal.main_arg13)
      ∧ m' ((c.tc : Thread Cert.Reference23Ideal.nD Cert.Reference23Ideal.τ).loc Cert.Reference23Ideal.main_arg14) = m ((c.tc : Thread Cert.Kernel23Ideal.nD Cert.Kernel23Ideal.τ).loc Cert.Kernel23Ideal.main_arg14)
      ∧ m' ((c.tc : Thread Cert.Reference23Ideal.nD Cert.Reference23Ideal.τ).loc Cert.Reference23Ideal.main_arg15) = m ((c.tc : Thread Cert.Kernel23Ideal.nD Cert.Kernel23Ideal.τ).loc Cert.Kernel23Ideal.main_arg15)
      ∧ m' ((c.tc : Thread Cert.Reference23Ideal.nD Cert.Reference23Ideal.τ).loc Cert.Reference23Ideal.main_arg16) = m ((c.tc : Thread Cert.Kernel23Ideal.nD Cert.Kernel23Ideal.τ).loc Cert.Kernel23Ideal.main_arg16)
      ∧ m' ((c.tc : Thread Cert.Reference23Ideal.nD Cert.Reference23Ideal.τ).loc Cert.Reference23Ideal.main_arg17) = m ((c.tc : Thread Cert.Kernel23Ideal.nD Cert.Kernel23Ideal.τ).loc Cert.Kernel23Ideal.main_arg17)
      ∧ m' ((c.tc : Thread Cert.Reference23Ideal.nD Cert.Reference23Ideal.τ).loc Cert.Reference23Ideal.main_arg18) = m ((c.tc : Thread Cert.Kernel23Ideal.nD Cert.Kernel23Ideal.τ).loc Cert.Kernel23Ideal.main_arg18)
      ∧ m' ((c.tc : Thread Cert.Reference23Ideal.nD Cert.Reference23Ideal.τ).loc Cert.Reference23Ideal.main_arg19) = m ((c.tc : Thread Cert.Kernel23Ideal.nD Cert.Kernel23Ideal.τ).loc Cert.Kernel23Ideal.main_arg19)
      ∧ m' ((c.tc : Thread Cert.Reference23Ideal.nD Cert.Reference23Ideal.τ).loc Cert.Reference23Ideal.main_arg20) = m ((c.tc : Thread Cert.Kernel23Ideal.nD Cert.Kernel23Ideal.τ).loc Cert.Kernel23Ideal.main_arg20)
      ∧ m' ((c.tc : Thread Cert.Reference23Ideal.nD Cert.Reference23Ideal.τ).loc Cert.Reference23Ideal.main_arg21) = m ((c.tc : Thread Cert.Kernel23Ideal.nD Cert.Kernel23Ideal.τ).loc Cert.Kernel23Ideal.main_arg21)
      ∧ m' ((c.tc : Thread Cert.Reference23Ideal.nD Cert.Reference23Ideal.τ).loc Cert.Reference23Ideal.main_arg22) = m ((c.tc : Thread Cert.Kernel23Ideal.nD Cert.Kernel23Ideal.τ).loc Cert.Kernel23Ideal.main_arg22)
      ∧ m' ((c.tc : Thread Cert.Reference23Ideal.nD Cert.Reference23Ideal.τ).loc Cert.Reference23Ideal.main_arg23) = m ((c.tc : Thread Cert.Kernel23Ideal.nD Cert.Kernel23Ideal.τ).loc Cert.Kernel23Ideal.main_arg23)
      ∧ m' ((c.tc : Thread Cert.Reference23Ideal.nD Cert.Reference23Ideal.τ).loc Cert.Reference23Ideal.main_arg24) = m ((c.tc : Thread Cert.Kernel23Ideal.nD Cert.Kernel23Ideal.τ).loc Cert.Kernel23Ideal.main_arg24)
      ∧ m' ((c.tc : Thread Cert.Reference23Ideal.nD Cert.Reference23Ideal.τ).loc Cert.Reference23Ideal.main_arg25) = m ((c.tc : Thread Cert.Kernel23Ideal.nD Cert.Kernel23Ideal.τ).loc Cert.Kernel23Ideal.main_arg25)
      ∧ m' ((c.tc : Thread Cert.Reference23Ideal.nD Cert.Reference23Ideal.τ).loc Cert.Reference23Ideal.main_arg26) = m ((c.tc : Thread Cert.Kernel23Ideal.nD Cert.Kernel23Ideal.τ).loc Cert.Kernel23Ideal.main_arg26)
      ∧ m' ((c.tc : Thread Cert.Reference23Ideal.nD Cert.Reference23Ideal.τ).loc Cert.Reference23Ideal.main_arg27) = m ((c.tc : Thread Cert.Kernel23Ideal.nD Cert.Kernel23Ideal.τ).loc Cert.Kernel23Ideal.main_arg27)
      ∧ m' ((c.tc : Thread Cert.Reference23Ideal.nD Cert.Reference23Ideal.τ).loc Cert.Reference23Ideal.main_arg28) = m ((c.tc : Thread Cert.Kernel23Ideal.nD Cert.Kernel23Ideal.τ).loc Cert.Kernel23Ideal.main_arg28)
      ∧ m' ((c.tc : Thread Cert.Reference23Ideal.nD Cert.Reference23Ideal.τ).loc Cert.Reference23Ideal.main_arg29) = m ((c.tc : Thread Cert.Kernel23Ideal.nD Cert.Kernel23Ideal.τ).loc Cert.Kernel23Ideal.main_arg29)
      ∧ m' ((c.tc : Thread Cert.Reference23Ideal.nD Cert.Reference23Ideal.τ).loc Cert.Reference23Ideal.main_arg30) = m ((c.tc : Thread Cert.Kernel23Ideal.nD Cert.Kernel23Ideal.τ).loc Cert.Kernel23Ideal.main_arg30)
      ∧ m' ((c.tc : Thread Cert.Reference23Ideal.nD Cert.Reference23Ideal.τ).loc Cert.Reference23Ideal.main_arg31) = m ((c.tc : Thread Cert.Kernel23Ideal.nD Cert.Kernel23Ideal.τ).loc Cert.Kernel23Ideal.main_arg31)
      ∧ m' ((c.tc : Thread Cert.Reference23Ideal.nD Cert.Reference23Ideal.τ).loc Cert.Reference23Ideal.main_arg32) = m ((c.tc : Thread Cert.Kernel23Ideal.nD Cert.Kernel23Ideal.τ).loc Cert.Kernel23Ideal.main_arg32)
      ∧ m' ((c.tc : Thread Cert.Reference23Ideal.nD Cert.Reference23Ideal.τ).loc Cert.Reference23Ideal.main_arg33) = m ((c.tc : Thread Cert.Kernel23Ideal.nD Cert.Kernel23Ideal.τ).loc Cert.Kernel23Ideal.main_arg33)
      ∧ m' ((c.tc : Thread Cert.Reference23Ideal.nD Cert.Reference23Ideal.τ).loc Cert.Reference23Ideal.main_arg34) = m ((c.tc : Thread Cert.Kernel23Ideal.nD Cert.Kernel23Ideal.τ).loc Cert.Kernel23Ideal.main_arg34)
      ∧ m' ((c.tc : Thread Cert.Reference23Ideal.nD Cert.Reference23Ideal.τ).loc Cert.Reference23Ideal.main_arg35) = m ((c.tc : Thread Cert.Kernel23Ideal.nD Cert.Kernel23Ideal.τ).loc Cert.Kernel23Ideal.main_arg35)) →
    ∃ (v0 : (c : Dev Cert.Kernel23Ideal.nD) → Buf (Elt Ideal) ((c.tc : Thread Cert.Kernel23Ideal.nD Cert.Kernel23Ideal.τ).loc Cert.Kernel23Ideal.main_v101_0)) (v1 : (c : Dev Cert.Kernel23Ideal.nD) → Buf (Elt Ideal) ((c.tc : Thread Cert.Kernel23Ideal.nD Cert.Kernel23Ideal.τ).loc Cert.Kernel23Ideal.main_v101_1)) (v2 : (c : Dev Cert.Kernel23Ideal.nD) → Buf (Elt Ideal) ((c.tc : Thread Cert.Kernel23Ideal.nD Cert.Kernel23Ideal.τ).loc Cert.Kernel23Ideal.main_v101_2)) (v3 : (c : Dev Cert.Kernel23Ideal.nD) → Buf (Elt Ideal) ((c.tc : Thread Cert.Kernel23Ideal.nD Cert.Kernel23Ideal.τ).loc Cert.Kernel23Ideal.main_v101_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v101_0) = v0 c
          ∧ r.2.mem ((c.tc : Thread Cert.Kernel23Ideal.nD Cert.Kernel23Ideal.τ).loc Cert.Kernel23Ideal.main_v101_1) = v1 c
          ∧ r.2.mem ((c.tc : Thread Cert.Kernel23Ideal.nD Cert.Kernel23Ideal.τ).loc Cert.Kernel23Ideal.main_v101_2) = v2 c
          ∧ r.2.mem ((c.tc : Thread Cert.Kernel23Ideal.nD Cert.Kernel23Ideal.τ).loc Cert.Kernel23Ideal.main_v101_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
          ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
          ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
          ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12)
          ∧ r.2.mem ((c.tc : Thread Cert.Kernel23Ideal.nD Cert.Kernel23Ideal.τ).loc Cert.Kernel23Ideal.main_arg13) = m ((c.tc : Thread Cert.Kernel23Ideal.nD Cert.Kernel23Ideal.τ).loc Cert.Kernel23Ideal.main_arg13)
          ∧ r.2.mem ((c.tc : Thread Cert.Kernel23Ideal.nD Cert.Kernel23Ideal.τ).loc Cert.Kernel23Ideal.main_arg14) = m ((c.tc : Thread Cert.Kernel23Ideal.nD Cert.Kernel23Ideal.τ).loc Cert.Kernel23Ideal.main_arg14)
          ∧ r.2.mem ((c.tc : Thread Cert.Kernel23Ideal.nD Cert.Kernel23Ideal.τ).loc Cert.Kernel23Ideal.main_arg15) = m ((c.tc : Thread Cert.Kernel23Ideal.nD Cert.Kernel23Ideal.τ).loc Cert.Kernel23Ideal.main_arg15)
          ∧ r.2.mem ((c.tc : Thread Cert.Kernel23Ideal.nD Cert.Kernel23Ideal.τ).loc Cert.Kernel23Ideal.main_arg16) = m ((c.tc : Thread Cert.Kernel23Ideal.nD Cert.Kernel23Ideal.τ).loc Cert.Kernel23Ideal.main_arg16)
          ∧ r.2.mem ((c.tc : Thread Cert.Kernel23Ideal.nD Cert.Kernel23Ideal.τ).loc Cert.Kernel23Ideal.main_arg17) = m ((c.tc : Thread Cert.Kernel23Ideal.nD Cert.Kernel23Ideal.τ).loc Cert.Kernel23Ideal.main_arg17)
          ∧ r.2.mem ((c.tc : Thread Cert.Kernel23Ideal.nD Cert.Kernel23Ideal.τ).loc Cert.Kernel23Ideal.main_arg18) = m ((c.tc : Thread Cert.Kernel23Ideal.nD Cert.Kernel23Ideal.τ).loc Cert.Kernel23Ideal.main_arg18)
          ∧ r.2.mem ((c.tc : Thread Cert.Kernel23Ideal.nD Cert.Kernel23Ideal.τ).loc Cert.Kernel23Ideal.main_arg19) = m ((c.tc : Thread Cert.Kernel23Ideal.nD Cert.Kernel23Ideal.τ).loc Cert.Kernel23Ideal.main_arg19)
          ∧ r.2.mem ((c.tc : Thread Cert.Kernel23Ideal.nD Cert.Kernel23Ideal.τ).loc Cert.Kernel23Ideal.main_arg20) = m ((c.tc : Thread Cert.Kernel23Ideal.nD Cert.Kernel23Ideal.τ).loc Cert.Kernel23Ideal.main_arg20)
          ∧ r.2.mem ((c.tc : Thread Cert.Kernel23Ideal.nD Cert.Kernel23Ideal.τ).loc Cert.Kernel23Ideal.main_arg21) = m ((c.tc : Thread Cert.Kernel23Ideal.nD Cert.Kernel23Ideal.τ).loc Cert.Kernel23Ideal.main_arg21)
          ∧ r.2.mem ((c.tc : Thread Cert.Kernel23Ideal.nD Cert.Kernel23Ideal.τ).loc Cert.Kernel23Ideal.main_arg22) = m ((c.tc : Thread Cert.Kernel23Ideal.nD Cert.Kernel23Ideal.τ).loc Cert.Kernel23Ideal.main_arg22)
          ∧ r.2.mem ((c.tc : Thread Cert.Kernel23Ideal.nD Cert.Kernel23Ideal.τ).loc Cert.Kernel23Ideal.main_arg23) = m ((c.tc : Thread Cert.Kernel23Ideal.nD Cert.Kernel23Ideal.τ).loc Cert.Kernel23Ideal.main_arg23)
          ∧ r.2.mem ((c.tc : Thread Cert.Kernel23Ideal.nD Cert.Kernel23Ideal.τ).loc Cert.Kernel23Ideal.main_arg24) = m ((c.tc : Thread Cert.Kernel23Ideal.nD Cert.Kernel23Ideal.τ).loc Cert.Kernel23Ideal.main_arg24)
          ∧ r.2.mem ((c.tc : Thread Cert.Kernel23Ideal.nD Cert.Kernel23Ideal.τ).loc Cert.Kernel23Ideal.main_arg25) = m ((c.tc : Thread Cert.Kernel23Ideal.nD Cert.Kernel23Ideal.τ).loc Cert.Kernel23Ideal.main_arg25)
          ∧ r.2.mem ((c.tc : Thread Cert.Kernel23Ideal.nD Cert.Kernel23Ideal.τ).loc Cert.Kernel23Ideal.main_arg26) = m ((c.tc : Thread Cert.Kernel23Ideal.nD Cert.Kernel23Ideal.τ).loc Cert.Kernel23Ideal.main_arg26)
          ∧ r.2.mem ((c.tc : Thread Cert.Kernel23Ideal.nD Cert.Kernel23Ideal.τ).loc Cert.Kernel23Ideal.main_arg27) = m ((c.tc : Thread Cert.Kernel23Ideal.nD Cert.Kernel23Ideal.τ).loc Cert.Kernel23Ideal.main_arg27)
          ∧ r.2.mem ((c.tc : Thread Cert.Kernel23Ideal.nD Cert.Kernel23Ideal.τ).loc Cert.Kernel23Ideal.main_arg28) = m ((c.tc : Thread Cert.Kernel23Ideal.nD Cert.Kernel23Ideal.τ).loc Cert.Kernel23Ideal.main_arg28)
          ∧ r.2.mem ((c.tc : Thread Cert.Kernel23Ideal.nD Cert.Kernel23Ideal.τ).loc Cert.Kernel23Ideal.main_arg29) = m ((c.tc : Thread Cert.Kernel23Ideal.nD Cert.Kernel23Ideal.τ).loc Cert.Kernel23Ideal.main_arg29)
          ∧ r.2.mem ((c.tc : Thread Cert.Kernel23Ideal.nD Cert.Kernel23Ideal.τ).loc Cert.Kernel23Ideal.main_arg30) = m ((c.tc : Thread Cert.Kernel23Ideal.nD Cert.Kernel23Ideal.τ).loc Cert.Kernel23Ideal.main_arg30)
          ∧ r.2.mem ((c.tc : Thread Cert.Kernel23Ideal.nD Cert.Kernel23Ideal.τ).loc Cert.Kernel23Ideal.main_arg31) = m ((c.tc : Thread Cert.Kernel23Ideal.nD Cert.Kernel23Ideal.τ).loc Cert.Kernel23Ideal.main_arg31)
          ∧ r.2.mem ((c.tc : Thread Cert.Kernel23Ideal.nD Cert.Kernel23Ideal.τ).loc Cert.Kernel23Ideal.main_arg32) = m ((c.tc : Thread Cert.Kernel23Ideal.nD Cert.Kernel23Ideal.τ).loc Cert.Kernel23Ideal.main_arg32)
          ∧ r.2.mem ((c.tc : Thread Cert.Kernel23Ideal.nD Cert.Kernel23Ideal.τ).loc Cert.Kernel23Ideal.main_arg33) = m ((c.tc : Thread Cert.Kernel23Ideal.nD Cert.Kernel23Ideal.τ).loc Cert.Kernel23Ideal.main_arg33)
          ∧ r.2.mem ((c.tc : Thread Cert.Kernel23Ideal.nD Cert.Kernel23Ideal.τ).loc Cert.Kernel23Ideal.main_arg34) = m ((c.tc : Thread Cert.Kernel23Ideal.nD Cert.Kernel23Ideal.τ).loc Cert.Kernel23Ideal.main_arg34)
          ∧ r.2.mem ((c.tc : Thread Cert.Kernel23Ideal.nD Cert.Kernel23Ideal.τ).loc Cert.Kernel23Ideal.main_arg35) = m ((c.tc : Thread Cert.Kernel23Ideal.nD Cert.Kernel23Ideal.τ).loc Cert.Kernel23Ideal.main_arg35))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v256) = v0 c
          ∧ r.2.mem ((c.tc : Thread Cert.Reference23Ideal.nD Cert.Reference23Ideal.τ).loc Cert.Reference23Ideal.main_v279) = v1 c
          ∧ r.2.mem ((c.tc : Thread Cert.Reference23Ideal.nD Cert.Reference23Ideal.τ).loc Cert.Reference23Ideal.main_v302) = v2 c
          ∧ r.2.mem ((c.tc : Thread Cert.Reference23Ideal.nD Cert.Reference23Ideal.τ).loc Cert.Reference23Ideal.main_v325) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9)
          ∧ r.2.mem ((c.tc : Thread Cert.Reference23Ideal.nD Cert.Reference23Ideal.τ).loc Cert.Reference23Ideal.main_arg10) = m' ((c.tc : Thread Cert.Reference23Ideal.nD Cert.Reference23Ideal.τ).loc Cert.Reference23Ideal.main_arg10)
          ∧ r.2.mem ((c.tc : Thread Cert.Reference23Ideal.nD Cert.Reference23Ideal.τ).loc Cert.Reference23Ideal.main_arg11) = m' ((c.tc : Thread Cert.Reference23Ideal.nD Cert.Reference23Ideal.τ).loc Cert.Reference23Ideal.main_arg11)
          ∧ r.2.mem ((c.tc : Thread Cert.Reference23Ideal.nD Cert.Reference23Ideal.τ).loc Cert.Reference23Ideal.main_arg12) = m' ((c.tc : Thread Cert.Reference23Ideal.nD Cert.Reference23Ideal.τ).loc Cert.Reference23Ideal.main_arg12)
          ∧ r.2.mem ((c.tc : Thread Cert.Reference23Ideal.nD Cert.Reference23Ideal.τ).loc Cert.Reference23Ideal.main_arg13) = m' ((c.tc : Thread Cert.Reference23Ideal.nD Cert.Reference23Ideal.τ).loc Cert.Reference23Ideal.main_arg13)
          ∧ r.2.mem ((c.tc : Thread Cert.Reference23Ideal.nD Cert.Reference23Ideal.τ).loc Cert.Reference23Ideal.main_arg14) = m' ((c.tc : Thread Cert.Reference23Ideal.nD Cert.Reference23Ideal.τ).loc Cert.Reference23Ideal.main_arg14)
          ∧ r.2.mem ((c.tc : Thread Cert.Reference23Ideal.nD Cert.Reference23Ideal.τ).loc Cert.Reference23Ideal.main_arg15) = m' ((c.tc : Thread Cert.Reference23Ideal.nD Cert.Reference23Ideal.τ).loc Cert.Reference23Ideal.main_arg15)
          ∧ r.2.mem ((c.tc : Thread Cert.Reference23Ideal.nD Cert.Reference23Ideal.τ).loc Cert.Reference23Ideal.main_arg16) = m' ((c.tc : Thread Cert.Reference23Ideal.nD Cert.Reference23Ideal.τ).loc Cert.Reference23Ideal.main_arg16)
          ∧ r.2.mem ((c.tc : Thread Cert.Reference23Ideal.nD Cert.Reference23Ideal.τ).loc Cert.Reference23Ideal.main_arg17) = m' ((c.tc : Thread Cert.Reference23Ideal.nD Cert.Reference23Ideal.τ).loc Cert.Reference23Ideal.main_arg17)
          ∧ r.2.mem ((c.tc : Thread Cert.Reference23Ideal.nD Cert.Reference23Ideal.τ).loc Cert.Reference23Ideal.main_arg18) = m' ((c.tc : Thread Cert.Reference23Ideal.nD Cert.Reference23Ideal.τ).loc Cert.Reference23Ideal.main_arg18)
          ∧ r.2.mem ((c.tc : Thread Cert.Reference23Ideal.nD Cert.Reference23Ideal.τ).loc Cert.Reference23Ideal.main_arg19) = m' ((c.tc : Thread Cert.Reference23Ideal.nD Cert.Reference23Ideal.τ).loc Cert.Reference23Ideal.main_arg19)
          ∧ r.2.mem ((c.tc : Thread Cert.Reference23Ideal.nD Cert.Reference23Ideal.τ).loc Cert.Reference23Ideal.main_arg20) = m' ((c.tc : Thread Cert.Reference23Ideal.nD Cert.Reference23Ideal.τ).loc Cert.Reference23Ideal.main_arg20)
          ∧ r.2.mem ((c.tc : Thread Cert.Reference23Ideal.nD Cert.Reference23Ideal.τ).loc Cert.Reference23Ideal.main_arg21) = m' ((c.tc : Thread Cert.Reference23Ideal.nD Cert.Reference23Ideal.τ).loc Cert.Reference23Ideal.main_arg21)
          ∧ r.2.mem ((c.tc : Thread Cert.Reference23Ideal.nD Cert.Reference23Ideal.τ).loc Cert.Reference23Ideal.main_arg22) = m' ((c.tc : Thread Cert.Reference23Ideal.nD Cert.Reference23Ideal.τ).loc Cert.Reference23Ideal.main_arg22)
          ∧ r.2.mem ((c.tc : Thread Cert.Reference23Ideal.nD Cert.Reference23Ideal.τ).loc Cert.Reference23Ideal.main_arg23) = m' ((c.tc : Thread Cert.Reference23Ideal.nD Cert.Reference23Ideal.τ).loc Cert.Reference23Ideal.main_arg23)
          ∧ r.2.mem ((c.tc : Thread Cert.Reference23Ideal.nD Cert.Reference23Ideal.τ).loc Cert.Reference23Ideal.main_arg24) = m' ((c.tc : Thread Cert.Reference23Ideal.nD Cert.Reference23Ideal.τ).loc Cert.Reference23Ideal.main_arg24)
          ∧ r.2.mem ((c.tc : Thread Cert.Reference23Ideal.nD Cert.Reference23Ideal.τ).loc Cert.Reference23Ideal.main_arg25) = m' ((c.tc : Thread Cert.Reference23Ideal.nD Cert.Reference23Ideal.τ).loc Cert.Reference23Ideal.main_arg25)
          ∧ r.2.mem ((c.tc : Thread Cert.Reference23Ideal.nD Cert.Reference23Ideal.τ).loc Cert.Reference23Ideal.main_arg26) = m' ((c.tc : Thread Cert.Reference23Ideal.nD Cert.Reference23Ideal.τ).loc Cert.Reference23Ideal.main_arg26)
          ∧ r.2.mem ((c.tc : Thread Cert.Reference23Ideal.nD Cert.Reference23Ideal.τ).loc Cert.Reference23Ideal.main_arg27) = m' ((c.tc : Thread Cert.Reference23Ideal.nD Cert.Reference23Ideal.τ).loc Cert.Reference23Ideal.main_arg27)
          ∧ r.2.mem ((c.tc : Thread Cert.Reference23Ideal.nD Cert.Reference23Ideal.τ).loc Cert.Reference23Ideal.main_arg28) = m' ((c.tc : Thread Cert.Reference23Ideal.nD Cert.Reference23Ideal.τ).loc Cert.Reference23Ideal.main_arg28)
          ∧ r.2.mem ((c.tc : Thread Cert.Reference23Ideal.nD Cert.Reference23Ideal.τ).loc Cert.Reference23Ideal.main_arg29) = m' ((c.tc : Thread Cert.Reference23Ideal.nD Cert.Reference23Ideal.τ).loc Cert.Reference23Ideal.main_arg29)
          ∧ r.2.mem ((c.tc : Thread Cert.Reference23Ideal.nD Cert.Reference23Ideal.τ).loc Cert.Reference23Ideal.main_arg30) = m' ((c.tc : Thread Cert.Reference23Ideal.nD Cert.Reference23Ideal.τ).loc Cert.Reference23Ideal.main_arg30)
          ∧ r.2.mem ((c.tc : Thread Cert.Reference23Ideal.nD Cert.Reference23Ideal.τ).loc Cert.Reference23Ideal.main_arg31) = m' ((c.tc : Thread Cert.Reference23Ideal.nD Cert.Reference23Ideal.τ).loc Cert.Reference23Ideal.main_arg31)
          ∧ r.2.mem ((c.tc : Thread Cert.Reference23Ideal.nD Cert.Reference23Ideal.τ).loc Cert.Reference23Ideal.main_arg32) = m' ((c.tc : Thread Cert.Reference23Ideal.nD Cert.Reference23Ideal.τ).loc Cert.Reference23Ideal.main_arg32)
          ∧ r.2.mem ((c.tc : Thread Cert.Reference23Ideal.nD Cert.Reference23Ideal.τ).loc Cert.Reference23Ideal.main_arg33) = m' ((c.tc : Thread Cert.Reference23Ideal.nD Cert.Reference23Ideal.τ).loc Cert.Reference23Ideal.main_arg33)
          ∧ r.2.mem ((c.tc : Thread Cert.Reference23Ideal.nD Cert.Reference23Ideal.τ).loc Cert.Reference23Ideal.main_arg34) = m' ((c.tc : Thread Cert.Reference23Ideal.nD Cert.Reference23Ideal.τ).loc Cert.Reference23Ideal.main_arg34)
          ∧ r.2.mem ((c.tc : Thread Cert.Reference23Ideal.nD Cert.Reference23Ideal.τ).loc Cert.Reference23Ideal.main_arg35) = m' ((c.tc : Thread Cert.Reference23Ideal.nD Cert.Reference23Ideal.τ).loc Cert.Reference23Ideal.main_arg35))

def preserves_Kernel24_Kernel24Ideal : Prop :=
  IdealRules.named_const.Statement Cert.Kernel24Ideal.κ "c1" .f32 0x3FC48605#32 ((8388608 / 5463681 : ℝ) : EReal)
  ∧ IdealRules.named_const.Statement Cert.Kernel24Ideal.κ "c2" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)) →
    ∃ (v0 : (c : Dev Cert.Kernel24Ideal.nD) → Buf (Elt Ideal) ((c.tc : Thread Cert.Kernel24Ideal.nD Cert.Kernel24Ideal.τ).loc Cert.Kernel24Ideal.main_v30_0)) (v1 : (c : Dev Cert.Kernel24Ideal.nD) → Buf (Elt Ideal) ((c.tc : Thread Cert.Kernel24Ideal.nD Cert.Kernel24Ideal.τ).loc Cert.Kernel24Ideal.main_v30_1)) (v2 : (c : Dev Cert.Kernel24Ideal.nD) → Buf (Elt Ideal) ((c.tc : Thread Cert.Kernel24Ideal.nD Cert.Kernel24Ideal.τ).loc Cert.Kernel24Ideal.main_v30_2)) (v3 : (c : Dev Cert.Kernel24Ideal.nD) → Buf (Elt Ideal) ((c.tc : Thread Cert.Kernel24Ideal.nD Cert.Kernel24Ideal.τ).loc Cert.Kernel24Ideal.main_v30_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v30_0) = v0 c
          ∧ r.2.mem ((c.tc : Thread Cert.Kernel24Ideal.nD Cert.Kernel24Ideal.τ).loc Cert.Kernel24Ideal.main_v30_1) = v1 c
          ∧ r.2.mem ((c.tc : Thread Cert.Kernel24Ideal.nD Cert.Kernel24Ideal.τ).loc Cert.Kernel24Ideal.main_v30_2) = v2 c
          ∧ r.2.mem ((c.tc : Thread Cert.Kernel24Ideal.nD Cert.Kernel24Ideal.τ).loc Cert.Kernel24Ideal.main_v30_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v58) = v0 c
          ∧ r.2.mem ((c.tc : Thread Cert.Reference24Ideal.nD Cert.Reference24Ideal.τ).loc Cert.Reference24Ideal.main_v65) = v1 c
          ∧ r.2.mem ((c.tc : Thread Cert.Reference24Ideal.nD Cert.Reference24Ideal.τ).loc Cert.Reference24Ideal.main_v72) = v2 c
          ∧ r.2.mem ((c.tc : Thread Cert.Reference24Ideal.nD Cert.Reference24Ideal.τ).loc Cert.Reference24Ideal.main_v79) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v57) = v0 c
          ∧ r.2.mem ((c.tc : Thread Cert.Reference25Ideal.nD Cert.Reference25Ideal.τ).loc Cert.Reference25Ideal.main_v63) = v1 c
          ∧ r.2.mem ((c.tc : Thread Cert.Reference25Ideal.nD Cert.Reference25Ideal.τ).loc Cert.Reference25Ideal.main_v67) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v50) = v0 c
          ∧ r.2.mem ((c.tc : Thread Cert.Reference31Ideal.nD Cert.Reference31Ideal.τ).loc Cert.Reference31Ideal.main_v59) = v1 c
          ∧ r.2.mem ((c.tc : Thread Cert.Reference31Ideal.nD Cert.Reference31Ideal.τ).loc Cert.Reference31Ideal.main_v61) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)
      ∧ m' ((c.tc : Thread Cert.Reference32Ideal.nD Cert.Reference32Ideal.τ).loc Cert.Reference32Ideal.main_arg6) = m ((c.tc : Thread Cert.Kernel32Ideal.nD Cert.Kernel32Ideal.τ).loc Cert.Kernel32Ideal.main_arg6)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
          ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v43) = v0 c
          ∧ r.2.mem ((c.tc : Thread Cert.Reference32Ideal.nD Cert.Reference32Ideal.τ).loc Cert.Reference32Ideal.main_v52) = v1 c
          ∧ r.2.mem ((c.tc : Thread Cert.Reference32Ideal.nD Cert.Reference32Ideal.τ).loc Cert.Reference32Ideal.main_v54) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5)
          ∧ r.2.mem ((c.tc : Thread Cert.Reference32Ideal.nD Cert.Reference32Ideal.τ).loc Cert.Reference32Ideal.main_arg6) = m' ((c.tc : Thread Cert.Reference32Ideal.nD Cert.Reference32Ideal.τ).loc Cert.Reference32Ideal.main_arg6))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v43) = v0 c
          ∧ r.2.mem ((c.tc : Thread Cert.Reference33Ideal.nD Cert.Reference33Ideal.τ).loc Cert.Reference33Ideal.main_v52) = v1 c
          ∧ r.2.mem ((c.tc : Thread Cert.Reference33Ideal.nD Cert.Reference33Ideal.τ).loc Cert.Reference33Ideal.main_v54) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v11) = v0 c
          ∧ r.2.mem ((c.tc : Thread Cert.Reference34Ideal.nD Cert.Reference34Ideal.τ).loc Cert.Reference34Ideal.main_v3) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v22) = v0 c
          ∧ r.2.mem ((c.tc : Thread Cert.Reference35Ideal.nD Cert.Reference35Ideal.τ).loc Cert.Reference35Ideal.main_v18) = v1 c
          ∧ r.2.mem ((c.tc : Thread Cert.Reference35Ideal.nD Cert.Reference35Ideal.τ).loc Cert.Reference35Ideal.main_v24) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
-- ==== Kernel.lean ====
abbrev S4096x1024 : Shape := ⟨2, ![4096, 1024]⟩
abbrev S4096x3072 : Shape := ⟨2, ![4096, 3072]⟩
abbrev S3x1024 : Shape := ⟨2, ![3, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S3x4096x1024 : Shape := ⟨3, ![3, 4096, 1024]⟩
abbrev S4096x128 : Shape := ⟨2, ![4096, 128]⟩
abbrev S8x128 : Shape := ⟨2, ![8, 128]⟩
abbrev S3x4096x128 : Shape := ⟨3, ![3, 4096, 128]⟩
abbrev S1x128 : Shape := ⟨2, ![1, 128]⟩
abbrev S1x4096x128 : Shape := ⟨3, ![1, 4096, 128]⟩
abbrev S128 : Shape := ⟨1, ![128]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S1x1024, .f32⟩
  | .hbm, ⟨4, _⟩ => ⟨S4x1024, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S3x4096x1024, .bf16⟩
  | .hbm, ⟨9, _⟩ => ⟨S8x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S8x128, .f32⟩
  | .local _ .vmem, ⟨9, _⟩ => ⟨S8x128, .f32⟩
  | .local _ .vmem, ⟨10, _⟩ => ⟨S3x4096x128, .bf16⟩
  | .local _ .vmem, ⟨11, _⟩ => ⟨S3x4096x128, .bf16⟩
  | .local _ .vmem, ⟨12, _⟩ => ⟨S8x128, .f32⟩
  | .local _ .vmem, ⟨13, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x1024 : Shape := ⟨2, ![4096, 1024]⟩
abbrev S4096x3072 : Shape := ⟨2, ![4096, 3072]⟩
abbrev S3x1024 : Shape := ⟨2, ![3, 1024]⟩
abbrev S1x1024 : Shape := ⟨2, ![1, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩
abbrev S1x4096x1024 : Shape := ⟨3, ![1, 4096, 1024]⟩
abbrev S3x4096x1024 : Shape := ⟨3, ![3, 4096, 1024]⟩
abbrev S4x1024 : Shape := ⟨2, ![4, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S1x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S2x1024, .f32⟩
  | .hbm, ⟨11, _⟩ => ⟨S4098x1024, .f32⟩
  | .hbm, ⟨12, _⟩ => ⟨S_, .f32⟩
  | .hbm, ⟨13, _⟩ => ⟨S2x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S4098x1024, .f32⟩
  | .hbm, ⟨45, _⟩ => ⟨S_, .f32⟩
  | .hbm, ⟨46, _⟩ => ⟨S3x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S4098x1024, .f32⟩
  | .hbm, ⟨55, _⟩ => ⟨S4098x1024, .f32⟩
  | .hbm, ⟨56, _⟩ => ⟨S_, .f32⟩
  | .hbm, ⟨57, _⟩ => ⟨S3x1024, .f32⟩
  | .hbm, ⟨58, _⟩ => ⟨S3x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S4098x1024, .f32⟩
  | .hbm, ⟨67, _⟩ => ⟨S4098x1024, .f32⟩
  | .hbm, ⟨68, _⟩ => ⟨S_, .f32⟩
  | .hbm, ⟨69, _⟩ => ⟨S3x1024, .f32⟩
  | .hbm, ⟨70, _⟩ => ⟨S3x1024, .f32⟩
  | .hbm, ⟨71, _⟩ => ⟨S2x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x3072, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S3x4096x1024, .f32⟩
  | .hbm, ⟨83, _⟩ => ⟨S3x4096x1024, .bf16⟩
  | .hbm, ⟨84, _⟩ => ⟨S_, .f32⟩
  | .hbm, ⟨85, _⟩ => ⟨S4x1024, .f32⟩
  | .hbm, ⟨86, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S_ : Shape := ⟨0, ![]⟩
abbrev S4096x256 : Shape := ⟨2, ![4096, 256]⟩
abbrev S256x1024 : Shape := ⟨2, ![256, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== Reference5Ideal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x4096, .f32⟩
  | .hbm, ⟨31, _⟩ => ⟨S4096x4096, .f32⟩
  | .hbm, ⟨32, _⟩ => ⟨S4096x4096, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .bf16⟩
  | .hbm, ⟨71, _⟩ => ⟨S_, .f32⟩
  | .hbm, ⟨72, _⟩ => ⟨S5x1024, .f32⟩
  | .hbm, ⟨73, _⟩ => ⟨S8x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel6.lean ====
abbrev S4096x1024 : Shape := ⟨2, ![4096, 1024]⟩
abbrev S4096x2048 : Shape := ⟨2, ![4096, 2048]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S8x1024 : Shape := ⟨2, ![8, 1024]⟩
abbrev S512x1024 : Shape := ⟨2, ![512, 1024]⟩
abbrev S512x2048 : Shape := ⟨2, ![512, 2048]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 31
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S8x128x128, .f32⟩
  | .hbm, ⟨24, _⟩ => ⟨S8x128x128, .bf16⟩
  | .hbm, ⟨25, _⟩ => ⟨S8x128x1, .f32⟩
  | .hbm, ⟨26, _⟩ => ⟨S8x128x128, .f32⟩
  | .hbm, ⟨27, _⟩ => ⟨S4096x2048, .bf16⟩
  | .hbm, ⟨28, _⟩ => ⟨S8x128x128, .f32⟩
  | .hbm, ⟨29, _⟩ => ⟨S8x128x128, .f32⟩
  | .hbm, ⟨30, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x1024, .f32⟩
  | .local _ .vmem, ⟨5, _⟩ => ⟨S8x128x128, .bf16⟩
  | .local _ .vmem, ⟨6, _⟩ => ⟨S8x128x128, .bf16⟩
  | .local _ .vmem, ⟨7, _⟩ => ⟨S8x128x128, .f32⟩
  | .local _ .vmem, ⟨8, _⟩ => ⟨S512x2048, .bf16⟩
  | .local _ .vmem, ⟨9, _⟩ => ⟨S512x2048, .bf16⟩
  | .local _ .vmem, ⟨10, _⟩ => ⟨S8x128x128, .f32⟩
  | .local _ .vmem, ⟨11, _⟩ => ⟨S8x128x128, .f32⟩
  | .local _ .vmem, ⟨12, _⟩ => ⟨S8x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S4096x1024 : Shape := ⟨2, ![4096, 1024]⟩
abbrev S4096x2048 : Shape := ⟨2, ![4096, 2048]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S4096 : Shape := ⟨1, ![4096]⟩
abbrev S4096x1 : Shape := ⟨2, ![4096, 1]⟩
abbrev S32x128x8x128 : Shape := ⟨4, ![32, 128, 8, 128]⟩
abbrev S8x32x128x128 : Shape := ⟨4, ![8, 32, 128, 128]⟩
abbrev S128x8x128 : Shape := ⟨3, ![128, 8, 128]⟩
abbrev S1x128x8x128 : Shape := ⟨4, ![1, 128, 8, 128]⟩
abbrev S1024 : Shape := ⟨1, ![1024]⟩
abbrev S7x1024 : Shape := ⟨2, ![7, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S8x128x128, .f32⟩
  | .hbm, ⟨19, _⟩ => ⟨S8x128x128, .i1⟩
  | .hbm, ⟨20, _⟩ => ⟨S8x128x128, .f32⟩
  | .hbm, ⟨21, _⟩ => ⟨S8x128x1, .f32⟩
  | .hbm, ⟨22, _⟩ => ⟨S8x128x128, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S32x128x8x128, .f32⟩
  | .hbm, ⟨45, _⟩ => ⟨S8x32x128x128, .f32⟩
  | .hbm, ⟨46, _⟩ => ⟨S32x128x8x128, .f32⟩
  | .hbm, ⟨47, _⟩ => ⟨S128x8x128, .f32⟩
  | .hbm, ⟨48, _⟩ => ⟨S1x128x8x128, .f32⟩
  | .hbm, ⟨49, _⟩ => ⟨S32x128x8x128, .f32⟩
  | .hbm, ⟨50, _⟩ => ⟨S32x128x8x128, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S32x128x8x128, .f32⟩
  | .hbm, ⟨56, _⟩ => ⟨S_, .f32⟩
  | .hbm, ⟨57, _⟩ => ⟨S128x8x128, .f32⟩
  | .hbm, ⟨58, _⟩ => ⟨S1x128x8x128, .f32⟩
  | .hbm, ⟨59, _⟩ => ⟨S_, .f32⟩
  | .hbm, ⟨60, _⟩ => ⟨S128x8x128, .f32⟩
  | .hbm, ⟨61, _⟩ => ⟨S8x128x128, .f32⟩
  | .hbm, ⟨62, _⟩ => ⟨S8x32x128x128, .f32⟩
  | .hbm, ⟨63, _⟩ => ⟨S8x128x128, .f32⟩
  | .hbm, ⟨64, _⟩ => ⟨S8x32x128x128, .f32⟩
  | .hbm, ⟨65, _⟩ => ⟨S32x128x8x128, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x2048, .f32⟩
  | .hbm, ⟨91, _⟩ => ⟨S4096x2048, .bf16⟩
  | .hbm, ⟨92, _⟩ => ⟨S_, .f32⟩
  | .hbm, ⟨93, _⟩ => ⟨S7x1024, .f32⟩
  | .hbm, ⟨94, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Kernel7.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .bf16⟩
  | .hbm, ⟨17, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference8Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel9.lean ====
abbrev S4096x1024 : Shape := ⟨2, ![4096, 1024]⟩
abbrev S1024x3072 : Shape := ⟨2, ![1024, 3072]⟩
abbrev S4096x3072 : Shape := ⟨2, ![4096, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference10Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S3x4096x1024 : Shape := ⟨3, ![3, 4096, 1024]⟩
abbrev S1024x3072 : Shape := ⟨2, ![1024, 3072]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S1024x3072, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S3x4096x1024 : Shape := ⟨3, ![3, 4096, 1024]⟩
abbrev S1x4096x1024 : Shape := ⟨3, ![1, 4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S1x4096x1024, .bf16⟩
  | .hbm, ⟨3, _⟩ => ⟨S4096x1024, .bf16⟩
  | .hbm, ⟨4, _⟩ => ⟨S1x4096x1024, .bf16⟩
  | .hbm, ⟨5, _⟩ => ⟨S4096x1024, .bf16⟩
  | .hbm, ⟨6, _⟩ => ⟨S1x4096x1024, .bf16⟩
  | .hbm, ⟨7, _⟩ => ⟨S4096x1024, .bf16⟩
  | .hbm, ⟨8, _⟩ => ⟨S4096x3072, .bf16⟩
  | .hbm, ⟨9, _⟩ => ⟨S4096x3072, .f32⟩
  | .hbm, ⟨10, _⟩ => ⟨S_, .f32⟩
  | .hbm, ⟨11, _⟩ => ⟨S1024x3072, .f32⟩
  | .hbm, ⟨12, _⟩ => ⟨S4096x1024, .f32⟩
  | .hbm, ⟨13, _⟩ => ⟨S4096x3072, .f32⟩
  | .hbm, ⟨14, _⟩ => ⟨S3072x1024, .f32⟩
  | .hbm, ⟨15, _⟩ => ⟨S1024x3072, .f32⟩
  | .hbm, ⟨16, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel14.lean ====
abbrev S3x4096x1024 : Shape := ⟨3, ![3, 4096, 1024]⟩
abbrev S1024x3072 : Shape := ⟨2, ![1024, 3072]⟩
abbrev S4096x1024 : Shape := ⟨2, ![4096, 1024]⟩
abbrev S1x1024 : Shape := ⟨2, ![1, 1024]⟩
abbrev S8x1024 : Shape := ⟨2, ![8, 1024]⟩
abbrev S3x512x1024 : Shape := ⟨3, ![3, 512, 1024]⟩
abbrev S512x1024 : Shape := ⟨2, ![512, 1024]⟩
abbrev S1x512x1024 : Shape := ⟨3, ![1, 512, 1024]⟩
abbrev S512x3072 : Shape := ⟨2, ![512, 3072]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S3x4096x1024, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S8x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference14Ideal.lean ====
abbrev S3x4096x1024 : Shape := ⟨3, ![3, 4096, 1024]⟩
abbrev S1024x3072 : Shape := ⟨2, ![1024, 3072]⟩
abbrev S4096x1024 : Shape := ⟨2, ![4096, 1024]⟩
abbrev S1x1024 : Shape := ⟨2, ![1, 1024]⟩
abbrev S1x4096x1024 : Shape := ⟨3, ![1, 4096, 1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 69
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x4096x1024, .bf16⟩
  | .hbm, ⟨6, _⟩ => ⟨S4096x1024, .bf16⟩
  | .hbm, ⟨7, _⟩ => ⟨S1x4096x1024, .bf16⟩
  | .hbm, ⟨8, _⟩ => ⟨S4096x1024, .bf16⟩
  | .hbm, ⟨9, _⟩ => ⟨S1x4096x1024, .bf16⟩
  | .hbm, ⟨10, _⟩ => ⟨S4096x1024, .bf16⟩
  | .hbm, ⟨11, _⟩ => ⟨S4096x3072, .bf16⟩
  | .hbm, ⟨12, _⟩ => ⟨S4096x3072, .f32⟩
  | .hbm, ⟨13, _⟩ => ⟨S_, .f32⟩
  | .hbm, ⟨14, _⟩ => ⟨S1x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1024x3072, .f32⟩
  | .hbm, ⟨37, _⟩ => ⟨S4096x3072, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S6x1024, .f32⟩
  | .hbm, ⟨68, _⟩ => ⟨S8x1024, .f32⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel15.lean ====
abbrev S4x1024x512 : Shape := ⟨3, ![4, 1024, 512]⟩
abbrev S8x1024x512 : Shape := ⟨3, ![8, 1024, 512]⟩
abbrev S1x256x512 : Shape := ⟨3, ![1, 256, 512]⟩
abbrev S8x256x512 : Shape := ⟨3, ![8, 256, 512]⟩
abbrev S256x512 : Shape := ⟨2, ![256, 512]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S8x1024x512, .bf16⟩
  | .hbm, ⟨4, _⟩ => ⟨S8x1024x512, .bf16⟩
  | .hbm, ⟨5, _⟩ => ⟨S8x1024x512, .bf16⟩
  | .hbm, ⟨6, _⟩ => ⟨S8x1024x512, .bf16⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S8x256x512, .bf16⟩
  | .local _ .vmem, ⟨7, _⟩ => ⟨S8x256x512, .bf16⟩
  | .local _ .vmem, ⟨8, _⟩ => ⟨S8x256x512, .bf16⟩
  | .local _ .vmem, ⟨9, _⟩ => ⟨S8x256x512, .bf16⟩
  | .local _ .vmem, ⟨10, _⟩ => ⟨S8x256x512, .bf16⟩
  | .local _ .vmem, ⟨11, _⟩ => ⟨S8x256x512, .bf16⟩
  | .local _ .vmem, ⟨12, _⟩ => ⟨S8x256x512, .bf16⟩
  | .local _ .vmem, ⟨13, _⟩ => ⟨S8x256x512, .bf16⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel15Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference15Ideal.lean ====
abbrev S4x1024x512 : Shape := ⟨3, ![4, 1024, 512]⟩
abbrev S8x1024x512 : Shape := ⟨3, ![8, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 57
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S8x1024x512, .bf16⟩
  | .hbm, ⟨4, _⟩ => ⟨S8x1024x512, .bf16⟩
  | .hbm, ⟨5, _⟩ => ⟨S8x1024x512, .bf16⟩
  | .hbm, ⟨6, _⟩ => ⟨S8x1024x512, .bf16⟩
  | .hbm, ⟨7, _⟩ => ⟨S8x1024x512, .f32⟩
  | .hbm, ⟨8, _⟩ => ⟨S_, .f32⟩
  | .hbm, ⟨9, _⟩ => ⟨S1024x512, .f32⟩
  | .hbm, ⟨10, _⟩ => ⟨S8x1024x512, .f32⟩
  | .hbm, ⟨11, _⟩ => ⟨S_, .f32⟩
  | .hbm, ⟨12, _⟩ => ⟨S1024x512, .f32⟩
  | .hbm, ⟨13, _⟩ => ⟨S8x1024x512, .f32⟩
  | .hbm, ⟨14, _⟩ => ⟨S_, .f32⟩
  | .hbm, ⟨15, _⟩ => ⟨S1024x512, .f32⟩
  | .hbm, ⟨16, _⟩ => ⟨S8x1024x512, .f32⟩
  | .hbm, ⟨17, _⟩ => ⟨S_, .f32⟩
  | .hbm, ⟨18, _⟩ => ⟨S1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S4x1024x512, .f32⟩
  | .hbm, ⟨24, _⟩ => ⟨S_, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .hbm, ⟨31, _⟩ => ⟨S_, .f32⟩
  | .hbm, ⟨32, _⟩ => ⟨S4x1024x512, .f32⟩
  | .hbm, ⟨33, _⟩ => ⟨S4x1024x512, .f32⟩
  | .hbm, ⟨34, _⟩ => ⟨S4x1024x512, .f32⟩
  | .hbm, ⟨35, _⟩ => ⟨S_, .f32⟩
  | .hbm, ⟨36, _⟩ => ⟨S4x1024x512, .f32⟩
  | .hbm, ⟨37, _⟩ => ⟨S4x1024x512, .f32⟩
  | .hbm, ⟨38, _⟩ => ⟨S4x1024x512, .f32⟩
  | .hbm, ⟨39, _⟩ => ⟨S_, .f32⟩
  | .hbm, ⟨40, _⟩ => ⟨S4x1024x512, .f32⟩
  | .hbm, ⟨41, _⟩ => ⟨S4x1024x512, .f32⟩
  | .hbm, ⟨42, _⟩ => ⟨S_, .f32⟩
  | .hbm, ⟨43, _⟩ => ⟨S4x1024x512, .f32⟩
  | .hbm, ⟨44, _⟩ => ⟨S4x1024x512, .f32⟩
  | .hbm, ⟨45, _⟩ => ⟨S4x1024x512, .f32⟩
  | .hbm, ⟨46, _⟩ => ⟨S_, .f32⟩
  | .hbm, ⟨47, _⟩ => ⟨S4x1024x512, .f32⟩
  | .hbm, ⟨48, _⟩ => ⟨S4x1024x512, .f32⟩
  | .hbm, ⟨49, _⟩ => ⟨S4x1024x512, .f32⟩
  | .hbm, ⟨50, _⟩ => ⟨S_, .f32⟩
  | .hbm, ⟨51, _⟩ => ⟨S4x1024x512, .f32⟩
  | .hbm, ⟨52, _⟩ => ⟨S4x1024x512, .f32⟩
  | .hbm, ⟨53, _⟩ => ⟨S4x1024x512, .f32⟩
  | .hbm, ⟨54, _⟩ => ⟨S_, .f32⟩
  | .hbm, ⟨55, _⟩ => ⟨S4x1024x512, .f32⟩
  | .hbm, ⟨56, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel16.lean ====
abbrev S4x512x1024 : Shape := ⟨3, ![4, 512, 1024]⟩
abbrev S8x512x1024 : Shape := ⟨3, ![8, 512, 1024]⟩
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S8x512x1024, .bf16⟩
  | .hbm, ⟨4, _⟩ => ⟨S8x512x1024, .bf16⟩
  | .hbm, ⟨5, _⟩ => ⟨S8x512x1024, .bf16⟩
  | .hbm, ⟨6, _⟩ => ⟨S8x512x1024, .bf16⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S8x128x1024, .bf16⟩
  | .local _ .vmem, ⟨11, _⟩ => ⟨S8x128x1024, .bf16⟩
  | .local _ .vmem, ⟨12, _⟩ => ⟨S8x128x1024, .bf16⟩
  | .local _ .vmem, ⟨13, _⟩ => ⟨S8x128x1024, .bf16⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel16Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference16Ideal.lean ====
abbrev S4x512x1024 : Shape := ⟨3, ![4, 512, 1024]⟩
abbrev S8x512x1024 : Shape := ⟨3, ![8, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S8x512x1024, .bf16⟩
  | .hbm, ⟨4, _⟩ => ⟨S8x512x1024, .bf16⟩
  | .hbm, ⟨5, _⟩ => ⟨S8x512x1024, .bf16⟩
  | .hbm, ⟨6, _⟩ => ⟨S8x512x1024, .bf16⟩
  | .hbm, ⟨7, _⟩ => ⟨S8x512x1024, .f32⟩
  | .hbm, ⟨8, _⟩ => ⟨S_, .f32⟩
  | .hbm, ⟨9, _⟩ => ⟨S512x1024, .f32⟩
  | .hbm, ⟨10, _⟩ => ⟨S8x512x1024, .f32⟩
  | .hbm, ⟨11, _⟩ => ⟨S_, .f32⟩
  | .hbm, ⟨12, _⟩ => ⟨S512x1024, .f32⟩
  | .hbm, ⟨13, _⟩ => ⟨S8x512x1024, .f32⟩
  | .hbm, ⟨14, _⟩ => ⟨S_, .f32⟩
  | .hbm, ⟨15, _⟩ => ⟨S512x1024, .f32⟩
  | .hbm, ⟨16, _⟩ => ⟨S8x512x1024, .f32⟩
  | .hbm, ⟨17, _⟩ => ⟨S_, .f32⟩
  | .hbm, ⟨18, _⟩ => ⟨S512x1024, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S4x512x1024, .f32⟩
  | .hbm, ⟨24, _⟩ => ⟨S_, .f32⟩
  | .hbm, ⟨25, _⟩ => ⟨S4x512x1024, .f32⟩
  | .hbm, ⟨26, _⟩ => ⟨S4x512x1024, .f32⟩
  | .hbm, ⟨27, _⟩ => ⟨S_, .f32⟩
  | .hbm, ⟨28, _⟩ => ⟨S4x512x1024, .f32⟩
  | .hbm, ⟨29, _⟩ => ⟨S4x512x1024, .f32⟩
  | .hbm, ⟨30, _⟩ => ⟨S4x512x1024, .f32⟩
  | .hbm, ⟨31, _⟩ => ⟨S_, .f32⟩
  | .hbm, ⟨32, _⟩ => ⟨S4x512x1024, .f32⟩
  | .hbm, ⟨33, _⟩ => ⟨S4x512x1024, .f32⟩
  | .hbm, ⟨34, _⟩ => ⟨S4x512x1024, .f32⟩
  | .hbm, ⟨35, _⟩ => ⟨S_, .f32⟩
  | .hbm, ⟨36, _⟩ => ⟨S4x512x1024, .f32⟩
  | .hbm, ⟨37, _⟩ => ⟨S4x512x1024, .f32⟩
  | .hbm, ⟨38, _⟩ => ⟨S4x512x1024, .f32⟩
  | .hbm, ⟨39, _⟩ => ⟨S_, .f32⟩
  | .hbm, ⟨40, _⟩ => ⟨S4x512x1024, .f32⟩
  | .hbm, ⟨41, _⟩ => ⟨S4x512x1024, .f32⟩
  | .hbm, ⟨42, _⟩ => ⟨S_, .f32⟩
  | .hbm, ⟨43, _⟩ => ⟨S4x512x1024, .f32⟩
  | .hbm, ⟨44, _⟩ => ⟨S4x512x1024, .f32⟩
  | .hbm, ⟨45, _⟩ => ⟨S4x512x1024, .f32⟩
  | .hbm, ⟨46, _⟩ => ⟨S_, .f32⟩
  | .hbm, ⟨47, _⟩ => ⟨S4x512x1024, .f32⟩
  | .hbm, ⟨48, _⟩ => ⟨S4x512x1024, .f32⟩
  | .hbm, ⟨49, _⟩ => ⟨S4x512x1024, .f32⟩
  | .hbm, ⟨50, _⟩ => ⟨S_, .f32⟩
  | .hbm, ⟨51, _⟩ => ⟨S4x512x1024, .f32⟩
  | .hbm, ⟨52, _⟩ => ⟨S4x512x1024, .f32⟩
  | .hbm, ⟨53, _⟩ => ⟨S4x512x1024, .f32⟩
  | .hbm, ⟨54, _⟩ => ⟨S_, .f32⟩
  | .hbm, ⟨55, _⟩ => ⟨S4x512x1024, .f32⟩
  | .hbm, ⟨56, _⟩ => ⟨S4x512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel17.lean ====
abbrev S2x1024x384 : Shape := ⟨3, ![2, 1024, 384]⟩
abbrev S8x1024x384 : Shape := ⟨3, ![8, 1024, 384]⟩
abbrev S1x256x384 : Shape := ⟨3, ![1, 256, 384]⟩
abbrev S8x256x384 : Shape := ⟨3, ![8, 256, 384]⟩
abbrev S256x384 : Shape := ⟨2, ![256, 384]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S8x1024x384, .bf16⟩
  | .hbm, ⟨4, _⟩ => ⟨S8x1024x384, .bf16⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S8x256x384, .bf16⟩
  | .local _ .vmem, ⟨7, _⟩ => ⟨S8x256x384, .bf16⟩
  | .local _ .vmem, ⟨8, _⟩ => ⟨S8x256x384, .bf16⟩
  | .local _ .vmem, ⟨9, _⟩ => ⟨S8x256x384, .bf16⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel17Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference17Ideal.lean ====
abbrev S2x1024x384 : Shape := ⟨3, ![2, 1024, 384]⟩
abbrev S8x1024x384 : Shape := ⟨3, ![8, 1024, 384]⟩
abbrev S_ : Shape := ⟨0, ![]⟩
abbrev S1024x384 : Shape := ⟨2, ![1024, 384]⟩
abbrev S1x1024x384 : Shape := ⟨3, ![1, 1024, 384]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S8x1024x384, .bf16⟩
  | .hbm, ⟨4, _⟩ => ⟨S8x1024x384, .bf16⟩
  | .hbm, ⟨5, _⟩ => ⟨S8x1024x384, .f32⟩
  | .hbm, ⟨6, _⟩ => ⟨S_, .f32⟩
  | .hbm, ⟨7, _⟩ => ⟨S1024x384, .f32⟩
  | .hbm, ⟨8, _⟩ => ⟨S8x1024x384, .f32⟩
  | .hbm, ⟨9, _⟩ => ⟨S_, .f32⟩
  | .hbm, ⟨10, _⟩ => ⟨S1024x384, .f32⟩
  | .hbm, ⟨11, _⟩ => ⟨S1x1024x384, .f32⟩
  | .hbm, ⟨12, _⟩ => ⟨S1x1024x384, .f32⟩
  | .hbm, ⟨13, _⟩ => ⟨S2x1024x384, .f32⟩
  | .hbm, ⟨14, _⟩ => ⟨S_, .f32⟩
  | .hbm, ⟨15, _⟩ => ⟨S2x1024x384, .f32⟩
  | .hbm, ⟨16, _⟩ => ⟨S2x1024x384, .f32⟩
  | .hbm, ⟨17, _⟩ => ⟨S_, .f32⟩
  | .hbm, ⟨18, _⟩ => ⟨S2x1024x384, .f32⟩
  | .hbm, ⟨19, _⟩ => ⟨S2x1024x384, .f32⟩
  | .hbm, ⟨20, _⟩ => ⟨S2x1024x384, .f32⟩
  | .hbm, ⟨21, _⟩ => ⟨S_, .f32⟩
  | .hbm, ⟨22, _⟩ => ⟨S2x1024x384, .f32⟩
  | .hbm, ⟨23, _⟩ => ⟨S2x1024x384, .f32⟩
  | .hbm, ⟨24, _⟩ => ⟨S2x1024x384, .f32⟩
  | .hbm, ⟨25, _⟩ => ⟨S_, .f32⟩
  | .hbm, ⟨26, _⟩ => ⟨S2x1024x384, .f32⟩
  | .hbm, ⟨27, _⟩ => ⟨S2x1024x384, .f32⟩
  | .hbm, ⟨28, _⟩ => ⟨S2x1024x384, .f32⟩
  | .hbm, ⟨29, _⟩ => ⟨S_, .f32⟩
  | .hbm, ⟨30, _⟩ => ⟨S2x1024x384, .f32⟩
  | .hbm, ⟨31, _⟩ => ⟨S2x1024x384, .f32⟩
  | .hbm, ⟨32, _⟩ => ⟨S_, .f32⟩
  | .hbm, ⟨33, _⟩ => ⟨S2x1024x384, .f32⟩
  | .hbm, ⟨34, _⟩ => ⟨S2x1024x384, .f32⟩
  | .hbm, ⟨35, _⟩ => ⟨S2x1024x384, .f32⟩
  | .hbm, ⟨36, _⟩ => ⟨S_, .f32⟩
  | .hbm, ⟨37, _⟩ => ⟨S2x1024x384, .f32⟩
  | .hbm, ⟨38, _⟩ => ⟨S2x1024x384, .f32⟩
  | .hbm, ⟨39, _⟩ => ⟨S2x1024x384, .f32⟩
  | .hbm, ⟨40, _⟩ => ⟨S_, .f32⟩
  | .hbm, ⟨41, _⟩ => ⟨S2x1024x384, .f32⟩
  | .hbm, ⟨42, _⟩ => ⟨S2x1024x384, .f32⟩
  | .hbm, ⟨43, _⟩ => ⟨S2x1024x384, .f32⟩
  | .hbm, ⟨44, _⟩ => ⟨S_, .f32⟩
  | .hbm, ⟨45, _⟩ => ⟨S2x1024x384, .f32⟩
  | .hbm, ⟨46, _⟩ => ⟨S2x1024x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S1x1024x256 : Shape := ⟨3, ![1, 1024, 256]⟩
abbrev S8x1024x256 : Shape := ⟨3, ![8, 1024, 256]⟩
abbrev S1x512x256 : Shape := ⟨3, ![1, 512, 256]⟩
abbrev S8x512x256 : Shape := ⟨3, ![8, 512, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S8x1024x256, .bf16⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S8x512x256, .bf16⟩
  | .local _ .vmem, ⟨7, _⟩ => ⟨S8x512x256, .bf16⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel18Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference18Ideal.lean ====
abbrev S1x1024x256 : Shape := ⟨3, ![1, 1024, 256]⟩
abbrev S8x1024x256 : Shape := ⟨3, ![8, 1024, 256]⟩
abbrev S_ : Shape := ⟨0, ![]⟩
abbrev S1024x256 : Shape := ⟨2, ![1024, 256]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S8x1024x256, .bf16⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S1x1024x256, .f32⟩
  | .hbm, ⟨8, _⟩ => ⟨S_, .f32⟩
  | .hbm, ⟨9, _⟩ => ⟨S1x1024x256, .f32⟩
  | .hbm, ⟨10, _⟩ => ⟨S1x1024x256, .f32⟩
  | .hbm, ⟨11, _⟩ => ⟨S_, .f32⟩
  | .hbm, ⟨12, _⟩ => ⟨S1x1024x256, .f32⟩
  | .hbm, ⟨13, _⟩ => ⟨S1x1024x256, .f32⟩
  | .hbm, ⟨14, _⟩ => ⟨S1x1024x256, .f32⟩
  | .hbm, ⟨15, _⟩ => ⟨S_, .f32⟩
  | .hbm, ⟨16, _⟩ => ⟨S1x1024x256, .f32⟩
  | .hbm, ⟨17, _⟩ => ⟨S1x1024x256, .f32⟩
  | .hbm, ⟨18, _⟩ => ⟨S1x1024x256, .f32⟩
  | .hbm, ⟨19, _⟩ => ⟨S_, .f32⟩
  | .hbm, ⟨20, _⟩ => ⟨S1x1024x256, .f32⟩
  | .hbm, ⟨21, _⟩ => ⟨S1x1024x256, .f32⟩
  | .hbm, ⟨22, _⟩ => ⟨S1x1024x256, .f32⟩
  | .hbm, ⟨23, _⟩ => ⟨S_, .f32⟩
  | .hbm, ⟨24, _⟩ => ⟨S1x1024x256, .f32⟩
  | .hbm, ⟨25, _⟩ => ⟨S1x1024x256, .f32⟩
  | .hbm, ⟨26, _⟩ => ⟨S_, .f32⟩
  | .hbm, ⟨27, _⟩ => ⟨S1x1024x256, .f32⟩
  | .hbm, ⟨28, _⟩ => ⟨S1x1024x256, .f32⟩
  | .hbm, ⟨29, _⟩ => ⟨S1x1024x256, .f32⟩
  | .hbm, ⟨30, _⟩ => ⟨S_, .f32⟩
  | .hbm, ⟨31, _⟩ => ⟨S1x1024x256, .f32⟩
  | .hbm, ⟨32, _⟩ => ⟨S1x1024x256, .f32⟩
  | .hbm, ⟨33, _⟩ => ⟨S1x1024x256, .f32⟩
  | .hbm, ⟨34, _⟩ => ⟨S_, .f32⟩
  | .hbm, ⟨35, _⟩ => ⟨S1x1024x256, .f32⟩
  | .hbm, ⟨36, _⟩ => ⟨S1x1024x256, .f32⟩
  | .hbm, ⟨37, _⟩ => ⟨S1x1024x256, .f32⟩
  | .hbm, ⟨38, _⟩ => ⟨S_, .f32⟩
  | .hbm, ⟨39, _⟩ => ⟨S1x1024x256, .f32⟩
  | .hbm, ⟨40, _⟩ => ⟨S1x1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel19.lean ====
abbrev S4x1024x768 : Shape := ⟨3, ![4, 1024, 768]⟩
abbrev S1x1024x768 : Shape := ⟨3, ![1, 1024, 768]⟩
abbrev S1x512x768 : Shape := ⟨3, ![1, 512, 768]⟩
abbrev S512x768 : Shape := ⟨2, ![512, 768]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S4x1024x768, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | .local _ .vmem, ⟨18, _⟩ => ⟨S1x512x768, .f32⟩
  | .local _ .vmem, ⟨19, _⟩ => ⟨S1x512x768, .f32⟩
  | .local _ .vmem, ⟨20, _⟩ => ⟨S1x512x768, .f32⟩
  | .local _ .vmem, ⟨21, _⟩ => ⟨S1x512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel19Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference19Ideal.lean ====
abbrev S4x1024x768 : Shape := ⟨3, ![4, 1024, 768]⟩
abbrev S1x1024x768 : Shape := ⟨3, ![1, 1024, 768]⟩
abbrev S_ : Shape := ⟨0, ![]⟩
abbrev S1024x768 : Shape := ⟨2, ![1024, 768]⟩

abbrev nBuf : Space → Nat
  | .hbm => 53
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S4x1024x768, .f32⟩
  | .hbm, ⟨20, _⟩ => ⟨S_, .f32⟩
  | .hbm, ⟨21, _⟩ => ⟨S4x1024x768, .f32⟩
  | .hbm, ⟨22, _⟩ => ⟨S4x1024x768, .f32⟩
  | .hbm, ⟨23, _⟩ => ⟨S_, .f32⟩
  | .hbm, ⟨24, _⟩ => ⟨S4x1024x768, .f32⟩
  | .hbm, ⟨25, _⟩ => ⟨S4x1024x768, .f32⟩
  | .hbm, ⟨26, _⟩ => ⟨S4x1024x768, .f32⟩
  | .hbm, ⟨27, _⟩ => ⟨S_, .f32⟩
  | .hbm, ⟨28, _⟩ => ⟨S4x1024x768, .f32⟩
  | .hbm, ⟨29, _⟩ => ⟨S4x1024x768, .f32⟩
  | .hbm, ⟨30, _⟩ => ⟨S4x1024x768, .f32⟩
  | .hbm, ⟨31, _⟩ => ⟨S_, .f32⟩
  | .hbm, ⟨32, _⟩ => ⟨S4x1024x768, .f32⟩
  | .hbm, ⟨33, _⟩ => ⟨S4x1024x768, .f32⟩
  | .hbm, ⟨34, _⟩ => ⟨S4x1024x768, .f32⟩
  | .hbm, ⟨35, _⟩ => ⟨S_, .f32⟩
  | .hbm, ⟨36, _⟩ => ⟨S4x1024x768, .f32⟩
  | .hbm, ⟨37, _⟩ => ⟨S4x1024x768, .f32⟩
  | .hbm, ⟨38, _⟩ => ⟨S_, .f32⟩
  | .hbm, ⟨39, _⟩ => ⟨S4x1024x768, .f32⟩
  | .hbm, ⟨40, _⟩ => ⟨S4x1024x768, .f32⟩
  | .hbm, ⟨41, _⟩ => ⟨S4x1024x768, .f32⟩
  | .hbm, ⟨42, _⟩ => ⟨S_, .f32⟩
  | .hbm, ⟨43, _⟩ => ⟨S4x1024x768, .f32⟩
  | .hbm, ⟨44, _⟩ => ⟨S4x1024x768, .f32⟩
  | .hbm, ⟨45, _⟩ => ⟨S4x1024x768, .f32⟩
  | .hbm, ⟨46, _⟩ => ⟨S_, .f32⟩
  | .hbm, ⟨47, _⟩ => ⟨S4x1024x768, .f32⟩
  | .hbm, ⟨48, _⟩ => ⟨S4x1024x768, .f32⟩
  | .hbm, ⟨49, _⟩ => ⟨S4x1024x768, .f32⟩
  | .hbm, ⟨50, _⟩ => ⟨S_, .f32⟩
  | .hbm, ⟨51, _⟩ => ⟨S4x1024x768, .f32⟩
  | .hbm, ⟨52, _⟩ => ⟨S4x1024x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel20.lean ====
abbrev S2x128x1024 : Shape := ⟨3, ![2, 128, 1024]⟩
abbrev S1x128x1024 : Shape := ⟨3, ![1, 128, 1024]⟩
abbrev S8x128x1024 : Shape := ⟨3, ![8, 128, 1024]⟩
abbrev S6x128x1024 : Shape := ⟨3, ![6, 128, 1024]⟩
abbrev S128x1024 : Shape := ⟨2, ![128, 1024]⟩

abbrev nBuf : Space → Nat
  | .hbm => 28
  | .vmem => 26
  | .smem => 0
  | _ => 0

abbrev bufTy : (tb : Table) → Fin (tcTables nBuf tb) → BufTy
  | .hbm, ⟨0, _⟩ => ⟨S2x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S2x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S2x128x1024, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S8x128x1024, .bf16⟩
  | .hbm, ⟨16, _⟩ => ⟨S8x128x1024, .bf16⟩
  | .hbm, ⟨17, _⟩ => ⟨S8x128x1024, .bf16⟩
  | .hbm, ⟨18, _⟩ => ⟨S8x128x1024, .bf16⟩
  | .hbm, ⟨19, _⟩ => ⟨S8x128x1024, .bf16⟩
  | .hbm, ⟨20, _⟩ => ⟨S8x128x1024, .bf16⟩
  | .hbm, ⟨21, _⟩ => ⟨S6x128x1024, .f32⟩
  | .hbm, ⟨22, _⟩ => ⟨S6x128x1024, .f32⟩
  | .hbm, ⟨23, _⟩ => ⟨S6x128x1024, .f32⟩
  | .hbm, ⟨24, _⟩ => ⟨S6x128x1024, .f32⟩
  | .hbm, ⟨25, _⟩ => ⟨S6x128x1024, .f32⟩
  | .hbm, ⟨26, _⟩ => ⟨S6x128x1024, .f32⟩
  | .hbm, ⟨27, _⟩ => ⟨S6x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S8x128x1024, .bf16⟩
  | .local _ .vmem, ⟨11, _⟩ => ⟨S8x128x1024, .bf16⟩
  | .local _ .vmem, ⟨12, _⟩ => ⟨S8x128x1024, .bf16⟩
  | .local _ .vmem, ⟨13, _⟩ => ⟨S8x128x1024, .bf16⟩
  | .local _ .vmem, ⟨14, _⟩ => ⟨S8x128x1024, .bf16⟩
  | .local _ .vmem, ⟨15, _⟩ => ⟨S8x128x1024, .bf16⟩
  | .local _ .vmem, ⟨16, _⟩ => ⟨S8x128x1024, .bf16⟩
  | .local _ .vmem, ⟨17, _⟩ => ⟨S8x128x1024, .bf16⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x128x1024, .f32⟩
  | .local _ .vmem, ⟨24, _⟩ => ⟨S1x128x1024, .f32⟩
  | .local _ .vmem, ⟨25, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3_0 : Ref sig .tc := ⟨.hbm, 24, rfl⟩
abbrev main_v3_1 : Ref sig .tc := ⟨.hbm, 25, rfl⟩
abbrev main_v3_2 : Ref sig .tc := ⟨.hbm, 26, rfl⟩
abbrev main_v3_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![6, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg0 : BitVec 32 := BitVec.ofNat 32 (i 0).val
  let c4_i32 : BitVec 32 := 4#32
  let v12 : BitVec 1 := Scalar.cmpi .eq arg0 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg0 : BitVec 32 := BitVec.ofNat 32 (i 0).val
  let c5_i32 : BitVec 32 := 5#32
  let v15 : BitVec 1 := Scalar.cmpi .eq arg0 c5_i32
  let v16 : BitVec 32 := Scalar.extui v15
  let c0_i32_5 : BitVec 32 := 0#32
  let v17 : BitVec 1 := Scalar.cmpi .ne v16 c0_i32_5
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg0 c5_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel20Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference20Ideal.lean ====
abbrev S2x128x1024 : Shape := ⟨3, ![2, 128, 1024]⟩
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩
abbrev S6x128x1024 : Shape := ⟨3, ![6, 128, 1024]⟩

abbrev nBuf : Space → Nat
  | .hbm => 215
  | .vmem => 0
  | .smem => 0
  | _ => 0

abbrev hbmTy0_0 (i : Nat) : BufTy := match i % 128 with
  | 0 => ⟨S2x128x1024, .f32⟩
  | 1 => ⟨S1x128x1024, .f32⟩
  | 2 => ⟨S1x128x1024, .f32⟩
  | 3 => ⟨S1x128x1024, .f32⟩
  | 4 => ⟨S1x128x1024, .f32⟩
  | 5 => ⟨S2x128x1024, .f32⟩
  | 6 => ⟨S1x128x1024, .f32⟩
  | 7 => ⟨S1x128x1024, .f32⟩
  | 8 => ⟨S1x128x1024, .f32⟩
  | 9 => ⟨S1x128x1024, .f32⟩
  | 10 => ⟨S2x128x1024, .f32⟩
  | 11 => ⟨S1x128x1024, .f32⟩
  | 12 => ⟨S1x128x1024, .f32⟩
  | 13 => ⟨S1x128x1024, .f32⟩
  | 14 => ⟨S1x128x1024, .f32⟩
  | 15 => ⟨S8x128x1024, .bf16⟩
  | 16 => ⟨S8x128x1024, .bf16⟩
  | 17 => ⟨S8x128x1024, .bf16⟩
  | 18 => ⟨S8x128x1024, .bf16⟩
  | 19 => ⟨S8x128x1024, .bf16⟩
  | 20 => ⟨S8x128x1024, .bf16⟩
  | 21 => ⟨S8x128x1024, .f32⟩
  | 22 => ⟨S_, .f32⟩
  | 23 => ⟨S128x1024, .f32⟩
  | 24 => ⟨S8x128x1024, .f32⟩
  | 25 => ⟨S_, .f32⟩
  | 26 => ⟨S128x1024, .f32⟩
  | 27 => ⟨S1x128x1024, .f32⟩
  | 28 => ⟨S1x128x1024, .f32⟩
  | 29 => ⟨S2x128x1024, .f32⟩
  | 30 => ⟨S_, .f32⟩
  | 31 => ⟨S2x128x1024, .f32⟩
  | 32 => ⟨S2x128x1024, .f32⟩
  | 33 => ⟨S_, .f32⟩
  | 34 => ⟨S2x128x1024, .f32⟩
  | 35 => ⟨S2x128x1024, .f32⟩
  | 36 => ⟨S2x128x1024, .f32⟩
  | 37 => ⟨S_, .f32⟩
  | 38 => ⟨S2x128x1024, .f32⟩
  | 39 => ⟨S2x128x1024, .f32⟩
  | 40 => ⟨S2x128x1024, .f32⟩
  | 41 => ⟨S_, .f32⟩
  | 42 => ⟨S2x128x1024, .f32⟩
  | 43 => ⟨S2x128x1024, .f32⟩
  | 44 => ⟨S2x128x1024, .f32⟩
  | 45 => ⟨S_, .f32⟩
  | 46 => ⟨S2x128x1024, .f32⟩
  | 47 => ⟨S2x128x1024, .f32⟩
  | 48 => ⟨S_, .f32⟩
  | 49 => ⟨S2x128x1024, .f32⟩
  | 50 => ⟨S2x128x1024, .f32⟩
  | 51 => ⟨S2x128x1024, .f32⟩
  | 52 => ⟨S_, .f32⟩
  | 53 => ⟨S2x128x1024, .f32⟩
  | 54 => ⟨S2x128x1024, .f32⟩
  | 55 => ⟨S2x128x1024, .f32⟩
  | 56 => ⟨S_, .f32⟩
  | 57 => ⟨S2x128x1024, .f32⟩
  | 58 => ⟨S2x128x1024, .f32⟩
  | 59 => ⟨S2x128x1024, .f32⟩
  | 60 => ⟨S_, .f32⟩
  | 61 => ⟨S2x128x1024, .f32⟩
  | 62 => ⟨S2x128x1024, .f32⟩
  | 63 => ⟨S8x128x1024, .f32⟩
  | 64 => ⟨S_, .f32⟩
  | 65 => ⟨S128x1024, .f32⟩
  | 66 => ⟨S1x128x1024, .f32⟩
  | 67 => ⟨S_, .f32⟩
  | 68 => ⟨S1x128x1024, .f32⟩
  | 69 => ⟨S1x128x1024, .f32⟩
  | 70 => ⟨S_, .f32⟩
  | 71 => ⟨S1x128x1024, .f32⟩
  | 72 => ⟨S1x128x1024, .f32⟩
  | 73 => ⟨S1x128x1024, .f32⟩
  | 74 => ⟨S_, .f32⟩
  | 75 => ⟨S1x128x1024, .f32⟩
  | 76 => ⟨S1x128x1024, .f32⟩
  | 77 => ⟨S1x128x1024, .f32⟩
  | 78 => ⟨S_, .f32⟩
  | 79 => ⟨S1x128x1024, .f32⟩
  | 80 => ⟨S1x128x1024, .f32⟩
  | 81 => ⟨S1x128x1024, .f32⟩
  | 82 => ⟨S_, .f32⟩
  | 83 => ⟨S1x128x1024, .f32⟩
  | 84 => ⟨S1x128x1024, .f32⟩
  | 85 => ⟨S_, .f32⟩
  | 86 => ⟨S1x128x1024, .f32⟩
  | 87 => ⟨S1x128x1024, .f32⟩
  | 88 => ⟨S1x128x1024, .f32⟩
  | 89 => ⟨S_, .f32⟩
  | 90 => ⟨S1x128x1024, .f32⟩
  | 91 => ⟨S1x128x1024, .f32⟩
  | 92 => ⟨S1x128x1024, .f32⟩
  | 93 => ⟨S_, .f32⟩
  | 94 => ⟨S1x128x1024, .f32⟩
  | 95 => ⟨S1x128x1024, .f32⟩
  | 96 => ⟨S1x128x1024, .f32⟩
  | 97 => ⟨S_, .f32⟩
  | 98 => ⟨S1x128x1024, .f32⟩
  | 99 => ⟨S1x128x1024, .f32⟩
  | 100 => ⟨S8x128x1024, .f32⟩
  | 101 => ⟨S_, .f32⟩
  | 102 => ⟨S128x1024, .f32⟩
  | 103 => ⟨S1x128x1024, .f32⟩
  | 104 => ⟨S_, .f32⟩
  | 105 => ⟨S1x128x1024, .f32⟩
  | 106 => ⟨S1x128x1024, .f32⟩
  | 107 => ⟨S_, .f32⟩
  | 108 => ⟨S1x128x1024, .f32⟩
  | 109 => ⟨S1x128x1024, .f32⟩
  | 110 => ⟨S1x128x1024, .f32⟩
  | 111 => ⟨S_, .f32⟩
  | 112 => ⟨S1x128x1024, .f32⟩
  | 113 => ⟨S1x128x1024, .f32⟩
  | 114 => ⟨S1x128x1024, .f32⟩
  | 115 => ⟨S_, .f32⟩
  | 116 => ⟨S1x128x1024, .f32⟩
  | 117 => ⟨S1x128x1024, .f32⟩
  | 118 => ⟨S1x128x1024, .f32⟩
  | 119 => ⟨S_, .f32⟩
  | 120 => ⟨S1x128x1024, .f32⟩
  | 121 => ⟨S1x128x1024, .f32⟩
  | 122 => ⟨S_, .f32⟩
  | 123 => ⟨S1x128x1024, .f32⟩
  | 124 => ⟨S1x128x1024, .f32⟩
  | 125 => ⟨S1x128x1024, .f32⟩
  | 126 => ⟨S_, .f32⟩
  | 127 => ⟨S1x128x1024, .f32⟩
  | _ => ⟨S2x128x1024, .f32⟩

abbrev hbmTy0_1 (i : Nat) : BufTy := match i % 128 with
  | 0 => ⟨S1x128x1024, .f32⟩
  | 1 => ⟨S1x128x1024, .f32⟩
  | 2 => ⟨S_, .f32⟩
  | 3 => ⟨S1x128x1024, .f32⟩
  | 4 => ⟨S1x128x1024, .f32⟩
  | 5 => ⟨S1x128x1024, .f32⟩
  | 6 => ⟨S_, .f32⟩
  | 7 => ⟨S1x128x1024, .f32⟩
  | 8 => ⟨S1x128x1024, .f32⟩
  | 9 => ⟨S8x128x1024, .f32⟩
  | 10 => ⟨S_, .f32⟩
  | 11 => ⟨S128x1024, .f32⟩
  | 12 => ⟨S1x128x1024, .f32⟩
  | 13 => ⟨S_, .f32⟩
  | 14 => ⟨S1x128x1024, .f32⟩
  | 15 => ⟨S1x128x1024, .f32⟩
  | 16 => ⟨S_, .f32⟩
  | 17 => ⟨S1x128x1024, .f32⟩
  | 18 => ⟨S1x128x1024, .f32⟩
  | 19 => ⟨S1x128x1024, .f32⟩
  | 20 => ⟨S_, .f32⟩
  | 21 => ⟨S1x128x1024, .f32⟩
  | 22 => ⟨S1x128x1024, .f32⟩
  | 23 => ⟨S1x128x1024, .f32⟩
  | 24 => ⟨S_, .f32⟩
  | 25 => ⟨S1x128x1024, .f32⟩
  | 26 => ⟨S1x128x1024, .f32⟩
  | 27 => ⟨S1x128x1024, .f32⟩
  | 28 => ⟨S_, .f32⟩
  | 29 => ⟨S1x128x1024, .f32⟩
  | 30 => ⟨S1x128x1024, .f32⟩
  | 31 => ⟨S_, .f32⟩
  | 32 => ⟨S1x128x1024, .f32⟩
  | 33 => ⟨S1x128x1024, .f32⟩
  | 34 => ⟨S1x128x1024, .f32⟩
  | 35 => ⟨S_, .f32⟩
  | 36 => ⟨S1x128x1024, .f32⟩
  | 37 => ⟨S1x128x1024, .f32⟩
  | 38 => ⟨S1x128x1024, .f32⟩
  | 39 => ⟨S_, .f32⟩
  | 40 => ⟨S1x128x1024, .f32⟩
  | 41 => ⟨S1x128x1024, .f32⟩
  | 42 => ⟨S1x128x1024, .f32⟩
  | 43 => ⟨S_, .f32⟩
  | 44 => ⟨S1x128x1024, .f32⟩
  | 45 => ⟨S1x128x1024, .f32⟩
  | 46 => ⟨S8x128x1024, .f32⟩
  | 47 => ⟨S_, .f32⟩
  | 48 => ⟨S128x1024, .f32⟩
  | 49 => ⟨S1x128x1024, .f32⟩
  | 50 => ⟨S_, .f32⟩
  | 51 => ⟨S1x128x1024, .f32⟩
  | 52 => ⟨S1x128x1024, .f32⟩
  | 53 => ⟨S_, .f32⟩
  | 54 => ⟨S1x128x1024, .f32⟩
  | 55 => ⟨S1x128x1024, .f32⟩
  | 56 => ⟨S1x128x1024, .f32⟩
  | 57 => ⟨S_, .f32⟩
  | 58 => ⟨S1x128x1024, .f32⟩
  | 59 => ⟨S1x128x1024, .f32⟩
  | 60 => ⟨S1x128x1024, .f32⟩
  | 61 => ⟨S_, .f32⟩
  | 62 => ⟨S1x128x1024, .f32⟩
  | 63 => ⟨S1x128x1024, .f32⟩
  | 64 => ⟨S1x128x1024, .f32⟩
  | 65 => ⟨S_, .f32⟩
  | 66 => ⟨S1x128x1024, .f32⟩
  | 67 => ⟨S1x128x1024, .f32⟩
  | 68 => ⟨S_, .f32⟩
  | 69 => ⟨S1x128x1024, .f32⟩
  | 70 => ⟨S1x128x1024, .f32⟩
  | 71 => ⟨S1x128x1024, .f32⟩
  | 72 => ⟨S_, .f32⟩
  | 73 => ⟨S1x128x1024, .f32⟩
  | 74 => ⟨S1x128x1024, .f32⟩
  | 75 => ⟨S1x128x1024, .f32⟩
  | 76 => ⟨S_, .f32⟩
  | 77 => ⟨S1x128x1024, .f32⟩
  | 78 => ⟨S1x128x1024, .f32⟩
  | 79 => ⟨S1x128x1024, .f32⟩
  | 80 => ⟨S_, .f32⟩
  | 81 => ⟨S1x128x1024, .f32⟩
  | 82 => ⟨S1x128x1024, .f32⟩
  | 83 => ⟨S6x128x1024, .f32⟩
  | 84 => ⟨S6x128x1024, .f32⟩
  | 85 => ⟨S6x128x1024, .f32⟩
  | 86 => ⟨S6x128x1024, .f32⟩
  | _ => ⟨S2x128x1024, .f32⟩

abbrev hbmTy (i : Nat) : BufTy := match i / 128 with
  | 0 => hbmTy0_0 i
  | 1 => hbmTy0_1 i
  | _ => ⟨S2x128x1024, .f32⟩

abbrev bufTy : (tb : Table) → Fin (tcTables nBuf tb) → BufTy
  | .hbm, ⟨i, _⟩ => hbmTy i
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_1 : Ref sig .tc := ⟨.hbm, 30, rfl⟩
abbrev main_v7 : Ref sig .tc := ⟨.hbm, 31, rfl⟩
abbrev main_v8 : Ref sig .tc := ⟨.hbm, 32, rfl⟩
abbrev main_cst_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_3 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_5 : Ref sig .tc := ⟨.hbm, 45, rfl⟩
abbrev main_v18 : Ref sig .tc := ⟨.hbm, 46, rfl⟩
abbrev main_v19 : Ref sig .tc := ⟨.hbm, 47, rfl⟩
abbrev main_cst_6 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_7 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_8 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_9 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_10 : Ref sig .tc := ⟨.hbm, 64, rfl⟩
abbrev main_v32 : Ref sig .tc := ⟨.hbm, 65, rfl⟩
abbrev main_v33 : Ref sig .tc := ⟨.hbm, 66, rfl⟩
abbrev main_cst_11 : Ref sig .tc := ⟨.hbm, 67, rfl⟩
abbrev main_v34 : Ref sig .tc := ⟨.hbm, 68, rfl⟩
abbrev main_v35 : Ref sig .tc := ⟨.hbm, 69, rfl⟩
abbrev main_cst_12 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_13 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_14 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_15 : Ref sig .tc := ⟨.hbm, 82, rfl⟩
abbrev main_v45 : Ref sig .tc := ⟨.hbm, 83, rfl⟩
abbrev main_v46 : Ref sig .tc := ⟨.hbm, 84, rfl⟩
abbrev main_cst_16 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_17 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_18 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_19 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_20 : Ref sig .tc := ⟨.hbm, 101, rfl⟩
abbrev main_v59 : Ref sig .tc := ⟨.hbm, 102, rfl⟩
abbrev main_v60 : Ref sig .tc := ⟨.hbm, 103, rfl⟩
abbrev main_cst_21 : Ref sig .tc := ⟨.hbm, 104, rfl⟩
abbrev main_v61 : Ref sig .tc := ⟨.hbm, 105, rfl⟩
abbrev main_v62 : Ref sig .tc := ⟨.hbm, 106, rfl⟩
abbrev main_cst_22 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_23 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_24 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_25 : Ref sig .tc := ⟨.hbm, 119, rfl⟩
abbrev main_v72 : Ref sig .tc := ⟨.hbm, 120, rfl⟩
abbrev main_v73 : Ref sig .tc := ⟨.hbm, 121, rfl⟩
abbrev main_cst_26 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_27 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_28 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_29 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_30 : Ref sig .tc := ⟨.hbm, 138, rfl⟩
abbrev main_v86 : Ref sig .tc := ⟨.hbm, 139, rfl⟩
abbrev main_v87 : Ref sig .tc := ⟨.hbm, 140, rfl⟩
abbrev main_cst_31 : Ref sig .tc := ⟨.hbm, 141, rfl⟩
abbrev main_v88 : Ref sig .tc := ⟨.hbm, 142, rfl⟩
abbrev main_v89 : Ref sig .tc := ⟨.hbm, 143, rfl⟩
abbrev main_cst_32 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_33 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_34 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_35 : Ref sig .tc := ⟨.hbm, 156, rfl⟩
abbrev main_v99 : Ref sig .tc := ⟨.hbm, 157, rfl⟩
abbrev main_v100 : Ref sig .tc := ⟨.hbm, 158, rfl⟩
abbrev main_cst_36 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_37 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_38 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_cst_39 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_cst_40 : Ref sig .tc := ⟨.hbm, 175, rfl⟩
abbrev main_v113 : Ref sig .tc := ⟨.hbm, 176, rfl⟩
abbrev main_v114 : Ref sig .tc := ⟨.hbm, 177, rfl⟩
abbrev main_cst_41 : Ref sig .tc := ⟨.hbm, 178, rfl⟩
abbrev main_v115 : Ref sig .tc := ⟨.hbm, 179, rfl⟩
abbrev main_v116 : Ref sig .tc := ⟨.hbm, 180, rfl⟩
abbrev main_cst_42 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_cst_43 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_44 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_45 : Ref sig .tc := ⟨.hbm, 193, rfl⟩
abbrev main_v126 : Ref sig .tc := ⟨.hbm, 194, rfl⟩
abbrev main_v127 : Ref sig .tc := ⟨.hbm, 195, rfl⟩
abbrev main_cst_46 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_cst_47 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_cst_48 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_cst_49 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩

abbrev nD : Nat := 1
abbrev τ : Topo := Topo.v7x

variable {F : FTy → Type} [FloatOps F]
-- ==== Kernel21.lean ====
abbrev S4x6144 : Shape := ⟨2, ![4, 6144]⟩
abbrev S4x1024 : Shape := ⟨2, ![4, 1024]⟩
abbrev S1024 : Shape := ⟨1, ![1024]⟩
abbrev S8x4x6144 : Shape := ⟨3, ![8, 4, 6144]⟩
abbrev S8x4x1024 : Shape := ⟨3, ![8, 4, 1024]⟩
abbrev S8x1024 : Shape := ⟨2, ![8, 1024]⟩
abbrev S24576 : Shape := ⟨1, ![24576]⟩
abbrev S192x128 : Shape := ⟨2, ![192, 128]⟩
abbrev S4096 : Shape := ⟨1, ![4096]⟩
abbrev S32x128 : Shape := ⟨2, ![32, 128]⟩
abbrev S_ : Shape := ⟨0, ![]⟩
abbrev S2048 : Shape := ⟨1, ![2048]⟩
abbrev S16x128 : Shape := ⟨2, ![16, 128]⟩
abbrev S272x128 : Shape := ⟨2, ![272, 128]⟩
abbrev S1x272x128 : Shape := ⟨3, ![1, 272, 128]⟩
abbrev S8x24576 : Shape := ⟨2, ![8, 24576]⟩
abbrev S8x192x128 : Shape := ⟨3, ![8, 192, 128]⟩
abbrev S8x4096 : Shape := ⟨2, ![8, 4096]⟩
abbrev S8x32x128 : Shape := ⟨3, ![8, 32, 128]⟩
abbrev S8x2048 : Shape := ⟨2, ![8, 2048]⟩
abbrev S8x16x128 : Shape := ⟨3, ![8, 16, 128]⟩
abbrev S8x272x128 : Shape := ⟨3, ![8, 272, 128]⟩

abbrev nBuf : Space → Nat
  | .hbm => 67
  | .vmem => 8
  | .smem => 0
  | _ => 0

abbrev bufTy : (tb : Table) → Fin (tcTables nBuf tb) → BufTy
  | .hbm, ⟨0, _⟩ => ⟨S4x6144, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S4x6144, .f32⟩
  | .hbm, ⟨5, _⟩ => ⟨S4x1024, .f32⟩
  | .hbm, ⟨6, _⟩ => ⟨S4x1024, .f32⟩
  | .hbm, ⟨7, _⟩ => ⟨S1024, .f32⟩
  | .hbm, ⟨8, _⟩ => ⟨S4x6144, .f32⟩
  | .hbm, ⟨9, _⟩ => ⟨S4x1024, .f32⟩
  | .hbm, ⟨10, _⟩ => ⟨S4x1024, .f32⟩
  | .hbm, ⟨11, _⟩ => ⟨S1024, .f32⟩
  | .hbm, ⟨12, _⟩ => ⟨S8x4x6144, .f32⟩
  | .hbm, ⟨13, _⟩ => ⟨S8x4x1024, .f32⟩
  | .hbm, ⟨14, _⟩ => ⟨S8x4x1024, .f32⟩
  | .hbm, ⟨15, _⟩ => ⟨S8x1024, .f32⟩
  | .hbm, ⟨16, _⟩ => ⟨S24576, .f32⟩
  | .hbm, ⟨17, _⟩ => ⟨S192x128, .f32⟩
  | .hbm, ⟨18, _⟩ => ⟨S4096, .f32⟩
  | .hbm, ⟨19, _⟩ => ⟨S32x128, .f32⟩
  | .hbm, ⟨20, _⟩ => ⟨S4096, .f32⟩
  | .hbm, ⟨21, _⟩ => ⟨S32x128, .f32⟩
  | .hbm, ⟨22, _⟩ => ⟨S_, .i32⟩
  | .hbm, ⟨23, _⟩ => ⟨S_, .f32⟩
  | .hbm, ⟨24, _⟩ => ⟨S2048, .f32⟩
  | .hbm, ⟨25, _⟩ => ⟨S16x128, .f32⟩
  | .hbm, ⟨26, _⟩ => ⟨S272x128, .f32⟩
  | .hbm, ⟨27, _⟩ => ⟨S1x272x128, .f32⟩
  | .hbm, ⟨28, _⟩ => ⟨S24576, .f32⟩
  | .hbm, ⟨29, _⟩ => ⟨S192x128, .f32⟩
  | .hbm, ⟨30, _⟩ => ⟨S4096, .f32⟩
  | .hbm, ⟨31, _⟩ => ⟨S32x128, .f32⟩
  | .hbm, ⟨32, _⟩ => ⟨S4096, .f32⟩
  | .hbm, ⟨33, _⟩ => ⟨S32x128, .f32⟩
  | .hbm, ⟨34, _⟩ => ⟨S_, .i32⟩
  | .hbm, ⟨35, _⟩ => ⟨S_, .f32⟩
  | .hbm, ⟨36, _⟩ => ⟨S2048, .f32⟩
  | .hbm, ⟨37, _⟩ => ⟨S16x128, .f32⟩
  | .hbm, ⟨38, _⟩ => ⟨S272x128, .f32⟩
  | .hbm, ⟨39, _⟩ => ⟨S1x272x128, .f32⟩
  | .hbm, ⟨40, _⟩ => ⟨S24576, .f32⟩
  | .hbm, ⟨41, _⟩ => ⟨S192x128, .f32⟩
  | .hbm, ⟨42, _⟩ => ⟨S4096, .f32⟩
  | .hbm, ⟨43, _⟩ => ⟨S32x128, .f32⟩
  | .hbm, ⟨44, _⟩ => ⟨S4096, .f32⟩
  | .hbm, ⟨45, _⟩ => ⟨S32x128, .f32⟩
  | .hbm, ⟨46, _⟩ => ⟨S_, .i32⟩
  | .hbm, ⟨47, _⟩ => ⟨S_, .f32⟩
  | .hbm, ⟨48, _⟩ => ⟨S2048, .f32⟩
  | .hbm, ⟨49, _⟩ => ⟨S16x128, .f32⟩
  | .hbm, ⟨50, _⟩ => ⟨S272x128, .f32⟩
  | .hbm, ⟨51, _⟩ => ⟨S1x272x128, .f32⟩
  | .hbm, ⟨52, _⟩ => ⟨S8x24576, .f32⟩
  | .hbm, ⟨53, _⟩ => ⟨S8x192x128, .f32⟩
  | .hbm, ⟨54, _⟩ => ⟨S8x4096, .f32⟩
  | .hbm, ⟨55, _⟩ => ⟨S8x32x128, .f32⟩
  | .hbm, ⟨56, _⟩ => ⟨S8x4096, .f32⟩
  | .hbm, ⟨57, _⟩ => ⟨S8x32x128, .f32⟩
  | .hbm, ⟨58, _⟩ => ⟨S_, .i32⟩
  | .hbm, ⟨59, _⟩ => ⟨S_, .f32⟩
  | .hbm, ⟨60, _⟩ => ⟨S8x2048, .f32⟩
  | .hbm, ⟨61, _⟩ => ⟨S8x16x128, .f32⟩
  | .hbm, ⟨62, _⟩ => ⟨S8x272x128, .f32⟩
  | .hbm, ⟨63, _⟩ => ⟨S1x272x128, .f32⟩
  | .hbm, ⟨64, _⟩ => ⟨S1x272x128, .f32⟩
  | .hbm, ⟨65, _⟩ => ⟨S1x272x128, .f32⟩
  | .hbm, ⟨66, _⟩ => ⟨S1x272x128, .f32⟩
  | .local _ .vmem, ⟨0, _⟩ => ⟨S1x272x128, .f32⟩
  | .local _ .vmem, ⟨1, _⟩ => ⟨S1x272x128, .f32⟩
  | .local _ .vmem, ⟨2, _⟩ => ⟨S1x272x128, .f32⟩
  | .local _ .vmem, ⟨3, _⟩ => ⟨S8x272x128, .f32⟩
  | .local _ .vmem, ⟨4, _⟩ => ⟨S1x272x128, .f32⟩
  | .local _ .vmem, ⟨5, _⟩ => ⟨S1x272x128, .f32⟩
  | .local _ .vmem, ⟨6, _⟩ => ⟨S1x272x128, .f32⟩
  | .local _ .vmem, ⟨7, _⟩ => ⟨S1x272x128, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_call1_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_1 : Ref sig .tc := ⟨.hbm, 46, rfl⟩
abbrev main_call2_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_2 : Ref sig .tc := ⟨.hbm, 58, rfl⟩
abbrev main_call3_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39_0 : Ref sig .tc := ⟨.hbm, 63, rfl⟩
abbrev main_v39_1 : Ref sig .tc := ⟨.hbm, 64, rfl⟩
abbrev main_v39_2 : Ref sig .tc := ⟨.hbm, 65, rfl⟩
abbrev main_v39_3 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x272x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x272x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x272x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x272x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x272x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x272x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x272x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x272x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel21Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference21Ideal.lean ====
abbrev S4x6144 : Shape := ⟨2, ![4, 6144]⟩
abbrev S4x1024 : Shape := ⟨2, ![4, 1024]⟩
abbrev S1024 : Shape := ⟨1, ![1024]⟩
abbrev S8x4x6144 : Shape := ⟨3, ![8, 4, 6144]⟩
abbrev S8x4x1024 : Shape := ⟨3, ![8, 4, 1024]⟩
abbrev S8x1024 : Shape := ⟨2, ![8, 1024]⟩
abbrev S_ : Shape := ⟨0, ![]⟩
abbrev S24576 : Shape := ⟨1, ![24576]⟩
abbrev S192x128 : Shape := ⟨2, ![192, 128]⟩
abbrev S4096 : Shape := ⟨1, ![4096]⟩
abbrev S32x128 : Shape := ⟨2, ![32, 128]⟩
abbrev S2048 : Shape := ⟨1, ![2048]⟩
abbrev S16x128 : Shape := ⟨2, ![16, 128]⟩
abbrev S272x128 : Shape := ⟨2, ![272, 128]⟩
abbrev S1x272x128 : Shape := ⟨3, ![1, 272, 128]⟩

abbrev nBuf : Space → Nat
  | .hbm => 204
  | .vmem => 0
  | .smem => 0
  | _ => 0

abbrev hbmTy0_0 (i : Nat) : BufTy := match i % 128 with
  | 0 => ⟨S4x6144, .f32⟩
  | 1 => ⟨S4x1024, .f32⟩
  | 2 => ⟨S4x1024, .f32⟩
  | 3 => ⟨S1024, .f32⟩
  | 4 => ⟨S4x6144, .f32⟩
  | 5 => ⟨S4x1024, .f32⟩
  | 6 => ⟨S4x1024, .f32⟩
  | 7 => ⟨S1024, .f32⟩
  | 8 => ⟨S4x6144, .f32⟩
  | 9 => ⟨S4x1024, .f32⟩
  | 10 => ⟨S4x1024, .f32⟩
  | 11 => ⟨S1024, .f32⟩
  | 12 => ⟨S8x4x6144, .f32⟩
  | 13 => ⟨S8x4x1024, .f32⟩
  | 14 => ⟨S8x4x1024, .f32⟩
  | 15 => ⟨S8x1024, .f32⟩
  | 16 => ⟨S_, .f32⟩
  | 17 => ⟨S4x6144, .f32⟩
  | 18 => ⟨S_, .f32⟩
  | 19 => ⟨S4x6144, .f32⟩
  | 20 => ⟨S4x6144, .f32⟩
  | 21 => ⟨S_, .f32⟩
  | 22 => ⟨S4x6144, .f32⟩
  | 23 => ⟨S4x6144, .f32⟩
  | 24 => ⟨S4x6144, .f32⟩
  | 25 => ⟨S_, .f32⟩
  | 26 => ⟨S4x6144, .f32⟩
  | 27 => ⟨S4x6144, .f32⟩
  | 28 => ⟨S4x6144, .f32⟩
  | 29 => ⟨S_, .f32⟩
  | 30 => ⟨S4x6144, .f32⟩
  | 31 => ⟨S4x6144, .f32⟩
  | 32 => ⟨S4x6144, .f32⟩
  | 33 => ⟨S_, .f32⟩
  | 34 => ⟨S4x6144, .f32⟩
  | 35 => ⟨S4x6144, .f32⟩
  | 36 => ⟨S_, .f32⟩
  | 37 => ⟨S4x6144, .f32⟩
  | 38 => ⟨S4x6144, .f32⟩
  | 39 => ⟨S4x6144, .f32⟩
  | 40 => ⟨S_, .f32⟩
  | 41 => ⟨S4x6144, .f32⟩
  | 42 => ⟨S4x6144, .f32⟩
  | 43 => ⟨S4x6144, .f32⟩
  | 44 => ⟨S_, .f32⟩
  | 45 => ⟨S4x6144, .f32⟩
  | 46 => ⟨S4x6144, .f32⟩
  | 47 => ⟨S4x6144, .f32⟩
  | 48 => ⟨S_, .f32⟩
  | 49 => ⟨S4x6144, .f32⟩
  | 50 => ⟨S4x6144, .f32⟩
  | 51 => ⟨S_, .f32⟩
  | 52 => ⟨S4x1024, .f32⟩
  | 53 => ⟨S_, .f32⟩
  | 54 => ⟨S4x1024, .f32⟩
  | 55 => ⟨S4x1024, .f32⟩
  | 56 => ⟨S_, .f32⟩
  | 57 => ⟨S4x1024, .f32⟩
  | 58 => ⟨S4x1024, .f32⟩
  | 59 => ⟨S4x1024, .f32⟩
  | 60 => ⟨S_, .f32⟩
  | 61 => ⟨S4x1024, .f32⟩
  | 62 => ⟨S4x1024, .f32⟩
  | 63 => ⟨S4x1024, .f32⟩
  | 64 => ⟨S_, .f32⟩
  | 65 => ⟨S4x1024, .f32⟩
  | 66 => ⟨S4x1024, .f32⟩
  | 67 => ⟨S4x1024, .f32⟩
  | 68 => ⟨S_, .f32⟩
  | 69 => ⟨S4x1024, .f32⟩
  | 70 => ⟨S4x1024, .f32⟩
  | 71 => ⟨S_, .f32⟩
  | 72 => ⟨S4x1024, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S_, .f32⟩
  | 87 => ⟨S4x1024, .f32⟩
  | 88 => ⟨S_, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S_, .f32⟩
  | 107 => ⟨S4x1024, .f32⟩
  | 108 => ⟨S4x1024, .f32⟩
  | 109 => ⟨S4x1024, .f32⟩
  | 110 => ⟨S_, .f32⟩
  | 111 => ⟨S4x1024, .f32⟩
  | 112 => ⟨S4x1024, .f32⟩
  | 113 => ⟨S4x1024, .f32⟩
  | 114 => ⟨S_, .f32⟩
  | 115 => ⟨S4x1024, .f32⟩
  | 116 => ⟨S4x1024, .f32⟩
  | 117 => ⟨S4x1024, .f32⟩
  | 118 => ⟨S_, .f32⟩
  | 119 => ⟨S4x1024, .f32⟩
  | 120 => ⟨S4x1024, .f32⟩
  | 121 => ⟨S_, .f32⟩
  | 122 => ⟨S1024, .f32⟩
  | 123 => ⟨S_, .f32⟩
  | 124 => ⟨S1024, .f32⟩
  | 125 => ⟨S1024, .f32⟩
  | 126 => ⟨S_, .f32⟩
  | 127 => ⟨S1024, .f32⟩
  | _ => ⟨S4x6144, .f32⟩

abbrev hbmTy0_1 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S_, .f32⟩
  | 7 => ⟨S1024, .f32⟩
  | 8 => ⟨S1024, .f32⟩
  | 9 => ⟨S1024, .f32⟩
  | 10 => ⟨S_, .f32⟩
  | 11 => ⟨S1024, .f32⟩
  | 12 => ⟨S1024, .f32⟩
  | 13 => ⟨S_, .f32⟩
  | 14 => ⟨S1024, .f32⟩
  | 15 => ⟨S1024, .f32⟩
  | 16 => ⟨S1024, .f32⟩
  | 17 => ⟨S_, .f32⟩
  | 18 => ⟨S1024, .f32⟩
  | 19 => ⟨S1024, .f32⟩
  | 20 => ⟨S1024, .f32⟩
  | 21 => ⟨S_, .f32⟩
  | 22 => ⟨S1024, .f32⟩
  | 23 => ⟨S1024, .f32⟩
  | 24 => ⟨S1024, .f32⟩
  | 25 => ⟨S_, .f32⟩
  | 26 => ⟨S1024, .f32⟩
  | 27 => ⟨S1024, .f32⟩
  | 28 => ⟨S24576, .f32⟩
  | 29 => ⟨S192x128, .f32⟩
  | 30 => ⟨S4096, .f32⟩
  | 31 => ⟨S32x128, .f32⟩
  | 32 => ⟨S4096, .f32⟩
  | 33 => ⟨S32x128, .f32⟩
  | 34 => ⟨S_, .i32⟩
  | 35 => ⟨S_, .f32⟩
  | 36 => ⟨S2048, .f32⟩
  | 37 => ⟨S16x128, .f32⟩
  | 38 => ⟨S272x128, .f32⟩
  | 39 => ⟨S1x272x128, .f32⟩
  | 40 => ⟨S24576, .f32⟩
  | 41 => ⟨S192x128, .f32⟩
  | 42 => ⟨S4096, .f32⟩
  | 43 => ⟨S32x128, .f32⟩
  | 44 => ⟨S4096, .f32⟩
  | 45 => ⟨S32x128, .f32⟩
  | 46 => ⟨S_, .i32⟩
  | 47 => ⟨S_, .f32⟩
  | 48 => ⟨S2048, .f32⟩
  | 49 => ⟨S16x128, .f32⟩
  | 50 => ⟨S272x128, .f32⟩
  | 51 => ⟨S1x272x128, .f32⟩
  | 52 => ⟨S24576, .f32⟩
  | 53 => ⟨S192x128, .f32⟩
  | 54 => ⟨S4096, .f32⟩
  | 55 => ⟨S32x128, .f32⟩
  | 56 => ⟨S4096, .f32⟩
  | 57 => ⟨S32x128, .f32⟩
  | 58 => ⟨S_, .i32⟩
  | 59 => ⟨S_, .f32⟩
  | 60 => ⟨S2048, .f32⟩
  | 61 => ⟨S16x128, .f32⟩
  | 62 => ⟨S272x128, .f32⟩
  | 63 => ⟨S1x272x128, .f32⟩
  | 64 => ⟨S24576, .f32⟩
  | 65 => ⟨S192x128, .f32⟩
  | 66 => ⟨S4096, .f32⟩
  | 67 => ⟨S32x128, .f32⟩
  | 68 => ⟨S4096, .f32⟩
  | 69 => ⟨S32x128, .f32⟩
  | 70 => ⟨S_, .i32⟩
  | 71 => ⟨S_, .f32⟩
  | 72 => ⟨S2048, .f32⟩
  | 73 => ⟨S16x128, .f32⟩
  | 74 => ⟨S272x128, .f32⟩
  | 75 => ⟨S1x272x128, .f32⟩
  | _ => ⟨S4x6144, .f32⟩

abbrev hbmTy (i : Nat) : BufTy := match i / 128 with
  | 0 => hbmTy0_0 i
  | 1 => hbmTy0_1 i
  | _ => ⟨S4x6144, .f32⟩

abbrev bufTy : (tb : Table) → Fin (tcTables nBuf tb) → BufTy
  | .hbm, ⟨i, _⟩ => hbmTy i
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_v12 : Ref sig .tc := ⟨.hbm, 34, rfl⟩
abbrev main_v13 : Ref sig .tc := ⟨.hbm, 35, rfl⟩
abbrev main_cst_5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_8 : Ref sig .tc := ⟨.hbm, 48, rfl⟩
abbrev main_v23 : Ref sig .tc := ⟨.hbm, 49, rfl⟩
abbrev main_v24 : Ref sig .tc := ⟨.hbm, 50, rfl⟩
abbrev main_cst_9 : Ref sig .tc := ⟨.hbm, 51, rfl⟩
abbrev main_v25 : Ref sig .tc := ⟨.hbm, 52, rfl⟩
abbrev main_cst_10 : Ref sig .tc := ⟨.hbm, 53, rfl⟩
abbrev main_v26 : Ref sig .tc := ⟨.hbm, 54, rfl⟩
abbrev main_v27 : Ref sig .tc := ⟨.hbm, 55, rfl⟩
abbrev main_cst_11 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_12 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_13 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_14 : Ref sig .tc := ⟨.hbm, 68, rfl⟩
abbrev main_v37 : Ref sig .tc := ⟨.hbm, 69, rfl⟩
abbrev main_v38 : Ref sig .tc := ⟨.hbm, 70, rfl⟩
abbrev main_cst_15 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_16 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_17 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_18 : Ref sig .tc := ⟨.hbm, 83, rfl⟩
abbrev main_v48 : Ref sig .tc := ⟨.hbm, 84, rfl⟩
abbrev main_v49 : Ref sig .tc := ⟨.hbm, 85, rfl⟩
abbrev main_cst_19 : Ref sig .tc := ⟨.hbm, 86, rfl⟩
abbrev main_v50 : Ref sig .tc := ⟨.hbm, 87, rfl⟩
abbrev main_cst_20 : Ref sig .tc := ⟨.hbm, 88, rfl⟩
abbrev main_v51 : Ref sig .tc := ⟨.hbm, 89, rfl⟩
abbrev main_v52 : Ref sig .tc := ⟨.hbm, 90, rfl⟩
abbrev main_cst_21 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_22 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_23 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_24 : Ref sig .tc := ⟨.hbm, 103, rfl⟩
abbrev main_v62 : Ref sig .tc := ⟨.hbm, 104, rfl⟩
abbrev main_v63 : Ref sig .tc := ⟨.hbm, 105, rfl⟩
abbrev main_cst_25 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_26 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_27 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_28 : Ref sig .tc := ⟨.hbm, 118, rfl⟩
abbrev main_v73 : Ref sig .tc := ⟨.hbm, 119, rfl⟩
abbrev main_v74 : Ref sig .tc := ⟨.hbm, 120, rfl⟩
abbrev main_cst_29 : Ref sig .tc := ⟨.hbm, 121, rfl⟩
abbrev main_v75 : Ref sig .tc := ⟨.hbm, 122, rfl⟩
abbrev main_cst_30 : Ref sig .tc := ⟨.hbm, 123, rfl⟩
abbrev main_v76 : Ref sig .tc := ⟨.hbm, 124, rfl⟩
abbrev main_v77 : Ref sig .tc := ⟨.hbm, 125, rfl⟩
abbrev main_cst_31 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_32 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_33 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_34 : Ref sig .tc := ⟨.hbm, 138, rfl⟩
abbrev main_v87 : Ref sig .tc := ⟨.hbm, 139, rfl⟩
abbrev main_v88 : Ref sig .tc := ⟨.hbm, 140, rfl⟩
abbrev main_cst_35 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_36 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_37 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_38 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_c : Ref sig .tc := ⟨.hbm, 162, rfl⟩
abbrev main_call0_v0 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_c_39 : Ref sig .tc := ⟨.hbm, 174, rfl⟩
abbrev main_call1_v0 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_c_40 : Ref sig .tc := ⟨.hbm, 186, rfl⟩
abbrev main_call2_v0 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_c_41 : Ref sig .tc := ⟨.hbm, 198, rfl⟩
abbrev main_call3_v0 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩

abbrev nD : Nat := 1
abbrev τ : Topo := Topo.v7x

variable {F : FTy → Type} [FloatOps F]
-- ==== Kernel22.lean ====
abbrev S2x3x128 : Shape := ⟨3, ![2, 3, 128]⟩
abbrev S2x128 : Shape := ⟨2, ![2, 128]⟩
abbrev S1x128 : Shape := ⟨2, ![1, 128]⟩
abbrev S8x2x3x128 : Shape := ⟨4, ![8, 2, 3, 128]⟩
abbrev S8x2x128 : Shape := ⟨3, ![8, 2, 128]⟩
abbrev S8x1x128 : Shape := ⟨3, ![8, 1, 128]⟩
abbrev S8x6x128 : Shape := ⟨3, ![8, 6, 128]⟩
abbrev S8x9x128 : Shape := ⟨3, ![8, 9, 128]⟩
abbrev S_ : Shape := ⟨0, ![]⟩
abbrev S8x16x128 : Shape := ⟨3, ![8, 16, 128]⟩
abbrev S8x1x16x128 : Shape := ⟨4, ![8, 1, 16, 128]⟩
abbrev S6x128 : Shape := ⟨2, ![6, 128]⟩
abbrev S9x128 : Shape := ⟨2, ![9, 128]⟩
abbrev S16x128 : Shape := ⟨2, ![16, 128]⟩
abbrev S1x16x128 : Shape := ⟨3, ![1, 16, 128]⟩

abbrev nBuf : Space → Nat
  | .hbm => 41
  | .vmem => 8
  | .smem => 0
  | _ => 0

abbrev bufTy : (tb : Table) → Fin (tcTables nBuf tb) → BufTy
  | .hbm, ⟨0, _⟩ => ⟨S2x3x128, .f32⟩
  | .hbm, ⟨1, _⟩ => ⟨S2x128, .f32⟩
  | .hbm, ⟨2, _⟩ => ⟨S1x128, .f32⟩
  | .hbm, ⟨3, _⟩ => ⟨S2x3x128, .f32⟩
  | .hbm, ⟨4, _⟩ => ⟨S2x128, .f32⟩
  | .hbm, ⟨5, _⟩ => ⟨S1x128, .f32⟩
  | .hbm, ⟨6, _⟩ => ⟨S2x3x128, .f32⟩
  | .hbm, ⟨7, _⟩ => ⟨S2x128, .f32⟩
  | .hbm, ⟨8, _⟩ => ⟨S1x128, .f32⟩
  | .hbm, ⟨9, _⟩ => ⟨S8x2x3x128, .f32⟩
  | .hbm, ⟨10, _⟩ => ⟨S8x2x128, .f32⟩
  | .hbm, ⟨11, _⟩ => ⟨S8x1x128, .f32⟩
  | .hbm, ⟨12, _⟩ => ⟨S8x6x128, .f32⟩
  | .hbm, ⟨13, _⟩ => ⟨S8x9x128, .f32⟩
  | .hbm, ⟨14, _⟩ => ⟨S_, .i32⟩
  | .hbm, ⟨15, _⟩ => ⟨S_, .f32⟩
  | .hbm, ⟨16, _⟩ => ⟨S8x16x128, .f32⟩
  | .hbm, ⟨17, _⟩ => ⟨S8x1x16x128, .f32⟩
  | .hbm, ⟨18, _⟩ => ⟨S8x16x128, .f32⟩
  | .hbm, ⟨19, _⟩ => ⟨S6x128, .f32⟩
  | .hbm, ⟨20, _⟩ => ⟨S9x128, .f32⟩
  | .hbm, ⟨21, _⟩ => ⟨S_, .i32⟩
  | .hbm, ⟨22, _⟩ => ⟨S_, .f32⟩
  | .hbm, ⟨23, _⟩ => ⟨S16x128, .f32⟩
  | .hbm, ⟨24, _⟩ => ⟨S1x16x128, .f32⟩
  | .hbm, ⟨25, _⟩ => ⟨S6x128, .f32⟩
  | .hbm, ⟨26, _⟩ => ⟨S9x128, .f32⟩
  | .hbm, ⟨27, _⟩ => ⟨S_, .i32⟩
  | .hbm, ⟨28, _⟩ => ⟨S_, .f32⟩
  | .hbm, ⟨29, _⟩ => ⟨S16x128, .f32⟩
  | .hbm, ⟨30, _⟩ => ⟨S1x16x128, .f32⟩
  | .hbm, ⟨31, _⟩ => ⟨S6x128, .f32⟩
  | .hbm, ⟨32, _⟩ => ⟨S9x128, .f32⟩
  | .hbm, ⟨33, _⟩ => ⟨S_, .i32⟩
  | .hbm, ⟨34, _⟩ => ⟨S_, .f32⟩
  | .hbm, ⟨35, _⟩ => ⟨S16x128, .f32⟩
  | .hbm, ⟨36, _⟩ => ⟨S1x16x128, .f32⟩
  | .hbm, ⟨37, _⟩ => ⟨S1x16x128, .f32⟩
  | .hbm, ⟨38, _⟩ => ⟨S1x16x128, .f32⟩
  | .hbm, ⟨39, _⟩ => ⟨S1x16x128, .f32⟩
  | .hbm, ⟨40, _⟩ => ⟨S1x16x128, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S8x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | _, _ => ⟨S2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_call2_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_call3_v0 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v17_2 : Ref sig .tc := ⟨.hbm, 39, rfl⟩
abbrev main_v17_3 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel22Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference22Ideal.lean ====
abbrev S2x3x128 : Shape := ⟨3, ![2, 3, 128]⟩
abbrev S2x128 : Shape := ⟨2, ![2, 128]⟩
abbrev S1x128 : Shape := ⟨2, ![1, 128]⟩
abbrev S8x2x3x128 : Shape := ⟨4, ![8, 2, 3, 128]⟩
abbrev S8x2x128 : Shape := ⟨3, ![8, 2, 128]⟩
abbrev S8x1x128 : Shape := ⟨3, ![8, 1, 128]⟩
abbrev S_ : Shape := ⟨0, ![]⟩
abbrev S768 : Shape := ⟨1, ![768]⟩
abbrev S6x128 : Shape := ⟨2, ![6, 128]⟩
abbrev S256 : Shape := ⟨1, ![256]⟩
abbrev S128 : Shape := ⟨1, ![128]⟩
abbrev S9x128 : Shape := ⟨2, ![9, 128]⟩
abbrev S1x9x128 : Shape := ⟨3, ![1, 9, 128]⟩
abbrev S1x16x128 : Shape := ⟨3, ![1, 16, 128]⟩

abbrev nBuf : Space → Nat
  | .hbm => 161
  | .vmem => 0
  | .smem => 0
  | _ => 0

abbrev hbmTy0_0 (i : Nat) : BufTy := match i % 128 with
  | 0 => ⟨S2x3x128, .f32⟩
  | 1 => ⟨S2x128, .f32⟩
  | 2 => ⟨S1x128, .f32⟩
  | 3 => ⟨S2x3x128, .f32⟩
  | 4 => ⟨S2x128, .f32⟩
  | 5 => ⟨S1x128, .f32⟩
  | 6 => ⟨S2x3x128, .f32⟩
  | 7 => ⟨S2x128, .f32⟩
  | 8 => ⟨S1x128, .f32⟩
  | 9 => ⟨S8x2x3x128, .f32⟩
  | 10 => ⟨S8x2x128, .f32⟩
  | 11 => ⟨S8x1x128, .f32⟩
  | 12 => ⟨S_, .f32⟩
  | 13 => ⟨S2x3x128, .f32⟩
  | 14 => ⟨S_, .f32⟩
  | 15 => ⟨S2x3x128, .f32⟩
  | 16 => ⟨S2x3x128, .f32⟩
  | 17 => ⟨S_, .f32⟩
  | 18 => ⟨S2x3x128, .f32⟩
  | 19 => ⟨S2x3x128, .f32⟩
  | 20 => ⟨S2x3x128, .f32⟩
  | 21 => ⟨S_, .f32⟩
  | 22 => ⟨S2x3x128, .f32⟩
  | 23 => ⟨S2x3x128, .f32⟩
  | 24 => ⟨S2x3x128, .f32⟩
  | 25 => ⟨S_, .f32⟩
  | 26 => ⟨S2x3x128, .f32⟩
  | 27 => ⟨S2x3x128, .f32⟩
  | 28 => ⟨S2x3x128, .f32⟩
  | 29 => ⟨S_, .f32⟩
  | 30 => ⟨S2x3x128, .f32⟩
  | 31 => ⟨S2x3x128, .f32⟩
  | 32 => ⟨S_, .f32⟩
  | 33 => ⟨S2x3x128, .f32⟩
  | 34 => ⟨S2x3x128, .f32⟩
  | 35 => ⟨S2x3x128, .f32⟩
  | 36 => ⟨S_, .f32⟩
  | 37 => ⟨S2x3x128, .f32⟩
  | 38 => ⟨S2x3x128, .f32⟩
  | 39 => ⟨S2x3x128, .f32⟩
  | 40 => ⟨S_, .f32⟩
  | 41 => ⟨S2x3x128, .f32⟩
  | 42 => ⟨S2x3x128, .f32⟩
  | 43 => ⟨S2x3x128, .f32⟩
  | 44 => ⟨S_, .f32⟩
  | 45 => ⟨S2x3x128, .f32⟩
  | 46 => ⟨S2x3x128, .f32⟩
  | 47 => ⟨S_, .f32⟩
  | 48 => ⟨S2x128, .f32⟩
  | 49 => ⟨S_, .f32⟩
  | 50 => ⟨S2x128, .f32⟩
  | 51 => ⟨S2x128, .f32⟩
  | 52 => ⟨S_, .f32⟩
  | 53 => ⟨S2x128, .f32⟩
  | 54 => ⟨S2x128, .f32⟩
  | 55 => ⟨S2x128, .f32⟩
  | 56 => ⟨S_, .f32⟩
  | 57 => ⟨S2x128, .f32⟩
  | 58 => ⟨S2x128, .f32⟩
  | 59 => ⟨S2x128, .f32⟩
  | 60 => ⟨S_, .f32⟩
  | 61 => ⟨S2x128, .f32⟩
  | 62 => ⟨S2x128, .f32⟩
  | 63 => ⟨S2x128, .f32⟩
  | 64 => ⟨S_, .f32⟩
  | 65 => ⟨S2x128, .f32⟩
  | 66 => ⟨S2x128, .f32⟩
  | 67 => ⟨S_, .f32⟩
  | 68 => ⟨S2x128, .f32⟩
  | 69 => ⟨S2x128, .f32⟩
  | 70 => ⟨S2x128, .f32⟩
  | 71 => ⟨S_, .f32⟩
  | 72 => ⟨S2x128, .f32⟩
  | 73 => ⟨S2x128, .f32⟩
  | 74 => ⟨S2x128, .f32⟩
  | 75 => ⟨S_, .f32⟩
  | 76 => ⟨S2x128, .f32⟩
  | 77 => ⟨S2x128, .f32⟩
  | 78 => ⟨S2x128, .f32⟩
  | 79 => ⟨S_, .f32⟩
  | 80 => ⟨S2x128, .f32⟩
  | 81 => ⟨S2x128, .f32⟩
  | 82 => ⟨S_, .f32⟩
  | 83 => ⟨S1x128, .f32⟩
  | 84 => ⟨S_, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S768, .f32⟩
  | 118 => ⟨S6x128, .f32⟩
  | 119 => ⟨S256, .f32⟩
  | 120 => ⟨S2x128, .f32⟩
  | 121 => ⟨S128, .f32⟩
  | 122 => ⟨S1x128, .f32⟩
  | 123 => ⟨S9x128, .f32⟩
  | 124 => ⟨S1x9x128, .f32⟩
  | 125 => ⟨S_, .i32⟩
  | 126 => ⟨S_, .f32⟩
  | 127 => ⟨S1x16x128, .f32⟩
  | _ => ⟨S2x3x128, .f32⟩

abbrev hbmTy0_1 (i : Nat) : BufTy := match i % 128 with
  | 0 => ⟨S768, .f32⟩
  | 1 => ⟨S6x128, .f32⟩
  | 2 => ⟨S256, .f32⟩
  | 3 => ⟨S2x128, .f32⟩
  | 4 => ⟨S128, .f32⟩
  | 5 => ⟨S1x128, .f32⟩
  | 6 => ⟨S9x128, .f32⟩
  | 7 => ⟨S1x9x128, .f32⟩
  | 8 => ⟨S_, .i32⟩
  | 9 => ⟨S_, .f32⟩
  | 10 => ⟨S1x16x128, .f32⟩
  | 11 => ⟨S768, .f32⟩
  | 12 => ⟨S6x128, .f32⟩
  | 13 => ⟨S256, .f32⟩
  | 14 => ⟨S2x128, .f32⟩
  | 15 => ⟨S128, .f32⟩
  | 16 => ⟨S1x128, .f32⟩
  | 17 => ⟨S9x128, .f32⟩
  | 18 => ⟨S1x9x128, .f32⟩
  | 19 => ⟨S_, .i32⟩
  | 20 => ⟨S_, .f32⟩
  | 21 => ⟨S1x16x128, .f32⟩
  | 22 => ⟨S768, .f32⟩
  | 23 => ⟨S6x128, .f32⟩
  | 24 => ⟨S256, .f32⟩
  | 25 => ⟨S2x128, .f32⟩
  | 26 => ⟨S128, .f32⟩
  | 27 => ⟨S1x128, .f32⟩
  | 28 => ⟨S9x128, .f32⟩
  | 29 => ⟨S1x9x128, .f32⟩
  | 30 => ⟨S_, .i32⟩
  | 31 => ⟨S_, .f32⟩
  | 32 => ⟨S1x16x128, .f32⟩
  | _ => ⟨S2x3x128, .f32⟩

abbrev hbmTy (i : Nat) : BufTy := match i / 128 with
  | 0 => hbmTy0_0 i
  | 1 => hbmTy0_1 i
  | _ => ⟨S2x3x128, .f32⟩

abbrev bufTy : (tb : Table) → Fin (tcTables nBuf tb) → BufTy
  | .hbm, ⟨i, _⟩ => hbmTy i
  | _, _ => ⟨S2x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_7 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_cst_10 : Ref sig .tc := ⟨.hbm, 49, rfl⟩
abbrev main_v26 : Ref sig .tc := ⟨.hbm, 50, rfl⟩
abbrev main_v27 : Ref sig .tc := ⟨.hbm, 51, rfl⟩
abbrev main_cst_11 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_12 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_13 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_14 : Ref sig .tc := ⟨.hbm, 64, rfl⟩
abbrev main_v37 : Ref sig .tc := ⟨.hbm, 65, rfl⟩
abbrev main_v38 : Ref sig .tc := ⟨.hbm, 66, rfl⟩
abbrev main_cst_15 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_16 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_17 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_18 : Ref sig .tc := ⟨.hbm, 79, rfl⟩
abbrev main_v48 : Ref sig .tc := ⟨.hbm, 80, rfl⟩
abbrev main_v49 : Ref sig .tc := ⟨.hbm, 81, rfl⟩
abbrev main_cst_19 : Ref sig .tc := ⟨.hbm, 82, rfl⟩
abbrev main_v50 : Ref sig .tc := ⟨.hbm, 83, rfl⟩
abbrev main_cst_20 : Ref sig .tc := ⟨.hbm, 84, rfl⟩
abbrev main_v51 : Ref sig .tc := ⟨.hbm, 85, rfl⟩
abbrev main_v52 : Ref sig .tc := ⟨.hbm, 86, rfl⟩
abbrev main_cst_21 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_22 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_24 : Ref sig .tc := ⟨.hbm, 99, rfl⟩
abbrev main_v62 : Ref sig .tc := ⟨.hbm, 100, rfl⟩
abbrev main_v63 : Ref sig .tc := ⟨.hbm, 101, rfl⟩
abbrev main_cst_25 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_26 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_27 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_28 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c : Ref sig .tc := ⟨.hbm, 125, rfl⟩
abbrev main_call0_v0 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_29 : Ref sig .tc := ⟨.hbm, 136, rfl⟩
abbrev main_call1_v0 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_30 : Ref sig .tc := ⟨.hbm, 147, rfl⟩
abbrev main_call2_v0 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_31 : Ref sig .tc := ⟨.hbm, 158, rfl⟩
abbrev main_call3_v0 : Ref sig .tc := ⟨.hbm, 159, rfl⟩
abbrev main_v110 : Ref sig .tc := ⟨.hbm, 160, rfl⟩

abbrev nD : Nat := 1
abbrev τ : Topo := Topo.v7x

variable {F : FTy → Type} [FloatOps F]
-- ==== Kernel23.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x1024 : Shape := ⟨2, ![1, 1024]⟩
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x1x1024 : Shape := ⟨3, ![8, 1, 1024]⟩
abbrev S4096 : Shape := ⟨1, ![4096]⟩
abbrev S32x128 : Shape := ⟨2, ![32, 128]⟩
abbrev S64 : Shape := ⟨1, ![64]⟩
abbrev S_ : Shape := ⟨0, ![]⟩
abbrev S2048 : Shape := ⟨1, ![2048]⟩
abbrev S16x128 : Shape := ⟨2, ![16, 128]⟩
abbrev S65536 : Shape := ⟨1, ![65536]⟩
abbrev S512x128 : Shape := ⟨2, ![512, 128]⟩
abbrev S1024 : Shape := ⟨1, ![1024]⟩
abbrev S2160x128 : Shape := ⟨2, ![2160, 128]⟩
abbrev S1x2160x128 : Shape := ⟨3, ![1, 2160, 128]⟩
abbrev S8x4096 : Shape := ⟨2, ![8, 4096]⟩
abbrev S8x32x128 : Shape := ⟨3, ![8, 32, 128]⟩
abbrev S8x64 : Shape := ⟨2, ![8, 64]⟩
abbrev S8x2048 : Shape := ⟨2, ![8, 2048]⟩
abbrev S8x16x128 : Shape := ⟨3, ![8, 16, 128]⟩
abbrev S8x65536 : Shape := ⟨2, ![8, 65536]⟩
abbrev S8x512x128 : Shape := ⟨3, ![8, 512, 128]⟩
abbrev S8x1024 : Shape := ⟨2, ![8, 1024]⟩
abbrev S8x2160x128 : Shape := ⟨3, ![8, 2160, 128]⟩
abbrev S1x1080x128 : Shape := ⟨3, ![1, 1080, 128]⟩
abbrev S8x1080x128 : Shape := ⟨3, ![8, 1080, 128]⟩
abbrev S1080x128 : Shape := ⟨2, ![1080, 128]⟩

abbrev nBuf : Space → Nat
  | .hbm => 165
  | .vmem => 16
  | .smem => 0
  | _ => 0

abbrev hbmTy0_0 (i : Nat) : BufTy := match i % 128 with
  | 0 => ⟨S1x64x64, .f32⟩
  | 1 => ⟨S1x64x64, .f32⟩
  | 2 => ⟨S1x64, .f32⟩
  | 3 => ⟨S1x64x64x16, .f32⟩
  | 4 => ⟨S1x64x64x16, .f32⟩
  | 5 => ⟨S1x64x16x64, .f32⟩
  | 6 => ⟨S1x64x16x64, .f32⟩
  | 7 => ⟨S1x1024, .f32⟩
  | 8 => ⟨S1x1024, .f32⟩
  | 9 => ⟨S1x64x64, .f32⟩
  | 10 => ⟨S1x64x64, .f32⟩
  | 11 => ⟨S1x64, .f32⟩
  | 12 => ⟨S1x64x64x16, .f32⟩
  | 13 => ⟨S1x64x64x16, .f32⟩
  | 14 => ⟨S1x64x16x64, .f32⟩
  | 15 => ⟨S1x64x16x64, .f32⟩
  | 16 => ⟨S1x1024, .f32⟩
  | 17 => ⟨S1x1024, .f32⟩
  | 18 => ⟨S1x64x64, .f32⟩
  | 19 => ⟨S1x64x64, .f32⟩
  | 20 => ⟨S1x64, .f32⟩
  | 21 => ⟨S1x64x64x16, .f32⟩
  | 22 => ⟨S1x64x64x16, .f32⟩
  | 23 => ⟨S1x64x16x64, .f32⟩
  | 24 => ⟨S1x64x16x64, .f32⟩
  | 25 => ⟨S1x1024, .f32⟩
  | 26 => ⟨S1x1024, .f32⟩
  | 27 => ⟨S8x1x64x64, .bf16⟩
  | 28 => ⟨S8x1x64x64, .bf16⟩
  | 29 => ⟨S8x1x64, .bf16⟩
  | 30 => ⟨S8x1x64x64x16, .bf16⟩
  | 31 => ⟨S8x1x64x64x16, .bf16⟩
  | 32 => ⟨S8x1x64x16x64, .bf16⟩
  | 33 => ⟨S8x1x64x16x64, .bf16⟩
  | 34 => ⟨S8x1x1024, .bf16⟩
  | 35 => ⟨S8x1x1024, .bf16⟩
  | 36 => ⟨S4096, .f32⟩
  | 37 => ⟨S32x128, .f32⟩
  | 38 => ⟨S4096, .f32⟩
  | 39 => ⟨S32x128, .f32⟩
  | 40 => ⟨S64, .f32⟩
  | 41 => ⟨S_, .i32⟩
  | 42 => ⟨S_, .f32⟩
  | 43 => ⟨S2048, .f32⟩
  | 44 => ⟨S16x128, .f32⟩
  | 45 => ⟨S65536, .f32⟩
  | 46 => ⟨S512x128, .f32⟩
  | 47 => ⟨S65536, .f32⟩
  | 48 => ⟨S512x128, .f32⟩
  | 49 => ⟨S65536, .f32⟩
  | 50 => ⟨S512x128, .f32⟩
  | 51 => ⟨S65536, .f32⟩
  | 52 => ⟨S512x128, .f32⟩
  | 53 => ⟨S1024, .f32⟩
  | 54 => ⟨S_, .i32⟩
  | 55 => ⟨S_, .f32⟩
  | 56 => ⟨S2048, .f32⟩
  | 57 => ⟨S16x128, .f32⟩
  | 58 => ⟨S1024, .f32⟩
  | 59 => ⟨S_, .i32⟩
  | 60 => ⟨S_, .f32⟩
  | 61 => ⟨S2048, .f32⟩
  | 62 => ⟨S16x128, .f32⟩
  | 63 => ⟨S2160x128, .f32⟩
  | 64 => ⟨S1x2160x128, .f32⟩
  | 65 => ⟨S4096, .f32⟩
  | 66 => ⟨S32x128, .f32⟩
  | 67 => ⟨S4096, .f32⟩
  | 68 => ⟨S32x128, .f32⟩
  | 69 => ⟨S64, .f32⟩
  | 70 => ⟨S_, .i32⟩
  | 71 => ⟨S_, .f32⟩
  | 72 => ⟨S2048, .f32⟩
  | 73 => ⟨S16x128, .f32⟩
  | 74 => ⟨S65536, .f32⟩
  | 75 => ⟨S512x128, .f32⟩
  | 76 => ⟨S65536, .f32⟩
  | 77 => ⟨S512x128, .f32⟩
  | 78 => ⟨S65536, .f32⟩
  | 79 => ⟨S512x128, .f32⟩
  | 80 => ⟨S65536, .f32⟩
  | 81 => ⟨S512x128, .f32⟩
  | 82 => ⟨S1024, .f32⟩
  | 83 => ⟨S_, .i32⟩
  | 84 => ⟨S_, .f32⟩
  | 85 => ⟨S2048, .f32⟩
  | 86 => ⟨S16x128, .f32⟩
  | 87 => ⟨S1024, .f32⟩
  | 88 => ⟨S_, .i32⟩
  | 89 => ⟨S_, .f32⟩
  | 90 => ⟨S2048, .f32⟩
  | 91 => ⟨S16x128, .f32⟩
  | 92 => ⟨S2160x128, .f32⟩
  | 93 => ⟨S1x2160x128, .f32⟩
  | 94 => ⟨S4096, .f32⟩
  | 95 => ⟨S32x128, .f32⟩
  | 96 => ⟨S4096, .f32⟩
  | 97 => ⟨S32x128, .f32⟩
  | 98 => ⟨S64, .f32⟩
  | 99 => ⟨S_, .i32⟩
  | 100 => ⟨S_, .f32⟩
  | 101 => ⟨S2048, .f32⟩
  | 102 => ⟨S16x128, .f32⟩
  | 103 => ⟨S65536, .f32⟩
  | 104 => ⟨S512x128, .f32⟩
  | 105 => ⟨S65536, .f32⟩
  | 106 => ⟨S512x128, .f32⟩
  | 107 => ⟨S65536, .f32⟩
  | 108 => ⟨S512x128, .f32⟩
  | 109 => ⟨S65536, .f32⟩
  | 110 => ⟨S512x128, .f32⟩
  | 111 => ⟨S1024, .f32⟩
  | 112 => ⟨S_, .i32⟩
  | 113 => ⟨S_, .f32⟩
  | 114 => ⟨S2048, .f32⟩
  | 115 => ⟨S16x128, .f32⟩
  | 116 => ⟨S1024, .f32⟩
  | 117 => ⟨S_, .i32⟩
  | 118 => ⟨S_, .f32⟩
  | 119 => ⟨S2048, .f32⟩
  | 120 => ⟨S16x128, .f32⟩
  | 121 => ⟨S2160x128, .f32⟩
  | 122 => ⟨S1x2160x128, .f32⟩
  | 123 => ⟨S8x4096, .bf16⟩
  | 124 => ⟨S8x4096, .f32⟩
  | 125 => ⟨S8x32x128, .f32⟩
  | 126 => ⟨S8x4096, .bf16⟩
  | 127 => ⟨S8x4096, .f32⟩
  | _ => ⟨S1x64x64, .f32⟩

abbrev hbmTy0_1 (i : Nat) : BufTy := match i % 128 with
  | 0 => ⟨S8x32x128, .f32⟩
  | 1 => ⟨S8x64, .bf16⟩
  | 2 => ⟨S8x64, .f32⟩
  | 3 => ⟨S_, .i32⟩
  | 4 => ⟨S_, .f32⟩
  | 5 => ⟨S8x2048, .f32⟩
  | 6 => ⟨S8x16x128, .f32⟩
  | 7 => ⟨S8x65536, .bf16⟩
  | 8 => ⟨S8x65536, .f32⟩
  | 9 => ⟨S8x512x128, .f32⟩
  | 10 => ⟨S8x65536, .bf16⟩
  | 11 => ⟨S8x65536, .f32⟩
  | 12 => ⟨S8x512x128, .f32⟩
  | 13 => ⟨S8x65536, .bf16⟩
  | 14 => ⟨S8x65536, .f32⟩
  | 15 => ⟨S8x512x128, .f32⟩
  | 16 => ⟨S8x65536, .bf16⟩
  | 17 => ⟨S8x65536, .f32⟩
  | 18 => ⟨S8x512x128, .f32⟩
  | 19 => ⟨S8x1024, .bf16⟩
  | 20 => ⟨S8x1024, .f32⟩
  | 21 => ⟨S_, .i32⟩
  | 22 => ⟨S_, .f32⟩
  | 23 => ⟨S8x2048, .f32⟩
  | 24 => ⟨S8x16x128, .f32⟩
  | 25 => ⟨S8x1024, .bf16⟩
  | 26 => ⟨S8x1024, .f32⟩
  | 27 => ⟨S_, .i32⟩
  | 28 => ⟨S_, .f32⟩
  | 29 => ⟨S8x2048, .f32⟩
  | 30 => ⟨S8x16x128, .f32⟩
  | 31 => ⟨S8x2160x128, .f32⟩
  | 32 => ⟨S8x2160x128, .bf16⟩
  | 33 => ⟨S1x2160x128, .f32⟩
  | 34 => ⟨S1x2160x128, .f32⟩
  | 35 => ⟨S1x2160x128, .f32⟩
  | 36 => ⟨S1x2160x128, .f32⟩
  | _ => ⟨S1x64x64, .f32⟩

abbrev hbmTy (i : Nat) : BufTy := match i / 128 with
  | 0 => hbmTy0_0 i
  | 1 => hbmTy0_1 i
  | _ => ⟨S1x64x64, .f32⟩

abbrev bufTy : (tb : Table) → Fin (tcTables nBuf tb) → BufTy
  | .hbm, ⟨i, _⟩ => hbmTy i
  | .local _ .vmem, ⟨0, _⟩ => ⟨S1x1080x128, .f32⟩
  | .local _ .vmem, ⟨1, _⟩ => ⟨S1x1080x128, .f32⟩
  | .local _ .vmem, ⟨2, _⟩ => ⟨S1x1080x128, .f32⟩
  | .local _ .vmem, ⟨3, _⟩ => ⟨S1x1080x128, .f32⟩
  | .local _ .vmem, ⟨4, _⟩ => ⟨S1x1080x128, .f32⟩
  | .local _ .vmem, ⟨5, _⟩ => ⟨S1x1080x128, .f32⟩
  | .local _ .vmem, ⟨6, _⟩ => ⟨S8x1080x128, .bf16⟩
  | .local _ .vmem, ⟨7, _⟩ => ⟨S8x1080x128, .bf16⟩
  | .local _ .vmem, ⟨8, _⟩ => ⟨S1x1080x128, .f32⟩
  | .local _ .vmem, ⟨9, _⟩ => ⟨S1x1080x128, .f32⟩
  | .local _ .vmem, ⟨10, _⟩ => ⟨S1x1080x128, .f32⟩
  | .local _ .vmem, ⟨11, _⟩ => ⟨S1x1080x128, .f32⟩
  | .local _ .vmem, ⟨12, _⟩ => ⟨S1x1080x128, .f32⟩
  | .local _ .vmem, ⟨13, _⟩ => ⟨S1x1080x128, .f32⟩
  | .local _ .vmem, ⟨14, _⟩ => ⟨S1x1080x128, .f32⟩
  | .local _ .vmem, ⟨15, _⟩ => ⟨S1x1080x128, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_c : Ref sig .tc := ⟨.hbm, 41, rfl⟩
abbrev main_call0_v0 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_c_0 : Ref sig .tc := ⟨.hbm, 54, rfl⟩
abbrev main_call1_v0 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_1 : Ref sig .tc := ⟨.hbm, 59, rfl⟩
abbrev main_call2_v0 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c_2 : Ref sig .tc := ⟨.hbm, 70, rfl⟩
abbrev main_call3_v0 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_c_3 : Ref sig .tc := ⟨.hbm, 83, rfl⟩
abbrev main_call4_v0 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_4 : Ref sig .tc := ⟨.hbm, 88, rfl⟩
abbrev main_call5_v0 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_c_5 : Ref sig .tc := ⟨.hbm, 99, rfl⟩
abbrev main_call6_v0 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_c_6 : Ref sig .tc := ⟨.hbm, 112, rfl⟩
abbrev main_call7_v0 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_c_7 : Ref sig .tc := ⟨.hbm, 117, rfl⟩
abbrev main_call8_v0 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_8 : Ref sig .tc := ⟨.hbm, 131, rfl⟩
abbrev main_call9_v0 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_9 : Ref sig .tc := ⟨.hbm, 149, rfl⟩
abbrev main_call10_v0 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_c_10 : Ref sig .tc := ⟨.hbm, 155, rfl⟩
abbrev main_call11_v0 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101_0 : Ref sig .tc := ⟨.hbm, 161, rfl⟩
abbrev main_v101_1 : Ref sig .tc := ⟨.hbm, 162, rfl⟩
abbrev main_v101_2 : Ref sig .tc := ⟨.hbm, 163, rfl⟩
abbrev main_v101_3 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1080x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1080x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1080x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1080x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1080x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1080x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1080x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1080x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel23Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference23Ideal.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x1024 : Shape := ⟨2, ![1, 1024]⟩
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x1x1024 : Shape := ⟨3, ![8, 1, 1024]⟩
abbrev S_ : Shape := ⟨0, ![]⟩
abbrev S4096 : Shape := ⟨1, ![4096]⟩
abbrev S32x128 : Shape := ⟨2, ![32, 128]⟩
abbrev S64 : Shape := ⟨1, ![64]⟩
abbrev S2048 : Shape := ⟨1, ![2048]⟩
abbrev S16x128 : Shape := ⟨2, ![16, 128]⟩
abbrev S65536 : Shape := ⟨1, ![65536]⟩
abbrev S512x128 : Shape := ⟨2, ![512, 128]⟩
abbrev S1024 : Shape := ⟨1, ![1024]⟩
abbrev S2160x128 : Shape := ⟨2, ![2160, 128]⟩
abbrev S1x2160x128 : Shape := ⟨3, ![1, 2160, 128]⟩

abbrev nBuf : Space → Nat
  | .hbm => 476
  | .vmem => 0
  | .smem => 0
  | _ => 0

abbrev hbmTy0_0 (i : Nat) : BufTy := match i % 128 with
  | 0 => ⟨S1x64x64, .f32⟩
  | 1 => ⟨S1x64x64, .f32⟩
  | 2 => ⟨S1x64, .f32⟩
  | 3 => ⟨S1x64x64x16, .f32⟩
  | 4 => ⟨S1x64x64x16, .f32⟩
  | 5 => ⟨S1x64x16x64, .f32⟩
  | 6 => ⟨S1x64x16x64, .f32⟩
  | 7 => ⟨S1x1024, .f32⟩
  | 8 => ⟨S1x1024, .f32⟩
  | 9 => ⟨S1x64x64, .f32⟩
  | 10 => ⟨S1x64x64, .f32⟩
  | 11 => ⟨S1x64, .f32⟩
  | 12 => ⟨S1x64x64x16, .f32⟩
  | 13 => ⟨S1x64x64x16, .f32⟩
  | 14 => ⟨S1x64x16x64, .f32⟩
  | 15 => ⟨S1x64x16x64, .f32⟩
  | 16 => ⟨S1x1024, .f32⟩
  | 17 => ⟨S1x1024, .f32⟩
  | 18 => ⟨S1x64x64, .f32⟩
  | 19 => ⟨S1x64x64, .f32⟩
  | 20 => ⟨S1x64, .f32⟩
  | 21 => ⟨S1x64x64x16, .f32⟩
  | 22 => ⟨S1x64x64x16, .f32⟩
  | 23 => ⟨S1x64x16x64, .f32⟩
  | 24 => ⟨S1x64x16x64, .f32⟩
  | 25 => ⟨S1x1024, .f32⟩
  | 26 => ⟨S1x1024, .f32⟩
  | 27 => ⟨S8x1x64x64, .bf16⟩
  | 28 => ⟨S8x1x64x64, .bf16⟩
  | 29 => ⟨S8x1x64, .bf16⟩
  | 30 => ⟨S8x1x64x64x16, .bf16⟩
  | 31 => ⟨S8x1x64x64x16, .bf16⟩
  | 32 => ⟨S8x1x64x16x64, .bf16⟩
  | 33 => ⟨S8x1x64x16x64, .bf16⟩
  | 34 => ⟨S8x1x1024, .bf16⟩
  | 35 => ⟨S8x1x1024, .bf16⟩
  | 36 => ⟨S8x1x64x64, .f32⟩
  | 37 => ⟨S_, .f32⟩
  | 38 => ⟨S1x64x64, .f32⟩
  | 39 => ⟨S_, .f32⟩
  | 40 => ⟨S1x64x64, .f32⟩
  | 41 => ⟨S1x64x64, .f32⟩
  | 42 => ⟨S_, .f32⟩
  | 43 => ⟨S1x64x64, .f32⟩
  | 44 => ⟨S1x64x64, .f32⟩
  | 45 => ⟨S1x64x64, .f32⟩
  | 46 => ⟨S_, .f32⟩
  | 47 => ⟨S1x64x64, .f32⟩
  | 48 => ⟨S1x64x64, .f32⟩
  | 49 => ⟨S1x64x64, .f32⟩
  | 50 => ⟨S_, .f32⟩
  | 51 => ⟨S1x64x64, .f32⟩
  | 52 => ⟨S1x64x64, .f32⟩
  | 53 => ⟨S1x64x64, .f32⟩
  | 54 => ⟨S_, .f32⟩
  | 55 => ⟨S1x64x64, .f32⟩
  | 56 => ⟨S1x64x64, .f32⟩
  | 57 => ⟨S_, .f32⟩
  | 58 => ⟨S1x64x64, .f32⟩
  | 59 => ⟨S1x64x64, .f32⟩
  | 60 => ⟨S1x64x64, .f32⟩
  | 61 => ⟨S_, .f32⟩
  | 62 => ⟨S1x64x64, .f32⟩
  | 63 => ⟨S1x64x64, .f32⟩
  | 64 => ⟨S1x64x64, .f32⟩
  | 65 => ⟨S_, .f32⟩
  | 66 => ⟨S1x64x64, .f32⟩
  | 67 => ⟨S1x64x64, .f32⟩
  | 68 => ⟨S1x64x64, .f32⟩
  | 69 => ⟨S_, .f32⟩
  | 70 => ⟨S1x64x64, .f32⟩
  | 71 => ⟨S1x64x64, .f32⟩
  | 72 => ⟨S8x1x64x64, .f32⟩
  | 73 => ⟨S_, .f32⟩
  | 74 => ⟨S1x64x64, .f32⟩
  | 75 => ⟨S_, .f32⟩
  | 76 => ⟨S1x64x64, .f32⟩
  | 77 => ⟨S1x64x64, .f32⟩
  | 78 => ⟨S_, .f32⟩
  | 79 => ⟨S1x64x64, .f32⟩
  | 80 => ⟨S1x64x64, .f32⟩
  | 81 => ⟨S1x64x64, .f32⟩
  | 82 => ⟨S_, .f32⟩
  | 83 => ⟨S1x64x64, .f32⟩
  | 84 => ⟨S1x64x64, .f32⟩
  | 85 => ⟨S1x64x64, .f32⟩
  | 86 => ⟨S_, .f32⟩
  | 87 => ⟨S1x64x64, .f32⟩
  | 88 => ⟨S1x64x64, .f32⟩
  | 89 => ⟨S1x64x64, .f32⟩
  | 90 => ⟨S_, .f32⟩
  | 91 => ⟨S1x64x64, .f32⟩
  | 92 => ⟨S1x64x64, .f32⟩
  | 93 => ⟨S_, .f32⟩
  | 94 => ⟨S1x64x64, .f32⟩
  | 95 => ⟨S1x64x64, .f32⟩
  | 96 => ⟨S1x64x64, .f32⟩
  | 97 => ⟨S_, .f32⟩
  | 98 => ⟨S1x64x64, .f32⟩
  | 99 => ⟨S1x64x64, .f32⟩
  | 100 => ⟨S1x64x64, .f32⟩
  | 101 => ⟨S_, .f32⟩
  | 102 => ⟨S1x64x64, .f32⟩
  | 103 => ⟨S1x64x64, .f32⟩
  | 104 => ⟨S1x64x64, .f32⟩
  | 105 => ⟨S_, .f32⟩
  | 106 => ⟨S1x64x64, .f32⟩
  | 107 => ⟨S1x64x64, .f32⟩
  | 108 => ⟨S8x1x64, .f32⟩
  | 109 => ⟨S_, .f32⟩
  | 110 => ⟨S1x64, .f32⟩
  | 111 => ⟨S_, .f32⟩
  | 112 => ⟨S1x64, .f32⟩
  | 113 => ⟨S1x64, .f32⟩
  | 114 => ⟨S_, .f32⟩
  | 115 => ⟨S1x64, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S1x64, .f32⟩
  | 126 => ⟨S_, .f32⟩
  | 127 => ⟨S1x64, .f32⟩
  | _ => ⟨S1x64x64, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S1x64, .f32⟩
  | 5 => ⟨S_, .f32⟩
  | 6 => ⟨S1x64, .f32⟩
  | 7 => ⟨S1x64, .f32⟩
  | 8 => ⟨S1x64, .f32⟩
  | 9 => ⟨S_, .f32⟩
  | 10 => ⟨S1x64, .f32⟩
  | 11 => ⟨S1x64, .f32⟩
  | 12 => ⟨S1x64, .f32⟩
  | 13 => ⟨S_, .f32⟩
  | 14 => ⟨S1x64, .f32⟩
  | 15 => ⟨S1x64, .f32⟩
  | 16 => ⟨S8x1x64x64x16, .f32⟩
  | 17 => ⟨S_, .f32⟩
  | 18 => ⟨S1x64x64x16, .f32⟩
  | 19 => ⟨S_, .f32⟩
  | 20 => ⟨S1x64x64x16, .f32⟩
  | 21 => ⟨S1x64x64x16, .f32⟩
  | 22 => ⟨S_, .f32⟩
  | 23 => ⟨S1x64x64x16, .f32⟩
  | 24 => ⟨S1x64x64x16, .f32⟩
  | 25 => ⟨S1x64x64x16, .f32⟩
  | 26 => ⟨S_, .f32⟩
  | 27 => ⟨S1x64x64x16, .f32⟩
  | 28 => ⟨S1x64x64x16, .f32⟩
  | 29 => ⟨S1x64x64x16, .f32⟩
  | 30 => ⟨S_, .f32⟩
  | 31 => ⟨S1x64x64x16, .f32⟩
  | 32 => ⟨S1x64x64x16, .f32⟩
  | 33 => ⟨S1x64x64x16, .f32⟩
  | 34 => ⟨S_, .f32⟩
  | 35 => ⟨S1x64x64x16, .f32⟩
  | 36 => ⟨S1x64x64x16, .f32⟩
  | 37 => ⟨S_, .f32⟩
  | 38 => ⟨S1x64x64x16, .f32⟩
  | 39 => ⟨S1x64x64x16, .f32⟩
  | 40 => ⟨S1x64x64x16, .f32⟩
  | 41 => ⟨S_, .f32⟩
  | 42 => ⟨S1x64x64x16, .f32⟩
  | 43 => ⟨S1x64x64x16, .f32⟩
  | 44 => ⟨S1x64x64x16, .f32⟩
  | 45 => ⟨S_, .f32⟩
  | 46 => ⟨S1x64x64x16, .f32⟩
  | 47 => ⟨S1x64x64x16, .f32⟩
  | 48 => ⟨S1x64x64x16, .f32⟩
  | 49 => ⟨S_, .f32⟩
  | 50 => ⟨S1x64x64x16, .f32⟩
  | 51 => ⟨S1x64x64x16, .f32⟩
  | 52 => ⟨S8x1x64x64x16, .f32⟩
  | 53 => ⟨S_, .f32⟩
  | 54 => ⟨S1x64x64x16, .f32⟩
  | 55 => ⟨S_, .f32⟩
  | 56 => ⟨S1x64x64x16, .f32⟩
  | 57 => ⟨S1x64x64x16, .f32⟩
  | 58 => ⟨S_, .f32⟩
  | 59 => ⟨S1x64x64x16, .f32⟩
  | 60 => ⟨S1x64x64x16, .f32⟩
  | 61 => ⟨S1x64x64x16, .f32⟩
  | 62 => ⟨S_, .f32⟩
  | 63 => ⟨S1x64x64x16, .f32⟩
  | 64 => ⟨S1x64x64x16, .f32⟩
  | 65 => ⟨S1x64x64x16, .f32⟩
  | 66 => ⟨S_, .f32⟩
  | 67 => ⟨S1x64x64x16, .f32⟩
  | 68 => ⟨S1x64x64x16, .f32⟩
  | 69 => ⟨S1x64x64x16, .f32⟩
  | 70 => ⟨S_, .f32⟩
  | 71 => ⟨S1x64x64x16, .f32⟩
  | 72 => ⟨S1x64x64x16, .f32⟩
  | 73 => ⟨S_, .f32⟩
  | 74 => ⟨S1x64x64x16, .f32⟩
  | 75 => ⟨S1x64x64x16, .f32⟩
  | 76 => ⟨S1x64x64x16, .f32⟩
  | 77 => ⟨S_, .f32⟩
  | 78 => ⟨S1x64x64x16, .f32⟩
  | 79 => ⟨S1x64x64x16, .f32⟩
  | 80 => ⟨S1x64x64x16, .f32⟩
  | 81 => ⟨S_, .f32⟩
  | 82 => ⟨S1x64x64x16, .f32⟩
  | 83 => ⟨S1x64x64x16, .f32⟩
  | 84 => ⟨S1x64x64x16, .f32⟩
  | 85 => ⟨S_, .f32⟩
  | 86 => ⟨S1x64x64x16, .f32⟩
  | 87 => ⟨S1x64x64x16, .f32⟩
  | 88 => ⟨S8x1x64x16x64, .f32⟩
  | 89 => ⟨S_, .f32⟩
  | 90 => ⟨S1x64x16x64, .f32⟩
  | 91 => ⟨S_, .f32⟩
  | 92 => ⟨S1x64x16x64, .f32⟩
  | 93 => ⟨S1x64x16x64, .f32⟩
  | 94 => ⟨S_, .f32⟩
  | 95 => ⟨S1x64x16x64, .f32⟩
  | 96 => ⟨S1x64x16x64, .f32⟩
  | 97 => ⟨S1x64x16x64, .f32⟩
  | 98 => ⟨S_, .f32⟩
  | 99 => ⟨S1x64x16x64, .f32⟩
  | 100 => ⟨S1x64x16x64, .f32⟩
  | 101 => ⟨S1x64x16x64, .f32⟩
  | 102 => ⟨S_, .f32⟩
  | 103 => ⟨S1x64x16x64, .f32⟩
  | 104 => ⟨S1x64x16x64, .f32⟩
  | 105 => ⟨S1x64x16x64, .f32⟩
  | 106 => ⟨S_, .f32⟩
  | 107 => ⟨S1x64x16x64, .f32⟩
  | 108 => ⟨S1x64x16x64, .f32⟩
  | 109 => ⟨S_, .f32⟩
  | 110 => ⟨S1x64x16x64, .f32⟩
  | 111 => ⟨S1x64x16x64, .f32⟩
  | 112 => ⟨S1x64x16x64, .f32⟩
  | 113 => ⟨S_, .f32⟩
  | 114 => ⟨S1x64x16x64, .f32⟩
  | 115 => ⟨S1x64x16x64, .f32⟩
  | 116 => ⟨S1x64x16x64, .f32⟩
  | 117 => ⟨S_, .f32⟩
  | 118 => ⟨S1x64x16x64, .f32⟩
  | 119 => ⟨S1x64x16x64, .f32⟩
  | 120 => ⟨S1x64x16x64, .f32⟩
  | 121 => ⟨S_, .f32⟩
  | 122 => ⟨S1x64x16x64, .f32⟩
  | 123 => ⟨S1x64x16x64, .f32⟩
  | 124 => ⟨S8x1x64x16x64, .f32⟩
  | 125 => ⟨S_, .f32⟩
  | 126 => ⟨S1x64x16x64, .f32⟩
  | 127 => ⟨S_, .f32⟩
  | _ => ⟨S1x64x64, .f32⟩

abbrev hbmTy0_2 (i : Nat) : BufTy := match i % 128 with
  | 0 => ⟨S1x64x16x64, .f32⟩
  | 1 => ⟨S1x64x16x64, .f32⟩
  | 2 => ⟨S_, .f32⟩
  | 3 => ⟨S1x64x16x64, .f32⟩
  | 4 => ⟨S1x64x16x64, .f32⟩
  | 5 => ⟨S1x64x16x64, .f32⟩
  | 6 => ⟨S_, .f32⟩
  | 7 => ⟨S1x64x16x64, .f32⟩
  | 8 => ⟨S1x64x16x64, .f32⟩
  | 9 => ⟨S1x64x16x64, .f32⟩
  | 10 => ⟨S_, .f32⟩
  | 11 => ⟨S1x64x16x64, .f32⟩
  | 12 => ⟨S1x64x16x64, .f32⟩
  | 13 => ⟨S1x64x16x64, .f32⟩
  | 14 => ⟨S_, .f32⟩
  | 15 => ⟨S1x64x16x64, .f32⟩
  | 16 => ⟨S1x64x16x64, .f32⟩
  | 17 => ⟨S_, .f32⟩
  | 18 => ⟨S1x64x16x64, .f32⟩
  | 19 => ⟨S1x64x16x64, .f32⟩
  | 20 => ⟨S1x64x16x64, .f32⟩
  | 21 => ⟨S_, .f32⟩
  | 22 => ⟨S1x64x16x64, .f32⟩
  | 23 => ⟨S1x64x16x64, .f32⟩
  | 24 => ⟨S1x64x16x64, .f32⟩
  | 25 => ⟨S_, .f32⟩
  | 26 => ⟨S1x64x16x64, .f32⟩
  | 27 => ⟨S1x64x16x64, .f32⟩
  | 28 => ⟨S1x64x16x64, .f32⟩
  | 29 => ⟨S_, .f32⟩
  | 30 => ⟨S1x64x16x64, .f32⟩
  | 31 => ⟨S1x64x16x64, .f32⟩
  | 32 => ⟨S8x1x1024, .f32⟩
  | 33 => ⟨S_, .f32⟩
  | 34 => ⟨S1x1024, .f32⟩
  | 35 => ⟨S_, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S8x1x1024, .f32⟩
  | 69 => ⟨S_, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S4096, .f32⟩
  | 105 => ⟨S32x128, .f32⟩
  | 106 => ⟨S4096, .f32⟩
  | 107 => ⟨S32x128, .f32⟩
  | 108 => ⟨S64, .f32⟩
  | 109 => ⟨S_, .i32⟩
  | 110 => ⟨S_, .f32⟩
  | 111 => ⟨S2048, .f32⟩
  | 112 => ⟨S16x128, .f32⟩
  | 113 => ⟨S65536, .f32⟩
  | 114 => ⟨S512x128, .f32⟩
  | 115 => ⟨S65536, .f32⟩
  | 116 => ⟨S512x128, .f32⟩
  | 117 => ⟨S65536, .f32⟩
  | 118 => ⟨S512x128, .f32⟩
  | 119 => ⟨S65536, .f32⟩
  | 120 => ⟨S512x128, .f32⟩
  | 121 => ⟨S1024, .f32⟩
  | 122 => ⟨S_, .i32⟩
  | 123 => ⟨S_, .f32⟩
  | 124 => ⟨S2048, .f32⟩
  | 125 => ⟨S16x128, .f32⟩
  | 126 => ⟨S1024, .f32⟩
  | 127 => ⟨S_, .i32⟩
  | _ => ⟨S1x64x64, .f32⟩

abbrev hbmTy0_3 (i : Nat) : BufTy := match i % 128 with
  | 0 => ⟨S_, .f32⟩
  | 1 => ⟨S2048, .f32⟩
  | 2 => ⟨S16x128, .f32⟩
  | 3 => ⟨S2160x128, .f32⟩
  | 4 => ⟨S1x2160x128, .f32⟩
  | 5 => ⟨S4096, .f32⟩
  | 6 => ⟨S32x128, .f32⟩
  | 7 => ⟨S4096, .f32⟩
  | 8 => ⟨S32x128, .f32⟩
  | 9 => ⟨S64, .f32⟩
  | 10 => ⟨S_, .i32⟩
  | 11 => ⟨S_, .f32⟩
  | 12 => ⟨S2048, .f32⟩
  | 13 => ⟨S16x128, .f32⟩
  | 14 => ⟨S65536, .f32⟩
  | 15 => ⟨S512x128, .f32⟩
  | 16 => ⟨S65536, .f32⟩
  | 17 => ⟨S512x128, .f32⟩
  | 18 => ⟨S65536, .f32⟩
  | 19 => ⟨S512x128, .f32⟩
  | 20 => ⟨S65536, .f32⟩
  | 21 => ⟨S512x128, .f32⟩
  | 22 => ⟨S1024, .f32⟩
  | 23 => ⟨S_, .i32⟩
  | 24 => ⟨S_, .f32⟩
  | 25 => ⟨S2048, .f32⟩
  | 26 => ⟨S16x128, .f32⟩
  | 27 => ⟨S1024, .f32⟩
  | 28 => ⟨S_, .i32⟩
  | 29 => ⟨S_, .f32⟩
  | 30 => ⟨S2048, .f32⟩
  | 31 => ⟨S16x128, .f32⟩
  | 32 => ⟨S2160x128, .f32⟩
  | 33 => ⟨S1x2160x128, .f32⟩
  | 34 => ⟨S4096, .f32⟩
  | 35 => ⟨S32x128, .f32⟩
  | 36 => ⟨S4096, .f32⟩
  | 37 => ⟨S32x128, .f32⟩
  | 38 => ⟨S64, .f32⟩
  | 39 => ⟨S_, .i32⟩
  | 40 => ⟨S_, .f32⟩
  | 41 => ⟨S2048, .f32⟩
  | 42 => ⟨S16x128, .f32⟩
  | 43 => ⟨S65536, .f32⟩
  | 44 => ⟨S512x128, .f32⟩
  | 45 => ⟨S65536, .f32⟩
  | 46 => ⟨S512x128, .f32⟩
  | 47 => ⟨S65536, .f32⟩
  | 48 => ⟨S512x128, .f32⟩
  | 49 => ⟨S65536, .f32⟩
  | 50 => ⟨S512x128, .f32⟩
  | 51 => ⟨S1024, .f32⟩
  | 52 => ⟨S_, .i32⟩
  | 53 => ⟨S_, .f32⟩
  | 54 => ⟨S2048, .f32⟩
  | 55 => ⟨S16x128, .f32⟩
  | 56 => ⟨S1024, .f32⟩
  | 57 => ⟨S_, .i32⟩
  | 58 => ⟨S_, .f32⟩
  | 59 => ⟨S2048, .f32⟩
  | 60 => ⟨S16x128, .f32⟩
  | 61 => ⟨S2160x128, .f32⟩
  | 62 => ⟨S1x2160x128, .f32⟩
  | 63 => ⟨S4096, .f32⟩
  | 64 => ⟨S32x128, .f32⟩
  | 65 => ⟨S4096, .f32⟩
  | 66 => ⟨S32x128, .f32⟩
  | 67 => ⟨S64, .f32⟩
  | 68 => ⟨S_, .i32⟩
  | 69 => ⟨S_, .f32⟩
  | 70 => ⟨S2048, .f32⟩
  | 71 => ⟨S16x128, .f32⟩
  | 72 => ⟨S65536, .f32⟩
  | 73 => ⟨S512x128, .f32⟩
  | 74 => ⟨S65536, .f32⟩
  | 75 => ⟨S512x128, .f32⟩
  | 76 => ⟨S65536, .f32⟩
  | 77 => ⟨S512x128, .f32⟩
  | 78 => ⟨S65536, .f32⟩
  | 79 => ⟨S512x128, .f32⟩
  | 80 => ⟨S1024, .f32⟩
  | 81 => ⟨S_, .i32⟩
  | 82 => ⟨S_, .f32⟩
  | 83 => ⟨S2048, .f32⟩
  | 84 => ⟨S16x128, .f32⟩
  | 85 => ⟨S1024, .f32⟩
  | 86 => ⟨S_, .i32⟩
  | 87 => ⟨S_, .f32⟩
  | 88 => ⟨S2048, .f32⟩
  | 89 => ⟨S16x128, .f32⟩
  | 90 => ⟨S2160x128, .f32⟩
  | 91 => ⟨S1x2160x128, .f32⟩
  | _ => ⟨S1x64x64, .f32⟩

abbrev hbmTy (i : Nat) : BufTy := match i / 128 with
  | 0 => hbmTy0_0 i
  | 1 => hbmTy0_1 i
  | 2 => hbmTy0_2 i
  | 3 => hbmTy0_3 i
  | _ => ⟨S1x64x64, .f32⟩

abbrev bufTy : (tb : Table) → Fin (tcTables nBuf tb) → BufTy
  | .hbm, ⟨i, _⟩ => hbmTy i
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_cst : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_cst_1 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst_2 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_cst_3 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_cst_5 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_6 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_7 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_9 : Ref sig .tc := ⟨.hbm, 73, rfl⟩
abbrev main_v27 : Ref sig .tc := ⟨.hbm, 74, rfl⟩
abbrev main_cst_10 : Ref sig .tc := ⟨.hbm, 75, rfl⟩
abbrev main_v28 : Ref sig .tc := ⟨.hbm, 76, rfl⟩
abbrev main_v29 : Ref sig .tc := ⟨.hbm, 77, rfl⟩
abbrev main_cst_11 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_12 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_13 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_cst_14 : Ref sig .tc := ⟨.hbm, 90, rfl⟩
abbrev main_v39 : Ref sig .tc := ⟨.hbm, 91, rfl⟩
abbrev main_v40 : Ref sig .tc := ⟨.hbm, 92, rfl⟩
abbrev main_cst_15 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_16 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_cst_17 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_cst_20 : Ref sig .tc := ⟨.hbm, 111, rfl⟩
abbrev main_v54 : Ref sig .tc := ⟨.hbm, 112, rfl⟩
abbrev main_v55 : Ref sig .tc := ⟨.hbm, 113, rfl⟩
abbrev main_cst_21 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_cst_22 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_cst_23 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_cst_24 : Ref sig .tc := ⟨.hbm, 126, rfl⟩
abbrev main_v65 : Ref sig .tc := ⟨.hbm, 127, rfl⟩
abbrev main_v66 : Ref sig .tc := ⟨.hbm, 128, rfl⟩
abbrev main_cst_25 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_cst_26 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_cst_27 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_28 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_cst_29 : Ref sig .tc := ⟨.hbm, 145, rfl⟩
abbrev main_v79 : Ref sig .tc := ⟨.hbm, 146, rfl⟩
abbrev main_cst_30 : Ref sig .tc := ⟨.hbm, 147, rfl⟩
abbrev main_v80 : Ref sig .tc := ⟨.hbm, 148, rfl⟩
abbrev main_v81 : Ref sig .tc := ⟨.hbm, 149, rfl⟩
abbrev main_cst_31 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_cst_32 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_cst_33 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_cst_34 : Ref sig .tc := ⟨.hbm, 162, rfl⟩
abbrev main_v91 : Ref sig .tc := ⟨.hbm, 163, rfl⟩
abbrev main_v92 : Ref sig .tc := ⟨.hbm, 164, rfl⟩
abbrev main_cst_35 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_cst_36 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_cst_37 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_cst_38 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_cst_39 : Ref sig .tc := ⟨.hbm, 181, rfl⟩
abbrev main_v105 : Ref sig .tc := ⟨.hbm, 182, rfl⟩
abbrev main_cst_40 : Ref sig .tc := ⟨.hbm, 183, rfl⟩
abbrev main_v106 : Ref sig .tc := ⟨.hbm, 184, rfl⟩
abbrev main_v107 : Ref sig .tc := ⟨.hbm, 185, rfl⟩
abbrev main_cst_41 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_cst_42 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_cst_43 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_cst_44 : Ref sig .tc := ⟨.hbm, 198, rfl⟩
abbrev main_v117 : Ref sig .tc := ⟨.hbm, 199, rfl⟩
abbrev main_v118 : Ref sig .tc := ⟨.hbm, 200, rfl⟩
abbrev main_cst_45 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_cst_46 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_cst_47 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_cst_48 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_cst_49 : Ref sig .tc := ⟨.hbm, 217, rfl⟩
abbrev main_v131 : Ref sig .tc := ⟨.hbm, 218, rfl⟩
abbrev main_cst_50 : Ref sig .tc := ⟨.hbm, 219, rfl⟩
abbrev main_v132 : Ref sig .tc := ⟨.hbm, 220, rfl⟩
abbrev main_v133 : Ref sig .tc := ⟨.hbm, 221, rfl⟩
abbrev main_cst_51 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_cst_52 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_cst_53 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_cst_54 : Ref sig .tc := ⟨.hbm, 234, rfl⟩
abbrev main_v143 : Ref sig .tc := ⟨.hbm, 235, rfl⟩
abbrev main_v144 : Ref sig .tc := ⟨.hbm, 236, rfl⟩
abbrev main_cst_55 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_cst_56 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_cst_57 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_cst_58 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_cst_59 : Ref sig .tc := ⟨.hbm, 253, rfl⟩
abbrev main_v157 : Ref sig .tc := ⟨.hbm, 254, rfl⟩
abbrev main_cst_60 : Ref sig .tc := ⟨.hbm, 255, rfl⟩
abbrev main_v158 : Ref sig .tc := ⟨.hbm, 256, rfl⟩
abbrev main_v159 : Ref sig .tc := ⟨.hbm, 257, rfl⟩
abbrev main_cst_61 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_cst_62 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_cst_63 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_cst_64 : Ref sig .tc := ⟨.hbm, 270, rfl⟩
abbrev main_v169 : Ref sig .tc := ⟨.hbm, 271, rfl⟩
abbrev main_v170 : Ref sig .tc := ⟨.hbm, 272, rfl⟩
abbrev main_cst_65 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_cst_66 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_cst_67 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_cst_68 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_cst_69 : Ref sig .tc := ⟨.hbm, 289, rfl⟩
abbrev main_v183 : Ref sig .tc := ⟨.hbm, 290, rfl⟩
abbrev main_cst_70 : Ref sig .tc := ⟨.hbm, 291, rfl⟩
abbrev main_v184 : Ref sig .tc := ⟨.hbm, 292, rfl⟩
abbrev main_v185 : Ref sig .tc := ⟨.hbm, 293, rfl⟩
abbrev main_cst_71 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_cst_72 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_cst_73 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_cst_74 : Ref sig .tc := ⟨.hbm, 306, rfl⟩
abbrev main_v195 : Ref sig .tc := ⟨.hbm, 307, rfl⟩
abbrev main_v196 : Ref sig .tc := ⟨.hbm, 308, rfl⟩
abbrev main_cst_75 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_cst_76 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_cst_77 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_cst_78 : Ref sig .tc := ⟨.hbm, 321, rfl⟩
abbrev main_v206 : Ref sig .tc := ⟨.hbm, 322, rfl⟩
abbrev main_v207 : Ref sig .tc := ⟨.hbm, 323, rfl⟩
abbrev main_v208 : Ref sig .tc := ⟨.hbm, 324, rfl⟩
abbrev main_cst_79 : Ref sig .tc := ⟨.hbm, 325, rfl⟩
abbrev main_v209 : Ref sig .tc := ⟨.hbm, 326, rfl⟩
abbrev main_cst_80 : Ref sig .tc := ⟨.hbm, 327, rfl⟩
abbrev main_v210 : Ref sig .tc := ⟨.hbm, 328, rfl⟩
abbrev main_v211 : Ref sig .tc := ⟨.hbm, 329, rfl⟩
abbrev main_cst_81 : Ref sig .tc := ⟨.hbm, 330, rfl⟩
abbrev main_v212 : Ref sig .tc := ⟨.hbm, 331, rfl⟩
abbrev main_v213 : Ref sig .tc := ⟨.hbm, 332, rfl⟩
abbrev main_v214 : Ref sig .tc := ⟨.hbm, 333, rfl⟩
abbrev main_cst_82 : Ref sig .tc := ⟨.hbm, 334, rfl⟩
abbrev main_v215 : Ref sig .tc := ⟨.hbm, 335, rfl⟩
abbrev main_v216 : Ref sig .tc := ⟨.hbm, 336, rfl⟩
abbrev main_v217 : Ref sig .tc := ⟨.hbm, 337, rfl⟩
abbrev main_cst_83 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_cst_84 : Ref sig .tc := ⟨.hbm, 342, rfl⟩
abbrev main_v221 : Ref sig .tc := ⟨.hbm, 343, rfl⟩
abbrev main_v222 : Ref sig .tc := ⟨.hbm, 344, rfl⟩
abbrev main_cst_85 : Ref sig .tc := ⟨.hbm, 345, rfl⟩
abbrev main_v223 : Ref sig .tc := ⟨.hbm, 346, rfl⟩
abbrev main_v224 : Ref sig .tc := ⟨.hbm, 347, rfl⟩
abbrev main_v225 : Ref sig .tc := ⟨.hbm, 348, rfl⟩
abbrev main_cst_86 : Ref sig .tc := ⟨.hbm, 349, rfl⟩
abbrev main_v226 : Ref sig .tc := ⟨.hbm, 350, rfl⟩
abbrev main_v227 : Ref sig .tc := ⟨.hbm, 351, rfl⟩
abbrev main_v228 : Ref sig .tc := ⟨.hbm, 352, rfl⟩
abbrev main_cst_87 : Ref sig .tc := ⟨.hbm, 353, rfl⟩
abbrev main_v229 : Ref sig .tc := ⟨.hbm, 354, rfl⟩
abbrev main_v230 : Ref sig .tc := ⟨.hbm, 355, rfl⟩
abbrev main_v231 : Ref sig .tc := ⟨.hbm, 356, rfl⟩
abbrev main_cst_88 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_v238 : Ref sig .tc := ⟨.hbm, 364, rfl⟩
abbrev main_c : Ref sig .tc := ⟨.hbm, 365, rfl⟩
abbrev main_call0_v0 : Ref sig .tc := ⟨.hbm, 366, rfl⟩
abbrev main_v239 : Ref sig .tc := ⟨.hbm, 367, rfl⟩
abbrev main_v240 : Ref sig .tc := ⟨.hbm, 368, rfl⟩
abbrev main_v241 : Ref sig .tc := ⟨.hbm, 369, rfl⟩
abbrev main_v242 : Ref sig .tc := ⟨.hbm, 370, rfl⟩
abbrev main_v243 : Ref sig .tc := ⟨.hbm, 371, rfl⟩
abbrev main_v244 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_v248 : Ref sig .tc := ⟨.hbm, 376, rfl⟩
abbrev main_v249 : Ref sig .tc := ⟨.hbm, 377, rfl⟩
abbrev main_c_89 : Ref sig .tc := ⟨.hbm, 378, rfl⟩
abbrev main_call1_v0 : Ref sig .tc := ⟨.hbm, 379, rfl⟩
abbrev main_v250 : Ref sig .tc := ⟨.hbm, 380, rfl⟩
abbrev main_v251 : Ref sig .tc := ⟨.hbm, 381, rfl⟩
abbrev main_v252 : Ref sig .tc := ⟨.hbm, 382, rfl⟩
abbrev main_c_90 : Ref sig .tc := ⟨.hbm, 383, rfl⟩
abbrev main_call2_v0 : Ref sig .tc := ⟨.hbm, 384, rfl⟩
abbrev main_v253 : Ref sig .tc := ⟨.hbm, 385, rfl⟩
abbrev main_v254 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_v258 : Ref sig .tc := ⟨.hbm, 390, rfl⟩
abbrev main_v259 : Ref sig .tc := ⟨.hbm, 391, rfl⟩
abbrev main_v260 : Ref sig .tc := ⟨.hbm, 392, rfl⟩
abbrev main_v261 : Ref sig .tc := ⟨.hbm, 393, rfl⟩
abbrev main_c_91 : Ref sig .tc := ⟨.hbm, 394, rfl⟩
abbrev main_call3_v0 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_v272 : Ref sig .tc := ⟨.hbm, 406, rfl⟩
abbrev main_c_92 : Ref sig .tc := ⟨.hbm, 407, rfl⟩
abbrev main_call4_v0 : Ref sig .tc := ⟨.hbm, 408, rfl⟩
abbrev main_v273 : Ref sig .tc := ⟨.hbm, 409, rfl⟩
abbrev main_v274 : Ref sig .tc := ⟨.hbm, 410, rfl⟩
abbrev main_v275 : Ref sig .tc := ⟨.hbm, 411, rfl⟩
abbrev main_c_93 : Ref sig .tc := ⟨.hbm, 412, rfl⟩
abbrev main_call5_v0 : Ref sig .tc := ⟨.hbm, 413, rfl⟩
abbrev main_v276 : Ref sig .tc := ⟨.hbm, 414, rfl⟩
abbrev main_v277 : Ref sig .tc := ⟨.hbm, 415, rfl⟩
abbrev main_v278 : Ref sig .tc := ⟨.hbm, 416, rfl⟩
abbrev main_v279 : Ref sig .tc := ⟨.hbm, 417, rfl⟩
abbrev main_v280 : Ref sig .tc := ⟨.hbm, 418, rfl⟩
abbrev main_v281 : Ref sig .tc := ⟨.hbm, 419, rfl⟩
abbrev main_v282 : Ref sig .tc := ⟨.hbm, 420, rfl⟩
abbrev main_v283 : Ref sig .tc := ⟨.hbm, 421, rfl⟩
abbrev main_v284 : Ref sig .tc := ⟨.hbm, 422, rfl⟩
abbrev main_c_94 : Ref sig .tc := ⟨.hbm, 423, rfl⟩
abbrev main_call6_v0 : Ref sig .tc := ⟨.hbm, 424, rfl⟩
abbrev main_v285 : Ref sig .tc := ⟨.hbm, 425, rfl⟩
abbrev main_v286 : Ref sig .tc := ⟨.hbm, 426, rfl⟩
abbrev main_v287 : Ref sig .tc := ⟨.hbm, 427, rfl⟩
abbrev main_v288 : Ref sig .tc := ⟨.hbm, 428, rfl⟩
abbrev main_v289 : Ref sig .tc := ⟨.hbm, 429, rfl⟩
abbrev main_v290 : Ref sig .tc := ⟨.hbm, 430, rfl⟩
abbrev main_v291 : Ref sig .tc := ⟨.hbm, 431, rfl⟩
abbrev main_v292 : Ref sig .tc := ⟨.hbm, 432, rfl⟩
abbrev main_v293 : Ref sig .tc := ⟨.hbm, 433, rfl⟩
abbrev main_v294 : Ref sig .tc := ⟨.hbm, 434, rfl⟩
abbrev main_v295 : Ref sig .tc := ⟨.hbm, 435, rfl⟩
abbrev main_c_95 : Ref sig .tc := ⟨.hbm, 436, rfl⟩
abbrev main_call7_v0 : Ref sig .tc := ⟨.hbm, 437, rfl⟩
abbrev main_v296 : Ref sig .tc := ⟨.hbm, 438, rfl⟩
abbrev main_v297 : Ref sig .tc := ⟨.hbm, 439, rfl⟩
abbrev main_v298 : Ref sig .tc := ⟨.hbm, 440, rfl⟩
abbrev main_c_96 : Ref sig .tc := ⟨.hbm, 441, rfl⟩
abbrev main_call8_v0 : Ref sig .tc := ⟨.hbm, 442, rfl⟩
abbrev main_v299 : Ref sig .tc := ⟨.hbm, 443, rfl⟩
abbrev main_v300 : Ref sig .tc := ⟨.hbm, 444, rfl⟩
abbrev main_v301 : Ref sig .tc := ⟨.hbm, 445, rfl⟩
abbrev main_v302 : Ref sig .tc := ⟨.hbm, 446, rfl⟩
abbrev main_v303 : Ref sig .tc := ⟨.hbm, 447, rfl⟩
abbrev main_v304 : Ref sig .tc := ⟨.hbm, 448, rfl⟩
abbrev main_v305 : Ref sig .tc := ⟨.hbm, 449, rfl⟩
abbrev main_v306 : Ref sig .tc := ⟨.hbm, 450, rfl⟩
abbrev main_v307 : Ref sig .tc := ⟨.hbm, 451, rfl⟩
abbrev main_c_97 : Ref sig .tc := ⟨.hbm, 452, rfl⟩
abbrev main_call9_v0 : Ref sig .tc := ⟨.hbm, 453, rfl⟩
abbrev main_v308 : Ref sig .tc := ⟨.hbm, 454, rfl⟩
abbrev main_v309 : Ref sig .tc := ⟨.hbm, 455, rfl⟩
abbrev main_v310 : Ref sig .tc := ⟨.hbm, 456, rfl⟩
abbrev main_v311 : Ref sig .tc := ⟨.hbm, 457, rfl⟩
abbrev main_v312 : Ref sig .tc := ⟨.hbm, 458, rfl⟩
abbrev main_v313 : Ref sig .tc := ⟨.hbm, 459, rfl⟩
abbrev main_v314 : Ref sig .tc := ⟨.hbm, 460, rfl⟩
abbrev main_v315 : Ref sig .tc := ⟨.hbm, 461, rfl⟩
abbrev main_v316 : Ref sig .tc := ⟨.hbm, 462, rfl⟩
abbrev main_v317 : Ref sig .tc := ⟨.hbm, 463, rfl⟩
abbrev main_v318 : Ref sig .tc := ⟨.hbm, 464, rfl⟩
abbrev main_c_98 : Ref sig .tc := ⟨.hbm, 465, rfl⟩
abbrev main_call10_v0 : Ref sig .tc := ⟨.hbm, 466, rfl⟩
abbrev main_v319 : Ref sig .tc := ⟨.hbm, 467, rfl⟩
abbrev main_v320 : Ref sig .tc := ⟨.hbm, 468, rfl⟩
abbrev main_v321 : Ref sig .tc := ⟨.hbm, 469, rfl⟩
abbrev main_c_99 : Ref sig .tc := ⟨.hbm, 470, rfl⟩
abbrev main_call11_v0 : Ref sig .tc := ⟨.hbm, 471, rfl⟩
abbrev main_v322 : Ref sig .tc := ⟨.hbm, 472, rfl⟩
abbrev main_v323 : Ref sig .tc := ⟨.hbm, 473, rfl⟩
abbrev main_v324 : Ref sig .tc := ⟨.hbm, 474, rfl⟩
abbrev main_v325 : Ref sig .tc := ⟨.hbm, 475, rfl⟩

abbrev nD : Nat := 1
abbrev τ : Topo := Topo.v7x

variable {F : FTy → Type} [FloatOps F]
-- ==== Kernel24.lean ====
abbrev S1x8x128x128 : Shape := ⟨4, ![1, 8, 128, 128]⟩
abbrev S1x8x128 : Shape := ⟨3, ![1, 8, 128]⟩
abbrev S8x1x8x128x128 : Shape := ⟨5, ![8, 1, 8, 128, 128]⟩
abbrev S8x1x8x128 : Shape := ⟨4, ![8, 1, 8, 128]⟩
abbrev S131072 : Shape := ⟨1, ![131072]⟩
abbrev S1024x128 : Shape := ⟨2, ![1024, 128]⟩
abbrev S1024 : Shape := ⟨1, ![1024]⟩
abbrev S_ : Shape := ⟨0, ![]⟩
abbrev S2048 : Shape := ⟨1, ![2048]⟩
abbrev S16x128 : Shape := ⟨2, ![16, 128]⟩
abbrev S1040x128 : Shape := ⟨2, ![1040, 128]⟩
abbrev S1x1040x128 : Shape := ⟨3, ![1, 1040, 128]⟩
abbrev S8x131072 : Shape := ⟨2, ![8, 131072]⟩
abbrev S8x1024x128 : Shape := ⟨3, ![8, 1024, 128]⟩
abbrev S8x1024 : Shape := ⟨2, ![8, 1024]⟩
abbrev S8x2048 : Shape := ⟨2, ![8, 2048]⟩
abbrev S8x16x128 : Shape := ⟨3, ![8, 16, 128]⟩
abbrev S8x1040x128 : Shape := ⟨3, ![8, 1040, 128]⟩
abbrev S1x520x128 : Shape := ⟨3, ![1, 520, 128]⟩
abbrev S8x520x128 : Shape := ⟨3, ![8, 520, 128]⟩
abbrev S520x128 : Shape := ⟨2, ![520, 128]⟩

abbrev nBuf : Space → Nat
  | .hbm => 50
  | .vmem => 16
  | .smem => 0
  | _ => 0

abbrev bufTy : (tb : Table) → Fin (tcTables nBuf tb) → BufTy
  | .hbm, ⟨0, _⟩ => ⟨S1x8x128x128, .f32⟩
  | .hbm, ⟨1, _⟩ => ⟨S1x8x128, .f32⟩
  | .hbm, ⟨2, _⟩ => ⟨S1x8x128x128, .f32⟩
  | .hbm, ⟨3, _⟩ => ⟨S1x8x128, .f32⟩
  | .hbm, ⟨4, _⟩ => ⟨S1x8x128x128, .f32⟩
  | .hbm, ⟨5, _⟩ => ⟨S1x8x128, .f32⟩
  | .hbm, ⟨6, _⟩ => ⟨S8x1x8x128x128, .bf16⟩
  | .hbm, ⟨7, _⟩ => ⟨S8x1x8x128, .bf16⟩
  | .hbm, ⟨8, _⟩ => ⟨S131072, .f32⟩
  | .hbm, ⟨9, _⟩ => ⟨S1024x128, .f32⟩
  | .hbm, ⟨10, _⟩ => ⟨S1024, .f32⟩
  | .hbm, ⟨11, _⟩ => ⟨S_, .i32⟩
  | .hbm, ⟨12, _⟩ => ⟨S_, .f32⟩
  | .hbm, ⟨13, _⟩ => ⟨S2048, .f32⟩
  | .hbm, ⟨14, _⟩ => ⟨S16x128, .f32⟩
  | .hbm, ⟨15, _⟩ => ⟨S1040x128, .f32⟩
  | .hbm, ⟨16, _⟩ => ⟨S1x1040x128, .f32⟩
  | .hbm, ⟨17, _⟩ => ⟨S131072, .f32⟩
  | .hbm, ⟨18, _⟩ => ⟨S1024x128, .f32⟩
  | .hbm, ⟨19, _⟩ => ⟨S1024, .f32⟩
  | .hbm, ⟨20, _⟩ => ⟨S_, .i32⟩
  | .hbm, ⟨21, _⟩ => ⟨S_, .f32⟩
  | .hbm, ⟨22, _⟩ => ⟨S2048, .f32⟩
  | .hbm, ⟨23, _⟩ => ⟨S16x128, .f32⟩
  | .hbm, ⟨24, _⟩ => ⟨S1040x128, .f32⟩
  | .hbm, ⟨25, _⟩ => ⟨S1x1040x128, .f32⟩
  | .hbm, ⟨26, _⟩ => ⟨S131072, .f32⟩
  | .hbm, ⟨27, _⟩ => ⟨S1024x128, .f32⟩
  | .hbm, ⟨28, _⟩ => ⟨S1024, .f32⟩
  | .hbm, ⟨29, _⟩ => ⟨S_, .i32⟩
  | .hbm, ⟨30, _⟩ => ⟨S_, .f32⟩
  | .hbm, ⟨31, _⟩ => ⟨S2048, .f32⟩
  | .hbm, ⟨32, _⟩ => ⟨S16x128, .f32⟩
  | .hbm, ⟨33, _⟩ => ⟨S1040x128, .f32⟩
  | .hbm, ⟨34, _⟩ => ⟨S1x1040x128, .f32⟩
  | .hbm, ⟨35, _⟩ => ⟨S8x131072, .bf16⟩
  | .hbm, ⟨36, _⟩ => ⟨S8x131072, .f32⟩
  | .hbm, ⟨37, _⟩ => ⟨S8x1024x128, .f32⟩
  | .hbm, ⟨38, _⟩ => ⟨S8x1024, .bf16⟩
  | .hbm, ⟨39, _⟩ => ⟨S8x1024, .f32⟩
  | .hbm, ⟨40, _⟩ => ⟨S_, .i32⟩
  | .hbm, ⟨41, _⟩ => ⟨S_, .f32⟩
  | .hbm, ⟨42, _⟩ => ⟨S8x2048, .f32⟩
  | .hbm, ⟨43, _⟩ => ⟨S8x16x128, .f32⟩
  | .hbm, ⟨44, _⟩ => ⟨S8x1040x128, .f32⟩
  | .hbm, ⟨45, _⟩ => ⟨S8x1040x128, .bf16⟩
  | .hbm, ⟨46, _⟩ => ⟨S1x1040x128, .f32⟩
  | .hbm, ⟨47, _⟩ => ⟨S1x1040x128, .f32⟩
  | .hbm, ⟨48, _⟩ => ⟨S1x1040x128, .f32⟩
  | .hbm, ⟨49, _⟩ => ⟨S1x1040x128, .f32⟩
  | .local _ .vmem, ⟨0, _⟩ => ⟨S1x520x128, .f32⟩
  | .local _ .vmem, ⟨1, _⟩ => ⟨S1x520x128, .f32⟩
  | .local _ .vmem, ⟨2, _⟩ => ⟨S1x520x128, .f32⟩
  | .local _ .vmem, ⟨3, _⟩ => ⟨S1x520x128, .f32⟩
  | .local _ .vmem, ⟨4, _⟩ => ⟨S1x520x128, .f32⟩
  | .local _ .vmem, ⟨5, _⟩ => ⟨S1x520x128, .f32⟩
  | .local _ .vmem, ⟨6, _⟩ => ⟨S8x520x128, .bf16⟩
  | .local _ .vmem, ⟨7, _⟩ => ⟨S8x520x128, .bf16⟩
  | .local _ .vmem, ⟨8, _⟩ => ⟨S1x520x128, .f32⟩
  | .local _ .vmem, ⟨9, _⟩ => ⟨S1x520x128, .f32⟩
  | .local _ .vmem, ⟨10, _⟩ => ⟨S1x520x128, .f32⟩
  | .local _ .vmem, ⟨11, _⟩ => ⟨S1x520x128, .f32⟩
  | .local _ .vmem, ⟨12, _⟩ => ⟨S1x520x128, .f32⟩
  | .local _ .vmem, ⟨13, _⟩ => ⟨S1x520x128, .f32⟩
  | .local _ .vmem, ⟨14, _⟩ => ⟨S1x520x128, .f32⟩
  | .local _ .vmem, ⟨15, _⟩ => ⟨S1x520x128, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_call3_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_v30_2 : Ref sig .tc := ⟨.hbm, 48, rfl⟩
abbrev main_v30_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x520x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x520x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x520x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x520x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x520x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x520x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x520x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x520x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel24Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference24Ideal.lean ====
abbrev S1x8x128x128 : Shape := ⟨4, ![1, 8, 128, 128]⟩
abbrev S1x8x128 : Shape := ⟨3, ![1, 8, 128]⟩
abbrev S8x1x8x128x128 : Shape := ⟨5, ![8, 1, 8, 128, 128]⟩
abbrev S8x1x8x128 : Shape := ⟨4, ![8, 1, 8, 128]⟩
abbrev S_ : Shape := ⟨0, ![]⟩
abbrev S131072 : Shape := ⟨1, ![131072]⟩
abbrev S1024x128 : Shape := ⟨2, ![1024, 128]⟩
abbrev S1024 : Shape := ⟨1, ![1024]⟩
abbrev S2048 : Shape := ⟨1, ![2048]⟩
abbrev S16x128 : Shape := ⟨2, ![16, 128]⟩
abbrev S1040x128 : Shape := ⟨2, ![1040, 128]⟩
abbrev S1x1040x128 : Shape := ⟨3, ![1, 1040, 128]⟩

abbrev nBuf : Space → Nat
  | .hbm => 116
  | .vmem => 0
  | .smem => 0
  | _ => 0

abbrev bufTy : (tb : Table) → Fin (tcTables nBuf tb) → BufTy
  | .hbm, ⟨0, _⟩ => ⟨S1x8x128x128, .f32⟩
  | .hbm, ⟨1, _⟩ => ⟨S1x8x128, .f32⟩
  | .hbm, ⟨2, _⟩ => ⟨S1x8x128x128, .f32⟩
  | .hbm, ⟨3, _⟩ => ⟨S1x8x128, .f32⟩
  | .hbm, ⟨4, _⟩ => ⟨S1x8x128x128, .f32⟩
  | .hbm, ⟨5, _⟩ => ⟨S1x8x128, .f32⟩
  | .hbm, ⟨6, _⟩ => ⟨S8x1x8x128x128, .bf16⟩
  | .hbm, ⟨7, _⟩ => ⟨S8x1x8x128, .bf16⟩
  | .hbm, ⟨8, _⟩ => ⟨S8x1x8x128x128, .f32⟩
  | .hbm, ⟨9, _⟩ => ⟨S_, .f32⟩
  | .hbm, ⟨10, _⟩ => ⟨S1x8x128x128, .f32⟩
  | .hbm, ⟨11, _⟩ => ⟨S_, .f32⟩
  | .hbm, ⟨12, _⟩ => ⟨S1x8x128x128, .f32⟩
  | .hbm, ⟨13, _⟩ => ⟨S1x8x128x128, .f32⟩
  | .hbm, ⟨14, _⟩ => ⟨S_, .f32⟩
  | .hbm, ⟨15, _⟩ => ⟨S1x8x128x128, .f32⟩
  | .hbm, ⟨16, _⟩ => ⟨S1x8x128x128, .f32⟩
  | .hbm, ⟨17, _⟩ => ⟨S1x8x128x128, .f32⟩
  | .hbm, ⟨18, _⟩ => ⟨S_, .f32⟩
  | .hbm, ⟨19, _⟩ => ⟨S1x8x128x128, .f32⟩
  | .hbm, ⟨20, _⟩ => ⟨S1x8x128x128, .f32⟩
  | .hbm, ⟨21, _⟩ => ⟨S1x8x128x128, .f32⟩
  | .hbm, ⟨22, _⟩ => ⟨S_, .f32⟩
  | .hbm, ⟨23, _⟩ => ⟨S1x8x128x128, .f32⟩
  | .hbm, ⟨24, _⟩ => ⟨S1x8x128x128, .f32⟩
  | .hbm, ⟨25, _⟩ => ⟨S1x8x128x128, .f32⟩
  | .hbm, ⟨26, _⟩ => ⟨S_, .f32⟩
  | .hbm, ⟨27, _⟩ => ⟨S1x8x128x128, .f32⟩
  | .hbm, ⟨28, _⟩ => ⟨S1x8x128x128, .f32⟩
  | .hbm, ⟨29, _⟩ => ⟨S_, .f32⟩
  | .hbm, ⟨30, _⟩ => ⟨S1x8x128x128, .f32⟩
  | .hbm, ⟨31, _⟩ => ⟨S1x8x128x128, .f32⟩
  | .hbm, ⟨32, _⟩ => ⟨S1x8x128x128, .f32⟩
  | .hbm, ⟨33, _⟩ => ⟨S_, .f32⟩
  | .hbm, ⟨34, _⟩ => ⟨S1x8x128x128, .f32⟩
  | .hbm, ⟨35, _⟩ => ⟨S1x8x128x128, .f32⟩
  | .hbm, ⟨36, _⟩ => ⟨S1x8x128x128, .f32⟩
  | .hbm, ⟨37, _⟩ => ⟨S_, .f32⟩
  | .hbm, ⟨38, _⟩ => ⟨S1x8x128x128, .f32⟩
  | .hbm, ⟨39, _⟩ => ⟨S1x8x128x128, .f32⟩
  | .hbm, ⟨40, _⟩ => ⟨S1x8x128x128, .f32⟩
  | .hbm, ⟨41, _⟩ => ⟨S_, .f32⟩
  | .hbm, ⟨42, _⟩ => ⟨S1x8x128x128, .f32⟩
  | .hbm, ⟨43, _⟩ => ⟨S1x8x128x128, .f32⟩
  | .hbm, ⟨44, _⟩ => ⟨S8x1x8x128, .f32⟩
  | .hbm, ⟨45, _⟩ => ⟨S_, .f32⟩
  | .hbm, ⟨46, _⟩ => ⟨S1x8x128, .f32⟩
  | .hbm, ⟨47, _⟩ => ⟨S_, .f32⟩
  | .hbm, ⟨48, _⟩ => ⟨S1x8x128, .f32⟩
  | .hbm, ⟨49, _⟩ => ⟨S1x8x128, .f32⟩
  | .hbm, ⟨50, _⟩ => ⟨S_, .f32⟩
  | .hbm, ⟨51, _⟩ => ⟨S1x8x128, .f32⟩
  | .hbm, ⟨52, _⟩ => ⟨S1x8x128, .f32⟩
  | .hbm, ⟨53, _⟩ => ⟨S1x8x128, .f32⟩
  | .hbm, ⟨54, _⟩ => ⟨S_, .f32⟩
  | .hbm, ⟨55, _⟩ => ⟨S1x8x128, .f32⟩
  | .hbm, ⟨56, _⟩ => ⟨S1x8x128, .f32⟩
  | .hbm, ⟨57, _⟩ => ⟨S1x8x128, .f32⟩
  | .hbm, ⟨58, _⟩ => ⟨S_, .f32⟩
  | .hbm, ⟨59, _⟩ => ⟨S1x8x128, .f32⟩
  | .hbm, ⟨60, _⟩ => ⟨S1x8x128, .f32⟩
  | .hbm, ⟨61, _⟩ => ⟨S1x8x128, .f32⟩
  | .hbm, ⟨62, _⟩ => ⟨S_, .f32⟩
  | .hbm, ⟨63, _⟩ => ⟨S1x8x128, .f32⟩
  | .hbm, ⟨64, _⟩ => ⟨S1x8x128, .f32⟩
  | .hbm, ⟨65, _⟩ => ⟨S_, .f32⟩
  | .hbm, ⟨66, _⟩ => ⟨S1x8x128, .f32⟩
  | .hbm, ⟨67, _⟩ => ⟨S1x8x128, .f32⟩
  | .hbm, ⟨68, _⟩ => ⟨S1x8x128, .f32⟩
  | .hbm, ⟨69, _⟩ => ⟨S_, .f32⟩
  | .hbm, ⟨70, _⟩ => ⟨S1x8x128, .f32⟩
  | .hbm, ⟨71, _⟩ => ⟨S1x8x128, .f32⟩
  | .hbm, ⟨72, _⟩ => ⟨S1x8x128, .f32⟩
  | .hbm, ⟨73, _⟩ => ⟨S_, .f32⟩
  | .hbm, ⟨74, _⟩ => ⟨S1x8x128, .f32⟩
  | .hbm, ⟨75, _⟩ => ⟨S1x8x128, .f32⟩
  | .hbm, ⟨76, _⟩ => ⟨S1x8x128, .f32⟩
  | .hbm, ⟨77, _⟩ => ⟨S_, .f32⟩
  | .hbm, ⟨78, _⟩ => ⟨S1x8x128, .f32⟩
  | .hbm, ⟨79, _⟩ => ⟨S1x8x128, .f32⟩
  | .hbm, ⟨80, _⟩ => ⟨S131072, .f32⟩
  | .hbm, ⟨81, _⟩ => ⟨S1024x128, .f32⟩
  | .hbm, ⟨82, _⟩ => ⟨S1024, .f32⟩
  | .hbm, ⟨83, _⟩ => ⟨S_, .i32⟩
  | .hbm, ⟨84, _⟩ => ⟨S_, .f32⟩
  | .hbm, ⟨85, _⟩ => ⟨S2048, .f32⟩
  | .hbm, ⟨86, _⟩ => ⟨S16x128, .f32⟩
  | .hbm, ⟨87, _⟩ => ⟨S1040x128, .f32⟩
  | .hbm, ⟨88, _⟩ => ⟨S1x1040x128, .f32⟩
  | .hbm, ⟨89, _⟩ => ⟨S131072, .f32⟩
  | .hbm, ⟨90, _⟩ => ⟨S1024x128, .f32⟩
  | .hbm, ⟨91, _⟩ => ⟨S1024, .f32⟩
  | .hbm, ⟨92, _⟩ => ⟨S_, .i32⟩
  | .hbm, ⟨93, _⟩ => ⟨S_, .f32⟩
  | .hbm, ⟨94, _⟩ => ⟨S2048, .f32⟩
  | .hbm, ⟨95, _⟩ => ⟨S16x128, .f32⟩
  | .hbm, ⟨96, _⟩ => ⟨S1040x128, .f32⟩
  | .hbm, ⟨97, _⟩ => ⟨S1x1040x128, .f32⟩
  | .hbm, ⟨98, _⟩ => ⟨S131072, .f32⟩
  | .hbm, ⟨99, _⟩ => ⟨S1024x128, .f32⟩
  | .hbm, ⟨100, _⟩ => ⟨S1024, .f32⟩
  | .hbm, ⟨101, _⟩ => ⟨S_, .i32⟩
  | .hbm, ⟨102, _⟩ => ⟨S_, .f32⟩
  | .hbm, ⟨103, _⟩ => ⟨S2048, .f32⟩
  | .hbm, ⟨104, _⟩ => ⟨S16x128, .f32⟩
  | .hbm, ⟨105, _⟩ => ⟨S1040x128, .f32⟩
  | .hbm, ⟨106, _⟩ => ⟨S1x1040x128, .f32⟩
  | .hbm, ⟨107, _⟩ => ⟨S131072, .f32⟩
  | .hbm, ⟨108, _⟩ => ⟨S1024x128, .f32⟩
  | .hbm, ⟨109, _⟩ => ⟨S1024, .f32⟩
  | .hbm, ⟨110, _⟩ => ⟨S_, .i32⟩
  | .hbm, ⟨111, _⟩ => ⟨S_, .f32⟩
  | .hbm, ⟨112, _⟩ => ⟨S2048, .f32⟩
  | .hbm, ⟨113, _⟩ => ⟨S16x128, .f32⟩
  | .hbm, ⟨114, _⟩ => ⟨S1040x128, .f32⟩
  | .hbm, ⟨115, _⟩ => ⟨S1x1040x128, .f32⟩
  | _, _ => ⟨S1x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_v29 : Ref sig .tc := ⟨.hbm, 49, rfl⟩
abbrev main_cst_11 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_12 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_13 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_14 : Ref sig .tc := ⟨.hbm, 62, rfl⟩
abbrev main_v39 : Ref sig .tc := ⟨.hbm, 63, rfl⟩
abbrev main_v40 : Ref sig .tc := ⟨.hbm, 64, rfl⟩
abbrev main_cst_15 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_16 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_17 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_18 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c : Ref sig .tc := ⟨.hbm, 83, rfl⟩
abbrev main_call0_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_19 : Ref sig .tc := ⟨.hbm, 92, rfl⟩
abbrev main_call1_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_20 : Ref sig .tc := ⟨.hbm, 101, rfl⟩
abbrev main_call2_v0 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_21 : Ref sig .tc := ⟨.hbm, 110, rfl⟩
abbrev main_call3_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]
-- ==== Kernel25.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Reference25Ideal.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S5x1024 : Shape := ⟨2, ![5, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S4096x1024, .bf16⟩
  | .hbm, ⟨90, _⟩ => ⟨S1x1024, .f32⟩
  | .hbm, ⟨91, _⟩ => ⟨S1x1024, .f32⟩
  | .hbm, ⟨92, _⟩ => ⟨S_, .f32⟩
  | .hbm, ⟨93, _⟩ => ⟨S5x1024, .f32⟩
  | .hbm, ⟨94, _⟩ => ⟨S8x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_cst_8 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Kernel26.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel27.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .local _ .vmem, ⟨0, _⟩ => ⟨S4096x512, .f32⟩
  | .local _ .vmem, ⟨1, _⟩ => ⟨S4096x512, .f32⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel30.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel31.lean ====
abbrev S3x4096x1024 : Shape := ⟨3, ![3, 4096, 1024]⟩
abbrev S1024x3072 : Shape := ⟨2, ![1024, 3072]⟩
abbrev S4096x1024 : Shape := ⟨2, ![4096, 1024]⟩
abbrev S1x1024 : Shape := ⟨2, ![1, 1024]⟩
abbrev S8x1024 : Shape := ⟨2, ![8, 1024]⟩
abbrev S3x512x1024 : Shape := ⟨3, ![3, 512, 1024]⟩
abbrev S512x1024 : Shape := ⟨2, ![512, 1024]⟩
abbrev S1x512x1024 : Shape := ⟨3, ![1, 512, 1024]⟩
abbrev S512x3072 : Shape := ⟨2, ![512, 3072]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S3x4096x1024, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S8x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== Reference31Ideal.lean ====
abbrev S3x4096x1024 : Shape := ⟨3, ![3, 4096, 1024]⟩
abbrev S1024x3072 : Shape := ⟨2, ![1024, 3072]⟩
abbrev S4096x1024 : Shape := ⟨2, ![4096, 1024]⟩
abbrev S1x1024 : Shape := ⟨2, ![1, 1024]⟩
abbrev S1x4096x1024 : Shape := ⟨3, ![1, 4096, 1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x4096x1024, .bf16⟩
  | .hbm, ⟨8, _⟩ => ⟨S4096x1024, .bf16⟩
  | .hbm, ⟨9, _⟩ => ⟨S1x4096x1024, .bf16⟩
  | .hbm, ⟨10, _⟩ => ⟨S4096x1024, .bf16⟩
  | .hbm, ⟨11, _⟩ => ⟨S1x4096x1024, .bf16⟩
  | .hbm, ⟨12, _⟩ => ⟨S4096x1024, .bf16⟩
  | .hbm, ⟨13, _⟩ => ⟨S4096x3072, .bf16⟩
  | .hbm, ⟨14, _⟩ => ⟨S4096x3072, .f32⟩
  | .hbm, ⟨15, _⟩ => ⟨S_, .f32⟩
  | .hbm, ⟨16, _⟩ => ⟨S1x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1024x3072, .f32⟩
  | .hbm, ⟨39, _⟩ => ⟨S4096x3072, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .bf16⟩
  | .hbm, ⟨78, _⟩ => ⟨S_, .f32⟩
  | .hbm, ⟨79, _⟩ => ⟨S5x1024, .f32⟩
  | .hbm, ⟨80, _⟩ => ⟨S8x1024, .f32⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel32.lean ====
abbrev S4096x1024 : Shape := ⟨2, ![4096, 1024]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== Reference32Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .bf16⟩
  | .hbm, ⟨71, _⟩ => ⟨S_, .f32⟩
  | .hbm, ⟨72, _⟩ => ⟨S5x1024, .f32⟩
  | .hbm, ⟨73, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel33.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== Reference33Ideal.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x2048, .f32⟩
  | .hbm, ⟨31, _⟩ => ⟨S4096x2048, .f32⟩
  | .hbm, ⟨32, _⟩ => ⟨S4096x2048, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .bf16⟩
  | .hbm, ⟨71, _⟩ => ⟨S_, .f32⟩
  | .hbm, ⟨72, _⟩ => ⟨S5x1024, .f32⟩
  | .hbm, ⟨73, _⟩ => ⟨S8x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel34.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1x1024, .f32⟩
  | .hbm, ⟨3, _⟩ => ⟨S4096x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference34Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel35.lean ====
abbrev S4096x1024 : Shape := ⟨2, ![4096, 1024]⟩
abbrev S1024x1024 : Shape := ⟨2, ![1024, 1024]⟩
abbrev S8x1024 : Shape := ⟨2, ![8, 1024]⟩
abbrev S512x1024 : Shape := ⟨2, ![512, 1024]⟩
abbrev S1024 : Shape := ⟨1, ![1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference35Ideal.lean ====
abbrev S4096x1024 : Shape := ⟨2, ![4096, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S7x1024 : Shape := ⟨2, ![7, 1024]⟩
abbrev S8x1024 : Shape := ⟨2, ![8, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .bf16⟩
  | .hbm, ⟨32, _⟩ => ⟨S_, .f32⟩
  | .hbm, ⟨33, _⟩ => ⟨S7x1024, .f32⟩
  | .hbm, ⟨34, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.ConvGrad.lean ====
/- The gradient of the short gated convolution. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.ConvGrad

open Cert.KernelIdeal Cert.KernelIdeal.Gen
open Cert.ReferenceIdeal.Read

/-! ## Stores over a fill -/

section Fill
variable {sh : Shape} {e : EltTy} (L : List (View.Piece (Elt Ideal) sh e)) (q : View.Piece (Elt Ideal) sh e) (y : sh.Idx)

/-- Where one of the later stores lies, the fill stored first does not show. -/
theorem canon_of_covered (h : ∃ p ∈ L, y ∈ p.1.set) : View.canon (L ++ [q]) y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine ih ?_
      obtain ⟨p', hp, hy⟩ := h
      rcases List.mem_cons.mp hp with rfl | hp'
      · exact absurd hy hm
      · exact ⟨p', hp', hy⟩

/-- Where none of the later stores lies, the fill shows. -/
theorem canon_of_uncovered (h : ∀ p ∈ L, y ∉ p.1.set) : View.canon (L ++ [q]) y = View.canon [q] y := by
  induction L with
  | nil => rfl
  | cons p L ih =>
    rw [List.cons_append, View.canon_cons_of_not_mem _ _ (h p List.mem_cons_self)]
    exact ih fun p' hp => h p' (List.mem_cons_of_mem _ hp)

/-- Which places one row's store holds. -/
theorem mem_row (k : Nat) (inb : ∀ a, (![k, 0] : Fin 2 → Nat) a + (![1, 128] : Fin 2 → Nat) a ≤ S8x128.size a) (y : S8x128.Idx) :
    y ∈ (Rect.unit (s := S8x128) ![k, 0] ![1, 128] inb).set ↔ (y 0).val = k := by
  rw [Rect.mem_set_unit]
  have h1 : (y 1).val < 128 := (y 1).isLt
  refine ⟨fun h => ?_, fun h a => ?_⟩
  · have h0 : k ≤ (y 0).val ∧ (y 0).val < k + 1 := h 0
    omega
  · match a with
    | ⟨0, _⟩ => show k ≤ (y 0).val ∧ (y 0).val < k + 1; omega
    | ⟨1, _⟩ => show 0 ≤ (y 1).val ∧ (y 1).val < 0 + 128; omega

/-- The four rows' stores hold every place of the first four rows. -/
theorem rows_cover (a b c d : FVec Ideal S1x128 .f32) (y : S8x128.Idx) (hy : (y 0).val < 4) : ∃ p ∈ ([⟨Rect.unit ![3, 0] ![1, 128] inb_S8x128_S1x128_3_0, a⟩, ⟨Rect.unit ![2, 0] ![1, 128] inb_S8x128_S1x128_2_0, b⟩,
      ⟨Rect.unit ![1, 0] ![1, 128] inb_S8x128_S1x128_1_0, c⟩, ⟨Rect.unit ![0, 0] ![1, 128] inb_S8x128_S1x128_0_0, d⟩] : List (View.Piece (Elt Ideal) S8x128 .f32)), y ∈ p.1.set := by
  rcases (by omega : (y 0).val = 3 ∨ (y 0).val = 2 ∨ (y 0).val = 1 ∨ (y 0).val = 0) with h | h | h | h
  · exact ⟨⟨_, a⟩, List.mem_cons_self, (mem_row 3 inb_S8x128_S1x128_3_0 y).mpr h⟩
  · exact ⟨⟨_, b⟩, List.mem_cons_of_mem _ List.mem_cons_self, (mem_row 2 inb_S8x128_S1x128_2_0 y).mpr h⟩
  · exact ⟨⟨_, c⟩, List.mem_cons_of_mem _ (List.mem_cons_of_mem _ List.mem_cons_self), (mem_row 1 inb_S8x128_S1x128_1_0 y).mpr h⟩
  · exact ⟨⟨_, d⟩, List.mem_cons_of_mem _ (List.mem_cons_of_mem _ (List.mem_cons_of_mem _ List.mem_cons_self)), (mem_row 0 inb_S8x128_S1x128_0_0 y).mpr h⟩

/-- They hold no place below. -/
theorem rows_miss (a b c d : FVec Ideal S1x128 .f32) (y : S8x128.Idx) (hy : ¬ (y 0).val < 4) : ∀ p ∈ ([⟨Rect.unit ![3, 0] ![1, 128] inb_S8x128_S1x128_3_0, a⟩, ⟨Rect.unit ![2, 0] ![1, 128] inb_S8x128_S1x128_2_0, b⟩,
      ⟨Rect.unit ![1, 0] ![1, 128] inb_S8x128_S1x128_1_0, c⟩, ⟨Rect.unit ![0, 0] ![1, 128] inb_S8x128_S1x128_0_0, d⟩] : List (View.Piece (Elt Ideal) S8x128 .f32)), y ∉ p.1.set := by
  rw [List.forall_mem_cons, List.forall_mem_cons, List.forall_mem_cons, List.forall_mem_cons]
  refine ⟨fun h => ?_, fun h => ?_, fun h => ?_, fun h => ?_, fun _ h => absurd h List.not_mem_nil⟩
  · have := (mem_row 3 inb_S8x128_S1x128_3_0 y).mp h; omega
  · have := (mem_row 2 inb_S8x128_S1x128_2_0 y).mp h; omega
  · have := (mem_row 1 inb_S8x128_S1x128_1_0 y).mp h; omega
  · have := (mem_row 0 inb_S8x128_S1x128_0_0 y).mp h; omega

/-- The fill holds every place. -/
theorem mem_fill (y : S8x128.Idx) : y ∈ (Rect.unit (s := S8x128) ![0, 0] ![8, 128] inb_S8x128_S8x128_0_0).set := by
  rw [Rect.mem_set_unit]
  have h0 : (y 0).val < 8 := (y 0).isLt
  have h1 : (y 1).val < 128 := (y 1).isLt
  intro a
  match a with
  | ⟨0, _⟩ => show 0 ≤ (y 0).val ∧ (y 0).val < 0 + 8; omega
  | ⟨1, _⟩ => show 0 ≤ (y 1).val ∧ (y 1).val < 0 + 128; omega

end Fill

/-! ## Shifts along the sequence -/

/-- The sequence moved up by one or two places: a rotation whose wrapped-around rows are masked to zero. -/
theorem shift_up (y : FVec Ideal S4096x128 .f32) (d : Nat) (hd : d = 1 ∨ d = 2) (s : Fin 4096) (j : Fin 128) :
    select (cmpi .slt (iota .tc S4096x128 32 [0] iota_S4096x128_d0_w32) (broadcast S4096x128 (BitVec.ofNat 32 (4096 - d))))
      (dynamicRotate 0 (BitVec.ofNat 32 (4096 - d)) none y rotates_S4096x128_d0) (broadcast S4096x128 (Scalar.ofBits (F := Ideal) .f32 0x00000000#32)) (ix2 s j)
    = if h : s.val + d < 4096 then y (ix2 ⟨s.val + d, h⟩ j) else (0 : EReal) := by
  pointwise
  have hs := s.isLt
  have hm : (BitVec.ofNat 32 (4096 - d)).toNat = 4096 - d := by
    rw [BitVec.toNat_ofNat]; omega
  rw [WordCmp.cmpi_slt_ofNat (by omega) (by omega)]
  by_cases h : s.val + d < 4096
  · rw [dif_pos h, decide_eq_true (by omega : s.val < 4096 - d)]
    refine congrArg (fun r : Fin 4096 => y (ix2 r j)) (Fin.ext ?_)
    show (s.val + 4096 - (BitVec.ofNat 32 (4096 - d)).toNat % 4096) % 4096 = s.val + d
    rw [hm]; omega
  · rw [dif_neg h, decide_eq_false (by omega : ¬ s.val < 4096 - d)]
    rfl

/-- The sequence moved down by one or two places: a rotation whose wrapped-around rows are masked to zero. -/
theorem shift_down (y : FVec Ideal S4096x128 .f32) (d : Nat) (hd : d = 1 ∨ d = 2) (s : Fin 4096) (j : Fin 128) :
    select (cmpi .sge (iota .tc S4096x128 32 [0] iota_S4096x128_d0_w32) (broadcast S4096x128 (BitVec.ofNat 32 d)))
      (dynamicRotate 0 (BitVec.ofNat 32 d) none y rotates_S4096x128_d0) (broadcast S4096x128 (Scalar.ofBits (F := Ideal) .f32 0x00000000#32)) (ix2 s j)
    = if h : s.val < d then (0 : EReal) else y (ix2 ⟨s.val - d, by have := s.isLt; omega⟩ j) := by
  pointwise
  have hs := s.isLt
  have hm : (BitVec.ofNat 32 d).toNat = d := by
    rw [BitVec.toNat_ofNat]; omega
  rw [WordCmp.cmpi_sge_ofNat (by omega) (by omega)]
  by_cases h : s.val < d
  · rw [dif_pos h, decide_eq_false (by omega : ¬ d ≤ s.val)]
    rfl
  · rw [dif_neg h, decide_eq_true (by omega : d ≤ s.val)]
    refine congrArg (fun r : Fin 4096 => y (ix2 r j)) (Fin.ext ?_)
    show (s.val + 4096 - (BitVec.ofNat 32 d).toNat % 4096) % 4096 = s.val - d
    rw [hm]; omega

/-- The gated input of the convolution one place earlier. -/
theorem pay8_apply (v0 v2 : Vec Ideal S4096x128 .bf16) (s : Fin 4096) (j : Fin 128) :
    k0_pay8 v0 v2 (ix2 s j) = if h : s.val < 1 then (0 : EReal) else k0_pay7 v0 v2 (ix2 ⟨s.val - 1, by have := s.isLt; omega⟩ j) := by
  unfold k0_pay8
  generalize k0_pay7 v0 v2 = y
  exact shift_down y 1 (.inl rfl) s j

/-- The gated input of the convolution two places earlier. -/
theorem pay9_apply (v0 v2 : Vec Ideal S4096x128 .bf16) (s : Fin 4096) (j : Fin 128) :
    k0_pay9 v0 v2 (ix2 s j) = if h : s.val < 2 then (0 : EReal) else k0_pay7 v0 v2 (ix2 ⟨s.val - 2, by have := s.isLt; omega⟩ j) := by
  unfold k0_pay9
  generalize k0_pay7 v0 v2 = y
  exact shift_down y 2 (.inr rfl) s j

/-- The gradient of the convolution's input: every weight row times the output's gradient that many places later. -/
theorem pay17_apply (v18 v20 v22 : FVec Ideal S1x128 .f32) (v36 : FVec Ideal S4096x128 .f32) (v42 : Vec Ideal S4096x128 .bf16) (s : Fin 4096) (j : Fin 128) :
    k0_pay17 v18 v20 v22 v36 v42 (ix2 s j)
    = v22 (ix2 0 j) * k0_pay16 v36 v42 (ix2 s j)
      + v20 (ix2 0 j) * (if h : s.val + 1 < 4096 then k0_pay16 v36 v42 (ix2 ⟨s.val + 1, h⟩ j) else (0 : EReal))
      + v18 (ix2 0 j) * (if h : s.val + 2 < 4096 then k0_pay16 v36 v42 (ix2 ⟨s.val + 2, h⟩ j) else (0 : EReal)) := by
  unfold k0_pay17
  generalize k0_pay16 v36 v42 = y
  simp only [addf_apply, mulf_apply]
  rw [shift_up y 1 (.inl rfl), shift_up y 2 (.inr rfl)]
  pointwise

/-! ## The reference, element by element -/

/-- The gate times the value: the convolution's input at place `s` of channel `j`. -/
abbrev gated (X1 : (⟨S4096x3072, .bf16⟩ : BufTy).Contents (Elt Ideal)) (s : Fin 4096) (j : Fin 1024) : EReal :=
  (show EReal from X1 (ix2 s ⟨1024 + j.val, by have := j.isLt; omega⟩)) * X1 (ix2 s ⟨2048 + j.val, by have := j.isLt; omega⟩)

/-- The gradient of the convolution's output at place `s` of channel `j`. -/
abbrev grad (X0 : (⟨S4096x1024, .bf16⟩ : BufTy).Contents (Elt Ideal)) (X1 : (⟨S4096x3072, .bf16⟩ : BufTy).Contents (Elt Ideal)) (s : Fin 4096) (j : Fin 1024) : EReal :=
  (show EReal from X0 (ix2 s j)) * X1 (ix2 s ⟨j.val, by have := j.isLt; omega⟩)

/-- The gated input `d` places earlier, zero before the sequence starts. -/
abbrev earlier (X1 : (⟨S4096x3072, .bf16⟩ : BufTy).Contents (Elt Ideal)) (d : Nat) (s : Fin 4096) (j : Fin 1024) : EReal :=
  if h : s.val < d then 0 else gated X1 ⟨s.val - d, by have := s.isLt; omega⟩ j

/-- The output's gradient `d` places later, zero behind the sequence's end. -/
abbrev later (X0 : (⟨S4096x1024, .bf16⟩ : BufTy).Contents (Elt Ideal)) (X1 : (⟨S4096x3072, .bf16⟩ : BufTy).Contents (Elt Ideal)) (d : Nat) (s : Fin 4096) (j : Fin 1024) : EReal :=
  if h : s.val + d < 4096 then grad X0 X1 ⟨s.val + d, h⟩ j else 0

/-- The reference's gated input with two rows of zeros before it. -/
theorem padded (X1 : (⟨S4096x3072, .bf16⟩ : BufTy).Contents (Elt Ideal)) (r : Fin 4098) (d : Nat) (s : Fin 4096) (j : Fin 1024) (h : r.val + d = s.val + 2) :
    val_main_v6 (F := Ideal) X1 (ix2 r j) = earlier X1 d s j := by
  pointwise [val_main_v6, val_main_v5, val_main_v4, val_main_v3, val_main_v2, val_main_v0, val_main_cst]
  by_cases hr : r.val < 2
  · simp only [dif_pos hr]
    exact (show earlier X1 d s j = 0 from dif_pos (by omega)).symm
  · simp only [dif_neg hr]
    refine Eq.trans ?_ (dif_neg (by omega : ¬ s.val < d)).symm
    have e : (⟨r.val - 2, by have := r.isLt; omega⟩ : Fin 4096) = ⟨s.val - d, by have := s.isLt; omega⟩ := Fin.ext (by show r.val - 2 = s.val - d; omega)
    exact congrArg (fun p : Fin 4096 => gated X1 p j) e

/-- The gradient of the output gate. -/
theorem ref_b (X0 : (⟨S4096x1024, .bf16⟩ : BufTy).Contents (Elt Ideal)) (X1 : (⟨S4096x3072, .bf16⟩ : BufTy).Contents (Elt Ideal)) (X2 : (⟨S3x1024, .f32⟩ : BufTy).Contents (Elt Ideal)) (X3 : (⟨S1x1024, .f32⟩ : BufTy).Contents (Elt Ideal)) (s : Fin 4096) (j : Fin 1024) :
    val_main_v67 (F := Ideal) X0 X1 X2 X3 (ix3 0 s j)
    = (show EReal from X0 (ix2 s j)) * ((show EReal from X2 (ix2 0 j)) * earlier X1 2 s j + (show EReal from X2 (ix2 1 j)) * earlier X1 1 s j
      + (show EReal from X2 (ix2 2 j)) * gated X1 s j + X3 (ix2 0 j)) := by
  pointwise [val_main_v0, val_main_v1, val_main_v2, val_main_v3, val_main_v4, val_main_v5, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_1, val_main_cst_2, val_main_cst_3, val_main_cst_4, val_main_cst_5, val_main_cst_6, val_main_cst_7, val_main_cst_8, val_main_cst_9, val_main_cst_10, val_main_cst_11, val_main_cst]
  rw [padded X1 _ 2 s j rfl, padded X1 _ 1 s j (by show 1 + s.val + 1 = s.val + 2; omega), padded X1 _ 0 s j (by show 2 + s.val + 0 = s.val + 2; omega)]
  rfl

/-- The gradient of the convolution's input, as both programs add it up. -/
abbrev back (X0 : (⟨S4096x1024, .bf16⟩ : BufTy).Contents (Elt Ideal)) (X1 : (⟨S4096x3072, .bf16⟩ : BufTy).Contents (Elt Ideal)) (X2 : (⟨S3x1024, .f32⟩ : BufTy).Contents (Elt Ideal)) (s : Fin 4096) (j : Fin 1024) : EReal :=
  (show EReal from X2 (ix2 2 j)) * grad X0 X1 s j + (show EReal from X2 (ix2 1 j)) * later X0 X1 1 s j + (show EReal from X2 (ix2 0 j)) * later X0 X1 2 s j

/-- The reference's gradient of the convolution's input. -/
theorem ref_back (X0 : (⟨S4096x1024, .bf16⟩ : BufTy).Contents (Elt Ideal)) (X1 : (⟨S4096x3072, .bf16⟩ : BufTy).Contents (Elt Ideal)) (X2 : (⟨S3x1024, .f32⟩ : BufTy).Contents (Elt Ideal)) (s : Fin 4096) (j : Fin 1024) : val_main_v56 (F := Ideal) X0 X1 X2 (ix2 s j) = back X0 X1 X2 s j := by
  pointwise [val_main_v0, val_main_v1, val_main_v2, val_main_v3, val_main_v4, val_main_v5, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_1, val_main_cst_2, val_main_cst_3, val_main_cst_4, val_main_cst_5, val_main_cst_6, val_main_cst_7, val_main_cst_8, val_main_cst_9, val_main_cst_10, val_main_cst_11, val_main_cst]
  refine congrArg₂ (· + ·) (congrArg₂ (· + ·) (congrArg (_ * ·) (mul_comm (G := EReal) _ _)) ?_) ?_
  · by_cases h : s.val + 1 < 4096
    · rw [dif_pos (by omega)]
      simp only [later, dif_pos h]
      have e : (⟨2 + s.val - 1, by omega⟩ : Fin 4096) = ⟨s.val + 1, h⟩ := Fin.ext (by show 2 + s.val - 1 = s.val + 1; omega)
      rw [e]
      exact congrArg (_ * ·) (mul_comm (G := EReal) _ _)
    · rw [dif_neg (by omega)]
      simp only [later, dif_neg h, mul_zero]
  · by_cases h : s.val + 2 < 4096
    · rw [dif_pos (by omega)]
      simp only [later, dif_pos h]
      have e : (⟨2 + s.val, by omega⟩ : Fin 4096) = ⟨s.val + 2, h⟩ := Fin.ext (by show 2 + s.val = s.val + 2; omega)
      rw [e]
      exact congrArg (_ * ·) (mul_comm (G := EReal) _ _)
    · rw [dif_neg (by omega)]
      simp only [later, dif_neg h, mul_zero]

/-- The gradient of the input gate. -/
theorem ref_c (X0 : (⟨S4096x1024, .bf16⟩ : BufTy).Contents (Elt Ideal)) (X1 : (⟨S4096x3072, .bf16⟩ : BufTy).Contents (Elt Ideal)) (X2 : (⟨S3x1024, .f32⟩ : BufTy).Contents (Elt Ideal)) (X3 : (⟨S1x1024, .f32⟩ : BufTy).Contents (Elt Ideal)) (s : Fin 4096) (j : Fin 1024) :
    val_main_v67 (F := Ideal) X0 X1 X2 X3 (ix3 1 s j) = back X0 X1 X2 s j * X1 (ix2 s ⟨2048 + j.val, by have := j.isLt; omega⟩) := by
  pointwise [val_main_v67, val_main_v66, val_main_v65, val_main_v64, val_main_v63, val_main_v62, val_main_v61, val_main_v60, val_main_v59, val_main_v58, val_main_v57, val_main_v0, val_main_v1, val_main_v2, val_main_v3]
  rw [ref_back]

/-- The gradient of the value. -/
theorem ref_x (X0 : (⟨S4096x1024, .bf16⟩ : BufTy).Contents (Elt Ideal)) (X1 : (⟨S4096x3072, .bf16⟩ : BufTy).Contents (Elt Ideal)) (X2 : (⟨S3x1024, .f32⟩ : BufTy).Contents (Elt Ideal)) (X3 : (⟨S1x1024, .f32⟩ : BufTy).Contents (Elt Ideal)) (s : Fin 4096) (j : Fin 1024) :
    val_main_v67 (F := Ideal) X0 X1 X2 X3 (ix3 2 s j) = back X0 X1 X2 s j * X1 (ix2 s ⟨1024 + j.val, by have := j.isLt; omega⟩) := by
  have h0 : ¬ 2048 + j.val < 1024 := by omega
  have h1 : ¬ 2048 + j.val - 1024 < 1024 := by omega
  have e : (⟨2048 + j.val - 1024 - 1024, by omega⟩ : Fin 1024) = j := Fin.ext (by show 2048 + j.val - 1024 - 1024 = j.val; omega)
  have e' : (⟨1024 + (2048 + j.val - 1024 - 1024), by omega⟩ : Fin 3072) = ⟨1024 + j.val, by omega⟩ := Fin.ext (by show 1024 + (2048 + j.val - 1024 - 1024) = 1024 + j.val; omega)
  pointwise [val_main_v67, val_main_v66, val_main_v65, val_main_v64, val_main_v63, val_main_v62, val_main_v61, val_main_v60, val_main_v59, val_main_v58, val_main_v57, val_main_v0, val_main_v1, val_main_v2, val_main_v3, h0, h1]
  exact (mul_comm (G := EReal) _ _).trans (congrArg₂ (fun a b : EReal => a * b)
    ((congrArg (fun r : Fin 1024 => val_main_v56 (F := Ideal) X0 X1 X2 (ix2 s r)) e).trans (ref_back X0 X1 X2 s j))
    (congrArg (fun r : Fin 3072 => (show EReal from X1 (ix2 s r))) e'))

/-- The gradient of the three weight rows: the output's gradient against the input that many places earlier. -/
theorem ref_w (X0 : (⟨S4096x1024, .bf16⟩ : BufTy).Contents (Elt Ideal)) (X1 : (⟨S4096x3072, .bf16⟩ : BufTy).Contents (Elt Ideal)) (j : Fin 1024) :
    val_main_v69 (F := Ideal) X0 X1 (ix2 0 j) = (∑ s : Fin 4096, grad X0 X1 s j * earlier X1 2 s j : EReal)
    ∧ val_main_v69 (F := Ideal) X0 X1 (ix2 1 j) = (∑ s : Fin 4096, grad X0 X1 s j * earlier X1 1 s j : EReal)
    ∧ val_main_v69 (F := Ideal) X0 X1 (ix2 2 j) = (∑ s : Fin 4096, grad X0 X1 s j * gated X1 s j : EReal) := by
  refine ⟨?_, ?_, ?_⟩
  · pointwise [val_main_v0, val_main_v1, val_main_v2, val_main_v3, val_main_v4, val_main_v5, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_1, val_main_cst_2, val_main_cst_3, val_main_cst_4, val_main_cst_5, val_main_cst_6, val_main_cst_7, val_main_cst_8, val_main_cst_9, val_main_cst_10, val_main_cst_11, val_main_cst]
    refine Finset.sum_congr rfl fun s _ => ?_
    rw [padded X1 _ 2 s j rfl]
    exact congrArg (· * earlier X1 2 s j) (mul_comm (G := EReal) _ _)
  · pointwise [val_main_v0, val_main_v1, val_main_v2, val_main_v3, val_main_v4, val_main_v5, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_1, val_main_cst_2, val_main_cst_3, val_main_cst_4, val_main_cst_5, val_main_cst_6, val_main_cst_7, val_main_cst_8, val_main_cst_9, val_main_cst_10, val_main_cst_11, val_main_cst]
    refine Finset.sum_congr rfl fun s _ => ?_
    rw [padded X1 _ 1 s j (by show 1 + s.val + 1 = s.val + 2; omega)]
    exact congrArg (· * earlier X1 1 s j) (mul_comm (G := EReal) _ _)
  · pointwise [val_main_v0, val_main_v1, val_main_v2, val_main_v3, val_main_v4, val_main_v5, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_1, val_main_cst_2, val_main_cst_3, val_main_cst_4, val_main_cst_5, val_main_cst_6, val_main_cst_7, val_main_cst_8, val_main_cst_9, val_main_cst_10, val_main_cst_11, val_main_cst]
    refine Finset.sum_congr rfl fun s _ => ?_
    rw [padded X1 _ 0 s j (by show 2 + s.val + 0 = s.val + 2; omega)]
    exact congrArg (· * earlier X1 0 s j) (mul_comm (G := EReal) _ _)

/-- The gradient of the bias. -/
theorem ref_bias (X0 : (⟨S4096x1024, .bf16⟩ : BufTy).Contents (Elt Ideal)) (X1 : (⟨S4096x3072, .bf16⟩ : BufTy).Contents (Elt Ideal)) (j : Fin 1024) :
    val_main_v69 (F := Ideal) X0 X1 (ix2 3 j) = (∑ s : Fin 4096, grad X0 X1 s j : EReal) := by
  pointwise [val_main_v0, val_main_v1, val_main_v2, val_main_v3, val_main_v4, val_main_v5, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_1, val_main_cst_2, val_main_cst_3, val_main_cst_4, val_main_cst_5, val_main_cst_6, val_main_cst_7, val_main_cst_8, val_main_cst_9, val_main_cst_10, val_main_cst_11, val_main_cst]
  exact Finset.sum_congr rfl fun s _ => mul_comm (G := EReal) _ _

/-- The rows under them are zero. -/
theorem ref_rest (X0 : (⟨S4096x1024, .bf16⟩ : BufTy).Contents (Elt Ideal)) (X1 : (⟨S4096x3072, .bf16⟩ : BufTy).Contents (Elt Ideal)) (r : Fin 8) (hr : 4 ≤ r.val) (j : Fin 1024) :
    val_main_v69 (F := Ideal) X0 X1 (ix2 r j) = (0 : EReal) := by
  have h0 : ¬ r.val < 3 := by omega
  have h1 : ¬ r.val - 3 < 1 := by omega
  pointwise [val_main_v0, val_main_v1, val_main_v2, val_main_v3, val_main_v4, val_main_v5, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_1, val_main_cst_2, val_main_cst_3, val_main_cst_4, val_main_cst_5, val_main_cst_6, val_main_cst_7, val_main_cst_8, val_main_cst_9, val_main_cst_10, val_main_cst_11, val_main_cst, h0, h1]

variable (m : (ℓ : Loc nD τ sig) → Buf (Elt Ideal) ℓ)

/-- Which block of each array grid point `t` works on. -/
theorem blocks : ∀ t : Fin cfg0.N, win0_0.index t = ![0, t.val] ∧ win0_1.index t = ![0, t.val]
    ∧ win0_2.index t = ![0, 8 + t.val] ∧ win0_3.index t = ![0, 16 + t.val] ∧ win0_4.index t = ![0, t.val]
    ∧ win0_5.index t = ![0, 0, t.val] ∧ win0_6.index t = ![0, t.val] :=
  (by decide +kernel : ∀ t : Fin grid0.N, _)

/-- The convolution's three weight rows over its bias, and four rows of zeros. -/
def stacked (W : FVec Ideal S3x1024 .f32) (B : FVec Ideal S1x1024 .f32) : FVec Ideal S8x1024 .f32 :=
  pad S8x1024 ![0, 0] ![4, 0] ![0, 0] (concatenate S4x1024 0 [⟨S3x1024, W⟩, ⟨S1x1024, B⟩] concatenates_S3x1024_S1x1024_S4x1024_d0)
    (sitofp .f32 (constantI S_ 32 0#32)) pads_S4x1024_S8x1024_040_000 h_S_

/-- What the kernel's fifth operand holds when the call starts. -/
theorem entry (c : Dev nD) : V m c main_v1 = stacked (m (c.tc.loc main_arg2)) (m (c.tc.loc main_arg3)) := by
  simp only [V, hostOps0, hostOps0_1, List.flatten_cons, List.flatten_nil, List.cons_append, List.nil_append, List.append_nil]
  entry_read
  rfl

/-- The first three of its rows are the weights. -/
theorem stacked_weight (W : FVec Ideal S3x1024 .f32) (B : FVec Ideal S1x1024 .f32) (j : Fin 1024) :
    stacked W B (ix2 0 j) = W (ix2 0 j) ∧ stacked W B (ix2 1 j) = W (ix2 1 j) ∧ stacked W B (ix2 2 j) = W (ix2 2 j) := by
  refine ⟨?_, ?_, ?_⟩ <;> pointwise [stacked]

/-- Its fourth row is the bias. -/
theorem stacked_bias (W : FVec Ideal S3x1024 .f32) (B : FVec Ideal S1x1024 .f32) (j : Fin 1024) :
    stacked W B (ix2 3 j) = B (ix2 0 j) := by
  pointwise [stacked]

/-- Column `j` of block `t` in the whole width. -/
abbrev col (t : Fin cfg0.grid.N) (j : Fin 128) : Fin 1024 := ⟨t.val * 128 + j.val, by have h : t.val < 8 := t.isLt; have := j.isLt; omega⟩

theorem read_dp (c : Dev nD) (t : Fin cfg0.grid.N) (s : Fin 4096) (j : Fin 128) :
    iblk m c 0 t (ix2 s j) = m (c.tc.loc main_arg0) (ix2 s (col t j)) := by
  blk_point [iblk, V, blocks t]

theorem read_b (c : Dev nD) (t : Fin cfg0.grid.N) (s : Fin 4096) (j : Fin 128) :
    iblk m c 1 t (ix2 s j) = m (c.tc.loc main_arg1) (ix2 s ⟨(col t j).val, by have := (col t j).isLt; omega⟩) := by
  blk_point [iblk, V, blocks t]

theorem read_c (c : Dev nD) (t : Fin cfg0.grid.N) (s : Fin 4096) (j : Fin 128) :
    iblk m c 2 t (ix2 s j) = m (c.tc.loc main_arg1) (ix2 s ⟨1024 + (col t j).val, by have := (col t j).isLt; omega⟩) := by
  blk_point [iblk, V, blocks t]

theorem read_x (c : Dev nD) (t : Fin cfg0.grid.N) (s : Fin 4096) (j : Fin 128) :
    iblk m c 3 t (ix2 s j) = m (c.tc.loc main_arg1) (ix2 s ⟨2048 + (col t j).val, by have := (col t j).isLt; omega⟩) := by
  blk_point [iblk, V, blocks t]

theorem read_w (c : Dev nD) (t : Fin cfg0.grid.N) (r : Fin 8) (j : Fin 128) :
    iblk m c 4 t (ix2 r j) = stacked (m (c.tc.loc main_arg2)) (m (c.tc.loc main_arg3)) (ix2 r (col t j)) := by
  rw [← entry]
  blk_point [iblk, blocks t]

/-- The first result: the gradients of the gate, of the input gate and of the value. -/
theorem result0 (c : Dev nD) : (dats m 0 c).arrAt 5 (cfgs 0).N
    = val_main_v67 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold Gen.outsAt0
  frame_out
  have w (j : Fin 128) := stacked_weight (m (c.tc.loc main_arg2)) (m (c.tc.loc main_arg3)) (col t j)
  canon_tiles x h
  · idx_vars x
    have e : ((View.whole main_v2_0).slice (win0_5.rect t)).emb y = ix3 2 x1 (col t x2) := by
      blk_ext [blocks t]
    rw [e]
    refine Eq.trans ?_ (ref_x _ _ _ _ _ _).symm
    pointwise [k0_pay5, k0_pay6, k0_pay7, k0_pay10, k0_pay11, k0_pay12, k0_pay13, k0_pay14, k0_pay15, k0_pay16, k0_pay18, k0_pay19, pay17_apply]
    simp only [read_dp, read_b, read_c, read_x, read_w, (w _).1, (w _).2.1, (w _).2.2]
  · idx_vars x
    have e : ((View.whole main_v2_0).slice (win0_5.rect t)).emb y = ix3 1 x1 (col t x2) := by
      blk_ext [blocks t]
    rw [e]
    refine Eq.trans ?_ (ref_c _ _ _ _ _ _).symm
    pointwise [k0_pay5, k0_pay6, k0_pay7, k0_pay10, k0_pay11, k0_pay12, k0_pay13, k0_pay14, k0_pay15, k0_pay16, k0_pay18, k0_pay19, pay17_apply]
    simp only [read_dp, read_b, read_c, read_x, read_w, (w _).1, (w _).2.1, (w _).2.2]
  · idx_vars x
    have e : ((View.whole main_v2_0).slice (win0_5.rect t)).emb y = ix3 0 x1 (col t x2) := by
      blk_ext [blocks t]
    rw [e]
    refine Eq.trans ?_ (ref_b _ _ _ _ _ _).symm
    pointwise [k0_pay5, k0_pay6, k0_pay7, k0_pay10, k0_pay11, k0_pay12, k0_pay13, k0_pay14, k0_pay15, k0_pay16, k0_pay18, k0_pay19, pay8_apply, pay9_apply]
    simp only [read_dp, read_b, read_c, read_x, read_w, (w _).1, (w _).2.1, (w _).2.2, stacked_bias]

/-- One row of the second result: a sum over the sequence. -/
theorem pay1_apply (v16 v44 : FVec Ideal S4096x128 .f32) (r : Fin 1) (j : Fin 128) :
    k0_pay1 v16 v44 (ix2 r j) = (∑ s : Fin 4096, (show EReal from v44 (ix2 s j)) * v16 (ix2 s j) : EReal) := by
  pointwise [k0_pay1]

/-- One row of the second result: a sum over the sequence. -/
theorem pay2_apply (v10 v44 : FVec Ideal S4096x128 .f32) (r : Fin 1) (j : Fin 128) :
    k0_pay2 v10 v44 (ix2 r j) = (∑ s : Fin 4096, (show EReal from v44 (ix2 s j)) * v10 (ix2 s j) : EReal) := by
  pointwise [k0_pay2]

/-- One row of the second result: a sum over the sequence. -/
theorem pay3_apply (v4 v44 : FVec Ideal S4096x128 .f32) (r : Fin 1) (j : Fin 128) :
    k0_pay3 v4 v44 (ix2 r j) = (∑ s : Fin 4096, (show EReal from v44 (ix2 s j)) * v4 (ix2 s j) : EReal) := by
  pointwise [k0_pay3]

/-- One row of the second result: a sum over the sequence. -/
theorem pay4_apply (v44 : FVec Ideal S4096x128 .f32) (r : Fin 1) (j : Fin 128) :
    k0_pay4 v44 (ix2 r j) = (∑ s : Fin 4096, (show EReal from v44 (ix2 s j)) : EReal) := by
  pointwise [k0_pay4]

section Reads
variable (c : Dev nD) (t : Fin cfg0.grid.N) (s : Fin 4096) (j : Fin 128)

/-- The output's gradient in a block. -/
theorem grad_read : k0_pay16 (k0_pay13 (iblk m c 0 t)) (iblk m c 1 t) (ix2 s j)
    = grad (m (c.tc.loc main_arg0)) (m (c.tc.loc main_arg1)) s (col t j) := by
  pointwise [k0_pay16, k0_pay13]
  simp only [read_dp, read_b]

/-- The gated input in a block. -/
theorem gated_read : k0_pay7 (iblk m c 2 t) (iblk m c 3 t) (ix2 s j) = gated (m (c.tc.loc main_arg1)) s (col t j) := by
  pointwise [k0_pay7, k0_pay5, k0_pay6]
  simp only [read_c, read_x]

/-- The gated input one place earlier in a block. -/
theorem earlier1_read : k0_pay8 (iblk m c 2 t) (iblk m c 3 t) (ix2 s j) = earlier (m (c.tc.loc main_arg1)) 1 s (col t j) := by
  rw [pay8_apply]
  simp only [gated_read]

/-- The gated input two places earlier in a block. -/
theorem earlier2_read : k0_pay9 (iblk m c 2 t) (iblk m c 3 t) (ix2 s j) = earlier (m (c.tc.loc main_arg1)) 2 s (col t j) := by
  rw [pay9_apply]
  simp only [gated_read]

end Reads

/-- The second result: the gradients of the three weight rows and of the bias, over four rows of zeros. -/
theorem result1 (c : Dev nD) : (dats m 0 c).arrAt 6 (cfgs 0).N
    = val_main_v69 (F := Ideal) (m (c.tc.loc main_arg0)) (m (c.tc.loc main_arg1)) := by
  refine (dats m 0 c).arrAt_eq_of_covers 6 _ (by decide +kernel) fun t hf y => ?_
  blk_simp
  rw [after0_6]
  unfold Gen.outsAt0
  frame_out
  have w := ref_w (m (c.tc.loc main_arg0)) (m (c.tc.loc main_arg1))
  by_cases hr : (y 0).val < 4
  · have hcover := rows_cover (k0_pay4 (k0_pay16 (k0_pay13 (iblk m c 0 t)) (iblk m c 1 t)))
      (k0_pay3 (k0_pay7 (iblk m c 2 t) (iblk m c 3 t)) (k0_pay16 (k0_pay13 (iblk m c 0 t)) (iblk m c 1 t)))
      (k0_pay2 (k0_pay8 (iblk m c 2 t) (iblk m c 3 t)) (k0_pay16 (k0_pay13 (iblk m c 0 t)) (iblk m c 1 t)))
      (k0_pay1 (k0_pay9 (iblk m c 2 t) (iblk m c 3 t)) (k0_pay16 (k0_pay13 (iblk m c 0 t)) (iblk m c 1 t))) y hr
    refine Eq.trans (canon_of_covered (sh := S8x128) [_, _, _, _] ⟨_, _⟩ y hcover) ?_
    canon_tiles x h using hcover
    · idx_vars x
      have e : ((View.whole main_v2_1).slice (win0_6.rect t)).emb y = ix2 3 (col t x1) := by
        blk_ext [blocks t]
      rw [e]
      refine Eq.trans ?_ (ref_bias _ _ _).symm
      exact (pay4_apply _ x0 x1).trans (Finset.sum_congr rfl fun s _ => grad_read m c t s x1)
    · idx_vars x
      have e : ((View.whole main_v2_1).slice (win0_6.rect t)).emb y = ix2 2 (col t x1) := by
        blk_ext [blocks t]
      rw [e]
      refine Eq.trans ?_ (w _).2.2.symm
      exact (pay3_apply _ _ x0 x1).trans (Finset.sum_congr rfl fun s _ => congrArg₂ (fun a b : EReal => a * b) (grad_read m c t s x1) (gated_read m c t s x1))
    · idx_vars x
      have e : ((View.whole main_v2_1).slice (win0_6.rect t)).emb y = ix2 1 (col t x1) := by
        blk_ext [blocks t]
      rw [e]
      refine Eq.trans ?_ (w _).2.1.symm
      exact (pay2_apply _ _ x0 x1).trans (Finset.sum_congr rfl fun s _ => congrArg₂ (fun a b : EReal => a * b) (grad_read m c t s x1) (earlier1_read m c t s x1))
    · idx_vars x
      have e : ((View.whole main_v2_1).slice (win0_6.rect t)).emb y = ix2 0 (col t x1) := by
        blk_ext [blocks t]
      rw [e]
      refine Eq.trans ?_ (w _).1.symm
      exact (pay1_apply _ _ x0 x1).trans (Finset.sum_congr rfl fun s _ => congrArg₂ (fun a b : EReal => a * b) (grad_read m c t s x1) (earlier2_read m c t s x1))
  · refine Eq.trans (canon_of_uncovered (sh := S8x128) [_, _, _, _] ⟨_, _⟩ y (rows_miss _ _ _ _ y hr)) ?_
    have e : ((View.whole main_v2_1).slice (win0_6.rect t)).emb y = ix2 (show Fin 8 from y 0) (col t (show Fin 128 from y 1)) := by
      blk_ext [blocks t]
    rw [e]
    refine Eq.trans ?_ (ref_rest _ _ _ (not_lt.mp hr) _).symm
    canon_tiles x h using ⟨_, List.mem_cons_self, mem_fill y⟩
    pointwise [k0_pay20]

/-- The call's results over the extended reals are the reference's, whatever the arguments. -/
theorem algebraic : Cert.algebraic_KernelIdeal_ReferenceIdeal := by
  pair_intro
  · run_from Cert.KernelIdeal.Gen.run_main m g
    · exact V_main_arg2 m c
    · exact V_main_arg3 m c
  · run_from Cert.ReferenceIdeal.Value.run m' g'
    · obtain ⟨a0, a1, a2, a3⟩ := hagree c
      rw [val_main_v67_eq, a0, a1, a2, a3]
      exact (result0 m c).symm
    · exact (result1 m c).symm

end Cert.ConvGrad

end
-- ==== Proof.HiddenGrad.lean ====
/- The gradient of the squared-ReLU layer with respect to the hidden pre-activation: the tiled product `df · w2ᵀ` times `2 · relu(a)` of the kernel
is the reference's gradient, element by element. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.HiddenGrad

open Cert.Kernel2Ideal Cert.Kernel2Ideal.Gen
open Cert.Reference2Ideal.Read

variable (m : (ℓ : Loc nD τ sig) → Buf (Elt Ideal) ℓ)

/-- Which block of each array grid point `t` works on: a row block of `df`, a row block of `w2`, one block of `relu(a)` and of the result. -/
theorem blocks : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- The derivative of `relu(x)²` times a cotangent: multiplying by `2 · max x 0` alone is the same as also testing `x > 0`, since the product is zero where the test fails. -/
theorem relu_sq_deriv (s x two : EReal) : s * (two * max x 0) = if 0 < x then s * (two * max x 0) else 0 := by
  split_ifs with h
  · rfl
  · rw [max_eq_right (not_lt.mp h), mul_zero, mul_zero]

/-- The operand the kernel prepares before its call: `relu(a)`. -/
theorem relu_entry (c : Dev nD) (i : S4096x4096.Idx) :
    V m c main_v2 i = max (show EReal from m (c.tc.loc main_arg0) i) 0 := by
  entry_read
  pointwise

/-- What the body stores at position `y` of its block is the reference's gradient at the place of the array where `y` lies. -/
theorem stored (c : Dev nD) (t : Fin cfg0.N) (y) :
    k0_pay1 (iblk m c 0 t) (iblk m c 1 t) (iblk m c 2 t) y
      = val_main_v14 (F := Ideal) (m (c.tc.loc main_arg0)) (m (c.tc.loc main_arg1)) (m (c.tc.loc main_arg2))
          (((cfg0.win 3).blk t).view.emb y) := by
  pointwise [k0_pay1, val_main_v14, val_main_v13, val_main_v12, val_main_v11, val_main_v10, val_main_v9, val_main_v7, val_main_v6, val_main_v5, val_main_v3,
    val_main_v2, val_main_v1, val_main_v0, val_main_cst, val_main_cst_1, val_main_cst_2, val_main_call0_v0, val_main_call0_cst]
  refine Eq.trans ?_ (relu_sq_deriv _ _ _)
  blk_point [iblk, blocks t]
  rw [relu_entry]
  refine congrArg (fun v : EReal => _ * max v 0) ?_
  blk_ext [blocks t]

/-- The whole result of the kernel is the reference's. -/
theorem result (c : Dev nD) : (dats m 0 c).arrAt 3 (cfgs 0).N
    = val_main_v14 (F := Ideal) (m (c.tc.loc main_arg0)) (m (c.tc.loc main_arg1)) (m (c.tc.loc main_arg2)) := by
  refine (dats m 0 c).arrAt_eq_of_covers 3 _ (by decide +kernel) fun t hf y => ?_
  blk_simp
  rw [after0_3]
  frame_out
  exact stored m c t y

/-- The kernel and the reference end with equal results over the extended reals. -/
theorem algebraic : Cert.algebraic_Kernel2Ideal_Reference2Ideal := by
  pair_intro
  · run_from Cert.Kernel2Ideal.Gen.run_main m g
  · run_from Cert.Reference2Ideal.Value.run m' g'
    exact (result m c).symm

end Cert.HiddenGrad

end
-- ==== Proof.SecondWeightGrad.lean ====
/- The gradient of the MLP's second weight: the tiled product `relu(a)²ᵀ · df` of the kernel is the reference's gradient, element by element. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.SecondWeightGrad

open Cert.Kernel3Ideal Cert.Kernel3Ideal.Gen
open Cert.Reference3Ideal.Read

variable (m : (ℓ : Loc nD τ sig) → Buf (Elt Ideal) ℓ)

/-- Which block of each array grid point `t` works on: all the tokens, a column block of `relu(a)` and all of `df`. -/
theorem blocks : ∀ t : Fin cfg0.N, win0_0.index t = ![0, t.val] ∧ win0_1.index t = ![0, 0]
    ∧ win0_2.index t = ![t.val, 0] :=
  (by decide +kernel : ∀ t : Fin grid0.N, _)

/-- The operand the kernel prepares before its call: `relu(a)`. -/
theorem relu_entry (c : Dev nD) (i : S4096x4096.Idx) :
    V m c main_v2 i = max (show EReal from m (c.tc.loc main_arg0) i) 0 := by
  entry_read
  pointwise

/-- What the body stores at position `y` of its block is the reference's gradient at the place of the array where `y` lies. -/
theorem stored (c : Dev nD) (t : Fin cfg0.N) (y) :
    k0_pay1 (iblk m c 0 t) (iblk m c 1 t) y
      = val_main_v7 (F := Ideal) (m (c.tc.loc main_arg0)) (m (c.tc.loc main_arg1)) (((cfg0.win 2).blk t).view.emb y) := by
  pointwise [k0_pay1, val_main_v7, val_main_v6, val_main_v5, val_main_v4, val_main_v2, val_main_v1, val_main_call0_v0, val_main_call0_cst]
  refine Eq.trans ?_ (Finset.sum_congr rfl fun k _ => mul_comm (G := EReal) _ _)
  blk_point [iblk, blocks t]
  rw [relu_entry]
  refine congrArg (fun v : EReal => max v 0 * max v 0) ?_
  blk_ext [blocks t]

/-- The whole result of the kernel is the reference's. -/
theorem result (c : Dev nD) : (dats m 0 c).arrAt 2 (cfgs 0).N
    = val_main_v7 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel3Ideal_Reference3Ideal := by
  pair_intro
  · run_from Cert.Kernel3Ideal.Gen.run_main m g
  · run_from Cert.Reference3Ideal.Value.run m' g'
    exact (result m c).symm

end Cert.SecondWeightGrad

end
-- ==== Proof.FirstWeightGrad.lean ====
/- The gradient of the MLP's first weight: the tiled product `hᵀ · da` of the kernel is the reference's gradient, element by element. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.FirstWeightGrad

open Cert.Kernel4Ideal Cert.Kernel4Ideal.Gen
open Cert.Reference4Ideal.Read

variable (m : (ℓ : Loc nD τ sig) → Buf (Elt Ideal) ℓ)

/-- Which block of each array grid point `t` works on: all the tokens, a column block of `h` and a column block of `da`. -/
theorem blocks : ∀ t : Fin cfg0.N, win0_0.index t = ![0, t.val / 8] ∧ win0_1.index t = ![0, t.val % 8]
    ∧ win0_2.index t = ![t.val / 8, t.val % 8] :=
  (by decide +kernel : ∀ t : Fin grid0.N, _)

/-- What the body stores at position `y` of its block is the reference's gradient at the place of the array where `y` lies. -/
theorem stored (c : Dev nD) (t : Fin cfg0.N) (y) :
    k0_pay1 (iblk m c 0 t) (iblk m c 1 t) y
      = val_main_v6 (F := Ideal) (m (c.tc.loc main_arg0)) (m (c.tc.loc main_arg1)) (((cfg0.win 2).blk t).view.emb y) := by
  pointwise [k0_pay1, val_main_v6, val_main_v5, val_main_v4, val_main_v3, val_main_v1]
  refine Eq.trans ?_ (Finset.sum_congr rfl fun k _ => mul_comm (G := EReal) _ _)
  blk_point [iblk, V, blocks t]

/-- The whole result of the kernel is the reference's. -/
theorem result (c : Dev nD) : (dats m 0 c).arrAt 2 (cfgs 0).N
    = val_main_v6 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel4Ideal_Reference4Ideal := by
  pair_intro
  · run_from Cert.Kernel4Ideal.Gen.run_main m g
  · run_from Cert.Reference4Ideal.Value.run m' g'
    exact (result m c).symm

end Cert.FirstWeightGrad

end
-- ==== Proof.NormRow.lean ====
/- The arithmetic of one row of the root-mean-square norm's gradient over the extended reals: the form the kernels compute, `r · (d − x̂ · mean(d · x̂))`, is the form
that differentiating `x · rsqrt(mean(x²) + ε)` gives, for every row, infinities included. -/
module

public import Idealize.ShloMosaic.Lib.Pointwise
public import Idealize.ShloMosaic.Lib.IdealHost

@[expose] public section

noncomputable section

open Idealize.ShloMosaic
open scoped BigOperators

namespace Cert.NormRow

/-- The row's length, 1024. -/
theorem length_eq : Ideal.ofBits .f32 0x44800000#32 = ((1024 : ℝ) : EReal) := by
  simp [Ideal.ofBits, Ideal.ieee, -EReal.coe_mul]; norm_num

/-- Minus one half, the exponent of the reciprocal root. -/
theorem neg_half_eq : Ideal.ofBits .f32 0xBF000000#32 = ((-(1 / 2) : ℝ) : EReal) := by
  simp [Ideal.ofBits, Ideal.ieee, -EReal.coe_mul, -EReal.coe_neg]; norm_num

/-- The norm's ε is positive. -/
theorem eps_pos : 0 < Ideal.ofBits .f32 0x358637BD#32 := by
  have h : ∃ e : ℝ, 0 < e ∧ Ideal.ofBits .f32 0x358637BD#32 = (e : EReal) :=
    ⟨8796093 * (2 : ℝ) ^ (-43 : ℤ), by positivity, by simp [Ideal.ofBits, Ideal.ieee, -EReal.coe_mul]⟩
  obtain ⟨e, he, h⟩ := h
  rw [h]
  exact EReal.coe_pos.mpr he

/-- A square is not negative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- The mean of the squares plus ε is positive. -/
theorem variance_pos (x : Fin 1024 → EReal) :
    0 < Ideal.div (∑ k, x k * x k) (Ideal.ofBits .f32 0x44800000#32) + Ideal.ofBits .f32 0x358637BD#32 := by
  rw [length_eq, Ideal.div_coe (by norm_num)]
  exact lt_of_lt_of_le eps_pos (le_add_of_nonneg_left (mul_nonneg (Finset.sum_nonneg fun k _ => square_nonneg (x k)) (EReal.coe_nonneg.mpr (by norm_num))))

/-- The reciprocal root of a positive extended real is a real that is not negative, and divided once more by its argument it is its own cube. -/
theorem rsqrt_real (v : EReal) (hv : 0 < v) :
    ∃ r : ℝ, 0 ≤ r ∧ Ideal.rsqrt v = (r : EReal) ∧ Ideal.div (Ideal.rsqrt v) v = ((r * r * r : ℝ) : EReal) := by
  induction v with
  | bot => exact absurd hv (by simp)
  | top => exact ⟨0, le_rfl, by simp, by simp [Ideal.div]⟩
  | coe a =>
    have ha : 0 < a := EReal.coe_pos.mp hv
    have e : Ideal.rsqrt (a : EReal) = (((Real.sqrt a)⁻¹ : ℝ) : EReal) := by
      rw [Ideal.rsqrt_coe, if_neg (not_lt.mpr ha.le), if_neg ha.ne']
    refine ⟨(Real.sqrt a)⁻¹, inv_nonneg.mpr (Real.sqrt_nonneg a), e, ?_⟩
    rw [e, Ideal.div_coe ha.ne', ← EReal.coe_mul]
    have hs : (Real.sqrt a)⁻¹ * (Real.sqrt a)⁻¹ = 1 / a := by
      rw [← mul_inv, Real.mul_self_sqrt ha.le, one_div]
    rw [mul_assoc, hs]

/-- Multiplication by a real that is not negative distributes over a sum. -/
theorem mul_sum_real {n : Nat} (r : ℝ) (hr : 0 ≤ r) (f : Fin n → EReal) : (r : EReal) * ∑ k, f k = ∑ k, (r : EReal) * f k := by
  classical
  induction (Finset.univ : Finset (Fin n)) using Finset.induction_on with
  | empty => simp
  | insert a s ha ih =>
    rw [Finset.sum_insert ha, Finset.sum_insert ha, EReal.left_distrib_of_nonneg_of_ne_top (EReal.coe_nonneg.mpr hr) (EReal.coe_ne_top r), ih]

/-- Over a row, the kernels' form of the gradient is the derivative's form. Here `d` is the gradient of the normalised row, `dres` what is added to the result, `k` the place;
the derivative's second part arises twice, once per factor of `x · x`. -/
theorem row_grad (x d : Fin 1024 → EReal) (v dres : EReal) (hv : 0 < v) (k : Fin 1024) :
    Ideal.rsqrt v * (d k - x k * Ideal.rsqrt v * Ideal.div (∑ l, d l * (x l * Ideal.rsqrt v)) (Ideal.ofBits .f32 0x44800000#32)) + dres
      = dres + d k * Ideal.rsqrt v
        + x k * Ideal.div ((∑ l, x l * d l) * (Ideal.ofBits .f32 0xBF000000#32 * Ideal.div (Ideal.rsqrt v) v)) (Ideal.ofBits .f32 0x44800000#32)
        + Ideal.div ((∑ l, x l * d l) * (Ideal.ofBits .f32 0xBF000000#32 * Ideal.div (Ideal.rsqrt v) v)) (Ideal.ofBits .f32 0x44800000#32) * x k := by
  obtain ⟨r, hr, e, e3⟩ := rsqrt_real v hv
  rw [e3, e, length_eq, neg_half_eq, Ideal.div_coe (by norm_num), Ideal.div_coe (by norm_num)]
  have hS : ∑ l, d l * (x l * (r : EReal)) = (r : EReal) * ∑ l, x l * d l := by
    rw [mul_sum_real r hr]
    exact Finset.sum_congr rfl fun l _ => by ac_rfl
  rw [hS, EReal.mul_sub_of_nonneg_of_ne_top (EReal.coe_nonneg.mpr hr) (EReal.coe_ne_top r)]
  generalize (∑ l, x l * d l) = S
  have h1 : (r : EReal) * (x k * r * (r * S * ((1 / 1024 : ℝ) : EReal))) = x k * S * ((r * r * r * (1 / 1024) : ℝ) : EReal) := by
    simp only [EReal.coe_mul]; ac_rfl
  have h2 : x k * (S * (((-(1 / 2) : ℝ) : EReal) * ((r * r * r : ℝ) : EReal)) * ((1 / 1024 : ℝ) : EReal)) = -(x k * S * ((r * r * r * (1 / 2048) : ℝ) : EReal)) := by
    rw [← EReal.coe_mul, mul_assoc S, ← EReal.coe_mul, ← mul_assoc, show -(1 / 2) * (r * r * r) * (1 / 1024) = -(r * r * r * (1 / 2048)) by ring, EReal.coe_neg, mul_neg]
  have h3 : x k * S * ((r * r * r * (1 / 1024) : ℝ) : EReal) = x k * S * ((r * r * r * (1 / 2048) : ℝ) : EReal) + x k * S * ((r * r * r * (1 / 2048) : ℝ) : EReal) := by
    have hq : (0 : EReal) ≤ ((r * r * r * (1 / 2048) : ℝ) : EReal) := EReal.coe_nonneg.mpr (by positivity)
    rw [← EReal.left_distrib_of_nonneg hq hq, ← EReal.coe_add]
    congr 2; ring
  rw [mul_comm _ (x k), h1, h2, h3, sub_eq_add_neg, mul_comm (r : EReal) (d k)]
  generalize x k * S * ((r * r * r * (1 / 2048) : ℝ) : EReal) = q
  have h4 : -(q + q) = -q + -q := by
    cases q with
    | bot => simp
    | top => simp
    | coe a => rw [← EReal.coe_add, ← EReal.coe_neg, ← EReal.coe_neg, ← EReal.coe_add]; congr 1; ring
  rw [h4]
  ac_rfl

end Cert.NormRow

end
-- ==== Proof.RowStores.lean ====
/- Stores of single rows into a matrix: which row a store holds, and what a matrix reads after several such stores. -/
module

public import Idealize.ShloMosaic.Lib.Pipeline.ValueKit
public import Idealize.ShloMosaic.Lib.Pipeline.ReadBack
public import Idealize.ShloMosaic.Lib.WritesUnit
public import Idealize.ShloMosaic.Lib.Pointwise

@[expose] public section

noncomputable section

open Idealize.ShloMosaic

namespace Cert.RowStores

variable {R W : Nat} {e : EltTy}

/-- A row's store holds exactly that row. -/
theorem mem_row (k : Nat) (inb : ∀ a, (![k, 0] : Fin 2 → Nat) a + (![1, W] : Fin 2 → Nat) a ≤ (⟨2, ![R, W]⟩ : Shape).size a) (r : Fin R) (j : Fin W) :
    (ix2 r j : (⟨2, ![R, W]⟩ : Shape).Idx) ∈ (Rect.unit (s := ⟨2, ![R, W]⟩) ![k, 0] ![1, W] inb).set ↔ r.val = k := by
  rw [Rect.mem_set_unit]
  have h1 := j.isLt
  refine ⟨fun h => ?_, fun h a => ?_⟩
  · have h0 : k ≤ r.val ∧ r.val < k + 1 := h 0
    omega
  · match a with
    | ⟨0, _⟩ => show k ≤ r.val ∧ r.val < k + 1; omega
    | ⟨1, _⟩ => show 0 ≤ j.val ∧ j.val < 0 + W; omega

/-- The place of a row's store where column `j` lies. -/
theorem emb_row (k : Nat) (inb : ∀ a, (![k, 0] : Fin 2 → Nat) a + (![1, W] : Fin 2 → Nat) a ≤ (⟨2, ![R, W]⟩ : Shape).size a) (r : Fin R) (j : Fin W) (h : r.val = k) :
    (Rect.unit (s := ⟨2, ![R, W]⟩) ![k, 0] ![1, W] inb).emb (ix2 (0 : Fin 1) j) = (ix2 r j : (⟨2, ![R, W]⟩ : Shape).Idx) := by
  funext a
  refine Fin.ext ?_
  match a with
  | ⟨0, _⟩ => show k + 1 * 0 = r.val; omega
  | ⟨1, _⟩ => show 0 + 1 * j.val = j.val; omega

/-- After a row's store, that row reads what was stored and the other rows read what the earlier stores left. -/
theorem canon_row (k : Nat) (inb : ∀ a, (![k, 0] : Fin 2 → Nat) a + (![1, W] : Fin 2 → Nat) a ≤ (⟨2, ![R, W]⟩ : Shape).size a)
    (w : (⟨2, ![1, W]⟩ : Shape).Idx → Elt Ideal e) (L : List (View.Piece (Elt Ideal) (⟨2, ![R, W]⟩ : Shape) e)) (r : Fin R) (j : Fin W) :
    View.canon (Val := Elt Ideal) (⟨Rect.unit ![k, 0] ![1, W] inb, w⟩ :: L) (ix2 r j) = if r.val = k then w (ix2 0 j) else View.canon (Val := Elt Ideal) L (ix2 r j) := by
  split_ifs with h
  · rw [← emb_row k inb r j h]
    exact View.canon_cons_emb (Rect.unit (s := ⟨2, ![R, W]⟩) ![k, 0] ![1, W] inb) w L (ix2 (0 : Fin 1) j)
  · exact View.canon_cons_of_not_mem _ _ fun hm => h ((mem_row k inb r j).mp hm)

/-- The same of stores into a buffer that held something before. -/
theorem read_row {sig : RefSig} {κ : Kind} {sp : Space} (v : View sig κ sp (⟨2, ![R, W]⟩ : Shape) e) (f : v.ty.Contents (Elt Ideal))
    (k : Nat) (inb : ∀ a, (![k, 0] : Fin 2 → Nat) a + (![1, W] : Fin 2 → Nat) a ≤ (⟨2, ![R, W]⟩ : Shape).size a)
    (w : (⟨2, ![1, W]⟩ : Shape).Idx → Elt Ideal e) (L : List (View.Piece (Elt Ideal) (⟨2, ![R, W]⟩ : Shape) e)) (r : Fin R) (j : Fin W) :
    v.read (Elt Ideal) (v.writes (Elt Ideal) f (⟨Rect.unit ![k, 0] ![1, W] inb, w⟩ :: L)) (ix2 r j)
      = if r.val = k then w (ix2 0 j) else v.read (Elt Ideal) (v.writes (Elt Ideal) f L) (ix2 r j) := by
  split_ifs with h
  · refine View.read_writes_cons_unit_of_mem v f inb w L (ix2 r j) (ix2 (0 : Fin 1) j) rfl fun a => ?_
    match a with
    | ⟨0, _⟩ => show r.val = k + 0; omega
    | ⟨1, _⟩ => show j.val = 0 + j.val; omega
  · refine View.read_writes_cons_unit_of_not_mem v f inb w L (ix2 r j) rfl 0 ?_
    show r.val < k ∨ k + 1 ≤ r.val
    omega

/-- A row's load reads that row. -/
theorem ld_row (k : Nat) (inb : ∀ a, (![k, 0] : Fin 2 → Nat) a + (![1, W] : Fin 2 → Nat) a ≤ (⟨2, ![R, W]⟩ : Shape).size a)
    (X : (⟨2, ![R, W]⟩ : Shape).Idx → Elt Ideal e) (r : Fin R) (j : Fin W) (h : r.val = k) :
    View.ld (Val := Elt Ideal) (S := ⟨2, ![R, W]⟩) X (Rect.unit (s := ⟨2, ![R, W]⟩) ![k, 0] ![1, W] inb) (ix2 (0 : Fin 1) j) = X (ix2 r j) :=
  congrArg X (emb_row k inb r j h)

end Cert.RowStores

end
-- ==== Proof.NormGrad.lean ====
/- The gradient of the MLP's first product, of the norm and modulation before it, and of the gated residual: what the kernel's row blocks hold, and the sums over the rows that
it accumulates block by block, are the reference's gradients. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Claim
public import proofs.«01_k».proof.Defs
public import proofs.«01_k».proof.Proof.NormRow
public import proofs.«01_k».proof.Proof.RowStores

@[expose] public section

set_option maxRecDepth 16384

noncomputable section

open Idealize.ShloMosaic Idealize.ShloMosaic.TcCoe Idealize.SL.Sem
open Idealize.ShloMosaic.Pipeline (Dat)
open scoped BigOperators

namespace Cert.NormGrad

open Cert.Kernel5Ideal Cert.Kernel5Ideal.Gen
open Cert.Reference5Ideal.Read

/-! ## The payloads at a place -/

/-- The product `da · w1ᵀ` of a row block. -/
theorem pay6_apply (v0 : Vec Ideal S512x4096 .bf16) (v1 : Vec Ideal S1024x4096 .bf16) (r : Fin 512) (j : Fin 1024) :
    k0_pay6 (F := Ideal) v0 v1 (ix2 r j) = ∑ k : Fin 4096, v0 (ix2 r k) * v1 (ix2 j k) := by
  pointwise [k0_pay6]

/-- The reciprocal root of a row. -/
theorem pay7_apply (v3 : Vec Ideal S512x1024 .f32) (r : Fin 512) :
    k0_pay7 (F := Ideal) v3 (ix2 r 0) = Ideal.rsqrt (Ideal.div (∑ k : Fin 1024, v3 (ix2 r k) * v3 (ix2 r k)) (Ideal.ofBits .f32 0x44800000#32) + Ideal.ofBits .f32 0x358637BD#32) := by
  pointwise [k0_pay7]

/-- A normalised row. -/
theorem pay8_apply (v3 : Vec Ideal S512x1024 .f32) (r : Fin 512) (j : Fin 1024) :
    k0_pay8 (F := Ideal) v3 (ix2 r j) = v3 (ix2 r j) * k0_pay7 (F := Ideal) v3 (ix2 r 0) := by
  pointwise [k0_pay8]

/-- The gradient of the norm's input in a row block. -/
theorem pay9_apply (v0 : Vec Ideal S512x4096 .bf16) (v1 : Vec Ideal S1024x4096 .bf16) (v3 : Vec Ideal S512x1024 .f32) (v4 : Vec Ideal S1x1024 .f32)
    (v5 : Vec Ideal S512x1024 .f32) (r : Fin 512) (j : Fin 1024) :
    k0_pay9 (F := Ideal) v0 v1 v3 v4 v5 (ix2 r j)
      = k0_pay7 (F := Ideal) v3 (ix2 r 0) * (k0_pay6 (F := Ideal) v0 v1 (ix2 r j) * v4 (ix2 0 j) - v3 (ix2 r j) * k0_pay7 (F := Ideal) v3 (ix2 r 0)
          * Ideal.div (∑ l : Fin 1024, k0_pay6 (F := Ideal) v0 v1 (ix2 r l) * v4 (ix2 0 l) * (v3 (ix2 r l) * k0_pay7 (F := Ideal) v3 (ix2 r 0))) (Ideal.ofBits .f32 0x44800000#32))
        + v5 (ix2 r j) := by
  pointwise [k0_pay9, k0_pay8]

/-! ## The reference at a place -/

/-- The product `da · w1ᵀ`. -/
theorem ref_product (X0 : (⟨S4096x4096, .bf16⟩ : BufTy).Contents (Elt Ideal)) (X1 : (⟨S1024x4096, .bf16⟩ : BufTy).Contents (Elt Ideal)) (s : Fin 4096) (j : Fin 1024) :
    val_main_v21 (F := Ideal) X0 X1 (ix2 s j) = ∑ k : Fin 4096, X0 (ix2 s k) * X1 (ix2 j k) := by
  pointwise [val_main_v21, val_main_v20, val_main_v18]

/-- The gradient of the norm's input: the kernel's row, computed from the same data, is the reference's. -/
theorem input_grad {v0 : Vec Ideal S512x4096 .bf16} {v1 : Vec Ideal S1024x4096 .bf16} {v3 : Vec Ideal S512x1024 .f32} {v4 : Vec Ideal S1x1024 .f32} {v5 : Vec Ideal S512x1024 .f32}
    (X0 : (⟨S4096x4096, .bf16⟩ : BufTy).Contents (Elt Ideal)) (X1 : (⟨S1024x4096, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (r : Fin 512) (s : Fin 4096) (j : Fin 1024)
    (h0 : ∀ k, v0 (ix2 r k) = X0 (ix2 s k)) (h1 : ∀ a k, v1 (ix2 a k) = X1 (ix2 a k)) (h3 : ∀ k, v3 (ix2 r k) = X2 (ix2 s k))
    (h4 : ∀ k, v4 (ix2 0 k) = X3 (ix2 0 k)) (h5 : ∀ k, v5 (ix2 r k) = X4 (ix2 s k)) :
    k0_pay9 (F := Ideal) v0 v1 v3 v4 v5 (ix2 r j) = val_main_v43 (F := Ideal) X0 X1 X2 X3 X4 (ix2 s j) := by
  have hd : ∀ l, k0_pay6 (F := Ideal) v0 v1 (ix2 r l) = val_main_v21 (F := Ideal) X0 X1 (ix2 s l) := fun l => by
    rw [pay6_apply, ref_product]
    simp only [h0, h1]
  rw [pay9_apply, pay7_apply]
  simp only [hd, h3, h4, h5]
  refine (NormRow.row_grad (fun k => X2 (ix2 s k)) (fun k => val_main_v21 (F := Ideal) X0 X1 (ix2 s k) * X3 (ix2 0 k)) _ (X4 (ix2 s j))
    (NormRow.variance_pos fun k => X2 (ix2 s k)) j).trans ?_
  symm
  pointwise [val_main_v43, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v44, val_main_v45, val_main_v46, val_main_v47, val_main_v48, val_main_v49, val_main_v50, val_main_v51, val_main_v52, val_main_cst_0, val_main_cst_1, val_main_cst_2, val_main_cst_3, val_main_cst_4, val_main_cst_5, val_main_cst_6, val_main_cst_7, val_main_cst_8, val_main_cst_9, val_main_cst_10, val_main_cst]
  simp only [Fin.sum_univ_one]

/-! ## The blocks -/

variable (m : (ℓ : Loc nD τ sig) → Buf (Elt Ideal) ℓ)

/-- Which block of each array grid point `t` works on: the `t`-th of eight row blocks, or the whole of a weight. -/
theorem blocks : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0] ∧ win0_8.index t = ![t.val, 0]
    ∧ win0_9.index t = ![0, 0] :=
  (by decide +kernel : ∀ t : Fin grid0.N, _)

/-- The row of the arrays that row `r` of block `t` is. -/
def row (t : Fin cfg0.N) (r : Fin 512) : Fin 4096 := ⟨t.val * 512 + r.val, by have := lt_of_lt_of_eq t.isLt N_0; have := r.isLt; omega⟩

/-- A row of the incoming gradient. -/
theorem read0 (c : Dev nD) (t : Fin cfg0.N) (r : Fin 512) (k : Fin 4096) :
    (show FVec Ideal S512x4096 .bf16 from iblk m c 0 t) (ix2 r k) = m (c.tc.loc main_arg0) (ix2 (row t r) k) := by
  blk_point [iblk, V, blocks t, row]

/-- The weight. -/
theorem read1 (c : Dev nD) (t : Fin cfg0.N) (r : Fin 1024) (k : Fin 4096) :
    (show FVec Ideal S1024x4096 .bf16 from iblk m c 1 t) (ix2 r k) = m (c.tc.loc main_arg1) (ix2 r k) := by
  blk_point [iblk, V, blocks t]

/-- A row of the norm's input. -/
theorem read2 (c : Dev nD) (t : Fin cfg0.N) (r : Fin 512) (k : Fin 1024) :
    (show FVec Ideal S512x1024 .f32 from iblk m c 2 t) (ix2 r k) = m (c.tc.loc main_arg2) (ix2 (row t r) k) := by
  blk_point [iblk, V, blocks t, row]

/-- The norm's scale. -/
theorem read3 (c : Dev nD) (t : Fin cfg0.N) (k : Fin 1024) :
    (show FVec Ideal S1x1024 .f32 from iblk m c 3 t) (ix2 0 k) = m (c.tc.loc main_arg3) (ix2 0 k) := by
  blk_point [iblk, V, blocks t]

/-- A row of the gradient that comes past the norm. -/
theorem read4 (c : Dev nD) (t : Fin cfg0.N) (r : Fin 512) (k : Fin 1024) :
    (show FVec Ideal S512x1024 .f32 from iblk m c 4 t) (ix2 r k) = m (c.tc.loc main_arg4) (ix2 (row t r) k) := by
  blk_point [iblk, V, blocks t, row]

/-- A row of the gated branch. -/
theorem read5 (c : Dev nD) (t : Fin cfg0.N) (r : Fin 512) (k : Fin 1024) :
    (show FVec Ideal S512x1024 .bf16 from iblk m c 5 t) (ix2 r k) = m (c.tc.loc main_arg5) (ix2 (row t r) k) := by
  blk_point [iblk, V, blocks t, row]

/-- The gate. -/
theorem read6 (c : Dev nD) (t : Fin cfg0.N) (k : Fin 1024) :
    (show FVec Ideal S1x1024 .f32 from iblk m c 6 t) (ix2 0 k) = m (c.tc.loc main_arg6) (ix2 0 k) := by
  blk_point [iblk, V, blocks t]

/-- What a grid point computes for the norm's input is the reference's gradient at its rows. -/
theorem input_block (c : Dev nD) (t : Fin cfg0.N) (r : Fin 512) (j : Fin 1024) :
    k0_pay9 (F := Ideal) (iblk m c 0 t) (iblk m c 1 t) (iblk m c 2 t) (iblk m c 3 t) (iblk m c 4 t) (ix2 r j)
      = val_main_v43 (F := Ideal) (m (c.tc.loc main_arg0)) (m (c.tc.loc main_arg1)) (m (c.tc.loc main_arg2)) (m (c.tc.loc main_arg3)) (m (c.tc.loc main_arg4)) (ix2 (row t r) j) :=
  input_grad _ _ _ _ _ r (row t r) j (read0 m c t r) (read1 m c t) (read2 m c t r) (read3 m c t) (read4 m c t r)

/-! ## The two gradients with one row per token -/

/-- The first result, the gradient of the norm's input, is the reference's. -/
theorem result0 (c : Dev nD) : (dats m 0 c).arrAt 7 (cfgs 0).N = val_main_v43 (F := Ideal) (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp
  rw [after0_7]
  have e : ∀ (r : Fin 512) (j : Fin 1024), ((View.whole main_v0_0).slice (win0_7.rect t)).emb (ix2 r j) = ix2 (row t r) j := fun r j => by blk_ext [blocks t, row]
  idx_vars y
  by_cases h : t.val % 8 = 0
  · rw [outsAt0_A m c t h]
    frame_out
    rw [e]
    exact input_block m c t y0 y1
  · rw [outsAt0_B m c t h]
    frame_out
    rw [e]
    exact input_block m c t y0 y1

/-- The second result, the gradient of the gated branch, is the reference's. -/
theorem result1 (c : Dev nD) : (dats m 0 c).arrAt 8 (cfgs 0).N = val_main_v52 (F := Ideal) (m (c.tc.loc main_arg0)) (m (c.tc.loc main_arg1)) (m (c.tc.loc main_arg2)) (m (c.tc.loc main_arg3)) (m (c.tc.loc main_arg4)) (m (c.tc.loc main_arg6)) := by
  refine (dats m 0 c).arrAt_eq_of_covers 8 _ (by decide +kernel) fun t hf y => ?_
  blk_simp
  rw [after0_8]
  have e : ∀ (r : Fin 512) (j : Fin 1024), ((View.whole main_v0_1).slice (win0_8.rect t)).emb (ix2 r j) = ix2 (row t r) j := fun r j => by blk_ext [blocks t, row]
  have p : ∀ (r : Fin 512) (j : Fin 1024), k0_pay1 (F := Ideal) (iblk m c 6 t) (k0_pay9 (F := Ideal) (iblk m c 0 t) (iblk m c 1 t) (iblk m c 2 t) (iblk m c 3 t) (iblk m c 4 t)) (ix2 r j)
      = val_main_v52 (F := Ideal) (m (c.tc.loc main_arg0)) (m (c.tc.loc main_arg1)) (m (c.tc.loc main_arg2)) (m (c.tc.loc main_arg3)) (m (c.tc.loc main_arg4)) (m (c.tc.loc main_arg6)) (ix2 (row t r) j) := fun r j => by
    refine Eq.trans ?_ (Eq.trans (congrArg₂ (fun a b : EReal => a * b) (input_block m c t r j) (read6 m c t j)) ?_)
    · pointwise [k0_pay1]
    · pointwise [val_main_v52, val_main_v48, val_main_v47]
      exact mul_comm _ _
  idx_vars y
  by_cases h : t.val % 8 = 0
  · rw [outsAt0_A m c t h]
    frame_out
    rw [e]
    exact p y0 y1
  · rw [outsAt0_B m c t h]
    frame_out
    rw [e]
    exact p y0 y1

/-! ## The sums over the tokens -/

/-- What token `s` adds to entry `j` of row `k` of the third result: row 0 gathers the gradient of the norm's scale, row 1 of its shift, row 2 of the residual's gate. -/
def share (X0 : (⟨S4096x4096, .bf16⟩ : BufTy).Contents (Elt Ideal)) (X1 : (⟨S1024x4096, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (X5 : (⟨S4096x1024, .bf16⟩ : BufTy).Contents (Elt Ideal)) (k : Fin 8) (j : Fin 1024) (s : Fin 4096) : EReal :=
  if k.val = 2 then val_main_v43 (F := Ideal) X0 X1 X2 X3 X4 (ix2 s j) * X5 (ix2 s j)
  else if k.val = 1 then val_main_v21 (F := Ideal) X0 X1 (ix2 s j)
  else if k.val = 0 then val_main_v24 (F := Ideal) X0 X1 X2 (ix2 s j) else 0

/-- The third result of the reference is the sum of the tokens' shares. -/
theorem ref_sums (X0 : (⟨S4096x4096, .bf16⟩ : BufTy).Contents (Elt Ideal)) (X1 : (⟨S1024x4096, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (X5 : (⟨S4096x1024, .bf16⟩ : BufTy).Contents (Elt Ideal)) (k : Fin 8) (j : Fin 1024) :
    val_main_v54 (F := Ideal) X0 X1 X2 X3 X4 X5 (ix2 k j) = ∑ s : Fin 4096, share X0 X1 X2 X3 X4 X5 k j s := by
  have hk := k.isLt
  unfold share
  pointwise [val_main_v54, val_main_v53, val_main_v51, val_main_v50, val_main_v49, val_main_v44, val_main_v26, val_main_v25, val_main_v23, val_main_v22, val_main_cst_4, val_main_cst_5, val_main_cst_9, val_main_cst_10]
  rcases (by omega : k.val = 0 ∨ k.val = 1 ∨ k.val = 2 ∨ 2 < k.val) with h | h | h | h
  · simp [h]
  · simp [h]
  · simp [h]
  · simp [show ¬ k.val < 1 by omega, show ¬ k.val - 1 < 1 by omega, show ¬ k.val - 1 - 1 < 1 by omega, show k.val ≠ 0 by omega, show k.val ≠ 1 by omega, show k.val ≠ 2 by omega]

/-- A block's product with `w1ᵀ` is the reference's product at its rows. -/
theorem product_block (c : Dev nD) (t : Fin cfg0.N) (r : Fin 512) (j : Fin 1024) :
    k0_pay6 (F := Ideal) (iblk m c 0 t) (iblk m c 1 t) (ix2 r j) = val_main_v21 (F := Ideal) (m (c.tc.loc main_arg0)) (m (c.tc.loc main_arg1)) (ix2 (row t r) j) := by
  rw [pay6_apply, ref_product]
  exact Finset.sum_congr rfl fun k _ => congrArg₂ (fun a b : EReal => a * b) (read0 m c t r k) (read1 m c t j k)

/-- A normalised row of a block is the reference's. -/
theorem normed_block (c : Dev nD) (t : Fin cfg0.N) (r : Fin 512) (j : Fin 1024) :
    k0_pay8 (F := Ideal) (iblk m c 2 t) (ix2 r j) = val_main_v13 (F := Ideal) (m (c.tc.loc main_arg2)) (ix2 (row t r) j) := by
  rw [pay8_apply, pay7_apply]
  have h := read2 m c t r
  dsimp only at h
  simp only [h]
  pointwise [val_main_v13, val_main_v12, val_main_v8, val_main_v7, val_main_v6, val_main_v5, val_main_v4, val_main_v3, val_main_v2, val_main_v1, val_main_cst_2, val_main_cst_1, val_main_cst_0]

/-- What a block adds to the gradient of the norm's scale. -/
theorem scale_block (c : Dev nD) (t : Fin cfg0.N) (j : Fin 1024) :
    k0_pay10 (F := Ideal) (iblk m c 0 t) (iblk m c 1 t) (iblk m c 2 t) (ix2 0 j) = ∑ r : Fin 512, val_main_v24 (F := Ideal) (m (c.tc.loc main_arg0)) (m (c.tc.loc main_arg1)) (m (c.tc.loc main_arg2)) (ix2 (row t r) j) := by
  refine Eq.trans ?_ (Finset.sum_congr rfl fun r _ => (mul_comm (G := EReal) _ _).trans (congrArg₂ (fun a b : EReal => a * b) (normed_block m c t r j) (product_block m c t r j)))
  pointwise [k0_pay10]

/-- What a block adds to the gradient of the norm's shift. -/
theorem shift_block (c : Dev nD) (t : Fin cfg0.N) (j : Fin 1024) :
    k0_pay11 (F := Ideal) (iblk m c 0 t) (iblk m c 1 t) (ix1 j) = ∑ r : Fin 512, val_main_v21 (F := Ideal) (m (c.tc.loc main_arg0)) (m (c.tc.loc main_arg1)) (ix2 (row t r) j) := by
  refine Eq.trans ?_ (Finset.sum_congr rfl fun r _ => product_block m c t r j)
  pointwise [k0_pay11]

/-- What a block adds to the gradient of the residual's gate, on top of what is there. -/
theorem gate_block (c : Dev nD) (t : Fin cfg0.N) (w : Vec Ideal S1x1024 .f32) (j : Fin 1024) :
    k0_pay5 (F := Ideal) (iblk m c 5 t) (k0_pay9 (F := Ideal) (iblk m c 0 t) (iblk m c 1 t) (iblk m c 2 t) (iblk m c 3 t) (iblk m c 4 t)) w (ix2 0 j)
      = w (ix2 0 j) + ∑ r : Fin 512, val_main_v43 (F := Ideal) (m (c.tc.loc main_arg0)) (m (c.tc.loc main_arg1)) (m (c.tc.loc main_arg2)) (m (c.tc.loc main_arg3)) (m (c.tc.loc main_arg4)) (ix2 (row t r) j) * (show EReal from m (c.tc.loc main_arg5) (ix2 (row t r) j)) := by
  refine Eq.trans ?_ (congrArg (fun a : EReal => (show EReal from w (ix2 0 j)) + a) (Finset.sum_congr rfl fun r _ => congrArg₂ (fun a b : EReal => a * b) (input_block m c t r j) (read5 m c t r j)))
  pointwise [k0_pay5]

/-- One grid point's step: three of the eight rows gain the sums over its rows, the others stay. -/
theorem step_rows (c : Dev nD) (t : Fin cfg0.N) (w2 w1 w0 : Vec Ideal S1x1024 .f32) (z b : EReal) (k : Fin 8) (j : Fin 1024)
    (h2 : k.val = 2 → w2 (ix2 0 j) = b) (h1 : k.val = 1 → w1 (ix2 0 j) = b) (h0 : k.val = 0 → w0 (ix2 0 j) = b) (hz : z = b) :
    (if k.val = 2 then k0_pay5 (F := Ideal) (iblk m c 5 t) (k0_pay9 (F := Ideal) (iblk m c 0 t) (iblk m c 1 t) (iblk m c 2 t) (iblk m c 3 t) (iblk m c 4 t)) w2 (ix2 0 j)
      else if k.val = 1 then k0_pay4 (F := Ideal) (k0_pay11 (F := Ideal) (iblk m c 0 t) (iblk m c 1 t)) w1 (ix2 0 j)
      else if k.val = 0 then k0_pay3 (F := Ideal) (k0_pay10 (F := Ideal) (iblk m c 0 t) (iblk m c 1 t) (iblk m c 2 t)) w0 (ix2 0 j) else z)
      = b + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  unfold share
  by_cases e2 : k.val = 2
  · simp only [e2, ↓reduceIte]
    rw [gate_block, h2 e2]
  by_cases e1 : k.val = 1
  · simp only [e1, ↓reduceIte, OfNat.one_ne_ofNat]
    refine Eq.trans ?_ (congrArg₂ (fun a b : EReal => a + b) (h1 e1) (shift_block m c t j))
    pointwise [k0_pay4]
  by_cases e0 : k.val = 0
  · simp only [e0, ↓reduceIte, OfNat.zero_ne_ofNat, zero_ne_one]
    refine Eq.trans ?_ (congrArg₂ (fun a b : EReal => a + b) (h0 e0) (scale_block m c t j))
    pointwise [k0_pay3]
  · simp only [e2, e1, e0, ↓reduceIte, Finset.sum_const_zero, add_zero]
    exact hz

/-- The first grid point starts from zeros. -/
theorem step_first (c : Dev nD) (t : Fin cfg0.N) (h : t.val % 8 = 0) (k : Fin 8) (j : Fin 1024) :
    (outsAt0 m c t.val t.isLt).2.2 (ix2 k j) = (0 : EReal) + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  rw [outsAt0_A m c t h]
  frame_out
  simp (discharger := decide) only [↓View.readCov_skip, ↓View.readCov_fill]
  rw [RowStores.canon_row, RowStores.canon_row, RowStores.canon_row]
  have z : ∀ i, k0_pay2 (F := Ideal) i = (0 : EReal) := fun i => by pointwise [k0_pay2]
  refine step_rows m c t _ _ _ _ _ k j (fun e => (RowStores.ld_row 2 _ _ k j e).trans (z _)) (fun e => (RowStores.ld_row 1 _ _ k j e).trans (z _))
    (fun e => (RowStores.ld_row 0 _ _ k j e).trans (z _)) ?_
  canon_tiles x h
  exact z _

/-- Each later grid point adds to what the one before it left. -/
theorem step_next (c : Dev nD) (t : Fin cfg0.N) (h : ¬ t.val % 8 = 0) (k : Fin 8) (j : Fin 1024) :
    (outsAt0 m c t.val t.isLt).2.2 (ix2 k j)
      = (outsAt0 m c (t.val - 1) (Nat.lt_of_le_of_lt (Nat.sub_le _ _) t.isLt)).2.2 (ix2 k j) + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  rw [outsAt0_B m c t h]
  frame_out
  rw [RowStores.read_row, RowStores.read_row, RowStores.read_row]
  refine step_rows m c t _ _ _ _ _ k j (fun e => RowStores.ld_row 2 _ _ k j e) (fun e => RowStores.ld_row 1 _ _ k j e)
    (fun e => RowStores.ld_row 0 _ _ k j e) ?_
  rw [View.writes_nil, Memref.IsWhole.read_unread]

/-- The third result, the sums over the tokens, is the reference's. -/
theorem result2 (c : Dev nD) : (dats m 0 c).arrAt 9 (cfgs 0).N = val_main_v54 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 9 t0_7 (by decide +kernel) _ fun y => ?_
  blk_simp
  idx_vars y
  rw [ref_sums, after0_9]
  refine (Pipeline.eq_sum_fin_of_reset_step_apply_last (M := EReal) (fun n h => (outsAt0 m c n h).2.2) 8 (fun _ => 0)
    (fun p i => ∑ r : Fin 512, share (m (c.tc.loc main_arg0)) (m (c.tc.loc main_arg1)) (m (c.tc.loc main_arg2)) (m (c.tc.loc main_arg3)) (m (c.tc.loc main_arg4)) (m (c.tc.loc main_arg5)) (i 0) (i 1) (row p r))
    (fun t h i => by rw [eq_ix2 i]; exact step_first m c t h (i 0) (i 1)) (fun t h i => by rw [eq_ix2 i]; exact step_next m c t h (i 0) (i 1))
    (le_of_eq N_0) t0_7 rfl (ix2 y0 y1)).trans ?_
  rw [zero_add]
  refine Fin.sum_mul_add_congr fun p r h => ?_
  rfl

/-- The call's three results over the extended reals are the reference's, whatever the arguments. -/
theorem algebraic : Cert.algebraic_Kernel5Ideal_Reference5Ideal := by
  pair_intro
  · run_from Cert.Kernel5Ideal.Gen.run_main m g
  · run_from Cert.Reference5Ideal.Value.run m' g'
    all_goals obtain ⟨a0, a1, a2, a3, a4, a5, a6⟩ := hagree c
    · rw [val_main_v43_eq, a0, a1, a2, a3, a4]
      exact (result0 m c).symm
    · rw [val_main_v52_eq, a0, a1, a2, a3, a4, a6]
      exact (result1 m c).symm
    · rw [val_main_v54_eq, a0, a1, a2, a3, a4, a5]
      exact (result2 m c).symm

end Cert.NormGrad

end
-- ==== Proof.HiddenProduct.lean ====
/- The MLP's first product and its rectifier: the tiled product `h · w1` of the kernel, with negative entries set to zero, is the reference's, element by element. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.HiddenProduct

open Cert.Kernel7Ideal Cert.Kernel7Ideal.Gen
open Cert.Reference7Ideal.Read

variable (m : (ℓ : Loc nD τ sig) → Buf (Elt Ideal) ℓ)

/-- Which block of each array grid point `t` works on: a row block of `h`, a column block of `w1` and one block of the result. -/
theorem blocks : ∀ t : Fin cfg0.N, win0_0.index t = ![t.val / 4, 0] ∧ win0_1.index t = ![0, t.val % 4] ∧ win0_2.index t = ![t.val / 4, t.val % 4] :=
  (by decide +kernel : ∀ t : Fin grid0.N, _)

/-- What the body stores at position `y` of its block is the reference's result at the place of the array where `y` lies. -/
theorem stored (c : Dev nD) (t : Fin cfg0.N) (y) :
    k0_pay1 (iblk m c 0 t) (iblk m c 1 t) y
      = val_main_v4 (F := Ideal) (m (c.tc.loc main_arg0)) (m (c.tc.loc main_arg1)) (((cfg0.win 2).blk t).view.emb y) := by
  pointwise [k0_pay1, val_main_v4, val_main_v3, val_main_call0_v0, val_main_call0_cst, val_main_v2, val_main_v1, val_main_v0]
  blk_point [iblk, V, blocks t]

/-- The whole result of the kernel is the reference's. -/
theorem result (c : Dev nD) : (dats m 0 c).arrAt 2 (cfgs 0).N = val_main_v4 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel7Ideal_Reference7Ideal := by
  pair_intro
  · run_from Cert.Kernel7Ideal.Gen.run_main m g
  · run_from Cert.Reference7Ideal.Value.run m' g'
    exact (result m c).symm

end Cert.HiddenProduct

end
-- ==== Proof.DownProduct.lean ====
/- The MLP's second product, the gated residual after it, and the norm and modulation of the next layer: what the kernel's row blocks hold is the reference's, element by element. -/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.DownProduct

open Cert.Kernel8Ideal Cert.Kernel8Ideal.Gen
open Cert.Reference8Ideal.Read

variable (m : (ℓ : Loc nD τ sig) → Buf (Elt Ideal) ℓ)

/-! ## What a grid point reads -/

/-- Which block of each array grid point `t` works on: the `t`-th of eight row blocks, or the whole of a weight. -/
theorem blocks : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

/-- The row of the arrays that row `r` of block `t` is. -/
def row (t : Fin cfg0.N) (r : Fin 512) : Fin 4096 := ⟨t.val * 512 + r.val, by have := lt_of_lt_of_eq t.isLt N_0; have := r.isLt; omega⟩

/-- The operand the kernel prepares before its call: `relu(a)`. -/
theorem relu_entry (c : Dev nD) (i : S4096x4096.Idx) : V m c main_v2 i = max (show EReal from (m (c.tc.loc main_arg0)) i) 0 := by
  entry_read
  pointwise

/-- The scale the kernel prepares before its call: the norm's gain times one plus the modulation. -/
theorem scale_entry (c : Dev nD) (k : Fin 1024) :
    V m c main_v5 (ix2 0 k) = (show EReal from (m (c.tc.loc main_arg4)) (ix2 0 k)) * ((1 : EReal) + show EReal from (m (c.tc.loc main_arg5)) (ix2 0 k)) := by
  entry_read
  pointwise

/-- A row of the product's left operand. -/
theorem read0 (c : Dev nD) (t : Fin cfg0.N) (r : Fin 512) (k : Fin 4096) :
    (show FVec Ideal S512x4096 .bf16 from iblk m c 0 t) (ix2 r k) = max (show EReal from (m (c.tc.loc main_arg0)) (ix2 (row t r) k)) 0 := by
  refine Eq.trans ?_ (relu_entry m c (ix2 (row t r) k))
  blk_point [iblk, blocks t, row]

/-- The product's right operand, whole. -/
theorem read1 (c : Dev nD) (t : Fin cfg0.N) (k : Fin 4096) (j : Fin 1024) :
    (show FVec Ideal S4096x1024 .bf16 from iblk m c 1 t) (ix2 k j) = (m (c.tc.loc main_arg1)) (ix2 k j) := by
  blk_point [iblk, V, blocks t]

/-- A row of what the residual adds to. -/
theorem read2 (c : Dev nD) (t : Fin cfg0.N) (r : Fin 512) (j : Fin 1024) :
    (show FVec Ideal S512x1024 .f32 from iblk m c 2 t) (ix2 r j) = (m (c.tc.loc main_arg2)) (ix2 (row t r) j) := by
  blk_point [iblk, V, blocks t, row]

/-- The gate. -/
theorem read3 (c : Dev nD) (t : Fin cfg0.N) (j : Fin 1024) :
    (show FVec Ideal S1x1024 .f32 from iblk m c 3 t) (ix2 0 j) = (m (c.tc.loc main_arg3)) (ix2 0 j) := by
  blk_point [iblk, V, blocks t]

/-- The scale. -/
theorem read4 (c : Dev nD) (t : Fin cfg0.N) (j : Fin 1024) :
    (show FVec Ideal S1x1024 .f32 from iblk m c 4 t) (ix2 0 j) = (show EReal from (m (c.tc.loc main_arg4)) (ix2 0 j)) * ((1 : EReal) + show EReal from (m (c.tc.loc main_arg5)) (ix2 0 j)) := by
  refine Eq.trans ?_ (scale_entry m c j)
  blk_point [iblk, blocks t]

/-- The shift. -/
theorem read5 (c : Dev nD) (t : Fin cfg0.N) (j : Fin 1024) :
    (show FVec Ideal S1x1024 .f32 from iblk m c 5 t) (ix2 0 j) = (m (c.tc.loc main_arg6)) (ix2 0 j) := by
  blk_point [iblk, V, blocks t]

/-! ## What a grid point computes -/

/-- The product in a row block is the reference's at its rows. -/
theorem product_block (c : Dev nD) (t : Fin cfg0.N) (r : Fin 512) (j : Fin 1024) :
    k0_pay1 (F := Ideal) (iblk m c 0 t) (iblk m c 1 t) (ix2 r j) = val_main_v3 (F := Ideal) (m (c.tc.loc main_arg0)) (m (c.tc.loc main_arg1)) (ix2 (row t r) j) := by
  have h0 := read0 m c t r
  have h1 := fun k => read1 m c t k j
  dsimp only at h0 h1
  pointwise [k0_pay1, val_main_call0_cst, val_main_call0_v0, val_main_v0, val_main_v1, val_main_v2, val_main_v3]
  simp only [h0, h1]

/-- The residual's sum in a row block is the reference's at its rows. -/
theorem residual_block (c : Dev nD) (t : Fin cfg0.N) (r : Fin 512) (j : Fin 1024) :
    k0_pay2 (F := Ideal) (iblk m c 0 t) (iblk m c 1 t) (iblk m c 2 t) (iblk m c 3 t) (ix2 r j) = val_main_v6 (F := Ideal) (m (c.tc.loc main_arg0)) (m (c.tc.loc main_arg1)) (m (c.tc.loc main_arg2)) (m (c.tc.loc main_arg3)) (ix2 (row t r) j) := by
  refine Eq.trans ?_ (Eq.trans (congrArg₂ (fun a b : EReal => a + b) (read2 m c t r j) (congrArg₂ (fun a b : EReal => a * b) (read3 m c t j) (product_block m c t r j))) ?_)
  · pointwise [k0_pay2]
  · pointwise [val_main_v4, val_main_v5, val_main_v6]

/-- A normalised, scaled and shifted row: the scale may be applied in one factor or in two. -/
theorem normed_row (v : Fin 1024 → EReal) (g s b : EReal) (k : Fin 1024) (r : EReal) : v k * r * (g * s) + b = v k * r * g * s + b := by
  rw [← mul_assoc]

/-- The normalised, scaled and shifted residual's sum in a row block is the reference's at its rows. -/
theorem normed_block (c : Dev nD) (t : Fin cfg0.N) (r : Fin 512) (j : Fin 1024) :
    k0_pay4 (F := Ideal) (iblk m c 0 t) (iblk m c 1 t) (iblk m c 2 t) (iblk m c 3 t) (iblk m c 4 t) (iblk m c 5 t) (ix2 r j)
      = val_main_v26 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix2 (row t r) j) := by
  have h2 := residual_block m c t r
  have h4 := read4 m c t j
  have h5 := read5 m c t j
  dsimp only at h4 h5
  pointwise [k0_pay4, val_main_v7, val_main_cst, val_main_v8, val_main_v9, val_main_cst_0, val_main_v10, val_main_v11, val_main_cst_1, val_main_v12, val_main_v13, val_main_v14, val_main_v15, val_main_v16, val_main_v17, val_main_v18, val_main_cst_2, val_main_v19, val_main_v20, val_main_v21, val_main_v22, val_main_v23, val_main_v24, val_main_v26]
  simp only [h2, h4, h5]
  exact normed_row (fun k => val_main_v6 (F := Ideal) (m (c.tc.loc main_arg0)) (m (c.tc.loc main_arg1)) (m (c.tc.loc main_arg2)) (m (c.tc.loc main_arg3)) (ix2 (row t r) k)) _ _ _ j _

/-! ## The three results -/

/-- Where entry (r, j) of block `t` of a result lies in the array. -/
theorem place (t : Fin cfg0.N) (r : Fin 512) (j : Fin 1024) : ((View.whole main_v6_0).slice (win0_6.rect t)).emb (ix2 r j) = ix2 (row t r) j
    ∧ ((View.whole main_v6_1).slice (win0_7.rect t)).emb (ix2 r j) = ix2 (row t r) j ∧ ((View.whole main_v6_2).slice (win0_8.rect t)).emb (ix2 r j) = ix2 (row t r) j := by
  refine ⟨?_, ?_, ?_⟩ <;> blk_ext [blocks t, row]

/-- The first result, the residual's sum, is the reference's. -/
theorem result0 (c : Dev nD) : (dats m 0 c).arrAt 6 (cfgs 0).N = val_main_v6 (F := Ideal) (m (c.tc.loc main_arg0)) (m (c.tc.loc main_arg1)) (m (c.tc.loc main_arg2)) (m (c.tc.loc main_arg3)) := by
  refine (dats m 0 c).arrAt_eq_of_covers 6 _ (by decide +kernel) fun t hf y => ?_
  blk_simp
  rw [after0_6]
  idx_vars y
  frame_out
  rw [(place t y0 y1).1]
  exact residual_block m c t y0 y1

/-- The second result, the product, is the reference's. -/
theorem result1 (c : Dev nD) : (dats m 0 c).arrAt 7 (cfgs 0).N = val_main_v25 (F := Ideal) (m (c.tc.loc main_arg0)) (m (c.tc.loc main_arg1)) := by
  refine (dats m 0 c).arrAt_eq_of_covers 7 _ (by decide +kernel) fun t hf y => ?_
  blk_simp
  rw [after0_7]
  idx_vars y
  frame_out
  rw [(place t y0 y1).2.1]
  refine Eq.trans ?_ (Eq.trans (product_block m c t y0 y1) ?_)
  · pointwise [k0_pay3]
  · pointwise [val_main_v25]

/-- The third result, the normalised and modulated sum, is the reference's. -/
theorem result2 (c : Dev nD) : (dats m 0 c).arrAt 8 (cfgs 0).N = val_main_v26 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after0_8]
  idx_vars y
  frame_out
  rw [(place t y0 y1).2.2]
  exact normed_block m c t y0 y1

/-- The call's three results over the extended reals are the reference's, whatever the arguments. -/
theorem algebraic : Cert.algebraic_Kernel8Ideal_Reference8Ideal := by
  pair_intro
  · run_from Cert.Kernel8Ideal.Gen.run_main m g
    all_goals first | exact V_main_arg0 m c | exact V_main_arg4 m c | exact V_main_arg5 m c
  · run_from Cert.Reference8Ideal.Value.run m' g'
    · exact (result0 m c).symm
    · exact (result1 m c).symm
    · exact (result2 m c).symm

end Cert.DownProduct

end
-- ==== Proof.ConvInProduct.lean ====
/- The short convolution's input product: the tiled product `h · w_in` of the kernel is the reference's, element by element. -/
module

public import proofs.«01_k».proof.Proof.Gen.Kernel9Ideal.Value
public import proofs.«01_k».proof.Proof.Gen.Reference9Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.ConvInProduct

open Cert.Kernel9Ideal Cert.Kernel9Ideal.Gen
open Cert.Reference9Ideal.Read

variable (m : (ℓ : Loc nD τ sig) → Buf (Elt Ideal) ℓ)

/-- Which block of each array grid point `t` works on: a row block of `h`, a column block of `w_in` and one block of the result. -/
theorem blocks : ∀ t : Fin cfg0.N, win0_0.index t = ![t.val / 3, 0] ∧ win0_1.index t = ![0, t.val % 3] ∧ win0_2.index t = ![t.val / 3, t.val % 3] :=
  (by decide +kernel : ∀ t : Fin grid0.N, _)

/-- What the body stores at position `y` of its block is the reference's result at the place of the array where `y` lies. -/
theorem stored (c : Dev nD) (t : Fin cfg0.N) (y) :
    k0_pay1 (iblk m c 0 t) (iblk m c 1 t) y
      = val_main_v3 (F := Ideal) (m (c.tc.loc main_arg0)) (m (c.tc.loc main_arg1)) (((cfg0.win 2).blk t).view.emb y) := by
  pointwise [k0_pay1, val_main_v3, val_main_v2, val_main_v1, val_main_v0]
  blk_point [iblk, V, blocks t]

/-- The whole result of the kernel is the reference's. -/
theorem result (c : Dev nD) : (dats m 0 c).arrAt 2 (cfgs 0).N = val_main_v3 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel9Ideal_Reference9Ideal := by
  pair_intro
  · run_from Cert.Kernel9Ideal.Gen.run_main m g
  · run_from Cert.Reference9Ideal.Value.run m' g'
    exact (result m c).symm

end Cert.ConvInProduct

end
-- ==== Proof.MixOutProduct.lean ====
/- A mixer's output product, the gated residual after it, and the norm and modulation before the MLP: what the kernel's row blocks hold is the reference's, element by element. -/
module

public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.MixOutProduct

open Cert.Kernel10Ideal Cert.Kernel10Ideal.Gen
open Cert.Reference10Ideal.Read

variable (m : (ℓ : Loc nD τ sig) → Buf (Elt Ideal) ℓ)

/-! ## What a grid point reads -/

/-- Which block of each array grid point `t` works on: the `t`-th of four row blocks, or the whole of a weight. -/
theorem blocks : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

/-- The row of the arrays that row `r` of block `t` is. -/
def row (t : Fin cfg0.N) (r : Fin 1024) : Fin 4096 := ⟨t.val * 1024 + r.val, by have := lt_of_lt_of_eq t.isLt N_0; have := r.isLt; omega⟩

/-- The scale the kernel prepares before its call: the norm's gain times one plus the modulation. -/
theorem scale_entry (c : Dev nD) (k : Fin 1024) :
    V m c main_v2 (ix2 0 k) = (show EReal from (m (c.tc.loc main_arg4)) (ix2 0 k)) * ((1 : EReal) + show EReal from (m (c.tc.loc main_arg5)) (ix2 0 k)) := by
  entry_read
  pointwise

/-- A row of the product's left operand. -/
theorem read0 (c : Dev nD) (t : Fin cfg0.N) (r : Fin 1024) (k : Fin 1024) :
    (show FVec Ideal S1024x1024 .bf16 from iblk m c 0 t) (ix2 r k) = (m (c.tc.loc main_arg0)) (ix2 (row t r) k) := by
  blk_point [iblk, V, blocks t, row]

/-- The product's right operand, whole. -/
theorem read1 (c : Dev nD) (t : Fin cfg0.N) (k : Fin 1024) (j : Fin 1024) :
    (show FVec Ideal S1024x1024 .bf16 from iblk m c 1 t) (ix2 k j) = (m (c.tc.loc main_arg1)) (ix2 k j) := by
  blk_point [iblk, V, blocks t]

/-- A row of what the residual adds to. -/
theorem read2 (c : Dev nD) (t : Fin cfg0.N) (r : Fin 1024) (j : Fin 1024) :
    (show FVec Ideal S1024x1024 .f32 from iblk m c 2 t) (ix2 r j) = (m (c.tc.loc main_arg2)) (ix2 (row t r) j) := by
  blk_point [iblk, V, blocks t, row]

/-- The gate. -/
theorem read3 (c : Dev nD) (t : Fin cfg0.N) (j : Fin 1024) :
    (show FVec Ideal S1x1024 .f32 from iblk m c 3 t) (ix2 0 j) = (m (c.tc.loc main_arg3)) (ix2 0 j) := by
  blk_point [iblk, V, blocks t]

/-- The scale. -/
theorem read4 (c : Dev nD) (t : Fin cfg0.N) (j : Fin 1024) :
    (show FVec Ideal S1x1024 .f32 from iblk m c 4 t) (ix2 0 j) = (show EReal from (m (c.tc.loc main_arg4)) (ix2 0 j)) * ((1 : EReal) + show EReal from (m (c.tc.loc main_arg5)) (ix2 0 j)) := by
  refine Eq.trans ?_ (scale_entry m c j)
  blk_point [iblk, blocks t]

/-- The shift. -/
theorem read5 (c : Dev nD) (t : Fin cfg0.N) (j : Fin 1024) :
    (show FVec Ideal S1x1024 .f32 from iblk m c 5 t) (ix2 0 j) = (m (c.tc.loc main_arg6)) (ix2 0 j) := by
  blk_point [iblk, V, blocks t]

/-! ## What a grid point computes -/

/-- The product in a row block is the reference's at its rows. -/
theorem product_block (c : Dev nD) (t : Fin cfg0.N) (r : Fin 1024) (j : Fin 1024) :
    k0_pay1 (F := Ideal) (iblk m c 0 t) (iblk m c 1 t) (ix2 r j) = val_main_v2 (F := Ideal) (m (c.tc.loc main_arg0)) (m (c.tc.loc main_arg1)) (ix2 (row t r) j) := by
  have h0 := read0 m c t r
  have h1 := fun k => read1 m c t k j
  dsimp only at h0 h1
  pointwise [k0_pay1, val_main_v0, val_main_v1, val_main_v2]
  simp only [h0, h1]

/-- The residual's sum in a row block is the reference's at its rows. -/
theorem residual_block (c : Dev nD) (t : Fin cfg0.N) (r : Fin 1024) (j : Fin 1024) :
    k0_pay2 (F := Ideal) (iblk m c 0 t) (iblk m c 1 t) (iblk m c 2 t) (iblk m c 3 t) (ix2 r j) = val_main_v5 (F := Ideal) (m (c.tc.loc main_arg0)) (m (c.tc.loc main_arg1)) (m (c.tc.loc main_arg2)) (m (c.tc.loc main_arg3)) (ix2 (row t r) j) := by
  refine Eq.trans ?_ (Eq.trans (congrArg₂ (fun a b : EReal => a + b) (read2 m c t r j) (congrArg₂ (fun a b : EReal => a * b) (read3 m c t j) (product_block m c t r j))) ?_)
  · pointwise [k0_pay2]
  · pointwise [val_main_v3, val_main_v4, val_main_v5]

/-- A normalised, scaled and shifted row: the scale may be applied in one factor or in two. -/
theorem normed_row (v : Fin 1024 → EReal) (g s b : EReal) (k : Fin 1024) (r : EReal) : v k * r * (g * s) + b = v k * r * g * s + b := by
  rw [← mul_assoc]

/-- The normalised, scaled and shifted residual's sum in a row block is the reference's at its rows. -/
theorem normed_block (c : Dev nD) (t : Fin cfg0.N) (r : Fin 1024) (j : Fin 1024) :
    k0_pay4 (F := Ideal) (iblk m c 0 t) (iblk m c 1 t) (iblk m c 2 t) (iblk m c 3 t) (iblk m c 4 t) (iblk m c 5 t) (ix2 r j)
      = val_main_v25 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix2 (row t r) j) := by
  have h2 := residual_block m c t r
  have h4 := read4 m c t j
  have h5 := read5 m c t j
  dsimp only at h4 h5
  pointwise [k0_pay4, val_main_v6, val_main_cst, val_main_v7, val_main_v8, val_main_cst_0, val_main_v9, val_main_v10, val_main_cst_1, val_main_v11, val_main_v12, val_main_v13, val_main_v14, val_main_v15, val_main_v16, val_main_v17, val_main_cst_2, val_main_v18, val_main_v19, val_main_v20, val_main_v21, val_main_v22, val_main_v23, val_main_v25]
  simp only [h2, h4, h5]
  exact normed_row (fun k => val_main_v5 (F := Ideal) (m (c.tc.loc main_arg0)) (m (c.tc.loc main_arg1)) (m (c.tc.loc main_arg2)) (m (c.tc.loc main_arg3)) (ix2 (row t r) k)) _ _ _ j _

/-! ## The three results -/

/-- Where entry (r, j) of block `t` of a result lies in the array. -/
theorem place (t : Fin cfg0.N) (r : Fin 1024) (j : Fin 1024) : ((View.whole main_v3_0).slice (win0_6.rect t)).emb (ix2 r j) = ix2 (row t r) j
    ∧ ((View.whole main_v3_1).slice (win0_7.rect t)).emb (ix2 r j) = ix2 (row t r) j ∧ ((View.whole main_v3_2).slice (win0_8.rect t)).emb (ix2 r j) = ix2 (row t r) j := by
  refine ⟨?_, ?_, ?_⟩ <;> blk_ext [blocks t, row]

/-- The first result, the residual's sum, is the reference's. -/
theorem result0 (c : Dev nD) : (dats m 0 c).arrAt 6 (cfgs 0).N = val_main_v5 (F := Ideal) (m (c.tc.loc main_arg0)) (m (c.tc.loc main_arg1)) (m (c.tc.loc main_arg2)) (m (c.tc.loc main_arg3)) := by
  refine (dats m 0 c).arrAt_eq_of_covers 6 _ (by decide +kernel) fun t hf y => ?_
  blk_simp
  rw [after0_6]
  idx_vars y
  frame_out
  rw [(place t y0 y1).1]
  exact residual_block m c t y0 y1

/-- The second result, the product, is the reference's. -/
theorem result1 (c : Dev nD) : (dats m 0 c).arrAt 7 (cfgs 0).N = val_main_v24 (F := Ideal) (m (c.tc.loc main_arg0)) (m (c.tc.loc main_arg1)) := by
  refine (dats m 0 c).arrAt_eq_of_covers 7 _ (by decide +kernel) fun t hf y => ?_
  blk_simp
  rw [after0_7]
  idx_vars y
  frame_out
  rw [(place t y0 y1).2.1]
  refine Eq.trans ?_ (Eq.trans (product_block m c t y0 y1) ?_)
  · pointwise [k0_pay3]
  · pointwise [val_main_v24]

/-- The third result, the normalised and modulated sum, is the reference's. -/
theorem result2 (c : Dev nD) : (dats m 0 c).arrAt 8 (cfgs 0).N = val_main_v25 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after0_8]
  idx_vars y
  frame_out
  rw [(place t y0 y1).2.2]
  exact normed_block m c t y0 y1

/-- The call's three results over the extended reals are the reference's, whatever the arguments. -/
theorem algebraic : Cert.algebraic_Kernel10Ideal_Reference10Ideal := by
  pair_intro
  · run_from Cert.Kernel10Ideal.Gen.run_main m g
    all_goals first | exact V_main_arg0 m c | exact V_main_arg4 m c | exact V_main_arg5 m c
  · run_from Cert.Reference10Ideal.Value.run m' g'
    · exact (result0 m c).symm
    · exact (result1 m c).symm
    · exact (result2 m c).symm

end Cert.MixOutProduct

end
-- ==== Proof.ConvOutGrad.lean ====
/- The gradient of the short convolution's output product with respect to its input: the tiled product `dy · w_outᵀ` of the kernel is the reference's gradient, element by element. -/
module

public import proofs.«01_k».proof.Proof.Gen.Kernel11Ideal.Value
public import proofs.«01_k».proof.Proof.Gen.Reference11Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.ConvOutGrad

open Cert.Kernel11Ideal Cert.Kernel11Ideal.Gen
open Cert.Reference11Ideal.Read

variable (m : (ℓ : Loc nD τ sig) → Buf (Elt Ideal) ℓ)

/-- Which block of each array grid point `t` works on: a row block of `dy` and of the result, and the whole of `w_out`. -/
theorem blocks : ∀ t : Fin cfg0.N, win0_0.index t = ![t.val, 0] ∧ win0_1.index t = ![0, 0] ∧ win0_2.index t = ![t.val, 0] :=
  (by decide +kernel : ∀ t : Fin grid0.N, _)

/-- What the body stores at position `y` of its block is the reference's result at the place of the array where `y` lies. -/
theorem stored (c : Dev nD) (t : Fin cfg0.N) (y) :
    k0_pay1 (iblk m c 0 t) (iblk m c 1 t) y
      = val_main_v5 (F := Ideal) (m (c.tc.loc main_arg0)) (m (c.tc.loc main_arg1)) (((cfg0.win 2).blk t).view.emb y) := by
  pointwise [k0_pay1, val_main_v5, val_main_v4, val_main_v3, val_main_v2, val_main_v1, val_main_v0, val_main_cst]
  blk_point [iblk, V, blocks t]

/-- The whole result of the kernel is the reference's. -/
theorem result (c : Dev nD) : (dats m 0 c).arrAt 2 (cfgs 0).N = val_main_v5 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel11Ideal_Reference11Ideal := by
  pair_intro
  · run_from Cert.Kernel11Ideal.Gen.run_main m g
  · run_from Cert.Reference11Ideal.Value.run m' g'
    exact (result m c).symm

end Cert.ConvOutGrad

end
-- ==== Proof.OutWeightGrad.lean ====
/- The gradient of a mixer's output weight: the tiled product `pᵀ · dy` of the kernel is the reference's gradient, element by element. -/
module

public import proofs.«01_k».proof.Proof.Gen.Kernel12Ideal.Value
public import proofs.«01_k».proof.Proof.Gen.Reference12Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.OutWeightGrad

open Cert.Kernel12Ideal Cert.Kernel12Ideal.Gen
open Cert.Reference12Ideal.Read

variable (m : (ℓ : Loc nD τ sig) → Buf (Elt Ideal) ℓ)

/-- Which block of each array grid point `t` works on: the whole of `p`, a column block of `dy` and of the result. -/
theorem blocks : ∀ t : Fin cfg0.N, win0_0.index t = ![0, 0] ∧ win0_1.index t = ![0, t.val] ∧ win0_2.index t = ![0, t.val] :=
  (by decide +kernel : ∀ t : Fin grid0.N, _)

/-- What the body stores at position `y` of its block is the reference's result at the place of the array where `y` lies. -/
theorem stored (c : Dev nD) (t : Fin cfg0.N) (y) :
    k0_pay1 (iblk m c 0 t) (iblk m c 1 t) y
      = val_main_v6 (F := Ideal) (m (c.tc.loc main_arg0)) (m (c.tc.loc main_arg1)) (((cfg0.win 2).blk t).view.emb y) := by
  pointwise [k0_pay1, val_main_v6, val_main_v5, val_main_v4, val_main_v3, val_main_v2, val_main_v1, val_main_v0, val_main_cst]
  refine Eq.trans ?_ (Finset.sum_congr rfl fun k _ => mul_comm (G := EReal) _ _)
  blk_point [iblk, V, blocks t]

/-- The whole result of the kernel is the reference's. -/
theorem result (c : Dev nD) : (dats m 0 c).arrAt 2 (cfgs 0).N = val_main_v6 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel12Ideal_Reference12Ideal := by
  pair_intro
  · run_from Cert.Kernel12Ideal.Gen.run_main m g
  · run_from Cert.Reference12Ideal.Value.run m' g'
    exact (result m c).symm

end Cert.OutWeightGrad

end
-- ==== Proof.ConvInWeightGrad.lean ====
/- The gradient of the short convolution's input weight, whose second operand comes as three chunks of columns: what each grid point computes of its block of columns is the reference's result there. -/
module

public import proofs.«01_k».proof.Proof.Gen.Kernel13Ideal.Value
public import proofs.«01_k».proof.Proof.Gen.Reference13Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.ConvInWeightGrad

open Cert.Kernel13Ideal Cert.Kernel13Ideal.Gen
open Cert.Reference13Ideal.Read

variable (m : (ℓ : Loc nD τ sig) → Buf (Elt Ideal) ℓ)

/-- Which block of each array grid point `t` works on: the whole of the layer's input, a half of one of the three chunks, the columns of the result that belong to it. -/
theorem blocks : ∀ t : Fin cfg0.N, win0_0.index t = ![0, 0] ∧ win0_1.index t = ![t.val / 2, 0, t.val % 2] ∧ win0_2.index t = ![0, t.val] :=
  (by decide +kernel : ∀ t : Fin grid0.N, _)

/-- Places with equal coordinates are equal. -/
theorem ix3_congr {a b c : ℕ} {i i' : Fin a} {j j' : Fin b} {k k' : Fin c} (hi : i.val = i'.val) (hj : j = j') (hk : k.val = k'.val) : ix3 i j k = ix3 i' j' k' := by
  rw [Fin.ext hi, hj, Fin.ext hk]

/-- The three chunks of columns side by side: column `j` of the row is column `j % 1024` of chunk `j / 1024`. -/
theorem chunks (X : FVec Ideal S3x4096x1024 .bf16) (s : Fin 4096) (j : Fin 3072) :
    val_main_v6 (F := Ideal) X (ix2 s j) = X (ix3 ⟨j.val / 1024, by have := j.isLt; omega⟩ s ⟨j.val % 1024, Nat.mod_lt _ (by norm_num)⟩) := by
  have hj := j.isLt
  pointwise [val_main_v6, val_main_v5, val_main_v4, val_main_v3, val_main_v2, val_main_v1, val_main_v0]
  rcases (by omega : j.val < 1024 ∨ (¬ j.val < 1024 ∧ j.val - 1024 < 1024) ∨ (¬ j.val < 1024 ∧ ¬ j.val - 1024 < 1024)) with h | ⟨h, h'⟩ | ⟨h, h'⟩
  · simp only [h, ↓reduceDIte]
    exact congrArg X (ix3_congr (by show 0 = j.val / 1024; omega) rfl (by show j.val = j.val % 1024; omega))
  · simp only [h, h', ↓reduceDIte]
    exact congrArg X (ix3_congr (by show 1 = j.val / 1024; omega) rfl (by show j.val - 1024 = j.val % 1024; omega))
  · simp only [h, h', ↓reduceDIte]
    exact congrArg X (ix3_congr (by show 2 = j.val / 1024; omega) rfl (by show j.val - 1024 - 1024 = j.val % 1024; omega))

/-- What the body stores at position `y` of its block is the reference's result at the place of the array where `y` lies. -/
theorem stored (c : Dev nD) (t : Fin cfg0.N) (y) :
    k0_pay1 (iblk m c 0 t) (iblk m c 1 t) y
      = val_main_v13 (F := Ideal) (m (c.tc.loc main_arg0)) (m (c.tc.loc main_arg1)) (((cfg0.win 2).blk t).view.emb y) := by
  pointwise [k0_pay1, val_main_v13, val_main_v12, val_main_v11, val_main_v10, val_main_v9, val_main_v8, val_main_cst, val_main_v7, val_main_v5, val_main_v4, val_main_v3, val_main_v2, val_main_v1, val_main_v0]
  refine Eq.trans ?_ (Finset.sum_congr rfl fun k _ => mul_comm (G := EReal) _ _)
  refine Finset.sum_congr rfl fun s _ => congrArg₂ (fun a b : EReal => a * b) ?_ (Eq.trans ?_ (chunks _ s _).symm)
  · blk_point [iblk, V, blocks t]
  · blk_point [iblk, V, blocks t]

/-- The whole result of the kernel is the reference's. -/
theorem result (c : Dev nD) : (dats m 0 c).arrAt 2 (cfgs 0).N = val_main_v13 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel13Ideal_Reference13Ideal := by
  pair_intro
  · run_from Cert.Kernel13Ideal.Gen.run_main m g
  · run_from Cert.Reference13Ideal.Value.run m' g'
    exact (result m c).symm

end Cert.ConvInWeightGrad

end
-- ==== Proof.InputGrad.lean ====
/- The gradient of the first layer's mixer input product and of the norm and modulation before it. The incoming gradient comes as three chunks of columns. What the kernel's row
blocks hold, and the sums over the rows that it accumulates block by block, are the reference's gradients; the first result is the gradient of the training step's input. -/
module

public import proofs.«01_k».proof.Proof.Gen.Kernel14Ideal.Value
public import proofs.«01_k».proof.Proof.Gen.Reference14Ideal.Read
public import Idealize.ShloMosaic.Lib.Pipeline.ValueKit
public import Idealize.ShloMosaic.Lib.Pointwise
public import Idealize.ShloMosaic.Lib.Claim
public import proofs.«01_k».proof.Defs
public import proofs.«01_k».proof.Proof.NormRow
public import proofs.«01_k».proof.Proof.RowStores

@[expose] public section

set_option maxRecDepth 16384

noncomputable section

open Idealize.ShloMosaic Idealize.ShloMosaic.TcCoe Idealize.SL.Sem
open Idealize.ShloMosaic.Pipeline (Dat)
open scoped BigOperators

namespace Cert.InputGrad

open Cert.Kernel14Ideal Cert.Kernel14Ideal.Gen
open Cert.Reference14Ideal.Read

/-! ## What the body computes from a row block -/

/-- The reciprocal root of a row. -/
theorem rstd_apply (v : Vec Ideal S512x1024 .f32) (r : Fin 512) :
    k0_pay6 (F := Ideal) v (ix2 r 0) = Ideal.rsqrt (Ideal.div (∑ k : Fin 1024, v (ix2 r k) * v (ix2 r k)) (Ideal.ofBits .f32 0x44800000#32) + Ideal.ofBits .f32 0x358637BD#32) := by
  pointwise [k0_pay6]

/-- A normalised row. -/
theorem normed_apply (v : Vec Ideal S512x1024 .f32) (r : Fin 512) (j : Fin 1024) :
    k0_pay7 (F := Ideal) v (ix2 r j) = v (ix2 r j) * k0_pay6 (F := Ideal) v (ix2 r 0) := by
  pointwise [k0_pay7]

/-- A row of the product, computed from the same data, is the reference's. -/
theorem product_row {v0 v2 v4 : Vec Ideal S1x512x1024 .bf16} {v7 : Vec Ideal S1024x3072 .bf16} (X0 : (⟨S3x4096x1024, .bf16⟩ : BufTy).Contents (Elt Ideal)) (X1 : (⟨S1024x3072, .bf16⟩ : BufTy).Contents (Elt Ideal)) (r : Fin 512) (s : Fin 4096)
    (h0 : ∀ k, v0 (ix3 0 r k) = X0 (ix3 0 s k)) (h2 : ∀ k, v2 (ix3 0 r k) = X0 (ix3 1 s k)) (h4 : ∀ k, v4 (ix3 0 r k) = X0 (ix3 2 s k)) (h7 : ∀ a k, v7 (ix2 a k) = X1 (ix2 a k)) (j : Fin 1024) :
    k0_pay5 (F := Ideal) v0 v2 v4 v7 (ix2 r j) = val_main_v28 (F := Ideal) X0 X1 (ix2 s j) := by
  pointwise [k0_pay5, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28]
  simp only [h0, h2, h4, h7]

/-- The gradient that passes through the norm, and the residual's: the kernel's row, computed from the same data, is the reference's. -/
theorem input_grad {v0 v2 v4 : Vec Ideal S1x512x1024 .bf16} {v7 : Vec Ideal S1024x3072 .bf16} {v9 : Vec Ideal S512x1024 .f32} {v10 : Vec Ideal S1x1024 .f32} {v11 : Vec Ideal S512x1024 .f32}
    (X0 : (⟨S3x4096x1024, .bf16⟩ : BufTy).Contents (Elt Ideal)) (X1 : (⟨S1024x3072, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (r : Fin 512) (s : Fin 4096) (j : Fin 1024)
    (h0 : ∀ k, v0 (ix3 0 r k) = X0 (ix3 0 s k)) (h2 : ∀ k, v2 (ix3 0 r k) = X0 (ix3 1 s k)) (h4 : ∀ k, v4 (ix3 0 r k) = X0 (ix3 2 s k)) (h7 : ∀ a k, v7 (ix2 a k) = X1 (ix2 a k)) (h9 : ∀ k, v9 (ix2 r k) = X2 (ix2 s k))
    (h10 : ∀ k, v10 (ix2 0 k) = X3 (ix2 0 k)) (h11 : ∀ k, v11 (ix2 r k) = X4 (ix2 s k)) :
    k0_pay1 (F := Ideal) v11 (k0_pay8 (F := Ideal) v0 v2 v4 v7 v9 v10) (ix2 r j) = val_main_v50 (F := Ideal) X0 X1 X2 X3 X4 (ix2 s j) := by
  have hd := product_row X0 X1 r s h0 h2 h4 h7
  have e : k0_pay1 (F := Ideal) v11 (k0_pay8 (F := Ideal) v0 v2 v4 v7 v9 v10) (ix2 r j)
      = k0_pay6 (F := Ideal) v9 (ix2 r 0) * (k0_pay5 (F := Ideal) v0 v2 v4 v7 (ix2 r j) * v10 (ix2 0 j) - v9 (ix2 r j) * k0_pay6 (F := Ideal) v9 (ix2 r 0)
          * Ideal.div (∑ l : Fin 1024, k0_pay5 (F := Ideal) v0 v2 v4 v7 (ix2 r l) * v10 (ix2 0 l) * (v9 (ix2 r l) * k0_pay6 (F := Ideal) v9 (ix2 r 0))) (Ideal.ofBits .f32 0x44800000#32))
        + v11 (ix2 r j) := by
    pointwise [k0_pay8, k0_pay7, k0_pay1]
  rw [e, rstd_apply]
  simp only [hd, h9, h10, h11]
  refine (NormRow.row_grad (fun k => X2 (ix2 s k)) (fun k => val_main_v28 (F := Ideal) X0 X1 (ix2 s k) * X3 (ix2 0 k)) _ (X4 (ix2 s j))
    (NormRow.variance_pos fun k => X2 (ix2 s k)) j).trans ?_
  symm
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_cst_4, val_main_v29, val_main_v30, val_main_v31, val_main_cst_5, val_main_v32, val_main_v33, val_main_v34, val_main_v35, val_main_v36, val_main_cst_6, val_main_v37, val_main_v38, val_main_v39, val_main_v40, val_main_v41, val_main_v42, val_main_cst_7, val_main_v43, val_main_v44, val_main_cst_8, val_main_v45, val_main_v46, val_main_v47, val_main_v48, val_main_v49, val_main_v50, val_main_cst_9, val_main_v51]
  simp only [Fin.sum_univ_one]

/-! ## The blocks -/

variable (m : (ℓ : Loc nD τ sig) → Buf (Elt Ideal) ℓ)

/-- Which block of each array grid point `t` works on: the `t`-th of 8 row blocks, or the whole of an array. -/
theorem blocks : ∀ t : Fin cfg0.N, win0_0.index t = ![0, t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- The row of the arrays that row `r` of block `t` is. -/
def row (t : Fin cfg0.N) (r : Fin 512) : Fin 4096 := ⟨t.val * 512 + r.val, by have := lt_of_lt_of_eq t.isLt N_0; have := r.isLt; omega⟩

/-- A row of a chunk of the incoming gradient. -/
theorem read0 (c : Dev nD) (t : Fin cfg0.N) (r : Fin 512) (q : Fin 3) (k : Fin 1024) :
    (show FVec Ideal S3x512x1024 .bf16 from iblk m c 0 t) (ix3 q r k) = (m (c.tc.loc main_arg0)) (ix3 q (row t r) k) := by
  blk_point [iblk, V, blocks t, row]

/-- A row of each chunk, as the body reads it. -/
theorem chunk_row (c : Dev nD) (t : Fin cfg0.N) (r : Fin 512) (k : Fin 1024) :
    (View.ld (iblk m c 0 t) (Rect.unit ![0, 0, 0] ![1, 512, 1024] inb_S3x512x1024_S1x512x1024_0_0_0)) (ix3 0 r k) = (m (c.tc.loc main_arg0)) (ix3 0 (row t r) k)
    ∧ (View.ld (iblk m c 0 t) (Rect.unit ![1, 0, 0] ![1, 512, 1024] inb_S3x512x1024_S1x512x1024_1_0_0)) (ix3 0 r k) = (m (c.tc.loc main_arg0)) (ix3 1 (row t r) k)
    ∧ (View.ld (iblk m c 0 t) (Rect.unit ![2, 0, 0] ![1, 512, 1024] inb_S3x512x1024_S1x512x1024_2_0_0)) (ix3 0 r k) = (m (c.tc.loc main_arg0)) (ix3 2 (row t r) k) := by
  refine ⟨Eq.trans ?_ (read0 m c t r 0 k), Eq.trans ?_ (read0 m c t r 1 k), Eq.trans ?_ (read0 m c t r 2 k)⟩ <;>
    exact View.ld_unit_apply_of _ _ _ _ _ _ (fun a => by fin_cases a <;> simp [ix3])

/-- The weight. -/
theorem read1 (c : Dev nD) (t : Fin cfg0.N) (r : Fin 1024) (k : Fin 3072) :
    (show FVec Ideal S1024x3072 .bf16 from iblk m c 1 t) (ix2 r k) = (m (c.tc.loc main_arg1)) (ix2 r k) := by
  blk_point [iblk, V, blocks t]

/-- A row of the norm's input. -/
theorem read2 (c : Dev nD) (t : Fin cfg0.N) (r : Fin 512) (k : Fin 1024) :
    (show FVec Ideal S512x1024 .f32 from iblk m c 2 t) (ix2 r k) = (m (c.tc.loc main_arg2)) (ix2 (row t r) k) := by
  blk_point [iblk, V, blocks t, row]

/-- The norm's scale. -/
theorem read3 (c : Dev nD) (t : Fin cfg0.N) (k : Fin 1024) :
    (show FVec Ideal S1x1024 .f32 from iblk m c 3 t) (ix2 0 k) = (m (c.tc.loc main_arg3)) (ix2 0 k) := by
  blk_point [iblk, V, blocks t]

/-- A row of the gradient that comes past the norm. -/
theorem read4 (c : Dev nD) (t : Fin cfg0.N) (r : Fin 512) (k : Fin 1024) :
    (show FVec Ideal S512x1024 .f32 from iblk m c 4 t) (ix2 r k) = (m (c.tc.loc main_arg4)) (ix2 (row t r) k) := by
  blk_point [iblk, V, blocks t, row]

/-- What a grid point computes for the norm's input is the reference's gradient at its rows. -/
theorem input_block (c : Dev nD) (t : Fin cfg0.N) (r : Fin 512) (j : Fin 1024) :
    k0_pay1 (F := Ideal) (iblk m c 4 t) (k0_pay8 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (iblk m c 2 t) (iblk m c 3 t)) (ix2 r j)
      = val_main_v50 (F := Ideal) (m (c.tc.loc main_arg0)) (m (c.tc.loc main_arg1)) (m (c.tc.loc main_arg2)) (m (c.tc.loc main_arg3)) (m (c.tc.loc main_arg4)) (ix2 (row t r) j) :=
  input_grad _ _ _ _ _ r (row t r) j (fun k => (chunk_row m c t r k).1) (fun k => (chunk_row m c t r k).2.1) (fun k => (chunk_row m c t r k).2.2) (read1 m c t) (read2 m c t r) (read3 m c t) (read4 m c t r)

/-- A block's product is the reference's product at its rows. -/
theorem product_block (c : Dev nD) (t : Fin cfg0.N) (r : Fin 512) (j : Fin 1024) :
    k0_pay5 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (ix2 r j) = val_main_v28 (F := Ideal) (m (c.tc.loc main_arg0)) (m (c.tc.loc main_arg1)) (ix2 (row t r) j) :=
  product_row _ _ r (row t r) (fun k => (chunk_row m c t r k).1) (fun k => (chunk_row m c t r k).2.1) (fun k => (chunk_row m c t r k).2.2) (read1 m c t) j

/-- A normalised row of a block is the reference's. -/
theorem normed_block (c : Dev nD) (t : Fin cfg0.N) (r : Fin 512) (j : Fin 1024) :
    k0_pay7 (F := Ideal) (iblk m c 2 t) (ix2 r j) = val_main_v21 (F := Ideal) (m (c.tc.loc main_arg2)) (ix2 (row t r) j) := by
  rw [normed_apply, rstd_apply]
  have h := read2 m c t r
  dsimp only at h
  simp only [h]
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21]

/-! ## The gradients with one row per token -/

/-- The first result, the gradient of the norm's input, is the reference's. -/
theorem result0 (c : Dev nD) : (dats m 0 c).arrAt 5 (cfgs 0).N = val_main_v50 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp
  rw [after0_5]
  have e : ∀ (r : Fin 512) (j : Fin 1024), ((View.whole main_v0_0).slice (win0_5.rect t)).emb (ix2 r j) = ix2 (row t r) j := fun r j => by blk_ext [blocks t, row]
  idx_vars y
  by_cases h : t.val % 8 = 0
  · rw [outsAt0_A m c t h]
    frame_out
    rw [e]
    exact input_block m c t y0 y1
  · rw [outsAt0_B m c t h]
    frame_out
    rw [e]
    exact input_block m c t y0 y1

/-! ## The sums over the tokens -/

/-- What token `s` adds to entry `j` of row `k` of the second result: row 0 gathers the gradient of the norm's scale, row 1 of its shift. -/
def share (X0 : (⟨S3x4096x1024, .bf16⟩ : BufTy).Contents (Elt Ideal)) (X1 : (⟨S1024x3072, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (k : Fin 8) (j : Fin 1024) (s : Fin 4096) : EReal :=
  if k.val = 1 then val_main_v28 (F := Ideal) X0 X1 (ix2 s j)
  else if k.val = 0 then val_main_v31 (F := Ideal) X0 X1 X2 (ix2 s j) else 0

/-- The second result of the reference is the sum of the tokens' shares. -/
theorem ref_sums (X0 : (⟨S3x4096x1024, .bf16⟩ : BufTy).Contents (Elt Ideal)) (X1 : (⟨S1024x3072, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (k : Fin 8) (j : Fin 1024) :
    val_main_v52 (F := Ideal) X0 X1 X2 (ix2 k j) = ∑ s : Fin 4096, share X0 X1 X2 X3 X4 k j s := by
  have hk := k.isLt
  unfold share
  pointwise [val_main_v52, val_main_v51, val_main_v33, val_main_v32, val_main_v30, val_main_v29, val_main_cst_9, val_main_cst_5, val_main_cst_4]
  rcases (by omega : k.val = 0 ∨ k.val = 1 ∨ 1 < k.val) with h | h | h
  · simp [h]
  · simp [h]

  · simp [show ¬ k.val < 1 by omega, show ¬ k.val - 1 < 1 by omega, show k.val ≠ 0 by omega, show k.val ≠ 1 by omega]

/-- What a block adds to the gradient of the norm's scale, on top of what is there. -/
theorem scale_block (c : Dev nD) (t : Fin cfg0.N) (w0 : Vec Ideal S1x1024 .f32) (j : Fin 1024) :
    k0_pay3 (F := Ideal) (k0_pay5 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t)) (k0_pay7 (F := Ideal) (iblk m c 2 t)) w0 (ix2 0 j)
      = w0 (ix2 0 j) + ∑ r : Fin 512, val_main_v31 (F := Ideal) (m (c.tc.loc main_arg0)) (m (c.tc.loc main_arg1)) (m (c.tc.loc main_arg2)) (ix2 (row t r) j) := by
  refine Eq.trans ?_ (congrArg (fun a : EReal => (show EReal from w0 (ix2 0 j)) + a) (Finset.sum_congr rfl fun r _ =>
    (mul_comm (G := EReal) _ _).trans (congrArg₂ (fun a b : EReal => a * b) (normed_block m c t r j) (product_block m c t r j))))
  pointwise [k0_pay3]

/-- What a block adds to the gradient of the norm's shift, on top of what is there. -/
theorem shift_block (c : Dev nD) (t : Fin cfg0.N) (w1 : Vec Ideal S1x1024 .f32) (j : Fin 1024) :
    k0_pay4 (F := Ideal) (k0_pay5 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t)) w1 (ix2 0 j)
      = w1 (ix2 0 j) + ∑ r : Fin 512, val_main_v28 (F := Ideal) (m (c.tc.loc main_arg0)) (m (c.tc.loc main_arg1)) (ix2 (row t r) j) := by
  refine Eq.trans ?_ (congrArg (fun a : EReal => (show EReal from w1 (ix2 0 j)) + a) (Finset.sum_congr rfl fun r _ => product_block m c t r j))
  pointwise [k0_pay4]

/-- One grid point's step: two of the eight rows gain the sums over its rows, the others stay. -/
theorem step_rows (c : Dev nD) (t : Fin cfg0.N) (w1 w0 : Vec Ideal S1x1024 .f32) (z b : EReal) (k : Fin 8) (j : Fin 1024)
    (h1 : k.val = 1 → w1 (ix2 0 j) = b) (h0 : k.val = 0 → w0 (ix2 0 j) = b) (hz : z = b) :
    (if k.val = 1 then k0_pay4 (F := Ideal) (k0_pay5 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t)) w1 (ix2 0 j)
      else if k.val = 0 then k0_pay3 (F := Ideal) (k0_pay5 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t)) (k0_pay7 (F := Ideal) (iblk m c 2 t)) w0 (ix2 0 j) else z)
      = b + ∑ r : Fin 512, share (m (c.tc.loc main_arg0)) (m (c.tc.loc main_arg1)) (m (c.tc.loc main_arg2)) (m (c.tc.loc main_arg3)) (m (c.tc.loc main_arg4)) k j (row t r) := by
  unfold share
  by_cases e1 : k.val = 1
  · simp only [e1, ↓reduceIte, OfNat.one_ne_ofNat]
    rw [shift_block, h1 e1]
  by_cases e0 : k.val = 0
  · simp only [e0, ↓reduceIte, OfNat.zero_ne_ofNat, zero_ne_one]
    rw [scale_block, h0 e0]
  · simp only [e1, e0, ↓reduceIte, Finset.sum_const_zero, add_zero]
    exact hz

/-- The first grid point starts from zeros. -/
theorem step_first (c : Dev nD) (t : Fin cfg0.N) (h : t.val % 8 = 0) (k : Fin 8) (j : Fin 1024) :
    (outsAt0 m c t.val t.isLt).2 (ix2 k j) = (0 : EReal) + ∑ r : Fin 512, share (m (c.tc.loc main_arg0)) (m (c.tc.loc main_arg1)) (m (c.tc.loc main_arg2)) (m (c.tc.loc main_arg3)) (m (c.tc.loc main_arg4)) k j (row t r) := by
  rw [outsAt0_A m c t h]
  frame_out
  simp (discharger := decide) only [↓View.readCov_skip, ↓View.readCov_fill]
  rw [RowStores.canon_row, RowStores.canon_row]
  have z : ∀ i, k0_pay2 (F := Ideal) i = (0 : EReal) := fun i => by pointwise [k0_pay2]
  refine step_rows m c t _ _ _ _ k j (fun e => (RowStores.ld_row 1 _ _ k j e).trans (z _))
    (fun e => (RowStores.ld_row 0 _ _ k j e).trans (z _)) ?_
  canon_tiles x h
  exact z _

/-- Each later grid point adds to what the one before it left. -/
theorem step_next (c : Dev nD) (t : Fin cfg0.N) (h : ¬ t.val % 8 = 0) (k : Fin 8) (j : Fin 1024) :
    (outsAt0 m c t.val t.isLt).2 (ix2 k j)
      = (outsAt0 m c (t.val - 1) (Nat.lt_of_le_of_lt (Nat.sub_le _ _) t.isLt)).2 (ix2 k j) + ∑ r : Fin 512, share (m (c.tc.loc main_arg0)) (m (c.tc.loc main_arg1)) (m (c.tc.loc main_arg2)) (m (c.tc.loc main_arg3)) (m (c.tc.loc main_arg4)) k j (row t r) := by
  rw [outsAt0_B m c t h]
  frame_out
  rw [RowStores.read_row, RowStores.read_row]
  refine step_rows m c t _ _ _ _ k j (fun e => RowStores.ld_row 1 _ _ k j e)
    (fun e => RowStores.ld_row 0 _ _ k j e) ?_
  rw [View.writes_nil, Memref.IsWhole.read_unread]

/-- The second result, the sums over the tokens, is the reference's. -/
theorem result1 (c : Dev nD) : (dats m 0 c).arrAt 6 (cfgs 0).N = val_main_v52 (F := Ideal) (m (c.tc.loc main_arg0)) (m (c.tc.loc main_arg1)) (m (c.tc.loc main_arg2)) := by
  refine (dats m 0 c).arrAt_eq_of_after_last 6 t0_7 (by decide +kernel) _ fun y => ?_
  blk_simp
  idx_vars y
  rw [ref_sums (m (c.tc.loc main_arg0)) (m (c.tc.loc main_arg1)) (m (c.tc.loc main_arg2)) (m (c.tc.loc main_arg3)) (m (c.tc.loc main_arg4)), after0_6]
  refine (Pipeline.eq_sum_fin_of_reset_step_apply_last (M := EReal) (fun n h => (outsAt0 m c n h).2) 8 (fun _ => 0)
    (fun p i => ∑ r : Fin 512, share (m (c.tc.loc main_arg0)) (m (c.tc.loc main_arg1)) (m (c.tc.loc main_arg2)) (m (c.tc.loc main_arg3)) (m (c.tc.loc main_arg4)) (i 0) (i 1) (row p r))
    (fun t h i => by rw [eq_ix2 i]; exact step_first m c t h (i 0) (i 1)) (fun t h i => by rw [eq_ix2 i]; exact step_next m c t h (i 0) (i 1))
    (le_of_eq N_0) t0_7 rfl (ix2 y0 y1)).trans ?_
  rw [zero_add]
  refine Fin.sum_mul_add_congr fun p r h => ?_
  rfl

/-- The call's two results over the extended reals are the reference's, whatever the arguments. -/
theorem algebraic : Cert.algebraic_Kernel14Ideal_Reference14Ideal := by
  pair_intro
  · run_from Cert.Kernel14Ideal.Gen.run_main m g
  · run_from Cert.Reference14Ideal.Value.run m' g'
    · obtain ⟨a0, a1, a2, a3, a4⟩ := hagree c
      rw [val_main_v50_eq, a0, a1, a2, a3, a4]
      exact (result0 m c).symm
    · exact (result1 m c).symm

end Cert.InputGrad

end
-- ==== Proof.AdamW.lean ====
/- The arithmetic of one AdamW step, on the extended reals: the new moments and the update of one entry, and the two bias corrections, by which the kernel multiplies and the reference divides. -/
module

public import Idealize.ShloMosaic.Lib.Pipeline.ValueKit
public import Idealize.ShloMosaic.Lib.Pointwise

@[expose] public section

noncomputable section

open Idealize.ShloMosaic
open scoped BigOperators

namespace Cert.AdamW

/-- The new first moment of an entry with gradient `g`. -/
def moment (m g : EReal) : EReal := Ideal.ofBits .f32 0x3F666666#32 * m + Ideal.ofBits .f32 0x3DCCCCCD#32 * g

/-- The new second moment of an entry with gradient `g`. -/
def square (v g : EReal) : EReal := Ideal.ofBits .f32 0x3F7FBE77#32 * v + Ideal.ofBits .f32 0x3A83126F#32 * (g * g)

/-- The update of an entry `w` with gradient `g` and moments `m` and `v`, the corrections divided by. -/
def delta (w m v g : EReal) : EReal :=
  Ideal.ofBits .f32 0xBA83126F#32 * (Ideal.div (Ideal.div (moment m g) (Ideal.ofBits .f32 0x3F26BD02#32))
    (Ideal.sqrt (Ideal.div (square v g) (Ideal.ofBits .f32 0x3C231ACC#32)) + Ideal.ofBits .f32 0x322BCC77#32) + Ideal.ofBits .f32 0x3C23D70A#32 * w)

/-- The update with the corrections multiplied by, as the kernel does. -/
def scaled (c1 c2 w m v g : EReal) : EReal :=
  Ideal.ofBits .f32 0xBA83126F#32 * (Ideal.div (moment m g * c1) (Ideal.sqrt (square v g * c2) + Ideal.ofBits .f32 0x322BCC77#32) + Ideal.ofBits .f32 0x3C23D70A#32 * w)

/-- The first correction. -/
theorem correction1 (x : EReal) : x * ((8388608 / 5463681 : ℝ) : EReal) = Ideal.div x (Ideal.ofBits .f32 0x3F26BD02#32) := by
  have h : Ideal.ofBits .f32 0x3F26BD02#32 = ((5463681 / 8388608 : ℝ) : EReal) := by
    simp [Ideal.ofBits, Ideal.ieee, -EReal.coe_mul]
    norm_num
  rw [h, Ideal.div_coe (by norm_num)]
  norm_num

/-- The second correction. -/
theorem correction2 (x : EReal) : x * ((268435456 / 2672307 : ℝ) : EReal) = Ideal.div x (Ideal.ofBits .f32 0x3C231ACC#32) := by
  have h : Ideal.ofBits .f32 0x3C231ACC#32 = ((2672307 / 268435456 : ℝ) : EReal) := by
    simp [Ideal.ofBits, Ideal.ieee, -EReal.coe_mul]
    norm_num
  rw [h, Ideal.div_coe (by norm_num)]
  norm_num

/-- Multiplying by the reciprocals is dividing. -/
theorem scaled_eq (w m v g : EReal) : scaled ((8388608 / 5463681 : ℝ) : EReal) ((268435456 / 2672307 : ℝ) : EReal) w m v g = delta w m v g := by
  rw [scaled, delta, correction1, correction2]

/-- The zero with which arrays are padded. -/
theorem pad_zero : FloatOps.sitofp (F := Ideal) .f32 (0#32) = (0 : EReal) := by
  simp [FloatOps.sitofp]

/-- A padding entry's first moment stays zero. -/
theorem moment_zero : moment 0 0 = 0 := by simp [moment]

/-- A padding entry's second moment stays zero. -/
theorem square_zero : square 0 0 = 0 := by simp [square]

/-- A padding entry's update is zero. -/
theorem delta_zero : delta 0 0 0 0 = 0 := by
  rw [← scaled_eq, scaled, moment_zero, square_zero]
  have h : Ideal.sqrt 0 = 0 := by
    rw [← EReal.coe_zero, Ideal.sqrt_coe]
    simp
  have e : Ideal.ofBits .f32 0x322BCC77#32 = ((11258999 / 2 ^ 50 : ℝ) : EReal) := by
    simp [Ideal.ofBits, Ideal.ieee, -EReal.coe_mul]
    norm_num
  rw [zero_mul, zero_mul, h, e, zero_add, Ideal.div_coe (by norm_num), zero_mul, mul_zero, add_zero, mul_zero]

/-- The column of entry `k` of row `a`, in an array of 128 columns read along its rows. -/
theorem column (a : Nat) (k : Fin 128) : (a * 128 + k.val) % 128 = k.val := by omega

/-- The row of that entry in blocks of 128 rows: which block. -/
theorem row_div (a : Nat) (k : Fin 128) : (a * 128 + k.val) / 16384 = a / 128 := by omega

/-- And which row of the block. -/
theorem row_mod (a : Nat) (k : Fin 128) : (a * 128 + k.val) / 128 % 128 = a % 128 := by omega

/-- Such an array read in rows of 64: the row. -/
theorem part64 (a : Nat) (k : Fin 128) : (a * 128 + k.val) / 64 = a * 2 + k.val / 64 := by omega
/-- And the column. -/
theorem part64_mod (a : Nat) (k : Fin 128) : (a * 128 + k.val) % 64 = k.val % 64 := by omega

/-- Read in rows of 16, 64 of them to a block: the row of the block. -/
theorem part16 (a : Nat) (k : Fin 128) : (a * 128 + k.val) / 16 % 64 = a % 8 * 8 + k.val / 16 := by omega
/-- The column. -/
theorem part16_mod (a : Nat) (k : Fin 128) : (a * 128 + k.val) % 16 = k.val % 16 := by omega
/-- The block. -/
theorem part1024 (a : Nat) (k : Fin 128) : (a * 128 + k.val) / 1024 = a / 8 := by omega

/-- Read in rows of 64, 16 of them to a block. -/
theorem part64_16 (a : Nat) (k : Fin 128) : (a * 2 + k.val / 64) % 16 = a % 8 * 2 + k.val / 64 := by omega

end Cert.AdamW
-- ==== Proof.FirstWeightStep.lean ====
/- The optimiser's step of the MLPs' first weights: what the kernel leaves is the gradient summed over the devices, the update and the new moments that the reference computes. -/
module

public import proofs.«01_k».proof.Proof.Gen.Kernel15Ideal.Value
public import proofs.«01_k».proof.Proof.Gen.Reference15Ideal.Read
public import Idealize.ShloMosaic.Lib.Pipeline.ValueKit
public import Idealize.ShloMosaic.Lib.Pointwise
public import Idealize.ShloMosaic.Lib.Claim
public import proofs.«01_k».proof.Defs
public import proofs.«01_k».proof.Proof.AdamW

@[expose] public section

set_option maxRecDepth 16384

noncomputable section

open Idealize.ShloMosaic Idealize.ShloMosaic.TcCoe Idealize.SL.Sem
open Idealize.ShloMosaic.Pipeline (Dat)
open scoped BigOperators

namespace Cert.FirstWeightStep

open Cert.Kernel15Ideal Cert.Kernel15Ideal.Gen
open Cert.Reference15Ideal.Read

/-! ## What the body computes from a block -/

/-- The two named constants' values. -/
theorem constants : Named.named (F := Ideal) Cert.Kernel15Ideal.κ "c1" (φ := .f32) 0x3FC48605#32 = ((8388608 / 5463681 : ℝ) : EReal)
    ∧ Named.named (F := Ideal) Cert.Kernel15Ideal.κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- The results of the body at an entry, from the gradient `g` there: the gradient, the update and the new moments. -/
theorem step_apply (g : FVec Ideal S256x512 .f32) (w p v : Vec Ideal S1x256x512 .f32) (r : Fin 256) (k : Fin 512) :
    k0_pay9 (F := Ideal) g (ix3 0 r k) = g (ix2 r k)
    ∧ k0_pay1 (F := Ideal) (k0_pay12 g (k0_pay6 p) v) (k0_pay13 w) (ix3 0 r k) = AdamW.delta (w (ix3 0 r k)) (p (ix3 0 r k)) (v (ix3 0 r k)) (g (ix2 r k))
    ∧ k0_pay10 (F := Ideal) g (k0_pay6 p) (ix3 0 r k) = AdamW.moment (p (ix3 0 r k)) (g (ix2 r k))
    ∧ k0_pay11 (F := Ideal) g v (ix3 0 r k) = AdamW.square (v (ix3 0 r k)) (g (ix2 r k)) := by
  rw [← AdamW.scaled_eq, ← constants.1, ← constants.2]
  refine ⟨?_, ?_, ?_, ?_⟩ <;> pointwise [k0_pay1, k0_pay5, k0_pay6, k0_pay7, k0_pay8, k0_pay9, k0_pay10, k0_pay11, k0_pay12, k0_pay13, AdamW.moment, AdamW.square, AdamW.scaled]

/-- The gradient that the body sums from the block of the 8 parts. -/
theorem sum_apply (x : Vec Ideal S8x256x512 .bf16) (i0 : ∀ a, (![0, 0, 0] : Fin 3 → Nat) a + (![1, 256, 512] : Fin 3 → Nat) a ≤ S8x256x512.size a) (i1 : ∀ a, (![1, 0, 0] : Fin 3 → Nat) a + (![1, 256, 512] : Fin 3 → Nat) a ≤ S8x256x512.size a) (i2 : ∀ a, (![2, 0, 0] : Fin 3 → Nat) a + (![1, 256, 512] : Fin 3 → Nat) a ≤ S8x256x512.size a) (i3 : ∀ a, (![3, 0, 0] : Fin 3 → Nat) a + (![1, 256, 512] : Fin 3 → Nat) a ≤ S8x256x512.size a) (i4 : ∀ a, (![4, 0, 0] : Fin 3 → Nat) a + (![1, 256, 512] : Fin 3 → Nat) a ≤ S8x256x512.size a) (i5 : ∀ a, (![5, 0, 0] : Fin 3 → Nat) a + (![1, 256, 512] : Fin 3 → Nat) a ≤ S8x256x512.size a) (i6 : ∀ a, (![6, 0, 0] : Fin 3 → Nat) a + (![1, 256, 512] : Fin 3 → Nat) a ≤ S8x256x512.size a) (i7 : ∀ a, (![7, 0, 0] : Fin 3 → Nat) a + (![1, 256, 512] : Fin 3 → Nat) a ≤ S8x256x512.size a) (r : Fin 256) (k : Fin 512) :
    k0_pay5 (F := Ideal) (View.ld x (Rect.unit ![0, 0, 0] ![1, 256, 512] i0)) (View.ld x (Rect.unit ![1, 0, 0] ![1, 256, 512] i1)) (View.ld x (Rect.unit ![2, 0, 0] ![1, 256, 512] i2)) (View.ld x (Rect.unit ![3, 0, 0] ![1, 256, 512] i3)) (View.ld x (Rect.unit ![4, 0, 0] ![1, 256, 512] i4)) (View.ld x (Rect.unit ![5, 0, 0] ![1, 256, 512] i5)) (View.ld x (Rect.unit ![6, 0, 0] ![1, 256, 512] i6)) (View.ld x (Rect.unit ![7, 0, 0] ![1, 256, 512] i7)) (ix2 r k) = ∑ q : Fin 8, x (ix3 q r k) := by
  have h : ∀ (s : Nat) (hs : s < 8) (i : ∀ a, (![s, 0, 0] : Fin 3 → Nat) a + (![1, 256, 512] : Fin 3 → Nat) a ≤ S8x256x512.size a),
      (View.ld x (Rect.unit ![s, 0, 0] ![1, 256, 512] i)) (ix3 0 r k) = x (ix3 ⟨s, hs⟩ r k) := fun s hs i =>
    View.ld_unit_apply_of _ _ _ _ _ _ (fun a => by fin_cases a <;> simp [ix3])
  have e : ∀ (v0 v1 v2 v3 v4 v5 v6 v7 : Vec Ideal S1x256x512 .bf16), k0_pay5 (F := Ideal) v0 v1 v2 v3 v4 v5 v6 v7 (ix2 r k) = v0 (ix3 0 r k) + v1 (ix3 0 r k) + v2 (ix3 0 r k) + v3 (ix3 0 r k) + v4 (ix3 0 r k) + v5 (ix3 0 r k) + v6 (ix3 0 r k) + v7 (ix3 0 r k) := by
    intros
    pointwise [k0_pay5]
  rw [e, Fin.sum_univ_eight, h 0 (by norm_num), h 1 (by norm_num), h 2 (by norm_num), h 3 (by norm_num), h 4 (by norm_num), h 5 (by norm_num), h 6 (by norm_num), h 7 (by norm_num)]
  rfl

/-- The reference's gradient of each layer. -/
theorem gradient (X0 X1 X2 : (⟨S4x1024x512, .f32⟩ : BufTy).Contents (Elt Ideal)) (X3 X4 X5 X6 : (⟨S8x1024x512, .bf16⟩ : BufTy).Contents (Elt Ideal)) (r : Fin 1024) (k : Fin 512) :
    val_main_v12 (F := Ideal) X3 X4 X5 X6 (ix3 0 r k) = ∑ q : Fin 8, X3 (ix3 q r k)
    ∧ val_main_v12 (F := Ideal) X3 X4 X5 X6 (ix3 1 r k) = ∑ q : Fin 8, X4 (ix3 q r k)
    ∧ val_main_v12 (F := Ideal) X3 X4 X5 X6 (ix3 2 r k) = ∑ q : Fin 8, X5 (ix3 q r k)
    ∧ val_main_v12 (F := Ideal) X3 X4 X5 X6 (ix3 3 r k) = ∑ q : Fin 8, X6 (ix3 q r k) := by
  refine ⟨?_, ?_, ?_, ?_⟩ <;> pointwise [val_main_v0, val_main_cst, val_main_v1, val_main_v2, val_main_cst_0, val_main_v3, val_main_v4, val_main_cst_1, val_main_v5, val_main_v6, val_main_cst_2, val_main_v7, val_main_v8, val_main_v9, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_cst_8, val_main_v26, val_main_v27, val_main_v28, val_main_cst_9, val_main_v29, val_main_v30, val_main_v31, val_main_cst_10, val_main_v32, val_main_v33, val_main_v34, val_main_cst_11, val_main_v35, val_main_v36]

/-- The reference's other results at an entry. -/
theorem step (X0 X1 X2 : (⟨S4x1024x512, .f32⟩ : BufTy).Contents (Elt Ideal)) (X3 X4 X5 X6 : (⟨S8x1024x512, .bf16⟩ : BufTy).Contents (Elt Ideal)) (l : Fin 4) (r : Fin 1024) (k : Fin 512) :
    val_main_v36 (F := Ideal) X0 X1 X2 X3 X4 X5 X6 (ix3 l r k) = AdamW.delta (X0 (ix3 l r k)) (X1 (ix3 l r k)) (X2 (ix3 l r k)) (val_main_v12 (F := Ideal) X3 X4 X5 X6 (ix3 l r k))
    ∧ val_main_v17 (F := Ideal) X1 X3 X4 X5 X6 (ix3 l r k) = AdamW.moment (X1 (ix3 l r k)) (val_main_v12 (F := Ideal) X3 X4 X5 X6 (ix3 l r k))
    ∧ val_main_v23 (F := Ideal) X2 X3 X4 X5 X6 (ix3 l r k) = AdamW.square (X2 (ix3 l r k)) (val_main_v12 (F := Ideal) X3 X4 X5 X6 (ix3 l r k)) := by
  refine ⟨?_, ?_, ?_⟩ <;> pointwise [val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_cst_8, val_main_v26, val_main_v27, val_main_v28, val_main_cst_9, val_main_v29, val_main_v30, val_main_v31, val_main_cst_10, val_main_v32, val_main_v33, val_main_v34, val_main_cst_11, val_main_v35, val_main_v36, AdamW.moment, AdamW.square, AdamW.delta]

/-! ## The blocks -/

variable (m : (ℓ : Loc nD τ sig) → Buf (Elt Ideal) ℓ)

/-- Which block of each array grid point `t` works on: layer `t / 4`, row block `t % 4`; of a layer's parts, the same rows while it is that layer's turn. -/
theorem blocks : ∀ t : Fin cfg0.N, win0_0.index t = ![t.val / 4, t.val % 4, 0] ∧ win0_1.index t = ![t.val / 4, t.val % 4, 0] ∧ win0_2.index t = ![t.val / 4, t.val % 4, 0] ∧ win0_7.index t = ![t.val / 4, t.val % 4, 0] ∧ win0_8.index t = ![t.val / 4, t.val % 4, 0] ∧ win0_9.index t = ![t.val / 4, t.val % 4, 0] ∧ win0_10.index t = ![t.val / 4, t.val % 4, 0]
    ∧ (t.val / 4 = 0 → win0_3.index t = ![0, t.val % 4, 0]) ∧ (t.val / 4 = 1 → win0_4.index t = ![0, t.val % 4, 0]) ∧ (t.val / 4 = 2 → win0_5.index t = ![0, t.val % 4, 0]) ∧ (t.val / 4 = 3 → win0_6.index t = ![0, t.val % 4, 0]) :=
  (by decide +kernel : ∀ t : Fin grid0.N, _)

/-- The layer that block `t` belongs to. -/
def lay (t : Fin cfg0.N) : Fin 4 := ⟨t.val / 4, by have := lt_of_lt_of_eq t.isLt N_0; omega⟩

/-- The row of the arrays that row `r` of block `t` is. -/
def row (t : Fin cfg0.N) (r : Fin 256) : Fin 1024 := ⟨t.val % 4 * 256 + r.val, by have := lt_of_lt_of_eq t.isLt N_0; have := r.isLt; omega⟩

/-- A block of the weight and of the moments. -/
theorem read (c : Dev nD) (t : Fin cfg0.N) (r : Fin 256) (k : Fin 512) :
    (show Vec Ideal S1x256x512 .f32 from iblk m c 0 t) (ix3 0 r k) = (m (c.tc.loc main_arg0)) (ix3 (lay t) (row t r) k)
    ∧ (show Vec Ideal S1x256x512 .f32 from iblk m c 1 t) (ix3 0 r k) = (m (c.tc.loc main_arg1)) (ix3 (lay t) (row t r) k)
    ∧ (show Vec Ideal S1x256x512 .f32 from iblk m c 2 t) (ix3 0 r k) = (m (c.tc.loc main_arg2)) (ix3 (lay t) (row t r) k) := by
  refine ⟨?_, ?_, ?_⟩ <;> blk_point [iblk, V, blocks t, lay, row]

/-- A block of the parts of the layer whose turn it is. -/
theorem read_parts (c : Dev nD) (t : Fin cfg0.N) (q : Fin 8) (r : Fin 256) (k : Fin 512) :
    (t.val / 4 = 0 → (show Vec Ideal S8x256x512 .bf16 from iblk m c 3 t) (ix3 q r k) = (m (c.tc.loc main_arg3)) (ix3 q (row t r) k))
    ∧ (t.val / 4 = 1 → (show Vec Ideal S8x256x512 .bf16 from iblk m c 4 t) (ix3 q r k) = (m (c.tc.loc main_arg4)) (ix3 q (row t r) k))
    ∧ (t.val / 4 = 2 → (show Vec Ideal S8x256x512 .bf16 from iblk m c 5 t) (ix3 q r k) = (m (c.tc.loc main_arg5)) (ix3 q (row t r) k))
    ∧ (t.val / 4 = 3 → (show Vec Ideal S8x256x512 .bf16 from iblk m c 6 t) (ix3 q r k) = (m (c.tc.loc main_arg6)) (ix3 q (row t r) k)) := by
  refine ⟨fun h => ?_, fun h => ?_, fun h => ?_, fun h => ?_⟩ <;> blk_point [iblk, V, blocks t, h, row]

/-- What the body leaves at an entry, from parts whose sum is the reference's gradient there: the reference's results. -/
theorem entry (c : Dev nD) (t : Fin cfg0.N) (r : Fin 256) (k : Fin 512) (x : Vec Ideal S8x256x512 .bf16) (i0 : ∀ a, (![0, 0, 0] : Fin 3 → Nat) a + (![1, 256, 512] : Fin 3 → Nat) a ≤ S8x256x512.size a) (i1 : ∀ a, (![1, 0, 0] : Fin 3 → Nat) a + (![1, 256, 512] : Fin 3 → Nat) a ≤ S8x256x512.size a) (i2 : ∀ a, (![2, 0, 0] : Fin 3 → Nat) a + (![1, 256, 512] : Fin 3 → Nat) a ≤ S8x256x512.size a) (i3 : ∀ a, (![3, 0, 0] : Fin 3 → Nat) a + (![1, 256, 512] : Fin 3 → Nat) a ≤ S8x256x512.size a) (i4 : ∀ a, (![4, 0, 0] : Fin 3 → Nat) a + (![1, 256, 512] : Fin 3 → Nat) a ≤ S8x256x512.size a) (i5 : ∀ a, (![5, 0, 0] : Fin 3 → Nat) a + (![1, 256, 512] : Fin 3 → Nat) a ≤ S8x256x512.size a) (i6 : ∀ a, (![6, 0, 0] : Fin 3 → Nat) a + (![1, 256, 512] : Fin 3 → Nat) a ≤ S8x256x512.size a) (i7 : ∀ a, (![7, 0, 0] : Fin 3 → Nat) a + (![1, 256, 512] : Fin 3 → Nat) a ≤ S8x256x512.size a)
    (hx : ∑ q : Fin 8, x (ix3 q r k) = val_main_v12 (F := Ideal) (m (c.tc.loc main_arg3)) (m (c.tc.loc main_arg4)) (m (c.tc.loc main_arg5)) (m (c.tc.loc main_arg6)) (ix3 (lay t) (row t r) k)) :
    k0_pay9 (F := Ideal) (k0_pay5 (View.ld x (Rect.unit ![0, 0, 0] ![1, 256, 512] i0)) (View.ld x (Rect.unit ![1, 0, 0] ![1, 256, 512] i1)) (View.ld x (Rect.unit ![2, 0, 0] ![1, 256, 512] i2)) (View.ld x (Rect.unit ![3, 0, 0] ![1, 256, 512] i3)) (View.ld x (Rect.unit ![4, 0, 0] ![1, 256, 512] i4)) (View.ld x (Rect.unit ![5, 0, 0] ![1, 256, 512] i5)) (View.ld x (Rect.unit ![6, 0, 0] ![1, 256, 512] i6)) (View.ld x (Rect.unit ![7, 0, 0] ![1, 256, 512] i7))) (ix3 0 r k) = val_main_v12 (F := Ideal) (m (c.tc.loc main_arg3)) (m (c.tc.loc main_arg4)) (m (c.tc.loc main_arg5)) (m (c.tc.loc main_arg6)) (ix3 (lay t) (row t r) k)
    ∧ k0_pay1 (F := Ideal) (k0_pay12 (k0_pay5 (View.ld x (Rect.unit ![0, 0, 0] ![1, 256, 512] i0)) (View.ld x (Rect.unit ![1, 0, 0] ![1, 256, 512] i1)) (View.ld x (Rect.unit ![2, 0, 0] ![1, 256, 512] i2)) (View.ld x (Rect.unit ![3, 0, 0] ![1, 256, 512] i3)) (View.ld x (Rect.unit ![4, 0, 0] ![1, 256, 512] i4)) (View.ld x (Rect.unit ![5, 0, 0] ![1, 256, 512] i5)) (View.ld x (Rect.unit ![6, 0, 0] ![1, 256, 512] i6)) (View.ld x (Rect.unit ![7, 0, 0] ![1, 256, 512] i7))) (k0_pay6 (iblk m c 1 t)) (iblk m c 2 t)) (k0_pay13 (iblk m c 0 t)) (ix3 0 r k) = val_main_v36 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix3 (lay t) (row t r) k)
    ∧ k0_pay10 (F := Ideal) (k0_pay5 (View.ld x (Rect.unit ![0, 0, 0] ![1, 256, 512] i0)) (View.ld x (Rect.unit ![1, 0, 0] ![1, 256, 512] i1)) (View.ld x (Rect.unit ![2, 0, 0] ![1, 256, 512] i2)) (View.ld x (Rect.unit ![3, 0, 0] ![1, 256, 512] i3)) (View.ld x (Rect.unit ![4, 0, 0] ![1, 256, 512] i4)) (View.ld x (Rect.unit ![5, 0, 0] ![1, 256, 512] i5)) (View.ld x (Rect.unit ![6, 0, 0] ![1, 256, 512] i6)) (View.ld x (Rect.unit ![7, 0, 0] ![1, 256, 512] i7))) (k0_pay6 (iblk m c 1 t)) (ix3 0 r k) = val_main_v17 (F := Ideal) (m (c.tc.loc main_arg1)) (m (c.tc.loc main_arg3)) (m (c.tc.loc main_arg4)) (m (c.tc.loc main_arg5)) (m (c.tc.loc main_arg6)) (ix3 (lay t) (row t r) k)
    ∧ k0_pay11 (F := Ideal) (k0_pay5 (View.ld x (Rect.unit ![0, 0, 0] ![1, 256, 512] i0)) (View.ld x (Rect.unit ![1, 0, 0] ![1, 256, 512] i1)) (View.ld x (Rect.unit ![2, 0, 0] ![1, 256, 512] i2)) (View.ld x (Rect.unit ![3, 0, 0] ![1, 256, 512] i3)) (View.ld x (Rect.unit ![4, 0, 0] ![1, 256, 512] i4)) (View.ld x (Rect.unit ![5, 0, 0] ![1, 256, 512] i5)) (View.ld x (Rect.unit ![6, 0, 0] ![1, 256, 512] i6)) (View.ld x (Rect.unit ![7, 0, 0] ![1, 256, 512] i7))) (iblk m c 2 t) (ix3 0 r k) = val_main_v23 (F := Ideal) (m (c.tc.loc main_arg2)) (m (c.tc.loc main_arg3)) (m (c.tc.loc main_arg4)) (m (c.tc.loc main_arg5)) (m (c.tc.loc main_arg6)) (ix3 (lay t) (row t r) k) := by
  obtain ⟨a0, a1, a2, a3⟩ := step_apply (k0_pay5 (View.ld x (Rect.unit ![0, 0, 0] ![1, 256, 512] i0)) (View.ld x (Rect.unit ![1, 0, 0] ![1, 256, 512] i1)) (View.ld x (Rect.unit ![2, 0, 0] ![1, 256, 512] i2)) (View.ld x (Rect.unit ![3, 0, 0] ![1, 256, 512] i3)) (View.ld x (Rect.unit ![4, 0, 0] ![1, 256, 512] i4)) (View.ld x (Rect.unit ![5, 0, 0] ![1, 256, 512] i5)) (View.ld x (Rect.unit ![6, 0, 0] ![1, 256, 512] i6)) (View.ld x (Rect.unit ![7, 0, 0] ![1, 256, 512] i7))) (iblk m c 0 t) (iblk m c 1 t) (iblk m c 2 t) r k
  obtain ⟨b1, b2, b3⟩ := step (m (c.tc.loc main_arg0)) (m (c.tc.loc main_arg1)) (m (c.tc.loc main_arg2)) (m (c.tc.loc main_arg3)) (m (c.tc.loc main_arg4)) (m (c.tc.loc main_arg5)) (m (c.tc.loc main_arg6)) (lay t) (row t r) k
  obtain ⟨w, p, v⟩ := read m c t r k
  dsimp only at w p v
  rw [sum_apply x i0 i1 i2 i3 i4 i5 i6 i7 r k, hx] at a0 a1 a2 a3
  exact ⟨a0, a1.trans (Eq.trans (by rw [w, p, v]) b1.symm), a2.trans (Eq.trans (by rw [p]) b2.symm), a3.trans (Eq.trans (by rw [v]) b3.symm)⟩

/-- What a grid point leaves in the four results' blocks is the reference's. -/
theorem block (c : Dev nD) (t : Fin cfg0.N) (z : Fin 1) (r : Fin 256) (k : Fin 512) :
    (outsAt0 m c t.val t.isLt).1 (ix3 z r k) = val_main_v12 (F := Ideal) (m (c.tc.loc main_arg3)) (m (c.tc.loc main_arg4)) (m (c.tc.loc main_arg5)) (m (c.tc.loc main_arg6)) (ix3 (lay t) (row t r) k)
    ∧ (outsAt0 m c t.val t.isLt).2.1 (ix3 z r k) = val_main_v36 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix3 (lay t) (row t r) k)
    ∧ (outsAt0 m c t.val t.isLt).2.2.1 (ix3 z r k) = val_main_v17 (F := Ideal) (m (c.tc.loc main_arg1)) (m (c.tc.loc main_arg3)) (m (c.tc.loc main_arg4)) (m (c.tc.loc main_arg5)) (m (c.tc.loc main_arg6)) (ix3 (lay t) (row t r) k)
    ∧ (outsAt0 m c t.val t.isLt).2.2.2 (ix3 z r k) = val_main_v23 (F := Ideal) (m (c.tc.loc main_arg2)) (m (c.tc.loc main_arg3)) (m (c.tc.loc main_arg4)) (m (c.tc.loc main_arg5)) (m (c.tc.loc main_arg6)) (ix3 (lay t) (row t r) k) := by
  obtain rfl : z = 0 := Fin.fin_one_eq_zero z
  have hN := lt_of_lt_of_eq t.isLt N_0
  have hp := fun q => read_parts m c t q r k
  have hg := gradient (m (c.tc.loc main_arg0)) (m (c.tc.loc main_arg1)) (m (c.tc.loc main_arg2)) (m (c.tc.loc main_arg3)) (m (c.tc.loc main_arg4)) (m (c.tc.loc main_arg5)) (m (c.tc.loc main_arg6)) (row t r) k
  have ht : t.val / 4 = 0 ∨ t.val / 4 = 1 ∨ t.val / 4 = 2 ∨ t.val / 4 = 3 := by omega
  rcases ht with ht | ht | ht | ht
  · have hl : lay t = 0 := Fin.ext ht
    rw [outsAt0_A m c t (by omega) (by omega) (by omega) (by omega)]
    have he := entry m c t r k (iblk m c 3 t) inb_S8x256x512_S1x256x512_0_0_0 inb_S8x256x512_S1x256x512_1_0_0 inb_S8x256x512_S1x256x512_2_0_0 inb_S8x256x512_S1x256x512_3_0_0 inb_S8x256x512_S1x256x512_4_0_0 inb_S8x256x512_S1x256x512_5_0_0 inb_S8x256x512_S1x256x512_6_0_0 inb_S8x256x512_S1x256x512_7_0_0 (Eq.trans (Finset.sum_congr rfl fun q _ => (hp q).1 ht) (Eq.trans (hg.1).symm (by rw [hl])))
    refine ⟨?_, ?_, ?_, ?_⟩ <;> frame_out
    exacts [he.1, he.2.1, he.2.2.1, he.2.2.2]
  · have hl : lay t = 1 := Fin.ext ht
    rw [outsAt0_B m c t (by omega) (by omega) (by omega) (by omega)]
    have he := entry m c t r k (iblk m c 4 t) inb_S8x256x512_S1x256x512_0_0_0 inb_S8x256x512_S1x256x512_1_0_0 inb_S8x256x512_S1x256x512_2_0_0 inb_S8x256x512_S1x256x512_3_0_0 inb_S8x256x512_S1x256x512_4_0_0 inb_S8x256x512_S1x256x512_5_0_0 inb_S8x256x512_S1x256x512_6_0_0 inb_S8x256x512_S1x256x512_7_0_0 (Eq.trans (Finset.sum_congr rfl fun q _ => (hp q).2.1 ht) (Eq.trans (hg.2.1).symm (by rw [hl])))
    refine ⟨?_, ?_, ?_, ?_⟩ <;> frame_out
    exacts [he.1, he.2.1, he.2.2.1, he.2.2.2]
  · have hl : lay t = 2 := Fin.ext ht
    rw [outsAt0_C m c t (by omega) (by omega) (by omega) (by omega)]
    have he := entry m c t r k (iblk m c 5 t) inb_S8x256x512_S1x256x512_0_0_0 inb_S8x256x512_S1x256x512_1_0_0 inb_S8x256x512_S1x256x512_2_0_0 inb_S8x256x512_S1x256x512_3_0_0 inb_S8x256x512_S1x256x512_4_0_0 inb_S8x256x512_S1x256x512_5_0_0 inb_S8x256x512_S1x256x512_6_0_0 inb_S8x256x512_S1x256x512_7_0_0 (Eq.trans (Finset.sum_congr rfl fun q _ => (hp q).2.2.1 ht) (Eq.trans (hg.2.2.1).symm (by rw [hl])))
    refine ⟨?_, ?_, ?_, ?_⟩ <;> frame_out
    exacts [he.1, he.2.1, he.2.2.1, he.2.2.2]
  · have hl : lay t = 3 := Fin.ext ht
    rw [outsAt0_D m c t (by omega) (by omega) (by omega) (by omega)]
    have he := entry m c t r k (iblk m c 6 t) inb_S8x256x512_S1x256x512_0_0_0 inb_S8x256x512_S1x256x512_1_0_0 inb_S8x256x512_S1x256x512_2_0_0 inb_S8x256x512_S1x256x512_3_0_0 inb_S8x256x512_S1x256x512_4_0_0 inb_S8x256x512_S1x256x512_5_0_0 inb_S8x256x512_S1x256x512_6_0_0 inb_S8x256x512_S1x256x512_7_0_0 (Eq.trans (Finset.sum_congr rfl fun q _ => (hp q).2.2.2 ht) (Eq.trans (hg.2.2.2).symm (by rw [hl])))
    refine ⟨?_, ?_, ?_, ?_⟩ <;> frame_out
    exacts [he.1, he.2.1, he.2.2.1, he.2.2.2]

/-! ## The results -/

/-- The gradients are the reference's. -/
theorem result0 (c : Dev nD) : (dats m 0 c).arrAt 7 (cfgs 0).N = val_main_v12 (F := Ideal) (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after0_7]
  have e : ∀ (z : Fin 1) (r : Fin 256) (k : Fin 512), ((View.whole main_v0_0).slice (win0_7.rect t)).emb (ix3 z r k) = ix3 (lay t) (row t r) k := fun z r k => by blk_ext [blocks t, lay, row]
  idx_vars y
  rw [e]
  exact (block m c t _ _ _).1

/-- The updates are the reference's. -/
theorem result1 (c : Dev nD) : (dats m 0 c).arrAt 8 (cfgs 0).N = val_main_v36 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after0_8]
  have e : ∀ (z : Fin 1) (r : Fin 256) (k : Fin 512), ((View.whole main_v0_1).slice (win0_8.rect t)).emb (ix3 z r k) = ix3 (lay t) (row t r) k := fun z r k => by blk_ext [blocks t, lay, row]
  idx_vars y
  rw [e]
  exact (block m c t _ _ _).2.1

/-- The new first moments are the reference's. -/
theorem result2 (c : Dev nD) : (dats m 0 c).arrAt 9 (cfgs 0).N = val_main_v17 (F := Ideal) (m (c.tc.loc main_arg1)) (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after0_9]
  have e : ∀ (z : Fin 1) (r : Fin 256) (k : Fin 512), ((View.whole main_v0_2).slice (win0_9.rect t)).emb (ix3 z r k) = ix3 (lay t) (row t r) k := fun z r k => by blk_ext [blocks t, lay, row]
  idx_vars y
  rw [e]
  exact (block m c t _ _ _).2.2.1

/-- The new second moments are the reference's. -/
theorem result3 (c : Dev nD) : (dats m 0 c).arrAt 10 (cfgs 0).N = val_main_v23 (F := Ideal) (m (c.tc.loc main_arg2)) (m (c.tc.loc main_arg3)) (m (c.tc.loc main_arg4)) (m (c.tc.loc main_arg5)) (m (c.tc.loc main_arg6)) := by
  refine (dats m 0 c).arrAt_eq_of_covers 10 _ (by decide +kernel) fun t hf y => ?_
  blk_simp
  rw [after0_10]
  have e : ∀ (z : Fin 1) (r : Fin 256) (k : Fin 512), ((View.whole main_v0_3).slice (win0_10.rect t)).emb (ix3 z r k) = ix3 (lay t) (row t r) k := fun z r k => by blk_ext [blocks t, lay, row]
  idx_vars y
  rw [e]
  exact (block m c t _ _ _).2.2.2

/-! ## The claims -/

/-- The two constants that the idealised kernel names are the ones the kernel holds. -/
theorem preserves : Cert.preserves_Kernel15_Kernel15Ideal :=
  ⟨IdealRules.named_const.statement Cert.Kernel15Ideal.κ "c1" .f32 0x3FC48605#32 ((8388608 / 5463681 : ℝ) : EReal) rfl, IdealRules.named_const.statement Cert.Kernel15Ideal.κ "c2" .f32 0x42C8E6D3#32 ((268435456 / 2672307 : ℝ) : EReal) rfl⟩

set_option maxHeartbeats 1600000 in
/-- On the extended reals, the kernel and the reference compute the same gradients, updates and moments. -/
theorem algebraic : Cert.algebraic_Kernel15Ideal_Reference15Ideal := by
  pair_intro
  · run_from Cert.Kernel15Ideal.Gen.run_main m g
  · run_from Cert.Reference15Ideal.Value.run m' g'
    · obtain ⟨a0, a1, a2, a3, a4, a5, a6⟩ := hagree c
      exact (Eq.trans (val_main_v12_eq _ _ _ _) (by simp only [a3, a4, a5, a6])).trans (result0 m c).symm
    · obtain ⟨a0, a1, a2, a3, a4, a5, a6⟩ := hagree c
      rw [val_main_v36_eq, a0, a1, a2, a3, a4, a5, a6]
      exact (result1 m c).symm
    · obtain ⟨a0, a1, a2, a3, a4, a5, a6⟩ := hagree c
      exact (Eq.trans (val_main_v17_eq _ _ _ _ _) (by simp only [a1, a3, a4, a5, a6])).trans (result2 m c).symm
    · obtain ⟨a0, a1, a2, a3, a4, a5, a6⟩ := hagree c
      exact (Eq.trans (val_main_v23_eq _ _ _ _ _) (by simp only [a2, a3, a4, a5, a6])).trans (result3 m c).symm
-- ==== Proof.SecondWeightStep.lean ====
/- The optimiser's step of the MLPs' second weights: what the kernel leaves is the gradient summed over the devices, the update and the new moments that the reference computes. -/
module

public import proofs.«01_k».proof.Proof.Gen.Kernel16Ideal.Value
public import proofs.«01_k».proof.Proof.Gen.Reference16Ideal.Read
public import Idealize.ShloMosaic.Lib.Pipeline.ValueKit
public import Idealize.ShloMosaic.Lib.Pointwise
public import Idealize.ShloMosaic.Lib.Claim
public import proofs.«01_k».proof.Defs
public import proofs.«01_k».proof.Proof.AdamW

@[expose] public section

set_option maxRecDepth 16384

noncomputable section

open Idealize.ShloMosaic Idealize.ShloMosaic.TcCoe Idealize.SL.Sem
open Idealize.ShloMosaic.Pipeline (Dat)
open scoped BigOperators

namespace Cert.SecondWeightStep

open Cert.Kernel16Ideal Cert.Kernel16Ideal.Gen
open Cert.Reference16Ideal.Read

/-! ## What the body computes from a block -/

/-- The two named constants' values. -/
theorem constants : Named.named (F := Ideal) Cert.Kernel16Ideal.κ "c1" (φ := .f32) 0x3FC48605#32 = ((8388608 / 5463681 : ℝ) : EReal)
    ∧ Named.named (F := Ideal) Cert.Kernel16Ideal.κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- The results of the body at an entry, from the gradient `g` there: the gradient, the update and the new moments. -/
theorem step_apply (g : FVec Ideal S128x1024 .f32) (w p v : Vec Ideal S1x128x1024 .f32) (r : Fin 128) (k : Fin 1024) :
    k0_pay9 (F := Ideal) g (ix3 0 r k) = g (ix2 r k)
    ∧ k0_pay1 (F := Ideal) (k0_pay12 g (k0_pay6 p) v) (k0_pay13 w) (ix3 0 r k) = AdamW.delta (w (ix3 0 r k)) (p (ix3 0 r k)) (v (ix3 0 r k)) (g (ix2 r k))
    ∧ k0_pay10 (F := Ideal) g (k0_pay6 p) (ix3 0 r k) = AdamW.moment (p (ix3 0 r k)) (g (ix2 r k))
    ∧ k0_pay11 (F := Ideal) g v (ix3 0 r k) = AdamW.square (v (ix3 0 r k)) (g (ix2 r k)) := by
  rw [← AdamW.scaled_eq, ← constants.1, ← constants.2]
  refine ⟨?_, ?_, ?_, ?_⟩ <;> pointwise [k0_pay1, k0_pay5, k0_pay6, k0_pay7, k0_pay8, k0_pay9, k0_pay10, k0_pay11, k0_pay12, k0_pay13, AdamW.moment, AdamW.square, AdamW.scaled]

/-- The gradient that the body sums from the block of the 8 parts. -/
theorem sum_apply (x : Vec Ideal S8x128x1024 .bf16) (i0 : ∀ a, (![0, 0, 0] : Fin 3 → Nat) a + (![1, 128, 1024] : Fin 3 → Nat) a ≤ S8x128x1024.size a) (i1 : ∀ a, (![1, 0, 0] : Fin 3 → Nat) a + (![1, 128, 1024] : Fin 3 → Nat) a ≤ S8x128x1024.size a) (i2 : ∀ a, (![2, 0, 0] : Fin 3 → Nat) a + (![1, 128, 1024] : Fin 3 → Nat) a ≤ S8x128x1024.size a) (i3 : ∀ a, (![3, 0, 0] : Fin 3 → Nat) a + (![1, 128, 1024] : Fin 3 → Nat) a ≤ S8x128x1024.size a) (i4 : ∀ a, (![4, 0, 0] : Fin 3 → Nat) a + (![1, 128, 1024] : Fin 3 → Nat) a ≤ S8x128x1024.size a) (i5 : ∀ a, (![5, 0, 0] : Fin 3 → Nat) a + (![1, 128, 1024] : Fin 3 → Nat) a ≤ S8x128x1024.size a) (i6 : ∀ a, (![6, 0, 0] : Fin 3 → Nat) a + (![1, 128, 1024] : Fin 3 → Nat) a ≤ S8x128x1024.size a) (i7 : ∀ a, (![7, 0, 0] : Fin 3 → Nat) a + (![1, 128, 1024] : Fin 3 → Nat) a ≤ S8x128x1024.size a) (r : Fin 128) (k : Fin 1024) :
    k0_pay5 (F := Ideal) (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7)) (ix2 r k) = ∑ q : Fin 8, x (ix3 q r k) := by
  have h : ∀ (s : Nat) (hs : s < 8) (i : ∀ a, (![s, 0, 0] : Fin 3 → Nat) a + (![1, 128, 1024] : Fin 3 → Nat) a ≤ S8x128x1024.size a),
      (View.ld x (Rect.unit ![s, 0, 0] ![1, 128, 1024] i)) (ix3 0 r k) = x (ix3 ⟨s, hs⟩ r k) := fun s hs i =>
    View.ld_unit_apply_of _ _ _ _ _ _ (fun a => by fin_cases a <;> simp [ix3])
  have e : ∀ (v0 v1 v2 v3 v4 v5 v6 v7 : Vec Ideal S1x128x1024 .bf16), k0_pay5 (F := Ideal) v0 v1 v2 v3 v4 v5 v6 v7 (ix2 r k) = v0 (ix3 0 r k) + v1 (ix3 0 r k) + v2 (ix3 0 r k) + v3 (ix3 0 r k) + v4 (ix3 0 r k) + v5 (ix3 0 r k) + v6 (ix3 0 r k) + v7 (ix3 0 r k) := by
    intros
    pointwise [k0_pay5]
  rw [e, Fin.sum_univ_eight, h 0 (by norm_num), h 1 (by norm_num), h 2 (by norm_num), h 3 (by norm_num), h 4 (by norm_num), h 5 (by norm_num), h 6 (by norm_num), h 7 (by norm_num)]
  rfl

/-- The reference's gradient of each layer. -/
theorem gradient (X0 X1 X2 : (⟨S4x512x1024, .f32⟩ : BufTy).Contents (Elt Ideal)) (X3 X4 X5 X6 : (⟨S8x512x1024, .bf16⟩ : BufTy).Contents (Elt Ideal)) (r : Fin 512) (k : Fin 1024) :
    val_main_v12 (F := Ideal) X3 X4 X5 X6 (ix3 0 r k) = ∑ q : Fin 8, X3 (ix3 q r k)
    ∧ val_main_v12 (F := Ideal) X3 X4 X5 X6 (ix3 1 r k) = ∑ q : Fin 8, X4 (ix3 q r k)
    ∧ val_main_v12 (F := Ideal) X3 X4 X5 X6 (ix3 2 r k) = ∑ q : Fin 8, X5 (ix3 q r k)
    ∧ val_main_v12 (F := Ideal) X3 X4 X5 X6 (ix3 3 r k) = ∑ q : Fin 8, X6 (ix3 q r k) := by
  refine ⟨?_, ?_, ?_, ?_⟩ <;> pointwise [val_main_v0, val_main_cst, val_main_v1, val_main_v2, val_main_cst_0, val_main_v3, val_main_v4, val_main_cst_1, val_main_v5, val_main_v6, val_main_cst_2, val_main_v7, val_main_v8, val_main_v9, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_cst_8, val_main_v26, val_main_v27, val_main_v28, val_main_cst_9, val_main_v29, val_main_v30, val_main_v31, val_main_cst_10, val_main_v32, val_main_v33, val_main_v34, val_main_cst_11, val_main_v35, val_main_v36]

/-- The reference's other results at an entry. -/
theorem step (X0 X1 X2 : (⟨S4x512x1024, .f32⟩ : BufTy).Contents (Elt Ideal)) (X3 X4 X5 X6 : (⟨S8x512x1024, .bf16⟩ : BufTy).Contents (Elt Ideal)) (l : Fin 4) (r : Fin 512) (k : Fin 1024) :
    val_main_v36 (F := Ideal) X0 X1 X2 X3 X4 X5 X6 (ix3 l r k) = AdamW.delta (X0 (ix3 l r k)) (X1 (ix3 l r k)) (X2 (ix3 l r k)) (val_main_v12 (F := Ideal) X3 X4 X5 X6 (ix3 l r k))
    ∧ val_main_v17 (F := Ideal) X1 X3 X4 X5 X6 (ix3 l r k) = AdamW.moment (X1 (ix3 l r k)) (val_main_v12 (F := Ideal) X3 X4 X5 X6 (ix3 l r k))
    ∧ val_main_v23 (F := Ideal) X2 X3 X4 X5 X6 (ix3 l r k) = AdamW.square (X2 (ix3 l r k)) (val_main_v12 (F := Ideal) X3 X4 X5 X6 (ix3 l r k)) := by
  refine ⟨?_, ?_, ?_⟩ <;> pointwise [val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_cst_8, val_main_v26, val_main_v27, val_main_v28, val_main_cst_9, val_main_v29, val_main_v30, val_main_v31, val_main_cst_10, val_main_v32, val_main_v33, val_main_v34, val_main_cst_11, val_main_v35, val_main_v36, AdamW.moment, AdamW.square, AdamW.delta]

/-! ## The blocks -/

variable (m : (ℓ : Loc nD τ sig) → Buf (Elt Ideal) ℓ)

/-- Which block of each array grid point `t` works on: layer `t / 4`, row block `t % 4`; of a layer's parts, the same rows while it is that layer's turn. -/
theorem blocks : ∀ t : Fin cfg0.N, win0_0.index t = ![t.val / 4, t.val % 4, 0] ∧ win0_1.index t = ![t.val / 4, t.val % 4, 0] ∧ win0_2.index t = ![t.val / 4, t.val % 4, 0] ∧ win0_7.index t = ![t.val / 4, t.val % 4, 0] ∧ win0_8.index t = ![t.val / 4, t.val % 4, 0] ∧ win0_9.index t = ![t.val / 4, t.val % 4, 0] ∧ win0_10.index t = ![t.val / 4, t.val % 4, 0]
    ∧ (t.val / 4 = 0 → win0_3.index t = ![0, t.val % 4, 0]) ∧ (t.val / 4 = 1 → win0_4.index t = ![0, t.val % 4, 0]) ∧ (t.val / 4 = 2 → win0_5.index t = ![0, t.val % 4, 0]) ∧ (t.val / 4 = 3 → win0_6.index t = ![0, t.val % 4, 0]) :=
  (by decide +kernel : ∀ t : Fin grid0.N, _)

/-- The layer that block `t` belongs to. -/
def lay (t : Fin cfg0.N) : Fin 4 := ⟨t.val / 4, by have := lt_of_lt_of_eq t.isLt N_0; omega⟩

/-- The row of the arrays that row `r` of block `t` is. -/
def row (t : Fin cfg0.N) (r : Fin 128) : Fin 512 := ⟨t.val % 4 * 128 + r.val, by have := lt_of_lt_of_eq t.isLt N_0; have := r.isLt; omega⟩

/-- A block of the weight and of the moments. -/
theorem read (c : Dev nD) (t : Fin cfg0.N) (r : Fin 128) (k : Fin 1024) :
    (show Vec Ideal S1x128x1024 .f32 from iblk m c 0 t) (ix3 0 r k) = (m (c.tc.loc main_arg0)) (ix3 (lay t) (row t r) k)
    ∧ (show Vec Ideal S1x128x1024 .f32 from iblk m c 1 t) (ix3 0 r k) = (m (c.tc.loc main_arg1)) (ix3 (lay t) (row t r) k)
    ∧ (show Vec Ideal S1x128x1024 .f32 from iblk m c 2 t) (ix3 0 r k) = (m (c.tc.loc main_arg2)) (ix3 (lay t) (row t r) k) := by
  refine ⟨?_, ?_, ?_⟩ <;> blk_point [iblk, V, blocks t, lay, row]

/-- A block of the parts of the layer whose turn it is. -/
theorem read_parts (c : Dev nD) (t : Fin cfg0.N) (q : Fin 8) (r : Fin 128) (k : Fin 1024) :
    (t.val / 4 = 0 → (show Vec Ideal S8x128x1024 .bf16 from iblk m c 3 t) (ix3 q r k) = (m (c.tc.loc main_arg3)) (ix3 q (row t r) k))
    ∧ (t.val / 4 = 1 → (show Vec Ideal S8x128x1024 .bf16 from iblk m c 4 t) (ix3 q r k) = (m (c.tc.loc main_arg4)) (ix3 q (row t r) k))
    ∧ (t.val / 4 = 2 → (show Vec Ideal S8x128x1024 .bf16 from iblk m c 5 t) (ix3 q r k) = (m (c.tc.loc main_arg5)) (ix3 q (row t r) k))
    ∧ (t.val / 4 = 3 → (show Vec Ideal S8x128x1024 .bf16 from iblk m c 6 t) (ix3 q r k) = (m (c.tc.loc main_arg6)) (ix3 q (row t r) k)) := by
  refine ⟨fun h => ?_, fun h => ?_, fun h => ?_, fun h => ?_⟩ <;> blk_point [iblk, V, blocks t, h, row]

/-- What the body leaves at an entry, from parts whose sum is the reference's gradient there: the reference's results. -/
theorem entry (c : Dev nD) (t : Fin cfg0.N) (r : Fin 128) (k : Fin 1024) (x : Vec Ideal S8x128x1024 .bf16) (i0 : ∀ a, (![0, 0, 0] : Fin 3 → Nat) a + (![1, 128, 1024] : Fin 3 → Nat) a ≤ S8x128x1024.size a) (i1 : ∀ a, (![1, 0, 0] : Fin 3 → Nat) a + (![1, 128, 1024] : Fin 3 → Nat) a ≤ S8x128x1024.size a) (i2 : ∀ a, (![2, 0, 0] : Fin 3 → Nat) a + (![1, 128, 1024] : Fin 3 → Nat) a ≤ S8x128x1024.size a) (i3 : ∀ a, (![3, 0, 0] : Fin 3 → Nat) a + (![1, 128, 1024] : Fin 3 → Nat) a ≤ S8x128x1024.size a) (i4 : ∀ a, (![4, 0, 0] : Fin 3 → Nat) a + (![1, 128, 1024] : Fin 3 → Nat) a ≤ S8x128x1024.size a) (i5 : ∀ a, (![5, 0, 0] : Fin 3 → Nat) a + (![1, 128, 1024] : Fin 3 → Nat) a ≤ S8x128x1024.size a) (i6 : ∀ a, (![6, 0, 0] : Fin 3 → Nat) a + (![1, 128, 1024] : Fin 3 → Nat) a ≤ S8x128x1024.size a) (i7 : ∀ a, (![7, 0, 0] : Fin 3 → Nat) a + (![1, 128, 1024] : Fin 3 → Nat) a ≤ S8x128x1024.size a)
    (hx : ∑ q : Fin 8, x (ix3 q r k) = val_main_v12 (F := Ideal) (m (c.tc.loc main_arg3)) (m (c.tc.loc main_arg4)) (m (c.tc.loc main_arg5)) (m (c.tc.loc main_arg6)) (ix3 (lay t) (row t r) k)) :
    k0_pay9 (F := Ideal) (k0_pay5 (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7))) (ix3 0 r k) = val_main_v12 (F := Ideal) (m (c.tc.loc main_arg3)) (m (c.tc.loc main_arg4)) (m (c.tc.loc main_arg5)) (m (c.tc.loc main_arg6)) (ix3 (lay t) (row t r) k)
    ∧ k0_pay1 (F := Ideal) (k0_pay12 (k0_pay5 (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7))) (k0_pay6 (iblk m c 1 t)) (iblk m c 2 t)) (k0_pay13 (iblk m c 0 t)) (ix3 0 r k) = val_main_v36 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix3 (lay t) (row t r) k)
    ∧ k0_pay10 (F := Ideal) (k0_pay5 (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7))) (k0_pay6 (iblk m c 1 t)) (ix3 0 r k) = val_main_v17 (F := Ideal) (m (c.tc.loc main_arg1)) (m (c.tc.loc main_arg3)) (m (c.tc.loc main_arg4)) (m (c.tc.loc main_arg5)) (m (c.tc.loc main_arg6)) (ix3 (lay t) (row t r) k)
    ∧ k0_pay11 (F := Ideal) (k0_pay5 (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7))) (iblk m c 2 t) (ix3 0 r k) = val_main_v23 (F := Ideal) (m (c.tc.loc main_arg2)) (m (c.tc.loc main_arg3)) (m (c.tc.loc main_arg4)) (m (c.tc.loc main_arg5)) (m (c.tc.loc main_arg6)) (ix3 (lay t) (row t r) k) := by
  obtain ⟨a0, a1, a2, a3⟩ := step_apply (k0_pay5 (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7))) (iblk m c 0 t) (iblk m c 1 t) (iblk m c 2 t) r k
  obtain ⟨b1, b2, b3⟩ := step (m (c.tc.loc main_arg0)) (m (c.tc.loc main_arg1)) (m (c.tc.loc main_arg2)) (m (c.tc.loc main_arg3)) (m (c.tc.loc main_arg4)) (m (c.tc.loc main_arg5)) (m (c.tc.loc main_arg6)) (lay t) (row t r) k
  obtain ⟨w, p, v⟩ := read m c t r k
  dsimp only at w p v
  rw [sum_apply x i0 i1 i2 i3 i4 i5 i6 i7 r k, hx] at a0 a1 a2 a3
  exact ⟨a0, a1.trans (Eq.trans (by rw [w, p, v]) b1.symm), a2.trans (Eq.trans (by rw [p]) b2.symm), a3.trans (Eq.trans (by rw [v]) b3.symm)⟩

/-- What a grid point leaves in the four results' blocks is the reference's. -/
theorem block (c : Dev nD) (t : Fin cfg0.N) (z : Fin 1) (r : Fin 128) (k : Fin 1024) :
    (outsAt0 m c t.val t.isLt).1 (ix3 z r k) = val_main_v12 (F := Ideal) (m (c.tc.loc main_arg3)) (m (c.tc.loc main_arg4)) (m (c.tc.loc main_arg5)) (m (c.tc.loc main_arg6)) (ix3 (lay t) (row t r) k)
    ∧ (outsAt0 m c t.val t.isLt).2.1 (ix3 z r k) = val_main_v36 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix3 (lay t) (row t r) k)
    ∧ (outsAt0 m c t.val t.isLt).2.2.1 (ix3 z r k) = val_main_v17 (F := Ideal) (m (c.tc.loc main_arg1)) (m (c.tc.loc main_arg3)) (m (c.tc.loc main_arg4)) (m (c.tc.loc main_arg5)) (m (c.tc.loc main_arg6)) (ix3 (lay t) (row t r) k)
    ∧ (outsAt0 m c t.val t.isLt).2.2.2 (ix3 z r k) = val_main_v23 (F := Ideal) (m (c.tc.loc main_arg2)) (m (c.tc.loc main_arg3)) (m (c.tc.loc main_arg4)) (m (c.tc.loc main_arg5)) (m (c.tc.loc main_arg6)) (ix3 (lay t) (row t r) k) := by
  obtain rfl : z = 0 := Fin.fin_one_eq_zero z
  have hN := lt_of_lt_of_eq t.isLt N_0
  have hp := fun q => read_parts m c t q r k
  have hg := gradient (m (c.tc.loc main_arg0)) (m (c.tc.loc main_arg1)) (m (c.tc.loc main_arg2)) (m (c.tc.loc main_arg3)) (m (c.tc.loc main_arg4)) (m (c.tc.loc main_arg5)) (m (c.tc.loc main_arg6)) (row t r) k
  have ht : t.val / 4 = 0 ∨ t.val / 4 = 1 ∨ t.val / 4 = 2 ∨ t.val / 4 = 3 := by omega
  rcases ht with ht | ht | ht | ht
  · have hl : lay t = 0 := Fin.ext ht
    rw [outsAt0_A m c t (by omega) (by omega) (by omega) (by omega)]
    have he := entry m c t r k (iblk m c 3 t) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (Eq.trans (Finset.sum_congr rfl fun q _ => (hp q).1 ht) (Eq.trans (hg.1).symm (by rw [hl])))
    refine ⟨?_, ?_, ?_, ?_⟩ <;> frame_out
    exacts [he.1, he.2.1, he.2.2.1, he.2.2.2]
  · have hl : lay t = 1 := Fin.ext ht
    rw [outsAt0_B m c t (by omega) (by omega) (by omega) (by omega)]
    have he := entry m c t r k (iblk m c 4 t) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (Eq.trans (Finset.sum_congr rfl fun q _ => (hp q).2.1 ht) (Eq.trans (hg.2.1).symm (by rw [hl])))
    refine ⟨?_, ?_, ?_, ?_⟩ <;> frame_out
    exacts [he.1, he.2.1, he.2.2.1, he.2.2.2]
  · have hl : lay t = 2 := Fin.ext ht
    rw [outsAt0_C m c t (by omega) (by omega) (by omega) (by omega)]
    have he := entry m c t r k (iblk m c 5 t) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (Eq.trans (Finset.sum_congr rfl fun q _ => (hp q).2.2.1 ht) (Eq.trans (hg.2.2.1).symm (by rw [hl])))
    refine ⟨?_, ?_, ?_, ?_⟩ <;> frame_out
    exacts [he.1, he.2.1, he.2.2.1, he.2.2.2]
  · have hl : lay t = 3 := Fin.ext ht
    rw [outsAt0_D m c t (by omega) (by omega) (by omega) (by omega)]
    have he := entry m c t r k (iblk m c 6 t) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (Eq.trans (Finset.sum_congr rfl fun q _ => (hp q).2.2.2 ht) (Eq.trans (hg.2.2.2).symm (by rw [hl])))
    refine ⟨?_, ?_, ?_, ?_⟩ <;> frame_out
    exacts [he.1, he.2.1, he.2.2.1, he.2.2.2]

/-! ## The results -/

/-- The gradients are the reference's. -/
theorem result0 (c : Dev nD) : (dats m 0 c).arrAt 7 (cfgs 0).N = val_main_v12 (F := Ideal) (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after0_7]
  have e : ∀ (z : Fin 1) (r : Fin 128) (k : Fin 1024), ((View.whole main_v0_0).slice (win0_7.rect t)).emb (ix3 z r k) = ix3 (lay t) (row t r) k := fun z r k => by blk_ext [blocks t, lay, row]
  idx_vars y
  rw [e]
  exact (block m c t _ _ _).1

/-- The updates are the reference's. -/
theorem result1 (c : Dev nD) : (dats m 0 c).arrAt 8 (cfgs 0).N = val_main_v36 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after0_8]
  have e : ∀ (z : Fin 1) (r : Fin 128) (k : Fin 1024), ((View.whole main_v0_1).slice (win0_8.rect t)).emb (ix3 z r k) = ix3 (lay t) (row t r) k := fun z r k => by blk_ext [blocks t, lay, row]
  idx_vars y
  rw [e]
  exact (block m c t _ _ _).2.1

/-- The new first moments are the reference's. -/
theorem result2 (c : Dev nD) : (dats m 0 c).arrAt 9 (cfgs 0).N = val_main_v17 (F := Ideal) (m (c.tc.loc main_arg1)) (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after0_9]
  have e : ∀ (z : Fin 1) (r : Fin 128) (k : Fin 1024), ((View.whole main_v0_2).slice (win0_9.rect t)).emb (ix3 z r k) = ix3 (lay t) (row t r) k := fun z r k => by blk_ext [blocks t, lay, row]
  idx_vars y
  rw [e]
  exact (block m c t _ _ _).2.2.1

/-- The new second moments are the reference's. -/
theorem result3 (c : Dev nD) : (dats m 0 c).arrAt 10 (cfgs 0).N = val_main_v23 (F := Ideal) (m (c.tc.loc main_arg2)) (m (c.tc.loc main_arg3)) (m (c.tc.loc main_arg4)) (m (c.tc.loc main_arg5)) (m (c.tc.loc main_arg6)) := by
  refine (dats m 0 c).arrAt_eq_of_covers 10 _ (by decide +kernel) fun t hf y => ?_
  blk_simp
  rw [after0_10]
  have e : ∀ (z : Fin 1) (r : Fin 128) (k : Fin 1024), ((View.whole main_v0_3).slice (win0_10.rect t)).emb (ix3 z r k) = ix3 (lay t) (row t r) k := fun z r k => by blk_ext [blocks t, lay, row]
  idx_vars y
  rw [e]
  exact (block m c t _ _ _).2.2.2

/-! ## The claims -/

/-- The two constants that the idealised kernel names are the ones the kernel holds. -/
theorem preserves : Cert.preserves_Kernel16_Kernel16Ideal :=
  ⟨IdealRules.named_const.statement Cert.Kernel16Ideal.κ "c1" .f32 0x3FC48605#32 ((8388608 / 5463681 : ℝ) : EReal) rfl, IdealRules.named_const.statement Cert.Kernel16Ideal.κ "c2" .f32 0x42C8E6D3#32 ((268435456 / 2672307 : ℝ) : EReal) rfl⟩

set_option maxHeartbeats 1600000 in
/-- On the extended reals, the kernel and the reference compute the same gradients, updates and moments. -/
theorem algebraic : Cert.algebraic_Kernel16Ideal_Reference16Ideal := by
  pair_intro
  · run_from Cert.Kernel16Ideal.Gen.run_main m g
  · run_from Cert.Reference16Ideal.Value.run m' g'
    · obtain ⟨a0, a1, a2, a3, a4, a5, a6⟩ := hagree c
      exact (Eq.trans (val_main_v12_eq _ _ _ _) (by simp only [a3, a4, a5, a6])).trans (result0 m c).symm
    · obtain ⟨a0, a1, a2, a3, a4, a5, a6⟩ := hagree c
      rw [val_main_v36_eq, a0, a1, a2, a3, a4, a5, a6]
      exact (result1 m c).symm
    · obtain ⟨a0, a1, a2, a3, a4, a5, a6⟩ := hagree c
      exact (Eq.trans (val_main_v17_eq _ _ _ _ _) (by simp only [a1, a3, a4, a5, a6])).trans (result2 m c).symm
    · obtain ⟨a0, a1, a2, a3, a4, a5, a6⟩ := hagree c
      exact (Eq.trans (val_main_v23_eq _ _ _ _ _) (by simp only [a2, a3, a4, a5, a6])).trans (result3 m c).symm
-- ==== Proof.ConvInStep.lean ====
/- The optimiser's step of the short convolutions' input weights: what the kernel leaves is the gradient summed over the devices, the update and the new moments that the reference computes. -/
module

public import proofs.«01_k».proof.Proof.Gen.Kernel17Ideal.Value
public import proofs.«01_k».proof.Proof.Gen.Reference17Ideal.Read
public import Idealize.ShloMosaic.Lib.Pipeline.ValueKit
public import Idealize.ShloMosaic.Lib.Pointwise
public import Idealize.ShloMosaic.Lib.Claim
public import proofs.«01_k».proof.Defs
public import proofs.«01_k».proof.Proof.AdamW

@[expose] public section

set_option maxRecDepth 16384

noncomputable section

open Idealize.ShloMosaic Idealize.ShloMosaic.TcCoe Idealize.SL.Sem
open Idealize.ShloMosaic.Pipeline (Dat)
open scoped BigOperators

namespace Cert.ConvInStep

open Cert.Kernel17Ideal Cert.Kernel17Ideal.Gen
open Cert.Reference17Ideal.Read

/-! ## What the body computes from a block -/

/-- The two named constants' values. -/
theorem constants : Named.named (F := Ideal) Cert.Kernel17Ideal.κ "c1" (φ := .f32) 0x3FC48605#32 = ((8388608 / 5463681 : ℝ) : EReal)
    ∧ Named.named (F := Ideal) Cert.Kernel17Ideal.κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- The results of the body at an entry, from the gradient `g` there: the gradient, the update and the new moments. -/
theorem step_apply (g : FVec Ideal S256x384 .f32) (w p v : Vec Ideal S1x256x384 .f32) (r : Fin 256) (k : Fin 384) :
    k0_pay7 (F := Ideal) g (ix3 0 r k) = g (ix2 r k)
    ∧ k0_pay1 (F := Ideal) (k0_pay10 g (k0_pay4 p) v) (k0_pay11 w) (ix3 0 r k) = AdamW.delta (w (ix3 0 r k)) (p (ix3 0 r k)) (v (ix3 0 r k)) (g (ix2 r k))
    ∧ k0_pay8 (F := Ideal) g (k0_pay4 p) (ix3 0 r k) = AdamW.moment (p (ix3 0 r k)) (g (ix2 r k))
    ∧ k0_pay9 (F := Ideal) g v (ix3 0 r k) = AdamW.square (v (ix3 0 r k)) (g (ix2 r k)) := by
  rw [← AdamW.scaled_eq, ← constants.1, ← constants.2]
  refine ⟨?_, ?_, ?_, ?_⟩ <;> pointwise [k0_pay1, k0_pay3, k0_pay4, k0_pay5, k0_pay6, k0_pay7, k0_pay8, k0_pay9, k0_pay10, k0_pay11, AdamW.moment, AdamW.square, AdamW.scaled]

/-- The gradient that the body sums from the block of the 8 parts. -/
theorem sum_apply (x : Vec Ideal S8x256x384 .bf16) (i0 : ∀ a, (![0, 0, 0] : Fin 3 → Nat) a + (![1, 256, 384] : Fin 3 → Nat) a ≤ S8x256x384.size a) (i1 : ∀ a, (![1, 0, 0] : Fin 3 → Nat) a + (![1, 256, 384] : Fin 3 → Nat) a ≤ S8x256x384.size a) (i2 : ∀ a, (![2, 0, 0] : Fin 3 → Nat) a + (![1, 256, 384] : Fin 3 → Nat) a ≤ S8x256x384.size a) (i3 : ∀ a, (![3, 0, 0] : Fin 3 → Nat) a + (![1, 256, 384] : Fin 3 → Nat) a ≤ S8x256x384.size a) (i4 : ∀ a, (![4, 0, 0] : Fin 3 → Nat) a + (![1, 256, 384] : Fin 3 → Nat) a ≤ S8x256x384.size a) (i5 : ∀ a, (![5, 0, 0] : Fin 3 → Nat) a + (![1, 256, 384] : Fin 3 → Nat) a ≤ S8x256x384.size a) (i6 : ∀ a, (![6, 0, 0] : Fin 3 → Nat) a + (![1, 256, 384] : Fin 3 → Nat) a ≤ S8x256x384.size a) (i7 : ∀ a, (![7, 0, 0] : Fin 3 → Nat) a + (![1, 256, 384] : Fin 3 → Nat) a ≤ S8x256x384.size a) (r : Fin 256) (k : Fin 384) :
    k0_pay3 (F := Ideal) (View.ld x (Rect.unit ![0, 0, 0] ![1, 256, 384] i0)) (View.ld x (Rect.unit ![1, 0, 0] ![1, 256, 384] i1)) (View.ld x (Rect.unit ![2, 0, 0] ![1, 256, 384] i2)) (View.ld x (Rect.unit ![3, 0, 0] ![1, 256, 384] i3)) (View.ld x (Rect.unit ![4, 0, 0] ![1, 256, 384] i4)) (View.ld x (Rect.unit ![5, 0, 0] ![1, 256, 384] i5)) (View.ld x (Rect.unit ![6, 0, 0] ![1, 256, 384] i6)) (View.ld x (Rect.unit ![7, 0, 0] ![1, 256, 384] i7)) (ix2 r k) = ∑ q : Fin 8, x (ix3 q r k) := by
  have h : ∀ (s : Nat) (hs : s < 8) (i : ∀ a, (![s, 0, 0] : Fin 3 → Nat) a + (![1, 256, 384] : Fin 3 → Nat) a ≤ S8x256x384.size a),
      (View.ld x (Rect.unit ![s, 0, 0] ![1, 256, 384] i)) (ix3 0 r k) = x (ix3 ⟨s, hs⟩ r k) := fun s hs i =>
    View.ld_unit_apply_of _ _ _ _ _ _ (fun a => by fin_cases a <;> simp [ix3])
  have e : ∀ (v0 v1 v2 v3 v4 v5 v6 v7 : Vec Ideal S1x256x384 .bf16), k0_pay3 (F := Ideal) v0 v1 v2 v3 v4 v5 v6 v7 (ix2 r k) = v0 (ix3 0 r k) + v1 (ix3 0 r k) + v2 (ix3 0 r k) + v3 (ix3 0 r k) + v4 (ix3 0 r k) + v5 (ix3 0 r k) + v6 (ix3 0 r k) + v7 (ix3 0 r k) := by
    intros
    pointwise [k0_pay3]
  rw [e, Fin.sum_univ_eight, h 0 (by norm_num), h 1 (by norm_num), h 2 (by norm_num), h 3 (by norm_num), h 4 (by norm_num), h 5 (by norm_num), h 6 (by norm_num), h 7 (by norm_num)]
  rfl

/-- The reference's gradient of each layer. -/
theorem gradient (X0 X1 X2 : (⟨S2x1024x384, .f32⟩ : BufTy).Contents (Elt Ideal)) (X3 X4 : (⟨S8x1024x384, .bf16⟩ : BufTy).Contents (Elt Ideal)) (r : Fin 1024) (k : Fin 384) :
    val_main_v6 (F := Ideal) X3 X4 (ix3 0 r k) = ∑ q : Fin 8, X3 (ix3 q r k)
    ∧ val_main_v6 (F := Ideal) X3 X4 (ix3 1 r k) = ∑ q : Fin 8, X4 (ix3 q r k) := by
  refine ⟨?_, ?_⟩ <;> pointwise [val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]

/-- The reference's other results at an entry. -/
theorem step (X0 X1 X2 : (⟨S2x1024x384, .f32⟩ : BufTy).Contents (Elt Ideal)) (X3 X4 : (⟨S8x1024x384, .bf16⟩ : BufTy).Contents (Elt Ideal)) (l : Fin 2) (r : Fin 1024) (k : Fin 384) :
    val_main_v30 (F := Ideal) X0 X1 X2 X3 X4 (ix3 l r k) = AdamW.delta (X0 (ix3 l r k)) (X1 (ix3 l r k)) (X2 (ix3 l r k)) (val_main_v6 (F := Ideal) X3 X4 (ix3 l r k))
    ∧ val_main_v11 (F := Ideal) X1 X3 X4 (ix3 l r k) = AdamW.moment (X1 (ix3 l r k)) (val_main_v6 (F := Ideal) X3 X4 (ix3 l r k))
    ∧ val_main_v17 (F := Ideal) X2 X3 X4 (ix3 l r k) = AdamW.square (X2 (ix3 l r k)) (val_main_v6 (F := Ideal) X3 X4 (ix3 l r k)) := by
  refine ⟨?_, ?_, ?_⟩ <;> pointwise [val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30, AdamW.moment, AdamW.square, AdamW.delta]

/-! ## The blocks -/

variable (m : (ℓ : Loc nD τ sig) → Buf (Elt Ideal) ℓ)

/-- Which block of each array grid point `t` works on: layer `t / 4`, row block `t % 4`; of a layer's parts, the same rows while it is that layer's turn. -/
theorem blocks : ∀ t : Fin cfg0.N, win0_0.index t = ![t.val / 4, t.val % 4, 0] ∧ win0_1.index t = ![t.val / 4, t.val % 4, 0] ∧ win0_2.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0]
    ∧ (t.val / 4 = 0 → win0_3.index t = ![0, t.val % 4, 0]) ∧ (t.val / 4 = 1 → win0_4.index t = ![0, t.val % 4, 0]) :=
  (by decide +kernel : ∀ t : Fin grid0.N, _)

/-- The layer that block `t` belongs to. -/
def lay (t : Fin cfg0.N) : Fin 2 := ⟨t.val / 4, by have := lt_of_lt_of_eq t.isLt N_0; omega⟩

/-- The row of the arrays that row `r` of block `t` is. -/
def row (t : Fin cfg0.N) (r : Fin 256) : Fin 1024 := ⟨t.val % 4 * 256 + r.val, by have := lt_of_lt_of_eq t.isLt N_0; have := r.isLt; omega⟩

/-- A block of the weight and of the moments. -/
theorem read (c : Dev nD) (t : Fin cfg0.N) (r : Fin 256) (k : Fin 384) :
    (show Vec Ideal S1x256x384 .f32 from iblk m c 0 t) (ix3 0 r k) = (m (c.tc.loc main_arg0)) (ix3 (lay t) (row t r) k)
    ∧ (show Vec Ideal S1x256x384 .f32 from iblk m c 1 t) (ix3 0 r k) = (m (c.tc.loc main_arg1)) (ix3 (lay t) (row t r) k)
    ∧ (show Vec Ideal S1x256x384 .f32 from iblk m c 2 t) (ix3 0 r k) = (m (c.tc.loc main_arg2)) (ix3 (lay t) (row t r) k) := by
  refine ⟨?_, ?_, ?_⟩ <;> blk_point [iblk, V, blocks t, lay, row]

/-- A block of the parts of the layer whose turn it is. -/
theorem read_parts (c : Dev nD) (t : Fin cfg0.N) (q : Fin 8) (r : Fin 256) (k : Fin 384) :
    (t.val / 4 = 0 → (show Vec Ideal S8x256x384 .bf16 from iblk m c 3 t) (ix3 q r k) = (m (c.tc.loc main_arg3)) (ix3 q (row t r) k))
    ∧ (t.val / 4 = 1 → (show Vec Ideal S8x256x384 .bf16 from iblk m c 4 t) (ix3 q r k) = (m (c.tc.loc main_arg4)) (ix3 q (row t r) k)) := by
  refine ⟨fun h => ?_, fun h => ?_⟩ <;> blk_point [iblk, V, blocks t, h, row]

/-- What the body leaves at an entry, from parts whose sum is the reference's gradient there: the reference's results. -/
theorem entry (c : Dev nD) (t : Fin cfg0.N) (r : Fin 256) (k : Fin 384) (x : Vec Ideal S8x256x384 .bf16) (i0 : ∀ a, (![0, 0, 0] : Fin 3 → Nat) a + (![1, 256, 384] : Fin 3 → Nat) a ≤ S8x256x384.size a) (i1 : ∀ a, (![1, 0, 0] : Fin 3 → Nat) a + (![1, 256, 384] : Fin 3 → Nat) a ≤ S8x256x384.size a) (i2 : ∀ a, (![2, 0, 0] : Fin 3 → Nat) a + (![1, 256, 384] : Fin 3 → Nat) a ≤ S8x256x384.size a) (i3 : ∀ a, (![3, 0, 0] : Fin 3 → Nat) a + (![1, 256, 384] : Fin 3 → Nat) a ≤ S8x256x384.size a) (i4 : ∀ a, (![4, 0, 0] : Fin 3 → Nat) a + (![1, 256, 384] : Fin 3 → Nat) a ≤ S8x256x384.size a) (i5 : ∀ a, (![5, 0, 0] : Fin 3 → Nat) a + (![1, 256, 384] : Fin 3 → Nat) a ≤ S8x256x384.size a) (i6 : ∀ a, (![6, 0, 0] : Fin 3 → Nat) a + (![1, 256, 384] : Fin 3 → Nat) a ≤ S8x256x384.size a) (i7 : ∀ a, (![7, 0, 0] : Fin 3 → Nat) a + (![1, 256, 384] : Fin 3 → Nat) a ≤ S8x256x384.size a)
    (hx : ∑ q : Fin 8, x (ix3 q r k) = val_main_v6 (F := Ideal) (m (c.tc.loc main_arg3)) (m (c.tc.loc main_arg4)) (ix3 (lay t) (row t r) k)) :
    k0_pay7 (F := Ideal) (k0_pay3 (View.ld x (Rect.unit ![0, 0, 0] ![1, 256, 384] i0)) (View.ld x (Rect.unit ![1, 0, 0] ![1, 256, 384] i1)) (View.ld x (Rect.unit ![2, 0, 0] ![1, 256, 384] i2)) (View.ld x (Rect.unit ![3, 0, 0] ![1, 256, 384] i3)) (View.ld x (Rect.unit ![4, 0, 0] ![1, 256, 384] i4)) (View.ld x (Rect.unit ![5, 0, 0] ![1, 256, 384] i5)) (View.ld x (Rect.unit ![6, 0, 0] ![1, 256, 384] i6)) (View.ld x (Rect.unit ![7, 0, 0] ![1, 256, 384] i7))) (ix3 0 r k) = val_main_v6 (F := Ideal) (m (c.tc.loc main_arg3)) (m (c.tc.loc main_arg4)) (ix3 (lay t) (row t r) k)
    ∧ k0_pay1 (F := Ideal) (k0_pay10 (k0_pay3 (View.ld x (Rect.unit ![0, 0, 0] ![1, 256, 384] i0)) (View.ld x (Rect.unit ![1, 0, 0] ![1, 256, 384] i1)) (View.ld x (Rect.unit ![2, 0, 0] ![1, 256, 384] i2)) (View.ld x (Rect.unit ![3, 0, 0] ![1, 256, 384] i3)) (View.ld x (Rect.unit ![4, 0, 0] ![1, 256, 384] i4)) (View.ld x (Rect.unit ![5, 0, 0] ![1, 256, 384] i5)) (View.ld x (Rect.unit ![6, 0, 0] ![1, 256, 384] i6)) (View.ld x (Rect.unit ![7, 0, 0] ![1, 256, 384] i7))) (k0_pay4 (iblk m c 1 t)) (iblk m c 2 t)) (k0_pay11 (iblk m c 0 t)) (ix3 0 r k) = val_main_v30 (F := Ideal) (m (c.tc.loc main_arg0)) (m (c.tc.loc main_arg1)) (m (c.tc.loc main_arg2)) (m (c.tc.loc main_arg3)) (m (c.tc.loc main_arg4)) (ix3 (lay t) (row t r) k)
    ∧ k0_pay8 (F := Ideal) (k0_pay3 (View.ld x (Rect.unit ![0, 0, 0] ![1, 256, 384] i0)) (View.ld x (Rect.unit ![1, 0, 0] ![1, 256, 384] i1)) (View.ld x (Rect.unit ![2, 0, 0] ![1, 256, 384] i2)) (View.ld x (Rect.unit ![3, 0, 0] ![1, 256, 384] i3)) (View.ld x (Rect.unit ![4, 0, 0] ![1, 256, 384] i4)) (View.ld x (Rect.unit ![5, 0, 0] ![1, 256, 384] i5)) (View.ld x (Rect.unit ![6, 0, 0] ![1, 256, 384] i6)) (View.ld x (Rect.unit ![7, 0, 0] ![1, 256, 384] i7))) (k0_pay4 (iblk m c 1 t)) (ix3 0 r k) = val_main_v11 (F := Ideal) (m (c.tc.loc main_arg1)) (m (c.tc.loc main_arg3)) (m (c.tc.loc main_arg4)) (ix3 (lay t) (row t r) k)
    ∧ k0_pay9 (F := Ideal) (k0_pay3 (View.ld x (Rect.unit ![0, 0, 0] ![1, 256, 384] i0)) (View.ld x (Rect.unit ![1, 0, 0] ![1, 256, 384] i1)) (View.ld x (Rect.unit ![2, 0, 0] ![1, 256, 384] i2)) (View.ld x (Rect.unit ![3, 0, 0] ![1, 256, 384] i3)) (View.ld x (Rect.unit ![4, 0, 0] ![1, 256, 384] i4)) (View.ld x (Rect.unit ![5, 0, 0] ![1, 256, 384] i5)) (View.ld x (Rect.unit ![6, 0, 0] ![1, 256, 384] i6)) (View.ld x (Rect.unit ![7, 0, 0] ![1, 256, 384] i7))) (iblk m c 2 t) (ix3 0 r k) = val_main_v17 (F := Ideal) (m (c.tc.loc main_arg2)) (m (c.tc.loc main_arg3)) (m (c.tc.loc main_arg4)) (ix3 (lay t) (row t r) k) := by
  obtain ⟨a0, a1, a2, a3⟩ := step_apply (k0_pay3 (View.ld x (Rect.unit ![0, 0, 0] ![1, 256, 384] i0)) (View.ld x (Rect.unit ![1, 0, 0] ![1, 256, 384] i1)) (View.ld x (Rect.unit ![2, 0, 0] ![1, 256, 384] i2)) (View.ld x (Rect.unit ![3, 0, 0] ![1, 256, 384] i3)) (View.ld x (Rect.unit ![4, 0, 0] ![1, 256, 384] i4)) (View.ld x (Rect.unit ![5, 0, 0] ![1, 256, 384] i5)) (View.ld x (Rect.unit ![6, 0, 0] ![1, 256, 384] i6)) (View.ld x (Rect.unit ![7, 0, 0] ![1, 256, 384] i7))) (iblk m c 0 t) (iblk m c 1 t) (iblk m c 2 t) r k
  obtain ⟨b1, b2, b3⟩ := step (m (c.tc.loc main_arg0)) (m (c.tc.loc main_arg1)) (m (c.tc.loc main_arg2)) (m (c.tc.loc main_arg3)) (m (c.tc.loc main_arg4)) (lay t) (row t r) k
  obtain ⟨w, p, v⟩ := read m c t r k
  dsimp only at w p v
  rw [sum_apply x i0 i1 i2 i3 i4 i5 i6 i7 r k, hx] at a0 a1 a2 a3
  exact ⟨a0, a1.trans (Eq.trans (by rw [w, p, v]) b1.symm), a2.trans (Eq.trans (by rw [p]) b2.symm), a3.trans (Eq.trans (by rw [v]) b3.symm)⟩

/-- What a grid point leaves in the four results' blocks is the reference's. -/
theorem block (c : Dev nD) (t : Fin cfg0.N) (z : Fin 1) (r : Fin 256) (k : Fin 384) :
    (outsAt0 m c t.val t.isLt).1 (ix3 z r k) = val_main_v6 (F := Ideal) (m (c.tc.loc main_arg3)) (m (c.tc.loc main_arg4)) (ix3 (lay t) (row t r) k)
    ∧ (outsAt0 m c t.val t.isLt).2.1 (ix3 z r k) = val_main_v30 (F := Ideal) (m (c.tc.loc main_arg0)) (m (c.tc.loc main_arg1)) (m (c.tc.loc main_arg2)) (m (c.tc.loc main_arg3)) (m (c.tc.loc main_arg4)) (ix3 (lay t) (row t r) k)
    ∧ (outsAt0 m c t.val t.isLt).2.2.1 (ix3 z r k) = val_main_v11 (F := Ideal) (m (c.tc.loc main_arg1)) (m (c.tc.loc main_arg3)) (m (c.tc.loc main_arg4)) (ix3 (lay t) (row t r) k)
    ∧ (outsAt0 m c t.val t.isLt).2.2.2 (ix3 z r k) = val_main_v17 (F := Ideal) (m (c.tc.loc main_arg2)) (m (c.tc.loc main_arg3)) (m (c.tc.loc main_arg4)) (ix3 (lay t) (row t r) k) := by
  obtain rfl : z = 0 := Fin.fin_one_eq_zero z
  have hN := lt_of_lt_of_eq t.isLt N_0
  have hp := fun q => read_parts m c t q r k
  have hg := gradient (m (c.tc.loc main_arg0)) (m (c.tc.loc main_arg1)) (m (c.tc.loc main_arg2)) (m (c.tc.loc main_arg3)) (m (c.tc.loc main_arg4)) (row t r) k
  have ht : t.val / 4 = 0 ∨ t.val / 4 = 1 := by omega
  rcases ht with ht | ht
  · have hl : lay t = 0 := Fin.ext ht
    rw [outsAt0_A m c t (by omega) (by omega)]
    have he := entry m c t r k (iblk m c 3 t) inb_S8x256x384_S1x256x384_0_0_0 inb_S8x256x384_S1x256x384_1_0_0 inb_S8x256x384_S1x256x384_2_0_0 inb_S8x256x384_S1x256x384_3_0_0 inb_S8x256x384_S1x256x384_4_0_0 inb_S8x256x384_S1x256x384_5_0_0 inb_S8x256x384_S1x256x384_6_0_0 inb_S8x256x384_S1x256x384_7_0_0 (Eq.trans (Finset.sum_congr rfl fun q _ => (hp q).1 ht) (Eq.trans (hg.1).symm (by rw [hl])))
    refine ⟨?_, ?_, ?_, ?_⟩ <;> frame_out
    exacts [he.1, he.2.1, he.2.2.1, he.2.2.2]
  · have hl : lay t = 1 := Fin.ext ht
    rw [outsAt0_B m c t (by omega) (by omega)]
    have he := entry m c t r k (iblk m c 4 t) inb_S8x256x384_S1x256x384_0_0_0 inb_S8x256x384_S1x256x384_1_0_0 inb_S8x256x384_S1x256x384_2_0_0 inb_S8x256x384_S1x256x384_3_0_0 inb_S8x256x384_S1x256x384_4_0_0 inb_S8x256x384_S1x256x384_5_0_0 inb_S8x256x384_S1x256x384_6_0_0 inb_S8x256x384_S1x256x384_7_0_0 (Eq.trans (Finset.sum_congr rfl fun q _ => (hp q).2 ht) (Eq.trans (hg.2).symm (by rw [hl])))
    refine ⟨?_, ?_, ?_, ?_⟩ <;> frame_out
    exacts [he.1, he.2.1, he.2.2.1, he.2.2.2]

/-! ## The results -/

/-- The gradients are the reference's. -/
theorem result0 (c : Dev nD) : (dats m 0 c).arrAt 5 (cfgs 0).N = val_main_v6 (F := Ideal) (m (c.tc.loc main_arg3)) (m (c.tc.loc main_arg4)) := by
  refine (dats m 0 c).arrAt_eq_of_covers 5 _ (by decide +kernel) fun t hf y => ?_
  blk_simp
  rw [after0_5]
  have e : ∀ (z : Fin 1) (r : Fin 256) (k : Fin 384), ((View.whole main_v0_0).slice (win0_5.rect t)).emb (ix3 z r k) = ix3 (lay t) (row t r) k := fun z r k => by blk_ext [blocks t, lay, row]
  idx_vars y
  rw [e]
  exact (block m c t _ _ _).1

/-- The updates are the reference's. -/
theorem result1 (c : Dev nD) : (dats m 0 c).arrAt 6 (cfgs 0).N = val_main_v30 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  have e : ∀ (z : Fin 1) (r : Fin 256) (k : Fin 384), ((View.whole main_v0_1).slice (win0_6.rect t)).emb (ix3 z r k) = ix3 (lay t) (row t r) k := fun z r k => by blk_ext [blocks t, lay, row]
  idx_vars y
  rw [e]
  exact (block m c t _ _ _).2.1

/-- The new first moments are the reference's. -/
theorem result2 (c : Dev nD) : (dats m 0 c).arrAt 7 (cfgs 0).N = val_main_v11 (F := Ideal) (m (c.tc.loc main_arg1)) (m (c.tc.loc main_arg3)) (m (c.tc.loc main_arg4)) := by
  refine (dats m 0 c).arrAt_eq_of_covers 7 _ (by decide +kernel) fun t hf y => ?_
  blk_simp
  rw [after0_7]
  have e : ∀ (z : Fin 1) (r : Fin 256) (k : Fin 384), ((View.whole main_v0_2).slice (win0_7.rect t)).emb (ix3 z r k) = ix3 (lay t) (row t r) k := fun z r k => by blk_ext [blocks t, lay, row]
  idx_vars y
  rw [e]
  exact (block m c t _ _ _).2.2.1

/-- The new second moments are the reference's. -/
theorem result3 (c : Dev nD) : (dats m 0 c).arrAt 8 (cfgs 0).N = val_main_v17 (F := Ideal) (m (c.tc.loc main_arg2)) (m (c.tc.loc main_arg3)) (m (c.tc.loc main_arg4)) := by
  refine (dats m 0 c).arrAt_eq_of_covers 8 _ (by decide +kernel) fun t hf y => ?_
  blk_simp
  rw [after0_8]
  have e : ∀ (z : Fin 1) (r : Fin 256) (k : Fin 384), ((View.whole main_v0_3).slice (win0_8.rect t)).emb (ix3 z r k) = ix3 (lay t) (row t r) k := fun z r k => by blk_ext [blocks t, lay, row]
  idx_vars y
  rw [e]
  exact (block m c t _ _ _).2.2.2

/-! ## The claims -/

/-- The two constants that the idealised kernel names are the ones the kernel holds. -/
theorem preserves : Cert.preserves_Kernel17_Kernel17Ideal :=
  ⟨IdealRules.named_const.statement Cert.Kernel17Ideal.κ "c1" .f32 0x3FC48605#32 ((8388608 / 5463681 : ℝ) : EReal) rfl, IdealRules.named_const.statement Cert.Kernel17Ideal.κ "c2" .f32 0x42C8E6D3#32 ((268435456 / 2672307 : ℝ) : EReal) rfl⟩

set_option maxHeartbeats 1600000 in
/-- On the extended reals, the kernel and the reference compute the same gradients, updates and moments. -/
theorem algebraic : Cert.algebraic_Kernel17Ideal_Reference17Ideal := by
  pair_intro
  · run_from Cert.Kernel17Ideal.Gen.run_main m g
  · run_from Cert.Reference17Ideal.Value.run m' g'
    · obtain ⟨a0, a1, a2, a3, a4⟩ := hagree c
      exact (Eq.trans (val_main_v6_eq _ _) (by simp only [a3, a4])).trans (result0 m c).symm
    · obtain ⟨a0, a1, a2, a3, a4⟩ := hagree c
      rw [val_main_v30_eq, a3, a4]
      exact (result1 m c).symm
    · obtain ⟨a0, a1, a2, a3, a4⟩ := hagree c
      exact (Eq.trans (val_main_v11_eq _ _ _) (by simp only [a1, a3, a4])).trans (result2 m c).symm
    · obtain ⟨a0, a1, a2, a3, a4⟩ := hagree c
      exact (Eq.trans (val_main_v17_eq _ _ _) (by simp only [a2, a3, a4])).trans (result3 m c).symm
-- ==== Proof.GatingInStep.lean ====
/- The optimiser's step of the spatial gating's input weight: what the kernel leaves is the gradient summed over the devices, the update and the new moments that the reference computes. -/
module

public import proofs.«01_k».proof.Proof.Gen.Kernel18Ideal.Value
public import proofs.«01_k».proof.Proof.Gen.Reference18Ideal.Read
public import Idealize.ShloMosaic.Lib.Pipeline.ValueKit
public import Idealize.ShloMosaic.Lib.Pointwise
public import Idealize.ShloMosaic.Lib.Claim
public import proofs.«01_k».proof.Defs
public import proofs.«01_k».proof.Proof.AdamW

@[expose] public section

set_option maxRecDepth 16384

noncomputable section

open Idealize.ShloMosaic Idealize.ShloMosaic.TcCoe Idealize.SL.Sem
open Idealize.ShloMosaic.Pipeline (Dat)
open scoped BigOperators

namespace Cert.GatingInStep

open Cert.Kernel18Ideal Cert.Kernel18Ideal.Gen
open Cert.Reference18Ideal.Read

/-! ## What the body computes from a block -/

/-- The two named constants' values. -/
theorem constants : Named.named (F := Ideal) Cert.Kernel18Ideal.κ "c1" (φ := .f32) 0x3FC48605#32 = ((8388608 / 5463681 : ℝ) : EReal)
    ∧ Named.named (F := Ideal) Cert.Kernel18Ideal.κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- The results of the body at an entry, from the gradient `g` there: the gradient, the update and the new moments. -/
theorem step_apply (g : FVec Ideal S512x256 .f32) (w p v : Vec Ideal S1x512x256 .f32) (r : Fin 512) (k : Fin 256) :
    k0_pay6 (F := Ideal) g (ix3 0 r k) = g (ix2 r k)
    ∧ k0_pay1 (F := Ideal) (k0_pay9 g (k0_pay3 p) v) (k0_pay10 w) (ix3 0 r k) = AdamW.delta (w (ix3 0 r k)) (p (ix3 0 r k)) (v (ix3 0 r k)) (g (ix2 r k))
    ∧ k0_pay7 (F := Ideal) g (k0_pay3 p) (ix3 0 r k) = AdamW.moment (p (ix3 0 r k)) (g (ix2 r k))
    ∧ k0_pay8 (F := Ideal) g v (ix3 0 r k) = AdamW.square (v (ix3 0 r k)) (g (ix2 r k)) := by
  rw [← AdamW.scaled_eq, ← constants.1, ← constants.2]
  refine ⟨?_, ?_, ?_, ?_⟩ <;> pointwise [k0_pay1, k0_pay2, k0_pay3, k0_pay4, k0_pay5, k0_pay6, k0_pay7, k0_pay8, k0_pay9, k0_pay10, AdamW.moment, AdamW.square, AdamW.scaled]

/-- The gradient that the body sums from the block of the 8 parts. -/
theorem sum_apply (x : Vec Ideal S8x512x256 .bf16) (i0 : ∀ a, (![0, 0, 0] : Fin 3 → Nat) a + (![1, 512, 256] : Fin 3 → Nat) a ≤ S8x512x256.size a) (i1 : ∀ a, (![1, 0, 0] : Fin 3 → Nat) a + (![1, 512, 256] : Fin 3 → Nat) a ≤ S8x512x256.size a) (i2 : ∀ a, (![2, 0, 0] : Fin 3 → Nat) a + (![1, 512, 256] : Fin 3 → Nat) a ≤ S8x512x256.size a) (i3 : ∀ a, (![3, 0, 0] : Fin 3 → Nat) a + (![1, 512, 256] : Fin 3 → Nat) a ≤ S8x512x256.size a) (i4 : ∀ a, (![4, 0, 0] : Fin 3 → Nat) a + (![1, 512, 256] : Fin 3 → Nat) a ≤ S8x512x256.size a) (i5 : ∀ a, (![5, 0, 0] : Fin 3 → Nat) a + (![1, 512, 256] : Fin 3 → Nat) a ≤ S8x512x256.size a) (i6 : ∀ a, (![6, 0, 0] : Fin 3 → Nat) a + (![1, 512, 256] : Fin 3 → Nat) a ≤ S8x512x256.size a) (i7 : ∀ a, (![7, 0, 0] : Fin 3 → Nat) a + (![1, 512, 256] : Fin 3 → Nat) a ≤ S8x512x256.size a) (r : Fin 512) (k : Fin 256) :
    k0_pay2 (F := Ideal) (View.ld x (Rect.unit ![0, 0, 0] ![1, 512, 256] i0)) (View.ld x (Rect.unit ![1, 0, 0] ![1, 512, 256] i1)) (View.ld x (Rect.unit ![2, 0, 0] ![1, 512, 256] i2)) (View.ld x (Rect.unit ![3, 0, 0] ![1, 512, 256] i3)) (View.ld x (Rect.unit ![4, 0, 0] ![1, 512, 256] i4)) (View.ld x (Rect.unit ![5, 0, 0] ![1, 512, 256] i5)) (View.ld x (Rect.unit ![6, 0, 0] ![1, 512, 256] i6)) (View.ld x (Rect.unit ![7, 0, 0] ![1, 512, 256] i7)) (ix2 r k) = ∑ q : Fin 8, x (ix3 q r k) := by
  have h : ∀ (s : Nat) (hs : s < 8) (i : ∀ a, (![s, 0, 0] : Fin 3 → Nat) a + (![1, 512, 256] : Fin 3 → Nat) a ≤ S8x512x256.size a),
      (View.ld x (Rect.unit ![s, 0, 0] ![1, 512, 256] i)) (ix3 0 r k) = x (ix3 ⟨s, hs⟩ r k) := fun s hs i =>
    View.ld_unit_apply_of _ _ _ _ _ _ (fun a => by fin_cases a <;> simp [ix3])
  have e : ∀ (v0 v1 v2 v3 v4 v5 v6 v7 : Vec Ideal S1x512x256 .bf16), k0_pay2 (F := Ideal) v0 v1 v2 v3 v4 v5 v6 v7 (ix2 r k) = v0 (ix3 0 r k) + v1 (ix3 0 r k) + v2 (ix3 0 r k) + v3 (ix3 0 r k) + v4 (ix3 0 r k) + v5 (ix3 0 r k) + v6 (ix3 0 r k) + v7 (ix3 0 r k) := by
    intros
    pointwise [k0_pay2]
  rw [e, Fin.sum_univ_eight, h 0 (by norm_num), h 1 (by norm_num), h 2 (by norm_num), h 3 (by norm_num), h 4 (by norm_num), h 5 (by norm_num), h 6 (by norm_num), h 7 (by norm_num)]
  rfl

/-- The reference's gradient of each layer. -/
theorem gradient (X0 X1 X2 : (⟨S1x1024x256, .f32⟩ : BufTy).Contents (Elt Ideal)) (X3 : (⟨S8x1024x256, .bf16⟩ : BufTy).Contents (Elt Ideal)) (r : Fin 1024) (k : Fin 256) :
    val_main_v2 (F := Ideal) X3 (ix3 0 r k) = ∑ q : Fin 8, X3 (ix3 q r k) := by
  pointwise [val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]

/-- The reference's other results at an entry. -/
theorem step (X0 X1 X2 : (⟨S1x1024x256, .f32⟩ : BufTy).Contents (Elt Ideal)) (X3 : (⟨S8x1024x256, .bf16⟩ : BufTy).Contents (Elt Ideal)) (l : Fin 1) (r : Fin 1024) (k : Fin 256) :
    val_main_v26 (F := Ideal) X0 X1 X2 X3 (ix3 l r k) = AdamW.delta (X0 (ix3 l r k)) (X1 (ix3 l r k)) (X2 (ix3 l r k)) (val_main_v2 (F := Ideal) X3 (ix3 l r k))
    ∧ val_main_v7 (F := Ideal) X1 X3 (ix3 l r k) = AdamW.moment (X1 (ix3 l r k)) (val_main_v2 (F := Ideal) X3 (ix3 l r k))
    ∧ val_main_v13 (F := Ideal) X2 X3 (ix3 l r k) = AdamW.square (X2 (ix3 l r k)) (val_main_v2 (F := Ideal) X3 (ix3 l r k)) := by
  refine ⟨?_, ?_, ?_⟩ <;> pointwise [val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26, AdamW.moment, AdamW.square, AdamW.delta]

/-! ## The blocks -/

variable (m : (ℓ : Loc nD τ sig) → Buf (Elt Ideal) ℓ)

/-- Which block of each array grid point `t` works on: layer `t / 2`, row block `t % 2`; of a layer's parts, the same rows while it is that layer's turn. -/
theorem blocks : ∀ t : Fin cfg0.N, win0_0.index t = ![t.val / 2, t.val % 2, 0] ∧ win0_1.index t = ![t.val / 2, t.val % 2, 0] ∧ win0_2.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0]
    ∧ (t.val / 2 = 0 → win0_3.index t = ![0, t.val % 2, 0]) :=
  (by decide +kernel : ∀ t : Fin grid0.N, _)

/-- The layer that block `t` belongs to. -/
def lay (t : Fin cfg0.N) : Fin 1 := ⟨t.val / 2, by have := lt_of_lt_of_eq t.isLt N_0; omega⟩

/-- The row of the arrays that row `r` of block `t` is. -/
def row (t : Fin cfg0.N) (r : Fin 512) : Fin 1024 := ⟨t.val % 2 * 512 + r.val, by have := lt_of_lt_of_eq t.isLt N_0; have := r.isLt; omega⟩

/-- A block of the weight and of the moments. -/
theorem read (c : Dev nD) (t : Fin cfg0.N) (r : Fin 512) (k : Fin 256) :
    (show Vec Ideal S1x512x256 .f32 from iblk m c 0 t) (ix3 0 r k) = (m (c.tc.loc main_arg0)) (ix3 (lay t) (row t r) k)
    ∧ (show Vec Ideal S1x512x256 .f32 from iblk m c 1 t) (ix3 0 r k) = (m (c.tc.loc main_arg1)) (ix3 (lay t) (row t r) k)
    ∧ (show Vec Ideal S1x512x256 .f32 from iblk m c 2 t) (ix3 0 r k) = (m (c.tc.loc main_arg2)) (ix3 (lay t) (row t r) k) := by
  refine ⟨?_, ?_, ?_⟩ <;> blk_point [iblk, V, blocks t, lay, row]

/-- A block of the parts of the layer whose turn it is. -/
theorem read_parts (c : Dev nD) (t : Fin cfg0.N) (q : Fin 8) (r : Fin 512) (k : Fin 256) :
    (t.val / 2 = 0 → (show Vec Ideal S8x512x256 .bf16 from iblk m c 3 t) (ix3 q r k) = (m (c.tc.loc main_arg3)) (ix3 q (row t r) k)) := by
  intro h
  blk_point [iblk, V, blocks t, h, row]

/-- What the body leaves at an entry, from parts whose sum is the reference's gradient there: the reference's results. -/
theorem entry (c : Dev nD) (t : Fin cfg0.N) (r : Fin 512) (k : Fin 256) (x : Vec Ideal S8x512x256 .bf16) (i0 : ∀ a, (![0, 0, 0] : Fin 3 → Nat) a + (![1, 512, 256] : Fin 3 → Nat) a ≤ S8x512x256.size a) (i1 : ∀ a, (![1, 0, 0] : Fin 3 → Nat) a + (![1, 512, 256] : Fin 3 → Nat) a ≤ S8x512x256.size a) (i2 : ∀ a, (![2, 0, 0] : Fin 3 → Nat) a + (![1, 512, 256] : Fin 3 → Nat) a ≤ S8x512x256.size a) (i3 : ∀ a, (![3, 0, 0] : Fin 3 → Nat) a + (![1, 512, 256] : Fin 3 → Nat) a ≤ S8x512x256.size a) (i4 : ∀ a, (![4, 0, 0] : Fin 3 → Nat) a + (![1, 512, 256] : Fin 3 → Nat) a ≤ S8x512x256.size a) (i5 : ∀ a, (![5, 0, 0] : Fin 3 → Nat) a + (![1, 512, 256] : Fin 3 → Nat) a ≤ S8x512x256.size a) (i6 : ∀ a, (![6, 0, 0] : Fin 3 → Nat) a + (![1, 512, 256] : Fin 3 → Nat) a ≤ S8x512x256.size a) (i7 : ∀ a, (![7, 0, 0] : Fin 3 → Nat) a + (![1, 512, 256] : Fin 3 → Nat) a ≤ S8x512x256.size a)
    (hx : ∑ q : Fin 8, x (ix3 q r k) = val_main_v2 (F := Ideal) (m (c.tc.loc main_arg3)) (ix3 (lay t) (row t r) k)) :
    k0_pay6 (F := Ideal) (k0_pay2 (View.ld x (Rect.unit ![0, 0, 0] ![1, 512, 256] i0)) (View.ld x (Rect.unit ![1, 0, 0] ![1, 512, 256] i1)) (View.ld x (Rect.unit ![2, 0, 0] ![1, 512, 256] i2)) (View.ld x (Rect.unit ![3, 0, 0] ![1, 512, 256] i3)) (View.ld x (Rect.unit ![4, 0, 0] ![1, 512, 256] i4)) (View.ld x (Rect.unit ![5, 0, 0] ![1, 512, 256] i5)) (View.ld x (Rect.unit ![6, 0, 0] ![1, 512, 256] i6)) (View.ld x (Rect.unit ![7, 0, 0] ![1, 512, 256] i7))) (ix3 0 r k) = val_main_v2 (F := Ideal) (m (c.tc.loc main_arg3)) (ix3 (lay t) (row t r) k)
    ∧ k0_pay1 (F := Ideal) (k0_pay9 (k0_pay2 (View.ld x (Rect.unit ![0, 0, 0] ![1, 512, 256] i0)) (View.ld x (Rect.unit ![1, 0, 0] ![1, 512, 256] i1)) (View.ld x (Rect.unit ![2, 0, 0] ![1, 512, 256] i2)) (View.ld x (Rect.unit ![3, 0, 0] ![1, 512, 256] i3)) (View.ld x (Rect.unit ![4, 0, 0] ![1, 512, 256] i4)) (View.ld x (Rect.unit ![5, 0, 0] ![1, 512, 256] i5)) (View.ld x (Rect.unit ![6, 0, 0] ![1, 512, 256] i6)) (View.ld x (Rect.unit ![7, 0, 0] ![1, 512, 256] i7))) (k0_pay3 (iblk m c 1 t)) (iblk m c 2 t)) (k0_pay10 (iblk m c 0 t)) (ix3 0 r k) = val_main_v26 (F := Ideal) (m (c.tc.loc main_arg0)) (m (c.tc.loc main_arg1)) (m (c.tc.loc main_arg2)) (m (c.tc.loc main_arg3)) (ix3 (lay t) (row t r) k)
    ∧ k0_pay7 (F := Ideal) (k0_pay2 (View.ld x (Rect.unit ![0, 0, 0] ![1, 512, 256] i0)) (View.ld x (Rect.unit ![1, 0, 0] ![1, 512, 256] i1)) (View.ld x (Rect.unit ![2, 0, 0] ![1, 512, 256] i2)) (View.ld x (Rect.unit ![3, 0, 0] ![1, 512, 256] i3)) (View.ld x (Rect.unit ![4, 0, 0] ![1, 512, 256] i4)) (View.ld x (Rect.unit ![5, 0, 0] ![1, 512, 256] i5)) (View.ld x (Rect.unit ![6, 0, 0] ![1, 512, 256] i6)) (View.ld x (Rect.unit ![7, 0, 0] ![1, 512, 256] i7))) (k0_pay3 (iblk m c 1 t)) (ix3 0 r k) = val_main_v7 (F := Ideal) (m (c.tc.loc main_arg1)) (m (c.tc.loc main_arg3)) (ix3 (lay t) (row t r) k)
    ∧ k0_pay8 (F := Ideal) (k0_pay2 (View.ld x (Rect.unit ![0, 0, 0] ![1, 512, 256] i0)) (View.ld x (Rect.unit ![1, 0, 0] ![1, 512, 256] i1)) (View.ld x (Rect.unit ![2, 0, 0] ![1, 512, 256] i2)) (View.ld x (Rect.unit ![3, 0, 0] ![1, 512, 256] i3)) (View.ld x (Rect.unit ![4, 0, 0] ![1, 512, 256] i4)) (View.ld x (Rect.unit ![5, 0, 0] ![1, 512, 256] i5)) (View.ld x (Rect.unit ![6, 0, 0] ![1, 512, 256] i6)) (View.ld x (Rect.unit ![7, 0, 0] ![1, 512, 256] i7))) (iblk m c 2 t) (ix3 0 r k) = val_main_v13 (F := Ideal) (m (c.tc.loc main_arg2)) (m (c.tc.loc main_arg3)) (ix3 (lay t) (row t r) k) := by
  obtain ⟨a0, a1, a2, a3⟩ := step_apply (k0_pay2 (View.ld x (Rect.unit ![0, 0, 0] ![1, 512, 256] i0)) (View.ld x (Rect.unit ![1, 0, 0] ![1, 512, 256] i1)) (View.ld x (Rect.unit ![2, 0, 0] ![1, 512, 256] i2)) (View.ld x (Rect.unit ![3, 0, 0] ![1, 512, 256] i3)) (View.ld x (Rect.unit ![4, 0, 0] ![1, 512, 256] i4)) (View.ld x (Rect.unit ![5, 0, 0] ![1, 512, 256] i5)) (View.ld x (Rect.unit ![6, 0, 0] ![1, 512, 256] i6)) (View.ld x (Rect.unit ![7, 0, 0] ![1, 512, 256] i7))) (iblk m c 0 t) (iblk m c 1 t) (iblk m c 2 t) r k
  obtain ⟨b1, b2, b3⟩ := step (m (c.tc.loc main_arg0)) (m (c.tc.loc main_arg1)) (m (c.tc.loc main_arg2)) (m (c.tc.loc main_arg3)) (lay t) (row t r) k
  obtain ⟨w, p, v⟩ := read m c t r k
  dsimp only at w p v
  rw [sum_apply x i0 i1 i2 i3 i4 i5 i6 i7 r k, hx] at a0 a1 a2 a3
  exact ⟨a0, a1.trans (Eq.trans (by rw [w, p, v]) b1.symm), a2.trans (Eq.trans (by rw [p]) b2.symm), a3.trans (Eq.trans (by rw [v]) b3.symm)⟩

/-- What a grid point leaves in the four results' blocks is the reference's. -/
theorem block (c : Dev nD) (t : Fin cfg0.N) (z : Fin 1) (r : Fin 512) (k : Fin 256) :
    (outsAt0 m c t).1 (ix3 z r k) = val_main_v2 (F := Ideal) (m (c.tc.loc main_arg3)) (ix3 (lay t) (row t r) k)
    ∧ (outsAt0 m c t).2.1 (ix3 z r k) = val_main_v26 (F := Ideal) (m (c.tc.loc main_arg0)) (m (c.tc.loc main_arg1)) (m (c.tc.loc main_arg2)) (m (c.tc.loc main_arg3)) (ix3 (lay t) (row t r) k)
    ∧ (outsAt0 m c t).2.2.1 (ix3 z r k) = val_main_v7 (F := Ideal) (m (c.tc.loc main_arg1)) (m (c.tc.loc main_arg3)) (ix3 (lay t) (row t r) k)
    ∧ (outsAt0 m c t).2.2.2 (ix3 z r k) = val_main_v13 (F := Ideal) (m (c.tc.loc main_arg2)) (m (c.tc.loc main_arg3)) (ix3 (lay t) (row t r) k) := by
  obtain rfl : z = 0 := Fin.fin_one_eq_zero z
  have hN := lt_of_lt_of_eq t.isLt N_0
  have hp := fun q => read_parts m c t q r k
  have hg := gradient (m (c.tc.loc main_arg0)) (m (c.tc.loc main_arg1)) (m (c.tc.loc main_arg2)) (m (c.tc.loc main_arg3)) (row t r) k
  have ht : t.val / 2 = 0 := by omega
  rcases ht with ht
  · have hl : lay t = 0 := Fin.ext ht

    have he := entry m c t r k (iblk m c 3 t) inb_S8x512x256_S1x512x256_0_0_0 inb_S8x512x256_S1x512x256_1_0_0 inb_S8x512x256_S1x512x256_2_0_0 inb_S8x512x256_S1x512x256_3_0_0 inb_S8x512x256_S1x512x256_4_0_0 inb_S8x512x256_S1x512x256_5_0_0 inb_S8x512x256_S1x512x256_6_0_0 inb_S8x512x256_S1x512x256_7_0_0 (Eq.trans (Finset.sum_congr rfl fun q _ => (hp q) ht) (Eq.trans (hg).symm (by rw [hl])))
    unfold outsAt0
    refine ⟨?_, ?_, ?_, ?_⟩ <;> frame_out
    exacts [he.1, he.2.1, he.2.2.1, he.2.2.2]

/-! ## The results -/

/-- The gradients are the reference's. -/
theorem result0 (c : Dev nD) : (dats m 0 c).arrAt 4 (cfgs 0).N = val_main_v2 (F := Ideal) (m (c.tc.loc main_arg3)) := by
  refine (dats m 0 c).arrAt_eq_of_covers 4 _ (by decide +kernel) fun t hf y => ?_
  blk_simp
  rw [after0_4]
  have e : ∀ (z : Fin 1) (r : Fin 512) (k : Fin 256), ((View.whole main_v0_0).slice (win0_4.rect t)).emb (ix3 z r k) = ix3 (lay t) (row t r) k := fun z r k => by blk_ext [blocks t, lay, row]
  idx_vars y
  rw [e]
  exact (block m c t _ _ _).1

/-- The updates are the reference's. -/
theorem result1 (c : Dev nD) : (dats m 0 c).arrAt 5 (cfgs 0).N = val_main_v26 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  have e : ∀ (z : Fin 1) (r : Fin 512) (k : Fin 256), ((View.whole main_v0_1).slice (win0_5.rect t)).emb (ix3 z r k) = ix3 (lay t) (row t r) k := fun z r k => by blk_ext [blocks t, lay, row]
  idx_vars y
  rw [e]
  exact (block m c t _ _ _).2.1

/-- The new first moments are the reference's. -/
theorem result2 (c : Dev nD) : (dats m 0 c).arrAt 6 (cfgs 0).N = val_main_v7 (F := Ideal) (m (c.tc.loc main_arg1)) (m (c.tc.loc main_arg3)) := by
  refine (dats m 0 c).arrAt_eq_of_covers 6 _ (by decide +kernel) fun t hf y => ?_
  blk_simp
  rw [after0_6]
  have e : ∀ (z : Fin 1) (r : Fin 512) (k : Fin 256), ((View.whole main_v0_2).slice (win0_6.rect t)).emb (ix3 z r k) = ix3 (lay t) (row t r) k := fun z r k => by blk_ext [blocks t, lay, row]
  idx_vars y
  rw [e]
  exact (block m c t _ _ _).2.2.1

/-- The new second moments are the reference's. -/
theorem result3 (c : Dev nD) : (dats m 0 c).arrAt 7 (cfgs 0).N = val_main_v13 (F := Ideal) (m (c.tc.loc main_arg2)) (m (c.tc.loc main_arg3)) := by
  refine (dats m 0 c).arrAt_eq_of_covers 7 _ (by decide +kernel) fun t hf y => ?_
  blk_simp
  rw [after0_7]
  have e : ∀ (z : Fin 1) (r : Fin 512) (k : Fin 256), ((View.whole main_v0_3).slice (win0_7.rect t)).emb (ix3 z r k) = ix3 (lay t) (row t r) k := fun z r k => by blk_ext [blocks t, lay, row]
  idx_vars y
  rw [e]
  exact (block m c t _ _ _).2.2.2

/-! ## The claims -/

/-- The two constants that the idealised kernel names are the ones the kernel holds. -/
theorem preserves : Cert.preserves_Kernel18_Kernel18Ideal :=
  ⟨IdealRules.named_const.statement Cert.Kernel18Ideal.κ "c1" .f32 0x3FC48605#32 ((8388608 / 5463681 : ℝ) : EReal) rfl, IdealRules.named_const.statement Cert.Kernel18Ideal.κ "c2" .f32 0x42C8E6D3#32 ((268435456 / 2672307 : ℝ) : EReal) rfl⟩

set_option maxHeartbeats 1600000 in
/-- On the extended reals, the kernel and the reference compute the same gradients, updates and moments. -/
theorem algebraic : Cert.algebraic_Kernel18Ideal_Reference18Ideal := by
  pair_intro
  · run_from Cert.Kernel18Ideal.Gen.run_main m g
  · run_from Cert.Reference18Ideal.Value.run m' g'
    · obtain ⟨a0, a1, a2, a3⟩ := hagree c
      exact (Eq.trans (val_main_v2_eq _) (by simp only [a3])).trans (result0 m c).symm
    · obtain ⟨a0, a1, a2, a3⟩ := hagree c
      exact (result1 m c).symm
    · obtain ⟨a0, a1, a2, a3⟩ := hagree c
      exact (Eq.trans (val_main_v7_eq _ _) (by simp only [a1, a3])).trans (result2 m c).symm
    · obtain ⟨a0, a1, a2, a3⟩ := hagree c
      exact (Eq.trans (val_main_v13_eq _ _) (by simp only [a2, a3])).trans (result3 m c).symm
-- ==== Proof.ModulationStep.lean ====
/- The optimiser's step of the modulations' weights: what the kernel leaves is the gradient, the update and the new moments that the reference computes. -/
module

public import proofs.«01_k».proof.Proof.Gen.Kernel19Ideal.Value
public import proofs.«01_k».proof.Proof.Gen.Reference19Ideal.Read
public import Idealize.ShloMosaic.Lib.Pipeline.ValueKit
public import Idealize.ShloMosaic.Lib.Pointwise
public import Idealize.ShloMosaic.Lib.Claim
public import proofs.«01_k».proof.Defs
public import proofs.«01_k».proof.Proof.AdamW

@[expose] public section

set_option maxRecDepth 16384

noncomputable section

open Idealize.ShloMosaic Idealize.ShloMosaic.TcCoe Idealize.SL.Sem
open Idealize.ShloMosaic.Pipeline (Dat)
open scoped BigOperators

namespace Cert.ModulationStep

open Cert.Kernel19Ideal Cert.Kernel19Ideal.Gen
open Cert.Reference19Ideal.Read

/-! ## What the body computes from a block -/

/-- The two named constants' values. -/
theorem constants : Named.named (F := Ideal) Cert.Kernel19Ideal.κ "c1" (φ := .f32) 0x3FC48605#32 = ((8388608 / 5463681 : ℝ) : EReal)
    ∧ Named.named (F := Ideal) Cert.Kernel19Ideal.κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- The results of the body at an entry, from the gradient `g` there: the gradient, the update and the new moments. -/
theorem step_apply (g : Vec Ideal S1x512x768 .f32) (w p v : Vec Ideal S1x512x768 .f32) (r : Fin 512) (k : Fin 768) :
    k0_pay8 (F := Ideal) g (ix3 0 r k) = g (ix3 0 r k)
    ∧ k0_pay1 (F := Ideal) (k0_pay11 g p) (k0_pay12 g v) k0_pay13 w (ix3 0 r k) = AdamW.delta (w (ix3 0 r k)) (p (ix3 0 r k)) (v (ix3 0 r k)) (g (ix3 0 r k))
    ∧ k0_pay9 (F := Ideal) g p (ix3 0 r k) = AdamW.moment (p (ix3 0 r k)) (g (ix3 0 r k))
    ∧ k0_pay10 (F := Ideal) g v (ix3 0 r k) = AdamW.square (v (ix3 0 r k)) (g (ix3 0 r k)) := by
  rw [← AdamW.scaled_eq, ← constants.1, ← constants.2]
  refine ⟨?_, ?_, ?_, ?_⟩ <;> pointwise [k0_pay1, k0_pay5, k0_pay6, k0_pay7, k0_pay8, k0_pay9, k0_pay10, k0_pay11, k0_pay12, k0_pay13, AdamW.moment, AdamW.square, AdamW.scaled]

/-- The reference's gradient of each layer. -/
theorem gradient (X0 X1 X2 : (⟨S4x1024x768, .f32⟩ : BufTy).Contents (Elt Ideal)) (X3 X4 X5 X6 : (⟨S1x1024x768, .f32⟩ : BufTy).Contents (Elt Ideal)) (r : Fin 1024) (k : Fin 768) :
    val_main_v8 (F := Ideal) X3 X4 X5 X6 (ix3 0 r k) = X3 (ix3 0 r k)
    ∧ val_main_v8 (F := Ideal) X3 X4 X5 X6 (ix3 1 r k) = X4 (ix3 0 r k)
    ∧ val_main_v8 (F := Ideal) X3 X4 X5 X6 (ix3 2 r k) = X5 (ix3 0 r k)
    ∧ val_main_v8 (F := Ideal) X3 X4 X5 X6 (ix3 3 r k) = X6 (ix3 0 r k) := by
  refine ⟨?_, ?_, ?_, ?_⟩ <;> pointwise [val_main_cst, val_main_v0, val_main_cst_0, val_main_v1, val_main_cst_1, val_main_v2, val_main_cst_2, val_main_v3, val_main_v4, val_main_v5, val_main_v6, val_main_v7, val_main_v8, val_main_cst_3, val_main_v9, val_main_v10, val_main_cst_4, val_main_v11, val_main_v12, val_main_v13, val_main_cst_5, val_main_v14, val_main_v15, val_main_v16, val_main_cst_6, val_main_v17, val_main_v18, val_main_v19, val_main_cst_7, val_main_v20, val_main_v21, val_main_cst_8, val_main_v22, val_main_v23, val_main_v24, val_main_cst_9, val_main_v25, val_main_v26, val_main_v27, val_main_cst_10, val_main_v28, val_main_v29, val_main_v30, val_main_cst_11, val_main_v31, val_main_v32] <;> exact (Fin.sum_univ_one _)

/-- The reference's other results at an entry. -/
theorem step (X0 X1 X2 : (⟨S4x1024x768, .f32⟩ : BufTy).Contents (Elt Ideal)) (X3 X4 X5 X6 : (⟨S1x1024x768, .f32⟩ : BufTy).Contents (Elt Ideal)) (l : Fin 4) (r : Fin 1024) (k : Fin 768) :
    val_main_v32 (F := Ideal) X0 X1 X2 X3 X4 X5 X6 (ix3 l r k) = AdamW.delta (X0 (ix3 l r k)) (X1 (ix3 l r k)) (X2 (ix3 l r k)) (val_main_v8 (F := Ideal) X3 X4 X5 X6 (ix3 l r k))
    ∧ val_main_v13 (F := Ideal) X1 X3 X4 X5 X6 (ix3 l r k) = AdamW.moment (X1 (ix3 l r k)) (val_main_v8 (F := Ideal) X3 X4 X5 X6 (ix3 l r k))
    ∧ val_main_v19 (F := Ideal) X2 X3 X4 X5 X6 (ix3 l r k) = AdamW.square (X2 (ix3 l r k)) (val_main_v8 (F := Ideal) X3 X4 X5 X6 (ix3 l r k)) := by
  refine ⟨?_, ?_, ?_⟩ <;> pointwise [val_main_cst_3, val_main_v9, val_main_v10, val_main_cst_4, val_main_v11, val_main_v12, val_main_v13, val_main_cst_5, val_main_v14, val_main_v15, val_main_v16, val_main_cst_6, val_main_v17, val_main_v18, val_main_v19, val_main_cst_7, val_main_v20, val_main_v21, val_main_cst_8, val_main_v22, val_main_v23, val_main_v24, val_main_cst_9, val_main_v25, val_main_v26, val_main_v27, val_main_cst_10, val_main_v28, val_main_v29, val_main_v30, val_main_cst_11, val_main_v31, val_main_v32, AdamW.moment, AdamW.square, AdamW.delta]

/-! ## The blocks -/

variable (m : (ℓ : Loc nD τ sig) → Buf (Elt Ideal) ℓ)

/-- Which block of each array grid point `t` works on: layer `t / 2`, row block `t % 2`; of a layer's parts, the same rows while it is that layer's turn. -/
theorem blocks : ∀ t : Fin cfg0.N, win0_0.index t = ![t.val / 2, t.val % 2, 0] ∧ win0_1.index t = ![t.val / 2, t.val % 2, 0] ∧ win0_2.index t = ![t.val / 2, t.val % 2, 0] ∧ win0_7.index t = ![t.val / 2, t.val % 2, 0] ∧ win0_8.index t = ![t.val / 2, t.val % 2, 0] ∧ win0_9.index t = ![t.val / 2, t.val % 2, 0] ∧ win0_10.index t = ![t.val / 2, t.val % 2, 0]
    ∧ (t.val / 2 = 0 → win0_3.index t = ![0, t.val % 2, 0]) ∧ (t.val / 2 = 1 → win0_4.index t = ![0, t.val % 2, 0]) ∧ (t.val / 2 = 2 → win0_5.index t = ![0, t.val % 2, 0]) ∧ (t.val / 2 = 3 → win0_6.index t = ![0, t.val % 2, 0]) :=
  (by decide +kernel : ∀ t : Fin grid0.N, _)

/-- The layer that block `t` belongs to. -/
def lay (t : Fin cfg0.N) : Fin 4 := ⟨t.val / 2, by have := lt_of_lt_of_eq t.isLt N_0; omega⟩

/-- The row of the arrays that row `r` of block `t` is. -/
def row (t : Fin cfg0.N) (r : Fin 512) : Fin 1024 := ⟨t.val % 2 * 512 + r.val, by have := lt_of_lt_of_eq t.isLt N_0; have := r.isLt; omega⟩

/-- A block of the weight and of the moments. -/
theorem read (c : Dev nD) (t : Fin cfg0.N) (r : Fin 512) (k : Fin 768) :
    (show Vec Ideal S1x512x768 .f32 from iblk m c 0 t) (ix3 0 r k) = (m (c.tc.loc main_arg0)) (ix3 (lay t) (row t r) k)
    ∧ (show Vec Ideal S1x512x768 .f32 from iblk m c 1 t) (ix3 0 r k) = (m (c.tc.loc main_arg1)) (ix3 (lay t) (row t r) k)
    ∧ (show Vec Ideal S1x512x768 .f32 from iblk m c 2 t) (ix3 0 r k) = (m (c.tc.loc main_arg2)) (ix3 (lay t) (row t r) k) := by
  refine ⟨?_, ?_, ?_⟩ <;> blk_point [iblk, V, blocks t, lay, row]

/-- A block of the parts of the layer whose turn it is. -/
theorem read_parts (c : Dev nD) (t : Fin cfg0.N) (q : Fin 1) (r : Fin 512) (k : Fin 768) :
    (t.val / 2 = 0 → (show Vec Ideal S1x512x768 .f32 from iblk m c 3 t) (ix3 q r k) = (m (c.tc.loc main_arg3)) (ix3 q (row t r) k))
    ∧ (t.val / 2 = 1 → (show Vec Ideal S1x512x768 .f32 from iblk m c 4 t) (ix3 q r k) = (m (c.tc.loc main_arg4)) (ix3 q (row t r) k))
    ∧ (t.val / 2 = 2 → (show Vec Ideal S1x512x768 .f32 from iblk m c 5 t) (ix3 q r k) = (m (c.tc.loc main_arg5)) (ix3 q (row t r) k))
    ∧ (t.val / 2 = 3 → (show Vec Ideal S1x512x768 .f32 from iblk m c 6 t) (ix3 q r k) = (m (c.tc.loc main_arg6)) (ix3 q (row t r) k)) := by
  refine ⟨fun h => ?_, fun h => ?_, fun h => ?_, fun h => ?_⟩ <;> blk_point [iblk, V, blocks t, h, row]

/-- What the body leaves at an entry, from parts whose sum is the reference's gradient there: the reference's results. -/
theorem entry (c : Dev nD) (t : Fin cfg0.N) (r : Fin 512) (k : Fin 768) (x : Vec Ideal S1x512x768 .f32)
    (hx : x (ix3 0 r k) = val_main_v8 (F := Ideal) (m (c.tc.loc main_arg3)) (m (c.tc.loc main_arg4)) (m (c.tc.loc main_arg5)) (m (c.tc.loc main_arg6)) (ix3 (lay t) (row t r) k)) :
    k0_pay8 (F := Ideal) x (ix3 0 r k) = val_main_v8 (F := Ideal) (m (c.tc.loc main_arg3)) (m (c.tc.loc main_arg4)) (m (c.tc.loc main_arg5)) (m (c.tc.loc main_arg6)) (ix3 (lay t) (row t r) k)
    ∧ k0_pay1 (F := Ideal) (k0_pay11 x (iblk m c 1 t)) (k0_pay12 x (iblk m c 2 t)) k0_pay13 (iblk m c 0 t) (ix3 0 r k) = val_main_v32 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix3 (lay t) (row t r) k)
    ∧ k0_pay9 (F := Ideal) x (iblk m c 1 t) (ix3 0 r k) = val_main_v13 (F := Ideal) (m (c.tc.loc main_arg1)) (m (c.tc.loc main_arg3)) (m (c.tc.loc main_arg4)) (m (c.tc.loc main_arg5)) (m (c.tc.loc main_arg6)) (ix3 (lay t) (row t r) k)
    ∧ k0_pay10 (F := Ideal) x (iblk m c 2 t) (ix3 0 r k) = val_main_v19 (F := Ideal) (m (c.tc.loc main_arg2)) (m (c.tc.loc main_arg3)) (m (c.tc.loc main_arg4)) (m (c.tc.loc main_arg5)) (m (c.tc.loc main_arg6)) (ix3 (lay t) (row t r) k) := by
  obtain ⟨a0, a1, a2, a3⟩ := step_apply x (iblk m c 0 t) (iblk m c 1 t) (iblk m c 2 t) r k
  obtain ⟨b1, b2, b3⟩ := step (m (c.tc.loc main_arg0)) (m (c.tc.loc main_arg1)) (m (c.tc.loc main_arg2)) (m (c.tc.loc main_arg3)) (m (c.tc.loc main_arg4)) (m (c.tc.loc main_arg5)) (m (c.tc.loc main_arg6)) (lay t) (row t r) k
  obtain ⟨w, p, v⟩ := read m c t r k
  dsimp only at w p v
  rw [hx] at a0 a1 a2 a3
  exact ⟨a0, a1.trans (Eq.trans (by rw [w, p, v]) b1.symm), a2.trans (Eq.trans (by rw [p]) b2.symm), a3.trans (Eq.trans (by rw [v]) b3.symm)⟩

/-- What a grid point leaves in the four results' blocks is the reference's. -/
theorem block (c : Dev nD) (t : Fin cfg0.N) (z : Fin 1) (r : Fin 512) (k : Fin 768) :
    (outsAt0 m c t.val t.isLt).1 (ix3 z r k) = val_main_v8 (F := Ideal) (m (c.tc.loc main_arg3)) (m (c.tc.loc main_arg4)) (m (c.tc.loc main_arg5)) (m (c.tc.loc main_arg6)) (ix3 (lay t) (row t r) k)
    ∧ (outsAt0 m c t.val t.isLt).2.1 (ix3 z r k) = val_main_v32 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix3 (lay t) (row t r) k)
    ∧ (outsAt0 m c t.val t.isLt).2.2.1 (ix3 z r k) = val_main_v13 (F := Ideal) (m (c.tc.loc main_arg1)) (m (c.tc.loc main_arg3)) (m (c.tc.loc main_arg4)) (m (c.tc.loc main_arg5)) (m (c.tc.loc main_arg6)) (ix3 (lay t) (row t r) k)
    ∧ (outsAt0 m c t.val t.isLt).2.2.2 (ix3 z r k) = val_main_v19 (F := Ideal) (m (c.tc.loc main_arg2)) (m (c.tc.loc main_arg3)) (m (c.tc.loc main_arg4)) (m (c.tc.loc main_arg5)) (m (c.tc.loc main_arg6)) (ix3 (lay t) (row t r) k) := by
  obtain rfl : z = 0 := Fin.fin_one_eq_zero z
  have hN := lt_of_lt_of_eq t.isLt N_0
  have hp := fun q => read_parts m c t q r k
  have hg := gradient (m (c.tc.loc main_arg0)) (m (c.tc.loc main_arg1)) (m (c.tc.loc main_arg2)) (m (c.tc.loc main_arg3)) (m (c.tc.loc main_arg4)) (m (c.tc.loc main_arg5)) (m (c.tc.loc main_arg6)) (row t r) k
  have ht : t.val / 2 = 0 ∨ t.val / 2 = 1 ∨ t.val / 2 = 2 ∨ t.val / 2 = 3 := by omega
  rcases ht with ht | ht | ht | ht
  · have hl : lay t = 0 := Fin.ext ht
    rw [outsAt0_A m c t (by omega) (by omega) (by omega) (by omega)]
    have he := entry m c t r k (iblk m c 3 t)  (Eq.trans ((hp 0).1 ht) (Eq.trans (hg.1).symm (by rw [hl])))
    refine ⟨?_, ?_, ?_, ?_⟩ <;> frame_out
    exacts [he.1, he.2.1, he.2.2.1, he.2.2.2]
  · have hl : lay t = 1 := Fin.ext ht
    rw [outsAt0_B m c t (by omega) (by omega) (by omega) (by omega)]
    have he := entry m c t r k (iblk m c 4 t)  (Eq.trans ((hp 0).2.1 ht) (Eq.trans (hg.2.1).symm (by rw [hl])))
    refine ⟨?_, ?_, ?_, ?_⟩ <;> frame_out
    exacts [he.1, he.2.1, he.2.2.1, he.2.2.2]
  · have hl : lay t = 2 := Fin.ext ht
    rw [outsAt0_C m c t (by omega) (by omega) (by omega) (by omega)]
    have he := entry m c t r k (iblk m c 5 t)  (Eq.trans ((hp 0).2.2.1 ht) (Eq.trans (hg.2.2.1).symm (by rw [hl])))
    refine ⟨?_, ?_, ?_, ?_⟩ <;> frame_out
    exacts [he.1, he.2.1, he.2.2.1, he.2.2.2]
  · have hl : lay t = 3 := Fin.ext ht
    rw [outsAt0_D m c t (by omega) (by omega) (by omega) (by omega)]
    have he := entry m c t r k (iblk m c 6 t)  (Eq.trans ((hp 0).2.2.2 ht) (Eq.trans (hg.2.2.2).symm (by rw [hl])))
    refine ⟨?_, ?_, ?_, ?_⟩ <;> frame_out
    exacts [he.1, he.2.1, he.2.2.1, he.2.2.2]

/-! ## The results -/

/-- The gradients are the reference's. -/
theorem result0 (c : Dev nD) : (dats m 0 c).arrAt 7 (cfgs 0).N = val_main_v8 (F := Ideal) (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after0_7]
  have e : ∀ (z : Fin 1) (r : Fin 512) (k : Fin 768), ((View.whole main_v0_0).slice (win0_7.rect t)).emb (ix3 z r k) = ix3 (lay t) (row t r) k := fun z r k => by blk_ext [blocks t, lay, row]
  idx_vars y
  rw [e]
  exact (block m c t _ _ _).1

/-- The updates are the reference's. -/
theorem result1 (c : Dev nD) : (dats m 0 c).arrAt 8 (cfgs 0).N = val_main_v32 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after0_8]
  have e : ∀ (z : Fin 1) (r : Fin 512) (k : Fin 768), ((View.whole main_v0_1).slice (win0_8.rect t)).emb (ix3 z r k) = ix3 (lay t) (row t r) k := fun z r k => by blk_ext [blocks t, lay, row]
  idx_vars y
  rw [e]
  exact (block m c t _ _ _).2.1

/-- The new first moments are the reference's. -/
theorem result2 (c : Dev nD) : (dats m 0 c).arrAt 9 (cfgs 0).N = val_main_v13 (F := Ideal) (m (c.tc.loc main_arg1)) (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after0_9]
  have e : ∀ (z : Fin 1) (r : Fin 512) (k : Fin 768), ((View.whole main_v0_2).slice (win0_9.rect t)).emb (ix3 z r k) = ix3 (lay t) (row t r) k := fun z r k => by blk_ext [blocks t, lay, row]
  idx_vars y
  rw [e]
  exact (block m c t _ _ _).2.2.1

/-- The new second moments are the reference's. -/
theorem result3 (c : Dev nD) : (dats m 0 c).arrAt 10 (cfgs 0).N = val_main_v19 (F := Ideal) (m (c.tc.loc main_arg2)) (m (c.tc.loc main_arg3)) (m (c.tc.loc main_arg4)) (m (c.tc.loc main_arg5)) (m (c.tc.loc main_arg6)) := by
  refine (dats m 0 c).arrAt_eq_of_covers 10 _ (by decide +kernel) fun t hf y => ?_
  blk_simp
  rw [after0_10]
  have e : ∀ (z : Fin 1) (r : Fin 512) (k : Fin 768), ((View.whole main_v0_3).slice (win0_10.rect t)).emb (ix3 z r k) = ix3 (lay t) (row t r) k := fun z r k => by blk_ext [blocks t, lay, row]
  idx_vars y
  rw [e]
  exact (block m c t _ _ _).2.2.2

/-! ## The claims -/

/-- The two constants that the idealised kernel names are the ones the kernel holds. -/
theorem preserves : Cert.preserves_Kernel19_Kernel19Ideal :=
  ⟨IdealRules.named_const.statement Cert.Kernel19Ideal.κ "c1" .f32 0x3FC48605#32 ((8388608 / 5463681 : ℝ) : EReal) rfl, IdealRules.named_const.statement Cert.Kernel19Ideal.κ "c2" .f32 0x42C8E6D3#32 ((268435456 / 2672307 : ℝ) : EReal) rfl⟩

set_option maxHeartbeats 1600000 in
/-- On the extended reals, the kernel and the reference compute the same gradients, updates and moments. -/
theorem algebraic : Cert.algebraic_Kernel19Ideal_Reference19Ideal := by
  pair_intro
  · run_from Cert.Kernel19Ideal.Gen.run_main m g
  · run_from Cert.Reference19Ideal.Value.run m' g'
    · obtain ⟨a0, a1, a2, a3, a4, a5, a6⟩ := hagree c
      exact (Eq.trans (val_main_v8_eq _ _ _ _) (by simp only [a3, a4, a5, a6])).trans (result0 m c).symm
    · obtain ⟨a0, a1, a2, a3, a4, a5, a6⟩ := hagree c
      rw [val_main_v32_eq, a0, a1, a2, a3, a4, a5, a6]
      exact (result1 m c).symm
    · obtain ⟨a0, a1, a2, a3, a4, a5, a6⟩ := hagree c
      exact (Eq.trans (val_main_v13_eq _ _ _ _ _) (by simp only [a1, a3, a4, a5, a6])).trans (result2 m c).symm
    · obtain ⟨a0, a1, a2, a3, a4, a5, a6⟩ := hagree c
      exact (Eq.trans (val_main_v19_eq _ _ _ _ _) (by simp only [a2, a3, a4, a5, a6])).trans (result3 m c).symm
-- ==== Proof.RowWeightsStep.lean ====
/- The optimiser's step, in one call, of the five weights that are divided by rows among the devices: what the kernel leaves, layer by layer, is each weight's gradient summed over the devices, update and new moments that the reference computes. -/
module

public import proofs.«01_k».proof.Proof.Gen.Kernel20Ideal.Value
public import proofs.«01_k».proof.Proof.Gen.Reference20Ideal.Read
public import Idealize.ShloMosaic.Lib.Pipeline.ValueKit
public import Idealize.ShloMosaic.Lib.Pointwise
public import Idealize.ShloMosaic.Lib.Claim
public import proofs.«01_k».proof.Defs
public import proofs.«01_k».proof.Proof.AdamW

@[expose] public section

set_option maxRecDepth 16384

noncomputable section

open Idealize.ShloMosaic Idealize.ShloMosaic.TcCoe Idealize.SL.Sem
open Idealize.ShloMosaic.Pipeline (Dat)
open scoped BigOperators

namespace Cert.RowWeightsStep

open Cert.Kernel20Ideal Cert.Kernel20Ideal.Gen
open Cert.Reference20Ideal.Read

/-! ## What the body computes from a block -/

/-- The two named constants' values. -/
theorem constants : Named.named (F := Ideal) Cert.Kernel20Ideal.κ "c1" (φ := .f32) 0x3FC48605#32 = ((8388608 / 5463681 : ℝ) : EReal)
    ∧ Named.named (F := Ideal) Cert.Kernel20Ideal.κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- The results of the body at an entry, from the gradient `g` there: the gradient, the update and the new moments. -/
theorem step_apply (g : FVec Ideal S128x1024 .f32) (w p v : Vec Ideal S1x128x1024 .f32) (r : Fin 128) (k : Fin 1024) :
    k0_pay11 (F := Ideal) g (ix3 0 r k) = g (ix2 r k)
    ∧ k0_pay1 (F := Ideal) (k0_pay14 g (k0_pay8 p) v) (k0_pay15 w) (ix3 0 r k) = AdamW.delta (w (ix3 0 r k)) (p (ix3 0 r k)) (v (ix3 0 r k)) (g (ix2 r k))
    ∧ k0_pay12 (F := Ideal) g (k0_pay8 p) (ix3 0 r k) = AdamW.moment (p (ix3 0 r k)) (g (ix2 r k))
    ∧ k0_pay13 (F := Ideal) g v (ix3 0 r k) = AdamW.square (v (ix3 0 r k)) (g (ix2 r k)) := by
  rw [← AdamW.scaled_eq, ← constants.1, ← constants.2]
  refine ⟨?_, ?_, ?_, ?_⟩ <;> pointwise [k0_pay1, k0_pay7, k0_pay8, k0_pay9, k0_pay10, k0_pay11, k0_pay12, k0_pay13, k0_pay14, k0_pay15, AdamW.moment, AdamW.square, AdamW.scaled]

/-- The gradient that the body sums from the block of the 8 parts. -/
theorem sum_apply (x : Vec Ideal S8x128x1024 .bf16) (i0 : ∀ a, (![0, 0, 0] : Fin 3 → Nat) a + (![1, 128, 1024] : Fin 3 → Nat) a ≤ S8x128x1024.size a) (i1 : ∀ a, (![1, 0, 0] : Fin 3 → Nat) a + (![1, 128, 1024] : Fin 3 → Nat) a ≤ S8x128x1024.size a) (i2 : ∀ a, (![2, 0, 0] : Fin 3 → Nat) a + (![1, 128, 1024] : Fin 3 → Nat) a ≤ S8x128x1024.size a) (i3 : ∀ a, (![3, 0, 0] : Fin 3 → Nat) a + (![1, 128, 1024] : Fin 3 → Nat) a ≤ S8x128x1024.size a) (i4 : ∀ a, (![4, 0, 0] : Fin 3 → Nat) a + (![1, 128, 1024] : Fin 3 → Nat) a ≤ S8x128x1024.size a) (i5 : ∀ a, (![5, 0, 0] : Fin 3 → Nat) a + (![1, 128, 1024] : Fin 3 → Nat) a ≤ S8x128x1024.size a) (i6 : ∀ a, (![6, 0, 0] : Fin 3 → Nat) a + (![1, 128, 1024] : Fin 3 → Nat) a ≤ S8x128x1024.size a) (i7 : ∀ a, (![7, 0, 0] : Fin 3 → Nat) a + (![1, 128, 1024] : Fin 3 → Nat) a ≤ S8x128x1024.size a) (r : Fin 128) (k : Fin 1024) :
    k0_pay7 (F := Ideal) (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7)) (ix2 r k) = ∑ q : Fin 8, x (ix3 q r k) := by
  have h : ∀ (s : Nat) (hs : s < 8) (i : ∀ a, (![s, 0, 0] : Fin 3 → Nat) a + (![1, 128, 1024] : Fin 3 → Nat) a ≤ S8x128x1024.size a),
      (View.ld x (Rect.unit ![s, 0, 0] ![1, 128, 1024] i)) (ix3 0 r k) = x (ix3 ⟨s, hs⟩ r k) := fun s hs i =>
    View.ld_unit_apply_of _ _ _ _ _ _ (fun a => by fin_cases a <;> simp [ix3])
  have e : ∀ (v0 v1 v2 v3 v4 v5 v6 v7 : Vec Ideal S1x128x1024 .bf16), k0_pay7 (F := Ideal) v0 v1 v2 v3 v4 v5 v6 v7 (ix2 r k) = v0 (ix3 0 r k) + v1 (ix3 0 r k) + v2 (ix3 0 r k) + v3 (ix3 0 r k) + v4 (ix3 0 r k) + v5 (ix3 0 r k) + v6 (ix3 0 r k) + v7 (ix3 0 r k) := by
    intros
    pointwise [k0_pay7]
  rw [e, Fin.sum_univ_eight, h 0 (by norm_num), h 1 (by norm_num), h 2 (by norm_num), h 3 (by norm_num), h 4 (by norm_num), h 5 (by norm_num), h 6 (by norm_num), h 7 (by norm_num)]
  rfl

/-! ## The reference -/

set_option maxHeartbeats 1600000 in
/-- The reference's results at an entry of each layer. -/
theorem layers (X0 X5 X10 : (⟨S2x128x1024, .f32⟩ : BufTy).Contents (Elt Ideal)) (X1 X2 X3 X4 X6 X7 X8 X9 X11 X12 X13 X14 : (⟨S1x128x1024, .f32⟩ : BufTy).Contents (Elt Ideal)) (X15 X16 X17 X18 X19 X20 : (⟨S8x128x1024, .bf16⟩ : BufTy).Contents (Elt Ideal)) (r : Fin 128) (k : Fin 1024) :
    (val_main_v139 (F := Ideal) X15 X16 X17 X18 X19 X20 (ix3 0 r k) = (∑ q : Fin 8, X15 (ix3 q r k))
      ∧ val_main_v140 (F := Ideal) X0 X1 X2 X3 X4 X5 X6 X7 X8 X9 X10 X11 X12 X13 X14 X15 X16 X17 X18 X19 X20 (ix3 0 r k) = AdamW.delta (X0 (ix3 0 r k)) (X5 (ix3 0 r k)) (X10 (ix3 0 r k)) (∑ q : Fin 8, X15 (ix3 q r k))
      ∧ val_main_v141 (F := Ideal) X5 X6 X7 X8 X9 X15 X16 X17 X18 X19 X20 (ix3 0 r k) = AdamW.moment (X5 (ix3 0 r k)) (∑ q : Fin 8, X15 (ix3 q r k))
      ∧ val_main_v142 (F := Ideal) X10 X11 X12 X13 X14 X15 X16 X17 X18 X19 X20 (ix3 0 r k) = AdamW.square (X10 (ix3 0 r k)) (∑ q : Fin 8, X15 (ix3 q r k)))
    ∧ (val_main_v139 (F := Ideal) X15 X16 X17 X18 X19 X20 (ix3 1 r k) = (∑ q : Fin 8, X16 (ix3 q r k))
      ∧ val_main_v140 (F := Ideal) X0 X1 X2 X3 X4 X5 X6 X7 X8 X9 X10 X11 X12 X13 X14 X15 X16 X17 X18 X19 X20 (ix3 1 r k) = AdamW.delta (X0 (ix3 1 r k)) (X5 (ix3 1 r k)) (X10 (ix3 1 r k)) (∑ q : Fin 8, X16 (ix3 q r k))
      ∧ val_main_v141 (F := Ideal) X5 X6 X7 X8 X9 X15 X16 X17 X18 X19 X20 (ix3 1 r k) = AdamW.moment (X5 (ix3 1 r k)) (∑ q : Fin 8, X16 (ix3 q r k))
      ∧ val_main_v142 (F := Ideal) X10 X11 X12 X13 X14 X15 X16 X17 X18 X19 X20 (ix3 1 r k) = AdamW.square (X10 (ix3 1 r k)) (∑ q : Fin 8, X16 (ix3 q r k)))
    ∧ (val_main_v139 (F := Ideal) X15 X16 X17 X18 X19 X20 (ix3 2 r k) = (∑ q : Fin 8, X17 (ix3 q r k))
      ∧ val_main_v140 (F := Ideal) X0 X1 X2 X3 X4 X5 X6 X7 X8 X9 X10 X11 X12 X13 X14 X15 X16 X17 X18 X19 X20 (ix3 2 r k) = AdamW.delta (X1 (ix3 0 r k)) (X6 (ix3 0 r k)) (X11 (ix3 0 r k)) (∑ q : Fin 8, X17 (ix3 q r k))
      ∧ val_main_v141 (F := Ideal) X5 X6 X7 X8 X9 X15 X16 X17 X18 X19 X20 (ix3 2 r k) = AdamW.moment (X6 (ix3 0 r k)) (∑ q : Fin 8, X17 (ix3 q r k))
      ∧ val_main_v142 (F := Ideal) X10 X11 X12 X13 X14 X15 X16 X17 X18 X19 X20 (ix3 2 r k) = AdamW.square (X11 (ix3 0 r k)) (∑ q : Fin 8, X17 (ix3 q r k)))
    ∧ (val_main_v139 (F := Ideal) X15 X16 X17 X18 X19 X20 (ix3 3 r k) = (∑ q : Fin 8, X18 (ix3 q r k))
      ∧ val_main_v140 (F := Ideal) X0 X1 X2 X3 X4 X5 X6 X7 X8 X9 X10 X11 X12 X13 X14 X15 X16 X17 X18 X19 X20 (ix3 3 r k) = AdamW.delta (X2 (ix3 0 r k)) (X7 (ix3 0 r k)) (X12 (ix3 0 r k)) (∑ q : Fin 8, X18 (ix3 q r k))
      ∧ val_main_v141 (F := Ideal) X5 X6 X7 X8 X9 X15 X16 X17 X18 X19 X20 (ix3 3 r k) = AdamW.moment (X7 (ix3 0 r k)) (∑ q : Fin 8, X18 (ix3 q r k))
      ∧ val_main_v142 (F := Ideal) X10 X11 X12 X13 X14 X15 X16 X17 X18 X19 X20 (ix3 3 r k) = AdamW.square (X12 (ix3 0 r k)) (∑ q : Fin 8, X18 (ix3 q r k)))
    ∧ (val_main_v139 (F := Ideal) X15 X16 X17 X18 X19 X20 (ix3 4 r k) = (∑ q : Fin 8, X19 (ix3 q r k))
      ∧ val_main_v140 (F := Ideal) X0 X1 X2 X3 X4 X5 X6 X7 X8 X9 X10 X11 X12 X13 X14 X15 X16 X17 X18 X19 X20 (ix3 4 r k) = AdamW.delta (X3 (ix3 0 r k)) (X8 (ix3 0 r k)) (X13 (ix3 0 r k)) (∑ q : Fin 8, X19 (ix3 q r k))
      ∧ val_main_v141 (F := Ideal) X5 X6 X7 X8 X9 X15 X16 X17 X18 X19 X20 (ix3 4 r k) = AdamW.moment (X8 (ix3 0 r k)) (∑ q : Fin 8, X19 (ix3 q r k))
      ∧ val_main_v142 (F := Ideal) X10 X11 X12 X13 X14 X15 X16 X17 X18 X19 X20 (ix3 4 r k) = AdamW.square (X13 (ix3 0 r k)) (∑ q : Fin 8, X19 (ix3 q r k)))
    ∧ (val_main_v139 (F := Ideal) X15 X16 X17 X18 X19 X20 (ix3 5 r k) = (∑ q : Fin 8, X20 (ix3 q r k))
      ∧ val_main_v140 (F := Ideal) X0 X1 X2 X3 X4 X5 X6 X7 X8 X9 X10 X11 X12 X13 X14 X15 X16 X17 X18 X19 X20 (ix3 5 r k) = AdamW.delta (X4 (ix3 0 r k)) (X9 (ix3 0 r k)) (X14 (ix3 0 r k)) (∑ q : Fin 8, X20 (ix3 q r k))
      ∧ val_main_v141 (F := Ideal) X5 X6 X7 X8 X9 X15 X16 X17 X18 X19 X20 (ix3 5 r k) = AdamW.moment (X9 (ix3 0 r k)) (∑ q : Fin 8, X20 (ix3 q r k))
      ∧ val_main_v142 (F := Ideal) X10 X11 X12 X13 X14 X15 X16 X17 X18 X19 X20 (ix3 5 r k) = AdamW.square (X14 (ix3 0 r k)) (∑ q : Fin 8, X20 (ix3 q r k))) := by
  refine ⟨⟨?_, ?_, ?_, ?_⟩, ⟨?_, ?_, ?_, ?_⟩, ⟨?_, ?_, ?_, ?_⟩, ⟨?_, ?_, ?_, ?_⟩, ⟨?_, ?_, ?_, ?_⟩, ⟨?_, ?_, ?_, ?_⟩⟩ <;> pointwise [val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30, val_main_v31, val_main_cst_10, val_main_v32, val_main_v33, val_main_cst_11, val_main_v34, val_main_v35, val_main_cst_12, val_main_v36, val_main_v37, val_main_v38, val_main_cst_13, val_main_v39, val_main_v40, val_main_v41, val_main_cst_14, val_main_v42, val_main_v43, val_main_v44, val_main_cst_15, val_main_v45, val_main_v46, val_main_cst_16, val_main_v47, val_main_v48, val_main_v49, val_main_cst_17, val_main_v50, val_main_v51, val_main_v52, val_main_cst_18, val_main_v53, val_main_v54, val_main_v55, val_main_cst_19, val_main_v56, val_main_v57, val_main_v58, val_main_cst_20, val_main_v59, val_main_v60, val_main_cst_21, val_main_v61, val_main_v62, val_main_cst_22, val_main_v63, val_main_v64, val_main_v65, val_main_cst_23, val_main_v66, val_main_v67, val_main_v68, val_main_cst_24, val_main_v69, val_main_v70, val_main_v71, val_main_cst_25, val_main_v72, val_main_v73, val_main_cst_26, val_main_v74, val_main_v75, val_main_v76, val_main_cst_27, val_main_v77, val_main_v78, val_main_v79, val_main_cst_28, val_main_v80, val_main_v81, val_main_v82, val_main_cst_29, val_main_v83, val_main_v84, val_main_v85, val_main_cst_30, val_main_v86, val_main_v87, val_main_cst_31, val_main_v88, val_main_v89, val_main_cst_32, val_main_v90, val_main_v91, val_main_v92, val_main_cst_33, val_main_v93, val_main_v94, val_main_v95, val_main_cst_34, val_main_v96, val_main_v97, val_main_v98, val_main_cst_35, val_main_v99, val_main_v100, val_main_cst_36, val_main_v101, val_main_v102, val_main_v103, val_main_cst_37, val_main_v104, val_main_v105, val_main_v106, val_main_cst_38, val_main_v107, val_main_v108, val_main_v109, val_main_cst_39, val_main_v110, val_main_v111, val_main_v112, val_main_cst_40, val_main_v113, val_main_v114, val_main_cst_41, val_main_v115, val_main_v116, val_main_cst_42, val_main_v117, val_main_v118, val_main_v119, val_main_cst_43, val_main_v120, val_main_v121, val_main_v122, val_main_cst_44, val_main_v123, val_main_v124, val_main_v125, val_main_cst_45, val_main_v126, val_main_v127, val_main_cst_46, val_main_v128, val_main_v129, val_main_v130, val_main_cst_47, val_main_v131, val_main_v132, val_main_v133, val_main_cst_48, val_main_v134, val_main_v135, val_main_v136, val_main_cst_49, val_main_v137, val_main_v138, val_main_v139, val_main_v140, val_main_v141, val_main_v142, AdamW.moment, AdamW.square, AdamW.delta]

/-! ## The blocks -/

variable (m : (ℓ : Loc nD τ sig) → Buf (Elt Ideal) ℓ)

/-- Which block of each array grid point `t` works on: layer `t`; the layers' parts stay where they are. -/
theorem blocks : ∀ t : Fin cfg0.N, win0_0.index t = ![t.val, 0, 0] ∧ win0_1.index t = ![t.val, 0, 0] ∧ win0_2.index t = ![t.val, 0, 0] ∧ win0_9.index t = ![t.val, 0, 0] ∧ win0_10.index t = ![t.val, 0, 0] ∧ win0_11.index t = ![t.val, 0, 0] ∧ win0_12.index t = ![t.val, 0, 0]
    ∧ (t.val = 0 → win0_3.index t = ![0, 0, 0]) ∧ (t.val = 1 → win0_4.index t = ![0, 0, 0]) ∧ (t.val = 2 → win0_5.index t = ![0, 0, 0]) ∧ (t.val = 3 → win0_6.index t = ![0, 0, 0]) ∧ (t.val = 4 → win0_7.index t = ![0, 0, 0]) ∧ (t.val = 5 → win0_8.index t = ![0, 0, 0]) :=
  (by decide +kernel : ∀ t : Fin grid0.N, _)

/-- The layer that block `t` is. -/
def lay (t : Fin cfg0.N) : Fin 6 := ⟨t.val, lt_of_lt_of_eq t.isLt N_0⟩

set_option maxHeartbeats 3200000 in
/-- The stacked weights and moments that the kernel prepares before its call, layer by layer. -/
theorem operands (c : Dev nD) (r : Fin 128) (k : Fin 1024) :
    (V m c main_v0 (ix3 0 r k) = ((m (c.tc.loc main_arg0)) (ix3 0 r k)) ∧ V m c main_v0 (ix3 1 r k) = ((m (c.tc.loc main_arg0)) (ix3 1 r k)) ∧ V m c main_v0 (ix3 2 r k) = ((m (c.tc.loc main_arg1)) (ix3 0 r k)) ∧ V m c main_v0 (ix3 3 r k) = ((m (c.tc.loc main_arg2)) (ix3 0 r k)) ∧ V m c main_v0 (ix3 4 r k) = ((m (c.tc.loc main_arg3)) (ix3 0 r k)) ∧ V m c main_v0 (ix3 5 r k) = ((m (c.tc.loc main_arg4)) (ix3 0 r k)))
    ∧ (V m c main_v1 (ix3 0 r k) = ((m (c.tc.loc main_arg5)) (ix3 0 r k)) ∧ V m c main_v1 (ix3 1 r k) = ((m (c.tc.loc main_arg5)) (ix3 1 r k)) ∧ V m c main_v1 (ix3 2 r k) = ((m (c.tc.loc main_arg6)) (ix3 0 r k)) ∧ V m c main_v1 (ix3 3 r k) = ((m (c.tc.loc main_arg7)) (ix3 0 r k)) ∧ V m c main_v1 (ix3 4 r k) = ((m (c.tc.loc main_arg8)) (ix3 0 r k)) ∧ V m c main_v1 (ix3 5 r k) = ((m (c.tc.loc main_arg9)) (ix3 0 r k)))
    ∧ (V m c main_v2 (ix3 0 r k) = ((m (c.tc.loc main_arg10)) (ix3 0 r k)) ∧ V m c main_v2 (ix3 1 r k) = ((m (c.tc.loc main_arg10)) (ix3 1 r k)) ∧ V m c main_v2 (ix3 2 r k) = ((m (c.tc.loc main_arg11)) (ix3 0 r k)) ∧ V m c main_v2 (ix3 3 r k) = ((m (c.tc.loc main_arg12)) (ix3 0 r k)) ∧ V m c main_v2 (ix3 4 r k) = ((m (c.tc.loc main_arg13)) (ix3 0 r k)) ∧ V m c main_v2 (ix3 5 r k) = ((m (c.tc.loc main_arg14)) (ix3 0 r k))) := by
  refine ⟨⟨?_, ?_, ?_, ?_, ?_, ?_⟩, ⟨?_, ?_, ?_, ?_, ?_, ?_⟩, ⟨?_, ?_, ?_, ?_, ?_, ?_⟩⟩ <;> entry_read <;> pointwise

/-- A block of the stacked weights and moments. -/
theorem read (c : Dev nD) (t : Fin cfg0.N) (r : Fin 128) (k : Fin 1024) :
    (show Vec Ideal S1x128x1024 .f32 from iblk m c 0 t) (ix3 0 r k) = V m c main_v0 (ix3 (lay t) r k)
    ∧ (show Vec Ideal S1x128x1024 .f32 from iblk m c 1 t) (ix3 0 r k) = V m c main_v1 (ix3 (lay t) r k)
    ∧ (show Vec Ideal S1x128x1024 .f32 from iblk m c 2 t) (ix3 0 r k) = V m c main_v2 (ix3 (lay t) r k) := by
  refine ⟨?_, ?_, ?_⟩ <;> blk_point [iblk, blocks t, lay]

/-- A block of the parts of the layer whose turn it is. -/
theorem read_parts (c : Dev nD) (t : Fin cfg0.N) (q : Fin 8) (r : Fin 128) (k : Fin 1024) :
    (t.val = 0 → (show Vec Ideal S8x128x1024 .bf16 from iblk m c 3 t) (ix3 q r k) = (m (c.tc.loc main_arg15)) (ix3 q r k))
    ∧ (t.val = 1 → (show Vec Ideal S8x128x1024 .bf16 from iblk m c 4 t) (ix3 q r k) = (m (c.tc.loc main_arg16)) (ix3 q r k))
    ∧ (t.val = 2 → (show Vec Ideal S8x128x1024 .bf16 from iblk m c 5 t) (ix3 q r k) = (m (c.tc.loc main_arg17)) (ix3 q r k))
    ∧ (t.val = 3 → (show Vec Ideal S8x128x1024 .bf16 from iblk m c 6 t) (ix3 q r k) = (m (c.tc.loc main_arg18)) (ix3 q r k))
    ∧ (t.val = 4 → (show Vec Ideal S8x128x1024 .bf16 from iblk m c 7 t) (ix3 q r k) = (m (c.tc.loc main_arg19)) (ix3 q r k))
    ∧ (t.val = 5 → (show Vec Ideal S8x128x1024 .bf16 from iblk m c 8 t) (ix3 q r k) = (m (c.tc.loc main_arg20)) (ix3 q r k)) := by
  refine ⟨fun h => ?_, fun h => ?_, fun h => ?_, fun h => ?_, fun h => ?_, fun h => ?_⟩ <;> blk_point [iblk, V, blocks t, h]

/-- What the body leaves at an entry, from the entries of its operands. -/
theorem entry (c : Dev nD) (t : Fin cfg0.N) (r : Fin 128) (k : Fin 1024) (x : Vec Ideal S8x128x1024 .bf16) (i0 : ∀ a, (![0, 0, 0] : Fin 3 → Nat) a + (![1, 128, 1024] : Fin 3 → Nat) a ≤ S8x128x1024.size a) (i1 : ∀ a, (![1, 0, 0] : Fin 3 → Nat) a + (![1, 128, 1024] : Fin 3 → Nat) a ≤ S8x128x1024.size a) (i2 : ∀ a, (![2, 0, 0] : Fin 3 → Nat) a + (![1, 128, 1024] : Fin 3 → Nat) a ≤ S8x128x1024.size a) (i3 : ∀ a, (![3, 0, 0] : Fin 3 → Nat) a + (![1, 128, 1024] : Fin 3 → Nat) a ≤ S8x128x1024.size a) (i4 : ∀ a, (![4, 0, 0] : Fin 3 → Nat) a + (![1, 128, 1024] : Fin 3 → Nat) a ≤ S8x128x1024.size a) (i5 : ∀ a, (![5, 0, 0] : Fin 3 → Nat) a + (![1, 128, 1024] : Fin 3 → Nat) a ≤ S8x128x1024.size a) (i6 : ∀ a, (![6, 0, 0] : Fin 3 → Nat) a + (![1, 128, 1024] : Fin 3 → Nat) a ≤ S8x128x1024.size a) (i7 : ∀ a, (![7, 0, 0] : Fin 3 → Nat) a + (![1, 128, 1024] : Fin 3 → Nat) a ≤ S8x128x1024.size a) {g w p v : EReal}
    (hx : ∑ q : Fin 8, x (ix3 q r k) = g) (hw : (show Vec Ideal S1x128x1024 .f32 from iblk m c 0 t) (ix3 0 r k) = w) (hp : (show Vec Ideal S1x128x1024 .f32 from iblk m c 1 t) (ix3 0 r k) = p)
    (hv : (show Vec Ideal S1x128x1024 .f32 from iblk m c 2 t) (ix3 0 r k) = v) :
    k0_pay11 (F := Ideal) (k0_pay7 (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7))) (ix3 0 r k) = g
    ∧ k0_pay1 (F := Ideal) (k0_pay14 (k0_pay7 (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7))) (k0_pay8 (iblk m c 1 t)) (iblk m c 2 t)) (k0_pay15 (iblk m c 0 t)) (ix3 0 r k) = AdamW.delta w p v g
    ∧ k0_pay12 (F := Ideal) (k0_pay7 (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7))) (k0_pay8 (iblk m c 1 t)) (ix3 0 r k) = AdamW.moment p g
    ∧ k0_pay13 (F := Ideal) (k0_pay7 (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7))) (iblk m c 2 t) (ix3 0 r k) = AdamW.square v g := by
  have h := step_apply (k0_pay7 (View.ld x (Rect.unit ![0, 0, 0] ![1, 128, 1024] i0)) (View.ld x (Rect.unit ![1, 0, 0] ![1, 128, 1024] i1)) (View.ld x (Rect.unit ![2, 0, 0] ![1, 128, 1024] i2)) (View.ld x (Rect.unit ![3, 0, 0] ![1, 128, 1024] i3)) (View.ld x (Rect.unit ![4, 0, 0] ![1, 128, 1024] i4)) (View.ld x (Rect.unit ![5, 0, 0] ![1, 128, 1024] i5)) (View.ld x (Rect.unit ![6, 0, 0] ![1, 128, 1024] i6)) (View.ld x (Rect.unit ![7, 0, 0] ![1, 128, 1024] i7))) (iblk m c 0 t) (iblk m c 1 t) (iblk m c 2 t) r k
  dsimp only at hw hp hv
  rw [sum_apply x i0 i1 i2 i3 i4 i5 i6 i7 r k, hx, hw, hp, hv] at h
  exact h

set_option maxHeartbeats 1600000 in
/-- What a grid point leaves in the four results' blocks is the reference's. -/
theorem block (c : Dev nD) (t : Fin cfg0.N) (z : Fin 1) (r : Fin 128) (k : Fin 1024) :
    (outsAt0 m c t.val t.isLt).1 (ix3 z r k) = val_main_v139 (F := Ideal) (m (c.tc.loc main_arg15)) (m (c.tc.loc main_arg16)) (m (c.tc.loc main_arg17)) (m (c.tc.loc main_arg18)) (m (c.tc.loc main_arg19)) (m (c.tc.loc main_arg20)) (ix3 (lay t) r k)
    ∧ (outsAt0 m c t.val t.isLt).2.1 (ix3 z r k) = val_main_v140 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (ix3 (lay t) r k)
    ∧ (outsAt0 m c t.val t.isLt).2.2.1 (ix3 z r k) = val_main_v141 (F := Ideal) (m (c.tc.loc main_arg5)) (m (c.tc.loc main_arg6)) (m (c.tc.loc main_arg7)) (m (c.tc.loc main_arg8)) (m (c.tc.loc main_arg9)) (m (c.tc.loc main_arg15)) (m (c.tc.loc main_arg16)) (m (c.tc.loc main_arg17)) (m (c.tc.loc main_arg18)) (m (c.tc.loc main_arg19)) (m (c.tc.loc main_arg20)) (ix3 (lay t) r k)
    ∧ (outsAt0 m c t.val t.isLt).2.2.2 (ix3 z r k) = val_main_v142 (F := Ideal) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (ix3 (lay t) r k) := by
  obtain rfl : z = 0 := Fin.fin_one_eq_zero z
  have hN := lt_of_lt_of_eq t.isLt N_0
  have hp := fun q => read_parts m c t q r k
  have hg := layers (m (c.tc.loc main_arg0)) (m (c.tc.loc main_arg5)) (m (c.tc.loc main_arg10)) (m (c.tc.loc main_arg1)) (m (c.tc.loc main_arg2)) (m (c.tc.loc main_arg3)) (m (c.tc.loc main_arg4)) (m (c.tc.loc main_arg6)) (m (c.tc.loc main_arg7)) (m (c.tc.loc main_arg8)) (m (c.tc.loc main_arg9)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) r k
  have ho := operands m c r k
  have hr := read m c t r k
  have ht : t.val = 0 ∨ t.val = 1 ∨ t.val = 2 ∨ t.val = 3 ∨ t.val = 4 ∨ t.val = 5 := by omega
  rcases ht with ht | ht | ht | ht | ht | ht
  · have hl : lay t = 0 := Fin.ext ht
    rw [outsAt0_A m c t (by omega) (by omega) (by omega) (by omega) (by omega) (by omega), hl]
    obtain ⟨e0, e1, e2, e3⟩ := hg.1
    obtain ⟨b0, b1, b2, b3⟩ := entry m c t r k (iblk m c 3 t) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (Finset.sum_congr rfl fun q _ => (hp q).1 ht)
      (hr.1.trans ((congrArg (fun l => V m c main_v0 (ix3 l r k)) hl).trans ho.1.1)) (hr.2.1.trans ((congrArg (fun l => V m c main_v1 (ix3 l r k)) hl).trans ho.2.1.1)) (hr.2.2.trans ((congrArg (fun l => V m c main_v2 (ix3 l r k)) hl).trans ho.2.2.1))
    refine ⟨?_, ?_, ?_, ?_⟩ <;> frame_out
    exacts [b0.trans e0.symm, b1.trans e1.symm, b2.trans e2.symm, b3.trans e3.symm]
  · have hl : lay t = 1 := Fin.ext ht
    rw [outsAt0_B m c t (by omega) (by omega) (by omega) (by omega) (by omega) (by omega), hl]
    obtain ⟨e0, e1, e2, e3⟩ := hg.2.1
    obtain ⟨b0, b1, b2, b3⟩ := entry m c t r k (iblk m c 4 t) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (Finset.sum_congr rfl fun q _ => (hp q).2.1 ht)
      (hr.1.trans ((congrArg (fun l => V m c main_v0 (ix3 l r k)) hl).trans ho.1.2.1)) (hr.2.1.trans ((congrArg (fun l => V m c main_v1 (ix3 l r k)) hl).trans ho.2.1.2.1)) (hr.2.2.trans ((congrArg (fun l => V m c main_v2 (ix3 l r k)) hl).trans ho.2.2.2.1))
    refine ⟨?_, ?_, ?_, ?_⟩ <;> frame_out
    exacts [b0.trans e0.symm, b1.trans e1.symm, b2.trans e2.symm, b3.trans e3.symm]
  · have hl : lay t = 2 := Fin.ext ht
    rw [outsAt0_C m c t (by omega) (by omega) (by omega) (by omega) (by omega) (by omega), hl]
    obtain ⟨e0, e1, e2, e3⟩ := hg.2.2.1
    obtain ⟨b0, b1, b2, b3⟩ := entry m c t r k (iblk m c 5 t) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (Finset.sum_congr rfl fun q _ => (hp q).2.2.1 ht)
      (hr.1.trans ((congrArg (fun l => V m c main_v0 (ix3 l r k)) hl).trans ho.1.2.2.1)) (hr.2.1.trans ((congrArg (fun l => V m c main_v1 (ix3 l r k)) hl).trans ho.2.1.2.2.1)) (hr.2.2.trans ((congrArg (fun l => V m c main_v2 (ix3 l r k)) hl).trans ho.2.2.2.2.1))
    refine ⟨?_, ?_, ?_, ?_⟩ <;> frame_out
    exacts [b0.trans e0.symm, b1.trans e1.symm, b2.trans e2.symm, b3.trans e3.symm]
  · have hl : lay t = 3 := Fin.ext ht
    rw [outsAt0_D m c t (by omega) (by omega) (by omega) (by omega) (by omega) (by omega), hl]
    obtain ⟨e0, e1, e2, e3⟩ := hg.2.2.2.1
    obtain ⟨b0, b1, b2, b3⟩ := entry m c t r k (iblk m c 6 t) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (Finset.sum_congr rfl fun q _ => (hp q).2.2.2.1 ht)
      (hr.1.trans ((congrArg (fun l => V m c main_v0 (ix3 l r k)) hl).trans ho.1.2.2.2.1)) (hr.2.1.trans ((congrArg (fun l => V m c main_v1 (ix3 l r k)) hl).trans ho.2.1.2.2.2.1)) (hr.2.2.trans ((congrArg (fun l => V m c main_v2 (ix3 l r k)) hl).trans ho.2.2.2.2.2.1))
    refine ⟨?_, ?_, ?_, ?_⟩ <;> frame_out
    exacts [b0.trans e0.symm, b1.trans e1.symm, b2.trans e2.symm, b3.trans e3.symm]
  · have hl : lay t = 4 := Fin.ext ht
    rw [outsAt0_E m c t (by omega) (by omega) (by omega) (by omega) (by omega) (by omega), hl]
    obtain ⟨e0, e1, e2, e3⟩ := hg.2.2.2.2.1
    obtain ⟨b0, b1, b2, b3⟩ := entry m c t r k (iblk m c 7 t) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (Finset.sum_congr rfl fun q _ => (hp q).2.2.2.2.1 ht)
      (hr.1.trans ((congrArg (fun l => V m c main_v0 (ix3 l r k)) hl).trans ho.1.2.2.2.2.1)) (hr.2.1.trans ((congrArg (fun l => V m c main_v1 (ix3 l r k)) hl).trans ho.2.1.2.2.2.2.1)) (hr.2.2.trans ((congrArg (fun l => V m c main_v2 (ix3 l r k)) hl).trans ho.2.2.2.2.2.2.1))
    refine ⟨?_, ?_, ?_, ?_⟩ <;> frame_out
    exacts [b0.trans e0.symm, b1.trans e1.symm, b2.trans e2.symm, b3.trans e3.symm]
  · have hl : lay t = 5 := Fin.ext ht
    rw [outsAt0_F m c t (by omega) (by omega) (by omega) (by omega) (by omega) (by omega), hl]
    obtain ⟨e0, e1, e2, e3⟩ := hg.2.2.2.2.2
    obtain ⟨b0, b1, b2, b3⟩ := entry m c t r k (iblk m c 8 t) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (Finset.sum_congr rfl fun q _ => (hp q).2.2.2.2.2 ht)
      (hr.1.trans ((congrArg (fun l => V m c main_v0 (ix3 l r k)) hl).trans ho.1.2.2.2.2.2)) (hr.2.1.trans ((congrArg (fun l => V m c main_v1 (ix3 l r k)) hl).trans ho.2.1.2.2.2.2.2)) (hr.2.2.trans ((congrArg (fun l => V m c main_v2 (ix3 l r k)) hl).trans ho.2.2.2.2.2.2.2))
    refine ⟨?_, ?_, ?_, ?_⟩ <;> frame_out
    exacts [b0.trans e0.symm, b1.trans e1.symm, b2.trans e2.symm, b3.trans e3.symm]

/-! ## The results -/

/-- The gradients of the five weights, stacked, are the reference's. -/
theorem result0 (c : Dev nD) : (dats m 0 c).arrAt 9 (cfgs 0).N = val_main_v139 (F := Ideal) (m (c.tc.loc main_arg15)) (m (c.tc.loc main_arg16)) (m (c.tc.loc main_arg17)) (m (c.tc.loc main_arg18)) (m (c.tc.loc main_arg19)) (m (c.tc.loc main_arg20)) := by
  refine (dats m 0 c).arrAt_eq_of_covers 9 _ (by decide +kernel) fun t hf y => ?_
  blk_simp
  rw [after0_9]
  have e : ∀ (z : Fin 1) (r : Fin 128) (k : Fin 1024), ((View.whole main_v3_0).slice (win0_9.rect t)).emb (ix3 z r k) = ix3 (lay t) r k := fun z r k => by blk_ext [blocks t, lay]
  idx_vars y
  rw [e]
  exact (block m c t _ _ _).1

/-- The updates of the five weights, stacked, are the reference's. -/
theorem result1 (c : Dev nD) : (dats m 0 c).arrAt 10 (cfgs 0).N = val_main_v140 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) := by
  refine (dats m 0 c).arrAt_eq_of_covers 10 _ (by decide +kernel) fun t hf y => ?_
  blk_simp
  rw [after0_10]
  have e : ∀ (z : Fin 1) (r : Fin 128) (k : Fin 1024), ((View.whole main_v3_1).slice (win0_10.rect t)).emb (ix3 z r k) = ix3 (lay t) r k := fun z r k => by blk_ext [blocks t, lay]
  idx_vars y
  rw [e]
  exact (block m c t _ _ _).2.1

/-- The new first moments of the five weights, stacked, are the reference's. -/
theorem result2 (c : Dev nD) : (dats m 0 c).arrAt 11 (cfgs 0).N = val_main_v141 (F := Ideal) (m (c.tc.loc main_arg5)) (m (c.tc.loc main_arg6)) (m (c.tc.loc main_arg7)) (m (c.tc.loc main_arg8)) (m (c.tc.loc main_arg9)) (m (c.tc.loc main_arg15)) (m (c.tc.loc main_arg16)) (m (c.tc.loc main_arg17)) (m (c.tc.loc main_arg18)) (m (c.tc.loc main_arg19)) (m (c.tc.loc main_arg20)) := by
  refine (dats m 0 c).arrAt_eq_of_covers 11 _ (by decide +kernel) fun t hf y => ?_
  blk_simp
  rw [after0_11]
  have e : ∀ (z : Fin 1) (r : Fin 128) (k : Fin 1024), ((View.whole main_v3_2).slice (win0_11.rect t)).emb (ix3 z r k) = ix3 (lay t) r k := fun z r k => by blk_ext [blocks t, lay]
  idx_vars y
  rw [e]
  exact (block m c t _ _ _).2.2.1

/-- The new second moments of the five weights, stacked, are the reference's. -/
theorem result3 (c : Dev nD) : (dats m 0 c).arrAt 12 (cfgs 0).N = val_main_v142 (F := Ideal) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) := by
  refine (dats m 0 c).arrAt_eq_of_covers 12 _ (by decide +kernel) fun t hf y => ?_
  blk_simp
  rw [after0_12]
  have e : ∀ (z : Fin 1) (r : Fin 128) (k : Fin 1024), ((View.whole main_v3_3).slice (win0_12.rect t)).emb (ix3 z r k) = ix3 (lay t) r k := fun z r k => by blk_ext [blocks t, lay]
  idx_vars y
  rw [e]
  exact (block m c t _ _ _).2.2.2

/-! ## The claims -/

/-- The two constants that the idealised kernel names are the ones the kernel holds. -/
theorem preserves : Cert.preserves_Kernel20_Kernel20Ideal :=
  ⟨IdealRules.named_const.statement Cert.Kernel20Ideal.κ "c1" .f32 0x3FC48605#32 ((8388608 / 5463681 : ℝ) : EReal) rfl, IdealRules.named_const.statement Cert.Kernel20Ideal.κ "c2" .f32 0x42C8E6D3#32 ((268435456 / 2672307 : ℝ) : EReal) rfl⟩

set_option maxHeartbeats 1600000 in
/-- On the extended reals, the kernel and the reference compute the same gradients, updates and moments. -/
theorem algebraic : Cert.algebraic_Kernel20Ideal_Reference20Ideal := by
  pair_intro
  · run_from Cert.Kernel20Ideal.Gen.run_main m g
    all_goals first | exact V_main_arg0 m c | exact V_main_arg1 m c
  · run_from Cert.Reference20Ideal.Value.run m' g'
    · obtain ⟨a0, a1, a2, a3, a4, a5, a6, a7, a8, a9, a10, a11, a12, a13, a14, a15, a16, a17, a18, a19, a20⟩ := hagree c
      exact (Eq.trans (val_main_v139_eq (StableHlo.launchContents m' c)) (by simp only [StableHlo.launchContents, a15, a16, a17, a18, a19, a20])).trans (result0 m c).symm
    · obtain ⟨a0, a1, a2, a3, a4, a5, a6, a7, a8, a9, a10, a11, a12, a13, a14, a15, a16, a17, a18, a19, a20⟩ := hagree c
      rw [← a0, ← a1, ← a2, ← a3]
      refine (val_main_v140_eq (StableHlo.launchContents m' c)).trans ?_
      simp only [StableHlo.launchContents, a0, a1, a2, a3, a4, a5, a6, a7, a8, a9, a10, a11, a12, a13, a14, a15, a16, a17, a18, a19, a20]
      exact (result1 m c).symm
    · obtain ⟨a0, a1, a2, a3, a4, a5, a6, a7, a8, a9, a10, a11, a12, a13, a14, a15, a16, a17, a18, a19, a20⟩ := hagree c
      exact (Eq.trans (val_main_v141_eq (StableHlo.launchContents m' c)) (by simp only [StableHlo.launchContents, a5, a6, a7, a8, a9, a15, a16, a17, a18, a19, a20])).trans (result2 m c).symm
    · obtain ⟨a0, a1, a2, a3, a4, a5, a6, a7, a8, a9, a10, a11, a12, a13, a14, a15, a16, a17, a18, a19, a20⟩ := hagree c
      exact (Eq.trans (val_main_v142_eq (StableHlo.launchContents m' c)) (by simp only [StableHlo.launchContents, a10, a11, a12, a13, a14, a15, a16, a17, a18, a19, a20])).trans (result3 m c).symm

end Cert.RowWeightsStep

end
-- ==== Proof.SmallStep.lean ====
/- The optimiser's step, in one call, of the modulations' biases and the norms' weights: what the kernel leaves is the gradients summed over the devices, the updates and the new moments that the reference computes. -/
module

public import proofs.«01_k».proof.Proof.Gen.Kernel21Ideal.Value
public import proofs.«01_k».proof.Proof.Gen.Reference21Ideal.Read
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Defs
public import proofs.«01_k».proof.Proof.AdamW

@[expose] public section

set_option maxRecDepth 16384

noncomputable section

open Idealize.ShloMosaic Idealize.ShloMosaic.TcCoe Idealize.SL.Sem
open Idealize.ShloMosaic.Pipeline (Dat)
open scoped BigOperators

namespace Cert.SmallStep

open Cert.Kernel21Ideal Cert.Kernel21Ideal.Gen
open Cert.Reference21Ideal.Read

/-! ## What the body computes from a block -/

/-- The two named constants' values. -/
theorem constants : Named.named (F := Ideal) Cert.Kernel21Ideal.κ "c1" (φ := .f32) 0x3FC48605#32 = ((8388608 / 5463681 : ℝ) : EReal)
    ∧ Named.named (F := Ideal) Cert.Kernel21Ideal.κ "c2" (φ := .f32) 0x42C8E6D3#32 = ((268435456 / 2672307 : ℝ) : EReal) :=
  ⟨IdealRules.named_const.ideal_named_scalar _ _ _ _ rfl, IdealRules.named_const.ideal_named_scalar _ _ _ _ rfl⟩

set_option maxHeartbeats 1600000 in
/-- The results of the body at an entry, from the eight devices' parts there: the gradient, the update and the new moments. -/
theorem step_apply (v0 v1 v2 v3 v4 v5 v6 v7 : Vec Ideal S1x272x128 .f32) (w p v : Vec Ideal S1x272x128 .f32) (r : Fin 272) (k : Fin 128) :
    k0_pay5 (F := Ideal) (k0_pay2 v0 v1 v2 v3 v4 v5 v6 v7) (ix3 0 r k) = v0 (ix3 0 r k) + v1 (ix3 0 r k) + v2 (ix3 0 r k) + v3 (ix3 0 r k) + v4 (ix3 0 r k) + v5 (ix3 0 r k) + v6 (ix3 0 r k) + v7 (ix3 0 r k)
    ∧ k0_pay1 (F := Ideal) (k0_pay8 (k0_pay2 v0 v1 v2 v3 v4 v5 v6 v7) (k0_pay3 v0 v1 v2 v3 v4 v5 v6 v7 p) v w) (ix3 0 r k) = AdamW.delta (w (ix3 0 r k)) (p (ix3 0 r k)) (v (ix3 0 r k)) (v0 (ix3 0 r k) + v1 (ix3 0 r k) + v2 (ix3 0 r k) + v3 (ix3 0 r k) + v4 (ix3 0 r k) + v5 (ix3 0 r k) + v6 (ix3 0 r k) + v7 (ix3 0 r k))
    ∧ k0_pay6 (F := Ideal) (k0_pay3 v0 v1 v2 v3 v4 v5 v6 v7 p) (ix3 0 r k) = AdamW.moment (p (ix3 0 r k)) (v0 (ix3 0 r k) + v1 (ix3 0 r k) + v2 (ix3 0 r k) + v3 (ix3 0 r k) + v4 (ix3 0 r k) + v5 (ix3 0 r k) + v6 (ix3 0 r k) + v7 (ix3 0 r k))
    ∧ k0_pay7 (F := Ideal) (k0_pay2 v0 v1 v2 v3 v4 v5 v6 v7) v (ix3 0 r k) = AdamW.square (v (ix3 0 r k)) (v0 (ix3 0 r k) + v1 (ix3 0 r k) + v2 (ix3 0 r k) + v3 (ix3 0 r k) + v4 (ix3 0 r k) + v5 (ix3 0 r k) + v6 (ix3 0 r k) + v7 (ix3 0 r k)) := by
  rw [← AdamW.scaled_eq, ← constants.1, ← constants.2]
  refine ⟨?_, ?_, ?_, ?_⟩ <;> pointwise [k0_pay1, k0_pay2, k0_pay3, k0_pay4, k0_pay5, k0_pay6, k0_pay7, k0_pay8, AdamW.moment, AdamW.square, AdamW.scaled]

/-- The body's load of part `s`, at an entry. -/
theorem load (x : Vec Ideal S8x272x128 .f32) (s : Nat) (hs : s < 8) (i : ∀ a, (![s, 0, 0] : Fin 3 → Nat) a + (![1, 272, 128] : Fin 3 → Nat) a ≤ S8x272x128.size a) (r : Fin 272) (k : Fin 128) :
    (View.ld x (Rect.unit ![s, 0, 0] ![1, 272, 128] i)) (ix3 0 r k) = x (ix3 ⟨s, hs⟩ r k) :=
  View.ld_unit_apply_of _ _ _ _ _ _ (fun a => by fin_cases a <;> simp [ix3])

/-! ## The arrays that the kernel packs before its call -/

variable (m : (ℓ : Loc nD τ sig) → Buf (Elt Ideal) ℓ)

/-- The weights, packed. -/
def weight (c : Dev nD) : Vec Ideal S1x272x128 .f32 := V m c main_v9
/-- Their first moments, packed. -/
def moment1 (c : Dev nD) : Vec Ideal S1x272x128 .f32 := V m c main_v19
/-- Their second moments, packed. -/
def moment2 (c : Dev nD) : Vec Ideal S1x272x128 .f32 := V m c main_v29
/-- The devices' parts of their gradients, packed. -/
def parts (c : Dev nD) : Vec Ideal S8x272x128 .f32 := V m c main_v38

set_option maxHeartbeats 6400000 in
/-- The reference's results at an entry of the array in which they are laid out, from the packed arrays' entries there. -/
theorem step (c : Dev nD) (r : Fin 272) (k : Fin 128) :
    val_main_v109 (F := Ideal) (m (c.tc.loc main_arg12)) (m (c.tc.loc main_arg13)) (m (c.tc.loc main_arg14)) (m (c.tc.loc main_arg15)) (ix3 0 r k) = ∑ q : Fin 8, parts m c (ix3 q r k)
    ∧ val_main_v119 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (ix3 0 r k) = AdamW.delta (weight m c (ix3 0 r k)) (moment1 m c (ix3 0 r k)) (moment2 m c (ix3 0 r k)) (∑ q : Fin 8, parts m c (ix3 q r k))
    ∧ val_main_v129 (F := Ideal) (m (c.tc.loc main_arg4)) (m (c.tc.loc main_arg5)) (m (c.tc.loc main_arg6)) (m (c.tc.loc main_arg7)) (m (c.tc.loc main_arg12)) (m (c.tc.loc main_arg13)) (m (c.tc.loc main_arg14)) (m (c.tc.loc main_arg15)) (ix3 0 r k) = AdamW.moment (moment1 m c (ix3 0 r k)) (∑ q : Fin 8, parts m c (ix3 q r k))
    ∧ val_main_v139 (F := Ideal) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (ix3 0 r k) = AdamW.square (moment2 m c (ix3 0 r k)) (∑ q : Fin 8, parts m c (ix3 q r k)) := by
  refine ⟨?_, ?_, ?_, ?_⟩
  all_goals
    simp only [weight, moment1, moment2, parts, V, List.flatten_cons, List.flatten_nil, List.append_nil]
    after_reads_simp
    try simp -implicitDefEqProofs only [StableHlo.TRef.toBuf, StableHlo.TRef.ofBuf, cast_cast, cast_eq]
    pointwise [val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24, val_main_cst_9, val_main_v25, val_main_cst_10, val_main_v26, val_main_v27, val_main_cst_11, val_main_v28, val_main_v29, val_main_v30, val_main_cst_12, val_main_v31, val_main_v32, val_main_v33, val_main_cst_13, val_main_v34, val_main_v35, val_main_v36, val_main_cst_14, val_main_v37, val_main_v38, val_main_cst_15, val_main_v39, val_main_v40, val_main_v41, val_main_cst_16, val_main_v42, val_main_v43, val_main_v44, val_main_cst_17, val_main_v45, val_main_v46, val_main_v47, val_main_cst_18, val_main_v48, val_main_v49, val_main_cst_19, val_main_v50, val_main_cst_20, val_main_v51, val_main_v52, val_main_cst_21, val_main_v53, val_main_v54, val_main_v55, val_main_cst_22, val_main_v56, val_main_v57, val_main_v58, val_main_cst_23, val_main_v59, val_main_v60, val_main_v61, val_main_cst_24, val_main_v62, val_main_v63, val_main_cst_25, val_main_v64, val_main_v65, val_main_v66, val_main_cst_26, val_main_v67, val_main_v68, val_main_v69, val_main_cst_27, val_main_v70, val_main_v71, val_main_v72, val_main_cst_28, val_main_v73, val_main_v74, val_main_cst_29, val_main_v75, val_main_cst_30, val_main_v76, val_main_v77, val_main_cst_31, val_main_v78, val_main_v79, val_main_v80, val_main_cst_32, val_main_v81, val_main_v82, val_main_v83, val_main_cst_33, val_main_v84, val_main_v85, val_main_v86, val_main_cst_34, val_main_v87, val_main_v88, val_main_cst_35, val_main_v89, val_main_v90, val_main_v91, val_main_cst_36, val_main_v92, val_main_v93, val_main_v94, val_main_cst_37, val_main_v95, val_main_v96, val_main_v97, val_main_cst_38, val_main_v98, val_main_v99, val_main_v100, val_main_v101, val_main_v102, val_main_v103, val_main_v104, val_main_v105, val_main_c, val_main_call0_v0, val_main_v106, val_main_v107, val_main_v108, val_main_v109, val_main_v110, val_main_v111, val_main_v112, val_main_v113, val_main_v114, val_main_v115, val_main_c_39, val_main_call1_v0, val_main_v116, val_main_v117, val_main_v118, val_main_v119, val_main_v120, val_main_v121, val_main_v122, val_main_v123, val_main_v124, val_main_v125, val_main_c_40, val_main_call2_v0, val_main_v126, val_main_v127, val_main_v128, val_main_v129, val_main_v130, val_main_v131, val_main_v132, val_main_v133, val_main_v134, val_main_v135, val_main_c_41, val_main_call3_v0, val_main_v136, val_main_v137, val_main_v138, val_main_v139]
    try after_reads_simp
    try simp -implicitDefEqProofs only [StableHlo.TRef.toBuf, StableHlo.TRef.ofBuf, cast_cast, cast_eq]
    try pointwise
    try simp only [AdamW.column, AdamW.row_div, AdamW.row_mod, Fin.eta]
    split_ifs <;> first | rfl | simp only [AdamW.pad_zero, Finset.sum_const_zero, AdamW.delta_zero, AdamW.moment_zero, AdamW.square_zero] | pointwise [AdamW.moment, AdamW.square, AdamW.delta]

/-! ## The blocks -/

/-- Which block of each array grid point `t` works on: row block `t`. -/
theorem blocks : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row of the arrays that row `r` of block `t` is. -/
def row (t : Fin cfg0.N) (r : Fin 272) : Fin 272 := ⟨t.val * 272 + r.val, by have := lt_of_lt_of_eq t.isLt N_0; have := r.isLt; omega⟩

/-- A block of each packed array. -/
theorem read (c : Dev nD) (t : Fin cfg0.N) (r : Fin 272) (k : Fin 128) :
    (show Vec Ideal S1x272x128 .f32 from iblk m c 0 t) (ix3 0 r k) = weight m c (ix3 0 (row t r) k)
    ∧ (show Vec Ideal S1x272x128 .f32 from iblk m c 1 t) (ix3 0 r k) = moment1 m c (ix3 0 (row t r) k)
    ∧ (show Vec Ideal S1x272x128 .f32 from iblk m c 2 t) (ix3 0 r k) = moment2 m c (ix3 0 (row t r) k) := by
  refine ⟨?_, ?_, ?_⟩ <;> blk_point [iblk, weight, moment1, moment2, blocks t, row]

/-- A block of the parts. -/
theorem read_parts (c : Dev nD) (t : Fin cfg0.N) (q : Fin 8) (r : Fin 272) (k : Fin 128) :
    (show Vec Ideal S8x272x128 .f32 from iblk m c 3 t) (ix3 q r k) = parts m c (ix3 q (row t r) k) := by
  blk_point [iblk, parts, blocks t, row]

/-- What the body leaves at an entry is the reference's results there. -/
theorem entry (c : Dev nD) (t : Fin cfg0.N) (r : Fin 272) (k : Fin 128) (x : Vec Ideal S8x272x128 .f32) (i0 : ∀ a, (![0, 0, 0] : Fin 3 → Nat) a + (![1, 272, 128] : Fin 3 → Nat) a ≤ S8x272x128.size a) (i1 : ∀ a, (![1, 0, 0] : Fin 3 → Nat) a + (![1, 272, 128] : Fin 3 → Nat) a ≤ S8x272x128.size a) (i2 : ∀ a, (![2, 0, 0] : Fin 3 → Nat) a + (![1, 272, 128] : Fin 3 → Nat) a ≤ S8x272x128.size a) (i3 : ∀ a, (![3, 0, 0] : Fin 3 → Nat) a + (![1, 272, 128] : Fin 3 → Nat) a ≤ S8x272x128.size a) (i4 : ∀ a, (![4, 0, 0] : Fin 3 → Nat) a + (![1, 272, 128] : Fin 3 → Nat) a ≤ S8x272x128.size a) (i5 : ∀ a, (![5, 0, 0] : Fin 3 → Nat) a + (![1, 272, 128] : Fin 3 → Nat) a ≤ S8x272x128.size a) (i6 : ∀ a, (![6, 0, 0] : Fin 3 → Nat) a + (![1, 272, 128] : Fin 3 → Nat) a ≤ S8x272x128.size a) (i7 : ∀ a, (![7, 0, 0] : Fin 3 → Nat) a + (![1, 272, 128] : Fin 3 → Nat) a ≤ S8x272x128.size a)
    (hx : ∀ q : Fin 8, x (ix3 q r k) = parts m c (ix3 q (row t r) k)) :
    k0_pay5 (F := Ideal) (k0_pay2 (View.ld x (Rect.unit ![0, 0, 0] ![1, 272, 128] i0)) (View.ld x (Rect.unit ![1, 0, 0] ![1, 272, 128] i1)) (View.ld x (Rect.unit ![2, 0, 0] ![1, 272, 128] i2)) (View.ld x (Rect.unit ![3, 0, 0] ![1, 272, 128] i3)) (View.ld x (Rect.unit ![4, 0, 0] ![1, 272, 128] i4)) (View.ld x (Rect.unit ![5, 0, 0] ![1, 272, 128] i5)) (View.ld x (Rect.unit ![6, 0, 0] ![1, 272, 128] i6)) (View.ld x (Rect.unit ![7, 0, 0] ![1, 272, 128] i7))) (ix3 0 r k) = val_main_v109 (F := Ideal) (m (c.tc.loc main_arg12)) (m (c.tc.loc main_arg13)) (m (c.tc.loc main_arg14)) (m (c.tc.loc main_arg15)) (ix3 0 (row t r) k)
    ∧ k0_pay1 (F := Ideal) (k0_pay8 (k0_pay2 (View.ld x (Rect.unit ![0, 0, 0] ![1, 272, 128] i0)) (View.ld x (Rect.unit ![1, 0, 0] ![1, 272, 128] i1)) (View.ld x (Rect.unit ![2, 0, 0] ![1, 272, 128] i2)) (View.ld x (Rect.unit ![3, 0, 0] ![1, 272, 128] i3)) (View.ld x (Rect.unit ![4, 0, 0] ![1, 272, 128] i4)) (View.ld x (Rect.unit ![5, 0, 0] ![1, 272, 128] i5)) (View.ld x (Rect.unit ![6, 0, 0] ![1, 272, 128] i6)) (View.ld x (Rect.unit ![7, 0, 0] ![1, 272, 128] i7))) (k0_pay3 (View.ld x (Rect.unit ![0, 0, 0] ![1, 272, 128] i0)) (View.ld x (Rect.unit ![1, 0, 0] ![1, 272, 128] i1)) (View.ld x (Rect.unit ![2, 0, 0] ![1, 272, 128] i2)) (View.ld x (Rect.unit ![3, 0, 0] ![1, 272, 128] i3)) (View.ld x (Rect.unit ![4, 0, 0] ![1, 272, 128] i4)) (View.ld x (Rect.unit ![5, 0, 0] ![1, 272, 128] i5)) (View.ld x (Rect.unit ![6, 0, 0] ![1, 272, 128] i6)) (View.ld x (Rect.unit ![7, 0, 0] ![1, 272, 128] i7)) (iblk m c 1 t)) (iblk m c 2 t) (iblk m c 0 t)) (ix3 0 r k) = val_main_v119 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (ix3 0 (row t r) k)
    ∧ k0_pay6 (F := Ideal) (k0_pay3 (View.ld x (Rect.unit ![0, 0, 0] ![1, 272, 128] i0)) (View.ld x (Rect.unit ![1, 0, 0] ![1, 272, 128] i1)) (View.ld x (Rect.unit ![2, 0, 0] ![1, 272, 128] i2)) (View.ld x (Rect.unit ![3, 0, 0] ![1, 272, 128] i3)) (View.ld x (Rect.unit ![4, 0, 0] ![1, 272, 128] i4)) (View.ld x (Rect.unit ![5, 0, 0] ![1, 272, 128] i5)) (View.ld x (Rect.unit ![6, 0, 0] ![1, 272, 128] i6)) (View.ld x (Rect.unit ![7, 0, 0] ![1, 272, 128] i7)) (iblk m c 1 t)) (ix3 0 r k) = val_main_v129 (F := Ideal) (m (c.tc.loc main_arg4)) (m (c.tc.loc main_arg5)) (m (c.tc.loc main_arg6)) (m (c.tc.loc main_arg7)) (m (c.tc.loc main_arg12)) (m (c.tc.loc main_arg13)) (m (c.tc.loc main_arg14)) (m (c.tc.loc main_arg15)) (ix3 0 (row t r) k)
    ∧ k0_pay7 (F := Ideal) (k0_pay2 (View.ld x (Rect.unit ![0, 0, 0] ![1, 272, 128] i0)) (View.ld x (Rect.unit ![1, 0, 0] ![1, 272, 128] i1)) (View.ld x (Rect.unit ![2, 0, 0] ![1, 272, 128] i2)) (View.ld x (Rect.unit ![3, 0, 0] ![1, 272, 128] i3)) (View.ld x (Rect.unit ![4, 0, 0] ![1, 272, 128] i4)) (View.ld x (Rect.unit ![5, 0, 0] ![1, 272, 128] i5)) (View.ld x (Rect.unit ![6, 0, 0] ![1, 272, 128] i6)) (View.ld x (Rect.unit ![7, 0, 0] ![1, 272, 128] i7))) (iblk m c 2 t) (ix3 0 r k) = val_main_v139 (F := Ideal) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (ix3 0 (row t r) k) := by
  obtain ⟨a0, a1, a2, a3⟩ := step_apply (View.ld x (Rect.unit ![0, 0, 0] ![1, 272, 128] i0)) (View.ld x (Rect.unit ![1, 0, 0] ![1, 272, 128] i1)) (View.ld x (Rect.unit ![2, 0, 0] ![1, 272, 128] i2)) (View.ld x (Rect.unit ![3, 0, 0] ![1, 272, 128] i3)) (View.ld x (Rect.unit ![4, 0, 0] ![1, 272, 128] i4)) (View.ld x (Rect.unit ![5, 0, 0] ![1, 272, 128] i5)) (View.ld x (Rect.unit ![6, 0, 0] ![1, 272, 128] i6)) (View.ld x (Rect.unit ![7, 0, 0] ![1, 272, 128] i7)) (iblk m c 0 t) (iblk m c 1 t) (iblk m c 2 t) r k
  obtain ⟨b0, b1, b2, b3⟩ := step m c (row t r) k
  obtain ⟨w, p, v⟩ := read m c t r k
  dsimp only at w p v
  have e : (View.ld x (Rect.unit ![0, 0, 0] ![1, 272, 128] i0)) (ix3 0 r k) + (View.ld x (Rect.unit ![1, 0, 0] ![1, 272, 128] i1)) (ix3 0 r k) + (View.ld x (Rect.unit ![2, 0, 0] ![1, 272, 128] i2)) (ix3 0 r k) + (View.ld x (Rect.unit ![3, 0, 0] ![1, 272, 128] i3)) (ix3 0 r k) + (View.ld x (Rect.unit ![4, 0, 0] ![1, 272, 128] i4)) (ix3 0 r k) + (View.ld x (Rect.unit ![5, 0, 0] ![1, 272, 128] i5)) (ix3 0 r k) + (View.ld x (Rect.unit ![6, 0, 0] ![1, 272, 128] i6)) (ix3 0 r k) + (View.ld x (Rect.unit ![7, 0, 0] ![1, 272, 128] i7)) (ix3 0 r k) = ∑ q : Fin 8, parts m c (ix3 q (row t r) k) := by
    rw [Fin.sum_univ_eight, load x 0 (by norm_num), load x 1 (by norm_num), load x 2 (by norm_num), load x 3 (by norm_num), load x 4 (by norm_num), load x 5 (by norm_num), load x 6 (by norm_num), load x 7 (by norm_num), ← hx 0, ← hx 1, ← hx 2, ← hx 3, ← hx 4, ← hx 5, ← hx 6, ← hx 7]
    rfl
  rw [e] at a0 a1 a2 a3
  exact ⟨a0.trans b0.symm, a1.trans (Eq.trans (by rw [w, p, v]) b1.symm), a2.trans (Eq.trans (by rw [p]) b2.symm), a3.trans (Eq.trans (by rw [v]) b3.symm)⟩

/-- What a grid point leaves in the four results' blocks is the reference's. -/
theorem block (c : Dev nD) (t : Fin cfg0.N) (z : Fin 1) (r : Fin 272) (k : Fin 128) :
    (outsAt0 m c t).1 (ix3 z r k) = val_main_v109 (F := Ideal) (m (c.tc.loc main_arg12)) (m (c.tc.loc main_arg13)) (m (c.tc.loc main_arg14)) (m (c.tc.loc main_arg15)) (ix3 z (row t r) k)
    ∧ (outsAt0 m c t).2.1 (ix3 z r k) = val_main_v119 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (ix3 z (row t r) k)
    ∧ (outsAt0 m c t).2.2.1 (ix3 z r k) = val_main_v129 (F := Ideal) (m (c.tc.loc main_arg4)) (m (c.tc.loc main_arg5)) (m (c.tc.loc main_arg6)) (m (c.tc.loc main_arg7)) (m (c.tc.loc main_arg12)) (m (c.tc.loc main_arg13)) (m (c.tc.loc main_arg14)) (m (c.tc.loc main_arg15)) (ix3 z (row t r) k)
    ∧ (outsAt0 m c t).2.2.2 (ix3 z r k) = val_main_v139 (F := Ideal) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (ix3 z (row t r) k) := by
  obtain rfl : z = 0 := Fin.fin_one_eq_zero z
  have he := entry m c t r k (iblk m c 3 t) inb_S8x272x128_S1x272x128_0_0_0 inb_S8x272x128_S1x272x128_1_0_0 inb_S8x272x128_S1x272x128_2_0_0 inb_S8x272x128_S1x272x128_3_0_0 inb_S8x272x128_S1x272x128_4_0_0 inb_S8x272x128_S1x272x128_5_0_0 inb_S8x272x128_S1x272x128_6_0_0 inb_S8x272x128_S1x272x128_7_0_0 (fun q => read_parts m c t q r k)
  unfold outsAt0
  refine ⟨?_, ?_, ?_, ?_⟩ <;> frame_out
  exacts [he.1, he.2.1, he.2.2.1, he.2.2.2]

/-! ## The results -/

/-- The gradients are the reference's. -/
theorem result0 (c : Dev nD) : (dats m 0 c).arrAt 4 (cfgs 0).N = val_main_v109 (F := Ideal) (m (c.tc.loc main_arg12)) (m (c.tc.loc main_arg13)) (m (c.tc.loc main_arg14)) (m (c.tc.loc main_arg15)) := by
  refine (dats m 0 c).arrAt_eq_of_covers 4 _ (by decide +kernel) fun t hf y => ?_
  blk_simp
  rw [after0_4]
  have e : ∀ (z : Fin 1) (r : Fin 272) (k : Fin 128), ((View.whole main_v39_0).slice (win0_4.rect t)).emb (ix3 z r k) = ix3 z (row t r) k := fun z r k => by blk_ext [blocks t, row]
  idx_vars y
  rw [e]
  exact (block m c t _ _ _).1

/-- The updates are the reference's. -/
theorem result1 (c : Dev nD) : (dats m 0 c).arrAt 5 (cfgs 0).N = val_main_v119 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) := by
  refine (dats m 0 c).arrAt_eq_of_covers 5 _ (by decide +kernel) fun t hf y => ?_
  blk_simp
  rw [after0_5]
  have e : ∀ (z : Fin 1) (r : Fin 272) (k : Fin 128), ((View.whole main_v39_1).slice (win0_5.rect t)).emb (ix3 z r k) = ix3 z (row t r) k := fun z r k => by blk_ext [blocks t, row]
  idx_vars y
  rw [e]
  exact (block m c t _ _ _).2.1

/-- The new first moments are the reference's. -/
theorem result2 (c : Dev nD) : (dats m 0 c).arrAt 6 (cfgs 0).N = val_main_v129 (F := Ideal) (m (c.tc.loc main_arg4)) (m (c.tc.loc main_arg5)) (m (c.tc.loc main_arg6)) (m (c.tc.loc main_arg7)) (m (c.tc.loc main_arg12)) (m (c.tc.loc main_arg13)) (m (c.tc.loc main_arg14)) (m (c.tc.loc main_arg15)) := by
  refine (dats m 0 c).arrAt_eq_of_covers 6 _ (by decide +kernel) fun t hf y => ?_
  blk_simp
  rw [after0_6]
  have e : ∀ (z : Fin 1) (r : Fin 272) (k : Fin 128), ((View.whole main_v39_2).slice (win0_6.rect t)).emb (ix3 z r k) = ix3 z (row t r) k := fun z r k => by blk_ext [blocks t, row]
  idx_vars y
  rw [e]
  exact (block m c t _ _ _).2.2.1

/-- The new second moments are the reference's. -/
theorem result3 (c : Dev nD) : (dats m 0 c).arrAt 7 (cfgs 0).N = val_main_v139 (F := Ideal) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) := by
  refine (dats m 0 c).arrAt_eq_of_covers 7 _ (by decide +kernel) fun t hf y => ?_
  blk_simp
  rw [after0_7]
  have e : ∀ (z : Fin 1) (r : Fin 272) (k : Fin 128), ((View.whole main_v39_3).slice (win0_7.rect t)).emb (ix3 z r k) = ix3 z (row t r) k := fun z r k => by blk_ext [blocks t, row]
  idx_vars y
  rw [e]
  exact (block m c t _ _ _).2.2.2

/-! ## The claims -/

/-- The two constants that the idealised kernel names are the ones the kernel holds. -/
theorem preserves : Cert.preserves_Kernel21_Kernel21Ideal :=
  ⟨IdealRules.named_const.statement Cert.Kernel21Ideal.κ "c1" .f32 0x3FC48605#32 ((8388608 / 5463681 : ℝ) : EReal) rfl, IdealRules.named_const.statement Cert.Kernel21Ideal.κ "c2" .f32 0x42C8E6D3#32 ((268435456 / 2672307 : ℝ) : EReal) rfl⟩

set_option maxHeartbeats 3200000 in
/-- On the extended reals, the kernel and the reference compute the same gradients, updates and moments. -/
theorem algebraic : Cert.algebraic_Kernel21Ideal_Reference21Ideal := by
  pair_intro
  · run_from Cert.Kernel21Ideal.Gen.run_main m g
    all_goals
      simp only [List.flatten_cons, List.flatten_nil, List.append_nil]
      after_reads_simp
      try rfl
  · run_from Cert.Reference21Ideal.Value.run m' g'
    · obtain ⟨a0, a1, a2, a3, a4, a5, a6, a7, a8, a9, a10, a11, a12, a13, a14, a15⟩ := hagree c
      exact (Eq.trans (val_main_v109_eq (StableHlo.launchContents m' c)) (by simp only [StableHlo.launchContents, a12, a13, a14, a15])).trans (result0 m c).symm
    · obtain ⟨a0, a1, a2, a3, a4, a5, a6, a7, a8, a9, a10, a11, a12, a13, a14, a15⟩ := hagree c
      rw [← a0, ← a1, ← a2, ← a3]
      refine (val_main_v119_eq (StableHlo.launchContents m' c)).trans ?_
      simp only [StableHlo.launchContents, a0, a1, a2, a3, a4, a5, a6, a7, a8, a9, a10, a11, a12, a13, a14, a15]
      exact (result1 m c).symm
    · obtain ⟨a0, a1, a2, a3, a4, a5, a6, a7, a8, a9, a10, a11, a12, a13, a14, a15⟩ := hagree c
      exact (Eq.trans (val_main_v129_eq (StableHlo.launchContents m' c)) (by simp only [StableHlo.launchContents, a4, a5, a6, a7, a12, a13, a14, a15])).trans (result2 m c).symm
    · obtain ⟨a0, a1, a2, a3, a4, a5, a6, a7, a8, a9, a10, a11, a12, a13, a14, a15⟩ := hagree c
      exact (Eq.trans (val_main_v139_eq (StableHlo.launchContents m' c)) (by simp only [StableHlo.launchContents, a8, a9, a10, a11, a12, a13, a14, a15])).trans (result3 m c).symm

end Cert.SmallStep

end
-- ==== Proof.ChannelStep.lean ====
/- The optimiser's step, in one call, of the short convolutions' weights and biases and the gating norm's weight: what the kernel leaves is the gradients summed over the devices, the updates and the new moments that the reference computes. -/
module

public import proofs.«01_k».proof.Proof.Gen.Kernel22Ideal.Value
public import proofs.«01_k».proof.Proof.Gen.Reference22Ideal.Read
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Defs
public import proofs.«01_k».proof.Proof.AdamW

@[expose] public section

set_option maxRecDepth 16384

noncomputable section

open Idealize.ShloMosaic Idealize.ShloMosaic.TcCoe Idealize.SL.Sem
open Idealize.ShloMosaic.Pipeline (Dat)
open scoped BigOperators

namespace Cert.ChannelStep

open Cert.Kernel22Ideal Cert.Kernel22Ideal.Gen
open Cert.Reference22Ideal.Read

/-! ## What the body computes from a block -/

/-- The two named constants' values. -/
theorem constants : Named.named (F := Ideal) Cert.Kernel22Ideal.κ "c1" (φ := .f32) 0x3FC48605#32 = ((8388608 / 5463681 : ℝ) : EReal)
    ∧ Named.named (F := Ideal) Cert.Kernel22Ideal.κ "c2" (φ := .f32) 0x42C8E6D3#32 = ((268435456 / 2672307 : ℝ) : EReal) :=
  ⟨IdealRules.named_const.ideal_named_scalar _ _ _ _ rfl, IdealRules.named_const.ideal_named_scalar _ _ _ _ rfl⟩

set_option maxHeartbeats 1600000 in
/-- The results of the body at an entry, from the eight devices' parts there: the gradient, the update and the new moments. -/
theorem step_apply (v0 v1 v2 v3 v4 v5 v6 v7 : Vec Ideal S1x16x128 .f32) (w p v : Vec Ideal S1x16x128 .f32) (r : Fin 16) (k : Fin 128) :
    k0_pay5 (F := Ideal) (k0_pay2 v0 v1 v2 v3 v4 v5 v6 v7) (ix3 0 r k) = v0 (ix3 0 r k) + v1 (ix3 0 r k) + v2 (ix3 0 r k) + v3 (ix3 0 r k) + v4 (ix3 0 r k) + v5 (ix3 0 r k) + v6 (ix3 0 r k) + v7 (ix3 0 r k)
    ∧ k0_pay1 (F := Ideal) (k0_pay8 (k0_pay2 v0 v1 v2 v3 v4 v5 v6 v7) (k0_pay3 v0 v1 v2 v3 v4 v5 v6 v7 p) v w) (ix3 0 r k) = AdamW.delta (w (ix3 0 r k)) (p (ix3 0 r k)) (v (ix3 0 r k)) (v0 (ix3 0 r k) + v1 (ix3 0 r k) + v2 (ix3 0 r k) + v3 (ix3 0 r k) + v4 (ix3 0 r k) + v5 (ix3 0 r k) + v6 (ix3 0 r k) + v7 (ix3 0 r k))
    ∧ k0_pay6 (F := Ideal) (k0_pay3 v0 v1 v2 v3 v4 v5 v6 v7 p) (ix3 0 r k) = AdamW.moment (p (ix3 0 r k)) (v0 (ix3 0 r k) + v1 (ix3 0 r k) + v2 (ix3 0 r k) + v3 (ix3 0 r k) + v4 (ix3 0 r k) + v5 (ix3 0 r k) + v6 (ix3 0 r k) + v7 (ix3 0 r k))
    ∧ k0_pay7 (F := Ideal) (k0_pay2 v0 v1 v2 v3 v4 v5 v6 v7) v (ix3 0 r k) = AdamW.square (v (ix3 0 r k)) (v0 (ix3 0 r k) + v1 (ix3 0 r k) + v2 (ix3 0 r k) + v3 (ix3 0 r k) + v4 (ix3 0 r k) + v5 (ix3 0 r k) + v6 (ix3 0 r k) + v7 (ix3 0 r k)) := by
  rw [← AdamW.scaled_eq, ← constants.1, ← constants.2]
  refine ⟨?_, ?_, ?_, ?_⟩ <;> pointwise [k0_pay1, k0_pay2, k0_pay3, k0_pay4, k0_pay5, k0_pay6, k0_pay7, k0_pay8, AdamW.moment, AdamW.square, AdamW.scaled]

/-- The body's load of part `s`, at an entry. -/
theorem load (x : Vec Ideal S8x16x128 .f32) (s : Nat) (hs : s < 8) (i : ∀ a, (![s, 0, 0] : Fin 3 → Nat) a + (![1, 16, 128] : Fin 3 → Nat) a ≤ S8x16x128.size a) (r : Fin 16) (k : Fin 128) :
    (View.ld x (Rect.unit ![s, 0, 0] ![1, 16, 128] i)) (ix3 0 r k) = x (ix3 ⟨s, hs⟩ r k) :=
  View.ld_unit_apply_of _ _ _ _ _ _ (fun a => by fin_cases a <;> simp [ix3])

/-! ## The arrays that the kernel packs before its call -/

variable (m : (ℓ : Loc nD τ sig) → Buf (Elt Ideal) ℓ)

/-- The weights, packed. -/
def weight (c : Dev nD) : Vec Ideal S1x16x128 .f32 := V m c main_v8
/-- Their first moments, packed. -/
def moment1 (c : Dev nD) : Vec Ideal S1x16x128 .f32 := V m c main_v12
/-- Their second moments, packed. -/
def moment2 (c : Dev nD) : Vec Ideal S1x16x128 .f32 := V m c main_v16
/-- The devices' parts of their gradients, packed. -/
def parts (c : Dev nD) : Vec Ideal S8x16x128 .f32 := V m c main_v4

set_option maxHeartbeats 6400000 in
/-- The reference's results at an entry of the array in which they are laid out, from the packed arrays' entries there. -/
theorem step (c : Dev nD) (r : Fin 16) (k : Fin 128) :
    val_main_v83 (F := Ideal) (m (c.tc.loc main_arg9)) (m (c.tc.loc main_arg10)) (m (c.tc.loc main_arg11)) (ix3 0 r k) = ∑ q : Fin 8, parts m c (ix3 q r k)
    ∧ val_main_v92 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (ix3 0 r k) = AdamW.delta (weight m c (ix3 0 r k)) (moment1 m c (ix3 0 r k)) (moment2 m c (ix3 0 r k)) (∑ q : Fin 8, parts m c (ix3 q r k))
    ∧ val_main_v101 (F := Ideal) (m (c.tc.loc main_arg3)) (m (c.tc.loc main_arg4)) (m (c.tc.loc main_arg5)) (m (c.tc.loc main_arg9)) (m (c.tc.loc main_arg10)) (m (c.tc.loc main_arg11)) (ix3 0 r k) = AdamW.moment (moment1 m c (ix3 0 r k)) (∑ q : Fin 8, parts m c (ix3 q r k))
    ∧ val_main_v110 (F := Ideal) (m (c.tc.loc main_arg6)) (m (c.tc.loc main_arg7)) (m (c.tc.loc main_arg8)) (m (c.tc.loc main_arg9)) (m (c.tc.loc main_arg10)) (m (c.tc.loc main_arg11)) (ix3 0 r k) = AdamW.square (moment2 m c (ix3 0 r k)) (∑ q : Fin 8, parts m c (ix3 q r k)) := by
  refine ⟨?_, ?_, ?_, ?_⟩
  all_goals
    simp only [weight, moment1, moment2, parts, V, List.flatten_cons, List.flatten_nil, List.append_nil]
    after_reads_simp
    try simp -implicitDefEqProofs only [StableHlo.TRef.toBuf, StableHlo.TRef.ofBuf, cast_cast, cast_eq]
    pointwise [val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24, val_main_cst_9, val_main_v25, val_main_cst_10, val_main_v26, val_main_v27, val_main_cst_11, val_main_v28, val_main_v29, val_main_v30, val_main_cst_12, val_main_v31, val_main_v32, val_main_v33, val_main_cst_13, val_main_v34, val_main_v35, val_main_v36, val_main_cst_14, val_main_v37, val_main_v38, val_main_cst_15, val_main_v39, val_main_v40, val_main_v41, val_main_cst_16, val_main_v42, val_main_v43, val_main_v44, val_main_cst_17, val_main_v45, val_main_v46, val_main_v47, val_main_cst_18, val_main_v48, val_main_v49, val_main_cst_19, val_main_v50, val_main_cst_20, val_main_v51, val_main_v52, val_main_cst_21, val_main_v53, val_main_v54, val_main_v55, val_main_cst_22, val_main_v56, val_main_v57, val_main_v58, val_main_cst_23, val_main_v59, val_main_v60, val_main_v61, val_main_cst_24, val_main_v62, val_main_v63, val_main_cst_25, val_main_v64, val_main_v65, val_main_v66, val_main_cst_26, val_main_v67, val_main_v68, val_main_v69, val_main_cst_27, val_main_v70, val_main_v71, val_main_v72, val_main_cst_28, val_main_v73, val_main_v74, val_main_v75, val_main_v76, val_main_v77, val_main_v78, val_main_v79, val_main_v80, val_main_v81, val_main_v82, val_main_c, val_main_call0_v0, val_main_v83, val_main_v84, val_main_v85, val_main_v86, val_main_v87, val_main_v88, val_main_v89, val_main_v90, val_main_v91, val_main_c_29, val_main_call1_v0, val_main_v92, val_main_v93, val_main_v94, val_main_v95, val_main_v96, val_main_v97, val_main_v98, val_main_v99, val_main_v100, val_main_c_30, val_main_call2_v0, val_main_v101, val_main_v102, val_main_v103, val_main_v104, val_main_v105, val_main_v106, val_main_v107, val_main_v108, val_main_v109, val_main_c_31, val_main_call3_v0, val_main_v110]
    try after_reads_simp
    try simp -implicitDefEqProofs only [StableHlo.TRef.toBuf, StableHlo.TRef.ofBuf, cast_cast, cast_eq]
    try pointwise
    try simp only [AdamW.column, AdamW.row_div, AdamW.row_mod, Fin.eta]
    split_ifs <;> first | rfl | simp only [AdamW.pad_zero, Finset.sum_const_zero, AdamW.delta_zero, AdamW.moment_zero, AdamW.square_zero] | pointwise [AdamW.moment, AdamW.square, AdamW.delta]

/-! ## The blocks -/

/-- Which block of each array grid point `t` works on: row block `t`. -/
theorem blocks : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row of the arrays that row `r` of block `t` is. -/
def row (t : Fin cfg0.N) (r : Fin 16) : Fin 16 := ⟨t.val * 16 + r.val, by have := lt_of_lt_of_eq t.isLt N_0; have := r.isLt; omega⟩

/-- A block of each packed array. -/
theorem read (c : Dev nD) (t : Fin cfg0.N) (r : Fin 16) (k : Fin 128) :
    (show Vec Ideal S1x16x128 .f32 from iblk m c 0 t) (ix3 0 r k) = weight m c (ix3 0 (row t r) k)
    ∧ (show Vec Ideal S1x16x128 .f32 from iblk m c 1 t) (ix3 0 r k) = moment1 m c (ix3 0 (row t r) k)
    ∧ (show Vec Ideal S1x16x128 .f32 from iblk m c 2 t) (ix3 0 r k) = moment2 m c (ix3 0 (row t r) k) := by
  refine ⟨?_, ?_, ?_⟩ <;> blk_point [iblk, weight, moment1, moment2, blocks t, row]

/-- A block of the parts. -/
theorem read_parts (c : Dev nD) (t : Fin cfg0.N) (q : Fin 8) (r : Fin 16) (k : Fin 128) :
    (show Vec Ideal S8x16x128 .f32 from iblk m c 3 t) (ix3 q r k) = parts m c (ix3 q (row t r) k) := by
  blk_point [iblk, parts, blocks t, row]

/-- What the body leaves at an entry is the reference's results there. -/
theorem entry (c : Dev nD) (t : Fin cfg0.N) (r : Fin 16) (k : Fin 128) (x : Vec Ideal S8x16x128 .f32) (i0 : ∀ a, (![0, 0, 0] : Fin 3 → Nat) a + (![1, 16, 128] : Fin 3 → Nat) a ≤ S8x16x128.size a) (i1 : ∀ a, (![1, 0, 0] : Fin 3 → Nat) a + (![1, 16, 128] : Fin 3 → Nat) a ≤ S8x16x128.size a) (i2 : ∀ a, (![2, 0, 0] : Fin 3 → Nat) a + (![1, 16, 128] : Fin 3 → Nat) a ≤ S8x16x128.size a) (i3 : ∀ a, (![3, 0, 0] : Fin 3 → Nat) a + (![1, 16, 128] : Fin 3 → Nat) a ≤ S8x16x128.size a) (i4 : ∀ a, (![4, 0, 0] : Fin 3 → Nat) a + (![1, 16, 128] : Fin 3 → Nat) a ≤ S8x16x128.size a) (i5 : ∀ a, (![5, 0, 0] : Fin 3 → Nat) a + (![1, 16, 128] : Fin 3 → Nat) a ≤ S8x16x128.size a) (i6 : ∀ a, (![6, 0, 0] : Fin 3 → Nat) a + (![1, 16, 128] : Fin 3 → Nat) a ≤ S8x16x128.size a) (i7 : ∀ a, (![7, 0, 0] : Fin 3 → Nat) a + (![1, 16, 128] : Fin 3 → Nat) a ≤ S8x16x128.size a)
    (hx : ∀ q : Fin 8, x (ix3 q r k) = parts m c (ix3 q (row t r) k)) :
    k0_pay5 (F := Ideal) (k0_pay2 (View.ld x (Rect.unit ![0, 0, 0] ![1, 16, 128] i0)) (View.ld x (Rect.unit ![1, 0, 0] ![1, 16, 128] i1)) (View.ld x (Rect.unit ![2, 0, 0] ![1, 16, 128] i2)) (View.ld x (Rect.unit ![3, 0, 0] ![1, 16, 128] i3)) (View.ld x (Rect.unit ![4, 0, 0] ![1, 16, 128] i4)) (View.ld x (Rect.unit ![5, 0, 0] ![1, 16, 128] i5)) (View.ld x (Rect.unit ![6, 0, 0] ![1, 16, 128] i6)) (View.ld x (Rect.unit ![7, 0, 0] ![1, 16, 128] i7))) (ix3 0 r k) = val_main_v83 (F := Ideal) (m (c.tc.loc main_arg9)) (m (c.tc.loc main_arg10)) (m (c.tc.loc main_arg11)) (ix3 0 (row t r) k)
    ∧ k0_pay1 (F := Ideal) (k0_pay8 (k0_pay2 (View.ld x (Rect.unit ![0, 0, 0] ![1, 16, 128] i0)) (View.ld x (Rect.unit ![1, 0, 0] ![1, 16, 128] i1)) (View.ld x (Rect.unit ![2, 0, 0] ![1, 16, 128] i2)) (View.ld x (Rect.unit ![3, 0, 0] ![1, 16, 128] i3)) (View.ld x (Rect.unit ![4, 0, 0] ![1, 16, 128] i4)) (View.ld x (Rect.unit ![5, 0, 0] ![1, 16, 128] i5)) (View.ld x (Rect.unit ![6, 0, 0] ![1, 16, 128] i6)) (View.ld x (Rect.unit ![7, 0, 0] ![1, 16, 128] i7))) (k0_pay3 (View.ld x (Rect.unit ![0, 0, 0] ![1, 16, 128] i0)) (View.ld x (Rect.unit ![1, 0, 0] ![1, 16, 128] i1)) (View.ld x (Rect.unit ![2, 0, 0] ![1, 16, 128] i2)) (View.ld x (Rect.unit ![3, 0, 0] ![1, 16, 128] i3)) (View.ld x (Rect.unit ![4, 0, 0] ![1, 16, 128] i4)) (View.ld x (Rect.unit ![5, 0, 0] ![1, 16, 128] i5)) (View.ld x (Rect.unit ![6, 0, 0] ![1, 16, 128] i6)) (View.ld x (Rect.unit ![7, 0, 0] ![1, 16, 128] i7)) (iblk m c 1 t)) (iblk m c 2 t) (iblk m c 0 t)) (ix3 0 r k) = val_main_v92 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (ix3 0 (row t r) k)
    ∧ k0_pay6 (F := Ideal) (k0_pay3 (View.ld x (Rect.unit ![0, 0, 0] ![1, 16, 128] i0)) (View.ld x (Rect.unit ![1, 0, 0] ![1, 16, 128] i1)) (View.ld x (Rect.unit ![2, 0, 0] ![1, 16, 128] i2)) (View.ld x (Rect.unit ![3, 0, 0] ![1, 16, 128] i3)) (View.ld x (Rect.unit ![4, 0, 0] ![1, 16, 128] i4)) (View.ld x (Rect.unit ![5, 0, 0] ![1, 16, 128] i5)) (View.ld x (Rect.unit ![6, 0, 0] ![1, 16, 128] i6)) (View.ld x (Rect.unit ![7, 0, 0] ![1, 16, 128] i7)) (iblk m c 1 t)) (ix3 0 r k) = val_main_v101 (F := Ideal) (m (c.tc.loc main_arg3)) (m (c.tc.loc main_arg4)) (m (c.tc.loc main_arg5)) (m (c.tc.loc main_arg9)) (m (c.tc.loc main_arg10)) (m (c.tc.loc main_arg11)) (ix3 0 (row t r) k)
    ∧ k0_pay7 (F := Ideal) (k0_pay2 (View.ld x (Rect.unit ![0, 0, 0] ![1, 16, 128] i0)) (View.ld x (Rect.unit ![1, 0, 0] ![1, 16, 128] i1)) (View.ld x (Rect.unit ![2, 0, 0] ![1, 16, 128] i2)) (View.ld x (Rect.unit ![3, 0, 0] ![1, 16, 128] i3)) (View.ld x (Rect.unit ![4, 0, 0] ![1, 16, 128] i4)) (View.ld x (Rect.unit ![5, 0, 0] ![1, 16, 128] i5)) (View.ld x (Rect.unit ![6, 0, 0] ![1, 16, 128] i6)) (View.ld x (Rect.unit ![7, 0, 0] ![1, 16, 128] i7))) (iblk m c 2 t) (ix3 0 r k) = val_main_v110 (F := Ideal) (m (c.tc.loc main_arg6)) (m (c.tc.loc main_arg7)) (m (c.tc.loc main_arg8)) (m (c.tc.loc main_arg9)) (m (c.tc.loc main_arg10)) (m (c.tc.loc main_arg11)) (ix3 0 (row t r) k) := by
  obtain ⟨a0, a1, a2, a3⟩ := step_apply (View.ld x (Rect.unit ![0, 0, 0] ![1, 16, 128] i0)) (View.ld x (Rect.unit ![1, 0, 0] ![1, 16, 128] i1)) (View.ld x (Rect.unit ![2, 0, 0] ![1, 16, 128] i2)) (View.ld x (Rect.unit ![3, 0, 0] ![1, 16, 128] i3)) (View.ld x (Rect.unit ![4, 0, 0] ![1, 16, 128] i4)) (View.ld x (Rect.unit ![5, 0, 0] ![1, 16, 128] i5)) (View.ld x (Rect.unit ![6, 0, 0] ![1, 16, 128] i6)) (View.ld x (Rect.unit ![7, 0, 0] ![1, 16, 128] i7)) (iblk m c 0 t) (iblk m c 1 t) (iblk m c 2 t) r k
  obtain ⟨b0, b1, b2, b3⟩ := step m c (row t r) k
  obtain ⟨w, p, v⟩ := read m c t r k
  dsimp only at w p v
  have e : (View.ld x (Rect.unit ![0, 0, 0] ![1, 16, 128] i0)) (ix3 0 r k) + (View.ld x (Rect.unit ![1, 0, 0] ![1, 16, 128] i1)) (ix3 0 r k) + (View.ld x (Rect.unit ![2, 0, 0] ![1, 16, 128] i2)) (ix3 0 r k) + (View.ld x (Rect.unit ![3, 0, 0] ![1, 16, 128] i3)) (ix3 0 r k) + (View.ld x (Rect.unit ![4, 0, 0] ![1, 16, 128] i4)) (ix3 0 r k) + (View.ld x (Rect.unit ![5, 0, 0] ![1, 16, 128] i5)) (ix3 0 r k) + (View.ld x (Rect.unit ![6, 0, 0] ![1, 16, 128] i6)) (ix3 0 r k) + (View.ld x (Rect.unit ![7, 0, 0] ![1, 16, 128] i7)) (ix3 0 r k) = ∑ q : Fin 8, parts m c (ix3 q (row t r) k) := by
    rw [Fin.sum_univ_eight, load x 0 (by norm_num), load x 1 (by norm_num), load x 2 (by norm_num), load x 3 (by norm_num), load x 4 (by norm_num), load x 5 (by norm_num), load x 6 (by norm_num), load x 7 (by norm_num), ← hx 0, ← hx 1, ← hx 2, ← hx 3, ← hx 4, ← hx 5, ← hx 6, ← hx 7]
    rfl
  rw [e] at a0 a1 a2 a3
  exact ⟨a0.trans b0.symm, a1.trans (Eq.trans (by rw [w, p, v]) b1.symm), a2.trans (Eq.trans (by rw [p]) b2.symm), a3.trans (Eq.trans (by rw [v]) b3.symm)⟩

/-- What a grid point leaves in the four results' blocks is the reference's. -/
theorem block (c : Dev nD) (t : Fin cfg0.N) (z : Fin 1) (r : Fin 16) (k : Fin 128) :
    (outsAt0 m c t).1 (ix3 z r k) = val_main_v83 (F := Ideal) (m (c.tc.loc main_arg9)) (m (c.tc.loc main_arg10)) (m (c.tc.loc main_arg11)) (ix3 z (row t r) k)
    ∧ (outsAt0 m c t).2.1 (ix3 z r k) = val_main_v92 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (ix3 z (row t r) k)
    ∧ (outsAt0 m c t).2.2.1 (ix3 z r k) = val_main_v101 (F := Ideal) (m (c.tc.loc main_arg3)) (m (c.tc.loc main_arg4)) (m (c.tc.loc main_arg5)) (m (c.tc.loc main_arg9)) (m (c.tc.loc main_arg10)) (m (c.tc.loc main_arg11)) (ix3 z (row t r) k)
    ∧ (outsAt0 m c t).2.2.2 (ix3 z r k) = val_main_v110 (F := Ideal) (m (c.tc.loc main_arg6)) (m (c.tc.loc main_arg7)) (m (c.tc.loc main_arg8)) (m (c.tc.loc main_arg9)) (m (c.tc.loc main_arg10)) (m (c.tc.loc main_arg11)) (ix3 z (row t r) k) := by
  obtain rfl : z = 0 := Fin.fin_one_eq_zero z
  have he := entry m c t r k (iblk m c 3 t) inb_S8x16x128_S1x16x128_0_0_0 inb_S8x16x128_S1x16x128_1_0_0 inb_S8x16x128_S1x16x128_2_0_0 inb_S8x16x128_S1x16x128_3_0_0 inb_S8x16x128_S1x16x128_4_0_0 inb_S8x16x128_S1x16x128_5_0_0 inb_S8x16x128_S1x16x128_6_0_0 inb_S8x16x128_S1x16x128_7_0_0 (fun q => read_parts m c t q r k)
  unfold outsAt0
  refine ⟨?_, ?_, ?_, ?_⟩ <;> frame_out
  exacts [he.1, he.2.1, he.2.2.1, he.2.2.2]

/-! ## The results -/

/-- The gradients are the reference's. -/
theorem result0 (c : Dev nD) : (dats m 0 c).arrAt 4 (cfgs 0).N = val_main_v83 (F := Ideal) (m (c.tc.loc main_arg9)) (m (c.tc.loc main_arg10)) (m (c.tc.loc main_arg11)) := by
  refine (dats m 0 c).arrAt_eq_of_covers 4 _ (by decide +kernel) fun t hf y => ?_
  blk_simp
  rw [after0_4]
  have e : ∀ (z : Fin 1) (r : Fin 16) (k : Fin 128), ((View.whole main_v17_0).slice (win0_4.rect t)).emb (ix3 z r k) = ix3 z (row t r) k := fun z r k => by blk_ext [blocks t, row]
  idx_vars y
  rw [e]
  exact (block m c t _ _ _).1

/-- The updates are the reference's. -/
theorem result1 (c : Dev nD) : (dats m 0 c).arrAt 5 (cfgs 0).N = val_main_v92 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) := by
  refine (dats m 0 c).arrAt_eq_of_covers 5 _ (by decide +kernel) fun t hf y => ?_
  blk_simp
  rw [after0_5]
  have e : ∀ (z : Fin 1) (r : Fin 16) (k : Fin 128), ((View.whole main_v17_1).slice (win0_5.rect t)).emb (ix3 z r k) = ix3 z (row t r) k := fun z r k => by blk_ext [blocks t, row]
  idx_vars y
  rw [e]
  exact (block m c t _ _ _).2.1

/-- The new first moments are the reference's. -/
theorem result2 (c : Dev nD) : (dats m 0 c).arrAt 6 (cfgs 0).N = val_main_v101 (F := Ideal) (m (c.tc.loc main_arg3)) (m (c.tc.loc main_arg4)) (m (c.tc.loc main_arg5)) (m (c.tc.loc main_arg9)) (m (c.tc.loc main_arg10)) (m (c.tc.loc main_arg11)) := by
  refine (dats m 0 c).arrAt_eq_of_covers 6 _ (by decide +kernel) fun t hf y => ?_
  blk_simp
  rw [after0_6]
  have e : ∀ (z : Fin 1) (r : Fin 16) (k : Fin 128), ((View.whole main_v17_2).slice (win0_6.rect t)).emb (ix3 z r k) = ix3 z (row t r) k := fun z r k => by blk_ext [blocks t, row]
  idx_vars y
  rw [e]
  exact (block m c t _ _ _).2.2.1

/-- The new second moments are the reference's. -/
theorem result3 (c : Dev nD) : (dats m 0 c).arrAt 7 (cfgs 0).N = val_main_v110 (F := Ideal) (m (c.tc.loc main_arg6)) (m (c.tc.loc main_arg7)) (m (c.tc.loc main_arg8)) (m (c.tc.loc main_arg9)) (m (c.tc.loc main_arg10)) (m (c.tc.loc main_arg11)) := by
  refine (dats m 0 c).arrAt_eq_of_covers 7 _ (by decide +kernel) fun t hf y => ?_
  blk_simp
  rw [after0_7]
  have e : ∀ (z : Fin 1) (r : Fin 16) (k : Fin 128), ((View.whole main_v17_3).slice (win0_7.rect t)).emb (ix3 z r k) = ix3 z (row t r) k := fun z r k => by blk_ext [blocks t, row]
  idx_vars y
  rw [e]
  exact (block m c t _ _ _).2.2.2

/-! ## The claims -/

/-- The two constants that the idealised kernel names are the ones the kernel holds. -/
theorem preserves : Cert.preserves_Kernel22_Kernel22Ideal :=
  ⟨IdealRules.named_const.statement Cert.Kernel22Ideal.κ "c1" .f32 0x3FC48605#32 ((8388608 / 5463681 : ℝ) : EReal) rfl, IdealRules.named_const.statement Cert.Kernel22Ideal.κ "c2" .f32 0x42C8E6D3#32 ((268435456 / 2672307 : ℝ) : EReal) rfl⟩

set_option maxHeartbeats 3200000 in
/-- On the extended reals, the kernel and the reference compute the same gradients, updates and moments. -/
theorem algebraic : Cert.algebraic_Kernel22Ideal_Reference22Ideal := by
  pair_intro
  · run_from Cert.Kernel22Ideal.Gen.run_main m g
    all_goals
      simp only [List.flatten_cons, List.flatten_nil, List.append_nil]
      after_reads_simp
      try rfl
  · run_from Cert.Reference22Ideal.Value.run m' g'
    · obtain ⟨a0, a1, a2, a3, a4, a5, a6, a7, a8, a9, a10, a11⟩ := hagree c
      exact (Eq.trans (val_main_v83_eq _ _ _) (by simp only [a9, a10, a11])).trans (result0 m c).symm
    · obtain ⟨a0, a1, a2, a3, a4, a5, a6, a7, a8, a9, a10, a11⟩ := hagree c
      exact (Eq.trans (val_main_v92_eq m' c) (by simp only [a0, a1, a2, a3, a4, a5, a6, a7, a8, a9, a10, a11])).trans (result1 m c).symm
    · obtain ⟨a0, a1, a2, a3, a4, a5, a6, a7, a8, a9, a10, a11⟩ := hagree c
      exact (Eq.trans (val_main_v101_eq _ _ _ _ _ _) (by simp only [a3, a4, a5, a9, a10, a11])).trans (result2 m c).symm
    · obtain ⟨a0, a1, a2, a3, a4, a5, a6, a7, a8, a9, a10, a11⟩ := hagree c
      exact (Eq.trans (val_main_v110_eq _ _ _ _ _ _) (by simp only [a6, a7, a8, a9, a10, a11])).trans (result3 m c).symm

end Cert.ChannelStep

end
-- ==== Proof.StateSpaceStep.lean ====
/- The optimiser's step, in one call, of the state space mixer's small weights: what the kernel leaves is the gradients summed over the devices, the updates and the new moments that the reference computes. -/
module

public import proofs.«01_k».proof.Proof.Gen.Kernel23Ideal.Value
public import proofs.«01_k».proof.Proof.Gen.Reference23Ideal.Read
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Defs
public import proofs.«01_k».proof.Proof.AdamW

@[expose] public section

set_option maxRecDepth 16384

noncomputable section

open Idealize.ShloMosaic Idealize.ShloMosaic.TcCoe Idealize.SL.Sem
open Idealize.ShloMosaic.Pipeline (Dat)
open scoped BigOperators

namespace Cert.StateSpaceStep

open Cert.Kernel23Ideal Cert.Kernel23Ideal.Gen
open Cert.Reference23Ideal.Read

/-! ## What the body computes from a block -/

/-- The two named constants' values. -/
theorem constants : Named.named (F := Ideal) Cert.Kernel23Ideal.κ "c1" (φ := .f32) 0x3FC48605#32 = ((8388608 / 5463681 : ℝ) : EReal)
    ∧ Named.named (F := Ideal) Cert.Kernel23Ideal.κ "c2" (φ := .f32) 0x42C8E6D3#32 = ((268435456 / 2672307 : ℝ) : EReal) :=
  ⟨IdealRules.named_const.ideal_named_scalar _ _ _ _ rfl, IdealRules.named_const.ideal_named_scalar _ _ _ _ rfl⟩

set_option maxHeartbeats 1600000 in
/-- The results of the body at an entry, from the eight devices' parts there: the gradient, the update and the new moments. -/
theorem step_apply (v0 v1 v2 v3 v4 v5 v6 v7 : Vec Ideal S1x1080x128 .bf16) (w p v : Vec Ideal S1x1080x128 .f32) (r : Fin 1080) (k : Fin 128) :
    k0_pay6 (F := Ideal) (k0_pay2 v0 v1 v2 v3 v4 v5 v6 v7) (ix3 0 r k) = v0 (ix3 0 r k) + v1 (ix3 0 r k) + v2 (ix3 0 r k) + v3 (ix3 0 r k) + v4 (ix3 0 r k) + v5 (ix3 0 r k) + v6 (ix3 0 r k) + v7 (ix3 0 r k)
    ∧ k0_pay1 (F := Ideal) (k0_pay9 (k0_pay2 v0 v1 v2 v3 v4 v5 v6 v7) (k0_pay3 p) v) (k0_pay10 w) (ix3 0 r k) = AdamW.delta (w (ix3 0 r k)) (p (ix3 0 r k)) (v (ix3 0 r k)) (v0 (ix3 0 r k) + v1 (ix3 0 r k) + v2 (ix3 0 r k) + v3 (ix3 0 r k) + v4 (ix3 0 r k) + v5 (ix3 0 r k) + v6 (ix3 0 r k) + v7 (ix3 0 r k))
    ∧ k0_pay7 (F := Ideal) (k0_pay2 v0 v1 v2 v3 v4 v5 v6 v7) (k0_pay3 p) (ix3 0 r k) = AdamW.moment (p (ix3 0 r k)) (v0 (ix3 0 r k) + v1 (ix3 0 r k) + v2 (ix3 0 r k) + v3 (ix3 0 r k) + v4 (ix3 0 r k) + v5 (ix3 0 r k) + v6 (ix3 0 r k) + v7 (ix3 0 r k))
    ∧ k0_pay8 (F := Ideal) (k0_pay2 v0 v1 v2 v3 v4 v5 v6 v7) v (ix3 0 r k) = AdamW.square (v (ix3 0 r k)) (v0 (ix3 0 r k) + v1 (ix3 0 r k) + v2 (ix3 0 r k) + v3 (ix3 0 r k) + v4 (ix3 0 r k) + v5 (ix3 0 r k) + v6 (ix3 0 r k) + v7 (ix3 0 r k)) := by
  rw [← AdamW.scaled_eq, ← constants.1, ← constants.2]
  refine ⟨?_, ?_, ?_, ?_⟩ <;> pointwise [k0_pay1, k0_pay2, k0_pay3, k0_pay4, k0_pay5, k0_pay6, k0_pay7, k0_pay8, k0_pay9, k0_pay10, AdamW.moment, AdamW.square, AdamW.scaled]

/-- The body's load of part `s`, at an entry. -/
theorem load (x : Vec Ideal S8x1080x128 .bf16) (s : Nat) (hs : s < 8) (i : ∀ a, (![s, 0, 0] : Fin 3 → Nat) a + (![1, 1080, 128] : Fin 3 → Nat) a ≤ S8x1080x128.size a) (r : Fin 1080) (k : Fin 128) :
    (View.ld x (Rect.unit ![s, 0, 0] ![1, 1080, 128] i)) (ix3 0 r k) = x (ix3 ⟨s, hs⟩ r k) :=
  View.ld_unit_apply_of _ _ _ _ _ _ (fun a => by fin_cases a <;> simp [ix3])

/-! ## The arrays that the kernel packs before its call -/

variable (m : (ℓ : Loc nD τ sig) → Buf (Elt Ideal) ℓ)

/-- The weights, packed. -/
def weight (c : Dev nD) : Vec Ideal S1x2160x128 .f32 := V m c main_v22
/-- Their first moments, packed. -/
def moment1 (c : Dev nD) : Vec Ideal S1x2160x128 .f32 := V m c main_v45
/-- Their second moments, packed. -/
def moment2 (c : Dev nD) : Vec Ideal S1x2160x128 .f32 := V m c main_v68
/-- The devices' parts of their gradients, packed. -/
def parts (c : Dev nD) : Vec Ideal S8x2160x128 .bf16 := V m c main_v100

/-- Where the packed arrays hold entry `k` of row `r`: the weights follow each other in order, each a whole number of rows, ends filled with zeros. -/
def layout (r : Fin 2160) (k : Fin 128) (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal) : EReal :=
  if h : r.val < 32 then x0 (ix3 0 ⟨(r.val) * 2 + k.val / 64, by omega⟩ ⟨k.val % 64, by omega⟩) else
  if h : r.val - 32 < 32 then x1 (ix3 0 ⟨(r.val - 32) * 2 + k.val / 64, by omega⟩ ⟨k.val % 64, by omega⟩) else
  if h : r.val - 32 - 32 < 16 then (if h : (r.val - 32 - 32) * 128 + k.val < 64 then x2 (ix2 0 ⟨(r.val - 32 - 32) * 128 + k.val, by omega⟩) else 0) else
  if h : r.val - 32 - 32 - 16 < 512 then x3 (ix4 0 ⟨(r.val - 32 - 32 - 16) / 8, by omega⟩ ⟨(r.val - 32 - 32 - 16) % 8 * 8 + k.val / 16, by omega⟩ ⟨k.val % 16, by omega⟩) else
  if h : r.val - 32 - 32 - 16 - 512 < 512 then x4 (ix4 0 ⟨(r.val - 32 - 32 - 16 - 512) / 8, by omega⟩ ⟨(r.val - 32 - 32 - 16 - 512) % 8 * 8 + k.val / 16, by omega⟩ ⟨k.val % 16, by omega⟩) else
  if h : r.val - 32 - 32 - 16 - 512 - 512 < 512 then x5 (ix4 0 ⟨(r.val - 32 - 32 - 16 - 512 - 512) / 8, by omega⟩ ⟨(r.val - 32 - 32 - 16 - 512 - 512) % 8 * 2 + k.val / 64, by omega⟩ ⟨k.val % 64, by omega⟩) else
  if h : r.val - 32 - 32 - 16 - 512 - 512 - 512 < 512 then x6 (ix4 0 ⟨(r.val - 32 - 32 - 16 - 512 - 512 - 512) / 8, by omega⟩ ⟨(r.val - 32 - 32 - 16 - 512 - 512 - 512) % 8 * 2 + k.val / 64, by omega⟩ ⟨k.val % 64, by omega⟩) else
  if h : r.val - 32 - 32 - 16 - 512 - 512 - 512 - 512 < 16 then (if h : (r.val - 32 - 32 - 16 - 512 - 512 - 512 - 512) * 128 + k.val < 1024 then x7 (ix2 0 ⟨(r.val - 32 - 32 - 16 - 512 - 512 - 512 - 512) * 128 + k.val, by omega⟩) else 0) else
  (if h : (r.val - 32 - 32 - 16 - 512 - 512 - 512 - 512 - 16) * 128 + k.val < 1024 then x8 (ix2 0 ⟨(r.val - 32 - 32 - 16 - 512 - 512 - 512 - 512 - 16) * 128 + k.val, by omega⟩) else 0)

/-- An entry of the packed arrays is an entry of one of the nine, always the same one, or zero. -/
theorem layout_cases (r : Fin 2160) (k : Fin 128) :
    (∃ i, ∀ (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal), layout r k x0 x1 x2 x3 x4 x5 x6 x7 x8 = x0 i)
    ∨ (∃ i, ∀ (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal), layout r k x0 x1 x2 x3 x4 x5 x6 x7 x8 = x1 i)
    ∨ (∃ i, ∀ (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal), layout r k x0 x1 x2 x3 x4 x5 x6 x7 x8 = x2 i)
    ∨ (∃ i, ∀ (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal), layout r k x0 x1 x2 x3 x4 x5 x6 x7 x8 = x3 i)
    ∨ (∃ i, ∀ (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal), layout r k x0 x1 x2 x3 x4 x5 x6 x7 x8 = x4 i)
    ∨ (∃ i, ∀ (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal), layout r k x0 x1 x2 x3 x4 x5 x6 x7 x8 = x5 i)
    ∨ (∃ i, ∀ (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal), layout r k x0 x1 x2 x3 x4 x5 x6 x7 x8 = x6 i)
    ∨ (∃ i, ∀ (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal), layout r k x0 x1 x2 x3 x4 x5 x6 x7 x8 = x7 i)
    ∨ (∃ i, ∀ (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal), layout r k x0 x1 x2 x3 x4 x5 x6 x7 x8 = x8 i)
    ∨ (∀ (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal), layout r k x0 x1 x2 x3 x4 x5 x6 x7 x8 = 0) := by
  by_cases h0 : r.val < 32
  · exact Or.inl ⟨_, fun _ _ _ _ _ _ _ _ _ => dif_pos h0⟩
  by_cases h1 : r.val - 32 < 32
  · exact Or.inr (Or.inl ⟨_, fun _ _ _ _ _ _ _ _ _ => (dif_neg h0).trans (dif_pos h1)⟩)
  by_cases h2 : r.val - 32 - 32 < 16
  · by_cases p : (r.val - 32 - 32) * 128 + k.val < 64
    · exact Or.inr (Or.inr (Or.inl ⟨_, fun _ _ _ _ _ _ _ _ _ => (dif_neg h0).trans ((dif_neg h1).trans ((dif_pos h2).trans (dif_pos p)))⟩))
    · exact Or.inr (Or.inr (Or.inr (Or.inr (Or.inr (Or.inr (Or.inr (Or.inr (Or.inr (fun _ _ _ _ _ _ _ _ _ => (dif_neg h0).trans ((dif_neg h1).trans ((dif_pos h2).trans (dif_neg p))))))))))))
  by_cases h3 : r.val - 32 - 32 - 16 < 512
  · exact Or.inr (Or.inr (Or.inr (Or.inl ⟨_, fun _ _ _ _ _ _ _ _ _ => (dif_neg h0).trans ((dif_neg h1).trans ((dif_neg h2).trans (dif_pos h3)))⟩)))
  by_cases h4 : r.val - 32 - 32 - 16 - 512 < 512
  · exact Or.inr (Or.inr (Or.inr (Or.inr (Or.inl ⟨_, fun _ _ _ _ _ _ _ _ _ => (dif_neg h0).trans ((dif_neg h1).trans ((dif_neg h2).trans ((dif_neg h3).trans (dif_pos h4))))⟩))))
  by_cases h5 : r.val - 32 - 32 - 16 - 512 - 512 < 512
  · exact Or.inr (Or.inr (Or.inr (Or.inr (Or.inr (Or.inl ⟨_, fun _ _ _ _ _ _ _ _ _ => (dif_neg h0).trans ((dif_neg h1).trans ((dif_neg h2).trans ((dif_neg h3).trans ((dif_neg h4).trans (dif_pos h5)))))⟩)))))
  by_cases h6 : r.val - 32 - 32 - 16 - 512 - 512 - 512 < 512
  · exact Or.inr (Or.inr (Or.inr (Or.inr (Or.inr (Or.inr (Or.inl ⟨_, fun _ _ _ _ _ _ _ _ _ => (dif_neg h0).trans ((dif_neg h1).trans ((dif_neg h2).trans ((dif_neg h3).trans ((dif_neg h4).trans ((dif_neg h5).trans (dif_pos h6))))))⟩))))))
  by_cases h7 : r.val - 32 - 32 - 16 - 512 - 512 - 512 - 512 < 16
  · by_cases p : (r.val - 32 - 32 - 16 - 512 - 512 - 512 - 512) * 128 + k.val < 1024
    · exact Or.inr (Or.inr (Or.inr (Or.inr (Or.inr (Or.inr (Or.inr (Or.inl ⟨_, fun _ _ _ _ _ _ _ _ _ => (dif_neg h0).trans ((dif_neg h1).trans ((dif_neg h2).trans ((dif_neg h3).trans ((dif_neg h4).trans ((dif_neg h5).trans ((dif_neg h6).trans ((dif_pos h7).trans (dif_pos p))))))))⟩)))))))
    · exact Or.inr (Or.inr (Or.inr (Or.inr (Or.inr (Or.inr (Or.inr (Or.inr (Or.inr (fun _ _ _ _ _ _ _ _ _ => (dif_neg h0).trans ((dif_neg h1).trans ((dif_neg h2).trans ((dif_neg h3).trans ((dif_neg h4).trans ((dif_neg h5).trans ((dif_neg h6).trans ((dif_pos h7).trans (dif_neg p)))))))))))))))))
  by_cases p : (r.val - 32 - 32 - 16 - 512 - 512 - 512 - 512 - 16) * 128 + k.val < 1024
  · exact Or.inr (Or.inr (Or.inr (Or.inr (Or.inr (Or.inr (Or.inr (Or.inr (Or.inl ⟨_, fun _ _ _ _ _ _ _ _ _ => (dif_neg h0).trans ((dif_neg h1).trans ((dif_neg h2).trans ((dif_neg h3).trans ((dif_neg h4).trans ((dif_neg h5).trans ((dif_neg h6).trans ((dif_neg h7).trans (dif_pos p))))))))⟩))))))))
  · exact Or.inr (Or.inr (Or.inr (Or.inr (Or.inr (Or.inr (Or.inr (Or.inr (Or.inr (fun _ _ _ _ _ _ _ _ _ => (dif_neg h0).trans ((dif_neg h1).trans ((dif_neg h2).trans ((dif_neg h3).trans ((dif_neg h4).trans ((dif_neg h5).trans ((dif_neg h6).trans ((dif_neg h7).trans (dif_neg p)))))))))))))))))

/-- A sum over the devices is laid out as its terms are. -/
theorem layout_sum (r : Fin 2160) (k : Fin 128) (y0 : Fin 8 → S1x64x64.Idx → EReal) (y1 : Fin 8 → S1x64x64.Idx → EReal) (y2 : Fin 8 → S1x64.Idx → EReal) (y3 : Fin 8 → S1x64x64x16.Idx → EReal) (y4 : Fin 8 → S1x64x64x16.Idx → EReal) (y5 : Fin 8 → S1x64x16x64.Idx → EReal) (y6 : Fin 8 → S1x64x16x64.Idx → EReal) (y7 : Fin 8 → S1x1024.Idx → EReal) (y8 : Fin 8 → S1x1024.Idx → EReal) :
    layout r k (fun i => ∑ q : Fin 8, y0 q i) (fun i => ∑ q : Fin 8, y1 q i) (fun i => ∑ q : Fin 8, y2 q i) (fun i => ∑ q : Fin 8, y3 q i) (fun i => ∑ q : Fin 8, y4 q i) (fun i => ∑ q : Fin 8, y5 q i) (fun i => ∑ q : Fin 8, y6 q i) (fun i => ∑ q : Fin 8, y7 q i) (fun i => ∑ q : Fin 8, y8 q i) = ∑ q : Fin 8, layout r k (y0 q) (y1 q) (y2 q) (y3 q) (y4 q) (y5 q) (y6 q) (y7 q) (y8 q) := by
  rcases layout_cases r k with ⟨i, h⟩ | ⟨i, h⟩ | ⟨i, h⟩ | ⟨i, h⟩ | ⟨i, h⟩ | ⟨i, h⟩ | ⟨i, h⟩ | ⟨i, h⟩ | ⟨i, h⟩ | h <;> simp only [h, Finset.sum_const_zero]

/-- What is computed entry by entry, and is zero at zeros, is laid out as its operands are. -/
theorem layout_map (f : EReal → EReal → EReal → EReal → EReal) (hf : f 0 0 0 0 = 0) (r : Fin 2160) (k : Fin 128) (x0 : S1x64x64.Idx → EReal) (x1 : S1x64x64.Idx → EReal) (x2 : S1x64.Idx → EReal) (x3 : S1x64x64x16.Idx → EReal) (x4 : S1x64x64x16.Idx → EReal) (x5 : S1x64x16x64.Idx → EReal) (x6 : S1x64x16x64.Idx → EReal) (x7 : S1x1024.Idx → EReal) (x8 : S1x1024.Idx → EReal) (y0 : S1x64x64.Idx → EReal) (y1 : S1x64x64.Idx → EReal) (y2 : S1x64.Idx → EReal) (y3 : S1x64x64x16.Idx → EReal) (y4 : S1x64x64x16.Idx → EReal) (y5 : S1x64x16x64.Idx → EReal) (y6 : S1x64x16x64.Idx → EReal) (y7 : S1x1024.Idx → EReal) (y8 : S1x1024.Idx → EReal) (z0 : S1x64x64.Idx → EReal) (z1 : S1x64x64.Idx → EReal) (z2 : S1x64.Idx → EReal) (z3 : S1x64x64x16.Idx → EReal) (z4 : S1x64x64x16.Idx → EReal) (z5 : S1x64x16x64.Idx → EReal) (z6 : S1x64x16x64.Idx → EReal) (z7 : S1x1024.Idx → EReal) (z8 : S1x1024.Idx → EReal) (g0 : S1x64x64.Idx → EReal) (g1 : S1x64x64.Idx → EReal) (g2 : S1x64.Idx → EReal) (g3 : S1x64x64x16.Idx → EReal) (g4 : S1x64x64x16.Idx → EReal) (g5 : S1x64x16x64.Idx → EReal) (g6 : S1x64x16x64.Idx → EReal) (g7 : S1x1024.Idx → EReal) (g8 : S1x1024.Idx → EReal) :
    layout r k (fun i => f (x0 i) (y0 i) (z0 i) (g0 i)) (fun i => f (x1 i) (y1 i) (z1 i) (g1 i)) (fun i => f (x2 i) (y2 i) (z2 i) (g2 i)) (fun i => f (x3 i) (y3 i) (z3 i) (g3 i)) (fun i => f (x4 i) (y4 i) (z4 i) (g4 i)) (fun i => f (x5 i) (y5 i) (z5 i) (g5 i)) (fun i => f (x6 i) (y6 i) (z6 i) (g6 i)) (fun i => f (x7 i) (y7 i) (z7 i) (g7 i)) (fun i => f (x8 i) (y8 i) (z8 i) (g8 i)) = f (layout r k x0 x1 x2 x3 x4 x5 x6 x7 x8) (layout r k y0 y1 y2 y3 y4 y5 y6 y7 y8) (layout r k z0 z1 z2 z3 z4 z5 z6 z7 z8) (layout r k g0 g1 g2 g3 g4 g5 g6 g7 g8) := by
  rcases layout_cases r k with ⟨i, h⟩ | ⟨i, h⟩ | ⟨i, h⟩ | ⟨i, h⟩ | ⟨i, h⟩ | ⟨i, h⟩ | ⟨i, h⟩ | ⟨i, h⟩ | ⟨i, h⟩ | h <;> simp only [h, hf]

set_option maxHeartbeats 1600000 in
/-- The packed weights, entry by entry. -/
theorem weight_at (c : Dev nD) (r : Fin 2160) (k : Fin 128) : weight m c (ix3 0 r k) = layout r k (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  simp only [weight, moment1, moment2, parts, V, List.flatten_cons, List.flatten_nil, List.append_nil]
  after_reads_simp
  try simp -implicitDefEqProofs only [StableHlo.TRef.toBuf, StableHlo.TRef.ofBuf, cast_cast, cast_eq]
  pointwise
  try after_reads_simp
  try simp -implicitDefEqProofs only [StableHlo.TRef.toBuf, StableHlo.TRef.ofBuf, cast_cast, cast_eq]
  try pointwise
  simp only [AdamW.pad_zero]
  rfl

set_option maxHeartbeats 1600000 in
/-- The packed first moments, entry by entry. -/
theorem moment1_at (c : Dev nD) (r : Fin 2160) (k : Fin 128) : moment1 m c (ix3 0 r k) = layout r k (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) := by
  simp only [weight, moment1, moment2, parts, V, List.flatten_cons, List.flatten_nil, List.append_nil]
  after_reads_simp
  try simp -implicitDefEqProofs only [StableHlo.TRef.toBuf, StableHlo.TRef.ofBuf, cast_cast, cast_eq]
  pointwise
  try after_reads_simp
  try simp -implicitDefEqProofs only [StableHlo.TRef.toBuf, StableHlo.TRef.ofBuf, cast_cast, cast_eq]
  try pointwise
  simp only [AdamW.pad_zero]
  rfl

set_option maxHeartbeats 1600000 in
/-- The packed second moments, entry by entry. -/
theorem moment2_at (c : Dev nD) (r : Fin 2160) (k : Fin 128) : moment2 m c (ix3 0 r k) = layout r k (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) := by
  simp only [weight, moment1, moment2, parts, V, List.flatten_cons, List.flatten_nil, List.append_nil]
  after_reads_simp
  try simp -implicitDefEqProofs only [StableHlo.TRef.toBuf, StableHlo.TRef.ofBuf, cast_cast, cast_eq]
  pointwise
  try after_reads_simp
  try simp -implicitDefEqProofs only [StableHlo.TRef.toBuf, StableHlo.TRef.ofBuf, cast_cast, cast_eq]
  try pointwise
  simp only [AdamW.pad_zero]
  rfl

set_option maxHeartbeats 1600000 in
/-- The packed parts, entry by entry. -/
theorem parts_at (c : Dev nD) (q : Fin 8) (r : Fin 2160) (k : Fin 128) : parts m c (ix3 q r k) = layout r k (fun i => (m (c.tc.loc main_arg27)) (ix4 q (i 0) (i 1) (i 2))) (fun i => (m (c.tc.loc main_arg28)) (ix4 q (i 0) (i 1) (i 2))) (fun i => (m (c.tc.loc main_arg29)) (ix3 q (i 0) (i 1))) (fun i => (m (c.tc.loc main_arg30)) (ix5 q (i 0) (i 1) (i 2) (i 3))) (fun i => (m (c.tc.loc main_arg31)) (ix5 q (i 0) (i 1) (i 2) (i 3))) (fun i => (m (c.tc.loc main_arg32)) (ix5 q (i 0) (i 1) (i 2) (i 3))) (fun i => (m (c.tc.loc main_arg33)) (ix5 q (i 0) (i 1) (i 2) (i 3))) (fun i => (m (c.tc.loc main_arg34)) (ix3 q (i 0) (i 1))) (fun i => (m (c.tc.loc main_arg35)) (ix3 q (i 0) (i 1))) := by
  simp only [weight, moment1, moment2, parts, V, List.flatten_cons, List.flatten_nil, List.append_nil]
  after_reads_simp
  try simp -implicitDefEqProofs only [StableHlo.TRef.toBuf, StableHlo.TRef.ofBuf, cast_cast, cast_eq]
  pointwise
  try after_reads_simp
  try simp -implicitDefEqProofs only [StableHlo.TRef.toBuf, StableHlo.TRef.ofBuf, cast_cast, cast_eq]
  try pointwise
  simp only [AdamW.pad_zero, AdamW.part64, AdamW.part64_mod, AdamW.part16, AdamW.part16_mod, AdamW.part1024, AdamW.part64_16]
  rfl

set_option maxHeartbeats 6400000 in
/-- The reference's gradients, entry by entry. -/
theorem gradient_at (c : Dev nD) (r : Fin 2160) (k : Fin 128) :
    val_main_v256 (F := Ideal) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 r k) = layout r k (fun i => ∑ q : Fin 8, (m (c.tc.loc main_arg27)) (ix4 q (i 0) (i 1) (i 2))) (fun i => ∑ q : Fin 8, (m (c.tc.loc main_arg28)) (ix4 q (i 0) (i 1) (i 2))) (fun i => ∑ q : Fin 8, (m (c.tc.loc main_arg29)) (ix3 q (i 0) (i 1))) (fun i => ∑ q : Fin 8, (m (c.tc.loc main_arg30)) (ix5 q (i 0) (i 1) (i 2) (i 3))) (fun i => ∑ q : Fin 8, (m (c.tc.loc main_arg31)) (ix5 q (i 0) (i 1) (i 2) (i 3))) (fun i => ∑ q : Fin 8, (m (c.tc.loc main_arg32)) (ix5 q (i 0) (i 1) (i 2) (i 3))) (fun i => ∑ q : Fin 8, (m (c.tc.loc main_arg33)) (ix5 q (i 0) (i 1) (i 2) (i 3))) (fun i => ∑ q : Fin 8, (m (c.tc.loc main_arg34)) (ix3 q (i 0) (i 1))) (fun i => ∑ q : Fin 8, (m (c.tc.loc main_arg35)) (ix3 q (i 0) (i 1))) := by
  pointwise [val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_cst_10, val_main_v28, val_main_v29, val_main_cst_11, val_main_v30, val_main_v31, val_main_v32, val_main_cst_12, val_main_v33, val_main_v34, val_main_v35, val_main_cst_13, val_main_v36, val_main_v37, val_main_v38, val_main_cst_14, val_main_v39, val_main_v40, val_main_cst_15, val_main_v41, val_main_v42, val_main_v43, val_main_cst_16, val_main_v44, val_main_v45, val_main_v46, val_main_cst_17, val_main_v47, val_main_v48, val_main_v49, val_main_cst_18, val_main_v50, val_main_v51, val_main_v52, val_main_cst_19, val_main_v53, val_main_cst_20, val_main_v54, val_main_v55, val_main_cst_21, val_main_v56, val_main_v57, val_main_v58, val_main_cst_22, val_main_v59, val_main_v60, val_main_v61, val_main_cst_23, val_main_v62, val_main_v63, val_main_v64, val_main_cst_24, val_main_v65, val_main_v66, val_main_cst_25, val_main_v67, val_main_v68, val_main_v69, val_main_cst_26, val_main_v70, val_main_v71, val_main_v72, val_main_cst_27, val_main_v73, val_main_v74, val_main_v75, val_main_cst_28, val_main_v76, val_main_v77, val_main_v78, val_main_cst_29, val_main_v79, val_main_cst_30, val_main_v80, val_main_v81, val_main_cst_31, val_main_v82, val_main_v83, val_main_v84, val_main_cst_32, val_main_v85, val_main_v86, val_main_v87, val_main_cst_33, val_main_v88, val_main_v89, val_main_v90, val_main_cst_34, val_main_v91, val_main_v92, val_main_cst_35, val_main_v93, val_main_v94, val_main_v95, val_main_cst_36, val_main_v96, val_main_v97, val_main_v98, val_main_cst_37, val_main_v99, val_main_v100, val_main_v101, val_main_cst_38, val_main_v102, val_main_v103, val_main_v104, val_main_cst_39, val_main_v105, val_main_cst_40, val_main_v106, val_main_v107, val_main_cst_41, val_main_v108, val_main_v109, val_main_v110, val_main_cst_42, val_main_v111, val_main_v112, val_main_v113, val_main_cst_43, val_main_v114, val_main_v115, val_main_v116, val_main_cst_44, val_main_v117, val_main_v118, val_main_cst_45, val_main_v119, val_main_v120, val_main_v121, val_main_cst_46, val_main_v122, val_main_v123, val_main_v124, val_main_cst_47, val_main_v125, val_main_v126, val_main_v127, val_main_cst_48, val_main_v128, val_main_v129, val_main_v130, val_main_cst_49, val_main_v131, val_main_cst_50, val_main_v132, val_main_v133, val_main_cst_51, val_main_v134, val_main_v135, val_main_v136, val_main_cst_52, val_main_v137, val_main_v138, val_main_v139, val_main_cst_53, val_main_v140, val_main_v141, val_main_v142, val_main_cst_54, val_main_v143, val_main_v144, val_main_cst_55, val_main_v145, val_main_v146, val_main_v147, val_main_cst_56, val_main_v148, val_main_v149, val_main_v150, val_main_cst_57, val_main_v151, val_main_v152, val_main_v153, val_main_cst_58, val_main_v154, val_main_v155, val_main_v156, val_main_cst_59, val_main_v157, val_main_cst_60, val_main_v158, val_main_v159, val_main_cst_61, val_main_v160, val_main_v161, val_main_v162, val_main_cst_62, val_main_v163, val_main_v164, val_main_v165, val_main_cst_63, val_main_v166, val_main_v167, val_main_v168, val_main_cst_64, val_main_v169, val_main_v170, val_main_cst_65, val_main_v171, val_main_v172, val_main_v173, val_main_cst_66, val_main_v174, val_main_v175, val_main_v176, val_main_cst_67, val_main_v177, val_main_v178, val_main_v179, val_main_cst_68, val_main_v180, val_main_v181, val_main_v182, val_main_cst_69, val_main_v183, val_main_cst_70, val_main_v184, val_main_v185, val_main_cst_71, val_main_v186, val_main_v187, val_main_v188, val_main_cst_72, val_main_v189, val_main_v190, val_main_v191, val_main_cst_73, val_main_v192, val_main_v193, val_main_v194, val_main_cst_74, val_main_v195, val_main_v196, val_main_cst_75, val_main_v197, val_main_v198, val_main_v199, val_main_cst_76, val_main_v200, val_main_v201, val_main_v202, val_main_cst_77, val_main_v203, val_main_v204, val_main_v205, val_main_cst_78, val_main_v206, val_main_v207, val_main_v208, val_main_cst_79, val_main_v209, val_main_cst_80, val_main_v210, val_main_v211, val_main_cst_81, val_main_v212, val_main_v213, val_main_v214, val_main_cst_82, val_main_v215, val_main_v216, val_main_v217, val_main_cst_83, val_main_v218, val_main_v219, val_main_v220, val_main_cst_84, val_main_v221, val_main_v222, val_main_cst_85, val_main_v223, val_main_v224, val_main_v225, val_main_cst_86, val_main_v226, val_main_v227, val_main_v228, val_main_cst_87, val_main_v229, val_main_v230, val_main_v231, val_main_cst_88, val_main_v232, val_main_v233, val_main_v234, val_main_v235, val_main_v236, val_main_v237, val_main_v238, val_main_c, val_main_call0_v0, val_main_v239, val_main_v240, val_main_v241, val_main_v242, val_main_v243, val_main_v244, val_main_v245, val_main_v246, val_main_v247, val_main_v248, val_main_v249, val_main_c_89, val_main_call1_v0, val_main_v250, val_main_v251, val_main_v252, val_main_c_90, val_main_call2_v0, val_main_v253, val_main_v254, val_main_v255, val_main_v256, val_main_v257, val_main_v258, val_main_v259, val_main_v260, val_main_v261, val_main_c_91, val_main_call3_v0, val_main_v262, val_main_v263, val_main_v264, val_main_v265, val_main_v266, val_main_v267, val_main_v268, val_main_v269, val_main_v270, val_main_v271, val_main_v272, val_main_c_92, val_main_call4_v0, val_main_v273, val_main_v274, val_main_v275, val_main_c_93, val_main_call5_v0, val_main_v276, val_main_v277, val_main_v278, val_main_v279, val_main_v280, val_main_v281, val_main_v282, val_main_v283, val_main_v284, val_main_c_94, val_main_call6_v0, val_main_v285, val_main_v286, val_main_v287, val_main_v288, val_main_v289, val_main_v290, val_main_v291, val_main_v292, val_main_v293, val_main_v294, val_main_v295, val_main_c_95, val_main_call7_v0, val_main_v296, val_main_v297, val_main_v298, val_main_c_96, val_main_call8_v0, val_main_v299, val_main_v300, val_main_v301, val_main_v302, val_main_v303, val_main_v304, val_main_v305, val_main_v306, val_main_v307, val_main_c_97, val_main_call9_v0, val_main_v308, val_main_v309, val_main_v310, val_main_v311, val_main_v312, val_main_v313, val_main_v314, val_main_v315, val_main_v316, val_main_v317, val_main_v318, val_main_c_98, val_main_call10_v0, val_main_v319, val_main_v320, val_main_v321, val_main_c_99, val_main_call11_v0, val_main_v322, val_main_v323, val_main_v324, val_main_v325]
  simp only [AdamW.pad_zero]
  rfl

set_option maxHeartbeats 6400000 in
/-- The reference's updates, entry by entry. -/
theorem update_at (c : Dev nD) (r : Fin 2160) (k : Fin 128) :
    val_main_v279 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 r k) = layout r k (fun i => AdamW.delta ((m (c.tc.loc main_arg0)) i) ((m (c.tc.loc main_arg9)) i) ((m (c.tc.loc main_arg18)) i) (∑ q : Fin 8, (m (c.tc.loc main_arg27)) (ix4 q (i 0) (i 1) (i 2)))) (fun i => AdamW.delta ((m (c.tc.loc main_arg1)) i) ((m (c.tc.loc main_arg10)) i) ((m (c.tc.loc main_arg19)) i) (∑ q : Fin 8, (m (c.tc.loc main_arg28)) (ix4 q (i 0) (i 1) (i 2)))) (fun i => AdamW.delta ((m (c.tc.loc main_arg2)) i) ((m (c.tc.loc main_arg11)) i) ((m (c.tc.loc main_arg20)) i) (∑ q : Fin 8, (m (c.tc.loc main_arg29)) (ix3 q (i 0) (i 1)))) (fun i => AdamW.delta ((m (c.tc.loc main_arg3)) i) ((m (c.tc.loc main_arg12)) i) ((m (c.tc.loc main_arg21)) i) (∑ q : Fin 8, (m (c.tc.loc main_arg30)) (ix5 q (i 0) (i 1) (i 2) (i 3)))) (fun i => AdamW.delta ((m (c.tc.loc main_arg4)) i) ((m (c.tc.loc main_arg13)) i) ((m (c.tc.loc main_arg22)) i) (∑ q : Fin 8, (m (c.tc.loc main_arg31)) (ix5 q (i 0) (i 1) (i 2) (i 3)))) (fun i => AdamW.delta ((m (c.tc.loc main_arg5)) i) ((m (c.tc.loc main_arg14)) i) ((m (c.tc.loc main_arg23)) i) (∑ q : Fin 8, (m (c.tc.loc main_arg32)) (ix5 q (i 0) (i 1) (i 2) (i 3)))) (fun i => AdamW.delta ((m (c.tc.loc main_arg6)) i) ((m (c.tc.loc main_arg15)) i) ((m (c.tc.loc main_arg24)) i) (∑ q : Fin 8, (m (c.tc.loc main_arg33)) (ix5 q (i 0) (i 1) (i 2) (i 3)))) (fun i => AdamW.delta ((m (c.tc.loc main_arg7)) i) ((m (c.tc.loc main_arg16)) i) ((m (c.tc.loc main_arg25)) i) (∑ q : Fin 8, (m (c.tc.loc main_arg34)) (ix3 q (i 0) (i 1)))) (fun i => AdamW.delta ((m (c.tc.loc main_arg8)) i) ((m (c.tc.loc main_arg17)) i) ((m (c.tc.loc main_arg26)) i) (∑ q : Fin 8, (m (c.tc.loc main_arg35)) (ix3 q (i 0) (i 1)))) := by
  pointwise [val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_cst_10, val_main_v28, val_main_v29, val_main_cst_11, val_main_v30, val_main_v31, val_main_v32, val_main_cst_12, val_main_v33, val_main_v34, val_main_v35, val_main_cst_13, val_main_v36, val_main_v37, val_main_v38, val_main_cst_14, val_main_v39, val_main_v40, val_main_cst_15, val_main_v41, val_main_v42, val_main_v43, val_main_cst_16, val_main_v44, val_main_v45, val_main_v46, val_main_cst_17, val_main_v47, val_main_v48, val_main_v49, val_main_cst_18, val_main_v50, val_main_v51, val_main_v52, val_main_cst_19, val_main_v53, val_main_cst_20, val_main_v54, val_main_v55, val_main_cst_21, val_main_v56, val_main_v57, val_main_v58, val_main_cst_22, val_main_v59, val_main_v60, val_main_v61, val_main_cst_23, val_main_v62, val_main_v63, val_main_v64, val_main_cst_24, val_main_v65, val_main_v66, val_main_cst_25, val_main_v67, val_main_v68, val_main_v69, val_main_cst_26, val_main_v70, val_main_v71, val_main_v72, val_main_cst_27, val_main_v73, val_main_v74, val_main_v75, val_main_cst_28, val_main_v76, val_main_v77, val_main_v78, val_main_cst_29, val_main_v79, val_main_cst_30, val_main_v80, val_main_v81, val_main_cst_31, val_main_v82, val_main_v83, val_main_v84, val_main_cst_32, val_main_v85, val_main_v86, val_main_v87, val_main_cst_33, val_main_v88, val_main_v89, val_main_v90, val_main_cst_34, val_main_v91, val_main_v92, val_main_cst_35, val_main_v93, val_main_v94, val_main_v95, val_main_cst_36, val_main_v96, val_main_v97, val_main_v98, val_main_cst_37, val_main_v99, val_main_v100, val_main_v101, val_main_cst_38, val_main_v102, val_main_v103, val_main_v104, val_main_cst_39, val_main_v105, val_main_cst_40, val_main_v106, val_main_v107, val_main_cst_41, val_main_v108, val_main_v109, val_main_v110, val_main_cst_42, val_main_v111, val_main_v112, val_main_v113, val_main_cst_43, val_main_v114, val_main_v115, val_main_v116, val_main_cst_44, val_main_v117, val_main_v118, val_main_cst_45, val_main_v119, val_main_v120, val_main_v121, val_main_cst_46, val_main_v122, val_main_v123, val_main_v124, val_main_cst_47, val_main_v125, val_main_v126, val_main_v127, val_main_cst_48, val_main_v128, val_main_v129, val_main_v130, val_main_cst_49, val_main_v131, val_main_cst_50, val_main_v132, val_main_v133, val_main_cst_51, val_main_v134, val_main_v135, val_main_v136, val_main_cst_52, val_main_v137, val_main_v138, val_main_v139, val_main_cst_53, val_main_v140, val_main_v141, val_main_v142, val_main_cst_54, val_main_v143, val_main_v144, val_main_cst_55, val_main_v145, val_main_v146, val_main_v147, val_main_cst_56, val_main_v148, val_main_v149, val_main_v150, val_main_cst_57, val_main_v151, val_main_v152, val_main_v153, val_main_cst_58, val_main_v154, val_main_v155, val_main_v156, val_main_cst_59, val_main_v157, val_main_cst_60, val_main_v158, val_main_v159, val_main_cst_61, val_main_v160, val_main_v161, val_main_v162, val_main_cst_62, val_main_v163, val_main_v164, val_main_v165, val_main_cst_63, val_main_v166, val_main_v167, val_main_v168, val_main_cst_64, val_main_v169, val_main_v170, val_main_cst_65, val_main_v171, val_main_v172, val_main_v173, val_main_cst_66, val_main_v174, val_main_v175, val_main_v176, val_main_cst_67, val_main_v177, val_main_v178, val_main_v179, val_main_cst_68, val_main_v180, val_main_v181, val_main_v182, val_main_cst_69, val_main_v183, val_main_cst_70, val_main_v184, val_main_v185, val_main_cst_71, val_main_v186, val_main_v187, val_main_v188, val_main_cst_72, val_main_v189, val_main_v190, val_main_v191, val_main_cst_73, val_main_v192, val_main_v193, val_main_v194, val_main_cst_74, val_main_v195, val_main_v196, val_main_cst_75, val_main_v197, val_main_v198, val_main_v199, val_main_cst_76, val_main_v200, val_main_v201, val_main_v202, val_main_cst_77, val_main_v203, val_main_v204, val_main_v205, val_main_cst_78, val_main_v206, val_main_v207, val_main_v208, val_main_cst_79, val_main_v209, val_main_cst_80, val_main_v210, val_main_v211, val_main_cst_81, val_main_v212, val_main_v213, val_main_v214, val_main_cst_82, val_main_v215, val_main_v216, val_main_v217, val_main_cst_83, val_main_v218, val_main_v219, val_main_v220, val_main_cst_84, val_main_v221, val_main_v222, val_main_cst_85, val_main_v223, val_main_v224, val_main_v225, val_main_cst_86, val_main_v226, val_main_v227, val_main_v228, val_main_cst_87, val_main_v229, val_main_v230, val_main_v231, val_main_cst_88, val_main_v232, val_main_v233, val_main_v234, val_main_v235, val_main_v236, val_main_v237, val_main_v238, val_main_c, val_main_call0_v0, val_main_v239, val_main_v240, val_main_v241, val_main_v242, val_main_v243, val_main_v244, val_main_v245, val_main_v246, val_main_v247, val_main_v248, val_main_v249, val_main_c_89, val_main_call1_v0, val_main_v250, val_main_v251, val_main_v252, val_main_c_90, val_main_call2_v0, val_main_v253, val_main_v254, val_main_v255, val_main_v256, val_main_v257, val_main_v258, val_main_v259, val_main_v260, val_main_v261, val_main_c_91, val_main_call3_v0, val_main_v262, val_main_v263, val_main_v264, val_main_v265, val_main_v266, val_main_v267, val_main_v268, val_main_v269, val_main_v270, val_main_v271, val_main_v272, val_main_c_92, val_main_call4_v0, val_main_v273, val_main_v274, val_main_v275, val_main_c_93, val_main_call5_v0, val_main_v276, val_main_v277, val_main_v278, val_main_v279, val_main_v280, val_main_v281, val_main_v282, val_main_v283, val_main_v284, val_main_c_94, val_main_call6_v0, val_main_v285, val_main_v286, val_main_v287, val_main_v288, val_main_v289, val_main_v290, val_main_v291, val_main_v292, val_main_v293, val_main_v294, val_main_v295, val_main_c_95, val_main_call7_v0, val_main_v296, val_main_v297, val_main_v298, val_main_c_96, val_main_call8_v0, val_main_v299, val_main_v300, val_main_v301, val_main_v302, val_main_v303, val_main_v304, val_main_v305, val_main_v306, val_main_v307, val_main_c_97, val_main_call9_v0, val_main_v308, val_main_v309, val_main_v310, val_main_v311, val_main_v312, val_main_v313, val_main_v314, val_main_v315, val_main_v316, val_main_v317, val_main_v318, val_main_c_98, val_main_call10_v0, val_main_v319, val_main_v320, val_main_v321, val_main_c_99, val_main_call11_v0, val_main_v322, val_main_v323, val_main_v324, val_main_v325]
  simp only [AdamW.pad_zero]
  rfl

set_option maxHeartbeats 6400000 in
/-- The reference's new first moments, entry by entry. -/
theorem moment_at (c : Dev nD) (r : Fin 2160) (k : Fin 128) :
    val_main_v302 (F := Ideal) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 r k) = layout r k (fun i => AdamW.moment ((m (c.tc.loc main_arg9)) i) (∑ q : Fin 8, (m (c.tc.loc main_arg27)) (ix4 q (i 0) (i 1) (i 2)))) (fun i => AdamW.moment ((m (c.tc.loc main_arg10)) i) (∑ q : Fin 8, (m (c.tc.loc main_arg28)) (ix4 q (i 0) (i 1) (i 2)))) (fun i => AdamW.moment ((m (c.tc.loc main_arg11)) i) (∑ q : Fin 8, (m (c.tc.loc main_arg29)) (ix3 q (i 0) (i 1)))) (fun i => AdamW.moment ((m (c.tc.loc main_arg12)) i) (∑ q : Fin 8, (m (c.tc.loc main_arg30)) (ix5 q (i 0) (i 1) (i 2) (i 3)))) (fun i => AdamW.moment ((m (c.tc.loc main_arg13)) i) (∑ q : Fin 8, (m (c.tc.loc main_arg31)) (ix5 q (i 0) (i 1) (i 2) (i 3)))) (fun i => AdamW.moment ((m (c.tc.loc main_arg14)) i) (∑ q : Fin 8, (m (c.tc.loc main_arg32)) (ix5 q (i 0) (i 1) (i 2) (i 3)))) (fun i => AdamW.moment ((m (c.tc.loc main_arg15)) i) (∑ q : Fin 8, (m (c.tc.loc main_arg33)) (ix5 q (i 0) (i 1) (i 2) (i 3)))) (fun i => AdamW.moment ((m (c.tc.loc main_arg16)) i) (∑ q : Fin 8, (m (c.tc.loc main_arg34)) (ix3 q (i 0) (i 1)))) (fun i => AdamW.moment ((m (c.tc.loc main_arg17)) i) (∑ q : Fin 8, (m (c.tc.loc main_arg35)) (ix3 q (i 0) (i 1)))) := by
  pointwise [val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_cst_10, val_main_v28, val_main_v29, val_main_cst_11, val_main_v30, val_main_v31, val_main_v32, val_main_cst_12, val_main_v33, val_main_v34, val_main_v35, val_main_cst_13, val_main_v36, val_main_v37, val_main_v38, val_main_cst_14, val_main_v39, val_main_v40, val_main_cst_15, val_main_v41, val_main_v42, val_main_v43, val_main_cst_16, val_main_v44, val_main_v45, val_main_v46, val_main_cst_17, val_main_v47, val_main_v48, val_main_v49, val_main_cst_18, val_main_v50, val_main_v51, val_main_v52, val_main_cst_19, val_main_v53, val_main_cst_20, val_main_v54, val_main_v55, val_main_cst_21, val_main_v56, val_main_v57, val_main_v58, val_main_cst_22, val_main_v59, val_main_v60, val_main_v61, val_main_cst_23, val_main_v62, val_main_v63, val_main_v64, val_main_cst_24, val_main_v65, val_main_v66, val_main_cst_25, val_main_v67, val_main_v68, val_main_v69, val_main_cst_26, val_main_v70, val_main_v71, val_main_v72, val_main_cst_27, val_main_v73, val_main_v74, val_main_v75, val_main_cst_28, val_main_v76, val_main_v77, val_main_v78, val_main_cst_29, val_main_v79, val_main_cst_30, val_main_v80, val_main_v81, val_main_cst_31, val_main_v82, val_main_v83, val_main_v84, val_main_cst_32, val_main_v85, val_main_v86, val_main_v87, val_main_cst_33, val_main_v88, val_main_v89, val_main_v90, val_main_cst_34, val_main_v91, val_main_v92, val_main_cst_35, val_main_v93, val_main_v94, val_main_v95, val_main_cst_36, val_main_v96, val_main_v97, val_main_v98, val_main_cst_37, val_main_v99, val_main_v100, val_main_v101, val_main_cst_38, val_main_v102, val_main_v103, val_main_v104, val_main_cst_39, val_main_v105, val_main_cst_40, val_main_v106, val_main_v107, val_main_cst_41, val_main_v108, val_main_v109, val_main_v110, val_main_cst_42, val_main_v111, val_main_v112, val_main_v113, val_main_cst_43, val_main_v114, val_main_v115, val_main_v116, val_main_cst_44, val_main_v117, val_main_v118, val_main_cst_45, val_main_v119, val_main_v120, val_main_v121, val_main_cst_46, val_main_v122, val_main_v123, val_main_v124, val_main_cst_47, val_main_v125, val_main_v126, val_main_v127, val_main_cst_48, val_main_v128, val_main_v129, val_main_v130, val_main_cst_49, val_main_v131, val_main_cst_50, val_main_v132, val_main_v133, val_main_cst_51, val_main_v134, val_main_v135, val_main_v136, val_main_cst_52, val_main_v137, val_main_v138, val_main_v139, val_main_cst_53, val_main_v140, val_main_v141, val_main_v142, val_main_cst_54, val_main_v143, val_main_v144, val_main_cst_55, val_main_v145, val_main_v146, val_main_v147, val_main_cst_56, val_main_v148, val_main_v149, val_main_v150, val_main_cst_57, val_main_v151, val_main_v152, val_main_v153, val_main_cst_58, val_main_v154, val_main_v155, val_main_v156, val_main_cst_59, val_main_v157, val_main_cst_60, val_main_v158, val_main_v159, val_main_cst_61, val_main_v160, val_main_v161, val_main_v162, val_main_cst_62, val_main_v163, val_main_v164, val_main_v165, val_main_cst_63, val_main_v166, val_main_v167, val_main_v168, val_main_cst_64, val_main_v169, val_main_v170, val_main_cst_65, val_main_v171, val_main_v172, val_main_v173, val_main_cst_66, val_main_v174, val_main_v175, val_main_v176, val_main_cst_67, val_main_v177, val_main_v178, val_main_v179, val_main_cst_68, val_main_v180, val_main_v181, val_main_v182, val_main_cst_69, val_main_v183, val_main_cst_70, val_main_v184, val_main_v185, val_main_cst_71, val_main_v186, val_main_v187, val_main_v188, val_main_cst_72, val_main_v189, val_main_v190, val_main_v191, val_main_cst_73, val_main_v192, val_main_v193, val_main_v194, val_main_cst_74, val_main_v195, val_main_v196, val_main_cst_75, val_main_v197, val_main_v198, val_main_v199, val_main_cst_76, val_main_v200, val_main_v201, val_main_v202, val_main_cst_77, val_main_v203, val_main_v204, val_main_v205, val_main_cst_78, val_main_v206, val_main_v207, val_main_v208, val_main_cst_79, val_main_v209, val_main_cst_80, val_main_v210, val_main_v211, val_main_cst_81, val_main_v212, val_main_v213, val_main_v214, val_main_cst_82, val_main_v215, val_main_v216, val_main_v217, val_main_cst_83, val_main_v218, val_main_v219, val_main_v220, val_main_cst_84, val_main_v221, val_main_v222, val_main_cst_85, val_main_v223, val_main_v224, val_main_v225, val_main_cst_86, val_main_v226, val_main_v227, val_main_v228, val_main_cst_87, val_main_v229, val_main_v230, val_main_v231, val_main_cst_88, val_main_v232, val_main_v233, val_main_v234, val_main_v235, val_main_v236, val_main_v237, val_main_v238, val_main_c, val_main_call0_v0, val_main_v239, val_main_v240, val_main_v241, val_main_v242, val_main_v243, val_main_v244, val_main_v245, val_main_v246, val_main_v247, val_main_v248, val_main_v249, val_main_c_89, val_main_call1_v0, val_main_v250, val_main_v251, val_main_v252, val_main_c_90, val_main_call2_v0, val_main_v253, val_main_v254, val_main_v255, val_main_v256, val_main_v257, val_main_v258, val_main_v259, val_main_v260, val_main_v261, val_main_c_91, val_main_call3_v0, val_main_v262, val_main_v263, val_main_v264, val_main_v265, val_main_v266, val_main_v267, val_main_v268, val_main_v269, val_main_v270, val_main_v271, val_main_v272, val_main_c_92, val_main_call4_v0, val_main_v273, val_main_v274, val_main_v275, val_main_c_93, val_main_call5_v0, val_main_v276, val_main_v277, val_main_v278, val_main_v279, val_main_v280, val_main_v281, val_main_v282, val_main_v283, val_main_v284, val_main_c_94, val_main_call6_v0, val_main_v285, val_main_v286, val_main_v287, val_main_v288, val_main_v289, val_main_v290, val_main_v291, val_main_v292, val_main_v293, val_main_v294, val_main_v295, val_main_c_95, val_main_call7_v0, val_main_v296, val_main_v297, val_main_v298, val_main_c_96, val_main_call8_v0, val_main_v299, val_main_v300, val_main_v301, val_main_v302, val_main_v303, val_main_v304, val_main_v305, val_main_v306, val_main_v307, val_main_c_97, val_main_call9_v0, val_main_v308, val_main_v309, val_main_v310, val_main_v311, val_main_v312, val_main_v313, val_main_v314, val_main_v315, val_main_v316, val_main_v317, val_main_v318, val_main_c_98, val_main_call10_v0, val_main_v319, val_main_v320, val_main_v321, val_main_c_99, val_main_call11_v0, val_main_v322, val_main_v323, val_main_v324, val_main_v325]
  simp only [AdamW.pad_zero]
  rfl

set_option maxHeartbeats 6400000 in
/-- The reference's new second moments, entry by entry. -/
theorem square_at (c : Dev nD) (r : Fin 2160) (k : Fin 128) :
    val_main_v325 (F := Ideal) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 r k) = layout r k (fun i => AdamW.square ((m (c.tc.loc main_arg18)) i) (∑ q : Fin 8, (m (c.tc.loc main_arg27)) (ix4 q (i 0) (i 1) (i 2)))) (fun i => AdamW.square ((m (c.tc.loc main_arg19)) i) (∑ q : Fin 8, (m (c.tc.loc main_arg28)) (ix4 q (i 0) (i 1) (i 2)))) (fun i => AdamW.square ((m (c.tc.loc main_arg20)) i) (∑ q : Fin 8, (m (c.tc.loc main_arg29)) (ix3 q (i 0) (i 1)))) (fun i => AdamW.square ((m (c.tc.loc main_arg21)) i) (∑ q : Fin 8, (m (c.tc.loc main_arg30)) (ix5 q (i 0) (i 1) (i 2) (i 3)))) (fun i => AdamW.square ((m (c.tc.loc main_arg22)) i) (∑ q : Fin 8, (m (c.tc.loc main_arg31)) (ix5 q (i 0) (i 1) (i 2) (i 3)))) (fun i => AdamW.square ((m (c.tc.loc main_arg23)) i) (∑ q : Fin 8, (m (c.tc.loc main_arg32)) (ix5 q (i 0) (i 1) (i 2) (i 3)))) (fun i => AdamW.square ((m (c.tc.loc main_arg24)) i) (∑ q : Fin 8, (m (c.tc.loc main_arg33)) (ix5 q (i 0) (i 1) (i 2) (i 3)))) (fun i => AdamW.square ((m (c.tc.loc main_arg25)) i) (∑ q : Fin 8, (m (c.tc.loc main_arg34)) (ix3 q (i 0) (i 1)))) (fun i => AdamW.square ((m (c.tc.loc main_arg26)) i) (∑ q : Fin 8, (m (c.tc.loc main_arg35)) (ix3 q (i 0) (i 1)))) := by
  pointwise [val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_cst_10, val_main_v28, val_main_v29, val_main_cst_11, val_main_v30, val_main_v31, val_main_v32, val_main_cst_12, val_main_v33, val_main_v34, val_main_v35, val_main_cst_13, val_main_v36, val_main_v37, val_main_v38, val_main_cst_14, val_main_v39, val_main_v40, val_main_cst_15, val_main_v41, val_main_v42, val_main_v43, val_main_cst_16, val_main_v44, val_main_v45, val_main_v46, val_main_cst_17, val_main_v47, val_main_v48, val_main_v49, val_main_cst_18, val_main_v50, val_main_v51, val_main_v52, val_main_cst_19, val_main_v53, val_main_cst_20, val_main_v54, val_main_v55, val_main_cst_21, val_main_v56, val_main_v57, val_main_v58, val_main_cst_22, val_main_v59, val_main_v60, val_main_v61, val_main_cst_23, val_main_v62, val_main_v63, val_main_v64, val_main_cst_24, val_main_v65, val_main_v66, val_main_cst_25, val_main_v67, val_main_v68, val_main_v69, val_main_cst_26, val_main_v70, val_main_v71, val_main_v72, val_main_cst_27, val_main_v73, val_main_v74, val_main_v75, val_main_cst_28, val_main_v76, val_main_v77, val_main_v78, val_main_cst_29, val_main_v79, val_main_cst_30, val_main_v80, val_main_v81, val_main_cst_31, val_main_v82, val_main_v83, val_main_v84, val_main_cst_32, val_main_v85, val_main_v86, val_main_v87, val_main_cst_33, val_main_v88, val_main_v89, val_main_v90, val_main_cst_34, val_main_v91, val_main_v92, val_main_cst_35, val_main_v93, val_main_v94, val_main_v95, val_main_cst_36, val_main_v96, val_main_v97, val_main_v98, val_main_cst_37, val_main_v99, val_main_v100, val_main_v101, val_main_cst_38, val_main_v102, val_main_v103, val_main_v104, val_main_cst_39, val_main_v105, val_main_cst_40, val_main_v106, val_main_v107, val_main_cst_41, val_main_v108, val_main_v109, val_main_v110, val_main_cst_42, val_main_v111, val_main_v112, val_main_v113, val_main_cst_43, val_main_v114, val_main_v115, val_main_v116, val_main_cst_44, val_main_v117, val_main_v118, val_main_cst_45, val_main_v119, val_main_v120, val_main_v121, val_main_cst_46, val_main_v122, val_main_v123, val_main_v124, val_main_cst_47, val_main_v125, val_main_v126, val_main_v127, val_main_cst_48, val_main_v128, val_main_v129, val_main_v130, val_main_cst_49, val_main_v131, val_main_cst_50, val_main_v132, val_main_v133, val_main_cst_51, val_main_v134, val_main_v135, val_main_v136, val_main_cst_52, val_main_v137, val_main_v138, val_main_v139, val_main_cst_53, val_main_v140, val_main_v141, val_main_v142, val_main_cst_54, val_main_v143, val_main_v144, val_main_cst_55, val_main_v145, val_main_v146, val_main_v147, val_main_cst_56, val_main_v148, val_main_v149, val_main_v150, val_main_cst_57, val_main_v151, val_main_v152, val_main_v153, val_main_cst_58, val_main_v154, val_main_v155, val_main_v156, val_main_cst_59, val_main_v157, val_main_cst_60, val_main_v158, val_main_v159, val_main_cst_61, val_main_v160, val_main_v161, val_main_v162, val_main_cst_62, val_main_v163, val_main_v164, val_main_v165, val_main_cst_63, val_main_v166, val_main_v167, val_main_v168, val_main_cst_64, val_main_v169, val_main_v170, val_main_cst_65, val_main_v171, val_main_v172, val_main_v173, val_main_cst_66, val_main_v174, val_main_v175, val_main_v176, val_main_cst_67, val_main_v177, val_main_v178, val_main_v179, val_main_cst_68, val_main_v180, val_main_v181, val_main_v182, val_main_cst_69, val_main_v183, val_main_cst_70, val_main_v184, val_main_v185, val_main_cst_71, val_main_v186, val_main_v187, val_main_v188, val_main_cst_72, val_main_v189, val_main_v190, val_main_v191, val_main_cst_73, val_main_v192, val_main_v193, val_main_v194, val_main_cst_74, val_main_v195, val_main_v196, val_main_cst_75, val_main_v197, val_main_v198, val_main_v199, val_main_cst_76, val_main_v200, val_main_v201, val_main_v202, val_main_cst_77, val_main_v203, val_main_v204, val_main_v205, val_main_cst_78, val_main_v206, val_main_v207, val_main_v208, val_main_cst_79, val_main_v209, val_main_cst_80, val_main_v210, val_main_v211, val_main_cst_81, val_main_v212, val_main_v213, val_main_v214, val_main_cst_82, val_main_v215, val_main_v216, val_main_v217, val_main_cst_83, val_main_v218, val_main_v219, val_main_v220, val_main_cst_84, val_main_v221, val_main_v222, val_main_cst_85, val_main_v223, val_main_v224, val_main_v225, val_main_cst_86, val_main_v226, val_main_v227, val_main_v228, val_main_cst_87, val_main_v229, val_main_v230, val_main_v231, val_main_cst_88, val_main_v232, val_main_v233, val_main_v234, val_main_v235, val_main_v236, val_main_v237, val_main_v238, val_main_c, val_main_call0_v0, val_main_v239, val_main_v240, val_main_v241, val_main_v242, val_main_v243, val_main_v244, val_main_v245, val_main_v246, val_main_v247, val_main_v248, val_main_v249, val_main_c_89, val_main_call1_v0, val_main_v250, val_main_v251, val_main_v252, val_main_c_90, val_main_call2_v0, val_main_v253, val_main_v254, val_main_v255, val_main_v256, val_main_v257, val_main_v258, val_main_v259, val_main_v260, val_main_v261, val_main_c_91, val_main_call3_v0, val_main_v262, val_main_v263, val_main_v264, val_main_v265, val_main_v266, val_main_v267, val_main_v268, val_main_v269, val_main_v270, val_main_v271, val_main_v272, val_main_c_92, val_main_call4_v0, val_main_v273, val_main_v274, val_main_v275, val_main_c_93, val_main_call5_v0, val_main_v276, val_main_v277, val_main_v278, val_main_v279, val_main_v280, val_main_v281, val_main_v282, val_main_v283, val_main_v284, val_main_c_94, val_main_call6_v0, val_main_v285, val_main_v286, val_main_v287, val_main_v288, val_main_v289, val_main_v290, val_main_v291, val_main_v292, val_main_v293, val_main_v294, val_main_v295, val_main_c_95, val_main_call7_v0, val_main_v296, val_main_v297, val_main_v298, val_main_c_96, val_main_call8_v0, val_main_v299, val_main_v300, val_main_v301, val_main_v302, val_main_v303, val_main_v304, val_main_v305, val_main_v306, val_main_v307, val_main_c_97, val_main_call9_v0, val_main_v308, val_main_v309, val_main_v310, val_main_v311, val_main_v312, val_main_v313, val_main_v314, val_main_v315, val_main_v316, val_main_v317, val_main_v318, val_main_c_98, val_main_call10_v0, val_main_v319, val_main_v320, val_main_v321, val_main_c_99, val_main_call11_v0, val_main_v322, val_main_v323, val_main_v324, val_main_v325]
  simp only [AdamW.pad_zero]
  rfl

set_option maxHeartbeats 6400000 in
/-- The reference's results at an entry of the array in which they are laid out, from the packed arrays' entries there. -/
theorem step (c : Dev nD) (r : Fin 2160) (k : Fin 128) :
    val_main_v256 (F := Ideal) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 r k) = ∑ q : Fin 8, parts m c (ix3 q r k)
    ∧ val_main_v279 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 r k) = AdamW.delta (weight m c (ix3 0 r k)) (moment1 m c (ix3 0 r k)) (moment2 m c (ix3 0 r k)) (∑ q : Fin 8, parts m c (ix3 q r k))
    ∧ val_main_v302 (F := Ideal) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 r k) = AdamW.moment (moment1 m c (ix3 0 r k)) (∑ q : Fin 8, parts m c (ix3 q r k))
    ∧ val_main_v325 (F := Ideal) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 r k) = AdamW.square (moment2 m c (ix3 0 r k)) (∑ q : Fin 8, parts m c (ix3 q r k)) := by
  have hs : layout r k (fun i => ∑ q : Fin 8, (m (c.tc.loc main_arg27)) (ix4 q (i 0) (i 1) (i 2))) (fun i => ∑ q : Fin 8, (m (c.tc.loc main_arg28)) (ix4 q (i 0) (i 1) (i 2))) (fun i => ∑ q : Fin 8, (m (c.tc.loc main_arg29)) (ix3 q (i 0) (i 1))) (fun i => ∑ q : Fin 8, (m (c.tc.loc main_arg30)) (ix5 q (i 0) (i 1) (i 2) (i 3))) (fun i => ∑ q : Fin 8, (m (c.tc.loc main_arg31)) (ix5 q (i 0) (i 1) (i 2) (i 3))) (fun i => ∑ q : Fin 8, (m (c.tc.loc main_arg32)) (ix5 q (i 0) (i 1) (i 2) (i 3))) (fun i => ∑ q : Fin 8, (m (c.tc.loc main_arg33)) (ix5 q (i 0) (i 1) (i 2) (i 3))) (fun i => ∑ q : Fin 8, (m (c.tc.loc main_arg34)) (ix3 q (i 0) (i 1))) (fun i => ∑ q : Fin 8, (m (c.tc.loc main_arg35)) (ix3 q (i 0) (i 1))) = ∑ q : Fin 8, parts m c (ix3 q r k) := (layout_sum r k _ _ _ _ _ _ _ _ _).trans (Finset.sum_congr rfl fun q _ => (parts_at m c q r k).symm)
  have hw := weight_at m c r k
  have hm := moment1_at m c r k
  have hv := moment2_at m c r k
  refine ⟨(gradient_at m c r k).trans hs, (update_at m c r k).trans ?_, (moment_at m c r k).trans ?_, (square_at m c r k).trans ?_⟩
  · rw [hw, hm, hv, ← hs]
    exact layout_map AdamW.delta AdamW.delta_zero r k _ _ _ _ _ _ _ _ _ _ _ _ _ _ _ _ _ _ _ _ _ _ _ _ _ _ _ _ _ _ _ _ _ _ _ _
  · rw [hm, ← hs]
    exact layout_map (fun _ x _ g => AdamW.moment x g) AdamW.moment_zero r k (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) _ _ _ _ _ _ _ _ _ (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) _ _ _ _ _ _ _ _ _
  · rw [hv, ← hs]
    exact layout_map (fun _ _ x g => AdamW.square x g) AdamW.square_zero r k (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) _ _ _ _ _ _ _ _ _ _ _ _ _ _ _ _ _ _

/-! ## The blocks -/

/-- Which block of each array grid point `t` works on: row block `t`. -/
theorem blocks : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row of the arrays that row `r` of block `t` is. -/
def row (t : Fin cfg0.N) (r : Fin 1080) : Fin 2160 := ⟨t.val * 1080 + r.val, by have := lt_of_lt_of_eq t.isLt N_0; have := r.isLt; omega⟩

/-- A block of each packed array. -/
theorem read (c : Dev nD) (t : Fin cfg0.N) (r : Fin 1080) (k : Fin 128) :
    (show Vec Ideal S1x1080x128 .f32 from iblk m c 0 t) (ix3 0 r k) = weight m c (ix3 0 (row t r) k)
    ∧ (show Vec Ideal S1x1080x128 .f32 from iblk m c 1 t) (ix3 0 r k) = moment1 m c (ix3 0 (row t r) k)
    ∧ (show Vec Ideal S1x1080x128 .f32 from iblk m c 2 t) (ix3 0 r k) = moment2 m c (ix3 0 (row t r) k) := by
  refine ⟨?_, ?_, ?_⟩ <;> blk_point [iblk, weight, moment1, moment2, blocks t, row]

/-- A block of the parts. -/
theorem read_parts (c : Dev nD) (t : Fin cfg0.N) (q : Fin 8) (r : Fin 1080) (k : Fin 128) :
    (show Vec Ideal S8x1080x128 .bf16 from iblk m c 3 t) (ix3 q r k) = parts m c (ix3 q (row t r) k) := by
  blk_point [iblk, parts, blocks t, row]

/-- What the body leaves at an entry is the reference's results there. -/
theorem entry (c : Dev nD) (t : Fin cfg0.N) (r : Fin 1080) (k : Fin 128) (x : Vec Ideal S8x1080x128 .bf16) (i0 : ∀ a, (![0, 0, 0] : Fin 3 → Nat) a + (![1, 1080, 128] : Fin 3 → Nat) a ≤ S8x1080x128.size a) (i1 : ∀ a, (![1, 0, 0] : Fin 3 → Nat) a + (![1, 1080, 128] : Fin 3 → Nat) a ≤ S8x1080x128.size a) (i2 : ∀ a, (![2, 0, 0] : Fin 3 → Nat) a + (![1, 1080, 128] : Fin 3 → Nat) a ≤ S8x1080x128.size a) (i3 : ∀ a, (![3, 0, 0] : Fin 3 → Nat) a + (![1, 1080, 128] : Fin 3 → Nat) a ≤ S8x1080x128.size a) (i4 : ∀ a, (![4, 0, 0] : Fin 3 → Nat) a + (![1, 1080, 128] : Fin 3 → Nat) a ≤ S8x1080x128.size a) (i5 : ∀ a, (![5, 0, 0] : Fin 3 → Nat) a + (![1, 1080, 128] : Fin 3 → Nat) a ≤ S8x1080x128.size a) (i6 : ∀ a, (![6, 0, 0] : Fin 3 → Nat) a + (![1, 1080, 128] : Fin 3 → Nat) a ≤ S8x1080x128.size a) (i7 : ∀ a, (![7, 0, 0] : Fin 3 → Nat) a + (![1, 1080, 128] : Fin 3 → Nat) a ≤ S8x1080x128.size a)
    (hx : ∀ q : Fin 8, x (ix3 q r k) = parts m c (ix3 q (row t r) k)) :
    k0_pay6 (F := Ideal) (k0_pay2 (View.ld x (Rect.unit ![0, 0, 0] ![1, 1080, 128] i0)) (View.ld x (Rect.unit ![1, 0, 0] ![1, 1080, 128] i1)) (View.ld x (Rect.unit ![2, 0, 0] ![1, 1080, 128] i2)) (View.ld x (Rect.unit ![3, 0, 0] ![1, 1080, 128] i3)) (View.ld x (Rect.unit ![4, 0, 0] ![1, 1080, 128] i4)) (View.ld x (Rect.unit ![5, 0, 0] ![1, 1080, 128] i5)) (View.ld x (Rect.unit ![6, 0, 0] ![1, 1080, 128] i6)) (View.ld x (Rect.unit ![7, 0, 0] ![1, 1080, 128] i7))) (ix3 0 r k) = val_main_v256 (F := Ideal) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 (row t r) k)
    ∧ k0_pay1 (F := Ideal) (k0_pay9 (k0_pay2 (View.ld x (Rect.unit ![0, 0, 0] ![1, 1080, 128] i0)) (View.ld x (Rect.unit ![1, 0, 0] ![1, 1080, 128] i1)) (View.ld x (Rect.unit ![2, 0, 0] ![1, 1080, 128] i2)) (View.ld x (Rect.unit ![3, 0, 0] ![1, 1080, 128] i3)) (View.ld x (Rect.unit ![4, 0, 0] ![1, 1080, 128] i4)) (View.ld x (Rect.unit ![5, 0, 0] ![1, 1080, 128] i5)) (View.ld x (Rect.unit ![6, 0, 0] ![1, 1080, 128] i6)) (View.ld x (Rect.unit ![7, 0, 0] ![1, 1080, 128] i7))) (k0_pay3 (iblk m c 1 t)) (iblk m c 2 t)) (k0_pay10 (iblk m c 0 t)) (ix3 0 r k) = val_main_v279 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 (row t r) k)
    ∧ k0_pay7 (F := Ideal) (k0_pay2 (View.ld x (Rect.unit ![0, 0, 0] ![1, 1080, 128] i0)) (View.ld x (Rect.unit ![1, 0, 0] ![1, 1080, 128] i1)) (View.ld x (Rect.unit ![2, 0, 0] ![1, 1080, 128] i2)) (View.ld x (Rect.unit ![3, 0, 0] ![1, 1080, 128] i3)) (View.ld x (Rect.unit ![4, 0, 0] ![1, 1080, 128] i4)) (View.ld x (Rect.unit ![5, 0, 0] ![1, 1080, 128] i5)) (View.ld x (Rect.unit ![6, 0, 0] ![1, 1080, 128] i6)) (View.ld x (Rect.unit ![7, 0, 0] ![1, 1080, 128] i7))) (k0_pay3 (iblk m c 1 t)) (ix3 0 r k) = val_main_v302 (F := Ideal) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 (row t r) k)
    ∧ k0_pay8 (F := Ideal) (k0_pay2 (View.ld x (Rect.unit ![0, 0, 0] ![1, 1080, 128] i0)) (View.ld x (Rect.unit ![1, 0, 0] ![1, 1080, 128] i1)) (View.ld x (Rect.unit ![2, 0, 0] ![1, 1080, 128] i2)) (View.ld x (Rect.unit ![3, 0, 0] ![1, 1080, 128] i3)) (View.ld x (Rect.unit ![4, 0, 0] ![1, 1080, 128] i4)) (View.ld x (Rect.unit ![5, 0, 0] ![1, 1080, 128] i5)) (View.ld x (Rect.unit ![6, 0, 0] ![1, 1080, 128] i6)) (View.ld x (Rect.unit ![7, 0, 0] ![1, 1080, 128] i7))) (iblk m c 2 t) (ix3 0 r k) = val_main_v325 (F := Ideal) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 0 (row t r) k) := by
  obtain ⟨a0, a1, a2, a3⟩ := step_apply (View.ld x (Rect.unit ![0, 0, 0] ![1, 1080, 128] i0)) (View.ld x (Rect.unit ![1, 0, 0] ![1, 1080, 128] i1)) (View.ld x (Rect.unit ![2, 0, 0] ![1, 1080, 128] i2)) (View.ld x (Rect.unit ![3, 0, 0] ![1, 1080, 128] i3)) (View.ld x (Rect.unit ![4, 0, 0] ![1, 1080, 128] i4)) (View.ld x (Rect.unit ![5, 0, 0] ![1, 1080, 128] i5)) (View.ld x (Rect.unit ![6, 0, 0] ![1, 1080, 128] i6)) (View.ld x (Rect.unit ![7, 0, 0] ![1, 1080, 128] i7)) (iblk m c 0 t) (iblk m c 1 t) (iblk m c 2 t) r k
  obtain ⟨b0, b1, b2, b3⟩ := step m c (row t r) k
  obtain ⟨w, p, v⟩ := read m c t r k
  dsimp only at w p v
  have e : (View.ld x (Rect.unit ![0, 0, 0] ![1, 1080, 128] i0)) (ix3 0 r k) + (View.ld x (Rect.unit ![1, 0, 0] ![1, 1080, 128] i1)) (ix3 0 r k) + (View.ld x (Rect.unit ![2, 0, 0] ![1, 1080, 128] i2)) (ix3 0 r k) + (View.ld x (Rect.unit ![3, 0, 0] ![1, 1080, 128] i3)) (ix3 0 r k) + (View.ld x (Rect.unit ![4, 0, 0] ![1, 1080, 128] i4)) (ix3 0 r k) + (View.ld x (Rect.unit ![5, 0, 0] ![1, 1080, 128] i5)) (ix3 0 r k) + (View.ld x (Rect.unit ![6, 0, 0] ![1, 1080, 128] i6)) (ix3 0 r k) + (View.ld x (Rect.unit ![7, 0, 0] ![1, 1080, 128] i7)) (ix3 0 r k) = ∑ q : Fin 8, parts m c (ix3 q (row t r) k) := by
    rw [Fin.sum_univ_eight, load x 0 (by norm_num), load x 1 (by norm_num), load x 2 (by norm_num), load x 3 (by norm_num), load x 4 (by norm_num), load x 5 (by norm_num), load x 6 (by norm_num), load x 7 (by norm_num), ← hx 0, ← hx 1, ← hx 2, ← hx 3, ← hx 4, ← hx 5, ← hx 6, ← hx 7]
    rfl
  rw [e] at a0 a1 a2 a3
  exact ⟨a0.trans b0.symm, a1.trans (Eq.trans (by rw [w, p, v]) b1.symm), a2.trans (Eq.trans (by rw [p]) b2.symm), a3.trans (Eq.trans (by rw [v]) b3.symm)⟩

/-- What a grid point leaves in the four results' blocks is the reference's. -/
theorem block (c : Dev nD) (t : Fin cfg0.N) (z : Fin 1) (r : Fin 1080) (k : Fin 128) :
    (outsAt0 m c t).1 (ix3 z r k) = val_main_v256 (F := Ideal) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 z (row t r) k)
    ∧ (outsAt0 m c t).2.1 (ix3 z r k) = val_main_v279 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 z (row t r) k)
    ∧ (outsAt0 m c t).2.2.1 (ix3 z r k) = val_main_v302 (F := Ideal) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 z (row t r) k)
    ∧ (outsAt0 m c t).2.2.2 (ix3 z r k) = val_main_v325 (F := Ideal) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (ix3 z (row t r) k) := by
  obtain rfl : z = 0 := Fin.fin_one_eq_zero z
  have he := entry m c t r k (iblk m c 3 t) inb_S8x1080x128_S1x1080x128_0_0_0 inb_S8x1080x128_S1x1080x128_1_0_0 inb_S8x1080x128_S1x1080x128_2_0_0 inb_S8x1080x128_S1x1080x128_3_0_0 inb_S8x1080x128_S1x1080x128_4_0_0 inb_S8x1080x128_S1x1080x128_5_0_0 inb_S8x1080x128_S1x1080x128_6_0_0 inb_S8x1080x128_S1x1080x128_7_0_0 (fun q => read_parts m c t q r k)
  unfold outsAt0
  refine ⟨?_, ?_, ?_, ?_⟩ <;> frame_out
  exacts [he.1, he.2.1, he.2.2.1, he.2.2.2]

/-! ## The results -/

/-- The gradients are the reference's. -/
theorem result0 (c : Dev nD) : (dats m 0 c).arrAt 4 (cfgs 0).N = val_main_v256 (F := Ideal) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) := by
  refine (dats m 0 c).arrAt_eq_of_covers 4 _ (by decide +kernel) fun t hf y => ?_
  blk_simp
  rw [after0_4]
  have e : ∀ (z : Fin 1) (r : Fin 1080) (k : Fin 128), ((View.whole main_v101_0).slice (win0_4.rect t)).emb (ix3 z r k) = ix3 z (row t r) k := fun z r k => by blk_ext [blocks t, row]
  idx_vars y
  rw [e]
  exact (block m c t _ _ _).1

/-- The updates are the reference's. -/
theorem result1 (c : Dev nD) : (dats m 0 c).arrAt 5 (cfgs 0).N = val_main_v279 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) := by
  refine (dats m 0 c).arrAt_eq_of_covers 5 _ (by decide +kernel) fun t hf y => ?_
  blk_simp
  rw [after0_5]
  have e : ∀ (z : Fin 1) (r : Fin 1080) (k : Fin 128), ((View.whole main_v101_1).slice (win0_5.rect t)).emb (ix3 z r k) = ix3 z (row t r) k := fun z r k => by blk_ext [blocks t, row]
  idx_vars y
  rw [e]
  exact (block m c t _ _ _).2.1

/-- The new first moments are the reference's. -/
theorem result2 (c : Dev nD) : (dats m 0 c).arrAt 6 (cfgs 0).N = val_main_v302 (F := Ideal) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) := by
  refine (dats m 0 c).arrAt_eq_of_covers 6 _ (by decide +kernel) fun t hf y => ?_
  blk_simp
  rw [after0_6]
  have e : ∀ (z : Fin 1) (r : Fin 1080) (k : Fin 128), ((View.whole main_v101_2).slice (win0_6.rect t)).emb (ix3 z r k) = ix3 z (row t r) k := fun z r k => by blk_ext [blocks t, row]
  idx_vars y
  rw [e]
  exact (block m c t _ _ _).2.2.1

/-- The new second moments are the reference's. -/
theorem result3 (c : Dev nD) : (dats m 0 c).arrAt 7 (cfgs 0).N = val_main_v325 (F := Ideal) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) := by
  refine (dats m 0 c).arrAt_eq_of_covers 7 _ (by decide +kernel) fun t hf y => ?_
  blk_simp
  rw [after0_7]
  have e : ∀ (z : Fin 1) (r : Fin 1080) (k : Fin 128), ((View.whole main_v101_3).slice (win0_7.rect t)).emb (ix3 z r k) = ix3 z (row t r) k := fun z r k => by blk_ext [blocks t, row]
  idx_vars y
  rw [e]
  exact (block m c t _ _ _).2.2.2

/-! ## The claims -/

/-- The two constants that the idealised kernel names are the ones the kernel holds. -/
theorem preserves : Cert.preserves_Kernel23_Kernel23Ideal :=
  ⟨IdealRules.named_const.statement Cert.Kernel23Ideal.κ "c1" .f32 0x3FC48605#32 ((8388608 / 5463681 : ℝ) : EReal) rfl, IdealRules.named_const.statement Cert.Kernel23Ideal.κ "c2" .f32 0x42C8E6D3#32 ((268435456 / 2672307 : ℝ) : EReal) rfl⟩

set_option maxHeartbeats 3200000 in
/-- On the extended reals, the kernel and the reference compute the same gradients, updates and moments. -/
theorem algebraic : Cert.algebraic_Kernel23Ideal_Reference23Ideal := by
  pair_intro
  · run_from Cert.Kernel23Ideal.Gen.run_main m g
    all_goals
      simp only [List.flatten_cons, List.flatten_nil, List.append_nil]
      after_reads_simp
      try rfl
  · run_from Cert.Reference23Ideal.Value.run m' g'
    · obtain ⟨a0, a1, a2, a3, a4, a5, a6, a7, a8, a9, a10, a11, a12, a13, a14, a15, a16, a17, a18, a19, a20, a21, a22, a23, a24, a25, a26, a27, a28, a29, a30, a31, a32, a33, a34, a35⟩ := hagree c
      exact (Eq.trans (val_main_v256_eq (StableHlo.launchContents m' c)) (by simp only [StableHlo.launchContents, a27, a28, a29, a30, a31, a32, a33, a34, a35])).trans (result0 m c).symm
    · obtain ⟨a0, a1, a2, a3, a4, a5, a6, a7, a8, a9, a10, a11, a12, a13, a14, a15, a16, a17, a18, a19, a20, a21, a22, a23, a24, a25, a26, a27, a28, a29, a30, a31, a32, a33, a34, a35⟩ := hagree c
      refine (val_main_v279_eq (StableHlo.launchContents m' c)).trans ?_
      simp only [StableHlo.launchContents, a0, a1, a2, a3, a4, a5, a6, a7, a8, a9, a10, a11, a12, a13, a14, a15, a16, a17, a18, a19, a20, a21, a22, a23, a24, a25, a26, a27, a28, a29, a30, a31, a32, a33, a34, a35]
      exact (result1 m c).symm
    · obtain ⟨a0, a1, a2, a3, a4, a5, a6, a7, a8, a9, a10, a11, a12, a13, a14, a15, a16, a17, a18, a19, a20, a21, a22, a23, a24, a25, a26, a27, a28, a29, a30, a31, a32, a33, a34, a35⟩ := hagree c
      exact (Eq.trans (val_main_v302_eq (StableHlo.launchContents m' c)) (by simp only [StableHlo.launchContents, a9, a10, a11, a12, a13, a14, a15, a16, a17, a27, a28, a29, a30, a31, a32, a33, a34, a35])).trans (result2 m c).symm
    · obtain ⟨a0, a1, a2, a3, a4, a5, a6, a7, a8, a9, a10, a11, a12, a13, a14, a15, a16, a17, a18, a19, a20, a21, a22, a23, a24, a25, a26, a27, a28, a29, a30, a31, a32, a33, a34, a35⟩ := hagree c
      exact (Eq.trans (val_main_v325_eq (StableHlo.launchContents m' c)) (by simp only [StableHlo.launchContents, a18, a19, a20, a21, a22, a23, a24, a25, a26, a27, a28, a29, a30, a31, a32, a33, a34, a35])).trans (result3 m c).symm

end Cert.StateSpaceStep

end
-- ==== Proof.GatingStep.lean ====
/- The optimiser's step, in one call, of the spatial gating's position weights and biases: what the kernel leaves is the gradients summed over the devices, the updates and the new moments that the reference computes. -/
module

public import proofs.«01_k».proof.Proof.Gen.Kernel24Ideal.Value
public import proofs.«01_k».proof.Proof.Gen.Reference24Ideal.Read
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Defs
public import proofs.«01_k».proof.Proof.AdamW

@[expose] public section

set_option maxRecDepth 16384

noncomputable section

open Idealize.ShloMosaic Idealize.ShloMosaic.TcCoe Idealize.SL.Sem
open Idealize.ShloMosaic.Pipeline (Dat)
open scoped BigOperators

namespace Cert.GatingStep

open Cert.Kernel24Ideal Cert.Kernel24Ideal.Gen
open Cert.Reference24Ideal.Read

/-! ## What the body computes from a block -/

/-- The two named constants' values. -/
theorem constants : Named.named (F := Ideal) Cert.Kernel24Ideal.κ "c1" (φ := .f32) 0x3FC48605#32 = ((8388608 / 5463681 : ℝ) : EReal)
    ∧ Named.named (F := Ideal) Cert.Kernel24Ideal.κ "c2" (φ := .f32) 0x42C8E6D3#32 = ((268435456 / 2672307 : ℝ) : EReal) :=
  ⟨IdealRules.named_const.ideal_named_scalar _ _ _ _ rfl, IdealRules.named_const.ideal_named_scalar _ _ _ _ rfl⟩

set_option maxHeartbeats 1600000 in
/-- The results of the body at an entry, from the eight devices' parts there: the gradient, the update and the new moments. -/
theorem step_apply (v0 v1 v2 v3 v4 v5 v6 v7 : Vec Ideal S1x520x128 .bf16) (w p v : Vec Ideal S1x520x128 .f32) (r : Fin 520) (k : Fin 128) :
    k0_pay6 (F := Ideal) (k0_pay2 v0 v1 v2 v3 v4 v5 v6 v7) (ix3 0 r k) = v0 (ix3 0 r k) + v1 (ix3 0 r k) + v2 (ix3 0 r k) + v3 (ix3 0 r k) + v4 (ix3 0 r k) + v5 (ix3 0 r k) + v6 (ix3 0 r k) + v7 (ix3 0 r k)
    ∧ k0_pay1 (F := Ideal) (k0_pay9 (k0_pay2 v0 v1 v2 v3 v4 v5 v6 v7) (k0_pay3 p) v) (k0_pay10 w) (ix3 0 r k) = AdamW.delta (w (ix3 0 r k)) (p (ix3 0 r k)) (v (ix3 0 r k)) (v0 (ix3 0 r k) + v1 (ix3 0 r k) + v2 (ix3 0 r k) + v3 (ix3 0 r k) + v4 (ix3 0 r k) + v5 (ix3 0 r k) + v6 (ix3 0 r k) + v7 (ix3 0 r k))
    ∧ k0_pay7 (F := Ideal) (k0_pay2 v0 v1 v2 v3 v4 v5 v6 v7) (k0_pay3 p) (ix3 0 r k) = AdamW.moment (p (ix3 0 r k)) (v0 (ix3 0 r k) + v1 (ix3 0 r k) + v2 (ix3 0 r k) + v3 (ix3 0 r k) + v4 (ix3 0 r k) + v5 (ix3 0 r k) + v6 (ix3 0 r k) + v7 (ix3 0 r k))
    ∧ k0_pay8 (F := Ideal) (k0_pay2 v0 v1 v2 v3 v4 v5 v6 v7) v (ix3 0 r k) = AdamW.square (v (ix3 0 r k)) (v0 (ix3 0 r k) + v1 (ix3 0 r k) + v2 (ix3 0 r k) + v3 (ix3 0 r k) + v4 (ix3 0 r k) + v5 (ix3 0 r k) + v6 (ix3 0 r k) + v7 (ix3 0 r k)) := by
  rw [← AdamW.scaled_eq, ← constants.1, ← constants.2]
  refine ⟨?_, ?_, ?_, ?_⟩ <;> pointwise [k0_pay1, k0_pay2, k0_pay3, k0_pay4, k0_pay5, k0_pay6, k0_pay7, k0_pay8, k0_pay9, k0_pay10, AdamW.moment, AdamW.square, AdamW.scaled]

/-- The body's load of part `s`, at an entry. -/
theorem load (x : Vec Ideal S8x520x128 .bf16) (s : Nat) (hs : s < 8) (i : ∀ a, (![s, 0, 0] : Fin 3 → Nat) a + (![1, 520, 128] : Fin 3 → Nat) a ≤ S8x520x128.size a) (r : Fin 520) (k : Fin 128) :
    (View.ld x (Rect.unit ![s, 0, 0] ![1, 520, 128] i)) (ix3 0 r k) = x (ix3 ⟨s, hs⟩ r k) :=
  View.ld_unit_apply_of _ _ _ _ _ _ (fun a => by fin_cases a <;> simp [ix3])

/-! ## The arrays that the kernel packs before its call -/

variable (m : (ℓ : Loc nD τ sig) → Buf (Elt Ideal) ℓ)

/-- The weights, packed. -/
def weight (c : Dev nD) : Vec Ideal S1x1040x128 .f32 := V m c main_v6
/-- Their first moments, packed. -/
def moment1 (c : Dev nD) : Vec Ideal S1x1040x128 .f32 := V m c main_v13
/-- Their second moments, packed. -/
def moment2 (c : Dev nD) : Vec Ideal S1x1040x128 .f32 := V m c main_v20
/-- The devices' parts of their gradients, packed. -/
def parts (c : Dev nD) : Vec Ideal S8x1040x128 .bf16 := V m c main_v29

set_option maxHeartbeats 6400000 in
/-- The reference's results at an entry of the array in which they are laid out, from the packed arrays' entries there. -/
theorem step (c : Dev nD) (r : Fin 1040) (k : Fin 128) :
    val_main_v58 (F := Ideal) (m (c.tc.loc main_arg6)) (m (c.tc.loc main_arg7)) (ix3 0 r k) = ∑ q : Fin 8, parts m c (ix3 q r k)
    ∧ val_main_v65 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix3 0 r k) = AdamW.delta (weight m c (ix3 0 r k)) (moment1 m c (ix3 0 r k)) (moment2 m c (ix3 0 r k)) (∑ q : Fin 8, parts m c (ix3 q r k))
    ∧ val_main_v72 (F := Ideal) (m (c.tc.loc main_arg2)) (m (c.tc.loc main_arg3)) (m (c.tc.loc main_arg6)) (m (c.tc.loc main_arg7)) (ix3 0 r k) = AdamW.moment (moment1 m c (ix3 0 r k)) (∑ q : Fin 8, parts m c (ix3 q r k))
    ∧ val_main_v79 (F := Ideal) (m (c.tc.loc main_arg4)) (m (c.tc.loc main_arg5)) (m (c.tc.loc main_arg6)) (m (c.tc.loc main_arg7)) (ix3 0 r k) = AdamW.square (moment2 m c (ix3 0 r k)) (∑ q : Fin 8, parts m c (ix3 q r k)) := by
  refine ⟨?_, ?_, ?_, ?_⟩
  all_goals
    simp only [weight, moment1, moment2, parts, V, List.flatten_cons, List.flatten_nil, List.append_nil]
    after_reads_simp
    try simp -implicitDefEqProofs only [StableHlo.TRef.toBuf, StableHlo.TRef.ofBuf, cast_cast, cast_eq]
    pointwise [val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_cst_10, val_main_v28, val_main_v29, val_main_cst_11, val_main_v30, val_main_v31, val_main_v32, val_main_cst_12, val_main_v33, val_main_v34, val_main_v35, val_main_cst_13, val_main_v36, val_main_v37, val_main_v38, val_main_cst_14, val_main_v39, val_main_v40, val_main_cst_15, val_main_v41, val_main_v42, val_main_v43, val_main_cst_16, val_main_v44, val_main_v45, val_main_v46, val_main_cst_17, val_main_v47, val_main_v48, val_main_v49, val_main_cst_18, val_main_v50, val_main_v51, val_main_v52, val_main_v53, val_main_v54, val_main_c, val_main_call0_v0, val_main_v55, val_main_v56, val_main_v57, val_main_v58, val_main_v59, val_main_v60, val_main_v61, val_main_c_19, val_main_call1_v0, val_main_v62, val_main_v63, val_main_v64, val_main_v65, val_main_v66, val_main_v67, val_main_v68, val_main_c_20, val_main_call2_v0, val_main_v69, val_main_v70, val_main_v71, val_main_v72, val_main_v73, val_main_v74, val_main_v75, val_main_c_21, val_main_call3_v0, val_main_v76, val_main_v77, val_main_v78, val_main_v79]
    try after_reads_simp
    try simp -implicitDefEqProofs only [StableHlo.TRef.toBuf, StableHlo.TRef.ofBuf, cast_cast, cast_eq]
    try pointwise
    try simp only [AdamW.column, AdamW.row_div, AdamW.row_mod, Fin.eta]
    split_ifs <;> first | rfl | simp only [AdamW.pad_zero, Finset.sum_const_zero, AdamW.delta_zero, AdamW.moment_zero, AdamW.square_zero] | pointwise [AdamW.moment, AdamW.square, AdamW.delta]

/-! ## The blocks -/

/-- Which block of each array grid point `t` works on: row block `t`. -/
theorem blocks : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row of the arrays that row `r` of block `t` is. -/
def row (t : Fin cfg0.N) (r : Fin 520) : Fin 1040 := ⟨t.val * 520 + r.val, by have := lt_of_lt_of_eq t.isLt N_0; have := r.isLt; omega⟩

/-- A block of each packed array. -/
theorem read (c : Dev nD) (t : Fin cfg0.N) (r : Fin 520) (k : Fin 128) :
    (show Vec Ideal S1x520x128 .f32 from iblk m c 0 t) (ix3 0 r k) = weight m c (ix3 0 (row t r) k)
    ∧ (show Vec Ideal S1x520x128 .f32 from iblk m c 1 t) (ix3 0 r k) = moment1 m c (ix3 0 (row t r) k)
    ∧ (show Vec Ideal S1x520x128 .f32 from iblk m c 2 t) (ix3 0 r k) = moment2 m c (ix3 0 (row t r) k) := by
  refine ⟨?_, ?_, ?_⟩ <;> blk_point [iblk, weight, moment1, moment2, blocks t, row]

/-- A block of the parts. -/
theorem read_parts (c : Dev nD) (t : Fin cfg0.N) (q : Fin 8) (r : Fin 520) (k : Fin 128) :
    (show Vec Ideal S8x520x128 .bf16 from iblk m c 3 t) (ix3 q r k) = parts m c (ix3 q (row t r) k) := by
  blk_point [iblk, parts, blocks t, row]

/-- What the body leaves at an entry is the reference's results there. -/
theorem entry (c : Dev nD) (t : Fin cfg0.N) (r : Fin 520) (k : Fin 128) (x : Vec Ideal S8x520x128 .bf16) (i0 : ∀ a, (![0, 0, 0] : Fin 3 → Nat) a + (![1, 520, 128] : Fin 3 → Nat) a ≤ S8x520x128.size a) (i1 : ∀ a, (![1, 0, 0] : Fin 3 → Nat) a + (![1, 520, 128] : Fin 3 → Nat) a ≤ S8x520x128.size a) (i2 : ∀ a, (![2, 0, 0] : Fin 3 → Nat) a + (![1, 520, 128] : Fin 3 → Nat) a ≤ S8x520x128.size a) (i3 : ∀ a, (![3, 0, 0] : Fin 3 → Nat) a + (![1, 520, 128] : Fin 3 → Nat) a ≤ S8x520x128.size a) (i4 : ∀ a, (![4, 0, 0] : Fin 3 → Nat) a + (![1, 520, 128] : Fin 3 → Nat) a ≤ S8x520x128.size a) (i5 : ∀ a, (![5, 0, 0] : Fin 3 → Nat) a + (![1, 520, 128] : Fin 3 → Nat) a ≤ S8x520x128.size a) (i6 : ∀ a, (![6, 0, 0] : Fin 3 → Nat) a + (![1, 520, 128] : Fin 3 → Nat) a ≤ S8x520x128.size a) (i7 : ∀ a, (![7, 0, 0] : Fin 3 → Nat) a + (![1, 520, 128] : Fin 3 → Nat) a ≤ S8x520x128.size a)
    (hx : ∀ q : Fin 8, x (ix3 q r k) = parts m c (ix3 q (row t r) k)) :
    k0_pay6 (F := Ideal) (k0_pay2 (View.ld x (Rect.unit ![0, 0, 0] ![1, 520, 128] i0)) (View.ld x (Rect.unit ![1, 0, 0] ![1, 520, 128] i1)) (View.ld x (Rect.unit ![2, 0, 0] ![1, 520, 128] i2)) (View.ld x (Rect.unit ![3, 0, 0] ![1, 520, 128] i3)) (View.ld x (Rect.unit ![4, 0, 0] ![1, 520, 128] i4)) (View.ld x (Rect.unit ![5, 0, 0] ![1, 520, 128] i5)) (View.ld x (Rect.unit ![6, 0, 0] ![1, 520, 128] i6)) (View.ld x (Rect.unit ![7, 0, 0] ![1, 520, 128] i7))) (ix3 0 r k) = val_main_v58 (F := Ideal) (m (c.tc.loc main_arg6)) (m (c.tc.loc main_arg7)) (ix3 0 (row t r) k)
    ∧ k0_pay1 (F := Ideal) (k0_pay9 (k0_pay2 (View.ld x (Rect.unit ![0, 0, 0] ![1, 520, 128] i0)) (View.ld x (Rect.unit ![1, 0, 0] ![1, 520, 128] i1)) (View.ld x (Rect.unit ![2, 0, 0] ![1, 520, 128] i2)) (View.ld x (Rect.unit ![3, 0, 0] ![1, 520, 128] i3)) (View.ld x (Rect.unit ![4, 0, 0] ![1, 520, 128] i4)) (View.ld x (Rect.unit ![5, 0, 0] ![1, 520, 128] i5)) (View.ld x (Rect.unit ![6, 0, 0] ![1, 520, 128] i6)) (View.ld x (Rect.unit ![7, 0, 0] ![1, 520, 128] i7))) (k0_pay3 (iblk m c 1 t)) (iblk m c 2 t)) (k0_pay10 (iblk m c 0 t)) (ix3 0 r k) = val_main_v65 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix3 0 (row t r) k)
    ∧ k0_pay7 (F := Ideal) (k0_pay2 (View.ld x (Rect.unit ![0, 0, 0] ![1, 520, 128] i0)) (View.ld x (Rect.unit ![1, 0, 0] ![1, 520, 128] i1)) (View.ld x (Rect.unit ![2, 0, 0] ![1, 520, 128] i2)) (View.ld x (Rect.unit ![3, 0, 0] ![1, 520, 128] i3)) (View.ld x (Rect.unit ![4, 0, 0] ![1, 520, 128] i4)) (View.ld x (Rect.unit ![5, 0, 0] ![1, 520, 128] i5)) (View.ld x (Rect.unit ![6, 0, 0] ![1, 520, 128] i6)) (View.ld x (Rect.unit ![7, 0, 0] ![1, 520, 128] i7))) (k0_pay3 (iblk m c 1 t)) (ix3 0 r k) = val_main_v72 (F := Ideal) (m (c.tc.loc main_arg2)) (m (c.tc.loc main_arg3)) (m (c.tc.loc main_arg6)) (m (c.tc.loc main_arg7)) (ix3 0 (row t r) k)
    ∧ k0_pay8 (F := Ideal) (k0_pay2 (View.ld x (Rect.unit ![0, 0, 0] ![1, 520, 128] i0)) (View.ld x (Rect.unit ![1, 0, 0] ![1, 520, 128] i1)) (View.ld x (Rect.unit ![2, 0, 0] ![1, 520, 128] i2)) (View.ld x (Rect.unit ![3, 0, 0] ![1, 520, 128] i3)) (View.ld x (Rect.unit ![4, 0, 0] ![1, 520, 128] i4)) (View.ld x (Rect.unit ![5, 0, 0] ![1, 520, 128] i5)) (View.ld x (Rect.unit ![6, 0, 0] ![1, 520, 128] i6)) (View.ld x (Rect.unit ![7, 0, 0] ![1, 520, 128] i7))) (iblk m c 2 t) (ix3 0 r k) = val_main_v79 (F := Ideal) (m (c.tc.loc main_arg4)) (m (c.tc.loc main_arg5)) (m (c.tc.loc main_arg6)) (m (c.tc.loc main_arg7)) (ix3 0 (row t r) k) := by
  obtain ⟨a0, a1, a2, a3⟩ := step_apply (View.ld x (Rect.unit ![0, 0, 0] ![1, 520, 128] i0)) (View.ld x (Rect.unit ![1, 0, 0] ![1, 520, 128] i1)) (View.ld x (Rect.unit ![2, 0, 0] ![1, 520, 128] i2)) (View.ld x (Rect.unit ![3, 0, 0] ![1, 520, 128] i3)) (View.ld x (Rect.unit ![4, 0, 0] ![1, 520, 128] i4)) (View.ld x (Rect.unit ![5, 0, 0] ![1, 520, 128] i5)) (View.ld x (Rect.unit ![6, 0, 0] ![1, 520, 128] i6)) (View.ld x (Rect.unit ![7, 0, 0] ![1, 520, 128] i7)) (iblk m c 0 t) (iblk m c 1 t) (iblk m c 2 t) r k
  obtain ⟨b0, b1, b2, b3⟩ := step m c (row t r) k
  obtain ⟨w, p, v⟩ := read m c t r k
  dsimp only at w p v
  have e : (View.ld x (Rect.unit ![0, 0, 0] ![1, 520, 128] i0)) (ix3 0 r k) + (View.ld x (Rect.unit ![1, 0, 0] ![1, 520, 128] i1)) (ix3 0 r k) + (View.ld x (Rect.unit ![2, 0, 0] ![1, 520, 128] i2)) (ix3 0 r k) + (View.ld x (Rect.unit ![3, 0, 0] ![1, 520, 128] i3)) (ix3 0 r k) + (View.ld x (Rect.unit ![4, 0, 0] ![1, 520, 128] i4)) (ix3 0 r k) + (View.ld x (Rect.unit ![5, 0, 0] ![1, 520, 128] i5)) (ix3 0 r k) + (View.ld x (Rect.unit ![6, 0, 0] ![1, 520, 128] i6)) (ix3 0 r k) + (View.ld x (Rect.unit ![7, 0, 0] ![1, 520, 128] i7)) (ix3 0 r k) = ∑ q : Fin 8, parts m c (ix3 q (row t r) k) := by
    rw [Fin.sum_univ_eight, load x 0 (by norm_num), load x 1 (by norm_num), load x 2 (by norm_num), load x 3 (by norm_num), load x 4 (by norm_num), load x 5 (by norm_num), load x 6 (by norm_num), load x 7 (by norm_num), ← hx 0, ← hx 1, ← hx 2, ← hx 3, ← hx 4, ← hx 5, ← hx 6, ← hx 7]
    rfl
  rw [e] at a0 a1 a2 a3
  exact ⟨a0.trans b0.symm, a1.trans (Eq.trans (by rw [w, p, v]) b1.symm), a2.trans (Eq.trans (by rw [p]) b2.symm), a3.trans (Eq.trans (by rw [v]) b3.symm)⟩

/-- What a grid point leaves in the four results' blocks is the reference's. -/
theorem block (c : Dev nD) (t : Fin cfg0.N) (z : Fin 1) (r : Fin 520) (k : Fin 128) :
    (outsAt0 m c t).1 (ix3 z r k) = val_main_v58 (F := Ideal) (m (c.tc.loc main_arg6)) (m (c.tc.loc main_arg7)) (ix3 z (row t r) k)
    ∧ (outsAt0 m c t).2.1 (ix3 z r k) = val_main_v65 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix3 z (row t r) k)
    ∧ (outsAt0 m c t).2.2.1 (ix3 z r k) = val_main_v72 (F := Ideal) (m (c.tc.loc main_arg2)) (m (c.tc.loc main_arg3)) (m (c.tc.loc main_arg6)) (m (c.tc.loc main_arg7)) (ix3 z (row t r) k)
    ∧ (outsAt0 m c t).2.2.2 (ix3 z r k) = val_main_v79 (F := Ideal) (m (c.tc.loc main_arg4)) (m (c.tc.loc main_arg5)) (m (c.tc.loc main_arg6)) (m (c.tc.loc main_arg7)) (ix3 z (row t r) k) := by
  obtain rfl : z = 0 := Fin.fin_one_eq_zero z
  have he := entry m c t r k (iblk m c 3 t) inb_S8x520x128_S1x520x128_0_0_0 inb_S8x520x128_S1x520x128_1_0_0 inb_S8x520x128_S1x520x128_2_0_0 inb_S8x520x128_S1x520x128_3_0_0 inb_S8x520x128_S1x520x128_4_0_0 inb_S8x520x128_S1x520x128_5_0_0 inb_S8x520x128_S1x520x128_6_0_0 inb_S8x520x128_S1x520x128_7_0_0 (fun q => read_parts m c t q r k)
  unfold outsAt0
  refine ⟨?_, ?_, ?_, ?_⟩ <;> frame_out
  exacts [he.1, he.2.1, he.2.2.1, he.2.2.2]

/-! ## The results -/

/-- The gradients are the reference's. -/
theorem result0 (c : Dev nD) : (dats m 0 c).arrAt 4 (cfgs 0).N = val_main_v58 (F := Ideal) (m (c.tc.loc main_arg6)) (m (c.tc.loc main_arg7)) := by
  refine (dats m 0 c).arrAt_eq_of_covers 4 _ (by decide +kernel) fun t hf y => ?_
  blk_simp
  rw [after0_4]
  have e : ∀ (z : Fin 1) (r : Fin 520) (k : Fin 128), ((View.whole main_v30_0).slice (win0_4.rect t)).emb (ix3 z r k) = ix3 z (row t r) k := fun z r k => by blk_ext [blocks t, row]
  idx_vars y
  rw [e]
  exact (block m c t _ _ _).1

/-- The updates are the reference's. -/
theorem result1 (c : Dev nD) : (dats m 0 c).arrAt 5 (cfgs 0).N = val_main_v65 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 5 _ (by decide +kernel) fun t hf y => ?_
  blk_simp
  rw [after0_5]
  have e : ∀ (z : Fin 1) (r : Fin 520) (k : Fin 128), ((View.whole main_v30_1).slice (win0_5.rect t)).emb (ix3 z r k) = ix3 z (row t r) k := fun z r k => by blk_ext [blocks t, row]
  idx_vars y
  rw [e]
  exact (block m c t _ _ _).2.1

/-- The new first moments are the reference's. -/
theorem result2 (c : Dev nD) : (dats m 0 c).arrAt 6 (cfgs 0).N = val_main_v72 (F := Ideal) (m (c.tc.loc main_arg2)) (m (c.tc.loc main_arg3)) (m (c.tc.loc main_arg6)) (m (c.tc.loc main_arg7)) := by
  refine (dats m 0 c).arrAt_eq_of_covers 6 _ (by decide +kernel) fun t hf y => ?_
  blk_simp
  rw [after0_6]
  have e : ∀ (z : Fin 1) (r : Fin 520) (k : Fin 128), ((View.whole main_v30_2).slice (win0_6.rect t)).emb (ix3 z r k) = ix3 z (row t r) k := fun z r k => by blk_ext [blocks t, row]
  idx_vars y
  rw [e]
  exact (block m c t _ _ _).2.2.1

/-- The new second moments are the reference's. -/
theorem result3 (c : Dev nD) : (dats m 0 c).arrAt 7 (cfgs 0).N = val_main_v79 (F := Ideal) (m (c.tc.loc main_arg4)) (m (c.tc.loc main_arg5)) (m (c.tc.loc main_arg6)) (m (c.tc.loc main_arg7)) := by
  refine (dats m 0 c).arrAt_eq_of_covers 7 _ (by decide +kernel) fun t hf y => ?_
  blk_simp
  rw [after0_7]
  have e : ∀ (z : Fin 1) (r : Fin 520) (k : Fin 128), ((View.whole main_v30_3).slice (win0_7.rect t)).emb (ix3 z r k) = ix3 z (row t r) k := fun z r k => by blk_ext [blocks t, row]
  idx_vars y
  rw [e]
  exact (block m c t _ _ _).2.2.2

/-! ## The claims -/

/-- The two constants that the idealised kernel names are the ones the kernel holds. -/
theorem preserves : Cert.preserves_Kernel24_Kernel24Ideal :=
  ⟨IdealRules.named_const.statement Cert.Kernel24Ideal.κ "c1" .f32 0x3FC48605#32 ((8388608 / 5463681 : ℝ) : EReal) rfl, IdealRules.named_const.statement Cert.Kernel24Ideal.κ "c2" .f32 0x42C8E6D3#32 ((268435456 / 2672307 : ℝ) : EReal) rfl⟩

set_option maxHeartbeats 3200000 in
/-- On the extended reals, the kernel and the reference compute the same gradients, updates and moments. -/
theorem algebraic : Cert.algebraic_Kernel24Ideal_Reference24Ideal := by
  pair_intro
  · run_from Cert.Kernel24Ideal.Gen.run_main m g
    all_goals
      simp only [List.flatten_cons, List.flatten_nil, List.append_nil]
      after_reads_simp
      try rfl
  · run_from Cert.Reference24Ideal.Value.run m' g'
    · obtain ⟨a0, a1, a2, a3, a4, a5, a6, a7⟩ := hagree c
      exact (Eq.trans (val_main_v58_eq _ _) (by simp only [a6, a7])).trans (result0 m c).symm
    · obtain ⟨a0, a1, a2, a3, a4, a5, a6, a7⟩ := hagree c
      exact (Eq.trans (val_main_v65_eq _ _ _ _ _ _ _ _) (by simp only [a0, a1, a2, a3, a4, a5, a6, a7])).trans (result1 m c).symm
    · obtain ⟨a0, a1, a2, a3, a4, a5, a6, a7⟩ := hagree c
      exact (Eq.trans (val_main_v72_eq _ _ _ _) (by simp only [a2, a3, a6, a7])).trans (result2 m c).symm
    · obtain ⟨a0, a1, a2, a3, a4, a5, a6, a7⟩ := hagree c
      exact (Eq.trans (val_main_v79_eq _ _ _ _) (by simp only [a4, a5, a6, a7])).trans (result3 m c).symm

end Cert.GatingStep

end
-- ==== Proof.LossHead.lean ====
/- The last MLP's second product with the final norm and the loss: what the kernel's row blocks hold, and the sums over the rows that it accumulates block by block,
the loss among them, are the reference's loss and gradients. -/
module

public import proofs.«01_k».proof.Proof.Gen.Kernel25Ideal.Value
public import proofs.«01_k».proof.Proof.Gen.Reference25Ideal.Read
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Defs
public import proofs.«01_k».proof.Proof.NormRow
public import proofs.«01_k».proof.Proof.RowStores

@[expose] public section

set_option maxRecDepth 16384

noncomputable section

open Idealize.ShloMosaic Idealize.ShloMosaic.TcCoe Idealize.SL.Sem
open Idealize.ShloMosaic.Pipeline (Dat)
open scoped BigOperators

namespace Cert.LossHead

open Cert.Kernel25Ideal Cert.Kernel25Ideal.Gen
open Cert.Reference25Ideal.Read

/-! ## The loss's constants -/

/-- One half. -/
theorem half_eq : Ideal.ofBits .f32 0x3F000000#32 = ((1 / 2 : ℝ) : EReal) := by
  simp [Ideal.ofBits, Ideal.ieee, -EReal.coe_mul]; norm_num

/-- Two. -/
theorem two_eq : Ideal.ofBits .f32 0x40000000#32 = ((2 : ℝ) : EReal) := by
  simp [Ideal.ofBits, Ideal.ieee, -EReal.coe_mul]; norm_num

/-- One over the row's length. -/
theorem inverse_length_eq : Ideal.ofBits .f32 0x3A800000#32 = ((1 / 1024 : ℝ) : EReal) := by
  simp [Ideal.ofBits, Ideal.ieee, -EReal.coe_mul]; norm_num

/-- The derivative of half the mean of squares, as the kernel and as differentiation write it. -/
theorem cotangent (x : EReal) : x * Ideal.ofBits .f32 0x3A800000#32
    = Ideal.div (Ideal.ofBits .f32 0x3F000000#32 * 1) (Ideal.ofBits .f32 0x44800000#32) * (Ideal.ofBits .f32 0x40000000#32 * x) := by
  rw [inverse_length_eq, half_eq, two_eq, NormRow.length_eq, Ideal.div_coe (by norm_num), mul_one, ← mul_assoc, ← EReal.coe_mul, ← EReal.coe_mul, mul_comm x]
  congr 2
  norm_num

/-! ## What a grid point reads -/

variable (m : (ℓ : Loc nD τ sig) → Buf (Elt Ideal) ℓ)

/-- Which block of each array grid point `t` works on: the `t`-th of eight row blocks, or the whole of a weight. -/
theorem blocks : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

/-- The row of the arrays that row `r` of block `t` is. -/
def row (t : Fin cfg0.N) (r : Fin 512) : Fin 4096 := ⟨t.val * 512 + r.val, by have := lt_of_lt_of_eq t.isLt N_0; have := r.isLt; omega⟩

/-- The operand the kernel prepares before its call: `relu(a)`. -/
theorem relu_entry (c : Dev nD) (i : S4096x4096.Idx) : V m c main_v2 i = max (show EReal from (m (c.tc.loc main_arg0)) i) 0 := by
  entry_read
  pointwise

/-- And the final norm's gain as a row. -/
theorem gain_entry (c : Dev nD) (k : Fin 1024) : V m c main_v3 (ix2 0 k) = (m (c.tc.loc main_arg5)) (ix1 k) := by
  entry_read
  pointwise

/-- A row of the product's left operand. -/
theorem read0 (c : Dev nD) (t : Fin cfg0.N) (r : Fin 512) (k : Fin 4096) :
    (show FVec Ideal S512x4096 .bf16 from iblk m c 0 t) (ix2 r k) = max (show EReal from (m (c.tc.loc main_arg0)) (ix2 (row t r) k)) 0 := by
  refine Eq.trans ?_ (relu_entry m c (ix2 (row t r) k))
  blk_point [iblk, blocks t, row]

/-- The product's right operand, whole. -/
theorem read1 (c : Dev nD) (t : Fin cfg0.N) (k : Fin 4096) (j : Fin 1024) :
    (show FVec Ideal S4096x1024 .bf16 from iblk m c 1 t) (ix2 k j) = (m (c.tc.loc main_arg1)) (ix2 k j) := by
  blk_point [iblk, V, blocks t]

/-- A row of what the residual adds to. -/
theorem read2 (c : Dev nD) (t : Fin cfg0.N) (r : Fin 512) (j : Fin 1024) :
    (show FVec Ideal S512x1024 .f32 from iblk m c 2 t) (ix2 r j) = (m (c.tc.loc main_arg2)) (ix2 (row t r) j) := by
  blk_point [iblk, V, blocks t, row]

/-- The gate. -/
theorem read3 (c : Dev nD) (t : Fin cfg0.N) (j : Fin 1024) :
    (show FVec Ideal S1x1024 .f32 from iblk m c 3 t) (ix2 0 j) = (m (c.tc.loc main_arg3)) (ix2 0 j) := by
  blk_point [iblk, V, blocks t]

/-- A row of the targets. -/
theorem read4 (c : Dev nD) (t : Fin cfg0.N) (r : Fin 512) (j : Fin 1024) :
    (show FVec Ideal S512x1024 .f32 from iblk m c 4 t) (ix2 r j) = (m (c.tc.loc main_arg4)) (ix2 (row t r) j) := by
  blk_point [iblk, V, blocks t, row]

/-- The final norm's gain. -/
theorem read5 (c : Dev nD) (t : Fin cfg0.N) (j : Fin 1024) :
    (show FVec Ideal S1x1024 .f32 from iblk m c 5 t) (ix2 0 j) = (m (c.tc.loc main_arg5)) (ix1 j) := by
  refine Eq.trans ?_ (gain_entry m c j)
  blk_point [iblk, blocks t]

/-! ## What a grid point computes -/

/-- The product in a row block is the reference's at its rows. -/
theorem product_block (c : Dev nD) (t : Fin cfg0.N) (r : Fin 512) (j : Fin 1024) :
    k0_pay2 (F := Ideal) (iblk m c 0 t) (iblk m c 1 t) (ix2 r j) = val_main_v3 (F := Ideal) (m (c.tc.loc main_arg0)) (m (c.tc.loc main_arg1)) (ix2 (row t r) j) := by
  have h0 := read0 m c t r
  have h1 := fun k => read1 m c t k j
  dsimp only at h0 h1
  pointwise [k0_pay2, val_main_call0_cst, val_main_call0_v0, val_main_v0, val_main_v1, val_main_v2, val_main_v3]
  simp only [h0, h1]

/-- The residual's sum. -/
theorem residual_block (c : Dev nD) (t : Fin cfg0.N) (r : Fin 512) (j : Fin 1024) :
    k0_pay4 (F := Ideal) (iblk m c 0 t) (iblk m c 1 t) (iblk m c 2 t) (iblk m c 3 t) (ix2 r j) = val_main_v6 (F := Ideal) (m (c.tc.loc main_arg0)) (m (c.tc.loc main_arg1)) (m (c.tc.loc main_arg2)) (m (c.tc.loc main_arg3)) (ix2 (row t r) j) := by
  refine Eq.trans ?_ (Eq.trans (congrArg₂ (fun a b : EReal => a + b) (read2 m c t r j) (congrArg₂ (fun a b : EReal => a * b) (read3 m c t j) (product_block m c t r j))) ?_)
  · pointwise [k0_pay4]
  · pointwise [val_main_v4, val_main_v5, val_main_v6]

/-- A row's reciprocal root. -/
theorem root_block (c : Dev nD) (t : Fin cfg0.N) (r : Fin 512) :
    k0_pay5 (F := Ideal) (iblk m c 0 t) (iblk m c 1 t) (iblk m c 2 t) (iblk m c 3 t) (ix2 r 0) = val_main_v14 (F := Ideal) (m (c.tc.loc main_arg0)) (m (c.tc.loc main_arg1)) (m (c.tc.loc main_arg2)) (m (c.tc.loc main_arg3)) (ix2 (row t r) 0) := by
  have h := residual_block m c t r
  pointwise [k0_pay5, val_main_v7, val_main_v8, val_main_v9, val_main_v10, val_main_v11, val_main_v12, val_main_v13, val_main_v14, val_main_cst, val_main_cst_0, val_main_cst_1]
  simp only [h]

/-- A normalised row. -/
theorem normed_block (c : Dev nD) (t : Fin cfg0.N) (r : Fin 512) (j : Fin 1024) :
    k0_pay6 (F := Ideal) (iblk m c 0 t) (iblk m c 1 t) (iblk m c 2 t) (iblk m c 3 t) (ix2 r j) = val_main_v19 (F := Ideal) (m (c.tc.loc main_arg0)) (m (c.tc.loc main_arg1)) (m (c.tc.loc main_arg2)) (m (c.tc.loc main_arg3)) (ix2 (row t r) j) := by
  refine Eq.trans ?_ (Eq.trans (congrArg₂ (fun a b : EReal => a * b) (residual_block m c t r j) (root_block m c t r)) ?_)
  · pointwise [k0_pay6]
  · pointwise [val_main_v19, val_main_v18]

/-- The error against the targets. -/
theorem error_block (c : Dev nD) (t : Fin cfg0.N) (r : Fin 512) (j : Fin 1024) :
    k0_pay7 (F := Ideal) (iblk m c 0 t) (iblk m c 1 t) (iblk m c 2 t) (iblk m c 3 t) (iblk m c 4 t) (iblk m c 5 t) (ix2 r j) = val_main_v23 (F := Ideal) (m (c.tc.loc main_arg0)) (m (c.tc.loc main_arg1)) (m (c.tc.loc main_arg2)) (m (c.tc.loc main_arg3)) (m (c.tc.loc main_arg4)) (m (c.tc.loc main_arg5)) (ix2 (row t r) j) := by
  refine Eq.trans ?_ (Eq.trans (congrArg₂ (fun a b : EReal => a - b) (congrArg₂ (fun a b : EReal => a * b) (normed_block m c t r j) (read5 m c t j)) (read4 m c t r j)) ?_)
  · pointwise [k0_pay7, k0_pay3]
  · pointwise [val_main_v20, val_main_v21, val_main_v22, val_main_v23]

/-- The derivative of the loss by the normed output. -/
theorem cotangent_block (c : Dev nD) (t : Fin cfg0.N) (r : Fin 512) (j : Fin 1024) :
    k0_pay9 (F := Ideal) (k0_pay7 (F := Ideal) (iblk m c 0 t) (iblk m c 1 t) (iblk m c 2 t) (iblk m c 3 t) (iblk m c 4 t) (iblk m c 5 t)) (ix2 r j) = val_main_v37 (F := Ideal) (m (c.tc.loc main_arg0)) (m (c.tc.loc main_arg1)) (m (c.tc.loc main_arg2)) (m (c.tc.loc main_arg3)) (m (c.tc.loc main_arg4)) (m (c.tc.loc main_arg5)) (ix2 (row t r) j) := by
  refine Eq.trans ?_ (Eq.trans (congrArg (fun a : EReal => a * Ideal.ofBits .f32 0x3A800000#32) (error_block m c t r j)) ((cotangent _).trans ?_))
  · pointwise [k0_pay9]
  · pointwise [val_main_v25, val_main_v26, val_main_v32, val_main_v33, val_main_v34, val_main_v35, val_main_v36, val_main_v37, val_main_cst_3, val_main_cst_8, val_main_cst_9, val_main_cst_10]

/-- The same, times the final norm's gain: the derivative by the normalised row. -/
theorem gained_block (c : Dev nD) (t : Fin cfg0.N) (r : Fin 512) (j : Fin 1024) :
    k0_pay9 (F := Ideal) (k0_pay7 (F := Ideal) (iblk m c 0 t) (iblk m c 1 t) (iblk m c 2 t) (iblk m c 3 t) (iblk m c 4 t) (iblk m c 5 t)) (ix2 r j) * (k0_pay3 (F := Ideal) (iblk m c 5 t)) (ix2 0 j) = val_main_v42 (F := Ideal) (m (c.tc.loc main_arg0)) (m (c.tc.loc main_arg1)) (m (c.tc.loc main_arg2)) (m (c.tc.loc main_arg3)) (m (c.tc.loc main_arg4)) (m (c.tc.loc main_arg5)) (ix2 (row t r) j) := by
  refine Eq.trans (congrArg₂ (fun a b : EReal => a * b) (cotangent_block m c t r j) (Eq.trans ?_ (read5 m c t j))) ?_
  · pointwise [k0_pay3]
  · pointwise [val_main_v20, val_main_v41, val_main_v42]

/-- The derivative by the last norm's input. -/
theorem input_block (c : Dev nD) (t : Fin cfg0.N) (r : Fin 512) (j : Fin 1024) :
    k0_pay10 (F := Ideal) (k0_pay3 (F := Ideal) (iblk m c 5 t)) (k0_pay5 (F := Ideal) (iblk m c 0 t) (iblk m c 1 t) (iblk m c 2 t) (iblk m c 3 t)) (k0_pay6 (F := Ideal) (iblk m c 0 t) (iblk m c 1 t) (iblk m c 2 t) (iblk m c 3 t)) (k0_pay7 (F := Ideal) (iblk m c 0 t) (iblk m c 1 t) (iblk m c 2 t) (iblk m c 3 t) (iblk m c 4 t) (iblk m c 5 t)) (ix2 r j) = val_main_v57 (F := Ideal) (m (c.tc.loc main_arg0)) (m (c.tc.loc main_arg1)) (m (c.tc.loc main_arg2)) (m (c.tc.loc main_arg3)) (m (c.tc.loc main_arg4)) (m (c.tc.loc main_arg5)) (ix2 (row t r) j) := by
  have hg := gained_block m c t r
  have hn := normed_block m c t r
  have hr := root_block m c t r
  have p : ∀ (a : FVec Ideal S1x1024 .f32) (b : FVec Ideal S512x1 .f32) (x e : FVec Ideal S512x1024 .f32), k0_pay10 (F := Ideal) a b x e (ix2 r j)
      = b (ix2 r 0) * (k0_pay9 (F := Ideal) e (ix2 r j) * a (ix2 0 j) - x (ix2 r j) * Ideal.div (∑ l : Fin 1024, k0_pay9 (F := Ideal) e (ix2 r l) * a (ix2 0 l) * x (ix2 r l)) (Ideal.ofBits .f32 0x44800000#32)) := fun a b x e => by
    pointwise [k0_pay10]
  have hx : ∀ l : Fin 1024, val_main_v19 (F := Ideal) (m (c.tc.loc main_arg0)) (m (c.tc.loc main_arg1)) (m (c.tc.loc main_arg2)) (m (c.tc.loc main_arg3)) (ix2 (row t r) l) = val_main_v6 (F := Ideal) (m (c.tc.loc main_arg0)) (m (c.tc.loc main_arg1)) (m (c.tc.loc main_arg2)) (m (c.tc.loc main_arg3)) (ix2 (row t r) l) * val_main_v14 (F := Ideal) (m (c.tc.loc main_arg0)) (m (c.tc.loc main_arg1)) (m (c.tc.loc main_arg2)) (m (c.tc.loc main_arg3)) (ix2 (row t r) 0) := fun l => by
    pointwise [val_main_v19, val_main_v18]
  have hv : val_main_v14 (F := Ideal) (m (c.tc.loc main_arg0)) (m (c.tc.loc main_arg1)) (m (c.tc.loc main_arg2)) (m (c.tc.loc main_arg3)) (ix2 (row t r) 0)
      = Ideal.rsqrt (Ideal.div (∑ k : Fin 1024, val_main_v6 (F := Ideal) (m (c.tc.loc main_arg0)) (m (c.tc.loc main_arg1)) (m (c.tc.loc main_arg2)) (m (c.tc.loc main_arg3)) (ix2 (row t r) k) * val_main_v6 (F := Ideal) (m (c.tc.loc main_arg0)) (m (c.tc.loc main_arg1)) (m (c.tc.loc main_arg2)) (m (c.tc.loc main_arg3)) (ix2 (row t r) k)) (Ideal.ofBits .f32 0x44800000#32) + Ideal.ofBits .f32 0x358637BD#32) := by
    pointwise [val_main_v7, val_main_v8, val_main_v9, val_main_v10, val_main_v11, val_main_v12, val_main_v13, val_main_v14, val_main_cst, val_main_cst_0, val_main_cst_1]
  rw [p]
  simp only [hg, hn, hr, hx]
  rw [hv]
  refine (add_zero _).symm.trans ((NormRow.row_grad (fun k => val_main_v6 (F := Ideal) (m (c.tc.loc main_arg0)) (m (c.tc.loc main_arg1)) (m (c.tc.loc main_arg2)) (m (c.tc.loc main_arg3)) (ix2 (row t r) k)) (fun k => val_main_v42 (F := Ideal) (m (c.tc.loc main_arg0)) (m (c.tc.loc main_arg1)) (m (c.tc.loc main_arg2)) (m (c.tc.loc main_arg3)) (m (c.tc.loc main_arg4)) (m (c.tc.loc main_arg5)) (ix2 (row t r) k)) _ 0
    (NormRow.variance_pos fun k => val_main_v6 (F := Ideal) (m (c.tc.loc main_arg0)) (m (c.tc.loc main_arg1)) (m (c.tc.loc main_arg2)) (m (c.tc.loc main_arg3)) (ix2 (row t r) k)) j).trans ?_)
  rw [zero_add]
  symm
  pointwise [val_main_v7, val_main_v8, val_main_v9, val_main_v10, val_main_v11, val_main_v12, val_main_v13, val_main_v14, val_main_v15, val_main_v16, val_main_v17, val_main_v18, val_main_v43, val_main_v44, val_main_v45, val_main_v46, val_main_v47, val_main_v48, val_main_v49, val_main_v50, val_main_v51, val_main_v52, val_main_v53, val_main_v54, val_main_v55, val_main_v56, val_main_v57, val_main_cst, val_main_cst_0, val_main_cst_1, val_main_cst_2, val_main_cst_12, val_main_cst_13, val_main_cst_14, val_main_cst_15]
  simp only [Fin.sum_univ_one]

/-! ## The two gradients with one row per token -/

/-- The first result, the gradient of the residual, is the reference's. -/
theorem result0 (c : Dev nD) : (dats m 0 c).arrAt 6 (cfgs 0).N = val_main_v57 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 6 _ (by decide +kernel) fun t hf y => ?_
  blk_simp
  rw [after0_6]
  have e : ∀ (r : Fin 512) (j : Fin 1024), ((View.whole main_v4_0).slice (win0_6.rect t)).emb (ix2 r j) = ix2 (row t r) j := fun r j => by blk_ext [blocks t, row]
  idx_vars y
  by_cases h : t.val % 8 = 0
  · rw [outsAt0_A m c t h]
    frame_out
    rw [e]
    exact input_block m c t y0 y1
  · rw [outsAt0_B m c t h]
    frame_out
    rw [e]
    exact input_block m c t y0 y1

/-- The second result, the gradient of the product, is the reference's. -/
theorem result1 (c : Dev nD) : (dats m 0 c).arrAt 7 (cfgs 0).N = val_main_v63 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 7 _ (by decide +kernel) fun t hf y => ?_
  blk_simp
  rw [after0_7]
  have e : ∀ (r : Fin 512) (j : Fin 1024), ((View.whole main_v4_1).slice (win0_7.rect t)).emb (ix2 r j) = ix2 (row t r) j := fun r j => by blk_ext [blocks t, row]
  have p : ∀ (r : Fin 512) (j : Fin 1024), k0_pay12 (F := Ideal) (iblk m c 3 t) (k0_pay3 (F := Ideal) (iblk m c 5 t)) (k0_pay5 (F := Ideal) (iblk m c 0 t) (iblk m c 1 t) (iblk m c 2 t) (iblk m c 3 t)) (k0_pay6 (F := Ideal) (iblk m c 0 t) (iblk m c 1 t) (iblk m c 2 t) (iblk m c 3 t)) (k0_pay7 (F := Ideal) (iblk m c 0 t) (iblk m c 1 t) (iblk m c 2 t) (iblk m c 3 t) (iblk m c 4 t) (iblk m c 5 t)) (ix2 r j) = val_main_v63 (F := Ideal) (m (c.tc.loc main_arg0)) (m (c.tc.loc main_arg1)) (m (c.tc.loc main_arg2)) (m (c.tc.loc main_arg3)) (m (c.tc.loc main_arg4)) (m (c.tc.loc main_arg5)) (ix2 (row t r) j) := fun r j => by
    refine Eq.trans ?_ (Eq.trans (congrArg₂ (fun a b : EReal => a * b) (input_block m c t r j) (read3 m c t j)) ?_)
    · pointwise [k0_pay12]
    · pointwise [val_main_v58, val_main_v59, val_main_v63]
      exact mul_comm _ _
  idx_vars y
  by_cases h : t.val % 8 = 0
  · rw [outsAt0_A m c t h]
    frame_out
    rw [e]
    exact p y0 y1
  · rw [outsAt0_B m c t h]
    frame_out
    rw [e]
    exact p y0 y1

/-! ## The sums over the tokens -/

/-- What token `s` adds to entry `j` of row `k` of the third result: row 0 gathers the loss, row 1 the gradient of the final norm's gain, row 2 of the residual's gate. -/
def share (X0 : (⟨S4096x4096, .f32⟩ : BufTy).Contents (Elt Ideal)) (X1 : (⟨S4096x1024, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (X5 : (⟨S1024, .f32⟩ : BufTy).Contents (Elt Ideal)) (k : Fin 8) (j : Fin 1024) (s : Fin 4096) : EReal :=
  if k.val = 2 then val_main_v57 (F := Ideal) X0 X1 X2 X3 X4 X5 (ix2 s j) * val_main_v3 (F := Ideal) X0 X1 (ix2 s j)
  else if k.val = 1 then val_main_v37 (F := Ideal) X0 X1 X2 X3 X4 X5 (ix2 s j) * val_main_v19 (F := Ideal) X0 X1 X2 X3 (ix2 s j)
  else if k.val = 0 then ((1 / 2 : ℝ) : EReal) * val_main_v29 (F := Ideal) X0 X1 X2 X3 X4 X5 (ix1 s) else 0

/-- The third result of the reference is the sum of the tokens' shares. -/
theorem ref_sums (X0 : (⟨S4096x4096, .f32⟩ : BufTy).Contents (Elt Ideal)) (X1 : (⟨S4096x1024, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (X5 : (⟨S1024, .f32⟩ : BufTy).Contents (Elt Ideal)) (k : Fin 8) (j : Fin 1024) :
    val_main_v67 (F := Ideal) X0 X1 X2 X3 X4 X5 (ix2 k j) = ∑ s : Fin 4096, share X0 X1 X2 X3 X4 X5 k j s := by
  have hk := k.isLt
  unfold share
  pointwise [val_main_v67, val_main_v66, val_main_v65, val_main_v64, val_main_v62, val_main_v61, val_main_v60, val_main_v43, val_main_v40, val_main_v39, val_main_v38, val_main_v31, val_main_v30, val_main_cst_6, val_main_cst_7, val_main_cst_11, val_main_cst_12, val_main_cst_16, val_main_cst_17]
  rcases (by omega : k.val = 0 ∨ k.val = 1 ∨ k.val = 2 ∨ 2 < k.val) with h | h | h | h
  · have q := NormRow.mul_sum_real (1 / 2) (by norm_num) fun s : Fin 4096 => val_main_v29 (F := Ideal) X0 X1 X2 X3 X4 X5 (ix1 s)
    simpa [h, half_eq] using q
  · simp [h, mul_comm]
  · simp [h]
  · simp [show ¬ k.val < 1 by omega, show ¬ k.val - 1 < 1 by omega, show ¬ k.val - 1 - 1 < 1 by omega, show k.val ≠ 0 by omega, show k.val ≠ 1 by omega, show k.val ≠ 2 by omega]

/-- What a block adds to the loss, on top of what is there. -/
theorem loss_block (c : Dev nD) (t : Fin cfg0.N) (w : Vec Ideal S1x1024 .f32) (j : Fin 1024) :
    k0_pay14 (F := Ideal) (k0_pay8 (F := Ideal) (iblk m c 0 t) (iblk m c 1 t) (iblk m c 2 t) (iblk m c 3 t) (iblk m c 4 t) (iblk m c 5 t)) (Scalar.ofBits .f32 0x3F000000#32) w (ix2 0 j)
      = w (ix2 0 j) + ∑ r : Fin 512, ((1 / 2 : ℝ) : EReal) * val_main_v29 (F := Ideal) (m (c.tc.loc main_arg0)) (m (c.tc.loc main_arg1)) (m (c.tc.loc main_arg2)) (m (c.tc.loc main_arg3)) (m (c.tc.loc main_arg4)) (m (c.tc.loc main_arg5)) (ix1 (row t r)) := by
  have h := error_block m c t
  rw [← NormRow.mul_sum_real (1 / 2) (by norm_num), ← half_eq]
  pointwise [k0_pay14, k0_pay8, val_main_v29, val_main_v28, val_main_v27, val_main_v24, val_main_cst_4, val_main_cst_5]
  simp only [h, Fin.sum_univ_one]

/-- What a block adds to the gradient of the final norm's gain, on top of what is there. -/
theorem gain_block (c : Dev nD) (t : Fin cfg0.N) (w : Vec Ideal S1x1024 .f32) (j : Fin 1024) :
    k0_pay15 (F := Ideal) (k0_pay6 (F := Ideal) (iblk m c 0 t) (iblk m c 1 t) (iblk m c 2 t) (iblk m c 3 t)) (k0_pay7 (F := Ideal) (iblk m c 0 t) (iblk m c 1 t) (iblk m c 2 t) (iblk m c 3 t) (iblk m c 4 t) (iblk m c 5 t)) w (ix2 0 j)
      = w (ix2 0 j) + ∑ r : Fin 512, val_main_v37 (F := Ideal) (m (c.tc.loc main_arg0)) (m (c.tc.loc main_arg1)) (m (c.tc.loc main_arg2)) (m (c.tc.loc main_arg3)) (m (c.tc.loc main_arg4)) (m (c.tc.loc main_arg5)) (ix2 (row t r) j) * val_main_v19 (F := Ideal) (m (c.tc.loc main_arg0)) (m (c.tc.loc main_arg1)) (m (c.tc.loc main_arg2)) (m (c.tc.loc main_arg3)) (ix2 (row t r) j) := by
  refine Eq.trans ?_ (congrArg (fun a : EReal => (show EReal from w (ix2 0 j)) + a) (Finset.sum_congr rfl fun r _ => congrArg₂ (fun a b : EReal => a * b) (cotangent_block m c t r j) (normed_block m c t r j)))
  pointwise [k0_pay15]

/-- What a block adds to the gradient of the residual's gate, on top of what is there. -/
theorem gate_block (c : Dev nD) (t : Fin cfg0.N) (w : Vec Ideal S1x1024 .f32) (j : Fin 1024) :
    k0_pay1 (F := Ideal) (k0_pay11 (F := Ideal) (k0_pay2 (F := Ideal) (iblk m c 0 t) (iblk m c 1 t)) (k0_pay3 (F := Ideal) (iblk m c 5 t)) (k0_pay5 (F := Ideal) (iblk m c 0 t) (iblk m c 1 t) (iblk m c 2 t) (iblk m c 3 t)) (k0_pay6 (F := Ideal) (iblk m c 0 t) (iblk m c 1 t) (iblk m c 2 t) (iblk m c 3 t)) (k0_pay7 (F := Ideal) (iblk m c 0 t) (iblk m c 1 t) (iblk m c 2 t) (iblk m c 3 t) (iblk m c 4 t) (iblk m c 5 t))) w (ix2 0 j)
      = w (ix2 0 j) + ∑ r : Fin 512, val_main_v57 (F := Ideal) (m (c.tc.loc main_arg0)) (m (c.tc.loc main_arg1)) (m (c.tc.loc main_arg2)) (m (c.tc.loc main_arg3)) (m (c.tc.loc main_arg4)) (m (c.tc.loc main_arg5)) (ix2 (row t r) j) * val_main_v3 (F := Ideal) (m (c.tc.loc main_arg0)) (m (c.tc.loc main_arg1)) (ix2 (row t r) j) := by
  refine Eq.trans ?_ (congrArg (fun a : EReal => (show EReal from w (ix2 0 j)) + a) (Finset.sum_congr rfl fun r _ => congrArg₂ (fun a b : EReal => a * b) (input_block m c t r j) (product_block m c t r j)))
  pointwise [k0_pay1, k0_pay11]

/-- One grid point's step: three of the eight rows gain the sums over its rows, the others stay. -/
theorem step_rows (c : Dev nD) (t : Fin cfg0.N) (w2 w1 w0 : Vec Ideal S1x1024 .f32) (z b : EReal) (k : Fin 8) (j : Fin 1024)
    (h2 : k.val = 2 → w2 (ix2 0 j) = b) (h1 : k.val = 1 → w1 (ix2 0 j) = b) (h0 : k.val = 0 → w0 (ix2 0 j) = b) (hz : z = b) :
    (if k.val = 2 then k0_pay1 (F := Ideal) (k0_pay11 (F := Ideal) (k0_pay2 (F := Ideal) (iblk m c 0 t) (iblk m c 1 t)) (k0_pay3 (F := Ideal) (iblk m c 5 t)) (k0_pay5 (F := Ideal) (iblk m c 0 t) (iblk m c 1 t) (iblk m c 2 t) (iblk m c 3 t)) (k0_pay6 (F := Ideal) (iblk m c 0 t) (iblk m c 1 t) (iblk m c 2 t) (iblk m c 3 t)) (k0_pay7 (F := Ideal) (iblk m c 0 t) (iblk m c 1 t) (iblk m c 2 t) (iblk m c 3 t) (iblk m c 4 t) (iblk m c 5 t))) w2 (ix2 0 j)
      else if k.val = 1 then k0_pay15 (F := Ideal) (k0_pay6 (F := Ideal) (iblk m c 0 t) (iblk m c 1 t) (iblk m c 2 t) (iblk m c 3 t)) (k0_pay7 (F := Ideal) (iblk m c 0 t) (iblk m c 1 t) (iblk m c 2 t) (iblk m c 3 t) (iblk m c 4 t) (iblk m c 5 t)) w1 (ix2 0 j)
      else if k.val = 0 then k0_pay14 (F := Ideal) (k0_pay8 (F := Ideal) (iblk m c 0 t) (iblk m c 1 t) (iblk m c 2 t) (iblk m c 3 t) (iblk m c 4 t) (iblk m c 5 t)) (Scalar.ofBits .f32 0x3F000000#32) w0 (ix2 0 j) else z)
      = b + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  unfold share
  by_cases e2 : k.val = 2
  · simp only [e2, ↓reduceIte]
    rw [gate_block, h2 e2]
  by_cases e1 : k.val = 1
  · simp only [e1, ↓reduceIte, OfNat.one_ne_ofNat]
    rw [gain_block, h1 e1]
  by_cases e0 : k.val = 0
  · simp only [e0, ↓reduceIte, OfNat.zero_ne_ofNat, zero_ne_one]
    rw [loss_block, h0 e0]
  · simp only [e2, e1, e0, ↓reduceIte, Finset.sum_const_zero, add_zero]
    exact hz

/-- The first grid point starts from zeros. -/
theorem step_first (c : Dev nD) (t : Fin cfg0.N) (h : t.val % 8 = 0) (k : Fin 8) (j : Fin 1024) :
    (outsAt0 m c t.val t.isLt).2.2 (ix2 k j) = (0 : EReal) + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  rw [outsAt0_A m c t h]
  frame_out
  simp (discharger := decide) only [↓View.readCov_skip, ↓View.readCov_fill]
  rw [RowStores.canon_row, RowStores.canon_row, RowStores.canon_row]
  have z : ∀ i, k0_pay13 (F := Ideal) i = (0 : EReal) := fun i => by pointwise [k0_pay13]
  refine step_rows m c t _ _ _ _ _ k j (fun e => (RowStores.ld_row 2 _ _ k j e).trans (z _)) (fun e => (RowStores.ld_row 1 _ _ k j e).trans (z _))
    (fun e => (RowStores.ld_row 0 _ _ k j e).trans (z _)) ?_
  canon_tiles x h
  exact z _

/-- Each later grid point adds to what the one before it left. -/
theorem step_next (c : Dev nD) (t : Fin cfg0.N) (h : ¬ t.val % 8 = 0) (k : Fin 8) (j : Fin 1024) :
    (outsAt0 m c t.val t.isLt).2.2 (ix2 k j)
      = (outsAt0 m c (t.val - 1) (Nat.lt_of_le_of_lt (Nat.sub_le _ _) t.isLt)).2.2 (ix2 k j) + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  rw [outsAt0_B m c t h]
  frame_out
  rw [RowStores.read_row, RowStores.read_row, RowStores.read_row]
  refine step_rows m c t _ _ _ _ _ k j (fun e => RowStores.ld_row 2 _ _ k j e) (fun e => RowStores.ld_row 1 _ _ k j e)
    (fun e => RowStores.ld_row 0 _ _ k j e) ?_
  rw [View.writes_nil, Memref.IsWhole.read_unread]

/-- The third result, the sums over the tokens with the loss in its first row, is the reference's. -/
theorem result2 (c : Dev nD) : (dats m 0 c).arrAt 8 (cfgs 0).N = val_main_v67 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 8 t0_7 (by decide +kernel) _ fun y => ?_
  blk_simp
  idx_vars y
  rw [ref_sums, after0_8]
  refine (Pipeline.eq_sum_fin_of_reset_step_apply_last (M := EReal) (fun n h => (outsAt0 m c n h).2.2) 8 (fun _ => 0)
    (fun p i => ∑ r : Fin 512, share (m (c.tc.loc main_arg0)) (m (c.tc.loc main_arg1)) (m (c.tc.loc main_arg2)) (m (c.tc.loc main_arg3)) (m (c.tc.loc main_arg4)) (m (c.tc.loc main_arg5)) (i 0) (i 1) (row p r))
    (fun t h i => by rw [eq_ix2 i]; exact step_first m c t h (i 0) (i 1)) (fun t h i => by rw [eq_ix2 i]; exact step_next m c t h (i 0) (i 1))
    (le_of_eq N_0) t0_7 rfl (ix2 y0 y1)).trans ?_
  rw [zero_add]
  refine Fin.sum_mul_add_congr fun p r h => ?_
  rfl

/-- The call's three results over the extended reals are the reference's, whatever the arguments. -/
theorem algebraic : Cert.algebraic_Kernel25Ideal_Reference25Ideal := by
  pair_intro
  · run_from Cert.Kernel25Ideal.Gen.run_main m g
    all_goals
      simp only [List.flatten_cons, List.flatten_nil, List.append_nil]
      after_reads_simp
      try rfl
  · run_from Cert.Reference25Ideal.Value.run m' g'
    all_goals obtain ⟨a0, a1, a2, a3, a4, a5⟩ := hagree c
    · rw [val_main_v57_eq, a0, a1, a2, a3, a4, a5]
      exact (result0 m c).symm
    · rw [val_main_v63_eq, a0, a1, a2, a3, a4, a5]
      exact (result1 m c).symm
    · rw [val_main_v67_eq, a0, a1, a2, a3, a4, a5]
      exact (result2 m c).symm

end Cert.LossHead

end
-- ==== Proof.GatingInProduct.lean ====
/- The spatial gating's input product: the tiled product `h · w_in` of the kernel is the reference's, element by element. -/
module

public import proofs.«01_k».proof.Proof.Gen.Kernel26Ideal.Value
public import proofs.«01_k».proof.Proof.Gen.Reference26Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.GatingInProduct

open Cert.Kernel26Ideal Cert.Kernel26Ideal.Gen
open Cert.Reference26Ideal.Read

variable (m : (ℓ : Loc nD τ sig) → Buf (Elt Ideal) ℓ)

/-- Which block of each array grid point `t` works on: a row block of `h`, a column block of `w_in` and one block of the result. -/
theorem blocks : ∀ t : Fin cfg0.N, win0_0.index t = ![t.val / 2, 0] ∧ win0_1.index t = ![0, t.val % 2] ∧ win0_2.index t = ![t.val / 2, t.val % 2] :=
  (by decide +kernel : ∀ t : Fin grid0.N, _)

/-- What the body stores at position `y` of its block is the reference's result at the place of the array where `y` lies. -/
theorem stored (c : Dev nD) (t : Fin cfg0.N) (y) :
    k0_pay1 (iblk m c 0 t) (iblk m c 1 t) y
      = val_main_v2 (F := Ideal) (m (c.tc.loc main_arg0)) (m (c.tc.loc main_arg1)) (((cfg0.win 2).blk t).view.emb y) := by
  pointwise [k0_pay1, val_main_v2, val_main_v1, val_main_v0]
  blk_point [iblk, V, blocks t]

/-- The whole result of the kernel is the reference's. -/
theorem result (c : Dev nD) : (dats m 0 c).arrAt 2 (cfgs 0).N = val_main_v2 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel26Ideal_Reference26Ideal := by
  pair_intro
  · run_from Cert.Kernel26Ideal.Gen.run_main m g
  · run_from Cert.Reference26Ideal.Value.run m' g'
    exact (result m c).symm

end Cert.GatingInProduct

end
-- ==== Proof.StateInProduct.lean ====
/- The state space mixer's input product: the tiled product `h · w_in` of the kernel is the reference's, element by element. -/
module

public import proofs.«01_k».proof.Proof.Gen.Kernel27Ideal.Value
public import proofs.«01_k».proof.Proof.Gen.Reference27Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.StateInProduct

open Cert.Kernel27Ideal Cert.Kernel27Ideal.Gen
open Cert.Reference27Ideal.Read

variable (m : (ℓ : Loc nD τ sig) → Buf (Elt Ideal) ℓ)

/-- Which block of each array grid point `t` works on: a row block of `h` and of the result, and the whole of `w_in`. -/
theorem blocks : ∀ t : Fin cfg0.N, win0_0.index t = ![t.val, 0] ∧ win0_1.index t = ![0, 0] ∧ win0_2.index t = ![t.val, 0] :=
  (by decide +kernel : ∀ t : Fin grid0.N, _)

/-- What the body stores at position `y` of its block is the reference's result at the place of the array where `y` lies. -/
theorem stored (c : Dev nD) (t : Fin cfg0.N) (y) :
    k0_pay1 (iblk m c 0 t) (iblk m c 1 t) y
      = val_main_v2 (F := Ideal) (m (c.tc.loc main_arg0)) (m (c.tc.loc main_arg1)) (((cfg0.win 2).blk t).view.emb y) := by
  pointwise [k0_pay1, val_main_v2, val_main_v1, val_main_v0]
  blk_point [iblk, V, blocks t]

/-- The whole result of the kernel is the reference's. -/
theorem result (c : Dev nD) : (dats m 0 c).arrAt 2 (cfgs 0).N = val_main_v2 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel27Ideal_Reference27Ideal := by
  pair_intro
  · run_from Cert.Kernel27Ideal.Gen.run_main m g
  · run_from Cert.Reference27Ideal.Value.run m' g'
    exact (result m c).symm

end Cert.StateInProduct

end
-- ==== Proof.GateWeightGrad.lean ====
/- The gradient of the weight of the state space mixer's gate: the tiled product `ygᵀ · dt` of the kernel is the reference's gradient, element by element. -/
module

public import proofs.«01_k».proof.Proof.Gen.Kernel28Ideal.Value
public import proofs.«01_k».proof.Proof.Gen.Reference28Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.GateWeightGrad

open Cert.Kernel28Ideal Cert.Kernel28Ideal.Gen
open Cert.Reference28Ideal.Read

variable (m : (ℓ : Loc nD τ sig) → Buf (Elt Ideal) ℓ)

/-- Which block of each array grid point `t` works on: a column block of `yg`, a column block of `dt` and one block of the result. -/
theorem blocks : ∀ t : Fin cfg0.N, win0_0.index t = ![0, t.val / 2] ∧ win0_1.index t = ![0, t.val % 2] ∧ win0_2.index t = ![t.val / 2, t.val % 2] :=
  (by decide +kernel : ∀ t : Fin grid0.N, _)

/-- What the body stores at position `y` of its block is the reference's result at the place of the array where `y` lies. -/
theorem stored (c : Dev nD) (t : Fin cfg0.N) (y) :
    k0_pay1 (iblk m c 0 t) (iblk m c 1 t) y
      = val_main_v5 (F := Ideal) (m (c.tc.loc main_arg0)) (m (c.tc.loc main_arg1)) (((cfg0.win 2).blk t).view.emb y) := by
  pointwise [k0_pay1, val_main_v5, val_main_v4, val_main_v3, val_main_v2, val_main_v1, val_main_v0, val_main_cst]
  refine Eq.trans ?_ (Finset.sum_congr rfl fun k _ => mul_comm (G := EReal) _ _)
  blk_point [iblk, V, blocks t]

/-- The whole result of the kernel is the reference's. -/
theorem result (c : Dev nD) : (dats m 0 c).arrAt 2 (cfgs 0).N = val_main_v5 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel28Ideal_Reference28Ideal := by
  pair_intro
  · run_from Cert.Kernel28Ideal.Gen.run_main m g
  · run_from Cert.Reference28Ideal.Value.run m' g'
    exact (result m c).symm

end Cert.GateWeightGrad

end
-- ==== Proof.GatingInWeightGrad.lean ====
/- The gradient of the spatial gating's input weight: the tiled product `hᵀ · duv` of the kernel is the reference's gradient, element by element. -/
module

public import proofs.«01_k».proof.Proof.Gen.Kernel29Ideal.Value
public import proofs.«01_k».proof.Proof.Gen.Reference29Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.GatingInWeightGrad

open Cert.Kernel29Ideal Cert.Kernel29Ideal.Gen
open Cert.Reference29Ideal.Read

variable (m : (ℓ : Loc nD τ sig) → Buf (Elt Ideal) ℓ)

/-- Which block of each array grid point `t` works on: the whole of `h`, a column block of `duv` and of the result. -/
theorem blocks : ∀ t : Fin cfg0.N, win0_0.index t = ![0, 0] ∧ win0_1.index t = ![0, t.val] ∧ win0_2.index t = ![0, t.val] :=
  (by decide +kernel : ∀ t : Fin grid0.N, _)

/-- What the body stores at position `y` of its block is the reference's result at the place of the array where `y` lies. -/
theorem stored (c : Dev nD) (t : Fin cfg0.N) (y) :
    k0_pay1 (iblk m c 0 t) (iblk m c 1 t) y
      = val_main_v6 (F := Ideal) (m (c.tc.loc main_arg0)) (m (c.tc.loc main_arg1)) (((cfg0.win 2).blk t).view.emb y) := by
  pointwise [k0_pay1, val_main_v6, val_main_v5, val_main_v4, val_main_v3, val_main_v2, val_main_v1, val_main_v0, val_main_cst]
  refine Eq.trans ?_ (Finset.sum_congr rfl fun k _ => mul_comm (G := EReal) _ _)
  blk_point [iblk, V, blocks t]

/-- The whole result of the kernel is the reference's. -/
theorem result (c : Dev nD) : (dats m 0 c).arrAt 2 (cfgs 0).N = val_main_v6 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel29Ideal_Reference29Ideal := by
  pair_intro
  · run_from Cert.Kernel29Ideal.Gen.run_main m g
  · run_from Cert.Reference29Ideal.Value.run m' g'
    exact (result m c).symm

end Cert.GatingInWeightGrad

end
-- ==== Proof.GatingOutGrad.lean ====
/- The gradient of the spatial gating's output product with respect to its input: the tiled product `dy · w_outᵀ` of the kernel is the reference's gradient, element by element. -/
module

public import proofs.«01_k».proof.Proof.Gen.Kernel30Ideal.Value
public import proofs.«01_k».proof.Proof.Gen.Reference30Ideal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.GatingOutGrad

open Cert.Kernel30Ideal Cert.Kernel30Ideal.Gen
open Cert.Reference30Ideal.Read

variable (m : (ℓ : Loc nD τ sig) → Buf (Elt Ideal) ℓ)

/-- Which block of each array grid point `t` works on: a row block of `dy` and of the result, and the whole of `w_out`. -/
theorem blocks : ∀ t : Fin cfg0.N, win0_0.index t = ![t.val, 0] ∧ win0_1.index t = ![0, 0] ∧ win0_2.index t = ![t.val, 0] :=
  (by decide +kernel : ∀ t : Fin grid0.N, _)

/-- What the body stores at position `y` of its block is the reference's result at the place of the array where `y` lies. -/
theorem stored (c : Dev nD) (t : Fin cfg0.N) (y) :
    k0_pay1 (iblk m c 0 t) (iblk m c 1 t) y
      = val_main_v4 (F := Ideal) (m (c.tc.loc main_arg0)) (m (c.tc.loc main_arg1)) (((cfg0.win 2).blk t).view.emb y) := by
  pointwise [k0_pay1, val_main_v4, val_main_v3, val_main_v2, val_main_v1, val_main_v0, val_main_cst]
  blk_point [iblk, V, blocks t]

/-- The whole result of the kernel is the reference's. -/
theorem result (c : Dev nD) : (dats m 0 c).arrAt 2 (cfgs 0).N = val_main_v4 (F := Ideal) (m (c.tc.loc main_arg0)) (m (c.tc.loc main_arg1)) := by
  refine (dats m 0 c).arrAt_eq_of_covers 2 _ (by decide +kernel) fun t hf y => ?_
  blk_simp
  rw [after0_2]
  frame_out
  exact stored m c t y

/-- The kernel and the reference end with equal results over the extended reals. -/
theorem algebraic : Cert.algebraic_Kernel30Ideal_Reference30Ideal := by
  pair_intro
  · run_from Cert.Kernel30Ideal.Gen.run_main m g
  · run_from Cert.Reference30Ideal.Value.run m' g'
    exact (result m c).symm

end Cert.GatingOutGrad

end
-- ==== Proof.ConvInGrad.lean ====
/- The gradient of the last layer's short convolution's input product, of the norm and modulation before it, and of the gated residual before them. The incoming gradient comes as three chunks of columns.
What the kernel's row blocks hold, and the sums over the rows that it accumulates block by block, are the reference's gradients. -/
module

public import proofs.«01_k».proof.Proof.Gen.Kernel31Ideal.Value
public import proofs.«01_k».proof.Proof.Gen.Reference31Ideal.Read
public import Idealize.ShloMosaic.Lib.Pipeline.ValueKit
public import Idealize.ShloMosaic.Lib.Pointwise
public import Idealize.ShloMosaic.Lib.Claim
public import proofs.«01_k».proof.Defs
public import proofs.«01_k».proof.Proof.NormRow
public import proofs.«01_k».proof.Proof.RowStores

@[expose] public section

set_option maxRecDepth 16384

noncomputable section

open Idealize.ShloMosaic Idealize.ShloMosaic.TcCoe Idealize.SL.Sem
open Idealize.ShloMosaic.Pipeline (Dat)
open scoped BigOperators

namespace Cert.ConvInGrad

open Cert.Kernel31Ideal Cert.Kernel31Ideal.Gen
open Cert.Reference31Ideal.Read

/-! ## What the body computes from a row block -/

/-- The reciprocal root of a row. -/
theorem rstd_apply (v : Vec Ideal S512x1024 .f32) (r : Fin 512) :
    k0_pay2 (F := Ideal) v (ix2 r 0) = Ideal.rsqrt (Ideal.div (∑ k : Fin 1024, v (ix2 r k) * v (ix2 r k)) (Ideal.ofBits .f32 0x44800000#32) + Ideal.ofBits .f32 0x358637BD#32) := by
  pointwise [k0_pay2]

/-- A normalised row. -/
theorem normed_apply (v : Vec Ideal S512x1024 .f32) (r : Fin 512) (j : Fin 1024) :
    k0_pay3 (F := Ideal) v (ix2 r j) = v (ix2 r j) * k0_pay2 (F := Ideal) v (ix2 r 0) := by
  pointwise [k0_pay3]

/-- A row of the product, computed from the same data, is the reference's. -/
theorem product_row {v0 v2 v4 : Vec Ideal S1x512x1024 .bf16} {v7 : Vec Ideal S1024x3072 .bf16} (X0 : (⟨S3x4096x1024, .bf16⟩ : BufTy).Contents (Elt Ideal)) (X1 : (⟨S1024x3072, .bf16⟩ : BufTy).Contents (Elt Ideal)) (r : Fin 512) (s : Fin 4096)
    (h0 : ∀ k, v0 (ix3 0 r k) = X0 (ix3 0 s k)) (h2 : ∀ k, v2 (ix3 0 r k) = X0 (ix3 1 s k)) (h4 : ∀ k, v4 (ix3 0 r k) = X0 (ix3 2 s k)) (h7 : ∀ a k, v7 (ix2 a k) = X1 (ix2 a k)) (j : Fin 1024) :
    k0_pay1 (F := Ideal) v0 v2 v4 v7 (ix2 r j) = val_main_v28 (F := Ideal) X0 X1 (ix2 s j) := by
  pointwise [k0_pay1, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_v28]
  simp only [h0, h2, h4, h7]

/-- The gradient that passes through the norm, and the residual's: the kernel's row, computed from the same data, is the reference's. -/
theorem input_grad {v0 v2 v4 : Vec Ideal S1x512x1024 .bf16} {v7 : Vec Ideal S1024x3072 .bf16} {v9 : Vec Ideal S512x1024 .f32} {v10 : Vec Ideal S1x1024 .f32} {v11 : Vec Ideal S512x1024 .f32}
    (X0 : (⟨S3x4096x1024, .bf16⟩ : BufTy).Contents (Elt Ideal)) (X1 : (⟨S1024x3072, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (r : Fin 512) (s : Fin 4096) (j : Fin 1024)
    (h0 : ∀ k, v0 (ix3 0 r k) = X0 (ix3 0 s k)) (h2 : ∀ k, v2 (ix3 0 r k) = X0 (ix3 1 s k)) (h4 : ∀ k, v4 (ix3 0 r k) = X0 (ix3 2 s k)) (h7 : ∀ a k, v7 (ix2 a k) = X1 (ix2 a k)) (h9 : ∀ k, v9 (ix2 r k) = X2 (ix2 s k))
    (h10 : ∀ k, v10 (ix2 0 k) = X3 (ix2 0 k)) (h11 : ∀ k, v11 (ix2 r k) = X4 (ix2 s k)) :
    k0_pay7 (F := Ideal) v11 (k0_pay2 v9) (k0_pay3 v9) (k0_pay4 v0 v2 v4 v7 v10) (k0_pay5 v0 v2 v4 v7 v9 v10) (k0_pay6 (F := Ideal)) (ix2 r j) = val_main_v50 (F := Ideal) X0 X1 X2 X3 X4 (ix2 s j) := by
  have hd := product_row X0 X1 r s h0 h2 h4 h7
  have e : k0_pay7 (F := Ideal) v11 (k0_pay2 v9) (k0_pay3 v9) (k0_pay4 v0 v2 v4 v7 v10) (k0_pay5 v0 v2 v4 v7 v9 v10) (k0_pay6 (F := Ideal)) (ix2 r j)
      = k0_pay2 (F := Ideal) v9 (ix2 r 0) * (k0_pay1 (F := Ideal) v0 v2 v4 v7 (ix2 r j) * v10 (ix2 0 j) - v9 (ix2 r j) * k0_pay2 (F := Ideal) v9 (ix2 r 0)
          * Ideal.div (∑ l : Fin 1024, k0_pay1 (F := Ideal) v0 v2 v4 v7 (ix2 r l) * v10 (ix2 0 l) * (v9 (ix2 r l) * k0_pay2 (F := Ideal) v9 (ix2 r 0))) (Ideal.ofBits .f32 0x44800000#32))
        + v11 (ix2 r j) := by
    pointwise [k0_pay5, k0_pay3, k0_pay7, k0_pay4, k0_pay6]
  rw [e, rstd_apply]
  simp only [hd, h9, h10, h11]
  refine (NormRow.row_grad (fun k => X2 (ix2 s k)) (fun k => val_main_v28 (F := Ideal) X0 X1 (ix2 s k) * X3 (ix2 0 k)) _ (X4 (ix2 s j))
    (NormRow.variance_pos fun k => X2 (ix2 s k)) j).trans ?_
  symm
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_v25, val_main_v26, val_main_v27, val_main_cst_4, val_main_v29, val_main_v30, val_main_v31, val_main_cst_5, val_main_v32, val_main_v33, val_main_v34, val_main_v35, val_main_v36, val_main_cst_6, val_main_v37, val_main_v38, val_main_v39, val_main_v40, val_main_v41, val_main_v42, val_main_cst_7, val_main_v43, val_main_v44, val_main_cst_8, val_main_v45, val_main_v46, val_main_v47, val_main_v48, val_main_v49, val_main_v50, val_main_v51, val_main_v52, val_main_v53, val_main_v54, val_main_v55, val_main_v56, val_main_cst_9, val_main_v57, val_main_v58, val_main_cst_10, val_main_v60]
  simp only [Fin.sum_univ_one]

/-! ## The blocks -/

variable (m : (ℓ : Loc nD τ sig) → Buf (Elt Ideal) ℓ)

/-- Which block of each array grid point `t` works on: the `t`-th of 8 row blocks, or the whole of an array. -/
theorem blocks : ∀ t : Fin cfg0.N, win0_0.index t = ![0, t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0]
    ∧ win0_7.index t = ![t.val, 0]
    ∧ win0_8.index t = ![t.val, 0]
    ∧ win0_9.index t = ![0, 0] :=
  (by decide +kernel : ∀ t : Fin grid0.N, _)

/-- The row of the arrays that row `r` of block `t` is. -/
def row (t : Fin cfg0.N) (r : Fin 512) : Fin 4096 := ⟨t.val * 512 + r.val, by have := lt_of_lt_of_eq t.isLt N_0; have := r.isLt; omega⟩

/-- A row of a chunk of the incoming gradient. -/
theorem read0 (c : Dev nD) (t : Fin cfg0.N) (r : Fin 512) (q : Fin 3) (k : Fin 1024) :
    (show FVec Ideal S3x512x1024 .bf16 from iblk m c 0 t) (ix3 q r k) = (m (c.tc.loc main_arg0)) (ix3 q (row t r) k) := by
  blk_point [iblk, V, blocks t, row]

/-- A row of each chunk, as the body reads it. -/
theorem chunk_row (c : Dev nD) (t : Fin cfg0.N) (r : Fin 512) (k : Fin 1024) :
    (View.ld (iblk m c 0 t) (Rect.unit ![0, 0, 0] ![1, 512, 1024] inb_S3x512x1024_S1x512x1024_0_0_0)) (ix3 0 r k) = (m (c.tc.loc main_arg0)) (ix3 0 (row t r) k)
    ∧ (View.ld (iblk m c 0 t) (Rect.unit ![1, 0, 0] ![1, 512, 1024] inb_S3x512x1024_S1x512x1024_1_0_0)) (ix3 0 r k) = (m (c.tc.loc main_arg0)) (ix3 1 (row t r) k)
    ∧ (View.ld (iblk m c 0 t) (Rect.unit ![2, 0, 0] ![1, 512, 1024] inb_S3x512x1024_S1x512x1024_2_0_0)) (ix3 0 r k) = (m (c.tc.loc main_arg0)) (ix3 2 (row t r) k) := by
  refine ⟨Eq.trans ?_ (read0 m c t r 0 k), Eq.trans ?_ (read0 m c t r 1 k), Eq.trans ?_ (read0 m c t r 2 k)⟩ <;>
    exact View.ld_unit_apply_of _ _ _ _ _ _ (fun a => by fin_cases a <;> simp [ix3])

/-- The weight. -/
theorem read1 (c : Dev nD) (t : Fin cfg0.N) (r : Fin 1024) (k : Fin 3072) :
    (show FVec Ideal S1024x3072 .bf16 from iblk m c 1 t) (ix2 r k) = (m (c.tc.loc main_arg1)) (ix2 r k) := by
  blk_point [iblk, V, blocks t]

/-- A row of the norm's input. -/
theorem read2 (c : Dev nD) (t : Fin cfg0.N) (r : Fin 512) (k : Fin 1024) :
    (show FVec Ideal S512x1024 .f32 from iblk m c 2 t) (ix2 r k) = (m (c.tc.loc main_arg2)) (ix2 (row t r) k) := by
  blk_point [iblk, V, blocks t, row]

/-- The norm's scale. -/
theorem read3 (c : Dev nD) (t : Fin cfg0.N) (k : Fin 1024) :
    (show FVec Ideal S1x1024 .f32 from iblk m c 3 t) (ix2 0 k) = (m (c.tc.loc main_arg3)) (ix2 0 k) := by
  blk_point [iblk, V, blocks t]

/-- A row of the gradient that comes past the norm. -/
theorem read4 (c : Dev nD) (t : Fin cfg0.N) (r : Fin 512) (k : Fin 1024) :
    (show FVec Ideal S512x1024 .f32 from iblk m c 4 t) (ix2 r k) = (m (c.tc.loc main_arg4)) (ix2 (row t r) k) := by
  blk_point [iblk, V, blocks t, row]

/-- A row of the gated branch. -/
theorem read5 (c : Dev nD) (t : Fin cfg0.N) (r : Fin 512) (k : Fin 1024) :
    (show FVec Ideal S512x1024 .bf16 from iblk m c 5 t) (ix2 r k) = (m (c.tc.loc main_arg5)) (ix2 (row t r) k) := by
  blk_point [iblk, V, blocks t, row]

/-- The gate. -/
theorem read6 (c : Dev nD) (t : Fin cfg0.N) (k : Fin 1024) :
    (show FVec Ideal S1x1024 .f32 from iblk m c 6 t) (ix2 0 k) = (m (c.tc.loc main_arg6)) (ix2 0 k) := by
  blk_point [iblk, V, blocks t]

/-- What a grid point computes for the norm's input is the reference's gradient at its rows. -/
theorem input_block (c : Dev nD) (t : Fin cfg0.N) (r : Fin 512) (j : Fin 1024) :
    k0_pay7 (F := Ideal) (iblk m c 4 t) (k0_pay2 (iblk m c 2 t)) (k0_pay3 (iblk m c 2 t)) (k0_pay4 (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (iblk m c 3 t)) (k0_pay5 (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (iblk m c 2 t) (iblk m c 3 t)) (k0_pay6 (F := Ideal)) (ix2 r j)
      = val_main_v50 (F := Ideal) (m (c.tc.loc main_arg0)) (m (c.tc.loc main_arg1)) (m (c.tc.loc main_arg2)) (m (c.tc.loc main_arg3)) (m (c.tc.loc main_arg4)) (ix2 (row t r) j) :=
  input_grad _ _ _ _ _ r (row t r) j (fun k => (chunk_row m c t r k).1) (fun k => (chunk_row m c t r k).2.1) (fun k => (chunk_row m c t r k).2.2) (read1 m c t) (read2 m c t r) (read3 m c t) (read4 m c t r)

/-- A block's product is the reference's product at its rows. -/
theorem product_block (c : Dev nD) (t : Fin cfg0.N) (r : Fin 512) (j : Fin 1024) :
    k0_pay1 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (ix2 r j) = val_main_v28 (F := Ideal) (m (c.tc.loc main_arg0)) (m (c.tc.loc main_arg1)) (ix2 (row t r) j) :=
  product_row _ _ r (row t r) (fun k => (chunk_row m c t r k).1) (fun k => (chunk_row m c t r k).2.1) (fun k => (chunk_row m c t r k).2.2) (read1 m c t) j

/-- A normalised row of a block is the reference's. -/
theorem normed_block (c : Dev nD) (t : Fin cfg0.N) (r : Fin 512) (j : Fin 1024) :
    k0_pay3 (F := Ideal) (iblk m c 2 t) (ix2 r j) = val_main_v21 (F := Ideal) (m (c.tc.loc main_arg2)) (ix2 (row t r) j) := by
  rw [normed_apply, rstd_apply]
  have h := read2 m c t r
  dsimp only at h
  simp only [h]
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21]

/-! ## The gradients with one row per token -/

/-- The first result, the gradient of the norm's input, is the reference's. -/
theorem result0 (c : Dev nD) : (dats m 0 c).arrAt 7 (cfgs 0).N = val_main_v50 (F := Ideal) (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp
  rw [after0_7]
  have e : ∀ (r : Fin 512) (j : Fin 1024), ((View.whole main_v0_0).slice (win0_7.rect t)).emb (ix2 r j) = ix2 (row t r) j := fun r j => by blk_ext [blocks t, row]
  idx_vars y
  by_cases h : t.val % 8 = 0
  · rw [outsAt0_A m c t h]
    frame_out
    rw [e]
    exact input_block m c t y0 y1
  · rw [outsAt0_B m c t h]
    frame_out
    rw [e]
    exact input_block m c t y0 y1

/-- The second result, the gradient of the gated branch, is the reference's. -/
theorem result1 (c : Dev nD) : (dats m 0 c).arrAt 8 (cfgs 0).N = val_main_v59 (F := Ideal) (m (c.tc.loc main_arg0)) (m (c.tc.loc main_arg1)) (m (c.tc.loc main_arg2)) (m (c.tc.loc main_arg3)) (m (c.tc.loc main_arg4)) (m (c.tc.loc main_arg6)) := by
  refine (dats m 0 c).arrAt_eq_of_covers 8 _ (by decide +kernel) fun t hf y => ?_
  blk_simp
  rw [after0_8]
  have e : ∀ (r : Fin 512) (j : Fin 1024), ((View.whole main_v0_1).slice (win0_8.rect t)).emb (ix2 r j) = ix2 (row t r) j := fun r j => by blk_ext [blocks t, row]
  have p : ∀ (r : Fin 512) (j : Fin 1024), k0_pay8 (F := Ideal) (iblk m c 4 t) (iblk m c 6 t) (k0_pay2 (iblk m c 2 t)) (k0_pay3 (iblk m c 2 t)) (k0_pay4 (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (iblk m c 3 t)) (k0_pay5 (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (iblk m c 2 t) (iblk m c 3 t)) (k0_pay6 (F := Ideal)) (ix2 r j)
      = val_main_v59 (F := Ideal) (m (c.tc.loc main_arg0)) (m (c.tc.loc main_arg1)) (m (c.tc.loc main_arg2)) (m (c.tc.loc main_arg3)) (m (c.tc.loc main_arg4)) (m (c.tc.loc main_arg6)) (ix2 (row t r) j) := fun r j => by
    refine Eq.trans ?_ (Eq.trans (congrArg₂ (fun a b : EReal => a * b) (input_block m c t r j) (read6 m c t j)) ?_)
    · pointwise [k0_pay8]
    · pointwise [val_main_v59, val_main_v55, val_main_v54]
      exact mul_comm _ _
  idx_vars y
  by_cases h : t.val % 8 = 0
  · rw [outsAt0_A m c t h]
    frame_out
    rw [e]
    exact p y0 y1
  · rw [outsAt0_B m c t h]
    frame_out
    rw [e]
    exact p y0 y1

/-! ## The sums over the tokens -/

/-- What token `s` adds to entry `j` of row `k` of the third result: row 0 gathers the gradient of the norm's scale, row 1 of its shift, row 2 of the residual's gate. -/
def share (X0 : (⟨S3x4096x1024, .bf16⟩ : BufTy).Contents (Elt Ideal)) (X1 : (⟨S1024x3072, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (X5 : (⟨S4096x1024, .bf16⟩ : BufTy).Contents (Elt Ideal)) (k : Fin 8) (j : Fin 1024) (s : Fin 4096) : EReal :=
  if k.val = 2 then val_main_v50 (F := Ideal) X0 X1 X2 X3 X4 (ix2 s j) * X5 (ix2 s j)
  else if k.val = 1 then val_main_v28 (F := Ideal) X0 X1 (ix2 s j)
  else if k.val = 0 then val_main_v31 (F := Ideal) X0 X1 X2 (ix2 s j) else 0

/-- The third result of the reference is the sum of the tokens' shares. -/
theorem ref_sums (X0 : (⟨S3x4096x1024, .bf16⟩ : BufTy).Contents (Elt Ideal)) (X1 : (⟨S1024x3072, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (X5 : (⟨S4096x1024, .bf16⟩ : BufTy).Contents (Elt Ideal)) (k : Fin 8) (j : Fin 1024) :
    val_main_v61 (F := Ideal) X0 X1 X2 X3 X4 X5 (ix2 k j) = ∑ s : Fin 4096, share X0 X1 X2 X3 X4 X5 k j s := by
  have hk := k.isLt
  unfold share
  pointwise [val_main_v61, val_main_v60, val_main_v58, val_main_v57, val_main_v56, val_main_v51, val_main_v33, val_main_v32, val_main_v30, val_main_v29, val_main_cst_10, val_main_cst_9, val_main_cst_5, val_main_cst_4]
  rcases (by omega : k.val = 0 ∨ k.val = 1 ∨ k.val = 2 ∨ 2 < k.val) with h | h | h | h
  · simp [h]
  · simp [h]
  · simp [h]
  · simp [show ¬ k.val < 1 by omega, show ¬ k.val - 1 < 1 by omega, show ¬ k.val - 1 - 1 < 1 by omega, show k.val ≠ 0 by omega, show k.val ≠ 1 by omega, show k.val ≠ 2 by omega]

/-- What a block adds to the gradient of the norm's scale, on top of what is there. -/
theorem scale_block (c : Dev nD) (t : Fin cfg0.N) (w0 : Vec Ideal S1x1024 .f32) (j : Fin 1024) :
    k0_pay10 (F := Ideal) (k0_pay1 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t)) (k0_pay3 (F := Ideal) (iblk m c 2 t)) w0 (ix2 0 j)
      = w0 (ix2 0 j) + ∑ r : Fin 512, val_main_v31 (F := Ideal) (m (c.tc.loc main_arg0)) (m (c.tc.loc main_arg1)) (m (c.tc.loc main_arg2)) (ix2 (row t r) j) := by
  refine Eq.trans ?_ (congrArg (fun a : EReal => (show EReal from w0 (ix2 0 j)) + a) (Finset.sum_congr rfl fun r _ =>
    (mul_comm (G := EReal) _ _).trans (congrArg₂ (fun a b : EReal => a * b) (normed_block m c t r j) (product_block m c t r j))))
  pointwise [k0_pay10]

/-- What a block adds to the gradient of the norm's shift, on top of what is there. -/
theorem shift_block (c : Dev nD) (t : Fin cfg0.N) (w1 : Vec Ideal S1x1024 .f32) (j : Fin 1024) :
    k0_pay11 (F := Ideal) (k0_pay1 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t)) w1 (ix2 0 j)
      = w1 (ix2 0 j) + ∑ r : Fin 512, val_main_v28 (F := Ideal) (m (c.tc.loc main_arg0)) (m (c.tc.loc main_arg1)) (ix2 (row t r) j) := by
  refine Eq.trans ?_ (congrArg (fun a : EReal => (show EReal from w1 (ix2 0 j)) + a) (Finset.sum_congr rfl fun r _ => product_block m c t r j))
  pointwise [k0_pay11]

/-- What a block adds to the gradient of the residual's gate, on top of what is there. -/
theorem gate_block (c : Dev nD) (t : Fin cfg0.N) (w2 : Vec Ideal S1x1024 .f32) (j : Fin 1024) :
    k0_pay12 (F := Ideal) (iblk m c 4 t) (iblk m c 5 t) (k0_pay2 (iblk m c 2 t)) (k0_pay3 (iblk m c 2 t)) (k0_pay4 (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (iblk m c 3 t)) (k0_pay5 (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (iblk m c 2 t) (iblk m c 3 t)) (k0_pay6 (F := Ideal)) w2 (ix2 0 j)
      = w2 (ix2 0 j) + ∑ r : Fin 512, val_main_v50 (F := Ideal) (m (c.tc.loc main_arg0)) (m (c.tc.loc main_arg1)) (m (c.tc.loc main_arg2)) (m (c.tc.loc main_arg3)) (m (c.tc.loc main_arg4)) (ix2 (row t r) j) * (show EReal from (m (c.tc.loc main_arg5)) (ix2 (row t r) j)) := by
  refine Eq.trans ?_ (congrArg (fun a : EReal => (show EReal from w2 (ix2 0 j)) + a) (Finset.sum_congr rfl fun r _ => congrArg₂ (fun a b : EReal => a * b) (input_block m c t r j) (read5 m c t r j)))
  pointwise [k0_pay12]

/-- One grid point's step: three of the eight rows gain the sums over its rows, the others stay. -/
theorem step_rows (c : Dev nD) (t : Fin cfg0.N) (w2 w1 w0 : Vec Ideal S1x1024 .f32) (z b : EReal) (k : Fin 8) (j : Fin 1024)
    (h2 : k.val = 2 → w2 (ix2 0 j) = b) (h1 : k.val = 1 → w1 (ix2 0 j) = b) (h0 : k.val = 0 → w0 (ix2 0 j) = b) (hz : z = b) :
    (if k.val = 2 then k0_pay12 (F := Ideal) (iblk m c 4 t) (iblk m c 5 t) (k0_pay2 (iblk m c 2 t)) (k0_pay3 (iblk m c 2 t)) (k0_pay4 (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (iblk m c 3 t)) (k0_pay5 (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t) (iblk m c 2 t) (iblk m c 3 t)) (k0_pay6 (F := Ideal)) w2 (ix2 0 j) else if k.val = 1 then k0_pay11 (F := Ideal) (k0_pay1 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t)) w1 (ix2 0 j)
      else if k.val = 0 then k0_pay10 (F := Ideal) (k0_pay1 (F := Ideal) (View.ld (iblk m c 0 t) (Rect.unit ![0, 0, 0] ![1, 512, 1024] inb_S3x512x1024_S1x512x1024_0_0_0)) (View.ld (iblk m c 0 t) (Rect.unit ![1, 0, 0] ![1, 512, 1024] inb_S3x512x1024_S1x512x1024_1_0_0)) (View.ld (iblk m c 0 t) (Rect.unit ![2, 0, 0] ![1, 512, 1024] inb_S3x512x1024_S1x512x1024_2_0_0)) (iblk m c 1 t)) (k0_pay3 (F := Ideal) (iblk m c 2 t)) w0 (ix2 0 j) else z)
      = b + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  unfold share
  by_cases e2 : k.val = 2
  · simp only [e2, ↓reduceIte]
    rw [gate_block, h2 e2]
  by_cases e1 : k.val = 1
  · simp only [e1, ↓reduceIte, OfNat.one_ne_ofNat]
    rw [shift_block, h1 e1]
  by_cases e0 : k.val = 0
  · simp only [e0, ↓reduceIte, OfNat.zero_ne_ofNat, zero_ne_one]
    rw [scale_block, h0 e0]
  · simp only [e2, e1, e0, ↓reduceIte, Finset.sum_const_zero, add_zero]
    exact hz

/-- The first grid point starts from zeros. -/
theorem step_first (c : Dev nD) (t : Fin cfg0.N) (h : t.val % 8 = 0) (k : Fin 8) (j : Fin 1024) :
    (outsAt0 m c t.val t.isLt).2.2 (ix2 k j) = (0 : EReal) + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  rw [outsAt0_A m c t h]
  frame_out
  simp (discharger := decide) only [↓View.readCov_skip, ↓View.readCov_fill]
  rw [RowStores.canon_row, RowStores.canon_row, RowStores.canon_row]
  have z : ∀ i, k0_pay9 (F := Ideal) i = (0 : EReal) := fun i => by pointwise [k0_pay9]
  refine step_rows m c t _ _ _ _ _ k j (fun e => (RowStores.ld_row 2 _ _ k j e).trans (z _)) (fun e => (RowStores.ld_row 1 _ _ k j e).trans (z _))
    (fun e => (RowStores.ld_row 0 _ _ k j e).trans (z _)) ?_
  canon_tiles x h
  exact z _

/-- Each later grid point adds to what the one before it left. -/
theorem step_next (c : Dev nD) (t : Fin cfg0.N) (h : ¬ t.val % 8 = 0) (k : Fin 8) (j : Fin 1024) :
    (outsAt0 m c t.val t.isLt).2.2 (ix2 k j)
      = (outsAt0 m c (t.val - 1) (Nat.lt_of_le_of_lt (Nat.sub_le _ _) t.isLt)).2.2 (ix2 k j) + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  rw [outsAt0_B m c t h]
  frame_out
  rw [RowStores.read_row, RowStores.read_row, RowStores.read_row]
  refine step_rows m c t _ _ _ _ _ k j (fun e => RowStores.ld_row 2 _ _ k j e) (fun e => RowStores.ld_row 1 _ _ k j e)
    (fun e => RowStores.ld_row 0 _ _ k j e) ?_
  rw [View.writes_nil, Memref.IsWhole.read_unread]

/-- The third result, the sums over the tokens, is the reference's. -/
theorem result2 (c : Dev nD) : (dats m 0 c).arrAt 9 (cfgs 0).N = val_main_v61 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 9 t0_7 (by decide +kernel) _ fun y => ?_
  blk_simp
  idx_vars y
  rw [ref_sums (m (c.tc.loc main_arg0)) (m (c.tc.loc main_arg1)) (m (c.tc.loc main_arg2)) (m (c.tc.loc main_arg3)) (m (c.tc.loc main_arg4)) (m (c.tc.loc main_arg5)), after0_9]
  refine (Pipeline.eq_sum_fin_of_reset_step_apply_last (M := EReal) (fun n h => (outsAt0 m c n h).2.2) 8 (fun _ => 0)
    (fun p i => ∑ r : Fin 512, share (m (c.tc.loc main_arg0)) (m (c.tc.loc main_arg1)) (m (c.tc.loc main_arg2)) (m (c.tc.loc main_arg3)) (m (c.tc.loc main_arg4)) (m (c.tc.loc main_arg5)) (i 0) (i 1) (row p r))
    (fun t h i => by rw [eq_ix2 i]; exact step_first m c t h (i 0) (i 1)) (fun t h i => by rw [eq_ix2 i]; exact step_next m c t h (i 0) (i 1))
    (le_of_eq N_0) t0_7 rfl (ix2 y0 y1)).trans ?_
  rw [zero_add]
  refine Fin.sum_mul_add_congr fun p r h => ?_
  rfl

/-- The call's three results over the extended reals are the reference's, whatever the arguments. -/
theorem algebraic : Cert.algebraic_Kernel31Ideal_Reference31Ideal := by
  pair_intro
  · run_from Cert.Kernel31Ideal.Gen.run_main m g
  · run_from Cert.Reference31Ideal.Value.run m' g'
    all_goals obtain ⟨a0, a1, a2, a3, a4, a5, a6⟩ := hagree c
    · rw [val_main_v50_eq, a0, a1, a2, a3, a4]
      exact (result0 m c).symm
    · rw [val_main_v59_eq, a0, a1, a2, a3, a4, a6]
      exact (result1 m c).symm
    · rw [val_main_v61_eq, a0, a1, a2, a3, a4, a5]
      exact (result2 m c).symm

end Cert.ConvInGrad

end
-- ==== Proof.StateInGrad.lean ====
/- The gradient of the state space mixer's input product, of the norm and modulation before it, and of the gated residual before them: what the kernel's row blocks hold, and the sums over the rows that
it accumulates block by block, are the reference's gradients. -/
module

public import proofs.«01_k».proof.Proof.Gen.Kernel32Ideal.Value
public import proofs.«01_k».proof.Proof.Gen.Reference32Ideal.Read
public import Idealize.ShloMosaic.Lib.Pipeline.ValueKit
public import Idealize.ShloMosaic.Lib.Pointwise
public import Idealize.ShloMosaic.Lib.Claim
public import proofs.«01_k».proof.Defs
public import proofs.«01_k».proof.Proof.NormRow
public import proofs.«01_k».proof.Proof.RowStores

@[expose] public section

set_option maxRecDepth 16384

noncomputable section

open Idealize.ShloMosaic Idealize.ShloMosaic.TcCoe Idealize.SL.Sem
open Idealize.ShloMosaic.Pipeline (Dat)
open scoped BigOperators

namespace Cert.StateInGrad

open Cert.Kernel32Ideal Cert.Kernel32Ideal.Gen
open Cert.Reference32Ideal.Read

/-! ## The payloads at a place -/

/-- The product `du · w_inᵀ` of a row block. -/
theorem pay6_apply (v0 : Vec Ideal S512x1024 .bf16) (v1 : Vec Ideal S1024x1024 .bf16) (r : Fin 512) (j : Fin 1024) :
    k0_pay6 (F := Ideal) v0 v1 (ix2 r j) = ∑ k : Fin 1024, v0 (ix2 r k) * v1 (ix2 j k) := by
  pointwise [k0_pay6]

/-- The reciprocal root of a row. -/
theorem pay7_apply (v3 : Vec Ideal S512x1024 .f32) (r : Fin 512) :
    k0_pay7 (F := Ideal) v3 (ix2 r 0) = Ideal.rsqrt (Ideal.div (∑ k : Fin 1024, v3 (ix2 r k) * v3 (ix2 r k)) (Ideal.ofBits .f32 0x44800000#32) + Ideal.ofBits .f32 0x358637BD#32) := by
  pointwise [k0_pay7]

/-- A normalised row. -/
theorem pay8_apply (v3 : Vec Ideal S512x1024 .f32) (r : Fin 512) (j : Fin 1024) :
    k0_pay8 (F := Ideal) v3 (ix2 r j) = v3 (ix2 r j) * k0_pay7 (F := Ideal) v3 (ix2 r 0) := by
  pointwise [k0_pay8]

/-- The gradient of the norm's input in a row block. -/
theorem pay9_apply (v0 : Vec Ideal S512x1024 .bf16) (v1 : Vec Ideal S1024x1024 .bf16) (v3 : Vec Ideal S512x1024 .f32) (v4 : Vec Ideal S1x1024 .f32)
    (v5 : Vec Ideal S512x1024 .f32) (r : Fin 512) (j : Fin 1024) :
    k0_pay9 (F := Ideal) v0 v1 v3 v4 v5 (ix2 r j)
      = k0_pay7 (F := Ideal) v3 (ix2 r 0) * (k0_pay6 (F := Ideal) v0 v1 (ix2 r j) * v4 (ix2 0 j) - v3 (ix2 r j) * k0_pay7 (F := Ideal) v3 (ix2 r 0)
          * Ideal.div (∑ l : Fin 1024, k0_pay6 (F := Ideal) v0 v1 (ix2 r l) * v4 (ix2 0 l) * (v3 (ix2 r l) * k0_pay7 (F := Ideal) v3 (ix2 r 0))) (Ideal.ofBits .f32 0x44800000#32))
        + v5 (ix2 r j) := by
  pointwise [k0_pay9, k0_pay8]

/-! ## The reference at a place -/

/-- The product `du · w_inᵀ`. -/
theorem ref_product (X0 : (⟨S4096x1024, .bf16⟩ : BufTy).Contents (Elt Ideal)) (X1 : (⟨S1024x1024, .bf16⟩ : BufTy).Contents (Elt Ideal)) (s : Fin 4096) (j : Fin 1024) :
    val_main_v21 (F := Ideal) X0 X1 (ix2 s j) = ∑ k : Fin 1024, X0 (ix2 s k) * X1 (ix2 j k) := by
  pointwise [val_main_v21, val_main_v20, val_main_v18]

/-- The gradient of the norm's input: the kernel's row, computed from the same data, is the reference's. -/
theorem input_grad {v0 : Vec Ideal S512x1024 .bf16} {v1 : Vec Ideal S1024x1024 .bf16} {v3 : Vec Ideal S512x1024 .f32} {v4 : Vec Ideal S1x1024 .f32} {v5 : Vec Ideal S512x1024 .f32}
    (X0 : (⟨S4096x1024, .bf16⟩ : BufTy).Contents (Elt Ideal)) (X1 : (⟨S1024x1024, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (r : Fin 512) (s : Fin 4096) (j : Fin 1024)
    (h0 : ∀ k, v0 (ix2 r k) = X0 (ix2 s k)) (h1 : ∀ a k, v1 (ix2 a k) = X1 (ix2 a k)) (h3 : ∀ k, v3 (ix2 r k) = X2 (ix2 s k))
    (h4 : ∀ k, v4 (ix2 0 k) = X3 (ix2 0 k)) (h5 : ∀ k, v5 (ix2 r k) = X4 (ix2 s k)) :
    k0_pay9 (F := Ideal) v0 v1 v3 v4 v5 (ix2 r j) = val_main_v43 (F := Ideal) X0 X1 X2 X3 X4 (ix2 s j) := by
  have hd : ∀ l, k0_pay6 (F := Ideal) v0 v1 (ix2 r l) = val_main_v21 (F := Ideal) X0 X1 (ix2 s l) := fun l => by
    rw [pay6_apply, ref_product]
    simp only [h0, h1]
  rw [pay9_apply, pay7_apply]
  simp only [hd, h3, h4, h5]
  refine (NormRow.row_grad (fun k => X2 (ix2 s k)) (fun k => val_main_v21 (F := Ideal) X0 X1 (ix2 s k) * X3 (ix2 0 k)) _ (X4 (ix2 s j))
    (NormRow.variance_pos fun k => X2 (ix2 s k)) j).trans ?_
  symm
  pointwise [val_main_v43, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v44, val_main_v45, val_main_v46, val_main_v47, val_main_v48, val_main_v49, val_main_v50, val_main_v51, val_main_v52, val_main_cst_0, val_main_cst_1, val_main_cst_2, val_main_cst_3, val_main_cst_4, val_main_cst_5, val_main_cst_6, val_main_cst_7, val_main_cst_8, val_main_cst_9, val_main_cst_10, val_main_cst]
  simp only [Fin.sum_univ_one]

/-! ## The blocks -/

variable (m : (ℓ : Loc nD τ sig) → Buf (Elt Ideal) ℓ)

/-- Which block of each array grid point `t` works on: the `t`-th of eight row blocks, or the whole of a weight. -/
theorem blocks : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0] ∧ win0_8.index t = ![t.val, 0]
    ∧ win0_9.index t = ![0, 0] :=
  (by decide +kernel : ∀ t : Fin grid0.N, _)

/-- The row of the arrays that row `r` of block `t` is. -/
def row (t : Fin cfg0.N) (r : Fin 512) : Fin 4096 := ⟨t.val * 512 + r.val, by have := lt_of_lt_of_eq t.isLt N_0; have := r.isLt; omega⟩

/-- A row of the incoming gradient. -/
theorem read0 (c : Dev nD) (t : Fin cfg0.N) (r : Fin 512) (k : Fin 1024) :
    (show FVec Ideal S512x1024 .bf16 from iblk m c 0 t) (ix2 r k) = m (c.tc.loc main_arg0) (ix2 (row t r) k) := by
  blk_point [iblk, V, blocks t, row]

/-- The weight. -/
theorem read1 (c : Dev nD) (t : Fin cfg0.N) (r : Fin 1024) (k : Fin 1024) :
    (show FVec Ideal S1024x1024 .bf16 from iblk m c 1 t) (ix2 r k) = m (c.tc.loc main_arg1) (ix2 r k) := by
  blk_point [iblk, V, blocks t]

/-- A row of the norm's input. -/
theorem read2 (c : Dev nD) (t : Fin cfg0.N) (r : Fin 512) (k : Fin 1024) :
    (show FVec Ideal S512x1024 .f32 from iblk m c 2 t) (ix2 r k) = m (c.tc.loc main_arg2) (ix2 (row t r) k) := by
  blk_point [iblk, V, blocks t, row]

/-- The norm's scale. -/
theorem read3 (c : Dev nD) (t : Fin cfg0.N) (k : Fin 1024) :
    (show FVec Ideal S1x1024 .f32 from iblk m c 3 t) (ix2 0 k) = m (c.tc.loc main_arg3) (ix2 0 k) := by
  blk_point [iblk, V, blocks t]

/-- A row of the gradient that comes past the norm. -/
theorem read4 (c : Dev nD) (t : Fin cfg0.N) (r : Fin 512) (k : Fin 1024) :
    (show FVec Ideal S512x1024 .f32 from iblk m c 4 t) (ix2 r k) = m (c.tc.loc main_arg4) (ix2 (row t r) k) := by
  blk_point [iblk, V, blocks t, row]

/-- A row of the gated branch. -/
theorem read5 (c : Dev nD) (t : Fin cfg0.N) (r : Fin 512) (k : Fin 1024) :
    (show FVec Ideal S512x1024 .bf16 from iblk m c 5 t) (ix2 r k) = m (c.tc.loc main_arg5) (ix2 (row t r) k) := by
  blk_point [iblk, V, blocks t, row]

/-- The gate. -/
theorem read6 (c : Dev nD) (t : Fin cfg0.N) (k : Fin 1024) :
    (show FVec Ideal S1x1024 .f32 from iblk m c 6 t) (ix2 0 k) = m (c.tc.loc main_arg6) (ix2 0 k) := by
  blk_point [iblk, V, blocks t]

/-- What a grid point computes for the norm's input is the reference's gradient at its rows. -/
theorem input_block (c : Dev nD) (t : Fin cfg0.N) (r : Fin 512) (j : Fin 1024) :
    k0_pay9 (F := Ideal) (iblk m c 0 t) (iblk m c 1 t) (iblk m c 2 t) (iblk m c 3 t) (iblk m c 4 t) (ix2 r j)
      = val_main_v43 (F := Ideal) (m (c.tc.loc main_arg0)) (m (c.tc.loc main_arg1)) (m (c.tc.loc main_arg2)) (m (c.tc.loc main_arg3)) (m (c.tc.loc main_arg4)) (ix2 (row t r) j) :=
  input_grad _ _ _ _ _ r (row t r) j (read0 m c t r) (read1 m c t) (read2 m c t r) (read3 m c t) (read4 m c t r)

/-! ## The two gradients with one row per token -/

/-- The first result, the gradient of the norm's input, is the reference's. -/
theorem result0 (c : Dev nD) : (dats m 0 c).arrAt 7 (cfgs 0).N = val_main_v43 (F := Ideal) (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp
  rw [after0_7]
  have e : ∀ (r : Fin 512) (j : Fin 1024), ((View.whole main_v0_0).slice (win0_7.rect t)).emb (ix2 r j) = ix2 (row t r) j := fun r j => by blk_ext [blocks t, row]
  idx_vars y
  by_cases h : t.val % 8 = 0
  · rw [outsAt0_A m c t h]
    frame_out
    rw [e]
    exact input_block m c t y0 y1
  · rw [outsAt0_B m c t h]
    frame_out
    rw [e]
    exact input_block m c t y0 y1

/-- The second result, the gradient of the gated branch, is the reference's. -/
theorem result1 (c : Dev nD) : (dats m 0 c).arrAt 8 (cfgs 0).N = val_main_v52 (F := Ideal) (m (c.tc.loc main_arg0)) (m (c.tc.loc main_arg1)) (m (c.tc.loc main_arg2)) (m (c.tc.loc main_arg3)) (m (c.tc.loc main_arg4)) (m (c.tc.loc main_arg6)) := by
  refine (dats m 0 c).arrAt_eq_of_covers 8 _ (by decide +kernel) fun t hf y => ?_
  blk_simp
  rw [after0_8]
  have e : ∀ (r : Fin 512) (j : Fin 1024), ((View.whole main_v0_1).slice (win0_8.rect t)).emb (ix2 r j) = ix2 (row t r) j := fun r j => by blk_ext [blocks t, row]
  have p : ∀ (r : Fin 512) (j : Fin 1024), k0_pay1 (F := Ideal) (iblk m c 6 t) (k0_pay9 (F := Ideal) (iblk m c 0 t) (iblk m c 1 t) (iblk m c 2 t) (iblk m c 3 t) (iblk m c 4 t)) (ix2 r j)
      = val_main_v52 (F := Ideal) (m (c.tc.loc main_arg0)) (m (c.tc.loc main_arg1)) (m (c.tc.loc main_arg2)) (m (c.tc.loc main_arg3)) (m (c.tc.loc main_arg4)) (m (c.tc.loc main_arg6)) (ix2 (row t r) j) := fun r j => by
    refine Eq.trans ?_ (Eq.trans (congrArg₂ (fun a b : EReal => a * b) (input_block m c t r j) (read6 m c t j)) ?_)
    · pointwise [k0_pay1]
    · pointwise [val_main_v52, val_main_v48, val_main_v47]
      exact mul_comm _ _
  idx_vars y
  by_cases h : t.val % 8 = 0
  · rw [outsAt0_A m c t h]
    frame_out
    rw [e]
    exact p y0 y1
  · rw [outsAt0_B m c t h]
    frame_out
    rw [e]
    exact p y0 y1

/-! ## The sums over the tokens -/

/-- What token `s` adds to entry `j` of row `k` of the third result: row 0 gathers the gradient of the norm's scale, row 1 of its shift, row 2 of the residual's gate. -/
def share (X0 : (⟨S4096x1024, .bf16⟩ : BufTy).Contents (Elt Ideal)) (X1 : (⟨S1024x1024, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (X5 : (⟨S4096x1024, .bf16⟩ : BufTy).Contents (Elt Ideal)) (k : Fin 8) (j : Fin 1024) (s : Fin 4096) : EReal :=
  if k.val = 2 then val_main_v43 (F := Ideal) X0 X1 X2 X3 X4 (ix2 s j) * X5 (ix2 s j)
  else if k.val = 1 then val_main_v21 (F := Ideal) X0 X1 (ix2 s j)
  else if k.val = 0 then val_main_v24 (F := Ideal) X0 X1 X2 (ix2 s j) else 0

/-- The third result of the reference is the sum of the tokens' shares. -/
theorem ref_sums (X0 : (⟨S4096x1024, .bf16⟩ : BufTy).Contents (Elt Ideal)) (X1 : (⟨S1024x1024, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (X5 : (⟨S4096x1024, .bf16⟩ : BufTy).Contents (Elt Ideal)) (k : Fin 8) (j : Fin 1024) :
    val_main_v54 (F := Ideal) X0 X1 X2 X3 X4 X5 (ix2 k j) = ∑ s : Fin 4096, share X0 X1 X2 X3 X4 X5 k j s := by
  have hk := k.isLt
  unfold share
  pointwise [val_main_v54, val_main_v53, val_main_v51, val_main_v50, val_main_v49, val_main_v44, val_main_v26, val_main_v25, val_main_v23, val_main_v22, val_main_cst_4, val_main_cst_5, val_main_cst_9, val_main_cst_10]
  rcases (by omega : k.val = 0 ∨ k.val = 1 ∨ k.val = 2 ∨ 2 < k.val) with h | h | h | h
  · simp [h]
  · simp [h]
  · simp [h]
  · simp [show ¬ k.val < 1 by omega, show ¬ k.val - 1 < 1 by omega, show ¬ k.val - 1 - 1 < 1 by omega, show k.val ≠ 0 by omega, show k.val ≠ 1 by omega, show k.val ≠ 2 by omega]

/-- A block's product with `w_inᵀ` is the reference's product at its rows. -/
theorem product_block (c : Dev nD) (t : Fin cfg0.N) (r : Fin 512) (j : Fin 1024) :
    k0_pay6 (F := Ideal) (iblk m c 0 t) (iblk m c 1 t) (ix2 r j) = val_main_v21 (F := Ideal) (m (c.tc.loc main_arg0)) (m (c.tc.loc main_arg1)) (ix2 (row t r) j) := by
  rw [pay6_apply, ref_product]
  exact Finset.sum_congr rfl fun k _ => congrArg₂ (fun a b : EReal => a * b) (read0 m c t r k) (read1 m c t j k)

/-- A normalised row of a block is the reference's. -/
theorem normed_block (c : Dev nD) (t : Fin cfg0.N) (r : Fin 512) (j : Fin 1024) :
    k0_pay8 (F := Ideal) (iblk m c 2 t) (ix2 r j) = val_main_v13 (F := Ideal) (m (c.tc.loc main_arg2)) (ix2 (row t r) j) := by
  rw [pay8_apply, pay7_apply]
  have h := read2 m c t r
  dsimp only at h
  simp only [h]
  pointwise [val_main_v13, val_main_v12, val_main_v8, val_main_v7, val_main_v6, val_main_v5, val_main_v4, val_main_v3, val_main_v2, val_main_v1, val_main_cst_2, val_main_cst_1, val_main_cst_0]

/-- What a block adds to the gradient of the norm's scale. -/
theorem scale_block (c : Dev nD) (t : Fin cfg0.N) (j : Fin 1024) :
    k0_pay10 (F := Ideal) (iblk m c 0 t) (iblk m c 1 t) (iblk m c 2 t) (ix2 0 j) = ∑ r : Fin 512, val_main_v24 (F := Ideal) (m (c.tc.loc main_arg0)) (m (c.tc.loc main_arg1)) (m (c.tc.loc main_arg2)) (ix2 (row t r) j) := by
  refine Eq.trans ?_ (Finset.sum_congr rfl fun r _ => (mul_comm (G := EReal) _ _).trans (congrArg₂ (fun a b : EReal => a * b) (normed_block m c t r j) (product_block m c t r j)))
  pointwise [k0_pay10]

/-- What a block adds to the gradient of the norm's shift. -/
theorem shift_block (c : Dev nD) (t : Fin cfg0.N) (j : Fin 1024) :
    k0_pay11 (F := Ideal) (iblk m c 0 t) (iblk m c 1 t) (ix1 j) = ∑ r : Fin 512, val_main_v21 (F := Ideal) (m (c.tc.loc main_arg0)) (m (c.tc.loc main_arg1)) (ix2 (row t r) j) := by
  refine Eq.trans ?_ (Finset.sum_congr rfl fun r _ => product_block m c t r j)
  pointwise [k0_pay11]

/-- What a block adds to the gradient of the residual's gate, on top of what is there. -/
theorem gate_block (c : Dev nD) (t : Fin cfg0.N) (w : Vec Ideal S1x1024 .f32) (j : Fin 1024) :
    k0_pay5 (F := Ideal) (iblk m c 5 t) (k0_pay9 (F := Ideal) (iblk m c 0 t) (iblk m c 1 t) (iblk m c 2 t) (iblk m c 3 t) (iblk m c 4 t)) w (ix2 0 j)
      = w (ix2 0 j) + ∑ r : Fin 512, val_main_v43 (F := Ideal) (m (c.tc.loc main_arg0)) (m (c.tc.loc main_arg1)) (m (c.tc.loc main_arg2)) (m (c.tc.loc main_arg3)) (m (c.tc.loc main_arg4)) (ix2 (row t r) j) * (show EReal from m (c.tc.loc main_arg5) (ix2 (row t r) j)) := by
  refine Eq.trans ?_ (congrArg (fun a : EReal => (show EReal from w (ix2 0 j)) + a) (Finset.sum_congr rfl fun r _ => congrArg₂ (fun a b : EReal => a * b) (input_block m c t r j) (read5 m c t r j)))
  pointwise [k0_pay5]

/-- One grid point's step: three of the eight rows gain the sums over its rows, the others stay. -/
theorem step_rows (c : Dev nD) (t : Fin cfg0.N) (w2 w1 w0 : Vec Ideal S1x1024 .f32) (z b : EReal) (k : Fin 8) (j : Fin 1024)
    (h2 : k.val = 2 → w2 (ix2 0 j) = b) (h1 : k.val = 1 → w1 (ix2 0 j) = b) (h0 : k.val = 0 → w0 (ix2 0 j) = b) (hz : z = b) :
    (if k.val = 2 then k0_pay5 (F := Ideal) (iblk m c 5 t) (k0_pay9 (F := Ideal) (iblk m c 0 t) (iblk m c 1 t) (iblk m c 2 t) (iblk m c 3 t) (iblk m c 4 t)) w2 (ix2 0 j)
      else if k.val = 1 then k0_pay4 (F := Ideal) (k0_pay11 (F := Ideal) (iblk m c 0 t) (iblk m c 1 t)) w1 (ix2 0 j)
      else if k.val = 0 then k0_pay3 (F := Ideal) (k0_pay10 (F := Ideal) (iblk m c 0 t) (iblk m c 1 t) (iblk m c 2 t)) w0 (ix2 0 j) else z)
      = b + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  unfold share
  by_cases e2 : k.val = 2
  · simp only [e2, ↓reduceIte]
    rw [gate_block, h2 e2]
  by_cases e1 : k.val = 1
  · simp only [e1, ↓reduceIte, OfNat.one_ne_ofNat]
    refine Eq.trans ?_ (congrArg₂ (fun a b : EReal => a + b) (h1 e1) (shift_block m c t j))
    pointwise [k0_pay4]
  by_cases e0 : k.val = 0
  · simp only [e0, ↓reduceIte, OfNat.zero_ne_ofNat, zero_ne_one]
    refine Eq.trans ?_ (congrArg₂ (fun a b : EReal => a + b) (h0 e0) (scale_block m c t j))
    pointwise [k0_pay3]
  · simp only [e2, e1, e0, ↓reduceIte, Finset.sum_const_zero, add_zero]
    exact hz

/-- The first grid point starts from zeros. -/
theorem step_first (c : Dev nD) (t : Fin cfg0.N) (h : t.val % 8 = 0) (k : Fin 8) (j : Fin 1024) :
    (outsAt0 m c t.val t.isLt).2.2 (ix2 k j) = (0 : EReal) + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  rw [outsAt0_A m c t h]
  frame_out
  simp (discharger := decide) only [↓View.readCov_skip, ↓View.readCov_fill]
  rw [RowStores.canon_row, RowStores.canon_row, RowStores.canon_row]
  have z : ∀ i, k0_pay2 (F := Ideal) i = (0 : EReal) := fun i => by pointwise [k0_pay2]
  refine step_rows m c t _ _ _ _ _ k j (fun e => (RowStores.ld_row 2 _ _ k j e).trans (z _)) (fun e => (RowStores.ld_row 1 _ _ k j e).trans (z _))
    (fun e => (RowStores.ld_row 0 _ _ k j e).trans (z _)) ?_
  canon_tiles x h
  exact z _

/-- Each later grid point adds to what the one before it left. -/
theorem step_next (c : Dev nD) (t : Fin cfg0.N) (h : ¬ t.val % 8 = 0) (k : Fin 8) (j : Fin 1024) :
    (outsAt0 m c t.val t.isLt).2.2 (ix2 k j)
      = (outsAt0 m c (t.val - 1) (Nat.lt_of_le_of_lt (Nat.sub_le _ _) t.isLt)).2.2 (ix2 k j) + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  rw [outsAt0_B m c t h]
  frame_out
  rw [RowStores.read_row, RowStores.read_row, RowStores.read_row]
  refine step_rows m c t _ _ _ _ _ k j (fun e => RowStores.ld_row 2 _ _ k j e) (fun e => RowStores.ld_row 1 _ _ k j e)
    (fun e => RowStores.ld_row 0 _ _ k j e) ?_
  rw [View.writes_nil, Memref.IsWhole.read_unread]

/-- The third result, the sums over the tokens, is the reference's. -/
theorem result2 (c : Dev nD) : (dats m 0 c).arrAt 9 (cfgs 0).N = val_main_v54 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 9 t0_7 (by decide +kernel) _ fun y => ?_
  blk_simp
  idx_vars y
  rw [ref_sums, after0_9]
  refine (Pipeline.eq_sum_fin_of_reset_step_apply_last (M := EReal) (fun n h => (outsAt0 m c n h).2.2) 8 (fun _ => 0)
    (fun p i => ∑ r : Fin 512, share (m (c.tc.loc main_arg0)) (m (c.tc.loc main_arg1)) (m (c.tc.loc main_arg2)) (m (c.tc.loc main_arg3)) (m (c.tc.loc main_arg4)) (m (c.tc.loc main_arg5)) (i 0) (i 1) (row p r))
    (fun t h i => by rw [eq_ix2 i]; exact step_first m c t h (i 0) (i 1)) (fun t h i => by rw [eq_ix2 i]; exact step_next m c t h (i 0) (i 1))
    (le_of_eq N_0) t0_7 rfl (ix2 y0 y1)).trans ?_
  rw [zero_add]
  refine Fin.sum_mul_add_congr fun p r h => ?_
  rfl

/-- The call's three results over the extended reals are the reference's, whatever the arguments. -/
theorem algebraic : Cert.algebraic_Kernel32Ideal_Reference32Ideal := by
  pair_intro
  · run_from Cert.Kernel32Ideal.Gen.run_main m g
  · run_from Cert.Reference32Ideal.Value.run m' g'
    all_goals obtain ⟨a0, a1, a2, a3, a4, a5, a6⟩ := hagree c
    · rw [val_main_v43_eq, a0, a1, a2, a3, a4]
      exact (result0 m c).symm
    · rw [val_main_v52_eq, a0, a1, a2, a3, a4, a6]
      exact (result1 m c).symm
    · rw [val_main_v54_eq, a0, a1, a2, a3, a4, a5]
      exact (result2 m c).symm

end Cert.StateInGrad

end
-- ==== Proof.GatingInGrad.lean ====
/- The gradient of the spatial gating's input product, of the norm and modulation before it, and of the gated residual before them: what the kernel's row blocks hold, and the sums over the rows that
it accumulates block by block, are the reference's gradients. -/
module

public import proofs.«01_k».proof.Proof.Gen.Kernel33Ideal.Value
public import proofs.«01_k».proof.Proof.Gen.Reference33Ideal.Read
public import Idealize.ShloMosaic.Lib.Pipeline.ValueKit
public import Idealize.ShloMosaic.Lib.Pointwise
public import Idealize.ShloMosaic.Lib.Claim
public import proofs.«01_k».proof.Defs
public import proofs.«01_k».proof.Proof.NormRow
public import proofs.«01_k».proof.Proof.RowStores

@[expose] public section

set_option maxRecDepth 16384

noncomputable section

open Idealize.ShloMosaic Idealize.ShloMosaic.TcCoe Idealize.SL.Sem
open Idealize.ShloMosaic.Pipeline (Dat)
open scoped BigOperators

namespace Cert.GatingInGrad

open Cert.Kernel33Ideal Cert.Kernel33Ideal.Gen
open Cert.Reference33Ideal.Read

/-! ## The payloads at a place -/

/-- The product `duv · w_inᵀ` of a row block. -/
theorem pay6_apply (v0 : Vec Ideal S512x2048 .bf16) (v1 : Vec Ideal S1024x2048 .bf16) (r : Fin 512) (j : Fin 1024) :
    k0_pay6 (F := Ideal) v0 v1 (ix2 r j) = ∑ k : Fin 2048, v0 (ix2 r k) * v1 (ix2 j k) := by
  pointwise [k0_pay6]

/-- The reciprocal root of a row. -/
theorem pay7_apply (v3 : Vec Ideal S512x1024 .f32) (r : Fin 512) :
    k0_pay7 (F := Ideal) v3 (ix2 r 0) = Ideal.rsqrt (Ideal.div (∑ k : Fin 1024, v3 (ix2 r k) * v3 (ix2 r k)) (Ideal.ofBits .f32 0x44800000#32) + Ideal.ofBits .f32 0x358637BD#32) := by
  pointwise [k0_pay7]

/-- A normalised row. -/
theorem pay8_apply (v3 : Vec Ideal S512x1024 .f32) (r : Fin 512) (j : Fin 1024) :
    k0_pay8 (F := Ideal) v3 (ix2 r j) = v3 (ix2 r j) * k0_pay7 (F := Ideal) v3 (ix2 r 0) := by
  pointwise [k0_pay8]

/-- The gradient of the norm's input in a row block. -/
theorem pay9_apply (v0 : Vec Ideal S512x2048 .bf16) (v1 : Vec Ideal S1024x2048 .bf16) (v3 : Vec Ideal S512x1024 .f32) (v4 : Vec Ideal S1x1024 .f32)
    (v5 : Vec Ideal S512x1024 .f32) (r : Fin 512) (j : Fin 1024) :
    k0_pay9 (F := Ideal) v0 v1 v3 v4 v5 (ix2 r j)
      = k0_pay7 (F := Ideal) v3 (ix2 r 0) * (k0_pay6 (F := Ideal) v0 v1 (ix2 r j) * v4 (ix2 0 j) - v3 (ix2 r j) * k0_pay7 (F := Ideal) v3 (ix2 r 0)
          * Ideal.div (∑ l : Fin 1024, k0_pay6 (F := Ideal) v0 v1 (ix2 r l) * v4 (ix2 0 l) * (v3 (ix2 r l) * k0_pay7 (F := Ideal) v3 (ix2 r 0))) (Ideal.ofBits .f32 0x44800000#32))
        + v5 (ix2 r j) := by
  pointwise [k0_pay9, k0_pay8]

/-! ## The reference at a place -/

/-- The product `duv · w_inᵀ`. -/
theorem ref_product (X0 : (⟨S4096x2048, .bf16⟩ : BufTy).Contents (Elt Ideal)) (X1 : (⟨S1024x2048, .bf16⟩ : BufTy).Contents (Elt Ideal)) (s : Fin 4096) (j : Fin 1024) :
    val_main_v21 (F := Ideal) X0 X1 (ix2 s j) = ∑ k : Fin 2048, X0 (ix2 s k) * X1 (ix2 j k) := by
  pointwise [val_main_v21, val_main_v20, val_main_v18]

/-- The gradient of the norm's input: the kernel's row, computed from the same data, is the reference's. -/
theorem input_grad {v0 : Vec Ideal S512x2048 .bf16} {v1 : Vec Ideal S1024x2048 .bf16} {v3 : Vec Ideal S512x1024 .f32} {v4 : Vec Ideal S1x1024 .f32} {v5 : Vec Ideal S512x1024 .f32}
    (X0 : (⟨S4096x2048, .bf16⟩ : BufTy).Contents (Elt Ideal)) (X1 : (⟨S1024x2048, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (r : Fin 512) (s : Fin 4096) (j : Fin 1024)
    (h0 : ∀ k, v0 (ix2 r k) = X0 (ix2 s k)) (h1 : ∀ a k, v1 (ix2 a k) = X1 (ix2 a k)) (h3 : ∀ k, v3 (ix2 r k) = X2 (ix2 s k))
    (h4 : ∀ k, v4 (ix2 0 k) = X3 (ix2 0 k)) (h5 : ∀ k, v5 (ix2 r k) = X4 (ix2 s k)) :
    k0_pay9 (F := Ideal) v0 v1 v3 v4 v5 (ix2 r j) = val_main_v43 (F := Ideal) X0 X1 X2 X3 X4 (ix2 s j) := by
  have hd : ∀ l, k0_pay6 (F := Ideal) v0 v1 (ix2 r l) = val_main_v21 (F := Ideal) X0 X1 (ix2 s l) := fun l => by
    rw [pay6_apply, ref_product]
    simp only [h0, h1]
  rw [pay9_apply, pay7_apply]
  simp only [hd, h3, h4, h5]
  refine (NormRow.row_grad (fun k => X2 (ix2 s k)) (fun k => val_main_v21 (F := Ideal) X0 X1 (ix2 s k) * X3 (ix2 0 k)) _ (X4 (ix2 s j))
    (NormRow.variance_pos fun k => X2 (ix2 s k)) j).trans ?_
  symm
  pointwise [val_main_v43, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v44, val_main_v45, val_main_v46, val_main_v47, val_main_v48, val_main_v49, val_main_v50, val_main_v51, val_main_v52, val_main_cst_0, val_main_cst_1, val_main_cst_2, val_main_cst_3, val_main_cst_4, val_main_cst_5, val_main_cst_6, val_main_cst_7, val_main_cst_8, val_main_cst_9, val_main_cst_10, val_main_cst]
  simp only [Fin.sum_univ_one]

/-! ## The blocks -/

variable (m : (ℓ : Loc nD τ sig) → Buf (Elt Ideal) ℓ)

/-- Which block of each array grid point `t` works on: the `t`-th of eight row blocks, or the whole of a weight. -/
theorem blocks : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0] ∧ win0_8.index t = ![t.val, 0]
    ∧ win0_9.index t = ![0, 0] :=
  (by decide +kernel : ∀ t : Fin grid0.N, _)

/-- The row of the arrays that row `r` of block `t` is. -/
def row (t : Fin cfg0.N) (r : Fin 512) : Fin 4096 := ⟨t.val * 512 + r.val, by have := lt_of_lt_of_eq t.isLt N_0; have := r.isLt; omega⟩

/-- A row of the incoming gradient. -/
theorem read0 (c : Dev nD) (t : Fin cfg0.N) (r : Fin 512) (k : Fin 2048) :
    (show FVec Ideal S512x2048 .bf16 from iblk m c 0 t) (ix2 r k) = m (c.tc.loc main_arg0) (ix2 (row t r) k) := by
  blk_point [iblk, V, blocks t, row]

/-- The weight. -/
theorem read1 (c : Dev nD) (t : Fin cfg0.N) (r : Fin 1024) (k : Fin 2048) :
    (show FVec Ideal S1024x2048 .bf16 from iblk m c 1 t) (ix2 r k) = m (c.tc.loc main_arg1) (ix2 r k) := by
  blk_point [iblk, V, blocks t]

/-- A row of the norm's input. -/
theorem read2 (c : Dev nD) (t : Fin cfg0.N) (r : Fin 512) (k : Fin 1024) :
    (show FVec Ideal S512x1024 .f32 from iblk m c 2 t) (ix2 r k) = m (c.tc.loc main_arg2) (ix2 (row t r) k) := by
  blk_point [iblk, V, blocks t, row]

/-- The norm's scale. -/
theorem read3 (c : Dev nD) (t : Fin cfg0.N) (k : Fin 1024) :
    (show FVec Ideal S1x1024 .f32 from iblk m c 3 t) (ix2 0 k) = m (c.tc.loc main_arg3) (ix2 0 k) := by
  blk_point [iblk, V, blocks t]

/-- A row of the gradient that comes past the norm. -/
theorem read4 (c : Dev nD) (t : Fin cfg0.N) (r : Fin 512) (k : Fin 1024) :
    (show FVec Ideal S512x1024 .f32 from iblk m c 4 t) (ix2 r k) = m (c.tc.loc main_arg4) (ix2 (row t r) k) := by
  blk_point [iblk, V, blocks t, row]

/-- A row of the gated branch. -/
theorem read5 (c : Dev nD) (t : Fin cfg0.N) (r : Fin 512) (k : Fin 1024) :
    (show FVec Ideal S512x1024 .bf16 from iblk m c 5 t) (ix2 r k) = m (c.tc.loc main_arg5) (ix2 (row t r) k) := by
  blk_point [iblk, V, blocks t, row]

/-- The gate. -/
theorem read6 (c : Dev nD) (t : Fin cfg0.N) (k : Fin 1024) :
    (show FVec Ideal S1x1024 .f32 from iblk m c 6 t) (ix2 0 k) = m (c.tc.loc main_arg6) (ix2 0 k) := by
  blk_point [iblk, V, blocks t]

/-- What a grid point computes for the norm's input is the reference's gradient at its rows. -/
theorem input_block (c : Dev nD) (t : Fin cfg0.N) (r : Fin 512) (j : Fin 1024) :
    k0_pay9 (F := Ideal) (iblk m c 0 t) (iblk m c 1 t) (iblk m c 2 t) (iblk m c 3 t) (iblk m c 4 t) (ix2 r j)
      = val_main_v43 (F := Ideal) (m (c.tc.loc main_arg0)) (m (c.tc.loc main_arg1)) (m (c.tc.loc main_arg2)) (m (c.tc.loc main_arg3)) (m (c.tc.loc main_arg4)) (ix2 (row t r) j) :=
  input_grad _ _ _ _ _ r (row t r) j (read0 m c t r) (read1 m c t) (read2 m c t r) (read3 m c t) (read4 m c t r)

/-! ## The two gradients with one row per token -/

/-- The first result, the gradient of the norm's input, is the reference's. -/
theorem result0 (c : Dev nD) : (dats m 0 c).arrAt 7 (cfgs 0).N = val_main_v43 (F := Ideal) (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp
  rw [after0_7]
  have e : ∀ (r : Fin 512) (j : Fin 1024), ((View.whole main_v0_0).slice (win0_7.rect t)).emb (ix2 r j) = ix2 (row t r) j := fun r j => by blk_ext [blocks t, row]
  idx_vars y
  by_cases h : t.val % 8 = 0
  · rw [outsAt0_A m c t h]
    frame_out
    rw [e]
    exact input_block m c t y0 y1
  · rw [outsAt0_B m c t h]
    frame_out
    rw [e]
    exact input_block m c t y0 y1

/-- The second result, the gradient of the gated branch, is the reference's. -/
theorem result1 (c : Dev nD) : (dats m 0 c).arrAt 8 (cfgs 0).N = val_main_v52 (F := Ideal) (m (c.tc.loc main_arg0)) (m (c.tc.loc main_arg1)) (m (c.tc.loc main_arg2)) (m (c.tc.loc main_arg3)) (m (c.tc.loc main_arg4)) (m (c.tc.loc main_arg6)) := by
  refine (dats m 0 c).arrAt_eq_of_covers 8 _ (by decide +kernel) fun t hf y => ?_
  blk_simp
  rw [after0_8]
  have e : ∀ (r : Fin 512) (j : Fin 1024), ((View.whole main_v0_1).slice (win0_8.rect t)).emb (ix2 r j) = ix2 (row t r) j := fun r j => by blk_ext [blocks t, row]
  have p : ∀ (r : Fin 512) (j : Fin 1024), k0_pay1 (F := Ideal) (iblk m c 6 t) (k0_pay9 (F := Ideal) (iblk m c 0 t) (iblk m c 1 t) (iblk m c 2 t) (iblk m c 3 t) (iblk m c 4 t)) (ix2 r j)
      = val_main_v52 (F := Ideal) (m (c.tc.loc main_arg0)) (m (c.tc.loc main_arg1)) (m (c.tc.loc main_arg2)) (m (c.tc.loc main_arg3)) (m (c.tc.loc main_arg4)) (m (c.tc.loc main_arg6)) (ix2 (row t r) j) := fun r j => by
    refine Eq.trans ?_ (Eq.trans (congrArg₂ (fun a b : EReal => a * b) (input_block m c t r j) (read6 m c t j)) ?_)
    · pointwise [k0_pay1]
    · pointwise [val_main_v52, val_main_v48, val_main_v47]
      exact mul_comm _ _
  idx_vars y
  by_cases h : t.val % 8 = 0
  · rw [outsAt0_A m c t h]
    frame_out
    rw [e]
    exact p y0 y1
  · rw [outsAt0_B m c t h]
    frame_out
    rw [e]
    exact p y0 y1

/-! ## The sums over the tokens -/

/-- What token `s` adds to entry `j` of row `k` of the third result: row 0 gathers the gradient of the norm's scale, row 1 of its shift, row 2 of the residual's gate. -/
def share (X0 : (⟨S4096x2048, .bf16⟩ : BufTy).Contents (Elt Ideal)) (X1 : (⟨S1024x2048, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (X5 : (⟨S4096x1024, .bf16⟩ : BufTy).Contents (Elt Ideal)) (k : Fin 8) (j : Fin 1024) (s : Fin 4096) : EReal :=
  if k.val = 2 then val_main_v43 (F := Ideal) X0 X1 X2 X3 X4 (ix2 s j) * X5 (ix2 s j)
  else if k.val = 1 then val_main_v21 (F := Ideal) X0 X1 (ix2 s j)
  else if k.val = 0 then val_main_v24 (F := Ideal) X0 X1 X2 (ix2 s j) else 0

/-- The third result of the reference is the sum of the tokens' shares. -/
theorem ref_sums (X0 : (⟨S4096x2048, .bf16⟩ : BufTy).Contents (Elt Ideal)) (X1 : (⟨S1024x2048, .bf16⟩ : BufTy).Contents (Elt Ideal)) (X2 : (⟨S4096x1024, .f32⟩ : BufTy).Contents (Elt Ideal)) (X3 : (⟨S1x1024, .f32⟩ : BufTy).Contents (Elt Ideal)) (X4 : (⟨S4096x1024, .f32⟩ : BufTy).Contents (Elt Ideal)) (X5 : (⟨S4096x1024, .bf16⟩ : BufTy).Contents (Elt Ideal)) (k : Fin 8) (j : Fin 1024) :
    val_main_v54 (F := Ideal) X0 X1 X2 X3 X4 X5 (ix2 k j) = ∑ s : Fin 4096, share X0 X1 X2 X3 X4 X5 k j s := by
  have hk := k.isLt
  unfold share
  pointwise [val_main_v54, val_main_v53, val_main_v51, val_main_v50, val_main_v49, val_main_v44, val_main_v26, val_main_v25, val_main_v23, val_main_v22, val_main_cst_4, val_main_cst_5, val_main_cst_9, val_main_cst_10]
  rcases (by omega : k.val = 0 ∨ k.val = 1 ∨ k.val = 2 ∨ 2 < k.val) with h | h | h | h
  · simp [h]
  · simp [h]
  · simp [h]
  · simp [show ¬ k.val < 1 by omega, show ¬ k.val - 1 < 1 by omega, show ¬ k.val - 1 - 1 < 1 by omega, show k.val ≠ 0 by omega, show k.val ≠ 1 by omega, show k.val ≠ 2 by omega]

/-- A block's product with `w_inᵀ` is the reference's product at its rows. -/
theorem product_block (c : Dev nD) (t : Fin cfg0.N) (r : Fin 512) (j : Fin 1024) :
    k0_pay6 (F := Ideal) (iblk m c 0 t) (iblk m c 1 t) (ix2 r j) = val_main_v21 (F := Ideal) (m (c.tc.loc main_arg0)) (m (c.tc.loc main_arg1)) (ix2 (row t r) j) := by
  rw [pay6_apply, ref_product]
  exact Finset.sum_congr rfl fun k _ => congrArg₂ (fun a b : EReal => a * b) (read0 m c t r k) (read1 m c t j k)

/-- A normalised row of a block is the reference's. -/
theorem normed_block (c : Dev nD) (t : Fin cfg0.N) (r : Fin 512) (j : Fin 1024) :
    k0_pay8 (F := Ideal) (iblk m c 2 t) (ix2 r j) = val_main_v13 (F := Ideal) (m (c.tc.loc main_arg2)) (ix2 (row t r) j) := by
  rw [pay8_apply, pay7_apply]
  have h := read2 m c t r
  dsimp only at h
  simp only [h]
  pointwise [val_main_v13, val_main_v12, val_main_v8, val_main_v7, val_main_v6, val_main_v5, val_main_v4, val_main_v3, val_main_v2, val_main_v1, val_main_cst_2, val_main_cst_1, val_main_cst_0]

/-- What a block adds to the gradient of the norm's scale. -/
theorem scale_block (c : Dev nD) (t : Fin cfg0.N) (j : Fin 1024) :
    k0_pay10 (F := Ideal) (iblk m c 0 t) (iblk m c 1 t) (iblk m c 2 t) (ix2 0 j) = ∑ r : Fin 512, val_main_v24 (F := Ideal) (m (c.tc.loc main_arg0)) (m (c.tc.loc main_arg1)) (m (c.tc.loc main_arg2)) (ix2 (row t r) j) := by
  refine Eq.trans ?_ (Finset.sum_congr rfl fun r _ => (mul_comm (G := EReal) _ _).trans (congrArg₂ (fun a b : EReal => a * b) (normed_block m c t r j) (product_block m c t r j)))
  pointwise [k0_pay10]

/-- What a block adds to the gradient of the norm's shift. -/
theorem shift_block (c : Dev nD) (t : Fin cfg0.N) (j : Fin 1024) :
    k0_pay11 (F := Ideal) (iblk m c 0 t) (iblk m c 1 t) (ix1 j) = ∑ r : Fin 512, val_main_v21 (F := Ideal) (m (c.tc.loc main_arg0)) (m (c.tc.loc main_arg1)) (ix2 (row t r) j) := by
  refine Eq.trans ?_ (Finset.sum_congr rfl fun r _ => product_block m c t r j)
  pointwise [k0_pay11]

/-- What a block adds to the gradient of the residual's gate, on top of what is there. -/
theorem gate_block (c : Dev nD) (t : Fin cfg0.N) (w : Vec Ideal S1x1024 .f32) (j : Fin 1024) :
    k0_pay5 (F := Ideal) (iblk m c 5 t) (k0_pay9 (F := Ideal) (iblk m c 0 t) (iblk m c 1 t) (iblk m c 2 t) (iblk m c 3 t) (iblk m c 4 t)) w (ix2 0 j)
      = w (ix2 0 j) + ∑ r : Fin 512, val_main_v43 (F := Ideal) (m (c.tc.loc main_arg0)) (m (c.tc.loc main_arg1)) (m (c.tc.loc main_arg2)) (m (c.tc.loc main_arg3)) (m (c.tc.loc main_arg4)) (ix2 (row t r) j) * (show EReal from m (c.tc.loc main_arg5) (ix2 (row t r) j)) := by
  refine Eq.trans ?_ (congrArg (fun a : EReal => (show EReal from w (ix2 0 j)) + a) (Finset.sum_congr rfl fun r _ => congrArg₂ (fun a b : EReal => a * b) (input_block m c t r j) (read5 m c t r j)))
  pointwise [k0_pay5]

/-- One grid point's step: three of the eight rows gain the sums over its rows, the others stay. -/
theorem step_rows (c : Dev nD) (t : Fin cfg0.N) (w2 w1 w0 : Vec Ideal S1x1024 .f32) (z b : EReal) (k : Fin 8) (j : Fin 1024)
    (h2 : k.val = 2 → w2 (ix2 0 j) = b) (h1 : k.val = 1 → w1 (ix2 0 j) = b) (h0 : k.val = 0 → w0 (ix2 0 j) = b) (hz : z = b) :
    (if k.val = 2 then k0_pay5 (F := Ideal) (iblk m c 5 t) (k0_pay9 (F := Ideal) (iblk m c 0 t) (iblk m c 1 t) (iblk m c 2 t) (iblk m c 3 t) (iblk m c 4 t)) w2 (ix2 0 j)
      else if k.val = 1 then k0_pay4 (F := Ideal) (k0_pay11 (F := Ideal) (iblk m c 0 t) (iblk m c 1 t)) w1 (ix2 0 j)
      else if k.val = 0 then k0_pay3 (F := Ideal) (k0_pay10 (F := Ideal) (iblk m c 0 t) (iblk m c 1 t) (iblk m c 2 t)) w0 (ix2 0 j) else z)
      = b + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  unfold share
  by_cases e2 : k.val = 2
  · simp only [e2, ↓reduceIte]
    rw [gate_block, h2 e2]
  by_cases e1 : k.val = 1
  · simp only [e1, ↓reduceIte, OfNat.one_ne_ofNat]
    refine Eq.trans ?_ (congrArg₂ (fun a b : EReal => a + b) (h1 e1) (shift_block m c t j))
    pointwise [k0_pay4]
  by_cases e0 : k.val = 0
  · simp only [e0, ↓reduceIte, OfNat.zero_ne_ofNat, zero_ne_one]
    refine Eq.trans ?_ (congrArg₂ (fun a b : EReal => a + b) (h0 e0) (scale_block m c t j))
    pointwise [k0_pay3]
  · simp only [e2, e1, e0, ↓reduceIte, Finset.sum_const_zero, add_zero]
    exact hz

/-- The first grid point starts from zeros. -/
theorem step_first (c : Dev nD) (t : Fin cfg0.N) (h : t.val % 8 = 0) (k : Fin 8) (j : Fin 1024) :
    (outsAt0 m c t.val t.isLt).2.2 (ix2 k j) = (0 : EReal) + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  rw [outsAt0_A m c t h]
  frame_out
  simp (discharger := decide) only [↓View.readCov_skip, ↓View.readCov_fill]
  rw [RowStores.canon_row, RowStores.canon_row, RowStores.canon_row]
  have z : ∀ i, k0_pay2 (F := Ideal) i = (0 : EReal) := fun i => by pointwise [k0_pay2]
  refine step_rows m c t _ _ _ _ _ k j (fun e => (RowStores.ld_row 2 _ _ k j e).trans (z _)) (fun e => (RowStores.ld_row 1 _ _ k j e).trans (z _))
    (fun e => (RowStores.ld_row 0 _ _ k j e).trans (z _)) ?_
  canon_tiles x h
  exact z _

/-- Each later grid point adds to what the one before it left. -/
theorem step_next (c : Dev nD) (t : Fin cfg0.N) (h : ¬ t.val % 8 = 0) (k : Fin 8) (j : Fin 1024) :
    (outsAt0 m c t.val t.isLt).2.2 (ix2 k j)
      = (outsAt0 m c (t.val - 1) (Nat.lt_of_le_of_lt (Nat.sub_le _ _) t.isLt)).2.2 (ix2 k j) + ∑ r : Fin 512, share (m (c.tc.loc main_arg0)) (m (c.tc.loc main_arg1)) (m (c.tc.loc main_arg2)) (m (c.tc.loc main_arg3)) (m (c.tc.loc main_arg4)) (m (c.tc.loc main_arg5)) k j (row t r) := by
  rw [outsAt0_B m c t h]
  frame_out
  rw [RowStores.read_row, RowStores.read_row, RowStores.read_row]
  refine step_rows m c t _ _ _ _ _ k j (fun e => RowStores.ld_row 2 _ _ k j e) (fun e => RowStores.ld_row 1 _ _ k j e)
    (fun e => RowStores.ld_row 0 _ _ k j e) ?_
  rw [View.writes_nil, Memref.IsWhole.read_unread]

/-- The third result, the sums over the tokens, is the reference's. -/
theorem result2 (c : Dev nD) : (dats m 0 c).arrAt 9 (cfgs 0).N = val_main_v54 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 9 t0_7 (by decide +kernel) _ fun y => ?_
  blk_simp
  idx_vars y
  rw [ref_sums, after0_9]
  refine (Pipeline.eq_sum_fin_of_reset_step_apply_last (M := EReal) (fun n h => (outsAt0 m c n h).2.2) 8 (fun _ => 0)
    (fun p i => ∑ r : Fin 512, share (m (c.tc.loc main_arg0)) (m (c.tc.loc main_arg1)) (m (c.tc.loc main_arg2)) (m (c.tc.loc main_arg3)) (m (c.tc.loc main_arg4)) (m (c.tc.loc main_arg5)) (i 0) (i 1) (row p r))
    (fun t h i => by rw [eq_ix2 i]; exact step_first m c t h (i 0) (i 1)) (fun t h i => by rw [eq_ix2 i]; exact step_next m c t h (i 0) (i 1))
    (le_of_eq N_0) t0_7 rfl (ix2 y0 y1)).trans ?_
  rw [zero_add]
  refine Fin.sum_mul_add_congr fun p r h => ?_
  rfl

/-- The call's three results over the extended reals are the reference's, whatever the arguments. -/
theorem algebraic : Cert.algebraic_Kernel33Ideal_Reference33Ideal := by
  pair_intro
  · run_from Cert.Kernel33Ideal.Gen.run_main m g
  · run_from Cert.Reference33Ideal.Value.run m' g'
    all_goals obtain ⟨a0, a1, a2, a3, a4, a5, a6⟩ := hagree c
    · rw [val_main_v43_eq, a0, a1, a2, a3, a4]
      exact (result0 m c).symm
    · rw [val_main_v52_eq, a0, a1, a2, a3, a4, a6]
      exact (result1 m c).symm
    · rw [val_main_v54_eq, a0, a1, a2, a3, a4, a5]
      exact (result2 m c).symm

end Cert.GatingInGrad

end
-- ==== Proof.GatedUnit.lean ====
/- The state space mixer's gated linear unit: in each row block the kernel computes `t = yg · w + bias` and `yg · σ(t)`, the reference's two results. -/
module

public import proofs.«01_k».proof.Proof.Gen.Kernel34Ideal.Value
public import proofs.«01_k».proof.Proof.Gen.Reference34Ideal.Read
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.GatedUnit

open Cert.Kernel34Ideal Cert.Kernel34Ideal.Gen
open Cert.Reference34Ideal.Read

variable (m : (ℓ : Loc nD τ sig) → Buf (Elt Ideal) ℓ)

/-- Which block of each array grid point `t` works on. -/
theorem blocks : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The row of the arrays that row `r` of block `t` is. -/
def row (t : Fin cfg0.N) (r : Fin 1024) : Fin 4096 := ⟨t.val * 1024 + r.val, by have := lt_of_lt_of_eq t.isLt N_0; have := r.isLt; omega⟩

/-- A row of the product's left operand. -/
theorem read0 (c : Dev nD) (t : Fin cfg0.N) (r : Fin 1024) (k : Fin 1024) :
    (show FVec Ideal S1024x1024 .f32 from iblk m c 0 t) (ix2 r k) = (m (c.tc.loc main_arg0)) (ix2 (row t r) k) := by
  blk_point [iblk, V, blocks t, row]

/-- The weight, whole. -/
theorem read1 (c : Dev nD) (t : Fin cfg0.N) (k : Fin 1024) (j : Fin 1024) :
    (show FVec Ideal S1024x1024 .bf16 from iblk m c 1 t) (ix2 k j) = (m (c.tc.loc main_arg1)) (ix2 k j) := by
  blk_point [iblk, V, blocks t]

/-- A row of what is gated. -/
theorem read2 (c : Dev nD) (t : Fin cfg0.N) (r : Fin 1024) (k : Fin 1024) :
    (show FVec Ideal S1024x1024 .f32 from iblk m c 2 t) (ix2 r k) = (m (c.tc.loc main_arg0)) (ix2 (row t r) k) := by
  blk_point [iblk, V, blocks t, row]

/-- The bias. -/
theorem read3 (c : Dev nD) (t : Fin cfg0.N) (j : Fin 1024) :
    (show FVec Ideal S1x1024 .f32 from iblk m c 3 t) (ix2 0 j) = (m (c.tc.loc main_arg2)) (ix2 0 j) := by
  blk_point [iblk, V, blocks t]

/-- The gate's argument in a row block is the reference's at its rows. -/
theorem gate_block (c : Dev nD) (t : Fin cfg0.N) (r : Fin 1024) (j : Fin 1024) :
    k0_pay1 (F := Ideal) (iblk m c 0 t) (iblk m c 1 t) (iblk m c 3 t) (ix2 r j) = val_main_v3 (F := Ideal) (m (c.tc.loc main_arg0)) (m (c.tc.loc main_arg1)) (m (c.tc.loc main_arg2)) (ix2 (row t r) j) := by
  have h0 := read0 m c t r
  have h1 := fun k => read1 m c t k j
  have h3 := read3 m c t j
  dsimp only at h0 h1 h3
  pointwise [k0_pay1, val_main_v0, val_main_v1, val_main_v2, val_main_v3]
  simp only [h0, h1, h3]

/-- The gated values: the kernel's `0 - t` is the reference's `-t`. -/
theorem gated_block (c : Dev nD) (t : Fin cfg0.N) (r : Fin 1024) (j : Fin 1024) :
    k0_pay2 (F := Ideal) (iblk m c 0 t) (iblk m c 1 t) (iblk m c 2 t) (iblk m c 3 t) (ix2 r j) = val_main_v11 (F := Ideal) (m (c.tc.loc main_arg0)) (m (c.tc.loc main_arg1)) (m (c.tc.loc main_arg2)) (ix2 (row t r) j) := by
  have h2 := read2 m c t r j
  have h := gate_block m c t r j
  dsimp only at h2
  pointwise [k0_pay2, val_main_v4, val_main_v5, val_main_v6, val_main_v7, val_main_v8, val_main_v9, val_main_v10, val_main_v11, val_main_cst, val_main_cst_0]
  simp only [h, h2, zero_sub]

/-- The first result, the gated values. -/
theorem result0 (c : Dev nD) : (dats m 0 c).arrAt 4 (cfgs 0).N = val_main_v11 (F := Ideal) (m (c.tc.loc main_arg0)) (m (c.tc.loc main_arg1)) (m (c.tc.loc main_arg2)) := by
  refine (dats m 0 c).arrAt_eq_of_covers 4 _ (by decide +kernel) fun t hf y => ?_
  blk_simp
  rw [after0_4]
  have e : ∀ (r : Fin 1024) (j : Fin 1024), ((View.whole main_v0_0).slice (win0_4.rect t)).emb (ix2 r j) = ix2 (row t r) j := fun r j => by blk_ext [blocks t, row]
  frame_out
  idx_vars y
  rw [e]
  exact gated_block m c t y0 y1

/-- The second result, the gate's argument. -/
theorem result1 (c : Dev nD) : (dats m 0 c).arrAt 5 (cfgs 0).N = val_main_v3 (F := Ideal) (m (c.tc.loc main_arg0)) (m (c.tc.loc main_arg1)) (m (c.tc.loc main_arg2)) := by
  refine (dats m 0 c).arrAt_eq_of_covers 5 _ (by decide +kernel) fun t hf y => ?_
  blk_simp
  rw [after0_5]
  have e : ∀ (r : Fin 1024) (j : Fin 1024), ((View.whole main_v0_1).slice (win0_5.rect t)).emb (ix2 r j) = ix2 (row t r) j := fun r j => by blk_ext [blocks t, row]
  frame_out
  idx_vars y
  rw [e]
  exact gate_block m c t y0 y1

/-- The kernel and the reference end with equal results over the extended reals. -/
theorem algebraic : Cert.algebraic_Kernel34Ideal_Reference34Ideal := by
  pair_intro
  · run_from Cert.Kernel34Ideal.Gen.run_main m g
    all_goals
      simp only [List.flatten_cons, List.flatten_nil, List.append_nil]
      after_reads_simp
      try rfl
  · run_from Cert.Reference34Ideal.Value.run m' g'
    · exact (result0 m c).symm
    · exact (result1 m c).symm

end Cert.GatedUnit

end
-- ==== Proof.GatedUnitGrad.lean ====
/- The gradient of the state space mixer's output product and of its gated linear unit: with `g = dy · w_outᵀ` the kernel computes `g · yg · σ(t) · (1 - σ(t))`, `g · σ(t)` and the sum of the first over the rows, block by block. These are the reference's three results. -/
module

public import proofs.«01_k».proof.Proof.Gen.Kernel35Ideal.Value
public import proofs.«01_k».proof.Proof.Gen.Reference35Ideal.Read
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Defs
public import proofs.«01_k».proof.Proof.RowStores

@[expose] public section

set_option maxRecDepth 16384

noncomputable section

open Idealize.ShloMosaic Idealize.ShloMosaic.TcCoe Idealize.SL.Sem
open Idealize.ShloMosaic.Pipeline (Dat)
open scoped BigOperators

namespace Cert.GatedUnitGrad

open Cert.Kernel35Ideal Cert.Kernel35Ideal.Gen
open Cert.Reference35Ideal.Read

variable (m : (ℓ : Loc nD τ sig) → Buf (Elt Ideal) ℓ)

/-- Which block of each array grid point `t` works on. -/
theorem blocks : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- The row of the arrays that row `r` of block `t` is. -/
def row (t : Fin cfg0.N) (r : Fin 512) : Fin 4096 := ⟨t.val * 512 + r.val, by have := lt_of_lt_of_eq t.isLt N_0; have := r.isLt; omega⟩

/-- A row of the incoming gradient. -/
theorem read0 (c : Dev nD) (t : Fin cfg0.N) (r : Fin 512) (k : Fin 1024) :
    (show FVec Ideal S512x1024 .bf16 from iblk m c 0 t) (ix2 r k) = (m (c.tc.loc main_arg0)) (ix2 (row t r) k) := by
  blk_point [iblk, V, blocks t, row]

/-- The output weight, whole. -/
theorem read1 (c : Dev nD) (t : Fin cfg0.N) (k : Fin 1024) (j : Fin 1024) :
    (show FVec Ideal S1024x1024 .bf16 from iblk m c 1 t) (ix2 k j) = (m (c.tc.loc main_arg1)) (ix2 k j) := by
  blk_point [iblk, V, blocks t]

/-- A row of what was gated. -/
theorem read2 (c : Dev nD) (t : Fin cfg0.N) (r : Fin 512) (k : Fin 1024) :
    (show FVec Ideal S512x1024 .f32 from iblk m c 2 t) (ix2 r k) = (m (c.tc.loc main_arg2)) (ix2 (row t r) k) := by
  blk_point [iblk, V, blocks t, row]

/-- A row of the gate's argument. -/
theorem read3 (c : Dev nD) (t : Fin cfg0.N) (r : Fin 512) (k : Fin 1024) :
    (show FVec Ideal S512x1024 .f32 from iblk m c 3 t) (ix2 r k) = (m (c.tc.loc main_arg3)) (ix2 (row t r) k) := by
  blk_point [iblk, V, blocks t, row]

/-- The product in a row block is the reference's at its rows. -/
theorem product_block (c : Dev nD) (t : Fin cfg0.N) (r : Fin 512) (j : Fin 1024) :
    k0_pay1 (F := Ideal) (iblk m c 0 t) (iblk m c 1 t) (ix2 r j) = val_main_v16 (F := Ideal) (m (c.tc.loc main_arg0)) (m (c.tc.loc main_arg1)) (ix2 (row t r) j) := by
  have h0 := read0 m c t r
  have h1 := fun k => read1 m c t j k
  dsimp only at h0 h1
  pointwise [k0_pay1, val_main_v13, val_main_v15, val_main_v16]
  simp only [h0, h1]

/-- The gate: the kernel's `0 - t` is the reference's negation of `t` plus a zero bias. -/
theorem gate_block (c : Dev nD) (t : Fin cfg0.N) (r : Fin 512) (j : Fin 1024) :
    k0_pay2 (F := Ideal) (iblk m c 3 t) (ix2 r j) = val_main_v8 (F := Ideal) (m (c.tc.loc main_arg3)) (ix2 (row t r) j) := by
  have h3 := read3 m c t r j
  dsimp only at h3
  pointwise [k0_pay2, val_main_v0, val_main_v1, val_main_v2, val_main_v3, val_main_v4, val_main_v5, val_main_v6, val_main_v7, val_main_v8, val_main_cst, val_main_cst_0, val_main_cst_1]
  simp only [h3, zero_sub, add_zero]

/-- The gradient of the gate's argument. -/
theorem dt_block (c : Dev nD) (t : Fin cfg0.N) (r : Fin 512) (j : Fin 1024) :
    k0_pay3 (F := Ideal) (iblk m c 0 t) (iblk m c 1 t) (iblk m c 2 t) (iblk m c 3 t) (ix2 r j) = val_main_v19 (F := Ideal) (m (c.tc.loc main_arg0)) (m (c.tc.loc main_arg1)) (m (c.tc.loc main_arg2)) (m (c.tc.loc main_arg3)) (ix2 (row t r) j) := by
  have h2 := read2 m c t r j
  have hp := product_block m c t r j
  have hg := gate_block m c t r j
  dsimp only at h2
  pointwise [k0_pay3, val_main_v9, val_main_v10, val_main_v11, val_main_v17, val_main_v19, val_main_cst_2]
  simp only [h2, hp, hg]
  rw [mul_comm (G := EReal) ((m (c.tc.loc main_arg2)) (ix2 (row t r) j))]
  exact mul_assoc (G := EReal) _ _ _

/-- The gradient of what was gated. -/
theorem dyg_block (c : Dev nD) (t : Fin cfg0.N) (r : Fin 512) (j : Fin 1024) :
    k0_pay4 (F := Ideal) (iblk m c 0 t) (iblk m c 1 t) (iblk m c 3 t) (ix2 r j) = val_main_v18 (F := Ideal) (m (c.tc.loc main_arg0)) (m (c.tc.loc main_arg1)) (m (c.tc.loc main_arg3)) (ix2 (row t r) j) := by
  have hp := product_block m c t r j
  have hg := gate_block m c t r j
  pointwise [k0_pay4, val_main_v18]
  simp only [hp, hg]

/-- What a block adds to the sum over the rows. -/
theorem sum_block (c : Dev nD) (t : Fin cfg0.N) (w : Vec Ideal S1x1024 .f32) (j : Fin 1024) :
    k0_pay7 (F := Ideal) (iblk m c 0 t) (iblk m c 1 t) (iblk m c 2 t) (iblk m c 3 t) w (ix2 0 j) = w (ix2 0 j) + ∑ r : Fin 512, val_main_v19 (F := Ideal) (m (c.tc.loc main_arg0)) (m (c.tc.loc main_arg1)) (m (c.tc.loc main_arg2)) (m (c.tc.loc main_arg3)) (ix2 (row t r) j) := by
  have h := fun r => dt_block m c t r j
  pointwise [k0_pay7]
  simp only [h]

/-! ## The results -/

/-- The first result, the gradient of the gate's argument. -/
theorem result0 (c : Dev nD) : (dats m 0 c).arrAt 4 (cfgs 0).N = val_main_v22 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  have e : ∀ (r : Fin 512) (j : Fin 1024), ((View.whole main_v0_0).slice (win0_4.rect t)).emb (ix2 r j) = ix2 (row t r) j := fun r j => by blk_ext [blocks t, row]
  idx_vars y
  by_cases h0 : t.val % 8 = 0
  · rw [outsAt0_A m c t h0]
    frame_out
    rw [e]
    refine Eq.trans (b := k0_pay3 (F := Ideal) (iblk m c 0 t) (iblk m c 1 t) (iblk m c 2 t) (iblk m c 3 t) (ix2 y0 y1)) (by pointwise [k0_pay5]) ((dt_block m c t y0 y1).trans ?_)
    pointwise [val_main_v22]
  · rw [outsAt0_B m c t h0]
    frame_out
    rw [e]
    refine Eq.trans (b := k0_pay3 (F := Ideal) (iblk m c 0 t) (iblk m c 1 t) (iblk m c 2 t) (iblk m c 3 t) (ix2 y0 y1)) (by pointwise [k0_pay5]) ((dt_block m c t y0 y1).trans ?_)
    pointwise [val_main_v22]

/-- The second result, the gradient of what was gated. -/
theorem result1 (c : Dev nD) : (dats m 0 c).arrAt 5 (cfgs 0).N = val_main_v18 (F := Ideal) (m (c.tc.loc main_arg0)) (m (c.tc.loc main_arg1)) (m (c.tc.loc main_arg3)) := by
  refine (dats m 0 c).arrAt_eq_of_covers 5 _ (by decide +kernel) fun t hf y => ?_
  blk_simp
  rw [after0_5]
  have e : ∀ (r : Fin 512) (j : Fin 1024), ((View.whole main_v0_1).slice (win0_5.rect t)).emb (ix2 r j) = ix2 (row t r) j := fun r j => by blk_ext [blocks t, row]
  idx_vars y
  by_cases h0 : t.val % 8 = 0
  · rw [outsAt0_A m c t h0]
    frame_out
    rw [e]
    exact dyg_block m c t y0 y1
  · rw [outsAt0_B m c t h0]
    frame_out
    rw [e]
    exact dyg_block m c t y0 y1

/-- What token `s` adds to entry `(k, j)` of the sums: only the first row is used. -/
def share (X0 : (⟨S4096x1024, .bf16⟩ : BufTy).Contents (Elt Ideal)) (X1 : (⟨S1024x1024, .bf16⟩ : BufTy).Contents (Elt Ideal)) (X2 X3 : (⟨S4096x1024, .f32⟩ : BufTy).Contents (Elt Ideal)) (k : Fin 8) (j : Fin 1024) (s : Fin 4096) : EReal :=
  if k.val = 0 then val_main_v19 (F := Ideal) X0 X1 X2 X3 (ix2 s j) else 0

/-- The third result of the reference is the sum of the tokens' shares. -/
theorem ref_sums (X0 : (⟨S4096x1024, .bf16⟩ : BufTy).Contents (Elt Ideal)) (X1 : (⟨S1024x1024, .bf16⟩ : BufTy).Contents (Elt Ideal)) (X2 X3 : (⟨S4096x1024, .f32⟩ : BufTy).Contents (Elt Ideal)) (k : Fin 8) (j : Fin 1024) :
    val_main_v24 (F := Ideal) X0 X1 X2 X3 (ix2 k j) = ∑ s : Fin 4096, share X0 X1 X2 X3 k j s := by
  have hk := k.isLt
  unfold share
  pointwise [val_main_v24, val_main_v23, val_main_v21, val_main_v20, val_main_cst_3, val_main_cst_4]
  rcases (by omega : k.val = 0 ∨ 0 < k.val) with h | h
  · simp [h]
  · simp [show ¬ k.val < 1 by omega, show k.val ≠ 0 by omega]

/-- What a block does to the sums. -/
theorem step_rows (c : Dev nD) (t : Fin cfg0.N) (w0 : Vec Ideal S1x1024 .f32) (z b : EReal) (k : Fin 8) (j : Fin 1024)
    (h0 : k.val = 0 → w0 (ix2 0 j) = b) (hz : z = b) :
    (if k.val = 0 then k0_pay7 (F := Ideal) (iblk m c 0 t) (iblk m c 1 t) (iblk m c 2 t) (iblk m c 3 t) w0 (ix2 0 j) else z)
      = b + ∑ r : Fin 512, share (m (c.tc.loc main_arg0)) (m (c.tc.loc main_arg1)) (m (c.tc.loc main_arg2)) (m (c.tc.loc main_arg3)) k j (row t r) := by
  unfold share
  by_cases e0 : k.val = 0
  · simp only [e0, ↓reduceIte]
    rw [sum_block, h0 e0]
  · simp only [e0, ↓reduceIte, Finset.sum_const_zero, add_zero]
    exact hz

/-- The first grid point starts from zeros. -/
theorem step_first (c : Dev nD) (t : Fin cfg0.N) (h : t.val % 8 = 0) (k : Fin 8) (j : Fin 1024) :
    (outsAt0 m c t.val t.isLt).2.2 (ix2 k j) = (0 : EReal) + ∑ r : Fin 512, share (m (c.tc.loc main_arg0)) (m (c.tc.loc main_arg1)) (m (c.tc.loc main_arg2)) (m (c.tc.loc main_arg3)) k j (row t r) := by
  rw [outsAt0_A m c t h]
  frame_out
  simp (discharger := decide) only [↓View.readCov_skip, ↓View.readCov_fill]
  rw [RowStores.canon_row]
  have z : ∀ i, k0_pay6 (F := Ideal) i = (0 : EReal) := fun i => by pointwise [k0_pay6]
  refine step_rows m c t _ _ _ k j (fun e => (RowStores.ld_row 0 _ _ k j e).trans (z _)) ?_
  canon_tiles x h
  exact z _

/-- Each later grid point adds to what the one before it left. -/
theorem step_next (c : Dev nD) (t : Fin cfg0.N) (h : ¬ t.val % 8 = 0) (k : Fin 8) (j : Fin 1024) :
    (outsAt0 m c t.val t.isLt).2.2 (ix2 k j)
      = (outsAt0 m c (t.val - 1) (Nat.lt_of_le_of_lt (Nat.sub_le _ _) t.isLt)).2.2 (ix2 k j) + ∑ r : Fin 512, share (m (c.tc.loc main_arg0)) (m (c.tc.loc main_arg1)) (m (c.tc.loc main_arg2)) (m (c.tc.loc main_arg3)) k j (row t r) := by
  rw [outsAt0_B m c t h]
  frame_out
  rw [RowStores.read_row]
  refine step_rows m c t _ _ _ k j (fun e => RowStores.ld_row 0 _ _ k j e) ?_
  rw [View.writes_nil, Memref.IsWhole.read_unread]

/-- The third result, the sum over the tokens in its first row, is the reference's. -/
theorem result2 (c : Dev nD) : (dats m 0 c).arrAt 6 (cfgs 0).N = val_main_v24 (F := Ideal) (m (c.tc.loc main_arg0)) (m (c.tc.loc main_arg1)) (m (c.tc.loc main_arg2)) (m (c.tc.loc main_arg3)) := by
  refine (dats m 0 c).arrAt_eq_of_after_last 6 t0_7 (by decide +kernel) _ fun y => ?_
  blk_simp
  idx_vars y
  rw [ref_sums, after0_6]
  refine (Pipeline.eq_sum_fin_of_reset_step_apply_last (M := EReal) (fun n h => (outsAt0 m c n h).2.2) 8 (fun _ => 0)
    (fun p i => ∑ r : Fin 512, share (m (c.tc.loc main_arg0)) (m (c.tc.loc main_arg1)) (m (c.tc.loc main_arg2)) (m (c.tc.loc main_arg3)) (i 0) (i 1) (row p r))
    (fun t h i => by rw [eq_ix2 i]; exact step_first m c t h (i 0) (i 1)) (fun t h i => by rw [eq_ix2 i]; exact step_next m c t h (i 0) (i 1))
    (le_of_eq N_0) t0_7 rfl (ix2 y0 y1)).trans ?_
  rw [zero_add]
  refine Fin.sum_mul_add_congr fun p r h => ?_
  rfl

/-- The call's three results over the extended reals are the reference's, whatever the arguments. -/
theorem algebraic : Cert.algebraic_Kernel35Ideal_Reference35Ideal := by
  pair_intro
  · run_from Cert.Kernel35Ideal.Gen.run_main m g
    all_goals
      simp only [List.flatten_cons, List.flatten_nil, List.append_nil]
      after_reads_simp
      try rfl
  · run_from Cert.Reference35Ideal.Value.run m' g'
    all_goals obtain ⟨a0, a1, a2, a3⟩ := hagree c
    · exact (result0 m c).symm
    · exact (result1 m c).symm
    · rw [val_main_v24_eq, a3]
      exact (result2 m c).symm

end Cert.GatedUnitGrad

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import proofs.«01_k».proof.Proof.Gen.Kernel25.Frame
public import proofs.«01_k».proof.Proof.Gen.Kernel25Ideal.Frame
public import proofs.«01_k».proof.Proof.Gen.Kernel26.Frame
public import proofs.«01_k».proof.Proof.Gen.Kernel26Ideal.Frame
public import proofs.«01_k».proof.Proof.Gen.Kernel27.Frame
public import proofs.«01_k».proof.Proof.Gen.Kernel27Ideal.Frame
public import proofs.«01_k».proof.Proof.Gen.Kernel28.Frame
public import proofs.«01_k».proof.Proof.Gen.Kernel28Ideal.Frame
public import proofs.«01_k».proof.Proof.Gen.Kernel29.Frame
public import proofs.«01_k».proof.Proof.Gen.Kernel29Ideal.Frame
public import proofs.«01_k».proof.Proof.Gen.Kernel30.Frame
public import proofs.«01_k».proof.Proof.Gen.Kernel30Ideal.Frame
public import proofs.«01_k».proof.Proof.Gen.Kernel31.Frame
public import proofs.«01_k».proof.Proof.Gen.Kernel31Ideal.Frame
public import proofs.«01_k».proof.Proof.Gen.Kernel32.Frame
public import proofs.«01_k».proof.Proof.Gen.Kernel32Ideal.Frame
public import proofs.«01_k».proof.Proof.Gen.Kernel33.Frame
public import proofs.«01_k».proof.Proof.Gen.Kernel33Ideal.Frame
public import proofs.«01_k».proof.Proof.Gen.Kernel34.Frame
public import proofs.«01_k».proof.Proof.Gen.Kernel34Ideal.Frame
public import proofs.«01_k».proof.Proof.Gen.Kernel35.Frame
public import proofs.«01_k».proof.Proof.Gen.Kernel35Ideal.Frame
public import proofs.«01_k».proof.Proof.Gen.ReferenceIdeal.Run
public import proofs.«01_k».proof.Proof.ConvGrad
public import proofs.«01_k».proof.Proof.Gen.Reference2Ideal.Run
public import proofs.«01_k».proof.Proof.HiddenGrad
public import proofs.«01_k».proof.Proof.Gen.Reference3Ideal.Run
public import proofs.«01_k».proof.Proof.SecondWeightGrad
public import proofs.«01_k».proof.Proof.Gen.Reference4Ideal.Run
public import proofs.«01_k».proof.Proof.FirstWeightGrad
public import proofs.«01_k».proof.Proof.Gen.Reference5Ideal.Run
public import proofs.«01_k».proof.Proof.NormGrad
public import proofs.«01_k».proof.Proof.Gen.Reference6Ideal.Run
public import proofs.«01_k».proof.Proof.Gen.Reference7Ideal.Run
public import proofs.«01_k».proof.Proof.HiddenProduct
public import proofs.«01_k».proof.Proof.Gen.Reference8Ideal.Run
public import proofs.«01_k».proof.Proof.DownProduct
public import proofs.«01_k».proof.Proof.Gen.Reference9Ideal.Run
public import proofs.«01_k».proof.Proof.ConvInProduct
public import proofs.«01_k».proof.Proof.Gen.Reference10Ideal.Run
public import proofs.«01_k».proof.Proof.MixOutProduct
public import proofs.«01_k».proof.Proof.Gen.Reference11Ideal.Run
public import proofs.«01_k».proof.Proof.ConvOutGrad
public import proofs.«01_k».proof.Proof.Gen.Reference12Ideal.Run
public import proofs.«01_k».proof.Proof.OutWeightGrad
public import proofs.«01_k».proof.Proof.Gen.Reference13Ideal.Run
public import proofs.«01_k».proof.Proof.ConvInWeightGrad
public import proofs.«01_k».proof.Proof.Gen.Reference14Ideal.Run
public import proofs.«01_k».proof.Proof.InputGrad
public import proofs.«01_k».proof.Proof.Gen.Reference15Ideal.Run
public import proofs.«01_k».proof.Proof.FirstWeightStep
public import proofs.«01_k».proof.Proof.Gen.Reference16Ideal.Run
public import proofs.«01_k».proof.Proof.SecondWeightStep
public import proofs.«01_k».proof.Proof.Gen.Reference17Ideal.Run
public import proofs.«01_k».proof.Proof.ConvInStep
public import proofs.«01_k».proof.Proof.Gen.Reference18Ideal.Run
public import proofs.«01_k».proof.Proof.GatingInStep
public import proofs.«01_k».proof.Proof.Gen.Reference19Ideal.Run
public import proofs.«01_k».proof.Proof.ModulationStep
public import proofs.«01_k».proof.Proof.Gen.Reference20Ideal.Run
public import proofs.«01_k».proof.Proof.RowWeightsStep
public import proofs.«01_k».proof.Proof.Gen.Reference21Ideal.Run
public import proofs.«01_k».proof.Proof.SmallStep
public import proofs.«01_k».proof.Proof.Gen.Reference22Ideal.Run
public import proofs.«01_k».proof.Proof.ChannelStep
public import proofs.«01_k».proof.Proof.Gen.Reference23Ideal.Run
public import proofs.«01_k».proof.Proof.StateSpaceStep
public import proofs.«01_k».proof.Proof.Gen.Reference24Ideal.Run
public import proofs.«01_k».proof.Proof.GatingStep
public import proofs.«01_k».proof.Proof.Gen.Reference25Ideal.Run
public import proofs.«01_k».proof.Proof.LossHead
public import proofs.«01_k».proof.Proof.Gen.Reference26Ideal.Run
public import proofs.«01_k».proof.Proof.GatingInProduct
public import proofs.«01_k».proof.Proof.Gen.Reference27Ideal.Run
public import proofs.«01_k».proof.Proof.StateInProduct
public import proofs.«01_k».proof.Proof.Gen.Reference28Ideal.Run
public import proofs.«01_k».proof.Proof.GateWeightGrad
public import proofs.«01_k».proof.Proof.Gen.Reference29Ideal.Run
public import proofs.«01_k».proof.Proof.GatingInWeightGrad
public import proofs.«01_k».proof.Proof.Gen.Reference30Ideal.Run
public import proofs.«01_k».proof.Proof.GatingOutGrad
public import proofs.«01_k».proof.Proof.Gen.Reference31Ideal.Run
public import proofs.«01_k».proof.Proof.ConvInGrad
public import proofs.«01_k».proof.Proof.Gen.Reference32Ideal.Run
public import proofs.«01_k».proof.Proof.StateInGrad
public import proofs.«01_k».proof.Proof.Gen.Reference33Ideal.Run
public import proofs.«01_k».proof.Proof.GatingInGrad
public import proofs.«01_k».proof.Proof.Gen.Reference34Ideal.Run
public import proofs.«01_k».proof.Proof.GatedUnit
public import proofs.«01_k».proof.Proof.Gen.Reference35Ideal.Run
public import proofs.«01_k».proof.Proof.GatedUnitGrad
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference `ReferenceIdeal` runs to its end, leaves its arguments as they were and every counter at zero. -/
theorem reference_frame : Cert.quiescent_ReferenceIdeal := by
  intro m g _
  exact (θ_run Cert.ReferenceIdeal.defs _ _).mono (fun r h => ⟨fun c => (h c).2.2, sem_eq_zero_of_no_sems (by decide) r.2⟩) (Cert.ReferenceIdeal.Value.run m g)

/-- The reference `Reference2Ideal` runs to its end, leaves its arguments as they were and every counter at zero. -/
theorem reference2_frame : Cert.quiescent_Reference2Ideal := by
  intro m g _
  exact (θ_run Cert.Reference2Ideal.defs _ _).mono (fun r h => ⟨fun c => (h c).2, sem_eq_zero_of_no_sems (by decide) r.2⟩) (Cert.Reference2Ideal.Value.run m g)

/-- The reference `Reference3Ideal` runs to its end, leaves its arguments as they were and every counter at zero. -/
theorem reference3_frame : Cert.quiescent_Reference3Ideal := by
  intro m g _
  exact (θ_run Cert.Reference3Ideal.defs _ _).mono (fun r h => ⟨fun c => (h c).2, sem_eq_zero_of_no_sems (by decide) r.2⟩) (Cert.Reference3Ideal.Value.run m g)

/-- The reference `Reference4Ideal` runs to its end, leaves its arguments as they were and every counter at zero. -/
theorem reference4_frame : Cert.quiescent_Reference4Ideal := by
  intro m g _
  exact (θ_run Cert.Reference4Ideal.defs _ _).mono (fun r h => ⟨fun c => (h c).2, sem_eq_zero_of_no_sems (by decide) r.2⟩) (Cert.Reference4Ideal.Value.run m g)

/-- The reference `Reference5Ideal` runs to its end, leaves its arguments as they were and every counter at zero. -/
theorem reference5_frame : Cert.quiescent_Reference5Ideal := by
  intro m g _
  exact (θ_run Cert.Reference5Ideal.defs _ _).mono (fun r h => ⟨fun c => (h c).2.2.2, sem_eq_zero_of_no_sems (by decide) r.2⟩) (Cert.Reference5Ideal.Value.run m g)

/-- The reference `Reference6Ideal` runs to its end, leaves its arguments as they were and every counter at zero. -/
theorem reference6_frame : Cert.quiescent_Reference6Ideal := by
  intro m g _
  exact (θ_run Cert.Reference6Ideal.defs _ _).mono (fun r h => ⟨fun c => (h c).2.2.2.2, sem_eq_zero_of_no_sems (by decide) r.2⟩) (Cert.Reference6Ideal.Value.run m g)

/-- The reference `Reference7Ideal` runs to its end, leaves its arguments as they were and every counter at zero. -/
theorem reference7_frame : Cert.quiescent_Reference7Ideal := by
  intro m g _
  exact (θ_run Cert.Reference7Ideal.defs _ _).mono (fun r h => ⟨fun c => (h c).2, sem_eq_zero_of_no_sems (by decide) r.2⟩) (Cert.Reference7Ideal.Value.run m g)

/-- The reference `Reference8Ideal` runs to its end, leaves its arguments as they were and every counter at zero. -/
theorem reference8_frame : Cert.quiescent_Reference8Ideal := by
  intro m g _
  exact (θ_run Cert.Reference8Ideal.defs _ _).mono (fun r h => ⟨fun c => (h c).2.2.2, sem_eq_zero_of_no_sems (by decide) r.2⟩) (Cert.Reference8Ideal.Value.run m g)

/-- The reference `Reference9Ideal` runs to its end, leaves its arguments as they were and every counter at zero. -/
theorem reference9_frame : Cert.quiescent_Reference9Ideal := by
  intro m g _
  exact (θ_run Cert.Reference9Ideal.defs _ _).mono (fun r h => ⟨fun c => (h c).2, sem_eq_zero_of_no_sems (by decide) r.2⟩) (Cert.Reference9Ideal.Value.run m g)

/-- The reference `Reference10Ideal` runs to its end, leaves its arguments as they were and every counter at zero. -/
theorem reference10_frame : Cert.quiescent_Reference10Ideal := by
  intro m g _
  exact (θ_run Cert.Reference10Ideal.defs _ _).mono (fun r h => ⟨fun c => (h c).2.2.2, sem_eq_zero_of_no_sems (by decide) r.2⟩) (Cert.Reference10Ideal.Value.run m g)

/-- The reference `Reference11Ideal` runs to its end, leaves its arguments as they were and every counter at zero. -/
theorem reference11_frame : Cert.quiescent_Reference11Ideal := by
  intro m g _
  exact (θ_run Cert.Reference11Ideal.defs _ _).mono (fun r h => ⟨fun c => (h c).2, sem_eq_zero_of_no_sems (by decide) r.2⟩) (Cert.Reference11Ideal.Value.run m g)

/-- The reference `Reference12Ideal` runs to its end, leaves its arguments as they were and every counter at zero. -/
theorem reference12_frame : Cert.quiescent_Reference12Ideal := by
  intro m g _
  exact (θ_run Cert.Reference12Ideal.defs _ _).mono (fun r h => ⟨fun c => (h c).2, sem_eq_zero_of_no_sems (by decide) r.2⟩) (Cert.Reference12Ideal.Value.run m g)

/-- The reference `Reference13Ideal` runs to its end, leaves its arguments as they were and every counter at zero. -/
theorem reference13_frame : Cert.quiescent_Reference13Ideal := by
  intro m g _
  exact (θ_run Cert.Reference13Ideal.defs _ _).mono (fun r h => ⟨fun c => (h c).2, sem_eq_zero_of_no_sems (by decide) r.2⟩) (Cert.Reference13Ideal.Value.run m g)

/-- The reference `Reference14Ideal` runs to its end, leaves its arguments as they were and every counter at zero. -/
theorem reference14_frame : Cert.quiescent_Reference14Ideal := by
  intro m g _
  exact (θ_run Cert.Reference14Ideal.defs _ _).mono (fun r h => ⟨fun c => (h c).2.2, sem_eq_zero_of_no_sems (by decide) r.2⟩) (Cert.Reference14Ideal.Value.run m g)

/-- The reference `Reference15Ideal` runs to its end, leaves its arguments as they were and every counter at zero. -/
theorem reference15_frame : Cert.quiescent_Reference15Ideal := by
  intro m g _
  exact (θ_run Cert.Reference15Ideal.defs _ _).mono (fun r h => ⟨fun c => (h c).2.2.2.2, sem_eq_zero_of_no_sems (by decide) r.2⟩) (Cert.Reference15Ideal.Value.run m g)

/-- The reference `Reference16Ideal` runs to its end, leaves its arguments as they were and every counter at zero. -/
theorem reference16_frame : Cert.quiescent_Reference16Ideal := by
  intro m g _
  exact (θ_run Cert.Reference16Ideal.defs _ _).mono (fun r h => ⟨fun c => (h c).2.2.2.2, sem_eq_zero_of_no_sems (by decide) r.2⟩) (Cert.Reference16Ideal.Value.run m g)

/-- The reference `Reference17Ideal` runs to its end, leaves its arguments as they were and every counter at zero. -/
theorem reference17_frame : Cert.quiescent_Reference17Ideal := by
  intro m g _
  exact (θ_run Cert.Reference17Ideal.defs _ _).mono (fun r h => ⟨fun c => (h c).2.2.2.2, sem_eq_zero_of_no_sems (by decide) r.2⟩) (Cert.Reference17Ideal.Value.run m g)

/-- The reference `Reference18Ideal` runs to its end, leaves its arguments as they were and every counter at zero. -/
theorem reference18_frame : Cert.quiescent_Reference18Ideal := by
  intro m g _
  exact (θ_run Cert.Reference18Ideal.defs _ _).mono (fun r h => ⟨fun c => (h c).2.2.2.2, sem_eq_zero_of_no_sems (by decide) r.2⟩) (Cert.Reference18Ideal.Value.run m g)

/-- The reference `Reference19Ideal` runs to its end, leaves its arguments as they were and every counter at zero. -/
theorem reference19_frame : Cert.quiescent_Reference19Ideal := by
  intro m g _
  exact (θ_run Cert.Reference19Ideal.defs _ _).mono (fun r h => ⟨fun c => (h c).2.2.2.2, sem_eq_zero_of_no_sems (by decide) r.2⟩) (Cert.Reference19Ideal.Value.run m g)

/-- The reference `Reference20Ideal` runs to its end, leaves its arguments as they were and every counter at zero. -/
theorem reference20_frame : Cert.quiescent_Reference20Ideal := by
  intro m g _
  exact (θ_run Cert.Reference20Ideal.defs _ _).mono (fun r h => ⟨fun c => (h c).2.2.2.2, sem_eq_zero_of_no_sems (by decide) r.2⟩) (Cert.Reference20Ideal.Value.run m g)

/-- The reference `Reference21Ideal` runs to its end, leaves its arguments as they were and every counter at zero. -/
theorem reference21_frame : Cert.quiescent_Reference21Ideal := by
  intro m g _
  exact (θ_run Cert.Reference21Ideal.defs _ _).mono (fun r h => ⟨fun c => (h c).2.2.2.2, sem_eq_zero_of_no_sems (by decide) r.2⟩) (Cert.Reference21Ideal.Value.run m g)

/-- The reference `Reference22Ideal` runs to its end, leaves its arguments as they were and every counter at zero. -/
theorem reference22_frame : Cert.quiescent_Reference22Ideal := by
  intro m g _
  exact (θ_run Cert.Reference22Ideal.defs _ _).mono (fun r h => ⟨fun c => (h c).2.2.2.2, sem_eq_zero_of_no_sems (by decide) r.2⟩) (Cert.Reference22Ideal.Value.run m g)

/-- The reference `Reference23Ideal` runs to its end, leaves its arguments as they were and every counter at zero. -/
theorem reference23_frame : Cert.quiescent_Reference23Ideal := by
  intro m g _
  exact (θ_run Cert.Reference23Ideal.defs _ _).mono (fun r h => ⟨fun c => (h c).2.2.2.2, sem_eq_zero_of_no_sems (by decide) r.2⟩) (Cert.Reference23Ideal.Value.run m g)

/-- The reference `Reference24Ideal` runs to its end, leaves its arguments as they were and every counter at zero. -/
theorem reference24_frame : Cert.quiescent_Reference24Ideal := by
  intro m g _
  exact (θ_run Cert.Reference24Ideal.defs _ _).mono (fun r h => ⟨fun c => (h c).2.2.2.2, sem_eq_zero_of_no_sems (by decide) r.2⟩) (Cert.Reference24Ideal.Value.run m g)

/-- The reference `Reference25Ideal` runs to its end, leaves its arguments as they were and every counter at zero. -/
theorem reference25_frame : Cert.quiescent_Reference25Ideal := by
  intro m g _
  exact (θ_run Cert.Reference25Ideal.defs _ _).mono (fun r h => ⟨fun c => (h c).2.2.2, sem_eq_zero_of_no_sems (by decide) r.2⟩) (Cert.Reference25Ideal.Value.run m g)

/-- The reference `Reference26Ideal` runs to its end, leaves its arguments as they were and every counter at zero. -/
theorem reference26_frame : Cert.quiescent_Reference26Ideal := by
  intro m g _
  exact (θ_run Cert.Reference26Ideal.defs _ _).mono (fun r h => ⟨fun c => (h c).2, sem_eq_zero_of_no_sems (by decide) r.2⟩) (Cert.Reference26Ideal.Value.run m g)

/-- The reference `Reference27Ideal` runs to its end, leaves its arguments as they were and every counter at zero. -/
theorem reference27_frame : Cert.quiescent_Reference27Ideal := by
  intro m g _
  exact (θ_run Cert.Reference27Ideal.defs _ _).mono (fun r h => ⟨fun c => (h c).2, sem_eq_zero_of_no_sems (by decide) r.2⟩) (Cert.Reference27Ideal.Value.run m g)

/-- The reference `Reference28Ideal` runs to its end, leaves its arguments as they were and every counter at zero. -/
theorem reference28_frame : Cert.quiescent_Reference28Ideal := by
  intro m g _
  exact (θ_run Cert.Reference28Ideal.defs _ _).mono (fun r h => ⟨fun c => (h c).2, sem_eq_zero_of_no_sems (by decide) r.2⟩) (Cert.Reference28Ideal.Value.run m g)

/-- The reference `Reference29Ideal` runs to its end, leaves its arguments as they were and every counter at zero. -/
theorem reference29_frame : Cert.quiescent_Reference29Ideal := by
  intro m g _
  exact (θ_run Cert.Reference29Ideal.defs _ _).mono (fun r h => ⟨fun c => (h c).2, sem_eq_zero_of_no_sems (by decide) r.2⟩) (Cert.Reference29Ideal.Value.run m g)

/-- The reference `Reference30Ideal` runs to its end, leaves its arguments as they were and every counter at zero. -/
theorem reference30_frame : Cert.quiescent_Reference30Ideal := by
  intro m g _
  exact (θ_run Cert.Reference30Ideal.defs _ _).mono (fun r h => ⟨fun c => (h c).2, sem_eq_zero_of_no_sems (by decide) r.2⟩) (Cert.Reference30Ideal.Value.run m g)

/-- The reference `Reference31Ideal` runs to its end, leaves its arguments as they were and every counter at zero. -/
theorem reference31_frame : Cert.quiescent_Reference31Ideal := by
  intro m g _
  exact (θ_run Cert.Reference31Ideal.defs _ _).mono (fun r h => ⟨fun c => (h c).2.2.2, sem_eq_zero_of_no_sems (by decide) r.2⟩) (Cert.Reference31Ideal.Value.run m g)

/-- The reference `Reference32Ideal` runs to its end, leaves its arguments as they were and every counter at zero. -/
theorem reference32_frame : Cert.quiescent_Reference32Ideal := by
  intro m g _
  exact (θ_run Cert.Reference32Ideal.defs _ _).mono (fun r h => ⟨fun c => (h c).2.2.2, sem_eq_zero_of_no_sems (by decide) r.2⟩) (Cert.Reference32Ideal.Value.run m g)

/-- The reference `Reference33Ideal` runs to its end, leaves its arguments as they were and every counter at zero. -/
theorem reference33_frame : Cert.quiescent_Reference33Ideal := by
  intro m g _
  exact (θ_run Cert.Reference33Ideal.defs _ _).mono (fun r h => ⟨fun c => (h c).2.2.2, sem_eq_zero_of_no_sems (by decide) r.2⟩) (Cert.Reference33Ideal.Value.run m g)

/-- The reference `Reference34Ideal` runs to its end, leaves its arguments as they were and every counter at zero. -/
theorem reference34_frame : Cert.quiescent_Reference34Ideal := by
  intro m g _
  exact (θ_run Cert.Reference34Ideal.defs _ _).mono (fun r h => ⟨fun c => (h c).2.2, sem_eq_zero_of_no_sems (by decide) r.2⟩) (Cert.Reference34Ideal.Value.run m g)

/-- The reference `Reference35Ideal` runs to its end, leaves its arguments as they were and every counter at zero. -/
theorem reference35_frame : Cert.quiescent_Reference35Ideal := by
  intro m g _
  exact (θ_run Cert.Reference35Ideal.defs _ _).mono (fun r h => ⟨fun c => (h c).2.2.2, sem_eq_zero_of_no_sems (by decide) r.2⟩) (Cert.Reference35Ideal.Value.run m g)

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts,
  fun m ρ _ => Cert.Kernel.Gen.frame m ρ,
  fun m ρ _ => Cert.KernelIdeal.Gen.frame m ρ,
  reference_frame,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  fun m ρ _ => Cert.Kernel7.Gen.frame m ρ,
  fun m ρ _ => Cert.Kernel7Ideal.Gen.frame m ρ,
  reference7_frame,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  fun m ρ _ => Cert.Kernel11.Gen.frame m ρ,
  fun m ρ _ => Cert.Kernel11Ideal.Gen.frame m ρ,
  reference11_frame,
  fun m ρ _ => Cert.Kernel12.Gen.frame m ρ,
  fun m ρ _ => Cert.Kernel12Ideal.Gen.frame m ρ,
  reference12_frame,
  fun m ρ _ => Cert.Kernel13.Gen.frame m ρ,
  fun m ρ _ => Cert.Kernel13Ideal.Gen.frame m ρ,
  reference13_frame,
  fun m ρ _ => Cert.Kernel14.Gen.frame m ρ,
  fun m ρ _ => Cert.Kernel14Ideal.Gen.frame m ρ,
  reference14_frame,
  fun m ρ _ => Cert.Kernel15.Gen.frame m ρ,
  fun m ρ _ => Cert.Kernel15Ideal.Gen.frame m ρ,
  reference15_frame,
  fun m ρ _ => Cert.Kernel16.Gen.frame m ρ,
  fun m ρ _ => Cert.Kernel16Ideal.Gen.frame m ρ,
  reference16_frame,
  fun m ρ _ => Cert.Kernel17.Gen.frame m ρ,
  fun m ρ _ => Cert.Kernel17Ideal.Gen.frame m ρ,
  reference17_frame,
  fun m ρ _ => Cert.Kernel18.Gen.frame m ρ,
  fun m ρ _ => Cert.Kernel18Ideal.Gen.frame m ρ,
  reference18_frame,
  fun m ρ _ => Cert.Kernel19.Gen.frame m ρ,
  fun m ρ _ => Cert.Kernel19Ideal.Gen.frame m ρ,
  reference19_frame,
  fun m ρ _ => Cert.Kernel20.Gen.frame m ρ,
  fun m ρ _ => Cert.Kernel20Ideal.Gen.frame m ρ,
  reference20_frame,
  fun m ρ _ => Cert.Kernel21.Gen.frame m ρ,
  fun m ρ _ => Cert.Kernel21Ideal.Gen.frame m ρ,
  reference21_frame,
  fun m ρ _ => Cert.Kernel22.Gen.frame m ρ,
  fun m ρ _ => Cert.Kernel22Ideal.Gen.frame m ρ,
  reference22_frame,
  fun m ρ _ => Cert.Kernel23.Gen.frame m ρ,
  fun m ρ _ => Cert.Kernel23Ideal.Gen.frame m ρ,
  reference23_frame,
  fun m ρ _ => Cert.Kernel24.Gen.frame m ρ,
  fun m ρ _ => Cert.Kernel24Ideal.Gen.frame m ρ,
  reference24_frame,
  fun m ρ _ => Cert.Kernel25.Gen.frame m ρ,
  fun m ρ _ => Cert.Kernel25Ideal.Gen.frame m ρ,
  reference25_frame,
  fun m ρ _ => Cert.Kernel26.Gen.frame m ρ,
  fun m ρ _ => Cert.Kernel26Ideal.Gen.frame m ρ,
  reference26_frame,
  fun m ρ _ => Cert.Kernel27.Gen.frame m ρ,
  fun m ρ _ => Cert.Kernel27Ideal.Gen.frame m ρ,
  reference27_frame,
  fun m ρ _ => Cert.Kernel28.Gen.frame m ρ,
  fun m ρ _ => Cert.Kernel28Ideal.Gen.frame m ρ,
  reference28_frame,
  fun m ρ _ => Cert.Kernel29.Gen.frame m ρ,
  fun m ρ _ => Cert.Kernel29Ideal.Gen.frame m ρ,
  reference29_frame,
  fun m ρ _ => Cert.Kernel30.Gen.frame m ρ,
  fun m ρ _ => Cert.Kernel30Ideal.Gen.frame m ρ,
  reference30_frame,
  fun m ρ _ => Cert.Kernel31.Gen.frame m ρ,
  fun m ρ _ => Cert.Kernel31Ideal.Gen.frame m ρ,
  reference31_frame,
  fun m ρ _ => Cert.Kernel32.Gen.frame m ρ,
  fun m ρ _ => Cert.Kernel32Ideal.Gen.frame m ρ,
  reference32_frame,
  fun m ρ _ => Cert.Kernel33.Gen.frame m ρ,
  fun m ρ _ => Cert.Kernel33Ideal.Gen.frame m ρ,
  reference33_frame,
  fun m ρ _ => Cert.Kernel34.Gen.frame m ρ,
  fun m ρ _ => Cert.Kernel34Ideal.Gen.frame m ρ,
  reference34_frame,
  fun m ρ _ => Cert.Kernel35.Gen.frame m ρ,
  fun m ρ _ => Cert.Kernel35Ideal.Gen.frame m ρ,
  reference35_frame,
  trivial,
  Cert.ConvGrad.algebraic,
  trivial,
  Cert.HiddenGrad.algebraic,
  trivial,
  Cert.SecondWeightGrad.algebraic,
  trivial,
  Cert.FirstWeightGrad.algebraic,
  trivial,
  Cert.NormGrad.algebraic,
  trivial,
  trivial,
  Cert.HiddenProduct.algebraic,
  trivial,
  Cert.DownProduct.algebraic,
  trivial,
  Cert.ConvInProduct.algebraic,
  trivial,
  Cert.MixOutProduct.algebraic,
  trivial,
  Cert.ConvOutGrad.algebraic,
  trivial,
  Cert.OutWeightGrad.algebraic,
  trivial,
  Cert.ConvInWeightGrad.algebraic,
  trivial,
  Cert.InputGrad.algebraic,
  Cert.FirstWeightStep.preserves,
  Cert.FirstWeightStep.algebraic,
  Cert.SecondWeightStep.preserves,
  Cert.SecondWeightStep.algebraic,
  Cert.ConvInStep.preserves,
  Cert.ConvInStep.algebraic,
  Cert.GatingInStep.preserves,
  Cert.GatingInStep.algebraic,
  Cert.ModulationStep.preserves,
  Cert.ModulationStep.algebraic,
  Cert.RowWeightsStep.preserves,
  Cert.RowWeightsStep.algebraic,
  Cert.SmallStep.preserves,
  Cert.SmallStep.algebraic,
  Cert.ChannelStep.preserves,
  Cert.ChannelStep.algebraic,
  Cert.StateSpaceStep.preserves,
  Cert.StateSpaceStep.algebraic,
  Cert.GatingStep.preserves,
  Cert.GatingStep.algebraic,
  trivial,
  Cert.LossHead.algebraic,
  trivial,
  Cert.GatingInProduct.algebraic,
  trivial,
  Cert.StateInProduct.algebraic,
  trivial,
  Cert.GateWeightGrad.algebraic,
  trivial,
  Cert.GatingInWeightGrad.algebraic,
  trivial,
  Cert.GatingOutGrad.algebraic,
  trivial,
  Cert.ConvInGrad.algebraic,
  trivial,
  Cert.StateInGrad.algebraic,
  trivial,
  Cert.GatingInGrad.algebraic,
  trivial,
  Cert.GatedUnit.algebraic,
  trivial,
  Cert.GatedUnitGrad.algebraic⟩

end Cert.Proof

end
